-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31)
      ∧ r.2.mem ((c.tc : Thread Cert.Kernel7.nD Cert.Kernel7.τ).loc Cert.Kernel7.main_arg32) = m ((c.tc : Thread Cert.Kernel7.nD Cert.Kernel7.τ).loc Cert.Kernel7.main_arg32)
      ∧ r.2.mem ((c.tc : Thread Cert.Kernel7.nD Cert.Kernel7.τ).loc Cert.Kernel7.main_arg33) = m ((c.tc : Thread Cert.Kernel7.nD Cert.Kernel7.τ).loc Cert.Kernel7.main_arg33)
      ∧ r.2.mem ((c.tc : Thread Cert.Kernel7.nD Cert.Kernel7.τ).loc Cert.Kernel7.main_arg34) = m ((c.tc : Thread Cert.Kernel7.nD Cert.Kernel7.τ).loc Cert.Kernel7.main_arg34)
      ∧ r.2.mem ((c.tc : Thread Cert.Kernel7.nD Cert.Kernel7.τ).loc Cert.Kernel7.main_arg35) = m ((c.tc : Thread Cert.Kernel7.nD Cert.Kernel7.τ).loc Cert.Kernel7.main_arg35)
      ∧ r.2.mem ((c.tc : Thread Cert.Kernel7.nD Cert.Kernel7.τ).loc Cert.Kernel7.main_arg36) = m ((c.tc : Thread Cert.Kernel7.nD Cert.Kernel7.τ).loc Cert.Kernel7.main_arg36)
      ∧ r.2.mem ((c.tc : Thread Cert.Kernel7.nD Cert.Kernel7.τ).loc Cert.Kernel7.main_arg37) = m ((c.tc : Thread Cert.Kernel7.nD Cert.Kernel7.τ).loc Cert.Kernel7.main_arg37)
      ∧ r.2.mem ((c.tc : Thread Cert.Kernel7.nD Cert.Kernel7.τ).loc Cert.Kernel7.main_arg38) = m ((c.tc : Thread Cert.Kernel7.nD Cert.Kernel7.τ).loc Cert.Kernel7.main_arg38)
      ∧ r.2.mem ((c.tc : Thread Cert.Kernel7.nD Cert.Kernel7.τ).loc Cert.Kernel7.main_arg39) = m ((c.tc : Thread Cert.Kernel7.nD Cert.Kernel7.τ).loc Cert.Kernel7.main_arg39)
      ∧ r.2.mem ((c.tc : Thread Cert.Kernel7.nD Cert.Kernel7.τ).loc Cert.Kernel7.main_arg40) = m ((c.tc : Thread Cert.Kernel7.nD Cert.Kernel7.τ).loc Cert.Kernel7.main_arg40)
      ∧ r.2.mem ((c.tc : Thread Cert.Kernel7.nD Cert.Kernel7.τ).loc Cert.Kernel7.main_arg41) = m ((c.tc : Thread Cert.Kernel7.nD Cert.Kernel7.τ).loc Cert.Kernel7.main_arg41)
      ∧ r.2.mem ((c.tc : Thread Cert.Kernel7.nD Cert.Kernel7.τ).loc Cert.Kernel7.main_arg42) = m ((c.tc : Thread Cert.Kernel7.nD Cert.Kernel7.τ).loc Cert.Kernel7.main_arg42)
      ∧ r.2.mem ((c.tc : Thread Cert.Kernel7.nD Cert.Kernel7.τ).loc Cert.Kernel7.main_arg43) = m ((c.tc : Thread Cert.Kernel7.nD Cert.Kernel7.τ).loc Cert.Kernel7.main_arg43)
      ∧ r.2.mem ((c.tc : Thread Cert.Kernel7.nD Cert.Kernel7.τ).loc Cert.Kernel7.main_arg44) = m ((c.tc : Thread Cert.Kernel7.nD Cert.Kernel7.τ).loc Cert.Kernel7.main_arg44)
      ∧ r.2.mem ((c.tc : Thread Cert.Kernel7.nD Cert.Kernel7.τ).loc Cert.Kernel7.main_arg45) = m ((c.tc : Thread Cert.Kernel7.nD Cert.Kernel7.τ).loc Cert.Kernel7.main_arg45)
      ∧ r.2.mem ((c.tc : Thread Cert.Kernel7.nD Cert.Kernel7.τ).loc Cert.Kernel7.main_arg46) = m ((c.tc : Thread Cert.Kernel7.nD Cert.Kernel7.τ).loc Cert.Kernel7.main_arg46)
      ∧ r.2.mem ((c.tc : Thread Cert.Kernel7.nD Cert.Kernel7.τ).loc Cert.Kernel7.main_arg47) = m ((c.tc : Thread Cert.Kernel7.nD Cert.Kernel7.τ).loc Cert.Kernel7.main_arg47)
      ∧ r.2.mem ((c.tc : Thread Cert.Kernel7.nD Cert.Kernel7.τ).loc Cert.Kernel7.main_arg48) = m ((c.tc : Thread Cert.Kernel7.nD Cert.Kernel7.τ).loc Cert.Kernel7.main_arg48)
      ∧ r.2.mem ((c.tc : Thread Cert.Kernel7.nD Cert.Kernel7.τ).loc Cert.Kernel7.main_arg49) = m ((c.tc : Thread Cert.Kernel7.nD Cert.Kernel7.τ).loc Cert.Kernel7.main_arg49)
      ∧ r.2.mem ((c.tc : Thread Cert.Kernel7.nD Cert.Kernel7.τ).loc Cert.Kernel7.main_arg50) = m ((c.tc : Thread Cert.Kernel7.nD Cert.Kernel7.τ).loc Cert.Kernel7.main_arg50)
      ∧ r.2.mem ((c.tc : Thread Cert.Kernel7.nD Cert.Kernel7.τ).loc Cert.Kernel7.main_arg51) = m ((c.tc : Thread Cert.Kernel7.nD Cert.Kernel7.τ).loc Cert.Kernel7.main_arg51)
      ∧ r.2.mem ((c.tc : Thread Cert.Kernel7.nD Cert.Kernel7.τ).loc Cert.Kernel7.main_arg52) = m ((c.tc : Thread Cert.Kernel7.nD Cert.Kernel7.τ).loc Cert.Kernel7.main_arg52)
      ∧ r.2.mem ((c.tc : Thread Cert.Kernel7.nD Cert.Kernel7.τ).loc Cert.Kernel7.main_arg53) = m ((c.tc : Thread Cert.Kernel7.nD Cert.Kernel7.τ).loc Cert.Kernel7.main_arg53)
      ∧ r.2.mem ((c.tc : Thread Cert.Kernel7.nD Cert.Kernel7.τ).loc Cert.Kernel7.main_arg54) = m ((c.tc : Thread Cert.Kernel7.nD Cert.Kernel7.τ).loc Cert.Kernel7.main_arg54)
      ∧ r.2.mem ((c.tc : Thread Cert.Kernel7.nD Cert.Kernel7.τ).loc Cert.Kernel7.main_arg55) = m ((c.tc : Thread Cert.Kernel7.nD Cert.Kernel7.τ).loc Cert.Kernel7.main_arg55)
      ∧ r.2.mem ((c.tc : Thread Cert.Kernel7.nD Cert.Kernel7.τ).loc Cert.Kernel7.main_arg56) = m ((c.tc : Thread Cert.Kernel7.nD Cert.Kernel7.τ).loc Cert.Kernel7.main_arg56)
      ∧ r.2.mem ((c.tc : Thread Cert.Kernel7.nD Cert.Kernel7.τ).loc Cert.Kernel7.main_arg57) = m ((c.tc : Thread Cert.Kernel7.nD Cert.Kernel7.τ).loc Cert.Kernel7.main_arg57)
      ∧ r.2.mem ((c.tc : Thread Cert.Kernel7.nD Cert.Kernel7.τ).loc Cert.Kernel7.main_arg58) = m ((c.tc : Thread Cert.Kernel7.nD Cert.Kernel7.τ).loc Cert.Kernel7.main_arg58)
      ∧ r.2.mem ((c.tc : Thread Cert.Kernel7.nD Cert.Kernel7.τ).loc Cert.Kernel7.main_arg59) = m ((c.tc : Thread Cert.Kernel7.nD Cert.Kernel7.τ).loc Cert.Kernel7.main_arg59))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
      ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
      ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
      ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
      ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
      ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
      ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
      ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
      ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
      ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
      ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
      ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
      ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
      ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
      ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
      ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
      ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
      ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
      ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
      ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
      ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51)
      ∧ r.2.mem ((c.tc : Thread Cert.Kernel7Ideal.nD Cert.Kernel7Ideal.τ).loc Cert.Kernel7Ideal.main_arg52) = m ((c.tc : Thread Cert.Kernel7Ideal.nD Cert.Kernel7Ideal.τ).loc Cert.Kernel7Ideal.main_arg52)
      ∧ r.2.mem ((c.tc : Thread Cert.Kernel7Ideal.nD Cert.Kernel7Ideal.τ).loc Cert.Kernel7Ideal.main_arg53) = m ((c.tc : Thread Cert.Kernel7Ideal.nD Cert.Kernel7Ideal.τ).loc Cert.Kernel7Ideal.main_arg53)
      ∧ r.2.mem ((c.tc : Thread Cert.Kernel7Ideal.nD Cert.Kernel7Ideal.τ).loc Cert.Kernel7Ideal.main_arg54) = m ((c.tc : Thread Cert.Kernel7Ideal.nD Cert.Kernel7Ideal.τ).loc Cert.Kernel7Ideal.main_arg54)
      ∧ r.2.mem ((c.tc : Thread Cert.Kernel7Ideal.nD Cert.Kernel7Ideal.τ).loc Cert.Kernel7Ideal.main_arg55) = m ((c.tc : Thread Cert.Kernel7Ideal.nD Cert.Kernel7Ideal.τ).loc Cert.Kernel7Ideal.main_arg55)
      ∧ r.2.mem ((c.tc : Thread Cert.Kernel7Ideal.nD Cert.Kernel7Ideal.τ).loc Cert.Kernel7Ideal.main_arg56) = m ((c.tc : Thread Cert.Kernel7Ideal.nD Cert.Kernel7Ideal.τ).loc Cert.Kernel7Ideal.main_arg56)
      ∧ r.2.mem ((c.tc : Thread Cert.Kernel7Ideal.nD Cert.Kernel7Ideal.τ).loc Cert.Kernel7Ideal.main_arg57) = m ((c.tc : Thread Cert.Kernel7Ideal.nD Cert.Kernel7Ideal.τ).loc Cert.Kernel7Ideal.main_arg57)
      ∧ r.2.mem ((c.tc : Thread Cert.Kernel7Ideal.nD Cert.Kernel7Ideal.τ).loc Cert.Kernel7Ideal.main_arg58) = m ((c.tc : Thread Cert.Kernel7Ideal.nD Cert.Kernel7Ideal.τ).loc Cert.Kernel7Ideal.main_arg58)
      ∧ r.2.mem ((c.tc : Thread Cert.Kernel7Ideal.nD Cert.Kernel7Ideal.τ).loc Cert.Kernel7Ideal.main_arg59) = m ((c.tc : Thread Cert.Kernel7Ideal.nD Cert.Kernel7Ideal.τ).loc Cert.Kernel7Ideal.main_arg59))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31)
      ∧ r.2.mem ((c.tc : Thread Cert.Reference7Ideal.nD Cert.Reference7Ideal.τ).loc Cert.Reference7Ideal.main_arg32) = m ((c.tc : Thread Cert.Reference7Ideal.nD Cert.Reference7Ideal.τ).loc Cert.Reference7Ideal.main_arg32)
      ∧ r.2.mem ((c.tc : Thread Cert.Reference7Ideal.nD Cert.Reference7Ideal.τ).loc Cert.Reference7Ideal.main_arg33) = m ((c.tc : Thread Cert.Reference7Ideal.nD Cert.Reference7Ideal.τ).loc Cert.Reference7Ideal.main_arg33)
      ∧ r.2.mem ((c.tc : Thread Cert.Reference7Ideal.nD Cert.Reference7Ideal.τ).loc Cert.Reference7Ideal.main_arg34) = m ((c.tc : Thread Cert.Reference7Ideal.nD Cert.Reference7Ideal.τ).loc Cert.Reference7Ideal.main_arg34)
      ∧ r.2.mem ((c.tc : Thread Cert.Reference7Ideal.nD Cert.Reference7Ideal.τ).loc Cert.Reference7Ideal.main_arg35) = m ((c.tc : Thread Cert.Reference7Ideal.nD Cert.Reference7Ideal.τ).loc Cert.Reference7Ideal.main_arg35)
      ∧ r.2.mem ((c.tc : Thread Cert.Reference7Ideal.nD Cert.Reference7Ideal.τ).loc Cert.Reference7Ideal.main_arg36) = m ((c.tc : Thread Cert.Reference7Ideal.nD Cert.Reference7Ideal.τ).loc Cert.Reference7Ideal.main_arg36)
      ∧ r.2.mem ((c.tc : Thread Cert.Reference7Ideal.nD Cert.Reference7Ideal.τ).loc Cert.Reference7Ideal.main_arg37) = m ((c.tc : Thread Cert.Reference7Ideal.nD Cert.Reference7Ideal.τ).loc Cert.Reference7Ideal.main_arg37)
      ∧ r.2.mem ((c.tc : Thread Cert.Reference7Ideal.nD Cert.Reference7Ideal.τ).loc Cert.Reference7Ideal.main_arg38) = m ((c.tc : Thread Cert.Reference7Ideal.nD Cert.Reference7Ideal.τ).loc Cert.Reference7Ideal.main_arg38)
      ∧ r.2.mem ((c.tc : Thread Cert.Reference7Ideal.nD Cert.Reference7Ideal.τ).loc Cert.Reference7Ideal.main_arg39) = m ((c.tc : Thread Cert.Reference7Ideal.nD Cert.Reference7Ideal.τ).loc Cert.Reference7Ideal.main_arg39)
      ∧ r.2.mem ((c.tc : Thread Cert.Reference7Ideal.nD Cert.Reference7Ideal.τ).loc Cert.Reference7Ideal.main_arg40) = m ((c.tc : Thread Cert.Reference7Ideal.nD Cert.Reference7Ideal.τ).loc Cert.Reference7Ideal.main_arg40)
      ∧ r.2.mem ((c.tc : Thread Cert.Reference7Ideal.nD Cert.Reference7Ideal.τ).loc Cert.Reference7Ideal.main_arg41) = m ((c.tc : Thread Cert.Reference7Ideal.nD Cert.Reference7Ideal.τ).loc Cert.Reference7Ideal.main_arg41)
      ∧ r.2.mem ((c.tc : Thread Cert.Reference7Ideal.nD Cert.Reference7Ideal.τ).loc Cert.Reference7Ideal.main_arg42) = m ((c.tc : Thread Cert.Reference7Ideal.nD Cert.Reference7Ideal.τ).loc Cert.Reference7Ideal.main_arg42)
      ∧ r.2.mem ((c.tc : Thread Cert.Reference7Ideal.nD Cert.Reference7Ideal.τ).loc Cert.Reference7Ideal.main_arg43) = m ((c.tc : Thread Cert.Reference7Ideal.nD Cert.Reference7Ideal.τ).loc Cert.Reference7Ideal.main_arg43)
      ∧ r.2.mem ((c.tc : Thread Cert.Reference7Ideal.nD Cert.Reference7Ideal.τ).loc Cert.Reference7Ideal.main_arg44) = m ((c.tc : Thread Cert.Reference7Ideal.nD Cert.Reference7Ideal.τ).loc Cert.Reference7Ideal.main_arg44)
      ∧ r.2.mem ((c.tc : Thread Cert.Reference7Ideal.nD Cert.Reference7Ideal.τ).loc Cert.Reference7Ideal.main_arg45) = m ((c.tc : Thread Cert.Reference7Ideal.nD Cert.Reference7Ideal.τ).loc Cert.Reference7Ideal.main_arg45)
      ∧ r.2.mem ((c.tc : Thread Cert.Reference7Ideal.nD Cert.Reference7Ideal.τ).loc Cert.Reference7Ideal.main_arg46) = m ((c.tc : Thread Cert.Reference7Ideal.nD Cert.Reference7Ideal.τ).loc Cert.Reference7Ideal.main_arg46)
      ∧ r.2.mem ((c.tc : Thread Cert.Reference7Ideal.nD Cert.Reference7Ideal.τ).loc Cert.Reference7Ideal.main_arg47) = m ((c.tc : Thread Cert.Reference7Ideal.nD Cert.Reference7Ideal.τ).loc Cert.Reference7Ideal.main_arg47)
      ∧ r.2.mem ((c.tc : Thread Cert.Reference7Ideal.nD Cert.Reference7Ideal.τ).loc Cert.Reference7Ideal.main_arg48) = m ((c.tc : Thread Cert.Reference7Ideal.nD Cert.Reference7Ideal.τ).loc Cert.Reference7Ideal.main_arg48)
      ∧ r.2.mem ((c.tc : Thread Cert.Reference7Ideal.nD Cert.Reference7Ideal.τ).loc Cert.Reference7Ideal.main_arg49) = m ((c.tc : Thread Cert.Reference7Ideal.nD Cert.Reference7Ideal.τ).loc Cert.Reference7Ideal.main_arg49)
      ∧ r.2.mem ((c.tc : Thread Cert.Reference7Ideal.nD Cert.Reference7Ideal.τ).loc Cert.Reference7Ideal.main_arg50) = m ((c.tc : Thread Cert.Reference7Ideal.nD Cert.Reference7Ideal.τ).loc Cert.Reference7Ideal.main_arg50)
      ∧ r.2.mem ((c.tc : Thread Cert.Reference7Ideal.nD Cert.Reference7Ideal.τ).loc Cert.Reference7Ideal.main_arg51) = m ((c.tc : Thread Cert.Reference7Ideal.nD Cert.Reference7Ideal.τ).loc Cert.Reference7Ideal.main_arg51)
      ∧ r.2.mem ((c.tc : Thread Cert.Reference7Ideal.nD Cert.Reference7Ideal.τ).loc Cert.Reference7Ideal.main_arg52) = m ((c.tc : Thread Cert.Reference7Ideal.nD Cert.Reference7Ideal.τ).loc Cert.Reference7Ideal.main_arg52)
      ∧ r.2.mem ((c.tc : Thread Cert.Reference7Ideal.nD Cert.Reference7Ideal.τ).loc Cert.Reference7Ideal.main_arg53) = m ((c.tc : Thread Cert.Reference7Ideal.nD Cert.Reference7Ideal.τ).loc Cert.Reference7Ideal.main_arg53)
      ∧ r.2.mem ((c.tc : Thread Cert.Reference7Ideal.nD Cert.Reference7Ideal.τ).loc Cert.Reference7Ideal.main_arg54) = m ((c.tc : Thread Cert.Reference7Ideal.nD Cert.Reference7Ideal.τ).loc Cert.Reference7Ideal.main_arg54)
      ∧ r.2.mem ((c.tc : Thread Cert.Reference7Ideal.nD Cert.Reference7Ideal.τ).loc Cert.Reference7Ideal.main_arg55) = m ((c.tc : Thread Cert.Reference7Ideal.nD Cert.Reference7Ideal.τ).loc Cert.Reference7Ideal.main_arg55)
      ∧ r.2.mem ((c.tc : Thread Cert.Reference7Ideal.nD Cert.Reference7Ideal.τ).loc Cert.Reference7Ideal.main_arg56) = m ((c.tc : Thread Cert.Reference7Ideal.nD Cert.Reference7Ideal.τ).loc Cert.Reference7Ideal.main_arg56)
      ∧ r.2.mem ((c.tc : Thread Cert.Reference7Ideal.nD Cert.Reference7Ideal.τ).loc Cert.Reference7Ideal.main_arg57) = m ((c.tc : Thread Cert.Reference7Ideal.nD Cert.Reference7Ideal.τ).loc Cert.Reference7Ideal.main_arg57)
      ∧ r.2.mem ((c.tc : Thread Cert.Reference7Ideal.nD Cert.Reference7Ideal.τ).loc Cert.Reference7Ideal.main_arg58) = m ((c.tc : Thread Cert.Reference7Ideal.nD Cert.Reference7Ideal.τ).loc Cert.Reference7Ideal.main_arg58)
      ∧ r.2.mem ((c.tc : Thread Cert.Reference7Ideal.nD Cert.Reference7Ideal.τ).loc Cert.Reference7Ideal.main_arg59) = m ((c.tc : Thread Cert.Reference7Ideal.nD Cert.Reference7Ideal.τ).loc Cert.Reference7Ideal.main_arg59))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v108_0)) (v1 : (c : Dev Cert.KernelIdeal.nD) → Buf (Elt Ideal) ((c.tc : Thread Cert.KernelIdeal.nD Cert.KernelIdeal.τ).loc Cert.KernelIdeal.main_v118)) (v2 : (c : Dev Cert.KernelIdeal.nD) → Buf (Elt Ideal) ((c.tc : Thread Cert.KernelIdeal.nD Cert.KernelIdeal.τ).loc Cert.KernelIdeal.main_v120)) (v3 : (c : Dev Cert.KernelIdeal.nD) → Buf (Elt Ideal) ((c.tc : Thread Cert.KernelIdeal.nD Cert.KernelIdeal.τ).loc Cert.KernelIdeal.main_v122)) (v4 : (c : Dev Cert.KernelIdeal.nD) → Buf (Elt Ideal) ((c.tc : Thread Cert.KernelIdeal.nD Cert.KernelIdeal.τ).loc Cert.KernelIdeal.main_v124)) (v5 : (c : Dev Cert.KernelIdeal.nD) → Buf (Elt Ideal) ((c.tc : Thread Cert.KernelIdeal.nD Cert.KernelIdeal.τ).loc Cert.KernelIdeal.main_v126)) (v6 : (c : Dev Cert.KernelIdeal.nD) → Buf (Elt Ideal) ((c.tc : Thread Cert.KernelIdeal.nD Cert.KernelIdeal.τ).loc Cert.KernelIdeal.main_v116)) (v7 : (c : Dev Cert.KernelIdeal.nD) → Buf (Elt Ideal) ((c.tc : Thread Cert.KernelIdeal.nD Cert.KernelIdeal.τ).loc Cert.KernelIdeal.main_v131)) (v8 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108_0) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_v120) = v2 c
          ∧ r.2.mem ((c.tc : Thread Cert.KernelIdeal.nD Cert.KernelIdeal.τ).loc Cert.KernelIdeal.main_v122) = v3 c
          ∧ r.2.mem ((c.tc : Thread Cert.KernelIdeal.nD Cert.KernelIdeal.τ).loc Cert.KernelIdeal.main_v124) = v4 c
          ∧ r.2.mem ((c.tc : Thread Cert.KernelIdeal.nD Cert.KernelIdeal.τ).loc Cert.KernelIdeal.main_v126) = v5 c
          ∧ r.2.mem ((c.tc : Thread Cert.KernelIdeal.nD Cert.KernelIdeal.τ).loc Cert.KernelIdeal.main_v116) = v6 c
          ∧ r.2.mem ((c.tc : Thread Cert.KernelIdeal.nD Cert.KernelIdeal.τ).loc Cert.KernelIdeal.main_v131) = v7 c
          ∧ r.2.mem ((c.tc : Thread Cert.KernelIdeal.nD Cert.KernelIdeal.τ).loc Cert.KernelIdeal.main_v136) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v483) = v0 c
          ∧ r.2.mem ((c.tc : Thread Cert.ReferenceIdeal.nD Cert.ReferenceIdeal.τ).loc Cert.ReferenceIdeal.main_v423) = v1 c
          ∧ r.2.mem ((c.tc : Thread Cert.ReferenceIdeal.nD Cert.ReferenceIdeal.τ).loc Cert.ReferenceIdeal.main_v429) = v2 c
          ∧ r.2.mem ((c.tc : Thread Cert.ReferenceIdeal.nD Cert.ReferenceIdeal.τ).loc Cert.ReferenceIdeal.main_v452) = v3 c
          ∧ r.2.mem ((c.tc : Thread Cert.ReferenceIdeal.nD Cert.ReferenceIdeal.τ).loc Cert.ReferenceIdeal.main_v458) = v4 c
          ∧ r.2.mem ((c.tc : Thread Cert.ReferenceIdeal.nD Cert.ReferenceIdeal.τ).loc Cert.ReferenceIdeal.main_v465) = v5 c
          ∧ r.2.mem ((c.tc : Thread Cert.ReferenceIdeal.nD Cert.ReferenceIdeal.τ).loc Cert.ReferenceIdeal.main_v419) = v6 c
          ∧ r.2.mem ((c.tc : Thread Cert.ReferenceIdeal.nD Cert.ReferenceIdeal.τ).loc Cert.ReferenceIdeal.main_v396) = v7 c
          ∧ r.2.mem ((c.tc : Thread Cert.ReferenceIdeal.nD Cert.ReferenceIdeal.τ).loc Cert.ReferenceIdeal.main_v341) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v91)) (v1 : (c : Dev Cert.Kernel3Ideal.nD) → Buf (Elt Ideal) ((c.tc : Thread Cert.Kernel3Ideal.nD Cert.Kernel3Ideal.τ).loc Cert.Kernel3Ideal.main_v95)) (v2 : (c : Dev Cert.Kernel3Ideal.nD) → Buf (Elt Ideal) ((c.tc : Thread Cert.Kernel3Ideal.nD Cert.Kernel3Ideal.τ).loc Cert.Kernel3Ideal.main_v99)) (v3 : (c : Dev Cert.Kernel3Ideal.nD) → Buf (Elt Ideal) ((c.tc : Thread Cert.Kernel3Ideal.nD Cert.Kernel3Ideal.τ).loc Cert.Kernel3Ideal.main_v103)) (v4 : (c : Dev Cert.Kernel3Ideal.nD) → Buf (Elt Ideal) ((c.tc : Thread Cert.Kernel3Ideal.nD Cert.Kernel3Ideal.τ).loc Cert.Kernel3Ideal.main_v104)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v91) = v0 c
          ∧ r.2.mem ((c.tc : Thread Cert.Kernel3Ideal.nD Cert.Kernel3Ideal.τ).loc Cert.Kernel3Ideal.main_v95) = v1 c
          ∧ r.2.mem ((c.tc : Thread Cert.Kernel3Ideal.nD Cert.Kernel3Ideal.τ).loc Cert.Kernel3Ideal.main_v99) = v2 c
          ∧ r.2.mem ((c.tc : Thread Cert.Kernel3Ideal.nD Cert.Kernel3Ideal.τ).loc Cert.Kernel3Ideal.main_v103) = v3 c
          ∧ r.2.mem ((c.tc : Thread Cert.Kernel3Ideal.nD Cert.Kernel3Ideal.τ).loc Cert.Kernel3Ideal.main_v104) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v203) = v0 c
          ∧ r.2.mem ((c.tc : Thread Cert.Reference3Ideal.nD Cert.Reference3Ideal.τ).loc Cert.Reference3Ideal.main_v207) = v1 c
          ∧ r.2.mem ((c.tc : Thread Cert.Reference3Ideal.nD Cert.Reference3Ideal.τ).loc Cert.Reference3Ideal.main_v209) = v2 c
          ∧ r.2.mem ((c.tc : Thread Cert.Reference3Ideal.nD Cert.Reference3Ideal.τ).loc Cert.Reference3Ideal.main_v212) = v3 c
          ∧ r.2.mem ((c.tc : Thread Cert.Reference3Ideal.nD Cert.Reference3Ideal.τ).loc Cert.Reference3Ideal.main_v215) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v5) = v2 c
          ∧ r.2.mem ((c.tc : Thread Cert.Reference4Ideal.nD Cert.Reference4Ideal.τ).loc Cert.Reference4Ideal.main_v11) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_v11) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg0) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)
      ∧ m' ((c.tc : Thread Cert.Reference7Ideal.nD Cert.Reference7Ideal.τ).loc Cert.Reference7Ideal.main_arg32) = m ((c.tc : Thread Cert.Kernel7Ideal.nD Cert.Kernel7Ideal.τ).loc Cert.Kernel7Ideal.main_arg32)
      ∧ m' ((c.tc : Thread Cert.Reference7Ideal.nD Cert.Reference7Ideal.τ).loc Cert.Reference7Ideal.main_arg33) = m ((c.tc : Thread Cert.Kernel7Ideal.nD Cert.Kernel7Ideal.τ).loc Cert.Kernel7Ideal.main_arg33)
      ∧ m' ((c.tc : Thread Cert.Reference7Ideal.nD Cert.Reference7Ideal.τ).loc Cert.Reference7Ideal.main_arg34) = m ((c.tc : Thread Cert.Kernel7Ideal.nD Cert.Kernel7Ideal.τ).loc Cert.Kernel7Ideal.main_arg34)
      ∧ m' ((c.tc : Thread Cert.Reference7Ideal.nD Cert.Reference7Ideal.τ).loc Cert.Reference7Ideal.main_arg35) = m ((c.tc : Thread Cert.Kernel7Ideal.nD Cert.Kernel7Ideal.τ).loc Cert.Kernel7Ideal.main_arg35)
      ∧ m' ((c.tc : Thread Cert.Reference7Ideal.nD Cert.Reference7Ideal.τ).loc Cert.Reference7Ideal.main_arg36) = m ((c.tc : Thread Cert.Kernel7Ideal.nD Cert.Kernel7Ideal.τ).loc Cert.Kernel7Ideal.main_arg36)
      ∧ m' ((c.tc : Thread Cert.Reference7Ideal.nD Cert.Reference7Ideal.τ).loc Cert.Reference7Ideal.main_arg37) = m ((c.tc : Thread Cert.Kernel7Ideal.nD Cert.Kernel7Ideal.τ).loc Cert.Kernel7Ideal.main_arg37)
      ∧ m' ((c.tc : Thread Cert.Reference7Ideal.nD Cert.Reference7Ideal.τ).loc Cert.Reference7Ideal.main_arg38) = m ((c.tc : Thread Cert.Kernel7Ideal.nD Cert.Kernel7Ideal.τ).loc Cert.Kernel7Ideal.main_arg38)
      ∧ m' ((c.tc : Thread Cert.Reference7Ideal.nD Cert.Reference7Ideal.τ).loc Cert.Reference7Ideal.main_arg39) = m ((c.tc : Thread Cert.Kernel7Ideal.nD Cert.Kernel7Ideal.τ).loc Cert.Kernel7Ideal.main_arg39)
      ∧ m' ((c.tc : Thread Cert.Reference7Ideal.nD Cert.Reference7Ideal.τ).loc Cert.Reference7Ideal.main_arg40) = m ((c.tc : Thread Cert.Kernel7Ideal.nD Cert.Kernel7Ideal.τ).loc Cert.Kernel7Ideal.main_arg40)
      ∧ m' ((c.tc : Thread Cert.Reference7Ideal.nD Cert.Reference7Ideal.τ).loc Cert.Reference7Ideal.main_arg41) = m ((c.tc : Thread Cert.Kernel7Ideal.nD Cert.Kernel7Ideal.τ).loc Cert.Kernel7Ideal.main_arg41)
      ∧ m' ((c.tc : Thread Cert.Reference7Ideal.nD Cert.Reference7Ideal.τ).loc Cert.Reference7Ideal.main_arg42) = m ((c.tc : Thread Cert.Kernel7Ideal.nD Cert.Kernel7Ideal.τ).loc Cert.Kernel7Ideal.main_arg42)
      ∧ m' ((c.tc : Thread Cert.Reference7Ideal.nD Cert.Reference7Ideal.τ).loc Cert.Reference7Ideal.main_arg43) = m ((c.tc : Thread Cert.Kernel7Ideal.nD Cert.Kernel7Ideal.τ).loc Cert.Kernel7Ideal.main_arg43)
      ∧ m' ((c.tc : Thread Cert.Reference7Ideal.nD Cert.Reference7Ideal.τ).loc Cert.Reference7Ideal.main_arg44) = m ((c.tc : Thread Cert.Kernel7Ideal.nD Cert.Kernel7Ideal.τ).loc Cert.Kernel7Ideal.main_arg44)
      ∧ m' ((c.tc : Thread Cert.Reference7Ideal.nD Cert.Reference7Ideal.τ).loc Cert.Reference7Ideal.main_arg45) = m ((c.tc : Thread Cert.Kernel7Ideal.nD Cert.Kernel7Ideal.τ).loc Cert.Kernel7Ideal.main_arg45)
      ∧ m' ((c.tc : Thread Cert.Reference7Ideal.nD Cert.Reference7Ideal.τ).loc Cert.Reference7Ideal.main_arg46) = m ((c.tc : Thread Cert.Kernel7Ideal.nD Cert.Kernel7Ideal.τ).loc Cert.Kernel7Ideal.main_arg46)
      ∧ m' ((c.tc : Thread Cert.Reference7Ideal.nD Cert.Reference7Ideal.τ).loc Cert.Reference7Ideal.main_arg47) = m ((c.tc : Thread Cert.Kernel7Ideal.nD Cert.Kernel7Ideal.τ).loc Cert.Kernel7Ideal.main_arg47)
      ∧ m' ((c.tc : Thread Cert.Reference7Ideal.nD Cert.Reference7Ideal.τ).loc Cert.Reference7Ideal.main_arg48) = m ((c.tc : Thread Cert.Kernel7Ideal.nD Cert.Kernel7Ideal.τ).loc Cert.Kernel7Ideal.main_arg48)
      ∧ m' ((c.tc : Thread Cert.Reference7Ideal.nD Cert.Reference7Ideal.τ).loc Cert.Reference7Ideal.main_arg49) = m ((c.tc : Thread Cert.Kernel7Ideal.nD Cert.Kernel7Ideal.τ).loc Cert.Kernel7Ideal.main_arg49)
      ∧ m' ((c.tc : Thread Cert.Reference7Ideal.nD Cert.Reference7Ideal.τ).loc Cert.Reference7Ideal.main_arg50) = m ((c.tc : Thread Cert.Kernel7Ideal.nD Cert.Kernel7Ideal.τ).loc Cert.Kernel7Ideal.main_arg50)
      ∧ m' ((c.tc : Thread Cert.Reference7Ideal.nD Cert.Reference7Ideal.τ).loc Cert.Reference7Ideal.main_arg51) = m ((c.tc : Thread Cert.Kernel7Ideal.nD Cert.Kernel7Ideal.τ).loc Cert.Kernel7Ideal.main_arg51)
      ∧ m' ((c.tc : Thread Cert.Reference7Ideal.nD Cert.Reference7Ideal.τ).loc Cert.Reference7Ideal.main_arg52) = m ((c.tc : Thread Cert.Kernel7Ideal.nD Cert.Kernel7Ideal.τ).loc Cert.Kernel7Ideal.main_arg52)
      ∧ m' ((c.tc : Thread Cert.Reference7Ideal.nD Cert.Reference7Ideal.τ).loc Cert.Reference7Ideal.main_arg53) = m ((c.tc : Thread Cert.Kernel7Ideal.nD Cert.Kernel7Ideal.τ).loc Cert.Kernel7Ideal.main_arg53)
      ∧ m' ((c.tc : Thread Cert.Reference7Ideal.nD Cert.Reference7Ideal.τ).loc Cert.Reference7Ideal.main_arg54) = m ((c.tc : Thread Cert.Kernel7Ideal.nD Cert.Kernel7Ideal.τ).loc Cert.Kernel7Ideal.main_arg54)
      ∧ m' ((c.tc : Thread Cert.Reference7Ideal.nD Cert.Reference7Ideal.τ).loc Cert.Reference7Ideal.main_arg55) = m ((c.tc : Thread Cert.Kernel7Ideal.nD Cert.Kernel7Ideal.τ).loc Cert.Kernel7Ideal.main_arg55)
      ∧ m' ((c.tc : Thread Cert.Reference7Ideal.nD Cert.Reference7Ideal.τ).loc Cert.Reference7Ideal.main_arg56) = m ((c.tc : Thread Cert.Kernel7Ideal.nD Cert.Kernel7Ideal.τ).loc Cert.Kernel7Ideal.main_arg56)
      ∧ m' ((c.tc : Thread Cert.Reference7Ideal.nD Cert.Reference7Ideal.τ).loc Cert.Reference7Ideal.main_arg57) = m ((c.tc : Thread Cert.Kernel7Ideal.nD Cert.Kernel7Ideal.τ).loc Cert.Kernel7Ideal.main_arg57)
      ∧ m' ((c.tc : Thread Cert.Reference7Ideal.nD Cert.Reference7Ideal.τ).loc Cert.Reference7Ideal.main_arg58) = m ((c.tc : Thread Cert.Kernel7Ideal.nD Cert.Kernel7Ideal.τ).loc Cert.Kernel7Ideal.main_arg58)
      ∧ m' ((c.tc : Thread Cert.Reference7Ideal.nD Cert.Reference7Ideal.τ).loc Cert.Reference7Ideal.main_arg59) = m ((c.tc : Thread Cert.Kernel7Ideal.nD Cert.Kernel7Ideal.τ).loc Cert.Kernel7Ideal.main_arg59)) →
    ∃ (v0 : (c : Dev Cert.Kernel7Ideal.nD) → Buf (Elt Ideal) ((c.tc : Thread Cert.Kernel7Ideal.nD Cert.Kernel7Ideal.τ).loc Cert.Kernel7Ideal.main_v78)) (v1 : (c : Dev Cert.Kernel7Ideal.nD) → Buf (Elt Ideal) ((c.tc : Thread Cert.Kernel7Ideal.nD Cert.Kernel7Ideal.τ).loc Cert.Kernel7Ideal.main_v80)) (v2 : (c : Dev Cert.Kernel7Ideal.nD) → Buf (Elt Ideal) ((c.tc : Thread Cert.Kernel7Ideal.nD Cert.Kernel7Ideal.τ).loc Cert.Kernel7Ideal.main_v82)) (v3 : (c : Dev Cert.Kernel7Ideal.nD) → Buf (Elt Ideal) ((c.tc : Thread Cert.Kernel7Ideal.nD Cert.Kernel7Ideal.τ).loc Cert.Kernel7Ideal.main_v84)) (v4 : (c : Dev Cert.Kernel7Ideal.nD) → Buf (Elt Ideal) ((c.tc : Thread Cert.Kernel7Ideal.nD Cert.Kernel7Ideal.τ).loc Cert.Kernel7Ideal.main_v86)) (v5 : (c : Dev Cert.Kernel7Ideal.nD) → Buf (Elt Ideal) ((c.tc : Thread Cert.Kernel7Ideal.nD Cert.Kernel7Ideal.τ).loc Cert.Kernel7Ideal.main_v88)) (v6 : (c : Dev Cert.Kernel7Ideal.nD) → Buf (Elt Ideal) ((c.tc : Thread Cert.Kernel7Ideal.nD Cert.Kernel7Ideal.τ).loc Cert.Kernel7Ideal.main_v90)) (v7 : (c : Dev Cert.Kernel7Ideal.nD) → Buf (Elt Ideal) ((c.tc : Thread Cert.Kernel7Ideal.nD Cert.Kernel7Ideal.τ).loc Cert.Kernel7Ideal.main_v92)) (v8 : (c : Dev Cert.Kernel7Ideal.nD) → Buf (Elt Ideal) ((c.tc : Thread Cert.Kernel7Ideal.nD Cert.Kernel7Ideal.τ).loc Cert.Kernel7Ideal.main_v94)) (v9 : (c : Dev Cert.Kernel7Ideal.nD) → Buf (Elt Ideal) ((c.tc : Thread Cert.Kernel7Ideal.nD Cert.Kernel7Ideal.τ).loc Cert.Kernel7Ideal.main_v96)) (v10 : (c : Dev Cert.Kernel7Ideal.nD) → Buf (Elt Ideal) ((c.tc : Thread Cert.Kernel7Ideal.nD Cert.Kernel7Ideal.τ).loc Cert.Kernel7Ideal.main_v98)) (v11 : (c : Dev Cert.Kernel7Ideal.nD) → Buf (Elt Ideal) ((c.tc : Thread Cert.Kernel7Ideal.nD Cert.Kernel7Ideal.τ).loc Cert.Kernel7Ideal.main_v100)) (v12 : (c : Dev Cert.Kernel7Ideal.nD) → Buf (Elt Ideal) ((c.tc : Thread Cert.Kernel7Ideal.nD Cert.Kernel7Ideal.τ).loc Cert.Kernel7Ideal.main_v102)) (v13 : (c : Dev Cert.Kernel7Ideal.nD) → Buf (Elt Ideal) ((c.tc : Thread Cert.Kernel7Ideal.nD Cert.Kernel7Ideal.τ).loc Cert.Kernel7Ideal.main_v104)) (v14 : (c : Dev Cert.Kernel7Ideal.nD) → Buf (Elt Ideal) ((c.tc : Thread Cert.Kernel7Ideal.nD Cert.Kernel7Ideal.τ).loc Cert.Kernel7Ideal.main_v106)) (v15 : (c : Dev Cert.Kernel7Ideal.nD) → Buf (Elt Ideal) ((c.tc : Thread Cert.Kernel7Ideal.nD Cert.Kernel7Ideal.τ).loc Cert.Kernel7Ideal.main_v108)) (v16 : (c : Dev Cert.Kernel7Ideal.nD) → Buf (Elt Ideal) ((c.tc : Thread Cert.Kernel7Ideal.nD Cert.Kernel7Ideal.τ).loc Cert.Kernel7Ideal.main_v110)) (v17 : (c : Dev Cert.Kernel7Ideal.nD) → Buf (Elt Ideal) ((c.tc : Thread Cert.Kernel7Ideal.nD Cert.Kernel7Ideal.τ).loc Cert.Kernel7Ideal.main_v112)) (v18 : (c : Dev Cert.Kernel7Ideal.nD) → Buf (Elt Ideal) ((c.tc : Thread Cert.Kernel7Ideal.nD Cert.Kernel7Ideal.τ).loc Cert.Kernel7Ideal.main_v114)) (v19 : (c : Dev Cert.Kernel7Ideal.nD) → Buf (Elt Ideal) ((c.tc : Thread Cert.Kernel7Ideal.nD Cert.Kernel7Ideal.τ).loc Cert.Kernel7Ideal.main_v116)) (v20 : (c : Dev Cert.Kernel7Ideal.nD) → Buf (Elt Ideal) ((c.tc : Thread Cert.Kernel7Ideal.nD Cert.Kernel7Ideal.τ).loc Cert.Kernel7Ideal.main_v118)) (v21 : (c : Dev Cert.Kernel7Ideal.nD) → Buf (Elt Ideal) ((c.tc : Thread Cert.Kernel7Ideal.nD Cert.Kernel7Ideal.τ).loc Cert.Kernel7Ideal.main_v120)) (v22 : (c : Dev Cert.Kernel7Ideal.nD) → Buf (Elt Ideal) ((c.tc : Thread Cert.Kernel7Ideal.nD Cert.Kernel7Ideal.τ).loc Cert.Kernel7Ideal.main_v122)) (v23 : (c : Dev Cert.Kernel7Ideal.nD) → Buf (Elt Ideal) ((c.tc : Thread Cert.Kernel7Ideal.nD Cert.Kernel7Ideal.τ).loc Cert.Kernel7Ideal.main_v124)) (v24 : (c : Dev Cert.Kernel7Ideal.nD) → Buf (Elt Ideal) ((c.tc : Thread Cert.Kernel7Ideal.nD Cert.Kernel7Ideal.τ).loc Cert.Kernel7Ideal.main_v126)) (v25 : (c : Dev Cert.Kernel7Ideal.nD) → Buf (Elt Ideal) ((c.tc : Thread Cert.Kernel7Ideal.nD Cert.Kernel7Ideal.τ).loc Cert.Kernel7Ideal.main_v128)) (v26 : (c : Dev Cert.Kernel7Ideal.nD) → Buf (Elt Ideal) ((c.tc : Thread Cert.Kernel7Ideal.nD Cert.Kernel7Ideal.τ).loc Cert.Kernel7Ideal.main_v130)) (v27 : (c : Dev Cert.Kernel7Ideal.nD) → Buf (Elt Ideal) ((c.tc : Thread Cert.Kernel7Ideal.nD Cert.Kernel7Ideal.τ).loc Cert.Kernel7Ideal.main_v132)) (v28 : (c : Dev Cert.Kernel7Ideal.nD) → Buf (Elt Ideal) ((c.tc : Thread Cert.Kernel7Ideal.nD Cert.Kernel7Ideal.τ).loc Cert.Kernel7Ideal.main_v134)) (v29 : (c : Dev Cert.Kernel7Ideal.nD) → Buf (Elt Ideal) ((c.tc : Thread Cert.Kernel7Ideal.nD Cert.Kernel7Ideal.τ).loc Cert.Kernel7Ideal.main_v136)) (v30 : (c : Dev Cert.Kernel7Ideal.nD) → Buf (Elt Ideal) ((c.tc : Thread Cert.Kernel7Ideal.nD Cert.Kernel7Ideal.τ).loc Cert.Kernel7Ideal.main_v138)) (v31 : (c : Dev Cert.Kernel7Ideal.nD) → Buf (Elt Ideal) ((c.tc : Thread Cert.Kernel7Ideal.nD Cert.Kernel7Ideal.τ).loc Cert.Kernel7Ideal.main_v140)) (v32 : (c : Dev Cert.Kernel7Ideal.nD) → Buf (Elt Ideal) ((c.tc : Thread Cert.Kernel7Ideal.nD Cert.Kernel7Ideal.τ).loc Cert.Kernel7Ideal.main_v142)) (v33 : (c : Dev Cert.Kernel7Ideal.nD) → Buf (Elt Ideal) ((c.tc : Thread Cert.Kernel7Ideal.nD Cert.Kernel7Ideal.τ).loc Cert.Kernel7Ideal.main_v144)) (v34 : (c : Dev Cert.Kernel7Ideal.nD) → Buf (Elt Ideal) ((c.tc : Thread Cert.Kernel7Ideal.nD Cert.Kernel7Ideal.τ).loc Cert.Kernel7Ideal.main_v146)) (v35 : (c : Dev Cert.Kernel7Ideal.nD) → Buf (Elt Ideal) ((c.tc : Thread Cert.Kernel7Ideal.nD Cert.Kernel7Ideal.τ).loc Cert.Kernel7Ideal.main_v148)) (v36 : (c : Dev Cert.Kernel7Ideal.nD) → Buf (Elt Ideal) ((c.tc : Thread Cert.Kernel7Ideal.nD Cert.Kernel7Ideal.τ).loc Cert.Kernel7Ideal.main_v150)) (v37 : (c : Dev Cert.Kernel7Ideal.nD) → Buf (Elt Ideal) ((c.tc : Thread Cert.Kernel7Ideal.nD Cert.Kernel7Ideal.τ).loc Cert.Kernel7Ideal.main_v152)) (v38 : (c : Dev Cert.Kernel7Ideal.nD) → Buf (Elt Ideal) ((c.tc : Thread Cert.Kernel7Ideal.nD Cert.Kernel7Ideal.τ).loc Cert.Kernel7Ideal.main_v154)) (v39 : (c : Dev Cert.Kernel7Ideal.nD) → Buf (Elt Ideal) ((c.tc : Thread Cert.Kernel7Ideal.nD Cert.Kernel7Ideal.τ).loc Cert.Kernel7Ideal.main_v156)) (v40 : (c : Dev Cert.Kernel7Ideal.nD) → Buf (Elt Ideal) ((c.tc : Thread Cert.Kernel7Ideal.nD Cert.Kernel7Ideal.τ).loc Cert.Kernel7Ideal.main_v158)) (v41 : (c : Dev Cert.Kernel7Ideal.nD) → Buf (Elt Ideal) ((c.tc : Thread Cert.Kernel7Ideal.nD Cert.Kernel7Ideal.τ).loc Cert.Kernel7Ideal.main_v160)) (v42 : (c : Dev Cert.Kernel7Ideal.nD) → Buf (Elt Ideal) ((c.tc : Thread Cert.Kernel7Ideal.nD Cert.Kernel7Ideal.τ).loc Cert.Kernel7Ideal.main_v162)) (v43 : (c : Dev Cert.Kernel7Ideal.nD) → Buf (Elt Ideal) ((c.tc : Thread Cert.Kernel7Ideal.nD Cert.Kernel7Ideal.τ).loc Cert.Kernel7Ideal.main_v164)) (v44 : (c : Dev Cert.Kernel7Ideal.nD) → Buf (Elt Ideal) ((c.tc : Thread Cert.Kernel7Ideal.nD Cert.Kernel7Ideal.τ).loc Cert.Kernel7Ideal.main_v166)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v78) = v0 c
          ∧ r.2.mem ((c.tc : Thread Cert.Kernel7Ideal.nD Cert.Kernel7Ideal.τ).loc Cert.Kernel7Ideal.main_v80) = v1 c
          ∧ r.2.mem ((c.tc : Thread Cert.Kernel7Ideal.nD Cert.Kernel7Ideal.τ).loc Cert.Kernel7Ideal.main_v82) = v2 c
          ∧ r.2.mem ((c.tc : Thread Cert.Kernel7Ideal.nD Cert.Kernel7Ideal.τ).loc Cert.Kernel7Ideal.main_v84) = v3 c
          ∧ r.2.mem ((c.tc : Thread Cert.Kernel7Ideal.nD Cert.Kernel7Ideal.τ).loc Cert.Kernel7Ideal.main_v86) = v4 c
          ∧ r.2.mem ((c.tc : Thread Cert.Kernel7Ideal.nD Cert.Kernel7Ideal.τ).loc Cert.Kernel7Ideal.main_v88) = v5 c
          ∧ r.2.mem ((c.tc : Thread Cert.Kernel7Ideal.nD Cert.Kernel7Ideal.τ).loc Cert.Kernel7Ideal.main_v90) = v6 c
          ∧ r.2.mem ((c.tc : Thread Cert.Kernel7Ideal.nD Cert.Kernel7Ideal.τ).loc Cert.Kernel7Ideal.main_v92) = v7 c
          ∧ r.2.mem ((c.tc : Thread Cert.Kernel7Ideal.nD Cert.Kernel7Ideal.τ).loc Cert.Kernel7Ideal.main_v94) = v8 c
          ∧ r.2.mem ((c.tc : Thread Cert.Kernel7Ideal.nD Cert.Kernel7Ideal.τ).loc Cert.Kernel7Ideal.main_v96) = v9 c
          ∧ r.2.mem ((c.tc : Thread Cert.Kernel7Ideal.nD Cert.Kernel7Ideal.τ).loc Cert.Kernel7Ideal.main_v98) = v10 c
          ∧ r.2.mem ((c.tc : Thread Cert.Kernel7Ideal.nD Cert.Kernel7Ideal.τ).loc Cert.Kernel7Ideal.main_v100) = v11 c
          ∧ r.2.mem ((c.tc : Thread Cert.Kernel7Ideal.nD Cert.Kernel7Ideal.τ).loc Cert.Kernel7Ideal.main_v102) = v12 c
          ∧ r.2.mem ((c.tc : Thread Cert.Kernel7Ideal.nD Cert.Kernel7Ideal.τ).loc Cert.Kernel7Ideal.main_v104) = v13 c
          ∧ r.2.mem ((c.tc : Thread Cert.Kernel7Ideal.nD Cert.Kernel7Ideal.τ).loc Cert.Kernel7Ideal.main_v106) = v14 c
          ∧ r.2.mem ((c.tc : Thread Cert.Kernel7Ideal.nD Cert.Kernel7Ideal.τ).loc Cert.Kernel7Ideal.main_v108) = v15 c
          ∧ r.2.mem ((c.tc : Thread Cert.Kernel7Ideal.nD Cert.Kernel7Ideal.τ).loc Cert.Kernel7Ideal.main_v110) = v16 c
          ∧ r.2.mem ((c.tc : Thread Cert.Kernel7Ideal.nD Cert.Kernel7Ideal.τ).loc Cert.Kernel7Ideal.main_v112) = v17 c
          ∧ r.2.mem ((c.tc : Thread Cert.Kernel7Ideal.nD Cert.Kernel7Ideal.τ).loc Cert.Kernel7Ideal.main_v114) = v18 c
          ∧ r.2.mem ((c.tc : Thread Cert.Kernel7Ideal.nD Cert.Kernel7Ideal.τ).loc Cert.Kernel7Ideal.main_v116) = v19 c
          ∧ r.2.mem ((c.tc : Thread Cert.Kernel7Ideal.nD Cert.Kernel7Ideal.τ).loc Cert.Kernel7Ideal.main_v118) = v20 c
          ∧ r.2.mem ((c.tc : Thread Cert.Kernel7Ideal.nD Cert.Kernel7Ideal.τ).loc Cert.Kernel7Ideal.main_v120) = v21 c
          ∧ r.2.mem ((c.tc : Thread Cert.Kernel7Ideal.nD Cert.Kernel7Ideal.τ).loc Cert.Kernel7Ideal.main_v122) = v22 c
          ∧ r.2.mem ((c.tc : Thread Cert.Kernel7Ideal.nD Cert.Kernel7Ideal.τ).loc Cert.Kernel7Ideal.main_v124) = v23 c
          ∧ r.2.mem ((c.tc : Thread Cert.Kernel7Ideal.nD Cert.Kernel7Ideal.τ).loc Cert.Kernel7Ideal.main_v126) = v24 c
          ∧ r.2.mem ((c.tc : Thread Cert.Kernel7Ideal.nD Cert.Kernel7Ideal.τ).loc Cert.Kernel7Ideal.main_v128) = v25 c
          ∧ r.2.mem ((c.tc : Thread Cert.Kernel7Ideal.nD Cert.Kernel7Ideal.τ).loc Cert.Kernel7Ideal.main_v130) = v26 c
          ∧ r.2.mem ((c.tc : Thread Cert.Kernel7Ideal.nD Cert.Kernel7Ideal.τ).loc Cert.Kernel7Ideal.main_v132) = v27 c
          ∧ r.2.mem ((c.tc : Thread Cert.Kernel7Ideal.nD Cert.Kernel7Ideal.τ).loc Cert.Kernel7Ideal.main_v134) = v28 c
          ∧ r.2.mem ((c.tc : Thread Cert.Kernel7Ideal.nD Cert.Kernel7Ideal.τ).loc Cert.Kernel7Ideal.main_v136) = v29 c
          ∧ r.2.mem ((c.tc : Thread Cert.Kernel7Ideal.nD Cert.Kernel7Ideal.τ).loc Cert.Kernel7Ideal.main_v138) = v30 c
          ∧ r.2.mem ((c.tc : Thread Cert.Kernel7Ideal.nD Cert.Kernel7Ideal.τ).loc Cert.Kernel7Ideal.main_v140) = v31 c
          ∧ r.2.mem ((c.tc : Thread Cert.Kernel7Ideal.nD Cert.Kernel7Ideal.τ).loc Cert.Kernel7Ideal.main_v142) = v32 c
          ∧ r.2.mem ((c.tc : Thread Cert.Kernel7Ideal.nD Cert.Kernel7Ideal.τ).loc Cert.Kernel7Ideal.main_v144) = v33 c
          ∧ r.2.mem ((c.tc : Thread Cert.Kernel7Ideal.nD Cert.Kernel7Ideal.τ).loc Cert.Kernel7Ideal.main_v146) = v34 c
          ∧ r.2.mem ((c.tc : Thread Cert.Kernel7Ideal.nD Cert.Kernel7Ideal.τ).loc Cert.Kernel7Ideal.main_v148) = v35 c
          ∧ r.2.mem ((c.tc : Thread Cert.Kernel7Ideal.nD Cert.Kernel7Ideal.τ).loc Cert.Kernel7Ideal.main_v150) = v36 c
          ∧ r.2.mem ((c.tc : Thread Cert.Kernel7Ideal.nD Cert.Kernel7Ideal.τ).loc Cert.Kernel7Ideal.main_v152) = v37 c
          ∧ r.2.mem ((c.tc : Thread Cert.Kernel7Ideal.nD Cert.Kernel7Ideal.τ).loc Cert.Kernel7Ideal.main_v154) = v38 c
          ∧ r.2.mem ((c.tc : Thread Cert.Kernel7Ideal.nD Cert.Kernel7Ideal.τ).loc Cert.Kernel7Ideal.main_v156) = v39 c
          ∧ r.2.mem ((c.tc : Thread Cert.Kernel7Ideal.nD Cert.Kernel7Ideal.τ).loc Cert.Kernel7Ideal.main_v158) = v40 c
          ∧ r.2.mem ((c.tc : Thread Cert.Kernel7Ideal.nD Cert.Kernel7Ideal.τ).loc Cert.Kernel7Ideal.main_v160) = v41 c
          ∧ r.2.mem ((c.tc : Thread Cert.Kernel7Ideal.nD Cert.Kernel7Ideal.τ).loc Cert.Kernel7Ideal.main_v162) = v42 c
          ∧ r.2.mem ((c.tc : Thread Cert.Kernel7Ideal.nD Cert.Kernel7Ideal.τ).loc Cert.Kernel7Ideal.main_v164) = v43 c
          ∧ r.2.mem ((c.tc : Thread Cert.Kernel7Ideal.nD Cert.Kernel7Ideal.τ).loc Cert.Kernel7Ideal.main_v166) = v44 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
          ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
          ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
          ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
          ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
          ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
          ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
          ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
          ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
          ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
          ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
          ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
          ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
          ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
          ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
          ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
          ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
          ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
          ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
          ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
          ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51)
          ∧ r.2.mem ((c.tc : Thread Cert.Kernel7Ideal.nD Cert.Kernel7Ideal.τ).loc Cert.Kernel7Ideal.main_arg52) = m ((c.tc : Thread Cert.Kernel7Ideal.nD Cert.Kernel7Ideal.τ).loc Cert.Kernel7Ideal.main_arg52)
          ∧ r.2.mem ((c.tc : Thread Cert.Kernel7Ideal.nD Cert.Kernel7Ideal.τ).loc Cert.Kernel7Ideal.main_arg53) = m ((c.tc : Thread Cert.Kernel7Ideal.nD Cert.Kernel7Ideal.τ).loc Cert.Kernel7Ideal.main_arg53)
          ∧ r.2.mem ((c.tc : Thread Cert.Kernel7Ideal.nD Cert.Kernel7Ideal.τ).loc Cert.Kernel7Ideal.main_arg54) = m ((c.tc : Thread Cert.Kernel7Ideal.nD Cert.Kernel7Ideal.τ).loc Cert.Kernel7Ideal.main_arg54)
          ∧ r.2.mem ((c.tc : Thread Cert.Kernel7Ideal.nD Cert.Kernel7Ideal.τ).loc Cert.Kernel7Ideal.main_arg55) = m ((c.tc : Thread Cert.Kernel7Ideal.nD Cert.Kernel7Ideal.τ).loc Cert.Kernel7Ideal.main_arg55)
          ∧ r.2.mem ((c.tc : Thread Cert.Kernel7Ideal.nD Cert.Kernel7Ideal.τ).loc Cert.Kernel7Ideal.main_arg56) = m ((c.tc : Thread Cert.Kernel7Ideal.nD Cert.Kernel7Ideal.τ).loc Cert.Kernel7Ideal.main_arg56)
          ∧ r.2.mem ((c.tc : Thread Cert.Kernel7Ideal.nD Cert.Kernel7Ideal.τ).loc Cert.Kernel7Ideal.main_arg57) = m ((c.tc : Thread Cert.Kernel7Ideal.nD Cert.Kernel7Ideal.τ).loc Cert.Kernel7Ideal.main_arg57)
          ∧ r.2.mem ((c.tc : Thread Cert.Kernel7Ideal.nD Cert.Kernel7Ideal.τ).loc Cert.Kernel7Ideal.main_arg58) = m ((c.tc : Thread Cert.Kernel7Ideal.nD Cert.Kernel7Ideal.τ).loc Cert.Kernel7Ideal.main_arg58)
          ∧ r.2.mem ((c.tc : Thread Cert.Kernel7Ideal.nD Cert.Kernel7Ideal.τ).loc Cert.Kernel7Ideal.main_arg59) = m ((c.tc : Thread Cert.Kernel7Ideal.nD Cert.Kernel7Ideal.τ).loc Cert.Kernel7Ideal.main_arg59))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v119) = v4 c
          ∧ r.2.mem ((c.tc : Thread Cert.Reference7Ideal.nD Cert.Reference7Ideal.τ).loc Cert.Reference7Ideal.main_v143) = v5 c
          ∧ r.2.mem ((c.tc : Thread Cert.Reference7Ideal.nD Cert.Reference7Ideal.τ).loc Cert.Reference7Ideal.main_v167) = v6 c
          ∧ r.2.mem ((c.tc : Thread Cert.Reference7Ideal.nD Cert.Reference7Ideal.τ).loc Cert.Reference7Ideal.main_v191) = v7 c
          ∧ r.2.mem ((c.tc : Thread Cert.Reference7Ideal.nD Cert.Reference7Ideal.τ).loc Cert.Reference7Ideal.main_v215) = v8 c
          ∧ r.2.mem ((c.tc : Thread Cert.Reference7Ideal.nD Cert.Reference7Ideal.τ).loc Cert.Reference7Ideal.main_v239) = v9 c
          ∧ r.2.mem ((c.tc : Thread Cert.Reference7Ideal.nD Cert.Reference7Ideal.τ).loc Cert.Reference7Ideal.main_v263) = v10 c
          ∧ r.2.mem ((c.tc : Thread Cert.Reference7Ideal.nD Cert.Reference7Ideal.τ).loc Cert.Reference7Ideal.main_v287) = v11 c
          ∧ r.2.mem ((c.tc : Thread Cert.Reference7Ideal.nD Cert.Reference7Ideal.τ).loc Cert.Reference7Ideal.main_v311) = v12 c
          ∧ r.2.mem ((c.tc : Thread Cert.Reference7Ideal.nD Cert.Reference7Ideal.τ).loc Cert.Reference7Ideal.main_v335) = v13 c
          ∧ r.2.mem ((c.tc : Thread Cert.Reference7Ideal.nD Cert.Reference7Ideal.τ).loc Cert.Reference7Ideal.main_v359) = v14 c
          ∧ r.2.mem ((c.tc : Thread Cert.Reference7Ideal.nD Cert.Reference7Ideal.τ).loc Cert.Reference7Ideal.main_v4) = v15 c
          ∧ r.2.mem ((c.tc : Thread Cert.Reference7Ideal.nD Cert.Reference7Ideal.τ).loc Cert.Reference7Ideal.main_v28) = v16 c
          ∧ r.2.mem ((c.tc : Thread Cert.Reference7Ideal.nD Cert.Reference7Ideal.τ).loc Cert.Reference7Ideal.main_v52) = v17 c
          ∧ r.2.mem ((c.tc : Thread Cert.Reference7Ideal.nD Cert.Reference7Ideal.τ).loc Cert.Reference7Ideal.main_v76) = v18 c
          ∧ r.2.mem ((c.tc : Thread Cert.Reference7Ideal.nD Cert.Reference7Ideal.τ).loc Cert.Reference7Ideal.main_v100) = v19 c
          ∧ r.2.mem ((c.tc : Thread Cert.Reference7Ideal.nD Cert.Reference7Ideal.τ).loc Cert.Reference7Ideal.main_v124) = v20 c
          ∧ r.2.mem ((c.tc : Thread Cert.Reference7Ideal.nD Cert.Reference7Ideal.τ).loc Cert.Reference7Ideal.main_v148) = v21 c
          ∧ r.2.mem ((c.tc : Thread Cert.Reference7Ideal.nD Cert.Reference7Ideal.τ).loc Cert.Reference7Ideal.main_v172) = v22 c
          ∧ r.2.mem ((c.tc : Thread Cert.Reference7Ideal.nD Cert.Reference7Ideal.τ).loc Cert.Reference7Ideal.main_v196) = v23 c
          ∧ r.2.mem ((c.tc : Thread Cert.Reference7Ideal.nD Cert.Reference7Ideal.τ).loc Cert.Reference7Ideal.main_v220) = v24 c
          ∧ r.2.mem ((c.tc : Thread Cert.Reference7Ideal.nD Cert.Reference7Ideal.τ).loc Cert.Reference7Ideal.main_v244) = v25 c
          ∧ r.2.mem ((c.tc : Thread Cert.Reference7Ideal.nD Cert.Reference7Ideal.τ).loc Cert.Reference7Ideal.main_v268) = v26 c
          ∧ r.2.mem ((c.tc : Thread Cert.Reference7Ideal.nD Cert.Reference7Ideal.τ).loc Cert.Reference7Ideal.main_v292) = v27 c
          ∧ r.2.mem ((c.tc : Thread Cert.Reference7Ideal.nD Cert.Reference7Ideal.τ).loc Cert.Reference7Ideal.main_v316) = v28 c
          ∧ r.2.mem ((c.tc : Thread Cert.Reference7Ideal.nD Cert.Reference7Ideal.τ).loc Cert.Reference7Ideal.main_v340) = v29 c
          ∧ r.2.mem ((c.tc : Thread Cert.Reference7Ideal.nD Cert.Reference7Ideal.τ).loc Cert.Reference7Ideal.main_v10) = v30 c
          ∧ r.2.mem ((c.tc : Thread Cert.Reference7Ideal.nD Cert.Reference7Ideal.τ).loc Cert.Reference7Ideal.main_v34) = v31 c
          ∧ r.2.mem ((c.tc : Thread Cert.Reference7Ideal.nD Cert.Reference7Ideal.τ).loc Cert.Reference7Ideal.main_v58) = v32 c
          ∧ r.2.mem ((c.tc : Thread Cert.Reference7Ideal.nD Cert.Reference7Ideal.τ).loc Cert.Reference7Ideal.main_v82) = v33 c
          ∧ r.2.mem ((c.tc : Thread Cert.Reference7Ideal.nD Cert.Reference7Ideal.τ).loc Cert.Reference7Ideal.main_v106) = v34 c
          ∧ r.2.mem ((c.tc : Thread Cert.Reference7Ideal.nD Cert.Reference7Ideal.τ).loc Cert.Reference7Ideal.main_v130) = v35 c
          ∧ r.2.mem ((c.tc : Thread Cert.Reference7Ideal.nD Cert.Reference7Ideal.τ).loc Cert.Reference7Ideal.main_v154) = v36 c
          ∧ r.2.mem ((c.tc : Thread Cert.Reference7Ideal.nD Cert.Reference7Ideal.τ).loc Cert.Reference7Ideal.main_v178) = v37 c
          ∧ r.2.mem ((c.tc : Thread Cert.Reference7Ideal.nD Cert.Reference7Ideal.τ).loc Cert.Reference7Ideal.main_v202) = v38 c
          ∧ r.2.mem ((c.tc : Thread Cert.Reference7Ideal.nD Cert.Reference7Ideal.τ).loc Cert.Reference7Ideal.main_v226) = v39 c
          ∧ r.2.mem ((c.tc : Thread Cert.Reference7Ideal.nD Cert.Reference7Ideal.τ).loc Cert.Reference7Ideal.main_v250) = v40 c
          ∧ r.2.mem ((c.tc : Thread Cert.Reference7Ideal.nD Cert.Reference7Ideal.τ).loc Cert.Reference7Ideal.main_v274) = v41 c
          ∧ r.2.mem ((c.tc : Thread Cert.Reference7Ideal.nD Cert.Reference7Ideal.τ).loc Cert.Reference7Ideal.main_v298) = v42 c
          ∧ r.2.mem ((c.tc : Thread Cert.Reference7Ideal.nD Cert.Reference7Ideal.τ).loc Cert.Reference7Ideal.main_v322) = v43 c
          ∧ r.2.mem ((c.tc : Thread Cert.Reference7Ideal.nD Cert.Reference7Ideal.τ).loc Cert.Reference7Ideal.main_v346) = v44 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31)
          ∧ r.2.mem ((c.tc : Thread Cert.Reference7Ideal.nD Cert.Reference7Ideal.τ).loc Cert.Reference7Ideal.main_arg32) = m' ((c.tc : Thread Cert.Reference7Ideal.nD Cert.Reference7Ideal.τ).loc Cert.Reference7Ideal.main_arg32)
          ∧ r.2.mem ((c.tc : Thread Cert.Reference7Ideal.nD Cert.Reference7Ideal.τ).loc Cert.Reference7Ideal.main_arg33) = m' ((c.tc : Thread Cert.Reference7Ideal.nD Cert.Reference7Ideal.τ).loc Cert.Reference7Ideal.main_arg33)
          ∧ r.2.mem ((c.tc : Thread Cert.Reference7Ideal.nD Cert.Reference7Ideal.τ).loc Cert.Reference7Ideal.main_arg34) = m' ((c.tc : Thread Cert.Reference7Ideal.nD Cert.Reference7Ideal.τ).loc Cert.Reference7Ideal.main_arg34)
          ∧ r.2.mem ((c.tc : Thread Cert.Reference7Ideal.nD Cert.Reference7Ideal.τ).loc Cert.Reference7Ideal.main_arg35) = m' ((c.tc : Thread Cert.Reference7Ideal.nD Cert.Reference7Ideal.τ).loc Cert.Reference7Ideal.main_arg35)
          ∧ r.2.mem ((c.tc : Thread Cert.Reference7Ideal.nD Cert.Reference7Ideal.τ).loc Cert.Reference7Ideal.main_arg36) = m' ((c.tc : Thread Cert.Reference7Ideal.nD Cert.Reference7Ideal.τ).loc Cert.Reference7Ideal.main_arg36)
          ∧ r.2.mem ((c.tc : Thread Cert.Reference7Ideal.nD Cert.Reference7Ideal.τ).loc Cert.Reference7Ideal.main_arg37) = m' ((c.tc : Thread Cert.Reference7Ideal.nD Cert.Reference7Ideal.τ).loc Cert.Reference7Ideal.main_arg37)
          ∧ r.2.mem ((c.tc : Thread Cert.Reference7Ideal.nD Cert.Reference7Ideal.τ).loc Cert.Reference7Ideal.main_arg38) = m' ((c.tc : Thread Cert.Reference7Ideal.nD Cert.Reference7Ideal.τ).loc Cert.Reference7Ideal.main_arg38)
          ∧ r.2.mem ((c.tc : Thread Cert.Reference7Ideal.nD Cert.Reference7Ideal.τ).loc Cert.Reference7Ideal.main_arg39) = m' ((c.tc : Thread Cert.Reference7Ideal.nD Cert.Reference7Ideal.τ).loc Cert.Reference7Ideal.main_arg39)
          ∧ r.2.mem ((c.tc : Thread Cert.Reference7Ideal.nD Cert.Reference7Ideal.τ).loc Cert.Reference7Ideal.main_arg40) = m' ((c.tc : Thread Cert.Reference7Ideal.nD Cert.Reference7Ideal.τ).loc Cert.Reference7Ideal.main_arg40)
          ∧ r.2.mem ((c.tc : Thread Cert.Reference7Ideal.nD Cert.Reference7Ideal.τ).loc Cert.Reference7Ideal.main_arg41) = m' ((c.tc : Thread Cert.Reference7Ideal.nD Cert.Reference7Ideal.τ).loc Cert.Reference7Ideal.main_arg41)
          ∧ r.2.mem ((c.tc : Thread Cert.Reference7Ideal.nD Cert.Reference7Ideal.τ).loc Cert.Reference7Ideal.main_arg42) = m' ((c.tc : Thread Cert.Reference7Ideal.nD Cert.Reference7Ideal.τ).loc Cert.Reference7Ideal.main_arg42)
          ∧ r.2.mem ((c.tc : Thread Cert.Reference7Ideal.nD Cert.Reference7Ideal.τ).loc Cert.Reference7Ideal.main_arg43) = m' ((c.tc : Thread Cert.Reference7Ideal.nD Cert.Reference7Ideal.τ).loc Cert.Reference7Ideal.main_arg43)
          ∧ r.2.mem ((c.tc : Thread Cert.Reference7Ideal.nD Cert.Reference7Ideal.τ).loc Cert.Reference7Ideal.main_arg44) = m' ((c.tc : Thread Cert.Reference7Ideal.nD Cert.Reference7Ideal.τ).loc Cert.Reference7Ideal.main_arg44)
          ∧ r.2.mem ((c.tc : Thread Cert.Reference7Ideal.nD Cert.Reference7Ideal.τ).loc Cert.Reference7Ideal.main_arg45) = m' ((c.tc : Thread Cert.Reference7Ideal.nD Cert.Reference7Ideal.τ).loc Cert.Reference7Ideal.main_arg45)
          ∧ r.2.mem ((c.tc : Thread Cert.Reference7Ideal.nD Cert.Reference7Ideal.τ).loc Cert.Reference7Ideal.main_arg46) = m' ((c.tc : Thread Cert.Reference7Ideal.nD Cert.Reference7Ideal.τ).loc Cert.Reference7Ideal.main_arg46)
          ∧ r.2.mem ((c.tc : Thread Cert.Reference7Ideal.nD Cert.Reference7Ideal.τ).loc Cert.Reference7Ideal.main_arg47) = m' ((c.tc : Thread Cert.Reference7Ideal.nD Cert.Reference7Ideal.τ).loc Cert.Reference7Ideal.main_arg47)
          ∧ r.2.mem ((c.tc : Thread Cert.Reference7Ideal.nD Cert.Reference7Ideal.τ).loc Cert.Reference7Ideal.main_arg48) = m' ((c.tc : Thread Cert.Reference7Ideal.nD Cert.Reference7Ideal.τ).loc Cert.Reference7Ideal.main_arg48)
          ∧ r.2.mem ((c.tc : Thread Cert.Reference7Ideal.nD Cert.Reference7Ideal.τ).loc Cert.Reference7Ideal.main_arg49) = m' ((c.tc : Thread Cert.Reference7Ideal.nD Cert.Reference7Ideal.τ).loc Cert.Reference7Ideal.main_arg49)
          ∧ r.2.mem ((c.tc : Thread Cert.Reference7Ideal.nD Cert.Reference7Ideal.τ).loc Cert.Reference7Ideal.main_arg50) = m' ((c.tc : Thread Cert.Reference7Ideal.nD Cert.Reference7Ideal.τ).loc Cert.Reference7Ideal.main_arg50)
          ∧ r.2.mem ((c.tc : Thread Cert.Reference7Ideal.nD Cert.Reference7Ideal.τ).loc Cert.Reference7Ideal.main_arg51) = m' ((c.tc : Thread Cert.Reference7Ideal.nD Cert.Reference7Ideal.τ).loc Cert.Reference7Ideal.main_arg51)
          ∧ r.2.mem ((c.tc : Thread Cert.Reference7Ideal.nD Cert.Reference7Ideal.τ).loc Cert.Reference7Ideal.main_arg52) = m' ((c.tc : Thread Cert.Reference7Ideal.nD Cert.Reference7Ideal.τ).loc Cert.Reference7Ideal.main_arg52)
          ∧ r.2.mem ((c.tc : Thread Cert.Reference7Ideal.nD Cert.Reference7Ideal.τ).loc Cert.Reference7Ideal.main_arg53) = m' ((c.tc : Thread Cert.Reference7Ideal.nD Cert.Reference7Ideal.τ).loc Cert.Reference7Ideal.main_arg53)
          ∧ r.2.mem ((c.tc : Thread Cert.Reference7Ideal.nD Cert.Reference7Ideal.τ).loc Cert.Reference7Ideal.main_arg54) = m' ((c.tc : Thread Cert.Reference7Ideal.nD Cert.Reference7Ideal.τ).loc Cert.Reference7Ideal.main_arg54)
          ∧ r.2.mem ((c.tc : Thread Cert.Reference7Ideal.nD Cert.Reference7Ideal.τ).loc Cert.Reference7Ideal.main_arg55) = m' ((c.tc : Thread Cert.Reference7Ideal.nD Cert.Reference7Ideal.τ).loc Cert.Reference7Ideal.main_arg55)
          ∧ r.2.mem ((c.tc : Thread Cert.Reference7Ideal.nD Cert.Reference7Ideal.τ).loc Cert.Reference7Ideal.main_arg56) = m' ((c.tc : Thread Cert.Reference7Ideal.nD Cert.Reference7Ideal.τ).loc Cert.Reference7Ideal.main_arg56)
          ∧ r.2.mem ((c.tc : Thread Cert.Reference7Ideal.nD Cert.Reference7Ideal.τ).loc Cert.Reference7Ideal.main_arg57) = m' ((c.tc : Thread Cert.Reference7Ideal.nD Cert.Reference7Ideal.τ).loc Cert.Reference7Ideal.main_arg57)
          ∧ r.2.mem ((c.tc : Thread Cert.Reference7Ideal.nD Cert.Reference7Ideal.τ).loc Cert.Reference7Ideal.main_arg58) = m' ((c.tc : Thread Cert.Reference7Ideal.nD Cert.Reference7Ideal.τ).loc Cert.Reference7Ideal.main_arg58)
          ∧ r.2.mem ((c.tc : Thread Cert.Reference7Ideal.nD Cert.Reference7Ideal.τ).loc Cert.Reference7Ideal.main_arg59) = m' ((c.tc : Thread Cert.Reference7Ideal.nD Cert.Reference7Ideal.τ).loc Cert.Reference7Ideal.main_arg59))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8448x1024 : Shape := ⟨2, ![8448, 1024]⟩
abbrev S1024 : Shape := ⟨1, ![1024]⟩
abbrev S1024x3328 : Shape := ⟨2, ![1024, 3328]⟩
abbrev S64 : Shape := ⟨1, ![64]⟩
abbrev S8448x2560 : Shape := ⟨2, ![8448, 2560]⟩
abbrev S8448x256 : Shape := ⟨2, ![8448, 256]⟩
abbrev S8448x128 : Shape := ⟨2, ![8448, 128]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3328 : S_.BroadcastsInDim S1024x3328 (![] : Fin 0 → Fin S1024x3328.rank)
  reducesTo_S1024x3328_S_d0_1 : S1024x3328.ReducesTo [0, 1] S_
  bcast_S_S64 : S_.BroadcastsInDim S64 (![] : Fin 0 → Fin S64.rank)
  reducesTo_S64_S_d0 : S64.ReducesTo [0] S_
  bcast_S_S8448x2560 : S_.BroadcastsInDim S8448x2560 (![] : Fin 0 → Fin S8448x2560.rank)
  reducesTo_S8448x2560_S_d0_1 : S8448x2560.ReducesTo [0, 1] S_
  bcast_S_S8448x256 : S_.BroadcastsInDim S8448x256 (![] : Fin 0 → Fin S8448x256.rank)
  reducesTo_S8448x256_S_d0_1 : S8448x256.ReducesTo [0, 1] S_
  bcast_S_S8448x128 : S_.BroadcastsInDim S8448x128 (![] : Fin 0 → Fin S8448x128.rank)
  reducesTo_S8448x128_S_d0_1 : S8448x128.ReducesTo [0, 1] S_

variable [Facts]

def fn_part4 {F : FTy → Type} [FloatOps F] (main_arg14 : FVec F S8448x1024 .f32) (main_v63 : IVec S_ 1) (main_v67 : IVec S_ 1) : IVec S_ 1 :=
  let main_v68 : IVec S_ 1 := andi main_v63 main_v67
  let main_v69 : FVec F S8448x1024 .f32 := Host.absf main_arg14
  let main_cst_26 : FVec F S_ .f32 := constant S_ .f32 0x7F800000#32
  let main_v70 : FVec F S8448x1024 .f32 := broadcastInDim S8448x1024 ![] bcast_S_S8448x1024 main_cst_26
  let main_v71 : IVec S8448x1024 1 := cmpf .olt main_v69 main_v70
  let main_c_27 : IVec S_ 1 := constantI S_ 1 1#1
  let main_v72 : IVec S_ 1 := (fun x v => Host.reduce IntOp.andi x v reducesTo_S8448x1024_S_d0_1 h_S_) main_v71 main_c_27
  let main_v73 : IVec S_ 1 := andi main_v68 main_v72
  main_v73

def fn_part3 {F : FTy → Type} [FloatOps F] (main_arg11 : FVec F S8448x128 .f32) (main_arg12 : FVec F S8448x128 .f32) (main_arg13 : FVec F S8448x256 .f32) (main_arg14 : FVec F S8448x1024 .f32) (main_v48 : IVec S_ 1) (main_v49 : FVec F S8448x256 .f32) (main_v50 : FVec F S8448x256 .f32) : IVec S_ 1 :=
  let main_v51 : IVec S8448x256 1 := cmpf .olt main_v49 main_v50
  let main_c_19 : IVec S_ 1 := constantI S_ 1 1#1
  let main_v52 : IVec S_ 1 := (fun x v => Host.reduce IntOp.andi x v reducesTo_S8448x256_S_d0_1 h_S_) main_v51 main_c_19
  let main_v53 : IVec S_ 1 := andi main_v48 main_v52
  let main_v54 : FVec F S8448x128 .f32 := Host.absf main_arg11
  let main_cst_20 : FVec F S_ .f32 := constant S_ .f32 0x7F800000#32
  let main_v55 : FVec F S8448x128 .f32 := broadcastInDim S8448x128 ![] bcast_S_S8448x128 main_cst_20
  let main_v56 : IVec S8448x128 1 := cmpf .olt main_v54 main_v55
  let main_c_21 : IVec S_ 1 := constantI S_ 1 1#1
  let main_v57 : IVec S_ 1 := (fun x v => Host.reduce IntOp.andi x v reducesTo_S8448x128_S_d0_1 h_S_) main_v56 main_c_21
  let main_v58 : IVec S_ 1 := andi main_v53 main_v57
  let main_v59 : FVec F S8448x128 .f32 := Host.absf main_arg12
  let main_cst_22 : FVec F S_ .f32 := constant S_ .f32 0x7F800000#32
  let main_v60 : FVec F S8448x128 .f32 := broadcastInDim S8448x128 ![] bcast_S_S8448x128 main_cst_22
  let main_v61 : IVec S8448x128 1 := cmpf .olt main_v59 main_v60
  let main_c_23 : IVec S_ 1 := constantI S_ 1 1#1
  let main_v62 : IVec S_ 1 := (fun x v => Host.reduce IntOp.andi x v reducesTo_S8448x128_S_d0_1 h_S_) main_v61 main_c_23
  let main_v63 : IVec S_ 1 := andi main_v58 main_v62
  let main_v64 : FVec F S8448x256 .f32 := Host.absf main_arg13
  let main_cst_24 : FVec F S_ .f32 := constant S_ .f32 0x7F800000#32
  let main_v65 : FVec F S8448x256 .f32 := broadcastInDim S8448x256 ![] bcast_S_S8448x256 main_cst_24
  let main_v66 : IVec S8448x256 1 := cmpf .olt main_v64 main_v65
  let main_c_25 : IVec S_ 1 := constantI S_ 1 1#1
  let main_v67 : IVec S_ 1 := (fun x v => Host.reduce IntOp.andi x v reducesTo_S8448x256_S_d0_1 h_S_) main_v66 main_c_25
  fn_part4 (F := F) main_arg14 main_v63 main_v67

def fn_part2 {F : FTy → Type} [FloatOps F] (main_arg7 : FVec F S64 .f32) (main_arg8 : FVec F S64 .f32) (main_arg9 : FVec F S8448x2560 .f32) (main_arg10 : FVec F S8448x256 .f32) (main_arg11 : FVec F S8448x128 .f32) (main_arg12 : FVec F S8448x128 .f32) (main_arg13 : FVec F S8448x256 .f32) (main_arg14 : FVec F S8448x1024 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S8448x2560 .f32 := Host.absf main_arg9
  let main_cst_16 : FVec F S_ .f32 := constant S_ .f32 0x7F800000#32
  let main_v45 : FVec F S8448x2560 .f32 := broadcastInDim S8448x2560 ![] bcast_S_S8448x2560 main_cst_16
  let main_v46 : IVec S8448x2560 1 := cmpf .olt main_v44 main_v45
  let main_c_17 : IVec S_ 1 := constantI S_ 1 1#1
  let main_v47 : IVec S_ 1 := (fun x v => Host.reduce IntOp.andi x v reducesTo_S8448x2560_S_d0_1 h_S_) main_v46 main_c_17
  let main_v48 : IVec S_ 1 := andi main_v43 main_v47
  let main_v49 : FVec F S8448x256 .f32 := Host.absf main_arg10
  let main_cst_18 : FVec F S_ .f32 := constant S_ .f32 0x7F800000#32
  let main_v50 : FVec F S8448x256 .f32 := broadcastInDim S8448x256 ![] bcast_S_S8448x256 main_cst_18
  fn_part3 (F := F) main_arg11 main_arg12 main_arg13 main_arg14 main_v48 main_v49 main_v50

def fn_part1 {F : FTy → Type} [FloatOps F] (main_arg4 : FVec F S1024 .f32) (main_arg5 : FVec F S1024 .f32) (main_arg6 : FVec F S1024x3328 .f32) (main_arg7 : FVec F S64 .f32) (main_arg8 : FVec F S64 .f32) (main_arg9 : FVec F S8448x2560 .f32) (main_arg10 : FVec F S8448x256 .f32) (main_arg11 : FVec F S8448x128 .f32) (main_arg12 : FVec F S8448x128 .f32) (main_arg13 : FVec F S8448x256 .f32) (main_arg14 : FVec F S8448x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x3328 .f32 := Host.absf main_arg6
  let main_cst_10 : FVec F S_ .f32 := constant S_ .f32 0x7F800000#32
  let main_v30 : FVec F S1024x3328 .f32 := broadcastInDim S1024x3328 ![] bcast_S_S1024x3328 main_cst_10
  let main_v31 : IVec S1024x3328 1 := cmpf .olt main_v29 main_v30
  let main_c_11 : IVec S_ 1 := constantI S_ 1 1#1
  let main_v32 : IVec S_ 1 := (fun x v => Host.reduce IntOp.andi x v reducesTo_S1024x3328_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8448x1024 .f32) (main_arg1 : FVec F S1024 .f32) (main_arg2 : FVec F S1024 .f32) (main_arg3 : FVec F S1024 .f32) (main_arg4 : FVec F S1024 .f32) (main_arg5 : FVec F S1024 .f32) (main_arg6 : FVec F S1024x3328 .f32) (main_arg7 : FVec F S64 .f32) (main_arg8 : FVec F S64 .f32) (main_arg9 : FVec F S8448x2560 .f32) (main_arg10 : FVec F S8448x256 .f32) (main_arg11 : FVec F S8448x128 .f32) (main_arg12 : FVec F S8448x128 .f32) (main_arg13 : FVec F S8448x256 .f32) (main_arg14 : FVec F S8448x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_v13 main_v16
-- ==== Pre_finite2.lean ====
abbrev S8448x256 : Shape := ⟨2, ![8448, 256]⟩
abbrev S8448x128 : Shape := ⟨2, ![8448, 128]⟩
abbrev S_ : Shape := ⟨0, ![]⟩

class Facts : Prop where
  bcast_S_S8448x256 : S_.BroadcastsInDim S8448x256 (![] : Fin 0 → Fin S8448x256.rank)
  reducesTo_S8448x256_S_d0_1 : S8448x256.ReducesTo [0, 1] S_
  h_S_ : 0 < S_.numel
  bcast_S_S8448x128 : S_.BroadcastsInDim S8448x128 (![] : Fin 0 → Fin S8448x128.rank)
  reducesTo_S8448x128_S_d0_1 : S8448x128.ReducesTo [0, 1] S_

variable [Facts]

def fn {F : FTy → Type} [FloatOps F] (main_arg0 : FVec F S8448x256 .f32) (main_arg1 : FVec F S8448x128 .f32) (main_arg2 : FVec F S8448x128 .f32) : IVec S_ 1 :=
  let main_v0 : FVec F S8448x256 .f32 := Host.absf main_arg0
  let main_cst : FVec F S_ .f32 := constant S_ .f32 0x7F800000#32
  let main_v1 : FVec F S8448x256 .f32 := broadcastInDim S8448x256 ![] bcast_S_S8448x256 main_cst
  let main_v2 : IVec S8448x256 1 := cmpf .olt main_v0 main_v1
  let main_c : IVec S_ 1 := constantI S_ 1 1#1
  let main_v3 : IVec S_ 1 := (fun x v => Host.reduce IntOp.andi x v reducesTo_S8448x256_S_d0_1 h_S_) main_v2 main_c
  let main_v4 : FVec F S8448x128 .f32 := Host.absf main_arg1
  let main_cst_0 : FVec F S_ .f32 := constant S_ .f32 0x7F800000#32
  let main_v5 : FVec F S8448x128 .f32 := broadcastInDim S8448x128 ![] bcast_S_S8448x128 main_cst_0
  let main_v6 : IVec S8448x128 1 := cmpf .olt main_v4 main_v5
  let main_c_1 : IVec S_ 1 := constantI S_ 1 1#1
  let main_v7 : IVec S_ 1 := (fun x v => Host.reduce IntOp.andi x v reducesTo_S8448x128_S_d0_1 h_S_) main_v6 main_c_1
  let main_v8 : IVec S_ 1 := andi main_v3 main_v7
  let main_v9 : FVec F S8448x128 .f32 := Host.absf main_arg2
  let main_cst_2 : FVec F S_ .f32 := constant S_ .f32 0x7F800000#32
  let main_v10 : FVec F S8448x128 .f32 := broadcastInDim S8448x128 ![] bcast_S_S8448x128 main_cst_2
  let main_v11 : IVec S8448x128 1 := cmpf .olt main_v9 main_v10
  let main_c_3 : IVec S_ 1 := constantI S_ 1 1#1
  let main_v12 : IVec S_ 1 := (fun x v => Host.reduce IntOp.andi x v reducesTo_S8448x128_S_d0_1 h_S_) main_v11 main_c_3
  let main_v13 : IVec S_ 1 := andi main_v8 main_v12
  main_v13
-- ==== Kernel.lean ====
abbrev S8448x1024 : Shape := ⟨2, ![8448, 1024]⟩
abbrev S1024 : Shape := ⟨1, ![1024]⟩
abbrev S1024x3328 : Shape := ⟨2, ![1024, 3328]⟩
abbrev S64 : Shape := ⟨1, ![64]⟩
abbrev S8448x2560 : Shape := ⟨2, ![8448, 2560]⟩
abbrev S8448x256 : Shape := ⟨2, ![8448, 256]⟩
abbrev S8448x128 : Shape := ⟨2, ![8448, 128]⟩
abbrev S128 : Shape := ⟨1, ![128]⟩
abbrev S1x1x128 : Shape := ⟨3, ![1, 1, 128]⟩
abbrev S1x128 : Shape := ⟨2, ![1, 128]⟩
abbrev S1024x512 : Shape := ⟨2, ![1024, 512]⟩
abbrev S1024x1024 : Shape := ⟨2, ![1024, 1024]⟩
abbrev S1024x256 : Shape := ⟨2, ![1024, 256]⟩
abbrev S1024x1792 : Shape := ⟨2, ![1024, 1792]⟩
abbrev S_ : Shape := ⟨0, ![]⟩
abbrev S1x1024 : Shape := ⟨2, ![1, 1024]⟩
abbrev S8x1024 : Shape := ⟨2, ![8, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S6x128 : Shape := ⟨2, ![6, 128]⟩
abbrev S8x128 : Shape := ⟨2, ![8, 128]⟩
abbrev S16 : Shape := ⟨1, ![16]⟩
abbrev S128x1 : Shape := ⟨2, ![128, 1]⟩
abbrev S128x128 : Shape := ⟨2, ![128, 128]⟩
abbrev S64x1 : Shape := ⟨2, ![64, 1]⟩
abbrev S64x128 : Shape := ⟨2, ![64, 128]⟩
abbrev S256x128 : Shape := ⟨2, ![256, 128]⟩
abbrev S128x1x128 : Shape := ⟨3, ![128, 1, 128]⟩
abbrev S1x64x128 : Shape := ⟨3, ![1, 64, 128]⟩
abbrev S128x64x128 : Shape := ⟨3, ![128, 64, 128]⟩
abbrev S8192x128 : Shape := ⟨2, ![8192, 128]⟩
abbrev S8448x1792 : Shape := ⟨2, ![8448, 1792]⟩
abbrev S8448x512 : Shape := ⟨2, ![8448, 512]⟩
abbrev S4x8448x128 : Shape := ⟨3, ![4, 8448, 128]⟩
abbrev S2x8448x128 : Shape := ⟨3, ![2, 8448, 128]⟩
abbrev S768x1024 : Shape := ⟨2, ![768, 1024]⟩
abbrev S768x128 : Shape := ⟨2, ![768, 128]⟩
abbrev S768x1792 : Shape := ⟨2, ![768, 1792]⟩
abbrev S768x512 : Shape := ⟨2, ![768, 512]⟩
abbrev S4x768x128 : Shape := ⟨3, ![4, 768, 128]⟩
abbrev S2x768x128 : Shape := ⟨3, ![2, 768, 128]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩
abbrev S256x512 : Shape := ⟨2, ![256, 512]⟩
abbrev S1x256x128 : Shape := ⟨3, ![1, 256, 128]⟩
abbrev S8448x4x64 : Shape := ⟨3, ![8448, 4, 64]⟩
abbrev S4x8448x64 : Shape := ⟨3, ![4, 8448, 64]⟩
abbrev S8448x2x64 : Shape := ⟨3, ![8448, 2, 64]⟩
abbrev S2x8448x64 : Shape := ⟨3, ![2, 8448, 64]⟩

abbrev nBuf : Space → Nat
  | .hbm => 189
  | .vmem => 69
  | .smem => 0
  | _ => 0

abbrev hbmTy0_0 (i : Nat) : BufTy := match i % 128 with
  | 0 => ⟨S8448x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024x3328, .f32⟩
  | 7 => ⟨S64, .f32⟩
  | 8 => ⟨S64, .f32⟩
  | 9 => ⟨S8448x2560, .f32⟩
  | 10 => ⟨S8448x256, .f32⟩
  | 11 => ⟨S8448x128, .f32⟩
  | 12 => ⟨S8448x128, .f32⟩
  | 13 => ⟨S8448x256, .f32⟩
  | 14 => ⟨S8448x1024, .f32⟩
  | 15 => ⟨S128, .i32⟩
  | 16 => ⟨S128, .i1⟩
  | 17 => ⟨S128, .i1⟩
  | 18 => ⟨S128, .i1⟩
  | 19 => ⟨S1x1x128, .i1⟩
  | 20 => ⟨S128, .i1⟩
  | 21 => ⟨S1x1x128, .i1⟩
  | 22 => ⟨S128, .f32⟩
  | 23 => ⟨S1x128, .f32⟩
  | 24 => ⟨S1024x3328, .bf16⟩
  | 25 => ⟨S1024x512, .bf16⟩
  | 26 => ⟨S1024x512, .bf16⟩
  | 27 => ⟨S1024x1024, .bf16⟩
  | 28 => ⟨S1024x256, .bf16⟩
  | 29 => ⟨S1024x256, .bf16⟩
  | 30 => ⟨S1024x1024, .bf16⟩
  | 31 => ⟨S1024x256, .bf16⟩
  | 32 => ⟨S1024x1792, .bf16⟩
  | 33 => ⟨S1024x512, .bf16⟩
  | 34 => ⟨S_, .f32⟩
  | 35 => ⟨S1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S8x1024, .f32⟩
  | 45 => ⟨S1x64, .f32⟩
  | 46 => ⟨S1x1x1x64, .f32⟩
  | 47 => ⟨S1x1x2x64, .f32⟩
  | 48 => ⟨S1x128, .f32⟩
  | 49 => ⟨S1x64, .f32⟩
  | 50 => ⟨S1x1x1x64, .f32⟩
  | 51 => ⟨S1x1x2x64, .f32⟩
  | 52 => ⟨S1x128, .f32⟩
  | 53 => ⟨S_, .f32⟩
  | 54 => ⟨S6x128, .f32⟩
  | 55 => ⟨S8x128, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S128, .f32⟩
  | 73 => ⟨S128x1, .f32⟩
  | 74 => ⟨S_, .i32⟩
  | 75 => ⟨S128, .i32⟩
  | 76 => ⟨S128, .i32⟩
  | 77 => ⟨S128, .i32⟩
  | 78 => ⟨S128x1, .i32⟩
  | 79 => ⟨S128, .f32⟩
  | 80 => ⟨S1x128, .f32⟩
  | 81 => ⟨S128x128, .f32⟩
  | 82 => ⟨S128x128, .f32⟩
  | 83 => ⟨S128x128, .f32⟩
  | 84 => ⟨S64, .f32⟩
  | 85 => ⟨S64x1, .f32⟩
  | 86 => ⟨S_, .i32⟩
  | 87 => ⟨S128, .i32⟩
  | 88 => ⟨S128, .i32⟩
  | 89 => ⟨S128, .i32⟩
  | 90 => ⟨S128x1, .i32⟩
  | 91 => ⟨S128, .f32⟩
  | 92 => ⟨S1x128, .f32⟩
  | 93 => ⟨S64x128, .f32⟩
  | 94 => ⟨S64x128, .f32⟩
  | 95 => ⟨S64x128, .f32⟩
  | 96 => ⟨S_, .f32⟩
  | 97 => ⟨S256x128, .f32⟩
  | 98 => ⟨S128x128, .f32⟩
  | 99 => ⟨S128x1x128, .f32⟩
  | 100 => ⟨S64x128, .f32⟩
  | 101 => ⟨S1x64x128, .f32⟩
  | 102 => ⟨S128x64x128, .i1⟩
  | 103 => ⟨S128x64x128, .f32⟩
  | 104 => ⟨S128x64x128, .f32⟩
  | 105 => ⟨S128x64x128, .f32⟩
  | 106 => ⟨S8192x128, .f32⟩
  | 107 => ⟨S8448x128, .f32⟩
  | 108 => ⟨S_, .f32⟩
  | 109 => ⟨S256x128, .f32⟩
  | 110 => ⟨S128x128, .f32⟩
  | 111 => ⟨S128x1x128, .f32⟩
  | 112 => ⟨S64x128, .f32⟩
  | 113 => ⟨S1x64x128, .f32⟩
  | 114 => ⟨S128x64x128, .i1⟩
  | 115 => ⟨S128x64x128, .f32⟩
  | 116 => ⟨S128x64x128, .f32⟩
  | 117 => ⟨S128x64x128, .f32⟩
  | 118 => ⟨S8192x128, .f32⟩
  | 119 => ⟨S8192x128, .f32⟩
  | 120 => ⟨S8192x128, .f32⟩
  | 121 => ⟨S8448x128, .f32⟩
  | 122 => ⟨S1x1024, .f32⟩
  | 123 => ⟨S8448x1024, .bf16⟩
  | 124 => ⟨S8448x1024, .f32⟩
  | 125 => ⟨S8448x1792, .f32⟩
  | 126 => ⟨S8448x512, .f32⟩
  | 127 => ⟨S4x8448x128, .bf16⟩
  | _ => ⟨S8448x1024, .f32⟩

abbrev hbmTy0_1 (i : Nat) : BufTy := match i % 128 with
  | 0 => ⟨S2x8448x128, .bf16⟩
  | 1 => ⟨S2x8448x128, .bf16⟩
  | 2 => ⟨S8448x512, .f32⟩
  | 3 => ⟨S8448x512, .f32⟩
  | 4 => ⟨S8448x1024, .f32⟩
  | 5 => ⟨S8448x1024, .bf16⟩
  | 6 => ⟨S8448x256, .f32⟩
  | 7 => ⟨S8448x256, .f32⟩
  | 8 => ⟨S8448x1024, .f32⟩
  | 9 => ⟨S8448x1792, .f32⟩
  | 10 => ⟨S8448x1792, .bf16⟩
  | 11 => ⟨S8448x4x64, .f32⟩
  | 12 => ⟨S4x8448x64, .f32⟩
  | 13 => ⟨S_, .f32⟩
  | 14 => ⟨S4x8448x64, .f32⟩
  | 15 => ⟨S4x8448x128, .f32⟩
  | 16 => ⟨S8448x2x64, .f32⟩
  | 17 => ⟨S2x8448x64, .f32⟩
  | 18 => ⟨S_, .f32⟩
  | 19 => ⟨S2x8448x64, .f32⟩
  | 20 => ⟨S2x8448x128, .f32⟩
  | 21 => ⟨S8448x2x64, .f32⟩
  | 22 => ⟨S2x8448x64, .f32⟩
  | 23 => ⟨S_, .f32⟩
  | 24 => ⟨S2x8448x64, .f32⟩
  | 25 => ⟨S2x8448x128, .f32⟩
  | 26 => ⟨S1x1024, .f32⟩
  | 27 => ⟨S8448x1024, .f32⟩
  | 28 => ⟨S8448x512, .bf16⟩
  | 29 => ⟨S8x1024, .f32⟩
  | 30 => ⟨S8x128, .f32⟩
  | 31 => ⟨S1024x1024, .f32⟩
  | 32 => ⟨S1024x1792, .f32⟩
  | 33 => ⟨S1024x512, .f32⟩
  | 34 => ⟨S1024x256, .f32⟩
  | 35 => ⟨S1024x512, .f32⟩
  | 36 => ⟨S1024x256, .f32⟩
  | 37 => ⟨S1024x512, .f32⟩
  | 38 => ⟨S1024x1024, .f32⟩
  | 39 => ⟨S1024x256, .f32⟩
  | 40 => ⟨S1024x3328, .f32⟩
  | 41 => ⟨S1x1024, .f32⟩
  | 42 => ⟨S1024, .f32⟩
  | 43 => ⟨S1x1024, .f32⟩
  | 44 => ⟨S1024, .f32⟩
  | 45 => ⟨S1x1024, .f32⟩
  | 46 => ⟨S1024, .f32⟩
  | 47 => ⟨S1x1024, .f32⟩
  | 48 => ⟨S1024, .f32⟩
  | 49 => ⟨S1x1024, .f32⟩
  | 50 => ⟨S1024, .f32⟩
  | 51 => ⟨S1x64, .f32⟩
  | 52 => ⟨S64, .f32⟩
  | 53 => ⟨S1x64, .f32⟩
  | 54 => ⟨S64, .f32⟩
  | 55 => ⟨S64, .f32⟩
  | 56 => ⟨S1x64, .f32⟩
  | 57 => ⟨S64, .f32⟩
  | 58 => ⟨S1x64, .f32⟩
  | 59 => ⟨S64, .f32⟩
  | 60 => ⟨S64, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | .local _ .vmem, ⟨0, _⟩ => ⟨S768x1024, .f32⟩
  | .local _ .vmem, ⟨1, _⟩ => ⟨S768x1024, .f32⟩
  | .local _ .vmem, ⟨2, _⟩ => ⟨S8x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1792, .bf16⟩
  | .local _ .vmem, ⟨6, _⟩ => ⟨S1024x512, .bf16⟩
  | .local _ .vmem, ⟨7, _⟩ => ⟨S8x128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x1024, .bf16⟩
  | .local _ .vmem, ⟨13, _⟩ => ⟨S768x1024, .bf16⟩
  | .local _ .vmem, ⟨14, _⟩ => ⟨S768x1024, .f32⟩
  | .local _ .vmem, ⟨15, _⟩ => ⟨S768x1024, .f32⟩
  | .local _ .vmem, ⟨16, _⟩ => ⟨S768x1792, .f32⟩
  | .local _ .vmem, ⟨17, _⟩ => ⟨S768x1792, .f32⟩
  | .local _ .vmem, ⟨18, _⟩ => ⟨S768x512, .f32⟩
  | .local _ .vmem, ⟨19, _⟩ => ⟨S768x512, .f32⟩
  | .local _ .vmem, ⟨20, _⟩ => ⟨S4x768x128, .bf16⟩
  | .local _ .vmem, ⟨21, _⟩ => ⟨S4x768x128, .bf16⟩
  | .local _ .vmem, ⟨22, _⟩ => ⟨S2x768x128, .bf16⟩
  | .local _ .vmem, ⟨23, _⟩ => ⟨S2x768x128, .bf16⟩
  | .local _ .vmem, ⟨24, _⟩ => ⟨S2x768x128, .bf16⟩
  | .local _ .vmem, ⟨25, _⟩ => ⟨S2x768x128, .bf16⟩
  | .local _ .vmem, ⟨26, _⟩ => ⟨S768x1024, .bf16⟩
  | .local _ .vmem, ⟨27, _⟩ => ⟨S768x1024, .bf16⟩
  | .local _ .vmem, ⟨28, _⟩ => ⟨S768x1792, .bf16⟩
  | .local _ .vmem, ⟨29, _⟩ => ⟨S768x1792, .bf16⟩
  | .local _ .vmem, ⟨30, _⟩ => ⟨S4x768x128, .f32⟩
  | .local _ .vmem, ⟨31, _⟩ => ⟨S4x768x128, .f32⟩
  | .local _ .vmem, ⟨32, _⟩ => ⟨S2x768x128, .f32⟩
  | .local _ .vmem, ⟨33, _⟩ => ⟨S2x768x128, .f32⟩
  | .local _ .vmem, ⟨34, _⟩ => ⟨S2x768x128, .f32⟩
  | .local _ .vmem, ⟨35, _⟩ => ⟨S2x768x128, .f32⟩
  | .local _ .vmem, ⟨36, _⟩ => ⟨S768x512, .f32⟩
  | .local _ .vmem, ⟨37, _⟩ => ⟨S768x512, .f32⟩
  | .local _ .vmem, ⟨38, _⟩ => ⟨S8x128, .f32⟩
  | .local _ .vmem, ⟨39, _⟩ => ⟨S768x128, .f32⟩
  | .local _ .vmem, ⟨40, _⟩ => ⟨S768x128, .f32⟩
  | .local _ .vmem, ⟨41, _⟩ => ⟨S768x128, .f32⟩
  | .local _ .vmem, ⟨42, _⟩ => ⟨S768x128, .f32⟩
  | .local _ .vmem, ⟨43, _⟩ => ⟨S1024x1024, .bf16⟩
  | .local _ .vmem, ⟨44, _⟩ => ⟨S1024x1792, .bf16⟩
  | .local _ .vmem, ⟨45, _⟩ => ⟨S1024x512, .bf16⟩
  | .local _ .vmem, ⟨46, _⟩ => ⟨S768x1024, .f32⟩
  | .local _ .vmem, ⟨47, _⟩ => ⟨S768x1024, .f32⟩
  | .local _ .vmem, ⟨48, _⟩ => ⟨S768x1024, .f32⟩
  | .local _ .vmem, ⟨49, _⟩ => ⟨S768x1024, .f32⟩
  | .local _ .vmem, ⟨50, _⟩ => ⟨S8x1024, .f32⟩
  | .local _ .vmem, ⟨51, _⟩ => ⟨S1x1024, .f32⟩
  | .local _ .vmem, ⟨52, _⟩ => ⟨S768x1024, .f32⟩
  | .local _ .vmem, ⟨53, _⟩ => ⟨S768x1024, .f32⟩
  | .local _ .vmem, ⟨54, _⟩ => ⟨S768x512, .bf16⟩
  | .local _ .vmem, ⟨55, _⟩ => ⟨S768x512, .bf16⟩
  | .local _ .vmem, ⟨56, _⟩ => ⟨S8x1024, .f32⟩
  | .local _ .vmem, ⟨57, _⟩ => ⟨S8x128, .f32⟩
  | .local _ .vmem, ⟨58, _⟩ => ⟨S768x1024, .bf16⟩
  | .local _ .vmem, ⟨59, _⟩ => ⟨S768x1024, .bf16⟩
  | .local _ .vmem, ⟨60, _⟩ => ⟨S768x1024, .bf16⟩
  | .local _ .vmem, ⟨61, _⟩ => ⟨S768x1024, .bf16⟩
  | .local _ .vmem, ⟨62, _⟩ => ⟨S768x1792, .bf16⟩
  | .local _ .vmem, ⟨63, _⟩ => ⟨S768x1792, .bf16⟩
  | .local _ .vmem, ⟨64, _⟩ => ⟨S768x512, .bf16⟩
  | .local _ .vmem, ⟨65, _⟩ => ⟨S768x512, .bf16⟩
  | .local _ .vmem, ⟨66, _⟩ => ⟨S1024x1024, .f32⟩
  | .local _ .vmem, ⟨67, _⟩ => ⟨S1024x1792, .f32⟩
  | .local _ .vmem, ⟨68, _⟩ => ⟨S1024x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_c_2 : Ref sig .tc := ⟨.hbm, 18, rfl⟩
abbrev main_v0 : Ref sig .tc := ⟨.hbm, 19, rfl⟩
abbrev main_c_3 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85_0 : Ref sig .tc := ⟨.hbm, 123, rfl⟩
abbrev main_v85_1 : Ref sig .tc := ⟨.hbm, 124, rfl⟩
abbrev main_v85_2 : Ref sig .tc := ⟨.hbm, 125, rfl⟩
abbrev main_v85_3 : Ref sig .tc := ⟨.hbm, 126, rfl⟩
abbrev main_v85_4 : Ref sig .tc := ⟨.hbm, 127, rfl⟩
abbrev main_v85_5 : Ref sig .tc := ⟨.hbm, 128, rfl⟩
abbrev main_v85_6 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_15 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_16 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_17 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108_0 : Ref sig .tc := ⟨.hbm, 155, rfl⟩
abbrev main_v108_1 : Ref sig .tc := ⟨.hbm, 156, rfl⟩
abbrev main_v108_2 : Ref sig .tc := ⟨.hbm, 157, rfl⟩
abbrev main_v108_3 : Ref sig .tc := ⟨.hbm, 158, rfl⟩
abbrev main_v109_0 : Ref sig .tc := ⟨.hbm, 159, rfl⟩
abbrev main_v109_1 : Ref sig .tc := ⟨.hbm, 160, rfl⟩
abbrev main_v109_2 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg7_1 : Ref sig .tc := ⟨.vmem, 40, rfl⟩
abbrev cc1_stg8_0 : Ref sig .tc := ⟨.vmem, 41, rfl⟩
abbrev cc1_stg8_1 : Ref sig .tc := ⟨.vmem, 42, rfl⟩
abbrev cc1_stg9_0 : Ref sig .tc := ⟨.vmem, 43, rfl⟩
abbrev cc1_stg10_0 : Ref sig .tc := ⟨.vmem, 44, rfl⟩
abbrev cc1_stg11_0 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg15_0 : Ref sig .tc := ⟨.vmem, 51, rfl⟩
abbrev cc1_stg16_0 : Ref sig .tc := ⟨.vmem, 52, rfl⟩
abbrev cc1_stg16_1 : Ref sig .tc := ⟨.vmem, 53, rfl⟩
abbrev cc1_stg17_0 : Ref sig .tc := ⟨.vmem, 54, rfl⟩
abbrev cc1_stg17_1 : Ref sig .tc := ⟨.vmem, 55, rfl⟩
abbrev cc1_stg18_0 : Ref sig .tc := ⟨.vmem, 56, rfl⟩
abbrev cc1_stg19_0 : Ref sig .tc := ⟨.vmem, 57, rfl⟩
abbrev cc2_stg0_0 : Ref sig .tc := ⟨.vmem, 58, rfl⟩
abbrev cc2_stg0_1 : Ref sig .tc := ⟨.vmem, 59, rfl⟩
abbrev cc2_stg1_0 : Ref sig .tc := ⟨.vmem, 60, rfl⟩
abbrev cc2_stg1_1 : Ref sig .tc := ⟨.vmem, 61, rfl⟩
abbrev cc2_stg2_0 : Ref sig .tc := ⟨.vmem, 62, rfl⟩
abbrev cc2_stg2_1 : Ref sig .tc := ⟨.vmem, 63, rfl⟩
abbrev cc2_stg3_0 : Ref sig .tc := ⟨.vmem, 64, rfl⟩
abbrev cc2_stg3_1 : Ref sig .tc := ⟨.vmem, 65, rfl⟩
abbrev cc2_stg4_0 : Ref sig .tc := ⟨.vmem, 66, rfl⟩
abbrev cc2_stg5_0 : Ref sig .tc := ⟨.vmem, 67, rfl⟩
abbrev cc2_stg6_0 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem7_0 : DmaSem sig := 39
abbrev cc1_sem7_1 : DmaSem sig := 40
abbrev cc1_sem8_0 : DmaSem sig := 41
abbrev cc1_sem8_1 : DmaSem sig := 42
abbrev cc1_sem9_0 : DmaSem sig := 43
abbrev cc1_sem10_0 : DmaSem sig := 44
abbrev cc1_sem11_0 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem15_0 : DmaSem sig := 51
abbrev cc1_sem16_0 : DmaSem sig := 52
abbrev cc1_sem16_1 : DmaSem sig := 53
abbrev cc1_sem17_0 : DmaSem sig := 54
abbrev cc1_sem17_1 : DmaSem sig := 55
abbrev cc1_sem18_0 : DmaSem sig := 56
abbrev cc1_sem19_0 : DmaSem sig := 57
abbrev cc2_sem0_0 : DmaSem sig := 58
abbrev cc2_sem0_1 : DmaSem sig := 59
abbrev cc2_sem1_0 : DmaSem sig := 60
abbrev cc2_sem1_1 : DmaSem sig := 61
abbrev cc2_sem2_0 : DmaSem sig := 62
abbrev cc2_sem2_1 : DmaSem sig := 63
abbrev cc2_sem3_0 : DmaSem sig := 64
abbrev cc2_sem3_1 : DmaSem sig := 65
abbrev cc2_sem4_0 : DmaSem sig := 66
abbrev cc2_sem5_0 : DmaSem sig := 67
abbrev cc2_sem6_0 : DmaSem sig := 68

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x1792 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x768x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x768x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x768x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S768x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S768x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x768x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x768x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x768x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S768x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S768x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S768x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x1792 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S768x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S768x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S8x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S768x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S768x512 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S8x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S8x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S768x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S768x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S768x1792 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S768x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1792 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== ReferenceIdeal.lean ====
abbrev S8448x1024 : Shape := ⟨2, ![8448, 1024]⟩
abbrev S1024 : Shape := ⟨1, ![1024]⟩
abbrev S1024x3328 : Shape := ⟨2, ![1024, 3328]⟩
abbrev S64 : Shape := ⟨1, ![64]⟩
abbrev S8448x2560 : Shape := ⟨2, ![8448, 2560]⟩
abbrev S8448x256 : Shape := ⟨2, ![8448, 256]⟩
abbrev S8448x128 : Shape := ⟨2, ![8448, 128]⟩
abbrev S128 : Shape := ⟨1, ![128]⟩
abbrev S128x64 : Shape := ⟨2, ![128, 64]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S256x1024 : Shape := ⟨2, ![256, 1024]⟩
abbrev S8192x1024 : Shape := ⟨2, ![8192, 1024]⟩
abbrev S1x1024 : Shape := ⟨2, ![1, 1024]⟩
abbrev S256 : Shape := ⟨1, ![256]⟩
abbrev S256x1 : Shape := ⟨2, ![256, 1]⟩
abbrev S8192x3328 : Shape := ⟨2, ![8192, 3328]⟩
abbrev S256x3328 : Shape := ⟨2, ![256, 3328]⟩
abbrev S8192x256 : Shape := ⟨2, ![8192, 256]⟩
abbrev S8192x4x64 : Shape := ⟨3, ![8192, 4, 64]⟩
abbrev S8192x4 : Shape := ⟨2, ![8192, 4]⟩
abbrev S8192x4x1 : Shape := ⟨3, ![8192, 4, 1]⟩
abbrev S1x1x64 : Shape := ⟨3, ![1, 1, 64]⟩
abbrev S8192x4x32 : Shape := ⟨3, ![8192, 4, 32]⟩
abbrev S8192x4x16 : Shape := ⟨3, ![8192, 4, 16]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S8192x2x32 : Shape := ⟨3, ![8192, 2, 32]⟩
abbrev S8192x2x16 : Shape := ⟨3, ![8192, 2, 16]⟩
abbrev S256x256 : Shape := ⟨2, ![256, 256]⟩
abbrev S256x4x64 : Shape := ⟨3, ![256, 4, 64]⟩
abbrev S256x4 : Shape := ⟨2, ![256, 4]⟩
abbrev S256x4x1 : Shape := ⟨3, ![256, 4, 1]⟩
abbrev S256x128 : Shape := ⟨2, ![256, 128]⟩
abbrev S256x2x64 : Shape := ⟨3, ![256, 2, 64]⟩
abbrev S256x2 : Shape := ⟨2, ![256, 2]⟩
abbrev S256x2x1 : Shape := ⟨3, ![256, 2, 1]⟩
abbrev S256x2560 : Shape := ⟨2, ![256, 2560]⟩
abbrev S8192x2560 : Shape := ⟨2, ![8192, 2560]⟩
abbrev S8448x4x64 : Shape := ⟨3, ![8448, 4, 64]⟩
abbrev S8448x2x64 : Shape := ⟨3, ![8448, 2, 64]⟩
abbrev S3328x1024 : Shape := ⟨2, ![3328, 1024]⟩

abbrev nBuf : Space → Nat
  | .hbm => 582
  | .vmem => 0
  | .smem => 0
  | _ => 0

abbrev hbmTy0_0 (i : Nat) : BufTy := match i % 128 with
  | 0 => ⟨S8448x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024x3328, .f32⟩
  | 7 => ⟨S64, .f32⟩
  | 8 => ⟨S64, .f32⟩
  | 9 => ⟨S8448x2560, .f32⟩
  | 10 => ⟨S8448x256, .f32⟩
  | 11 => ⟨S8448x128, .f32⟩
  | 12 => ⟨S8448x128, .f32⟩
  | 13 => ⟨S8448x256, .f32⟩
  | 14 => ⟨S8448x1024, .f32⟩
  | 15 => ⟨S128, .i32⟩
  | 16 => ⟨S64, .i32⟩
  | 17 => ⟨S128x64, .i32⟩
  | 18 => ⟨S128x64, .i32⟩
  | 19 => ⟨S8192, .i32⟩
  | 20 => ⟨S8192, .f32⟩
  | 21 => ⟨S8192, .i32⟩
  | 22 => ⟨S8192, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S8192x1, .f32⟩
  | 40 => ⟨S1x16, .f32⟩
  | 41 => ⟨S8192x16, .f32⟩
  | 42 => ⟨S8192x16, .f32⟩
  | 43 => ⟨S8192x16, .f32⟩
  | 44 => ⟨S8192x1, .f32⟩
  | 45 => ⟨S1x16, .f32⟩
  | 46 => ⟨S8192x16, .f32⟩
  | 47 => ⟨S8192x16, .f32⟩
  | 48 => ⟨S8192x16, .f32⟩
  | 49 => ⟨S8192x16, .f32⟩
  | 50 => ⟨S8192x1x16, .f32⟩
  | 51 => ⟨S8192x16, .f32⟩
  | 52 => ⟨S8192x1x16, .f32⟩
  | 53 => ⟨S8192x16, .f32⟩
  | 54 => ⟨S8192x1x16, .f32⟩
  | 55 => ⟨S8192x16, .f32⟩
  | 56 => ⟨S8192x1x16, .f32⟩
  | 57 => ⟨S256x1024, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S1024, .f32⟩
  | 82 => ⟨S1x1024, .f32⟩
  | 83 => ⟨S8192x1024, .f32⟩
  | 84 => ⟨S8192x1024, .f32⟩
  | 85 => ⟨S1x1024, .f32⟩
  | 86 => ⟨S8192x1024, .f32⟩
  | 87 => ⟨S8192x1024, .f32⟩
  | 88 => ⟨S256x1024, .f32⟩
  | 89 => ⟨S_, .f32⟩
  | 90 => ⟨S256, .f32⟩
  | 91 => ⟨S256x1, .f32⟩
  | 92 => ⟨S_, .f32⟩
  | 93 => ⟨S256x1, .f32⟩
  | 94 => ⟨S256x1, .f32⟩
  | 95 => ⟨S_, .f32⟩
  | 96 => ⟨S256x1, .f32⟩
  | 97 => ⟨S256x1, .f32⟩
  | 98 => ⟨S256x1, .f32⟩
  | 99 => ⟨S256x1, .f32⟩
  | 100 => ⟨S_, .f32⟩
  | 101 => ⟨S256x1, .f32⟩
  | 102 => ⟨S256x1, .f32⟩
  | 103 => ⟨S256x1024, .f32⟩
  | 104 => ⟨S256x1024, .f32⟩
  | 105 => ⟨S1x1024, .f32⟩
  | 106 => ⟨S256x1024, .f32⟩
  | 107 => ⟨S256x1024, .f32⟩
  | 108 => ⟨S_, .f32⟩
  | 109 => ⟨S1024, .f32⟩
  | 110 => ⟨S1024, .f32⟩
  | 111 => ⟨S1x1024, .f32⟩
  | 112 => ⟨S256x1024, .f32⟩
  | 113 => ⟨S256x1024, .f32⟩
  | 114 => ⟨S1x1024, .f32⟩
  | 115 => ⟨S256x1024, .f32⟩
  | 116 => ⟨S256x1024, .f32⟩
  | 117 => ⟨S8192x3328, .f32⟩
  | 118 => ⟨S256x3328, .f32⟩
  | 119 => ⟨S8192x256, .f32⟩
  | 120 => ⟨S8192x4x64, .f32⟩
  | 121 => ⟨S8192x4x64, .f32⟩
  | 122 => ⟨S_, .f32⟩
  | 123 => ⟨S8192x4, .f32⟩
  | 124 => ⟨S8192x4x1, .f32⟩
  | 125 => ⟨S_, .f32⟩
  | 126 => ⟨S8192x4x1, .f32⟩
  | 127 => ⟨S8192x4x1, .f32⟩
  | _ => ⟨S8448x1024, .f32⟩

abbrev hbmTy0_1 (i : Nat) : BufTy := match i % 128 with
  | 0 => ⟨S_, .f32⟩
  | 1 => ⟨S8192x4x1, .f32⟩
  | 2 => ⟨S8192x4x1, .f32⟩
  | 3 => ⟨S8192x4x1, .f32⟩
  | 4 => ⟨S8192x4x1, .f32⟩
  | 5 => ⟨S_, .f32⟩
  | 6 => ⟨S8192x4x1, .f32⟩
  | 7 => ⟨S8192x4x1, .f32⟩
  | 8 => ⟨S8192x4x64, .f32⟩
  | 9 => ⟨S8192x4x64, .f32⟩
  | 10 => ⟨S1x1x64, .f32⟩
  | 11 => ⟨S8192x4x64, .f32⟩
  | 12 => ⟨S8192x4x64, .f32⟩
  | 13 => ⟨S8192x4x32, .f32⟩
  | 14 => ⟨S8192x4x32, .f32⟩
  | 15 => ⟨S8192x4x16, .f32⟩
  | 16 => ⟨S8192x4x16, .f32⟩
  | 17 => ⟨S8192x4x16, .f32⟩
  | 18 => ⟨S8192x4x16, .f32⟩
  | 19 => ⟨S8192x4x16, .f32⟩
  | 20 => ⟨S8192x4x16, .f32⟩
  | 21 => ⟨S8192x4x16, .f32⟩
  | 22 => ⟨S8192x4x16, .f32⟩
  | 23 => ⟨S8192x4x16, .f32⟩
  | 24 => ⟨S8192x4x16, .f32⟩
  | 25 => ⟨S8192x4x16, .f32⟩
  | 26 => ⟨S8192x4x16, .f32⟩
  | 27 => ⟨S8192x4x32, .f32⟩
  | 28 => ⟨S8192x4x16, .f32⟩
  | 29 => ⟨S8192x4x16, .f32⟩
  | 30 => ⟨S8192x4x16, .f32⟩
  | 31 => ⟨S8192x4x16, .f32⟩
  | 32 => ⟨S8192x4x16, .f32⟩
  | 33 => ⟨S8192x4x16, .f32⟩
  | 34 => ⟨S8192x4x16, .f32⟩
  | 35 => ⟨S8192x4x16, .f32⟩
  | 36 => ⟨S8192x4x16, .f32⟩
  | 37 => ⟨S8192x4x16, .f32⟩
  | 38 => ⟨S8192x4x16, .f32⟩
  | 39 => ⟨S8192x4x16, .f32⟩
  | 40 => ⟨S8192x4x32, .f32⟩
  | 41 => ⟨S8192x4x64, .f32⟩
  | 42 => ⟨S8192x128, .f32⟩
  | 43 => ⟨S8192x2x64, .f32⟩
  | 44 => ⟨S8192x2x64, .f32⟩
  | 45 => ⟨S_, .f32⟩
  | 46 => ⟨S8192x2, .f32⟩
  | 47 => ⟨S8192x2x1, .f32⟩
  | 48 => ⟨S_, .f32⟩
  | 49 => ⟨S8192x2x1, .f32⟩
  | 50 => ⟨S8192x2x1, .f32⟩
  | 51 => ⟨S_, .f32⟩
  | 52 => ⟨S8192x2x1, .f32⟩
  | 53 => ⟨S8192x2x1, .f32⟩
  | 54 => ⟨S8192x2x1, .f32⟩
  | 55 => ⟨S8192x2x1, .f32⟩
  | 56 => ⟨S_, .f32⟩
  | 57 => ⟨S8192x2x1, .f32⟩
  | 58 => ⟨S8192x2x1, .f32⟩
  | 59 => ⟨S8192x2x64, .f32⟩
  | 60 => ⟨S8192x2x64, .f32⟩
  | 61 => ⟨S1x1x64, .f32⟩
  | 62 => ⟨S8192x2x64, .f32⟩
  | 63 => ⟨S8192x2x64, .f32⟩
  | 64 => ⟨S8192x2x32, .f32⟩
  | 65 => ⟨S8192x2x32, .f32⟩
  | 66 => ⟨S8192x2x16, .f32⟩
  | 67 => ⟨S8192x2x16, .f32⟩
  | 68 => ⟨S8192x2x16, .f32⟩
  | 69 => ⟨S8192x2x16, .f32⟩
  | 70 => ⟨S8192x2x16, .f32⟩
  | 71 => ⟨S8192x2x16, .f32⟩
  | 72 => ⟨S8192x2x16, .f32⟩
  | 73 => ⟨S8192x2x16, .f32⟩
  | 74 => ⟨S8192x2x16, .f32⟩
  | 75 => ⟨S8192x2x16, .f32⟩
  | 76 => ⟨S8192x2x16, .f32⟩
  | 77 => ⟨S8192x2x16, .f32⟩
  | 78 => ⟨S8192x2x32, .f32⟩
  | 79 => ⟨S8192x2x16, .f32⟩
  | 80 => ⟨S8192x2x16, .f32⟩
  | 81 => ⟨S8192x2x16, .f32⟩
  | 82 => ⟨S8192x2x16, .f32⟩
  | 83 => ⟨S8192x2x16, .f32⟩
  | 84 => ⟨S8192x2x16, .f32⟩
  | 85 => ⟨S8192x2x16, .f32⟩
  | 86 => ⟨S8192x2x16, .f32⟩
  | 87 => ⟨S8192x2x16, .f32⟩
  | 88 => ⟨S8192x2x16, .f32⟩
  | 89 => ⟨S8192x2x16, .f32⟩
  | 90 => ⟨S8192x2x16, .f32⟩
  | 91 => ⟨S8192x2x32, .f32⟩
  | 92 => ⟨S8192x2x64, .f32⟩
  | 93 => ⟨S256x256, .f32⟩
  | 94 => ⟨S256x4x64, .f32⟩
  | 95 => ⟨S256x4x64, .f32⟩
  | 96 => ⟨S_, .f32⟩
  | 97 => ⟨S256x4, .f32⟩
  | 98 => ⟨S256x4x1, .f32⟩
  | 99 => ⟨S_, .f32⟩
  | 100 => ⟨S256x4x1, .f32⟩
  | 101 => ⟨S256x4x1, .f32⟩
  | 102 => ⟨S_, .f32⟩
  | 103 => ⟨S256x4x1, .f32⟩
  | 104 => ⟨S256x4x1, .f32⟩
  | 105 => ⟨S256x4x1, .f32⟩
  | 106 => ⟨S256x4x1, .f32⟩
  | 107 => ⟨S_, .f32⟩
  | 108 => ⟨S256x4x1, .f32⟩
  | 109 => ⟨S256x4x1, .f32⟩
  | 110 => ⟨S256x4x64, .f32⟩
  | 111 => ⟨S256x4x64, .f32⟩
  | 112 => ⟨S1x1x64, .f32⟩
  | 113 => ⟨S256x4x64, .f32⟩
  | 114 => ⟨S256x4x64, .f32⟩
  | 115 => ⟨S256x128, .f32⟩
  | 116 => ⟨S256x2x64, .f32⟩
  | 117 => ⟨S256x2x64, .f32⟩
  | 118 => ⟨S_, .f32⟩
  | 119 => ⟨S256x2, .f32⟩
  | 120 => ⟨S256x2x1, .f32⟩
  | 121 => ⟨S_, .f32⟩
  | 122 => ⟨S256x2x1, .f32⟩
  | 123 => ⟨S256x2x1, .f32⟩
  | 124 => ⟨S_, .f32⟩
  | 125 => ⟨S256x2x1, .f32⟩
  | 126 => ⟨S256x2x1, .f32⟩
  | 127 => ⟨S256x2x1, .f32⟩
  | _ => ⟨S8448x1024, .f32⟩

abbrev hbmTy0_2 (i : Nat) : BufTy := match i % 128 with
  | 0 => ⟨S256x2x1, .f32⟩
  | 1 => ⟨S_, .f32⟩
  | 2 => ⟨S256x2x1, .f32⟩
  | 3 => ⟨S256x2x1, .f32⟩
  | 4 => ⟨S256x2x64, .f32⟩
  | 5 => ⟨S256x2x64, .f32⟩
  | 6 => ⟨S1x1x64, .f32⟩
  | 7 => ⟨S256x2x64, .f32⟩
  | 8 => ⟨S256x2x64, .f32⟩
  | 9 => ⟨S256x2560, .f32⟩
  | 10 => ⟨S8192x2560, .f32⟩
  | 11 => ⟨S8448x2560, .f32⟩
  | 12 => ⟨S8448x4x64, .f32⟩
  | 13 => ⟨S8448x256, .f32⟩
  | 14 => ⟨S_, .f32⟩
  | 15 => ⟨S8448x256, .f32⟩
  | 16 => ⟨S8448x256, .f32⟩
  | 17 => ⟨S8448x2x64, .f32⟩
  | 18 => ⟨S8448x128, .f32⟩
  | 19 => ⟨S256x128, .f32⟩
  | 20 => ⟨S8192x128, .f32⟩
  | 21 => ⟨S8448x128, .f32⟩
  | 22 => ⟨S256x256, .f32⟩
  | 23 => ⟨S8192x256, .f32⟩
  | 24 => ⟨S8448x256, .f32⟩
  | 25 => ⟨S256x256, .f32⟩
  | 26 => ⟨S8192x256, .f32⟩
  | 27 => ⟨S_, .f32⟩
  | 28 => ⟨S8192x3328, .f32⟩
  | 29 => ⟨S_, .f32⟩
  | 30 => ⟨S256x3328, .f32⟩
  | 31 => ⟨S256x128, .f32⟩
  | 32 => ⟨S8192x128, .f32⟩
  | 33 => ⟨S_, .f32⟩
  | 34 => ⟨S8192x3328, .f32⟩
  | 35 => ⟨S8192x3328, .f32⟩
  | 36 => ⟨S_, .f32⟩
  | 37 => ⟨S256x3328, .f32⟩
  | 38 => ⟨S256x3328, .f32⟩
  | 39 => ⟨S8448x2x64, .f32⟩
  | 40 => ⟨S256x2x64, .f32⟩
  | 41 => ⟨S8192x2x64, .f32⟩
  | 42 => ⟨S_, .f32⟩
  | 43 => ⟨S8448x256, .f32⟩
  | 44 => ⟨S8448x256, .f32⟩
  | 45 => ⟨S8448x4x64, .f32⟩
  | 46 => ⟨S256x4x64, .f32⟩
  | 47 => ⟨S8192x4x64, .f32⟩
  | 48 => ⟨S256x2560, .f32⟩
  | 49 => ⟨S8192x2560, .f32⟩
  | 50 => ⟨S_, .f32⟩
  | 51 => ⟨S8192x3328, .f32⟩
  | 52 => ⟨S8192x3328, .f32⟩
  | 53 => ⟨S_, .f32⟩
  | 54 => ⟨S256x3328, .f32⟩
  | 55 => ⟨S256x3328, .f32⟩
  | 56 => ⟨S256x2x64, .f32⟩
  | 57 => ⟨S_, .f32⟩
  | 58 => ⟨S64, .f32⟩
  | 59 => ⟨S1x1x64, .f32⟩
  | 60 => ⟨S256x2x64, .f32⟩
  | 61 => ⟨S256x2x64, .f32⟩
  | 62 => ⟨S_, .f32⟩
  | 63 => ⟨S64, .f32⟩
  | 64 => ⟨S256x2x64, .f32⟩
  | 65 => ⟨S_, .f32⟩
  | 66 => ⟨S256x2, .f32⟩
  | 67 => ⟨S256x2x1, .f32⟩
  | 68 => ⟨S256x2x64, .f32⟩
  | 69 => ⟨S256x2x64, .f32⟩
  | 70 => ⟨S256x2x1, .f32⟩
  | 71 => ⟨S_, .f32⟩
  | 72 => ⟨S256x2x1, .f32⟩
  | 73 => ⟨S256x2x1, .f32⟩
  | 74 => ⟨S_, .f32⟩
  | 75 => ⟨S256x2, .f32⟩
  | 76 => ⟨S256x2x64, .f32⟩
  | 77 => ⟨S256x2x64, .f32⟩
  | 78 => ⟨S256x2x64, .f32⟩
  | 79 => ⟨S256x2x64, .f32⟩
  | 80 => ⟨S256x2x64, .f32⟩
  | 81 => ⟨S256x128, .f32⟩
  | 82 => ⟨S_, .f32⟩
  | 83 => ⟨S256x3328, .f32⟩
  | 84 => ⟨S256x3328, .f32⟩
  | 85 => ⟨S256x4x64, .f32⟩
  | 86 => ⟨S_, .f32⟩
  | 87 => ⟨S64, .f32⟩
  | 88 => ⟨S1x1x64, .f32⟩
  | 89 => ⟨S256x4x64, .f32⟩
  | 90 => ⟨S256x4x64, .f32⟩
  | 91 => ⟨S_, .f32⟩
  | 92 => ⟨S64, .f32⟩
  | 93 => ⟨S256x4x64, .f32⟩
  | 94 => ⟨S_, .f32⟩
  | 95 => ⟨S256x4, .f32⟩
  | 96 => ⟨S256x4x1, .f32⟩
  | 97 => ⟨S256x4x64, .f32⟩
  | 98 => ⟨S256x4x64, .f32⟩
  | 99 => ⟨S256x4x1, .f32⟩
  | 100 => ⟨S_, .f32⟩
  | 101 => ⟨S256x4x1, .f32⟩
  | 102 => ⟨S256x4x1, .f32⟩
  | 103 => ⟨S_, .f32⟩
  | 104 => ⟨S256x4, .f32⟩
  | 105 => ⟨S256x4x64, .f32⟩
  | 106 => ⟨S256x4x64, .f32⟩
  | 107 => ⟨S256x4x64, .f32⟩
  | 108 => ⟨S256x4x64, .f32⟩
  | 109 => ⟨S256x4x64, .f32⟩
  | 110 => ⟨S256x256, .f32⟩
  | 111 => ⟨S_, .f32⟩
  | 112 => ⟨S256x3328, .f32⟩
  | 113 => ⟨S256x3328, .f32⟩
  | 114 => ⟨S8192x2x32, .f32⟩
  | 115 => ⟨S8192x2x32, .f32⟩
  | 116 => ⟨S8192x2x16, .f32⟩
  | 117 => ⟨S8192x2x16, .f32⟩
  | 118 => ⟨S8192x2x16, .f32⟩
  | 119 => ⟨S8192x2x16, .f32⟩
  | 120 => ⟨S8192x2x16, .f32⟩
  | 121 => ⟨S8192x2x16, .f32⟩
  | 122 => ⟨S8192x2x16, .f32⟩
  | 123 => ⟨S8192x2x16, .f32⟩
  | 124 => ⟨S8192x2x16, .f32⟩
  | 125 => ⟨S8192x2x16, .f32⟩
  | 126 => ⟨S8192x2x16, .f32⟩
  | 127 => ⟨S8192x2x16, .f32⟩
  | _ => ⟨S8448x1024, .f32⟩

abbrev hbmTy0_3 (i : Nat) : BufTy := match i % 128 with
  | 0 => ⟨S8192x2x16, .f32⟩
  | 1 => ⟨S8192x2x32, .f32⟩
  | 2 => ⟨S8192x2x16, .f32⟩
  | 3 => ⟨S8192x2x16, .f32⟩
  | 4 => ⟨S8192x2x16, .f32⟩
  | 5 => ⟨S8192x2x16, .f32⟩
  | 6 => ⟨S8192x2x16, .f32⟩
  | 7 => ⟨S8192x2x16, .f32⟩
  | 8 => ⟨S8192x2x16, .f32⟩
  | 9 => ⟨S8192x2x16, .f32⟩
  | 10 => ⟨S8192x2x16, .f32⟩
  | 11 => ⟨S8192x2x16, .f32⟩
  | 12 => ⟨S8192x2x16, .f32⟩
  | 13 => ⟨S8192x2x16, .f32⟩
  | 14 => ⟨S8192x2x16, .f32⟩
  | 15 => ⟨S8192x2x32, .f32⟩
  | 16 => ⟨S8192x2x64, .f32⟩
  | 17 => ⟨S8192x2x64, .f32⟩
  | 18 => ⟨S_, .f32⟩
  | 19 => ⟨S64, .f32⟩
  | 20 => ⟨S1x1x64, .f32⟩
  | 21 => ⟨S8192x2x64, .f32⟩
  | 22 => ⟨S8192x2x64, .f32⟩
  | 23 => ⟨S_, .f32⟩
  | 24 => ⟨S64, .f32⟩
  | 25 => ⟨S64, .f32⟩
  | 26 => ⟨S8192x2x64, .f32⟩
  | 27 => ⟨S_, .f32⟩
  | 28 => ⟨S8192x2, .f32⟩
  | 29 => ⟨S8192x2x1, .f32⟩
  | 30 => ⟨S8192x2x64, .f32⟩
  | 31 => ⟨S8192x2x64, .f32⟩
  | 32 => ⟨S8192x2x1, .f32⟩
  | 33 => ⟨S_, .f32⟩
  | 34 => ⟨S8192x2x1, .f32⟩
  | 35 => ⟨S8192x2x1, .f32⟩
  | 36 => ⟨S_, .f32⟩
  | 37 => ⟨S8192x2, .f32⟩
  | 38 => ⟨S8192x2x64, .f32⟩
  | 39 => ⟨S8192x2x64, .f32⟩
  | 40 => ⟨S8192x2x64, .f32⟩
  | 41 => ⟨S8192x2x64, .f32⟩
  | 42 => ⟨S8192x2x64, .f32⟩
  | 43 => ⟨S8192x128, .f32⟩
  | 44 => ⟨S_, .f32⟩
  | 45 => ⟨S8192x3328, .f32⟩
  | 46 => ⟨S8192x3328, .f32⟩
  | 47 => ⟨S8192x4x32, .f32⟩
  | 48 => ⟨S8192x4x32, .f32⟩
  | 49 => ⟨S8192x4x16, .f32⟩
  | 50 => ⟨S8192x4x16, .f32⟩
  | 51 => ⟨S8192x4x16, .f32⟩
  | 52 => ⟨S8192x4x16, .f32⟩
  | 53 => ⟨S8192x4x16, .f32⟩
  | 54 => ⟨S8192x4x16, .f32⟩
  | 55 => ⟨S8192x4x16, .f32⟩
  | 56 => ⟨S8192x4x16, .f32⟩
  | 57 => ⟨S8192x4x16, .f32⟩
  | 58 => ⟨S8192x4x16, .f32⟩
  | 59 => ⟨S8192x4x16, .f32⟩
  | 60 => ⟨S8192x4x16, .f32⟩
  | 61 => ⟨S8192x4x16, .f32⟩
  | 62 => ⟨S8192x4x32, .f32⟩
  | 63 => ⟨S8192x4x16, .f32⟩
  | 64 => ⟨S8192x4x16, .f32⟩
  | 65 => ⟨S8192x4x16, .f32⟩
  | 66 => ⟨S8192x4x16, .f32⟩
  | 67 => ⟨S8192x4x16, .f32⟩
  | 68 => ⟨S8192x4x16, .f32⟩
  | 69 => ⟨S8192x4x16, .f32⟩
  | 70 => ⟨S8192x4x16, .f32⟩
  | 71 => ⟨S8192x4x16, .f32⟩
  | 72 => ⟨S8192x4x16, .f32⟩
  | 73 => ⟨S8192x4x16, .f32⟩
  | 74 => ⟨S8192x4x16, .f32⟩
  | 75 => ⟨S8192x4x16, .f32⟩
  | 76 => ⟨S8192x4x32, .f32⟩
  | 77 => ⟨S8192x4x64, .f32⟩
  | 78 => ⟨S8192x4x64, .f32⟩
  | 79 => ⟨S_, .f32⟩
  | 80 => ⟨S64, .f32⟩
  | 81 => ⟨S1x1x64, .f32⟩
  | 82 => ⟨S8192x4x64, .f32⟩
  | 83 => ⟨S8192x4x64, .f32⟩
  | 84 => ⟨S_, .f32⟩
  | 85 => ⟨S64, .f32⟩
  | 86 => ⟨S64, .f32⟩
  | 87 => ⟨S8192x4x64, .f32⟩
  | 88 => ⟨S_, .f32⟩
  | 89 => ⟨S8192x4, .f32⟩
  | 90 => ⟨S8192x4x1, .f32⟩
  | 91 => ⟨S8192x4x64, .f32⟩
  | 92 => ⟨S8192x4x64, .f32⟩
  | 93 => ⟨S8192x4x1, .f32⟩
  | 94 => ⟨S_, .f32⟩
  | 95 => ⟨S8192x4x1, .f32⟩
  | 96 => ⟨S8192x4x1, .f32⟩
  | 97 => ⟨S_, .f32⟩
  | 98 => ⟨S8192x4, .f32⟩
  | 99 => ⟨S8192x4x64, .f32⟩
  | 100 => ⟨S8192x4x64, .f32⟩
  | 101 => ⟨S8192x4x64, .f32⟩
  | 102 => ⟨S8192x4x64, .f32⟩
  | 103 => ⟨S8192x4x64, .f32⟩
  | 104 => ⟨S8192x256, .f32⟩
  | 105 => ⟨S_, .f32⟩
  | 106 => ⟨S8192x3328, .f32⟩
  | 107 => ⟨S8192x3328, .f32⟩
  | 108 => ⟨S3328x1024, .f32⟩
  | 109 => ⟨S1024x3328, .f32⟩
  | 110 => ⟨S256x1024, .f32⟩
  | 111 => ⟨S3328x1024, .f32⟩
  | 112 => ⟨S1024x3328, .f32⟩
  | 113 => ⟨S1024x3328, .f32⟩
  | 114 => ⟨S8192x1024, .f32⟩
  | 115 => ⟨S_, .f32⟩
  | 116 => ⟨S1024, .f32⟩
  | 117 => ⟨S1x1024, .f32⟩
  | 118 => ⟨S_, .f32⟩
  | 119 => ⟨S1024, .f32⟩
  | 120 => ⟨S256x1024, .f32⟩
  | 121 => ⟨S_, .f32⟩
  | 122 => ⟨S1024, .f32⟩
  | 123 => ⟨S1x1024, .f32⟩
  | 124 => ⟨S256x1024, .f32⟩
  | 125 => ⟨S256x1024, .f32⟩
  | 126 => ⟨S_, .f32⟩
  | 127 => ⟨S1024, .f32⟩
  | _ => ⟨S8448x1024, .f32⟩

abbrev hbmTy0_4 (i : Nat) : BufTy := match i % 128 with
  | 0 => ⟨S256x1024, .f32⟩
  | 1 => ⟨S_, .f32⟩
  | 2 => ⟨S1024, .f32⟩
  | 3 => ⟨S1x1024, .f32⟩
  | 4 => ⟨S256x1024, .f32⟩
  | 5 => ⟨S256x1024, .f32⟩
  | 6 => ⟨S_, .f32⟩
  | 7 => ⟨S1024, .f32⟩
  | 8 => ⟨S256x1024, .f32⟩
  | 9 => ⟨S_, .f32⟩
  | 10 => ⟨S256, .f32⟩
  | 11 => ⟨S256x1, .f32⟩
  | 12 => ⟨S256x1024, .f32⟩
  | 13 => ⟨S256x1024, .f32⟩
  | 14 => ⟨S256x1, .f32⟩
  | 15 => ⟨S_, .f32⟩
  | 16 => ⟨S256x1, .f32⟩
  | 17 => ⟨S256x1, .f32⟩
  | 18 => ⟨S_, .f32⟩
  | 19 => ⟨S256, .f32⟩
  | 20 => ⟨S256x1024, .f32⟩
  | 21 => ⟨S256x1024, .f32⟩
  | 22 => ⟨S256x1024, .f32⟩
  | 23 => ⟨S256x1024, .f32⟩
  | 24 => ⟨S256x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S8192x1024, .f32⟩
  | 31 => ⟨S_, .f32⟩
  | 32 => ⟨S1024, .f32⟩
  | 33 => ⟨S1x1024, .f32⟩
  | 34 => ⟨S8192x1024, .f32⟩
  | 35 => ⟨S8192x1024, .f32⟩
  | 36 => ⟨S_, .f32⟩
  | 37 => ⟨S1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S_, .f32⟩
  | 45 => ⟨S1024, .f32⟩
  | 46 => ⟨S1024, .f32⟩
  | 47 => ⟨S8192x1024, .f32⟩
  | 48 => ⟨S_, .f32⟩
  | 49 => ⟨S8192, .f32⟩
  | 50 => ⟨S8192x1, .f32⟩
  | 51 => ⟨S8192x1024, .f32⟩
  | 52 => ⟨S8192x1024, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8448x1024, .f32⟩
  | 66 => ⟨S8448x1024, .f32⟩
  | 67 => ⟨S_, .f32⟩
  | 68 => ⟨S8448x1024, .f32⟩
  | 69 => ⟨S8448x1024, .f32⟩
  | _ => ⟨S8448x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_13 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_v93 : Ref sig .tc := ⟨.hbm, 124, rfl⟩
abbrev main_cst_15 : Ref sig .tc := ⟨.hbm, 125, rfl⟩
abbrev main_v94 : Ref sig .tc := ⟨.hbm, 126, rfl⟩
abbrev main_v95 : Ref sig .tc := ⟨.hbm, 127, rfl⟩
abbrev main_cst_16 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_17 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_18 : Ref sig .tc := ⟨.hbm, 173, rfl⟩
abbrev main_v139 : Ref sig .tc := ⟨.hbm, 174, rfl⟩
abbrev main_v140 : Ref sig .tc := ⟨.hbm, 175, rfl⟩
abbrev main_cst_19 : Ref sig .tc := ⟨.hbm, 176, rfl⟩
abbrev main_v141 : Ref sig .tc := ⟨.hbm, 177, rfl⟩
abbrev main_v142 : Ref sig .tc := ⟨.hbm, 178, rfl⟩
abbrev main_cst_20 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_21 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_cst_22 : Ref sig .tc := ⟨.hbm, 224, rfl⟩
abbrev main_v186 : Ref sig .tc := ⟨.hbm, 225, rfl⟩
abbrev main_v187 : Ref sig .tc := ⟨.hbm, 226, rfl⟩
abbrev main_cst_23 : Ref sig .tc := ⟨.hbm, 227, rfl⟩
abbrev main_v188 : Ref sig .tc := ⟨.hbm, 228, rfl⟩
abbrev main_v189 : Ref sig .tc := ⟨.hbm, 229, rfl⟩
abbrev main_cst_24 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_cst_25 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_cst_26 : Ref sig .tc := ⟨.hbm, 246, rfl⟩
abbrev main_v204 : Ref sig .tc := ⟨.hbm, 247, rfl⟩
abbrev main_v205 : Ref sig .tc := ⟨.hbm, 248, rfl⟩
abbrev main_cst_27 : Ref sig .tc := ⟨.hbm, 249, rfl⟩
abbrev main_v206 : Ref sig .tc := ⟨.hbm, 250, rfl⟩
abbrev main_v207 : Ref sig .tc := ⟨.hbm, 251, rfl⟩
abbrev main_cst_28 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_cst_29 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_cst_30 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_cst_31 : Ref sig .tc := ⟨.hbm, 283, rfl⟩
abbrev main_v236 : Ref sig .tc := ⟨.hbm, 284, rfl⟩
abbrev main_cst_32 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_cst_33 : Ref sig .tc := ⟨.hbm, 289, rfl⟩
abbrev main_v240 : Ref sig .tc := ⟨.hbm, 290, rfl⟩
abbrev main_v241 : Ref sig .tc := ⟨.hbm, 291, rfl⟩
abbrev main_cst_34 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_cst_35 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_cst_36 : Ref sig .tc := ⟨.hbm, 306, rfl⟩
abbrev main_v254 : Ref sig .tc := ⟨.hbm, 307, rfl⟩
abbrev main_v255 : Ref sig .tc := ⟨.hbm, 308, rfl⟩
abbrev main_cst_37 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_cst_38 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_cst_39 : Ref sig .tc := ⟨.hbm, 318, rfl⟩
abbrev main_v263 : Ref sig .tc := ⟨.hbm, 319, rfl⟩
abbrev main_v264 : Ref sig .tc := ⟨.hbm, 320, rfl⟩
abbrev main_cst_40 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_cst_41 : Ref sig .tc := ⟨.hbm, 327, rfl⟩
abbrev main_v270 : Ref sig .tc := ⟨.hbm, 328, rfl⟩
abbrev main_v271 : Ref sig .tc := ⟨.hbm, 329, rfl⟩
abbrev main_cst_42 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_cst_43 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_cst_44 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_cst_45 : Ref sig .tc := ⟨.hbm, 347, rfl⟩
abbrev main_v286 : Ref sig .tc := ⟨.hbm, 348, rfl⟩
abbrev main_v287 : Ref sig .tc := ⟨.hbm, 349, rfl⟩
abbrev main_cst_46 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_cst_47 : Ref sig .tc := ⟨.hbm, 356, rfl⟩
abbrev main_v293 : Ref sig .tc := ⟨.hbm, 357, rfl⟩
abbrev main_v294 : Ref sig .tc := ⟨.hbm, 358, rfl⟩
abbrev main_cst_48 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_cst_49 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_cst_50 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_v339 : Ref sig .tc := ⟨.hbm, 406, rfl⟩
abbrev main_cst_51 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_cst_52 : Ref sig .tc := ⟨.hbm, 411, rfl⟩
abbrev main_v343 : Ref sig .tc := ⟨.hbm, 412, rfl⟩
abbrev main_v344 : Ref sig .tc := ⟨.hbm, 413, rfl⟩
abbrev main_v345 : Ref sig .tc := ⟨.hbm, 414, rfl⟩
abbrev main_v346 : Ref sig .tc := ⟨.hbm, 415, rfl⟩
abbrev main_v347 : Ref sig .tc := ⟨.hbm, 416, rfl⟩
abbrev main_cst_53 : Ref sig .tc := ⟨.hbm, 417, rfl⟩
abbrev main_v348 : Ref sig .tc := ⟨.hbm, 418, rfl⟩
abbrev main_v349 : Ref sig .tc := ⟨.hbm, 419, rfl⟩
abbrev main_cst_54 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_cst_55 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_cst_56 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩
abbrev main_cst_57 : Ref sig .tc := ⟨.hbm, 468, rfl⟩
abbrev main_v395 : Ref sig .tc := ⟨.hbm, 469, rfl⟩
abbrev main_v396 : Ref sig .tc := ⟨.hbm, 470, rfl⟩
abbrev main_v397 : Ref sig .tc := ⟨.hbm, 471, rfl⟩
abbrev main_cst_58 : Ref sig .tc := ⟨.hbm, 472, rfl⟩
abbrev main_v398 : Ref sig .tc := ⟨.hbm, 473, rfl⟩
abbrev main_v399 : Ref sig .tc := ⟨.hbm, 474, rfl⟩
abbrev main_v400 : Ref sig .tc := ⟨.hbm, 475, rfl⟩
abbrev main_v401 : Ref sig .tc := ⟨.hbm, 476, rfl⟩
abbrev main_v402 : Ref sig .tc := ⟨.hbm, 477, rfl⟩
abbrev main_cst_59 : Ref sig .tc := ⟨.hbm, 478, rfl⟩
abbrev main_v403 : Ref sig .tc := ⟨.hbm, 479, rfl⟩
abbrev main_v404 : Ref sig .tc := ⟨.hbm, 480, rfl⟩
abbrev main_cst_60 : Ref sig .tc := ⟨.hbm, 481, rfl⟩
abbrev main_v405 : Ref sig .tc := ⟨.hbm, 482, rfl⟩
abbrev main_v406 : Ref sig .tc := ⟨.hbm, 483, rfl⟩
abbrev main_v407 : Ref sig .tc := ⟨.hbm, 484, rfl⟩
abbrev main_v408 : Ref sig .tc := ⟨.hbm, 485, rfl⟩
abbrev main_v409 : Ref sig .tc := ⟨.hbm, 486, rfl⟩
abbrev main_v410 : Ref sig .tc := ⟨.hbm, 487, rfl⟩
abbrev main_v411 : Ref sig .tc := ⟨.hbm, 488, rfl⟩
abbrev main_cst_61 : Ref sig .tc := ⟨.hbm, 489, rfl⟩
abbrev main_v412 : Ref sig .tc := ⟨.hbm, 490, rfl⟩
abbrev main_v413 : Ref sig .tc := ⟨.hbm, 491, rfl⟩
abbrev main_v414 : Ref sig .tc := ⟨.hbm, 492, rfl⟩
abbrev main_v415 : Ref sig .tc := ⟨.hbm, 493, rfl⟩
abbrev main_v416 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_v420 : Ref sig .tc := ⟨.hbm, 498, rfl⟩
abbrev main_cst_62 : Ref sig .tc := ⟨.hbm, 499, rfl⟩
abbrev main_v421 : Ref sig .tc := ⟨.hbm, 500, rfl⟩
abbrev main_v422 : Ref sig .tc := ⟨.hbm, 501, rfl⟩
abbrev main_cst_63 : Ref sig .tc := ⟨.hbm, 502, rfl⟩
abbrev main_v423 : Ref sig .tc := ⟨.hbm, 503, rfl⟩
abbrev main_v424 : Ref sig .tc := ⟨.hbm, 504, rfl⟩
abbrev main_cst_64 : Ref sig .tc := ⟨.hbm, 505, rfl⟩
abbrev main_v425 : Ref sig .tc := ⟨.hbm, 506, rfl⟩
abbrev main_v426 : Ref sig .tc := ⟨.hbm, 507, rfl⟩
abbrev main_v427 : Ref sig .tc := ⟨.hbm, 508, rfl⟩
abbrev main_v428 : Ref sig .tc := ⟨.hbm, 509, rfl⟩
abbrev main_cst_65 : Ref sig .tc := ⟨.hbm, 510, rfl⟩
abbrev main_v429 : Ref sig .tc := ⟨.hbm, 511, rfl⟩
abbrev main_v430 : Ref sig .tc := ⟨.hbm, 512, rfl⟩
abbrev main_cst_66 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_cst_67 : Ref sig .tc := ⟨.hbm, 518, rfl⟩
abbrev main_v435 : Ref sig .tc := ⟨.hbm, 519, rfl⟩
abbrev main_v436 : Ref sig .tc := ⟨.hbm, 520, rfl⟩
abbrev main_cst_68 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_cst_69 : Ref sig .tc := ⟨.hbm, 527, rfl⟩
abbrev main_v442 : Ref sig .tc := ⟨.hbm, 528, rfl⟩
abbrev main_v443 : Ref sig .tc := ⟨.hbm, 529, rfl⟩
abbrev main_cst_70 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_v447 : Ref sig .tc := ⟨.hbm, 534, rfl⟩
abbrev main_v448 : Ref sig .tc := ⟨.hbm, 535, rfl⟩
abbrev main_v449 : Ref sig .tc := ⟨.hbm, 536, rfl⟩
abbrev main_cst_71 : Ref sig .tc := ⟨.hbm, 537, rfl⟩
abbrev main_v450 : Ref sig .tc := ⟨.hbm, 538, rfl⟩
abbrev main_v451 : Ref sig .tc := ⟨.hbm, 539, rfl⟩
abbrev main_cst_72 : Ref sig .tc := ⟨.hbm, 540, rfl⟩
abbrev main_v452 : Ref sig .tc := ⟨.hbm, 541, rfl⟩
abbrev main_v453 : Ref sig .tc := ⟨.hbm, 542, rfl⟩
abbrev main_cst_73 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_cst_74 : Ref sig .tc := ⟨.hbm, 548, rfl⟩
abbrev main_v458 : Ref sig .tc := ⟨.hbm, 549, rfl⟩
abbrev main_v459 : Ref sig .tc := ⟨.hbm, 550, rfl⟩
abbrev main_cst_75 : Ref sig .tc := ⟨.hbm, 551, rfl⟩
abbrev main_v460 : Ref sig .tc := ⟨.hbm, 552, rfl⟩
abbrev main_v461 : Ref sig .tc := ⟨.hbm, 553, rfl⟩
abbrev main_v462 : Ref sig .tc := ⟨.hbm, 554, rfl⟩
abbrev main_v463 : Ref sig .tc := ⟨.hbm, 555, rfl⟩
abbrev main_cst_76 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_cst_77 : Ref sig .tc := ⟨.hbm, 560, rfl⟩
abbrev main_v467 : Ref sig .tc := ⟨.hbm, 561, rfl⟩
abbrev main_v468 : Ref sig .tc := ⟨.hbm, 562, rfl⟩
abbrev main_v469 : Ref sig .tc := ⟨.hbm, 563, rfl⟩
abbrev main_v470 : Ref sig .tc := ⟨.hbm, 564, rfl⟩
abbrev main_v471 : Ref sig .tc := ⟨.hbm, 565, rfl⟩
abbrev main_cst_78 : Ref sig .tc := ⟨.hbm, 566, rfl⟩
abbrev main_v472 : Ref sig .tc := ⟨.hbm, 567, rfl⟩
abbrev main_v473 : Ref sig .tc := ⟨.hbm, 568, rfl⟩
abbrev main_cst_79 : Ref sig .tc := ⟨.hbm, 569, rfl⟩
abbrev main_v474 : Ref sig .tc := ⟨.hbm, 570, rfl⟩
abbrev main_v475 : Ref sig .tc := ⟨.hbm, 571, rfl⟩
abbrev main_v476 : Ref sig .tc := ⟨.hbm, 572, rfl⟩
abbrev main_v477 : Ref sig .tc := ⟨.hbm, 573, rfl⟩
abbrev main_v478 : Ref sig .tc := ⟨.hbm, 574, rfl⟩
abbrev main_v479 : Ref sig .tc := ⟨.hbm, 575, rfl⟩
abbrev main_cst_80 : Ref sig .tc := ⟨.hbm, 576, rfl⟩
abbrev main_v480 : Ref sig .tc := ⟨.hbm, 577, rfl⟩
abbrev main_v481 : Ref sig .tc := ⟨.hbm, 578, rfl⟩
abbrev main_cst_81 : Ref sig .tc := ⟨.hbm, 579, rfl⟩
abbrev main_v482 : Ref sig .tc := ⟨.hbm, 580, rfl⟩
abbrev main_v483 : Ref sig .tc := ⟨.hbm, 581, rfl⟩

abbrev nD : Nat := 1
abbrev τ : Topo := Topo.v7x

variable {F : FTy → Type} [FloatOps F]
-- ==== Kernel2.lean ====
abbrev S8448x256 : Shape := ⟨2, ![8448, 256]⟩
abbrev S8448x128 : Shape := ⟨2, ![8448, 128]⟩
abbrev S_ : Shape := ⟨0, ![]⟩
abbrev S8448x4x64 : Shape := ⟨3, ![8448, 4, 64]⟩
abbrev S4x8448x64 : Shape := ⟨3, ![4, 8448, 64]⟩
abbrev S4x8448x128 : Shape := ⟨3, ![4, 8448, 128]⟩
abbrev S8448x2x64 : Shape := ⟨3, ![8448, 2, 64]⟩
abbrev S2x8448x64 : Shape := ⟨3, ![2, 8448, 64]⟩
abbrev S2x8448x128 : Shape := ⟨3, ![2, 8448, 128]⟩
abbrev S2x8448x1 : Shape := ⟨3, ![2, 8448, 1]⟩
abbrev S2x8448x63 : Shape := ⟨3, ![2, 8448, 63]⟩
abbrev S4x256x128 : Shape := ⟨3, ![4, 256, 128]⟩
abbrev S512x128 : Shape := ⟨2, ![512, 128]⟩
abbrev S1x256x128 : Shape := ⟨3, ![1, 256, 128]⟩
abbrev S256x128 : Shape := ⟨2, ![256, 128]⟩
abbrev S512x1 : Shape := ⟨2, ![512, 1]⟩
abbrev S512x256 : Shape := ⟨2, ![512, 256]⟩
abbrev S512 : Shape := ⟨1, ![512]⟩
abbrev S1x1024x128 : Shape := ⟨3, ![1, 1024, 128]⟩
abbrev S1024x128 : Shape := ⟨2, ![1024, 128]⟩
abbrev S512x1024 : Shape := ⟨2, ![512, 1024]⟩

abbrev nBuf : Space → Nat
  | .hbm => 35
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S8448x128, .f32⟩
  | .hbm, ⟨2, _⟩ => ⟨S8448x128, .f32⟩
  | .hbm, ⟨3, _⟩ => ⟨S_, .f32⟩
  | .hbm, ⟨4, _⟩ => ⟨S8448x256, .f32⟩
  | .hbm, ⟨5, _⟩ => ⟨S8448x256, .f32⟩
  | .hbm, ⟨6, _⟩ => ⟨S8448x4x64, .f32⟩
  | .hbm, ⟨7, _⟩ => ⟨S4x8448x64, .f32⟩
  | .hbm, ⟨8, _⟩ => ⟨S_, .f32⟩
  | .hbm, ⟨9, _⟩ => ⟨S4x8448x64, .f32⟩
  | .hbm, ⟨10, _⟩ => ⟨S4x8448x128, .f32⟩
  | .hbm, ⟨11, _⟩ => ⟨S4x8448x128, .bf16⟩
  | .hbm, ⟨12, _⟩ => ⟨S8448x2x64, .f32⟩
  | .hbm, ⟨13, _⟩ => ⟨S2x8448x64, .f32⟩
  | .hbm, ⟨14, _⟩ => ⟨S_, .f32⟩
  | .hbm, ⟨15, _⟩ => ⟨S2x8448x64, .f32⟩
  | .hbm, ⟨16, _⟩ => ⟨S2x8448x128, .f32⟩
  | .hbm, ⟨17, _⟩ => ⟨S2x8448x128, .bf16⟩
  | .hbm, ⟨18, _⟩ => ⟨S_, .f32⟩
  | .hbm, ⟨19, _⟩ => ⟨S2x8448x1, .f32⟩
  | .hbm, ⟨20, _⟩ => ⟨S_, .f32⟩
  | .hbm, ⟨21, _⟩ => ⟨S2x8448x63, .f32⟩
  | .hbm, ⟨22, _⟩ => ⟨S2x8448x64, .f32⟩
  | .hbm, ⟨23, _⟩ => ⟨S8448x2x64, .f32⟩
  | .hbm, ⟨24, _⟩ => ⟨S2x8448x64, .f32⟩
  | .hbm, ⟨25, _⟩ => ⟨S_, .f32⟩
  | .hbm, ⟨26, _⟩ => ⟨S2x8448x64, .f32⟩
  | .hbm, ⟨27, _⟩ => ⟨S2x8448x128, .f32⟩
  | .hbm, ⟨28, _⟩ => ⟨S2x8448x64, .f32⟩
  | .hbm, ⟨29, _⟩ => ⟨S2x8448x128, .f32⟩
  | .hbm, ⟨30, _⟩ => ⟨S2x8448x128, .bf16⟩
  | .hbm, ⟨31, _⟩ => ⟨S4x8448x128, .f32⟩
  | .hbm, ⟨32, _⟩ => ⟨S4x8448x64, .f32⟩
  | .hbm, ⟨33, _⟩ => ⟨S8448x4x64, .f32⟩
  | .hbm, ⟨34, _⟩ => ⟨S8448x256, .f32⟩
  | .local _ .vmem, ⟨0, _⟩ => ⟨S4x256x128, .bf16⟩
  | .local _ .vmem, ⟨1, _⟩ => ⟨S4x256x128, .bf16⟩
  | .local _ .vmem, ⟨2, _⟩ => ⟨S2x8448x128, .bf16⟩
  | .local _ .vmem, ⟨3, _⟩ => ⟨S2x8448x128, .bf16⟩
  | .local _ .vmem, ⟨4, _⟩ => ⟨S4x256x128, .f32⟩
  | .local _ .vmem, ⟨5, _⟩ => ⟨S4x256x128, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c1_i32_11 : BitVec 32 := 1#32
  let v18 : BitVec 1 := Scalar.cmpi .sge arg0 c1_i32_11
  let v19 : BitVec 32 := Scalar.extui v18
  let c0_i32_12 : BitVec 32 := 0#32
  let v20 : BitVec 1 := Scalar.cmpi .ne v19 c0_i32_12
  v20

def k0_mult1 : BitVec 32 :=
  let c256_i32 : BitVec 32 := 256#32
  let c0_i32_31 : BitVec 32 := 0#32
  let c8192_i32 : BitVec 32 := 8192#32
  let v57 : BitVec 32 := Scalar.muli c0_i32_31 c8192_i32
  let v58 : BitVec 32 := Scalar.addi c256_i32 v57
  v58
def k0_off1 (c0_i32_32 : BitVec 32) : Fin 3 → Nat :=
  let c0_33 : Index := 0#32
  let c256_i32 : BitVec 32 := 256#32
  let c0_i32_31 : BitVec 32 := 0#32
  let c8192_i32 : BitVec 32 := 8192#32
  let v57 : BitVec 32 := Scalar.muli c0_i32_31 c8192_i32
  let v58 : BitVec 32 := Scalar.addi c256_i32 v57
  let v59 : BitVec 32 := v58
  let v60 : BitVec 32 := Scalar.addi v59 c0_i32_32
  let v61 : Index := Scalar.indexCast v60
  let c0_34 : Index := 0#32
  ![0, v61.toNat, 0]
def k0_off2 (c0_i32_32 : BitVec 32) : Fin 3 → Nat :=
  let c1_40 : Index := 1#32
  let c256_i32 : BitVec 32 := 256#32
  let c0_i32_31 : BitVec 32 := 0#32
  let c8192_i32 : BitVec 32 := 8192#32
  let v57 : BitVec 32 := Scalar.muli c0_i32_31 c8192_i32
  let v58 : BitVec 32 := Scalar.addi c256_i32 v57
  let v59 : BitVec 32 := v58
  let v60 : BitVec 32 := Scalar.addi v59 c0_i32_32
  let v81 : Index := Scalar.indexCast v60
  let c0_41 : Index := 0#32
  ![1, v81.toNat, 0]
def k0_cond1 (i : grid0.Coords) : BitVec 1 :=
  let arg0 : BitVec 32 := BitVec.ofNat 32 (i 0).val
  let c1_i32 : BitVec 32 := 1#32
  let v15 : BitVec 1 := Scalar.cmpi .slt arg0 c1_i32
  let v16 : BitVec 32 := Scalar.extui v15
  let c0_i32 : BitVec 32 := 0#32
  let v17 : BitVec 1 := Scalar.cmpi .ne v16 c0_i32
  v17

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8448x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x8448x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8448x256 : Shape := ⟨2, ![8448, 256]⟩
abbrev S8448x128 : Shape := ⟨2, ![8448, 128]⟩
abbrev S8448x2x64 : Shape := ⟨3, ![8448, 2, 64]⟩
abbrev S256x256 : Shape := ⟨2, ![256, 256]⟩
abbrev S256x2x64 : Shape := ⟨3, ![256, 2, 64]⟩
abbrev S256x2x2x64 : Shape := ⟨4, ![256, 2, 2, 64]⟩
abbrev S2x256x256x2 : Shape := ⟨4, ![2, 256, 256, 2]⟩
abbrev S2x2x256x256 : Shape := ⟨4, ![2, 2, 256, 256]⟩
abbrev S_ : Shape := ⟨0, ![]⟩
abbrev S2x2x256 : Shape := ⟨3, ![2, 2, 256]⟩
abbrev S2x2x256x1 : Shape := ⟨4, ![2, 2, 256, 1]⟩
abbrev S2x64x2x256 : Shape := ⟨4, ![2, 64, 2, 256]⟩
abbrev S8192x256 : Shape := ⟨2, ![8192, 256]⟩
abbrev S8192x2x2x64 : Shape := ⟨4, ![8192, 2, 2, 64]⟩
abbrev S2x8448x8192x2 : Shape := ⟨4, ![2, 8448, 8192, 2]⟩
abbrev S2x2x8192x8448 : Shape := ⟨4, ![2, 2, 8192, 8448]⟩
abbrev S2x2x8192 : Shape := ⟨3, ![2, 2, 8192]⟩
abbrev S2x2x8192x1 : Shape := ⟨4, ![2, 2, 8192, 1]⟩
abbrev S2x64x2x8192 : Shape := ⟨4, ![2, 64, 2, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S8448x128, .f32⟩
  | .hbm, ⟨2, _⟩ => ⟨S8448x128, .f32⟩
  | .hbm, ⟨3, _⟩ => ⟨S8448x2x64, .f32⟩
  | .hbm, ⟨4, _⟩ => ⟨S8448x2x64, .f32⟩
  | .hbm, ⟨5, _⟩ => ⟨S256x256, .f32⟩
  | .hbm, ⟨6, _⟩ => ⟨S256x2x64, .f32⟩
  | .hbm, ⟨7, _⟩ => ⟨S256x2x64, .f32⟩
  | .hbm, ⟨8, _⟩ => ⟨S256x2x2x64, .f32⟩
  | .hbm, ⟨9, _⟩ => ⟨S2x256x256x2, .f32⟩
  | .hbm, ⟨10, _⟩ => ⟨S2x2x256x256, .f32⟩
  | .hbm, ⟨11, _⟩ => ⟨S_, .f32⟩
  | .hbm, ⟨12, _⟩ => ⟨S2x2x256x256, .f32⟩
  | .hbm, ⟨13, _⟩ => ⟨S2x2x256x256, .f32⟩
  | .hbm, ⟨14, _⟩ => ⟨S_, .f32⟩
  | .hbm, ⟨15, _⟩ => ⟨S2x2x256, .f32⟩
  | .hbm, ⟨16, _⟩ => ⟨S_, .f32⟩
  | .hbm, ⟨17, _⟩ => ⟨S2x2x256, .f32⟩
  | .hbm, ⟨18, _⟩ => ⟨S2x2x256, .f32⟩
  | .hbm, ⟨19, _⟩ => ⟨S2x2x256x1, .f32⟩
  | .hbm, ⟨20, _⟩ => ⟨S2x2x256x256, .f32⟩
  | .hbm, ⟨21, _⟩ => ⟨S2x2x256x256, .f32⟩
  | .hbm, ⟨22, _⟩ => ⟨S2x2x256x256, .f32⟩
  | .hbm, ⟨23, _⟩ => ⟨S_, .f32⟩
  | .hbm, ⟨24, _⟩ => ⟨S2x2x256, .f32⟩
  | .hbm, ⟨25, _⟩ => ⟨S2x2x256x1, .f32⟩
  | .hbm, ⟨26, _⟩ => ⟨S2x2x256x256, .f32⟩
  | .hbm, ⟨27, _⟩ => ⟨S2x2x256x256, .f32⟩
  | .hbm, ⟨28, _⟩ => ⟨S2x64x2x256, .f32⟩
  | .hbm, ⟨29, _⟩ => ⟨S256x2x2x64, .f32⟩
  | .hbm, ⟨30, _⟩ => ⟨S256x256, .f32⟩
  | .hbm, ⟨31, _⟩ => ⟨S8192x256, .f32⟩
  | .hbm, ⟨32, _⟩ => ⟨S8192x2x2x64, .f32⟩
  | .hbm, ⟨33, _⟩ => ⟨S2x8448x8192x2, .f32⟩
  | .hbm, ⟨34, _⟩ => ⟨S2x2x8192x8448, .f32⟩
  | .hbm, ⟨35, _⟩ => ⟨S_, .f32⟩
  | .hbm, ⟨36, _⟩ => ⟨S2x2x8192x8448, .f32⟩
  | .hbm, ⟨37, _⟩ => ⟨S2x2x8192x8448, .f32⟩
  | .hbm, ⟨38, _⟩ => ⟨S_, .f32⟩
  | .hbm, ⟨39, _⟩ => ⟨S2x2x8192, .f32⟩
  | .hbm, ⟨40, _⟩ => ⟨S_, .f32⟩
  | .hbm, ⟨41, _⟩ => ⟨S2x2x8192, .f32⟩
  | .hbm, ⟨42, _⟩ => ⟨S2x2x8192, .f32⟩
  | .hbm, ⟨43, _⟩ => ⟨S2x2x8192x1, .f32⟩
  | .hbm, ⟨44, _⟩ => ⟨S2x2x8192x8448, .f32⟩
  | .hbm, ⟨45, _⟩ => ⟨S2x2x8192x8448, .f32⟩
  | .hbm, ⟨46, _⟩ => ⟨S2x2x8192x8448, .f32⟩
  | .hbm, ⟨47, _⟩ => ⟨S_, .f32⟩
  | .hbm, ⟨48, _⟩ => ⟨S2x2x8192, .f32⟩
  | .hbm, ⟨49, _⟩ => ⟨S2x2x8192x1, .f32⟩
  | .hbm, ⟨50, _⟩ => ⟨S2x2x8192x8448, .f32⟩
  | .hbm, ⟨51, _⟩ => ⟨S2x2x8192x8448, .f32⟩
  | .hbm, ⟨52, _⟩ => ⟨S2x64x2x8192, .f32⟩
  | .hbm, ⟨53, _⟩ => ⟨S8192x2x2x64, .f32⟩
  | .hbm, ⟨54, _⟩ => ⟨S8192x256, .f32⟩
  | .hbm, ⟨55, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel3.lean ====
abbrev S8448x1024 : Shape := ⟨2, ![8448, 1024]⟩
abbrev S1024 : Shape := ⟨1, ![1024]⟩
abbrev S1024x3328 : Shape := ⟨2, ![1024, 3328]⟩
abbrev S64 : Shape := ⟨1, ![64]⟩
abbrev S128 : Shape := ⟨1, ![128]⟩
abbrev S1x1x128 : Shape := ⟨3, ![1, 1, 128]⟩
abbrev S1x128 : Shape := ⟨2, ![1, 128]⟩
abbrev S1024x512 : Shape := ⟨2, ![1024, 512]⟩
abbrev S1024x1024 : Shape := ⟨2, ![1024, 1024]⟩
abbrev S1024x256 : Shape := ⟨2, ![1024, 256]⟩
abbrev S1024x1792 : Shape := ⟨2, ![1024, 1792]⟩
abbrev S_ : Shape := ⟨0, ![]⟩
abbrev S1x1024 : Shape := ⟨2, ![1, 1024]⟩
abbrev S8x1024 : Shape := ⟨2, ![8, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S6x128 : Shape := ⟨2, ![6, 128]⟩
abbrev S8x128 : Shape := ⟨2, ![8, 128]⟩
abbrev S16 : Shape := ⟨1, ![16]⟩
abbrev S128x1 : Shape := ⟨2, ![128, 1]⟩
abbrev S128x128 : Shape := ⟨2, ![128, 128]⟩
abbrev S64x1 : Shape := ⟨2, ![64, 1]⟩
abbrev S64x128 : Shape := ⟨2, ![64, 128]⟩
abbrev S256x128 : Shape := ⟨2, ![256, 128]⟩
abbrev S128x1x128 : Shape := ⟨3, ![128, 1, 128]⟩
abbrev S1x64x128 : Shape := ⟨3, ![1, 64, 128]⟩
abbrev S128x64x128 : Shape := ⟨3, ![128, 64, 128]⟩
abbrev S8192x128 : Shape := ⟨2, ![8192, 128]⟩
abbrev S8448x128 : Shape := ⟨2, ![8448, 128]⟩
abbrev S8448x1792 : Shape := ⟨2, ![8448, 1792]⟩
abbrev S8448x512 : Shape := ⟨2, ![8448, 512]⟩
abbrev S4x8448x128 : Shape := ⟨3, ![4, 8448, 128]⟩
abbrev S2x8448x128 : Shape := ⟨3, ![2, 8448, 128]⟩
abbrev S768x1024 : Shape := ⟨2, ![768, 1024]⟩
abbrev S768x128 : Shape := ⟨2, ![768, 128]⟩
abbrev S768x1792 : Shape := ⟨2, ![768, 1792]⟩
abbrev S768x512 : Shape := ⟨2, ![768, 512]⟩
abbrev S4x768x128 : Shape := ⟨3, ![4, 768, 128]⟩
abbrev S2x768x128 : Shape := ⟨3, ![2, 768, 128]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩
abbrev S256x512 : Shape := ⟨2, ![256, 512]⟩
abbrev S1x256x128 : Shape := ⟨3, ![1, 256, 128]⟩
abbrev S8448x256 : Shape := ⟨2, ![8448, 256]⟩
abbrev S8448x2560 : Shape := ⟨2, ![8448, 2560]⟩
abbrev S4x8448x64 : Shape := ⟨3, ![4, 8448, 64]⟩
abbrev S8448x4x64 : Shape := ⟨3, ![8448, 4, 64]⟩
abbrev S2x8448x64 : Shape := ⟨3, ![2, 8448, 64]⟩
abbrev S8448x2x64 : Shape := ⟨3, ![8448, 2, 64]⟩

abbrev nBuf : Space → Nat
  | .hbm => 143
  | .vmem => 26
  | .smem => 0
  | _ => 0

abbrev hbmTy0_0 (i : Nat) : BufTy := match i % 128 with
  | 0 => ⟨S8448x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024x3328, .f32⟩
  | 7 => ⟨S64, .f32⟩
  | 8 => ⟨S64, .f32⟩
  | 9 => ⟨S128, .i32⟩
  | 10 => ⟨S128, .i1⟩
  | 11 => ⟨S128, .i1⟩
  | 12 => ⟨S128, .i1⟩
  | 13 => ⟨S1x1x128, .i1⟩
  | 14 => ⟨S128, .i1⟩
  | 15 => ⟨S1x1x128, .i1⟩
  | 16 => ⟨S128, .f32⟩
  | 17 => ⟨S1x128, .f32⟩
  | 18 => ⟨S1024x3328, .bf16⟩
  | 19 => ⟨S1024x512, .bf16⟩
  | 20 => ⟨S1024x512, .bf16⟩
  | 21 => ⟨S1024x1024, .bf16⟩
  | 22 => ⟨S1024x256, .bf16⟩
  | 23 => ⟨S1024x256, .bf16⟩
  | 24 => ⟨S1024x1024, .bf16⟩
  | 25 => ⟨S1024x256, .bf16⟩
  | 26 => ⟨S1024x1792, .bf16⟩
  | 27 => ⟨S1024x512, .bf16⟩
  | 28 => ⟨S_, .f32⟩
  | 29 => ⟨S1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S8x1024, .f32⟩
  | 39 => ⟨S1x64, .f32⟩
  | 40 => ⟨S1x1x1x64, .f32⟩
  | 41 => ⟨S1x1x2x64, .f32⟩
  | 42 => ⟨S1x128, .f32⟩
  | 43 => ⟨S1x64, .f32⟩
  | 44 => ⟨S1x1x1x64, .f32⟩
  | 45 => ⟨S1x1x2x64, .f32⟩
  | 46 => ⟨S1x128, .f32⟩
  | 47 => ⟨S_, .f32⟩
  | 48 => ⟨S6x128, .f32⟩
  | 49 => ⟨S8x128, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S128, .f32⟩
  | 67 => ⟨S128x1, .f32⟩
  | 68 => ⟨S_, .i32⟩
  | 69 => ⟨S128, .i32⟩
  | 70 => ⟨S128, .i32⟩
  | 71 => ⟨S128, .i32⟩
  | 72 => ⟨S128x1, .i32⟩
  | 73 => ⟨S128, .f32⟩
  | 74 => ⟨S1x128, .f32⟩
  | 75 => ⟨S128x128, .f32⟩
  | 76 => ⟨S128x128, .f32⟩
  | 77 => ⟨S128x128, .f32⟩
  | 78 => ⟨S64, .f32⟩
  | 79 => ⟨S64x1, .f32⟩
  | 80 => ⟨S_, .i32⟩
  | 81 => ⟨S128, .i32⟩
  | 82 => ⟨S128, .i32⟩
  | 83 => ⟨S128, .i32⟩
  | 84 => ⟨S128x1, .i32⟩
  | 85 => ⟨S128, .f32⟩
  | 86 => ⟨S1x128, .f32⟩
  | 87 => ⟨S64x128, .f32⟩
  | 88 => ⟨S64x128, .f32⟩
  | 89 => ⟨S64x128, .f32⟩
  | 90 => ⟨S_, .f32⟩
  | 91 => ⟨S256x128, .f32⟩
  | 92 => ⟨S128x128, .f32⟩
  | 93 => ⟨S128x1x128, .f32⟩
  | 94 => ⟨S64x128, .f32⟩
  | 95 => ⟨S1x64x128, .f32⟩
  | 96 => ⟨S128x64x128, .i1⟩
  | 97 => ⟨S128x64x128, .f32⟩
  | 98 => ⟨S128x64x128, .f32⟩
  | 99 => ⟨S128x64x128, .f32⟩
  | 100 => ⟨S8192x128, .f32⟩
  | 101 => ⟨S8448x128, .f32⟩
  | 102 => ⟨S_, .f32⟩
  | 103 => ⟨S256x128, .f32⟩
  | 104 => ⟨S128x128, .f32⟩
  | 105 => ⟨S128x1x128, .f32⟩
  | 106 => ⟨S64x128, .f32⟩
  | 107 => ⟨S1x64x128, .f32⟩
  | 108 => ⟨S128x64x128, .i1⟩
  | 109 => ⟨S128x64x128, .f32⟩
  | 110 => ⟨S128x64x128, .f32⟩
  | 111 => ⟨S128x64x128, .f32⟩
  | 112 => ⟨S8192x128, .f32⟩
  | 113 => ⟨S8192x128, .f32⟩
  | 114 => ⟨S8192x128, .f32⟩
  | 115 => ⟨S8448x128, .f32⟩
  | 116 => ⟨S1x1024, .f32⟩
  | 117 => ⟨S8448x1024, .bf16⟩
  | 118 => ⟨S8448x1024, .f32⟩
  | 119 => ⟨S8448x1792, .f32⟩
  | 120 => ⟨S8448x512, .f32⟩
  | 121 => ⟨S4x8448x128, .bf16⟩
  | 122 => ⟨S2x8448x128, .bf16⟩
  | 123 => ⟨S2x8448x128, .bf16⟩
  | 124 => ⟨S8448x256, .f32⟩
  | 125 => ⟨S8448x512, .f32⟩
  | 126 => ⟨S8448x256, .f32⟩
  | 127 => ⟨S8448x512, .f32⟩
  | _ => ⟨S8448x1024, .f32⟩

abbrev hbmTy0_1 (i : Nat) : BufTy := match i % 128 with
  | 0 => ⟨S8448x1024, .f32⟩
  | 1 => ⟨S8448x2560, .f32⟩
  | 2 => ⟨S4x8448x64, .bf16⟩
  | 3 => ⟨S4x8448x64, .f32⟩
  | 4 => ⟨S8448x4x64, .f32⟩
  | 5 => ⟨S8448x256, .f32⟩
  | 6 => ⟨S2x8448x64, .bf16⟩
  | 7 => ⟨S2x8448x64, .f32⟩
  | 8 => ⟨S8448x2x64, .f32⟩
  | 9 => ⟨S8448x128, .f32⟩
  | 10 => ⟨S2x8448x64, .bf16⟩
  | 11 => ⟨S2x8448x64, .f32⟩
  | 12 => ⟨S8448x2x64, .f32⟩
  | 13 => ⟨S8448x128, .f32⟩
  | 14 => ⟨S8448x256, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | .local _ .vmem, ⟨0, _⟩ => ⟨S768x1024, .f32⟩
  | .local _ .vmem, ⟨1, _⟩ => ⟨S768x1024, .f32⟩
  | .local _ .vmem, ⟨2, _⟩ => ⟨S8x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1792, .bf16⟩
  | .local _ .vmem, ⟨6, _⟩ => ⟨S1024x512, .bf16⟩
  | .local _ .vmem, ⟨7, _⟩ => ⟨S8x128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x1024, .bf16⟩
  | .local _ .vmem, ⟨13, _⟩ => ⟨S768x1024, .bf16⟩
  | .local _ .vmem, ⟨14, _⟩ => ⟨S768x1024, .f32⟩
  | .local _ .vmem, ⟨15, _⟩ => ⟨S768x1024, .f32⟩
  | .local _ .vmem, ⟨16, _⟩ => ⟨S768x1792, .f32⟩
  | .local _ .vmem, ⟨17, _⟩ => ⟨S768x1792, .f32⟩
  | .local _ .vmem, ⟨18, _⟩ => ⟨S768x512, .f32⟩
  | .local _ .vmem, ⟨19, _⟩ => ⟨S768x512, .f32⟩
  | .local _ .vmem, ⟨20, _⟩ => ⟨S4x768x128, .bf16⟩
  | .local _ .vmem, ⟨21, _⟩ => ⟨S4x768x128, .bf16⟩
  | .local _ .vmem, ⟨22, _⟩ => ⟨S2x768x128, .bf16⟩
  | .local _ .vmem, ⟨23, _⟩ => ⟨S2x768x128, .bf16⟩
  | .local _ .vmem, ⟨24, _⟩ => ⟨S2x768x128, .bf16⟩
  | .local _ .vmem, ⟨25, _⟩ => ⟨S2x768x128, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_v0 : Ref sig .tc := ⟨.hbm, 13, rfl⟩
abbrev main_c_3 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85_0 : Ref sig .tc := ⟨.hbm, 117, rfl⟩
abbrev main_v85_1 : Ref sig .tc := ⟨.hbm, 118, rfl⟩
abbrev main_v85_2 : Ref sig .tc := ⟨.hbm, 119, rfl⟩
abbrev main_v85_3 : Ref sig .tc := ⟨.hbm, 120, rfl⟩
abbrev main_v85_4 : Ref sig .tc := ⟨.hbm, 121, rfl⟩
abbrev main_v85_5 : Ref sig .tc := ⟨.hbm, 122, rfl⟩
abbrev main_v85_6 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x1792 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x768x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x768x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x768x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8448x1024 : Shape := ⟨2, ![8448, 1024]⟩
abbrev S1024 : Shape := ⟨1, ![1024]⟩
abbrev S1024x3328 : Shape := ⟨2, ![1024, 3328]⟩
abbrev S64 : Shape := ⟨1, ![64]⟩
abbrev S128 : Shape := ⟨1, ![128]⟩
abbrev S128x64 : Shape := ⟨2, ![128, 64]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S256x1024 : Shape := ⟨2, ![256, 1024]⟩
abbrev S8192x1024 : Shape := ⟨2, ![8192, 1024]⟩
abbrev S1x1024 : Shape := ⟨2, ![1, 1024]⟩
abbrev S256 : Shape := ⟨1, ![256]⟩
abbrev S256x1 : Shape := ⟨2, ![256, 1]⟩
abbrev S8192x3328 : Shape := ⟨2, ![8192, 3328]⟩
abbrev S256x3328 : Shape := ⟨2, ![256, 3328]⟩
abbrev S8192x256 : Shape := ⟨2, ![8192, 256]⟩
abbrev S8192x4x64 : Shape := ⟨3, ![8192, 4, 64]⟩
abbrev S8192x4 : Shape := ⟨2, ![8192, 4]⟩
abbrev S8192x4x1 : Shape := ⟨3, ![8192, 4, 1]⟩
abbrev S1x1x64 : Shape := ⟨3, ![1, 1, 64]⟩
abbrev S8192x4x32 : Shape := ⟨3, ![8192, 4, 32]⟩
abbrev S8192x4x16 : Shape := ⟨3, ![8192, 4, 16]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S8192x2x32 : Shape := ⟨3, ![8192, 2, 32]⟩
abbrev S8192x2x16 : Shape := ⟨3, ![8192, 2, 16]⟩
abbrev S256x256 : Shape := ⟨2, ![256, 256]⟩
abbrev S256x4x64 : Shape := ⟨3, ![256, 4, 64]⟩
abbrev S256x4 : Shape := ⟨2, ![256, 4]⟩
abbrev S256x4x1 : Shape := ⟨3, ![256, 4, 1]⟩
abbrev S256x128 : Shape := ⟨2, ![256, 128]⟩
abbrev S256x2x64 : Shape := ⟨3, ![256, 2, 64]⟩
abbrev S256x2 : Shape := ⟨2, ![256, 2]⟩
abbrev S256x2x1 : Shape := ⟨3, ![256, 2, 1]⟩
abbrev S256x2560 : Shape := ⟨2, ![256, 2560]⟩
abbrev S8192x2560 : Shape := ⟨2, ![8192, 2560]⟩
abbrev S8448x2560 : Shape := ⟨2, ![8448, 2560]⟩
abbrev S8448x4x64 : Shape := ⟨3, ![8448, 4, 64]⟩
abbrev S8448x256 : Shape := ⟨2, ![8448, 256]⟩
abbrev S8448x2x64 : Shape := ⟨3, ![8448, 2, 64]⟩
abbrev S8448x128 : Shape := ⟨2, ![8448, 128]⟩

abbrev nBuf : Space → Nat
  | .hbm => 251
  | .vmem => 0
  | .smem => 0
  | _ => 0

abbrev hbmTy0_0 (i : Nat) : BufTy := match i % 128 with
  | 0 => ⟨S8448x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024x3328, .f32⟩
  | 7 => ⟨S64, .f32⟩
  | 8 => ⟨S64, .f32⟩
  | 9 => ⟨S128, .i32⟩
  | 10 => ⟨S64, .i32⟩
  | 11 => ⟨S128x64, .i32⟩
  | 12 => ⟨S128x64, .i32⟩
  | 13 => ⟨S8192, .i32⟩
  | 14 => ⟨S8192, .f32⟩
  | 15 => ⟨S8192, .i32⟩
  | 16 => ⟨S8192, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S8192x1, .f32⟩
  | 34 => ⟨S1x16, .f32⟩
  | 35 => ⟨S8192x16, .f32⟩
  | 36 => ⟨S8192x16, .f32⟩
  | 37 => ⟨S8192x16, .f32⟩
  | 38 => ⟨S8192x1, .f32⟩
  | 39 => ⟨S1x16, .f32⟩
  | 40 => ⟨S8192x16, .f32⟩
  | 41 => ⟨S8192x16, .f32⟩
  | 42 => ⟨S8192x16, .f32⟩
  | 43 => ⟨S8192x16, .f32⟩
  | 44 => ⟨S8192x1x16, .f32⟩
  | 45 => ⟨S8192x16, .f32⟩
  | 46 => ⟨S8192x1x16, .f32⟩
  | 47 => ⟨S8192x16, .f32⟩
  | 48 => ⟨S8192x1x16, .f32⟩
  | 49 => ⟨S8192x16, .f32⟩
  | 50 => ⟨S8192x1x16, .f32⟩
  | 51 => ⟨S256x1024, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x1024, .f32⟩
  | 65 => ⟨S8192x1024, .f32⟩
  | 66 => ⟨S1x1024, .f32⟩
  | 67 => ⟨S8192x1024, .f32⟩
  | 68 => ⟨S8192x1024, .f32⟩
  | 69 => ⟨S_, .f32⟩
  | 70 => ⟨S1024, .f32⟩
  | 71 => ⟨S1024, .f32⟩
  | 72 => ⟨S1x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S256x1024, .f32⟩
  | 79 => ⟨S_, .f32⟩
  | 80 => ⟨S256, .f32⟩
  | 81 => ⟨S256x1, .f32⟩
  | 82 => ⟨S_, .f32⟩
  | 83 => ⟨S256x1, .f32⟩
  | 84 => ⟨S256x1, .f32⟩
  | 85 => ⟨S_, .f32⟩
  | 86 => ⟨S256x1, .f32⟩
  | 87 => ⟨S256x1, .f32⟩
  | 88 => ⟨S256x1, .f32⟩
  | 89 => ⟨S256x1024, .f32⟩
  | 90 => ⟨S256x1024, .f32⟩
  | 91 => ⟨S1x1024, .f32⟩
  | 92 => ⟨S256x1024, .f32⟩
  | 93 => ⟨S256x1024, .f32⟩
  | 94 => ⟨S_, .f32⟩
  | 95 => ⟨S1024, .f32⟩
  | 96 => ⟨S1024, .f32⟩
  | 97 => ⟨S1x1024, .f32⟩
  | 98 => ⟨S256x1024, .f32⟩
  | 99 => ⟨S256x1024, .f32⟩
  | 100 => ⟨S1x1024, .f32⟩
  | 101 => ⟨S256x1024, .f32⟩
  | 102 => ⟨S256x1024, .f32⟩
  | 103 => ⟨S8192x3328, .f32⟩
  | 104 => ⟨S256x3328, .f32⟩
  | 105 => ⟨S8192x256, .f32⟩
  | 106 => ⟨S8192x4x64, .f32⟩
  | 107 => ⟨S8192x4x64, .f32⟩
  | 108 => ⟨S_, .f32⟩
  | 109 => ⟨S8192x4, .f32⟩
  | 110 => ⟨S8192x4x1, .f32⟩
  | 111 => ⟨S_, .f32⟩
  | 112 => ⟨S8192x4x1, .f32⟩
  | 113 => ⟨S8192x4x1, .f32⟩
  | 114 => ⟨S_, .f32⟩
  | 115 => ⟨S8192x4x1, .f32⟩
  | 116 => ⟨S8192x4x1, .f32⟩
  | 117 => ⟨S8192x4x1, .f32⟩
  | 118 => ⟨S8192x4x64, .f32⟩
  | 119 => ⟨S8192x4x64, .f32⟩
  | 120 => ⟨S1x1x64, .f32⟩
  | 121 => ⟨S8192x4x64, .f32⟩
  | 122 => ⟨S8192x4x64, .f32⟩
  | 123 => ⟨S8192x4x32, .f32⟩
  | 124 => ⟨S8192x4x32, .f32⟩
  | 125 => ⟨S8192x4x16, .f32⟩
  | 126 => ⟨S8192x4x16, .f32⟩
  | 127 => ⟨S8192x4x16, .f32⟩
  | _ => ⟨S8448x1024, .f32⟩

abbrev hbmTy0_1 (i : Nat) : BufTy := match i % 128 with
  | 0 => ⟨S8192x4x16, .f32⟩
  | 1 => ⟨S8192x4x16, .f32⟩
  | 2 => ⟨S8192x4x16, .f32⟩
  | 3 => ⟨S8192x4x16, .f32⟩
  | 4 => ⟨S8192x4x16, .f32⟩
  | 5 => ⟨S8192x4x16, .f32⟩
  | 6 => ⟨S8192x4x16, .f32⟩
  | 7 => ⟨S8192x4x16, .f32⟩
  | 8 => ⟨S8192x4x16, .f32⟩
  | 9 => ⟨S8192x4x32, .f32⟩
  | 10 => ⟨S8192x4x16, .f32⟩
  | 11 => ⟨S8192x4x16, .f32⟩
  | 12 => ⟨S8192x4x16, .f32⟩
  | 13 => ⟨S8192x4x16, .f32⟩
  | 14 => ⟨S8192x4x16, .f32⟩
  | 15 => ⟨S8192x4x16, .f32⟩
  | 16 => ⟨S8192x4x16, .f32⟩
  | 17 => ⟨S8192x4x16, .f32⟩
  | 18 => ⟨S8192x4x16, .f32⟩
  | 19 => ⟨S8192x4x16, .f32⟩
  | 20 => ⟨S8192x4x16, .f32⟩
  | 21 => ⟨S8192x4x16, .f32⟩
  | 22 => ⟨S8192x4x32, .f32⟩
  | 23 => ⟨S8192x4x64, .f32⟩
  | 24 => ⟨S8192x128, .f32⟩
  | 25 => ⟨S8192x2x64, .f32⟩
  | 26 => ⟨S8192x2x64, .f32⟩
  | 27 => ⟨S_, .f32⟩
  | 28 => ⟨S8192x2, .f32⟩
  | 29 => ⟨S8192x2x1, .f32⟩
  | 30 => ⟨S_, .f32⟩
  | 31 => ⟨S8192x2x1, .f32⟩
  | 32 => ⟨S8192x2x1, .f32⟩
  | 33 => ⟨S_, .f32⟩
  | 34 => ⟨S8192x2x1, .f32⟩
  | 35 => ⟨S8192x2x1, .f32⟩
  | 36 => ⟨S8192x2x1, .f32⟩
  | 37 => ⟨S8192x2x64, .f32⟩
  | 38 => ⟨S8192x2x64, .f32⟩
  | 39 => ⟨S1x1x64, .f32⟩
  | 40 => ⟨S8192x2x64, .f32⟩
  | 41 => ⟨S8192x2x64, .f32⟩
  | 42 => ⟨S8192x2x32, .f32⟩
  | 43 => ⟨S8192x2x32, .f32⟩
  | 44 => ⟨S8192x2x16, .f32⟩
  | 45 => ⟨S8192x2x16, .f32⟩
  | 46 => ⟨S8192x2x16, .f32⟩
  | 47 => ⟨S8192x2x16, .f32⟩
  | 48 => ⟨S8192x2x16, .f32⟩
  | 49 => ⟨S8192x2x16, .f32⟩
  | 50 => ⟨S8192x2x16, .f32⟩
  | 51 => ⟨S8192x2x16, .f32⟩
  | 52 => ⟨S8192x2x16, .f32⟩
  | 53 => ⟨S8192x2x16, .f32⟩
  | 54 => ⟨S8192x2x16, .f32⟩
  | 55 => ⟨S8192x2x16, .f32⟩
  | 56 => ⟨S8192x2x32, .f32⟩
  | 57 => ⟨S8192x2x16, .f32⟩
  | 58 => ⟨S8192x2x16, .f32⟩
  | 59 => ⟨S8192x2x16, .f32⟩
  | 60 => ⟨S8192x2x16, .f32⟩
  | 61 => ⟨S8192x2x16, .f32⟩
  | 62 => ⟨S8192x2x16, .f32⟩
  | 63 => ⟨S8192x2x16, .f32⟩
  | 64 => ⟨S8192x2x16, .f32⟩
  | 65 => ⟨S8192x2x16, .f32⟩
  | 66 => ⟨S8192x2x16, .f32⟩
  | 67 => ⟨S8192x2x16, .f32⟩
  | 68 => ⟨S8192x2x16, .f32⟩
  | 69 => ⟨S8192x2x32, .f32⟩
  | 70 => ⟨S8192x2x64, .f32⟩
  | 71 => ⟨S256x256, .f32⟩
  | 72 => ⟨S256x4x64, .f32⟩
  | 73 => ⟨S256x4x64, .f32⟩
  | 74 => ⟨S_, .f32⟩
  | 75 => ⟨S256x4, .f32⟩
  | 76 => ⟨S256x4x1, .f32⟩
  | 77 => ⟨S_, .f32⟩
  | 78 => ⟨S256x4x1, .f32⟩
  | 79 => ⟨S256x4x1, .f32⟩
  | 80 => ⟨S_, .f32⟩
  | 81 => ⟨S256x4x1, .f32⟩
  | 82 => ⟨S256x4x1, .f32⟩
  | 83 => ⟨S256x4x1, .f32⟩
  | 84 => ⟨S256x4x64, .f32⟩
  | 85 => ⟨S256x4x64, .f32⟩
  | 86 => ⟨S1x1x64, .f32⟩
  | 87 => ⟨S256x4x64, .f32⟩
  | 88 => ⟨S256x4x64, .f32⟩
  | 89 => ⟨S256x128, .f32⟩
  | 90 => ⟨S256x2x64, .f32⟩
  | 91 => ⟨S256x2x64, .f32⟩
  | 92 => ⟨S_, .f32⟩
  | 93 => ⟨S256x2, .f32⟩
  | 94 => ⟨S256x2x1, .f32⟩
  | 95 => ⟨S_, .f32⟩
  | 96 => ⟨S256x2x1, .f32⟩
  | 97 => ⟨S256x2x1, .f32⟩
  | 98 => ⟨S_, .f32⟩
  | 99 => ⟨S256x2x1, .f32⟩
  | 100 => ⟨S256x2x1, .f32⟩
  | 101 => ⟨S256x2x1, .f32⟩
  | 102 => ⟨S256x2x64, .f32⟩
  | 103 => ⟨S256x2x64, .f32⟩
  | 104 => ⟨S1x1x64, .f32⟩
  | 105 => ⟨S256x2x64, .f32⟩
  | 106 => ⟨S256x2x64, .f32⟩
  | 107 => ⟨S256x2560, .f32⟩
  | 108 => ⟨S8192x2560, .f32⟩
  | 109 => ⟨S8448x2560, .f32⟩
  | 110 => ⟨S8448x4x64, .f32⟩
  | 111 => ⟨S8448x256, .f32⟩
  | 112 => ⟨S_, .f32⟩
  | 113 => ⟨S8448x256, .f32⟩
  | 114 => ⟨S8448x256, .f32⟩
  | 115 => ⟨S8448x2x64, .f32⟩
  | 116 => ⟨S8448x128, .f32⟩
  | 117 => ⟨S256x128, .f32⟩
  | 118 => ⟨S8192x128, .f32⟩
  | 119 => ⟨S8448x128, .f32⟩
  | 120 => ⟨S256x256, .f32⟩
  | 121 => ⟨S8192x256, .f32⟩
  | 122 => ⟨S8448x256, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_cst_14 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_15 : Ref sig .tc := ⟨.hbm, 155, rfl⟩
abbrev main_v130 : Ref sig .tc := ⟨.hbm, 156, rfl⟩
abbrev main_v131 : Ref sig .tc := ⟨.hbm, 157, rfl⟩
abbrev main_cst_16 : Ref sig .tc := ⟨.hbm, 158, rfl⟩
abbrev main_v132 : Ref sig .tc := ⟨.hbm, 159, rfl⟩
abbrev main_v133 : Ref sig .tc := ⟨.hbm, 160, rfl⟩
abbrev main_cst_17 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_cst_18 : Ref sig .tc := ⟨.hbm, 202, rfl⟩
abbrev main_v174 : Ref sig .tc := ⟨.hbm, 203, rfl⟩
abbrev main_v175 : Ref sig .tc := ⟨.hbm, 204, rfl⟩
abbrev main_cst_19 : Ref sig .tc := ⟨.hbm, 205, rfl⟩
abbrev main_v176 : Ref sig .tc := ⟨.hbm, 206, rfl⟩
abbrev main_v177 : Ref sig .tc := ⟨.hbm, 207, rfl⟩
abbrev main_cst_20 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_cst_21 : Ref sig .tc := ⟨.hbm, 220, rfl⟩
abbrev main_v189 : Ref sig .tc := ⟨.hbm, 221, rfl⟩
abbrev main_v190 : Ref sig .tc := ⟨.hbm, 222, rfl⟩
abbrev main_cst_22 : Ref sig .tc := ⟨.hbm, 223, rfl⟩
abbrev main_v191 : Ref sig .tc := ⟨.hbm, 224, rfl⟩
abbrev main_v192 : Ref sig .tc := ⟨.hbm, 225, rfl⟩
abbrev main_cst_23 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_cst_24 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩

abbrev nD : Nat := 1
abbrev τ : Topo := Topo.v7x

variable {F : FTy → Type} [FloatOps F]
-- ==== Kernel4.lean ====
abbrev S4096x832 : Shape := ⟨2, ![4096, 832]⟩
abbrev S512x832 : Shape := ⟨2, ![512, 832]⟩

abbrev nBuf : Space → Nat
  | .hbm => 9
  | .vmem => 18
  | .smem => 0
  | _ => 0

abbrev bufTy : (tb : Table) → Fin (tcTables nBuf tb) → BufTy
  | .hbm, ⟨0, _⟩ => ⟨S4096x832, .f32⟩
  | .hbm, ⟨1, _⟩ => ⟨S4096x832, .f32⟩
  | .hbm, ⟨2, _⟩ => ⟨S4096x832, .f32⟩
  | .hbm, ⟨3, _⟩ => ⟨S4096x832, .f32⟩
  | .hbm, ⟨4, _⟩ => ⟨S4096x832, .f32⟩
  | .hbm, ⟨5, _⟩ => ⟨S4096x832, .f32⟩
  | .hbm, ⟨6, _⟩ => ⟨S4096x832, .f32⟩
  | .hbm, ⟨7, _⟩ => ⟨S4096x832, .f32⟩
  | .hbm, ⟨8, _⟩ => ⟨S4096x832, .f32⟩
  | .local _ .vmem, ⟨0, _⟩ => ⟨S512x832, .f32⟩
  | .local _ .vmem, ⟨1, _⟩ => ⟨S512x832, .f32⟩
  | .local _ .vmem, ⟨2, _⟩ => ⟨S512x832, .f32⟩
  | .local _ .vmem, ⟨3, _⟩ => ⟨S512x832, .f32⟩
  | .local _ .vmem, ⟨4, _⟩ => ⟨S512x832, .f32⟩
  | .local _ .vmem, ⟨5, _⟩ => ⟨S512x832, .f32⟩
  | .local _ .vmem, ⟨6, _⟩ => ⟨S512x832, .f32⟩
  | .local _ .vmem, ⟨7, _⟩ => ⟨S512x832, .f32⟩
  | .local _ .vmem, ⟨8, _⟩ => ⟨S512x832, .f32⟩
  | .local _ .vmem, ⟨9, _⟩ => ⟨S512x832, .f32⟩
  | .local _ .vmem, ⟨10, _⟩ => ⟨S512x832, .f32⟩
  | .local _ .vmem, ⟨11, _⟩ => ⟨S512x832, .f32⟩
  | .local _ .vmem, ⟨12, _⟩ => ⟨S512x832, .f32⟩
  | .local _ .vmem, ⟨13, _⟩ => ⟨S512x832, .f32⟩
  | .local _ .vmem, ⟨14, _⟩ => ⟨S512x832, .f32⟩
  | .local _ .vmem, ⟨15, _⟩ => ⟨S512x832, .f32⟩
  | .local _ .vmem, ⟨16, _⟩ => ⟨S512x832, .f32⟩
  | .local _ .vmem, ⟨17, _⟩ => ⟨S512x832, .f32⟩
  | _, _ => ⟨S4096x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x832 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4096x832 : Shape := ⟨2, ![4096, 832]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x832, .f32⟩
  | .hbm, ⟨1, _⟩ => ⟨S4096x832, .f32⟩
  | .hbm, ⟨2, _⟩ => ⟨S4096x832, .f32⟩
  | .hbm, ⟨3, _⟩ => ⟨S4096x832, .f32⟩
  | .hbm, ⟨4, _⟩ => ⟨S4096x832, .f32⟩
  | .hbm, ⟨5, _⟩ => ⟨S4096x832, .f32⟩
  | .hbm, ⟨6, _⟩ => ⟨S_, .f32⟩
  | .hbm, ⟨7, _⟩ => ⟨S4096x832, .f32⟩
  | .hbm, ⟨8, _⟩ => ⟨S4096x832, .f32⟩
  | .hbm, ⟨9, _⟩ => ⟨S_, .f32⟩
  | .hbm, ⟨10, _⟩ => ⟨S4096x832, .f32⟩
  | .hbm, ⟨11, _⟩ => ⟨S4096x832, .f32⟩
  | .hbm, ⟨12, _⟩ => ⟨S4096x832, .f32⟩
  | .hbm, ⟨13, _⟩ => ⟨S_, .f32⟩
  | .hbm, ⟨14, _⟩ => ⟨S4096x832, .f32⟩
  | .hbm, ⟨15, _⟩ => ⟨S4096x832, .f32⟩
  | .hbm, ⟨16, _⟩ => ⟨S4096x832, .f32⟩
  | .hbm, ⟨17, _⟩ => ⟨S_, .f32⟩
  | .hbm, ⟨18, _⟩ => ⟨S4096x832, .f32⟩
  | .hbm, ⟨19, _⟩ => ⟨S4096x832, .f32⟩
  | .hbm, ⟨20, _⟩ => ⟨S4096x832, .f32⟩
  | .hbm, ⟨21, _⟩ => ⟨S_, .f32⟩
  | .hbm, ⟨22, _⟩ => ⟨S4096x832, .f32⟩
  | .hbm, ⟨23, _⟩ => ⟨S4096x832, .f32⟩
  | .hbm, ⟨24, _⟩ => ⟨S_, .f32⟩
  | .hbm, ⟨25, _⟩ => ⟨S4096x832, .f32⟩
  | .hbm, ⟨26, _⟩ => ⟨S4096x832, .f32⟩
  | .hbm, ⟨27, _⟩ => ⟨S4096x832, .f32⟩
  | .hbm, ⟨28, _⟩ => ⟨S_, .f32⟩
  | .hbm, ⟨29, _⟩ => ⟨S4096x832, .f32⟩
  | .hbm, ⟨30, _⟩ => ⟨S4096x832, .f32⟩
  | .hbm, ⟨31, _⟩ => ⟨S4096x832, .f32⟩
  | .hbm, ⟨32, _⟩ => ⟨S_, .f32⟩
  | .hbm, ⟨33, _⟩ => ⟨S4096x832, .f32⟩
  | .hbm, ⟨34, _⟩ => ⟨S4096x832, .f32⟩
  | .hbm, ⟨35, _⟩ => ⟨S4096x832, .f32⟩
  | .hbm, ⟨36, _⟩ => ⟨S_, .f32⟩
  | .hbm, ⟨37, _⟩ => ⟨S4096x832, .f32⟩
  | .hbm, ⟨38, _⟩ => ⟨S4096x832, .f32⟩
  | _, _ => ⟨S4096x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel5.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel6.lean ====
abbrev S4096x768 : Shape := ⟨2, ![4096, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1024 : Shape := ⟨1, ![1024]⟩
abbrev S4x3072 : Shape := ⟨2, ![4, 3072]⟩
abbrev S4x1024 : Shape := ⟨2, ![4, 1024]⟩
abbrev S4x3x64 : Shape := ⟨3, ![4, 3, 64]⟩
abbrev S4x31x64 : Shape := ⟨3, ![4, 31, 64]⟩
abbrev S4x256 : Shape := ⟨2, ![4, 256]⟩
abbrev S4x4x128x128 : Shape := ⟨4, ![4, 4, 128, 128]⟩
abbrev S4x4x128 : Shape := ⟨3, ![4, 4, 128]⟩
abbrev S4x64 : Shape := ⟨2, ![4, 64]⟩
abbrev S12288 : Shape := ⟨1, ![12288]⟩
abbrev S4096 : Shape := ⟨1, ![4096]⟩
abbrev S768 : Shape := ⟨1, ![768]⟩
abbrev S7936 : Shape := ⟨1, ![7936]⟩
abbrev S262144 : Shape := ⟨1, ![262144]⟩
abbrev S2048 : Shape := ⟨1, ![2048]⟩
abbrev S256 : Shape := ⟨1, ![256]⟩
abbrev S300032 : Shape := ⟨1, ![300032]⟩
abbrev S300032x1 : Shape := ⟨2, ![300032, 1]⟩
abbrev S_ : Shape := ⟨0, ![]⟩
abbrev S1024x1 : Shape := ⟨2, ![1024, 1]⟩
abbrev S301056x1 : Shape := ⟨2, ![301056, 1]⟩
abbrev S2352x128 : Shape := ⟨2, ![2352, 128]⟩
abbrev S301056 : Shape := ⟨1, ![301056]⟩

abbrev nBuf : Space → Nat
  | .hbm => 234
  | .vmem => 8
  | .smem => 0
  | _ => 0

abbrev hbmTy0_0 (i : Nat) : BufTy := match i % 128 with
  | 0 => ⟨S1024, .f32⟩
  | 1 => ⟨S4x3072, .f32⟩
  | 2 => ⟨S4x1024, .f32⟩
  | 3 => ⟨S4x1024, .f32⟩
  | 4 => ⟨S4x3x64, .f32⟩
  | 5 => ⟨S4x31x64, .f32⟩
  | 6 => ⟨S4x256, .f32⟩
  | 7 => ⟨S4x256, .f32⟩
  | 8 => ⟨S4x256, .f32⟩
  | 9 => ⟨S4x256, .f32⟩
  | 10 => ⟨S4x256, .f32⟩
  | 11 => ⟨S4x4x128x128, .f32⟩
  | 12 => ⟨S4x4x128, .f32⟩
  | 13 => ⟨S4x64, .f32⟩
  | 14 => ⟨S4x64, .f32⟩
  | 15 => ⟨S1024, .f32⟩
  | 16 => ⟨S4x3072, .f32⟩
  | 17 => ⟨S4x1024, .f32⟩
  | 18 => ⟨S4x1024, .f32⟩
  | 19 => ⟨S4x3x64, .f32⟩
  | 20 => ⟨S4x31x64, .f32⟩
  | 21 => ⟨S4x256, .f32⟩
  | 22 => ⟨S4x256, .f32⟩
  | 23 => ⟨S4x256, .f32⟩
  | 24 => ⟨S4x256, .f32⟩
  | 25 => ⟨S4x256, .f32⟩
  | 26 => ⟨S4x4x128x128, .f32⟩
  | 27 => ⟨S4x4x128, .f32⟩
  | 28 => ⟨S4x64, .f32⟩
  | 29 => ⟨S4x64, .f32⟩
  | 30 => ⟨S1024, .f32⟩
  | 31 => ⟨S4x3072, .f32⟩
  | 32 => ⟨S4x1024, .f32⟩
  | 33 => ⟨S4x1024, .f32⟩
  | 34 => ⟨S4x3x64, .f32⟩
  | 35 => ⟨S4x31x64, .f32⟩
  | 36 => ⟨S4x256, .f32⟩
  | 37 => ⟨S4x256, .f32⟩
  | 38 => ⟨S4x256, .f32⟩
  | 39 => ⟨S4x256, .f32⟩
  | 40 => ⟨S4x256, .f32⟩
  | 41 => ⟨S4x4x128x128, .f32⟩
  | 42 => ⟨S4x4x128, .f32⟩
  | 43 => ⟨S4x64, .f32⟩
  | 44 => ⟨S4x64, .f32⟩
  | 45 => ⟨S1024, .f32⟩
  | 46 => ⟨S4x3072, .f32⟩
  | 47 => ⟨S4x1024, .f32⟩
  | 48 => ⟨S4x1024, .f32⟩
  | 49 => ⟨S4x3x64, .f32⟩
  | 50 => ⟨S4x31x64, .f32⟩
  | 51 => ⟨S4x256, .f32⟩
  | 52 => ⟨S4x256, .f32⟩
  | 53 => ⟨S4x256, .f32⟩
  | 54 => ⟨S4x256, .f32⟩
  | 55 => ⟨S4x256, .f32⟩
  | 56 => ⟨S4x4x128x128, .f32⟩
  | 57 => ⟨S4x4x128, .f32⟩
  | 58 => ⟨S4x64, .f32⟩
  | 59 => ⟨S4x64, .f32⟩
  | 60 => ⟨S12288, .f32⟩
  | 61 => ⟨S4096, .f32⟩
  | 62 => ⟨S4096, .f32⟩
  | 63 => ⟨S768, .f32⟩
  | 64 => ⟨S7936, .f32⟩
  | 65 => ⟨S1024, .f32⟩
  | 66 => ⟨S1024, .f32⟩
  | 67 => ⟨S1024, .f32⟩
  | 68 => ⟨S1024, .f32⟩
  | 69 => ⟨S1024, .f32⟩
  | 70 => ⟨S262144, .f32⟩
  | 71 => ⟨S2048, .f32⟩
  | 72 => ⟨S256, .f32⟩
  | 73 => ⟨S256, .f32⟩
  | 74 => ⟨S300032, .f32⟩
  | 75 => ⟨S300032x1, .f32⟩
  | 76 => ⟨S_, .f32⟩
  | 77 => ⟨S1024x1, .f32⟩
  | 78 => ⟨S301056x1, .f32⟩
  | 79 => ⟨S2352x128, .f32⟩
  | 80 => ⟨S12288, .f32⟩
  | 81 => ⟨S4096, .f32⟩
  | 82 => ⟨S4096, .f32⟩
  | 83 => ⟨S768, .f32⟩
  | 84 => ⟨S7936, .f32⟩
  | 85 => ⟨S1024, .f32⟩
  | 86 => ⟨S1024, .f32⟩
  | 87 => ⟨S1024, .f32⟩
  | 88 => ⟨S1024, .f32⟩
  | 89 => ⟨S1024, .f32⟩
  | 90 => ⟨S262144, .f32⟩
  | 91 => ⟨S2048, .f32⟩
  | 92 => ⟨S256, .f32⟩
  | 93 => ⟨S256, .f32⟩
  | 94 => ⟨S300032, .f32⟩
  | 95 => ⟨S300032x1, .f32⟩
  | 96 => ⟨S_, .f32⟩
  | 97 => ⟨S1024x1, .f32⟩
  | 98 => ⟨S301056x1, .f32⟩
  | 99 => ⟨S2352x128, .f32⟩
  | 100 => ⟨S12288, .f32⟩
  | 101 => ⟨S4096, .f32⟩
  | 102 => ⟨S4096, .f32⟩
  | 103 => ⟨S768, .f32⟩
  | 104 => ⟨S7936, .f32⟩
  | 105 => ⟨S1024, .f32⟩
  | 106 => ⟨S1024, .f32⟩
  | 107 => ⟨S1024, .f32⟩
  | 108 => ⟨S1024, .f32⟩
  | 109 => ⟨S1024, .f32⟩
  | 110 => ⟨S262144, .f32⟩
  | 111 => ⟨S2048, .f32⟩
  | 112 => ⟨S256, .f32⟩
  | 113 => ⟨S256, .f32⟩
  | 114 => ⟨S300032, .f32⟩
  | 115 => ⟨S300032x1, .f32⟩
  | 116 => ⟨S_, .f32⟩
  | 117 => ⟨S1024x1, .f32⟩
  | 118 => ⟨S301056x1, .f32⟩
  | 119 => ⟨S2352x128, .f32⟩
  | 120 => ⟨S12288, .f32⟩
  | 121 => ⟨S4096, .f32⟩
  | 122 => ⟨S4096, .f32⟩
  | 123 => ⟨S768, .f32⟩
  | 124 => ⟨S7936, .f32⟩
  | 125 => ⟨S1024, .f32⟩
  | 126 => ⟨S1024, .f32⟩
  | 127 => ⟨S1024, .f32⟩
  | _ => ⟨S1024, .f32⟩

abbrev hbmTy0_1 (i : Nat) : BufTy := match i % 128 with
  | 0 => ⟨S1024, .f32⟩
  | 1 => ⟨S1024, .f32⟩
  | 2 => ⟨S262144, .f32⟩
  | 3 => ⟨S2048, .f32⟩
  | 4 => ⟨S256, .f32⟩
  | 5 => ⟨S256, .f32⟩
  | 6 => ⟨S300032, .f32⟩
  | 7 => ⟨S300032x1, .f32⟩
  | 8 => ⟨S_, .f32⟩
  | 9 => ⟨S1024x1, .f32⟩
  | 10 => ⟨S301056x1, .f32⟩
  | 11 => ⟨S2352x128, .f32⟩
  | 12 => ⟨S2352x128, .f32⟩
  | 13 => ⟨S2352x128, .f32⟩
  | 14 => ⟨S2352x128, .f32⟩
  | 15 => ⟨S2352x128, .f32⟩
  | 16 => ⟨S301056, .f32⟩
  | 17 => ⟨S1024, .f32⟩
  | 18 => ⟨S12288, .f32⟩
  | 19 => ⟨S4x3072, .f32⟩
  | 20 => ⟨S4096, .f32⟩
  | 21 => ⟨S4x1024, .f32⟩
  | 22 => ⟨S4096, .f32⟩
  | 23 => ⟨S4x1024, .f32⟩
  | 24 => ⟨S768, .f32⟩
  | 25 => ⟨S4x3x64, .f32⟩
  | 26 => ⟨S7936, .f32⟩
  | 27 => ⟨S4x31x64, .f32⟩
  | 28 => ⟨S1024, .f32⟩
  | 29 => ⟨S4x256, .f32⟩
  | 30 => ⟨S1024, .f32⟩
  | 31 => ⟨S4x256, .f32⟩
  | 32 => ⟨S1024, .f32⟩
  | 33 => ⟨S4x256, .f32⟩
  | 34 => ⟨S1024, .f32⟩
  | 35 => ⟨S4x256, .f32⟩
  | 36 => ⟨S1024, .f32⟩
  | 37 => ⟨S4x256, .f32⟩
  | 38 => ⟨S262144, .f32⟩
  | 39 => ⟨S4x4x128x128, .f32⟩
  | 40 => ⟨S2048, .f32⟩
  | 41 => ⟨S4x4x128, .f32⟩
  | 42 => ⟨S256, .f32⟩
  | 43 => ⟨S4x64, .f32⟩
  | 44 => ⟨S256, .f32⟩
  | 45 => ⟨S4x64, .f32⟩
  | 46 => ⟨S301056, .f32⟩
  | 47 => ⟨S1024, .f32⟩
  | 48 => ⟨S12288, .f32⟩
  | 49 => ⟨S4x3072, .f32⟩
  | 50 => ⟨S4096, .f32⟩
  | 51 => ⟨S4x1024, .f32⟩
  | 52 => ⟨S4096, .f32⟩
  | 53 => ⟨S4x1024, .f32⟩
  | 54 => ⟨S768, .f32⟩
  | 55 => ⟨S4x3x64, .f32⟩
  | 56 => ⟨S7936, .f32⟩
  | 57 => ⟨S4x31x64, .f32⟩
  | 58 => ⟨S1024, .f32⟩
  | 59 => ⟨S4x256, .f32⟩
  | 60 => ⟨S1024, .f32⟩
  | 61 => ⟨S4x256, .f32⟩
  | 62 => ⟨S1024, .f32⟩
  | 63 => ⟨S4x256, .f32⟩
  | 64 => ⟨S1024, .f32⟩
  | 65 => ⟨S4x256, .f32⟩
  | 66 => ⟨S1024, .f32⟩
  | 67 => ⟨S4x256, .f32⟩
  | 68 => ⟨S262144, .f32⟩
  | 69 => ⟨S4x4x128x128, .f32⟩
  | 70 => ⟨S2048, .f32⟩
  | 71 => ⟨S4x4x128, .f32⟩
  | 72 => ⟨S256, .f32⟩
  | 73 => ⟨S4x64, .f32⟩
  | 74 => ⟨S256, .f32⟩
  | 75 => ⟨S4x64, .f32⟩
  | 76 => ⟨S301056, .f32⟩
  | 77 => ⟨S1024, .f32⟩
  | 78 => ⟨S12288, .f32⟩
  | 79 => ⟨S4x3072, .f32⟩
  | 80 => ⟨S4096, .f32⟩
  | 81 => ⟨S4x1024, .f32⟩
  | 82 => ⟨S4096, .f32⟩
  | 83 => ⟨S4x1024, .f32⟩
  | 84 => ⟨S768, .f32⟩
  | 85 => ⟨S4x3x64, .f32⟩
  | 86 => ⟨S7936, .f32⟩
  | 87 => ⟨S4x31x64, .f32⟩
  | 88 => ⟨S1024, .f32⟩
  | 89 => ⟨S4x256, .f32⟩
  | 90 => ⟨S1024, .f32⟩
  | 91 => ⟨S4x256, .f32⟩
  | 92 => ⟨S1024, .f32⟩
  | 93 => ⟨S4x256, .f32⟩
  | 94 => ⟨S1024, .f32⟩
  | 95 => ⟨S4x256, .f32⟩
  | 96 => ⟨S1024, .f32⟩
  | 97 => ⟨S4x256, .f32⟩
  | 98 => ⟨S262144, .f32⟩
  | 99 => ⟨S4x4x128x128, .f32⟩
  | 100 => ⟨S2048, .f32⟩
  | 101 => ⟨S4x4x128, .f32⟩
  | 102 => ⟨S256, .f32⟩
  | 103 => ⟨S4x64, .f32⟩
  | 104 => ⟨S256, .f32⟩
  | 105 => ⟨S4x64, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S2352x128, .f32⟩
  | .local _ .vmem, ⟨1, _⟩ => ⟨S2352x128, .f32⟩
  | .local _ .vmem, ⟨2, _⟩ => ⟨S2352x128, .f32⟩
  | .local _ .vmem, ⟨3, _⟩ => ⟨S2352x128, .f32⟩
  | .local _ .vmem, ⟨4, _⟩ => ⟨S2352x128, .f32⟩
  | .local _ .vmem, ⟨5, _⟩ => ⟨S2352x128, .f32⟩
  | .local _ .vmem, ⟨6, _⟩ => ⟨S2352x128, .f32⟩
  | .local _ .vmem, ⟨7, _⟩ => ⟨S2352x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_cst : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_0 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_1 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_cst_2 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76_0 : Ref sig .tc := ⟨.hbm, 140, rfl⟩
abbrev main_v76_1 : Ref sig .tc := ⟨.hbm, 141, rfl⟩
abbrev main_v76_2 : Ref sig .tc := ⟨.hbm, 142, rfl⟩
abbrev main_v76_3 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2352x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2352x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2352x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2352x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2352x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2352x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2352x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2352x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S1024 : Shape := ⟨1, ![1024]⟩
abbrev S4x3072 : Shape := ⟨2, ![4, 3072]⟩
abbrev S4x1024 : Shape := ⟨2, ![4, 1024]⟩
abbrev S4x3x64 : Shape := ⟨3, ![4, 3, 64]⟩
abbrev S4x31x64 : Shape := ⟨3, ![4, 31, 64]⟩
abbrev S4x256 : Shape := ⟨2, ![4, 256]⟩
abbrev S4x4x128x128 : Shape := ⟨4, ![4, 4, 128, 128]⟩
abbrev S4x4x128 : Shape := ⟨3, ![4, 4, 128]⟩
abbrev S4x64 : Shape := ⟨2, ![4, 64]⟩
abbrev S_ : Shape := ⟨0, ![]⟩

abbrev nBuf : Space → Nat
  | .hbm => 555
  | .vmem => 0
  | .smem => 0
  | _ => 0

abbrev hbmTy0_0 (i : Nat) : BufTy := match i % 128 with
  | 0 => ⟨S1024, .f32⟩
  | 1 => ⟨S4x3072, .f32⟩
  | 2 => ⟨S4x1024, .f32⟩
  | 3 => ⟨S4x1024, .f32⟩
  | 4 => ⟨S4x3x64, .f32⟩
  | 5 => ⟨S4x31x64, .f32⟩
  | 6 => ⟨S4x256, .f32⟩
  | 7 => ⟨S4x256, .f32⟩
  | 8 => ⟨S4x256, .f32⟩
  | 9 => ⟨S4x256, .f32⟩
  | 10 => ⟨S4x256, .f32⟩
  | 11 => ⟨S4x4x128x128, .f32⟩
  | 12 => ⟨S4x4x128, .f32⟩
  | 13 => ⟨S4x64, .f32⟩
  | 14 => ⟨S4x64, .f32⟩
  | 15 => ⟨S1024, .f32⟩
  | 16 => ⟨S4x3072, .f32⟩
  | 17 => ⟨S4x1024, .f32⟩
  | 18 => ⟨S4x1024, .f32⟩
  | 19 => ⟨S4x3x64, .f32⟩
  | 20 => ⟨S4x31x64, .f32⟩
  | 21 => ⟨S4x256, .f32⟩
  | 22 => ⟨S4x256, .f32⟩
  | 23 => ⟨S4x256, .f32⟩
  | 24 => ⟨S4x256, .f32⟩
  | 25 => ⟨S4x256, .f32⟩
  | 26 => ⟨S4x4x128x128, .f32⟩
  | 27 => ⟨S4x4x128, .f32⟩
  | 28 => ⟨S4x64, .f32⟩
  | 29 => ⟨S4x64, .f32⟩
  | 30 => ⟨S1024, .f32⟩
  | 31 => ⟨S4x3072, .f32⟩
  | 32 => ⟨S4x1024, .f32⟩
  | 33 => ⟨S4x1024, .f32⟩
  | 34 => ⟨S4x3x64, .f32⟩
  | 35 => ⟨S4x31x64, .f32⟩
  | 36 => ⟨S4x256, .f32⟩
  | 37 => ⟨S4x256, .f32⟩
  | 38 => ⟨S4x256, .f32⟩
  | 39 => ⟨S4x256, .f32⟩
  | 40 => ⟨S4x256, .f32⟩
  | 41 => ⟨S4x4x128x128, .f32⟩
  | 42 => ⟨S4x4x128, .f32⟩
  | 43 => ⟨S4x64, .f32⟩
  | 44 => ⟨S4x64, .f32⟩
  | 45 => ⟨S1024, .f32⟩
  | 46 => ⟨S4x3072, .f32⟩
  | 47 => ⟨S4x1024, .f32⟩
  | 48 => ⟨S4x1024, .f32⟩
  | 49 => ⟨S4x3x64, .f32⟩
  | 50 => ⟨S4x31x64, .f32⟩
  | 51 => ⟨S4x256, .f32⟩
  | 52 => ⟨S4x256, .f32⟩
  | 53 => ⟨S4x256, .f32⟩
  | 54 => ⟨S4x256, .f32⟩
  | 55 => ⟨S4x256, .f32⟩
  | 56 => ⟨S4x4x128x128, .f32⟩
  | 57 => ⟨S4x4x128, .f32⟩
  | 58 => ⟨S4x64, .f32⟩
  | 59 => ⟨S4x64, .f32⟩
  | 60 => ⟨S_, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S_, .f32⟩
  | 94 => ⟨S4x3072, .f32⟩
  | 95 => ⟨S4x3072, .f32⟩
  | 96 => ⟨S_, .f32⟩
  | 97 => ⟨S4x3072, .f32⟩
  | 98 => ⟨S4x3072, .f32⟩
  | 99 => ⟨S4x3072, .f32⟩
  | 100 => ⟨S_, .f32⟩
  | 101 => ⟨S4x3072, .f32⟩
  | 102 => ⟨S4x3072, .f32⟩
  | 103 => ⟨S4x3072, .f32⟩
  | 104 => ⟨S_, .f32⟩
  | 105 => ⟨S4x3072, .f32⟩
  | 106 => ⟨S4x3072, .f32⟩
  | 107 => ⟨S4x3072, .f32⟩
  | 108 => ⟨S_, .f32⟩
  | 109 => ⟨S4x3072, .f32⟩
  | 110 => ⟨S4x3072, .f32⟩
  | 111 => ⟨S_, .f32⟩
  | 112 => ⟨S4x3072, .f32⟩
  | 113 => ⟨S4x3072, .f32⟩
  | 114 => ⟨S4x3072, .f32⟩
  | 115 => ⟨S_, .f32⟩
  | 116 => ⟨S4x3072, .f32⟩
  | 117 => ⟨S4x3072, .f32⟩
  | 118 => ⟨S4x3072, .f32⟩
  | 119 => ⟨S_, .f32⟩
  | 120 => ⟨S4x3072, .f32⟩
  | 121 => ⟨S4x3072, .f32⟩
  | 122 => ⟨S4x3072, .f32⟩
  | 123 => ⟨S_, .f32⟩
  | 124 => ⟨S4x3072, .f32⟩
  | 125 => ⟨S4x3072, .f32⟩
  | 126 => ⟨S_, .f32⟩
  | 127 => ⟨S4x1024, .f32⟩
  | _ => ⟨S1024, .f32⟩

abbrev hbmTy0_1 (i : Nat) : BufTy := match i % 128 with
  | 0 => ⟨S4x1024, .f32⟩
  | 1 => ⟨S_, .f32⟩
  | 2 => ⟨S4x1024, .f32⟩
  | 3 => ⟨S4x1024, .f32⟩
  | 4 => ⟨S4x1024, .f32⟩
  | 5 => ⟨S_, .f32⟩
  | 6 => ⟨S4x1024, .f32⟩
  | 7 => ⟨S4x1024, .f32⟩
  | 8 => ⟨S4x1024, .f32⟩
  | 9 => ⟨S_, .f32⟩
  | 10 => ⟨S4x1024, .f32⟩
  | 11 => ⟨S4x1024, .f32⟩
  | 12 => ⟨S4x1024, .f32⟩
  | 13 => ⟨S_, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S4x1024, .f32⟩
  | 24 => ⟨S_, .f32⟩
  | 25 => ⟨S4x1024, .f32⟩
  | 26 => ⟨S4x1024, .f32⟩
  | 27 => ⟨S4x1024, .f32⟩
  | 28 => ⟨S_, .f32⟩
  | 29 => ⟨S4x1024, .f32⟩
  | 30 => ⟨S4x1024, .f32⟩
  | 31 => ⟨S_, .f32⟩
  | 32 => ⟨S4x1024, .f32⟩
  | 33 => ⟨S4x1024, .f32⟩
  | 34 => ⟨S_, .f32⟩
  | 35 => ⟨S4x1024, .f32⟩
  | 36 => ⟨S4x1024, .f32⟩
  | 37 => ⟨S4x1024, .f32⟩
  | 38 => ⟨S_, .f32⟩
  | 39 => ⟨S4x1024, .f32⟩
  | 40 => ⟨S4x1024, .f32⟩
  | 41 => ⟨S4x1024, .f32⟩
  | 42 => ⟨S_, .f32⟩
  | 43 => ⟨S4x1024, .f32⟩
  | 44 => ⟨S4x1024, .f32⟩
  | 45 => ⟨S4x1024, .f32⟩
  | 46 => ⟨S_, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S4x1024, .f32⟩
  | 53 => ⟨S_, .f32⟩
  | 54 => ⟨S4x1024, .f32⟩
  | 55 => ⟨S4x1024, .f32⟩
  | 56 => ⟨S4x1024, .f32⟩
  | 57 => ⟨S_, .f32⟩
  | 58 => ⟨S4x1024, .f32⟩
  | 59 => ⟨S4x1024, .f32⟩
  | 60 => ⟨S4x1024, .f32⟩
  | 61 => ⟨S_, .f32⟩
  | 62 => ⟨S4x1024, .f32⟩
  | 63 => ⟨S4x1024, .f32⟩
  | 64 => ⟨S_, .f32⟩
  | 65 => ⟨S4x3x64, .f32⟩
  | 66 => ⟨S4x3x64, .f32⟩
  | 67 => ⟨S_, .f32⟩
  | 68 => ⟨S4x3x64, .f32⟩
  | 69 => ⟨S4x3x64, .f32⟩
  | 70 => ⟨S4x3x64, .f32⟩
  | 71 => ⟨S_, .f32⟩
  | 72 => ⟨S4x3x64, .f32⟩
  | 73 => ⟨S4x3x64, .f32⟩
  | 74 => ⟨S4x3x64, .f32⟩
  | 75 => ⟨S_, .f32⟩
  | 76 => ⟨S4x3x64, .f32⟩
  | 77 => ⟨S4x3x64, .f32⟩
  | 78 => ⟨S4x3x64, .f32⟩
  | 79 => ⟨S_, .f32⟩
  | 80 => ⟨S4x3x64, .f32⟩
  | 81 => ⟨S4x3x64, .f32⟩
  | 82 => ⟨S_, .f32⟩
  | 83 => ⟨S4x3x64, .f32⟩
  | 84 => ⟨S4x3x64, .f32⟩
  | 85 => ⟨S4x3x64, .f32⟩
  | 86 => ⟨S_, .f32⟩
  | 87 => ⟨S4x3x64, .f32⟩
  | 88 => ⟨S4x3x64, .f32⟩
  | 89 => ⟨S4x3x64, .f32⟩
  | 90 => ⟨S_, .f32⟩
  | 91 => ⟨S4x3x64, .f32⟩
  | 92 => ⟨S4x3x64, .f32⟩
  | 93 => ⟨S4x3x64, .f32⟩
  | 94 => ⟨S_, .f32⟩
  | 95 => ⟨S4x3x64, .f32⟩
  | 96 => ⟨S4x3x64, .f32⟩
  | 97 => ⟨S_, .f32⟩
  | 98 => ⟨S4x31x64, .f32⟩
  | 99 => ⟨S4x31x64, .f32⟩
  | 100 => ⟨S_, .f32⟩
  | 101 => ⟨S4x31x64, .f32⟩
  | 102 => ⟨S4x31x64, .f32⟩
  | 103 => ⟨S4x31x64, .f32⟩
  | 104 => ⟨S_, .f32⟩
  | 105 => ⟨S4x31x64, .f32⟩
  | 106 => ⟨S4x31x64, .f32⟩
  | 107 => ⟨S4x31x64, .f32⟩
  | 108 => ⟨S_, .f32⟩
  | 109 => ⟨S4x31x64, .f32⟩
  | 110 => ⟨S4x31x64, .f32⟩
  | 111 => ⟨S4x31x64, .f32⟩
  | 112 => ⟨S_, .f32⟩
  | 113 => ⟨S4x31x64, .f32⟩
  | 114 => ⟨S4x31x64, .f32⟩
  | 115 => ⟨S_, .f32⟩
  | 116 => ⟨S4x31x64, .f32⟩
  | 117 => ⟨S4x31x64, .f32⟩
  | 118 => ⟨S4x31x64, .f32⟩
  | 119 => ⟨S_, .f32⟩
  | 120 => ⟨S4x31x64, .f32⟩
  | 121 => ⟨S4x31x64, .f32⟩
  | 122 => ⟨S4x31x64, .f32⟩
  | 123 => ⟨S_, .f32⟩
  | 124 => ⟨S4x31x64, .f32⟩
  | 125 => ⟨S4x31x64, .f32⟩
  | 126 => ⟨S4x31x64, .f32⟩
  | 127 => ⟨S_, .f32⟩
  | _ => ⟨S1024, .f32⟩

abbrev hbmTy0_2 (i : Nat) : BufTy := match i % 128 with
  | 0 => ⟨S4x31x64, .f32⟩
  | 1 => ⟨S4x31x64, .f32⟩
  | 2 => ⟨S_, .f32⟩
  | 3 => ⟨S4x256, .f32⟩
  | 4 => ⟨S4x256, .f32⟩
  | 5 => ⟨S_, .f32⟩
  | 6 => ⟨S4x256, .f32⟩
  | 7 => ⟨S4x256, .f32⟩
  | 8 => ⟨S4x256, .f32⟩
  | 9 => ⟨S_, .f32⟩
  | 10 => ⟨S4x256, .f32⟩
  | 11 => ⟨S4x256, .f32⟩
  | 12 => ⟨S4x256, .f32⟩
  | 13 => ⟨S_, .f32⟩
  | 14 => ⟨S4x256, .f32⟩
  | 15 => ⟨S4x256, .f32⟩
  | 16 => ⟨S4x256, .f32⟩
  | 17 => ⟨S_, .f32⟩
  | 18 => ⟨S4x256, .f32⟩
  | 19 => ⟨S4x256, .f32⟩
  | 20 => ⟨S_, .f32⟩
  | 21 => ⟨S4x256, .f32⟩
  | 22 => ⟨S4x256, .f32⟩
  | 23 => ⟨S4x256, .f32⟩
  | 24 => ⟨S_, .f32⟩
  | 25 => ⟨S4x256, .f32⟩
  | 26 => ⟨S4x256, .f32⟩
  | 27 => ⟨S4x256, .f32⟩
  | 28 => ⟨S_, .f32⟩
  | 29 => ⟨S4x256, .f32⟩
  | 30 => ⟨S4x256, .f32⟩
  | 31 => ⟨S4x256, .f32⟩
  | 32 => ⟨S_, .f32⟩
  | 33 => ⟨S4x256, .f32⟩
  | 34 => ⟨S4x256, .f32⟩
  | 35 => ⟨S_, .f32⟩
  | 36 => ⟨S4x256, .f32⟩
  | 37 => ⟨S4x256, .f32⟩
  | 38 => ⟨S_, .f32⟩
  | 39 => ⟨S4x256, .f32⟩
  | 40 => ⟨S4x256, .f32⟩
  | 41 => ⟨S4x256, .f32⟩
  | 42 => ⟨S_, .f32⟩
  | 43 => ⟨S4x256, .f32⟩
  | 44 => ⟨S4x256, .f32⟩
  | 45 => ⟨S4x256, .f32⟩
  | 46 => ⟨S_, .f32⟩
  | 47 => ⟨S4x256, .f32⟩
  | 48 => ⟨S4x256, .f32⟩
  | 49 => ⟨S4x256, .f32⟩
  | 50 => ⟨S_, .f32⟩
  | 51 => ⟨S4x256, .f32⟩
  | 52 => ⟨S4x256, .f32⟩
  | 53 => ⟨S_, .f32⟩
  | 54 => ⟨S4x256, .f32⟩
  | 55 => ⟨S4x256, .f32⟩
  | 56 => ⟨S4x256, .f32⟩
  | 57 => ⟨S_, .f32⟩
  | 58 => ⟨S4x256, .f32⟩
  | 59 => ⟨S4x256, .f32⟩
  | 60 => ⟨S4x256, .f32⟩
  | 61 => ⟨S_, .f32⟩
  | 62 => ⟨S4x256, .f32⟩
  | 63 => ⟨S4x256, .f32⟩
  | 64 => ⟨S4x256, .f32⟩
  | 65 => ⟨S_, .f32⟩
  | 66 => ⟨S4x256, .f32⟩
  | 67 => ⟨S4x256, .f32⟩
  | 68 => ⟨S_, .f32⟩
  | 69 => ⟨S4x256, .f32⟩
  | 70 => ⟨S4x256, .f32⟩
  | 71 => ⟨S_, .f32⟩
  | 72 => ⟨S4x256, .f32⟩
  | 73 => ⟨S4x256, .f32⟩
  | 74 => ⟨S4x256, .f32⟩
  | 75 => ⟨S_, .f32⟩
  | 76 => ⟨S4x256, .f32⟩
  | 77 => ⟨S4x256, .f32⟩
  | 78 => ⟨S4x256, .f32⟩
  | 79 => ⟨S_, .f32⟩
  | 80 => ⟨S4x256, .f32⟩
  | 81 => ⟨S4x256, .f32⟩
  | 82 => ⟨S4x256, .f32⟩
  | 83 => ⟨S_, .f32⟩
  | 84 => ⟨S4x256, .f32⟩
  | 85 => ⟨S4x256, .f32⟩
  | 86 => ⟨S_, .f32⟩
  | 87 => ⟨S4x256, .f32⟩
  | 88 => ⟨S4x256, .f32⟩
  | 89 => ⟨S4x256, .f32⟩
  | 90 => ⟨S_, .f32⟩
  | 91 => ⟨S4x256, .f32⟩
  | 92 => ⟨S4x256, .f32⟩
  | 93 => ⟨S4x256, .f32⟩
  | 94 => ⟨S_, .f32⟩
  | 95 => ⟨S4x256, .f32⟩
  | 96 => ⟨S4x256, .f32⟩
  | 97 => ⟨S4x256, .f32⟩
  | 98 => ⟨S_, .f32⟩
  | 99 => ⟨S4x256, .f32⟩
  | 100 => ⟨S4x256, .f32⟩
  | 101 => ⟨S_, .f32⟩
  | 102 => ⟨S4x256, .f32⟩
  | 103 => ⟨S4x256, .f32⟩
  | 104 => ⟨S_, .f32⟩
  | 105 => ⟨S4x256, .f32⟩
  | 106 => ⟨S4x256, .f32⟩
  | 107 => ⟨S4x256, .f32⟩
  | 108 => ⟨S_, .f32⟩
  | 109 => ⟨S4x256, .f32⟩
  | 110 => ⟨S4x256, .f32⟩
  | 111 => ⟨S4x256, .f32⟩
  | 112 => ⟨S_, .f32⟩
  | 113 => ⟨S4x256, .f32⟩
  | 114 => ⟨S4x256, .f32⟩
  | 115 => ⟨S4x256, .f32⟩
  | 116 => ⟨S_, .f32⟩
  | 117 => ⟨S4x256, .f32⟩
  | 118 => ⟨S4x256, .f32⟩
  | 119 => ⟨S_, .f32⟩
  | 120 => ⟨S4x256, .f32⟩
  | 121 => ⟨S4x256, .f32⟩
  | 122 => ⟨S4x256, .f32⟩
  | 123 => ⟨S_, .f32⟩
  | 124 => ⟨S4x256, .f32⟩
  | 125 => ⟨S4x256, .f32⟩
  | 126 => ⟨S4x256, .f32⟩
  | 127 => ⟨S_, .f32⟩
  | _ => ⟨S1024, .f32⟩

abbrev hbmTy0_3 (i : Nat) : BufTy := match i % 128 with
  | 0 => ⟨S4x256, .f32⟩
  | 1 => ⟨S4x256, .f32⟩
  | 2 => ⟨S4x256, .f32⟩
  | 3 => ⟨S_, .f32⟩
  | 4 => ⟨S4x256, .f32⟩
  | 5 => ⟨S4x256, .f32⟩
  | 6 => ⟨S_, .f32⟩
  | 7 => ⟨S4x256, .f32⟩
  | 8 => ⟨S4x256, .f32⟩
  | 9 => ⟨S_, .f32⟩
  | 10 => ⟨S4x256, .f32⟩
  | 11 => ⟨S4x256, .f32⟩
  | 12 => ⟨S4x256, .f32⟩
  | 13 => ⟨S_, .f32⟩
  | 14 => ⟨S4x256, .f32⟩
  | 15 => ⟨S4x256, .f32⟩
  | 16 => ⟨S4x256, .f32⟩
  | 17 => ⟨S_, .f32⟩
  | 18 => ⟨S4x256, .f32⟩
  | 19 => ⟨S4x256, .f32⟩
  | 20 => ⟨S4x256, .f32⟩
  | 21 => ⟨S_, .f32⟩
  | 22 => ⟨S4x256, .f32⟩
  | 23 => ⟨S4x256, .f32⟩
  | 24 => ⟨S_, .f32⟩
  | 25 => ⟨S4x256, .f32⟩
  | 26 => ⟨S4x256, .f32⟩
  | 27 => ⟨S4x256, .f32⟩
  | 28 => ⟨S_, .f32⟩
  | 29 => ⟨S4x256, .f32⟩
  | 30 => ⟨S4x256, .f32⟩
  | 31 => ⟨S4x256, .f32⟩
  | 32 => ⟨S_, .f32⟩
  | 33 => ⟨S4x256, .f32⟩
  | 34 => ⟨S4x256, .f32⟩
  | 35 => ⟨S4x256, .f32⟩
  | 36 => ⟨S_, .f32⟩
  | 37 => ⟨S4x256, .f32⟩
  | 38 => ⟨S4x256, .f32⟩
  | 39 => ⟨S_, .f32⟩
  | 40 => ⟨S4x4x128x128, .f32⟩
  | 41 => ⟨S4x4x128x128, .f32⟩
  | 42 => ⟨S_, .f32⟩
  | 43 => ⟨S4x4x128x128, .f32⟩
  | 44 => ⟨S4x4x128x128, .f32⟩
  | 45 => ⟨S4x4x128x128, .f32⟩
  | 46 => ⟨S_, .f32⟩
  | 47 => ⟨S4x4x128x128, .f32⟩
  | 48 => ⟨S4x4x128x128, .f32⟩
  | 49 => ⟨S4x4x128x128, .f32⟩
  | 50 => ⟨S_, .f32⟩
  | 51 => ⟨S4x4x128x128, .f32⟩
  | 52 => ⟨S4x4x128x128, .f32⟩
  | 53 => ⟨S4x4x128x128, .f32⟩
  | 54 => ⟨S_, .f32⟩
  | 55 => ⟨S4x4x128x128, .f32⟩
  | 56 => ⟨S4x4x128x128, .f32⟩
  | 57 => ⟨S_, .f32⟩
  | 58 => ⟨S4x4x128x128, .f32⟩
  | 59 => ⟨S4x4x128x128, .f32⟩
  | 60 => ⟨S4x4x128x128, .f32⟩
  | 61 => ⟨S_, .f32⟩
  | 62 => ⟨S4x4x128x128, .f32⟩
  | 63 => ⟨S4x4x128x128, .f32⟩
  | 64 => ⟨S4x4x128x128, .f32⟩
  | 65 => ⟨S_, .f32⟩
  | 66 => ⟨S4x4x128x128, .f32⟩
  | 67 => ⟨S4x4x128x128, .f32⟩
  | 68 => ⟨S4x4x128x128, .f32⟩
  | 69 => ⟨S_, .f32⟩
  | 70 => ⟨S4x4x128x128, .f32⟩
  | 71 => ⟨S4x4x128x128, .f32⟩
  | 72 => ⟨S_, .f32⟩
  | 73 => ⟨S4x4x128, .f32⟩
  | 74 => ⟨S4x4x128, .f32⟩
  | 75 => ⟨S_, .f32⟩
  | 76 => ⟨S4x4x128, .f32⟩
  | 77 => ⟨S4x4x128, .f32⟩
  | 78 => ⟨S4x4x128, .f32⟩
  | 79 => ⟨S_, .f32⟩
  | 80 => ⟨S4x4x128, .f32⟩
  | 81 => ⟨S4x4x128, .f32⟩
  | 82 => ⟨S4x4x128, .f32⟩
  | 83 => ⟨S_, .f32⟩
  | 84 => ⟨S4x4x128, .f32⟩
  | 85 => ⟨S4x4x128, .f32⟩
  | 86 => ⟨S4x4x128, .f32⟩
  | 87 => ⟨S_, .f32⟩
  | 88 => ⟨S4x4x128, .f32⟩
  | 89 => ⟨S4x4x128, .f32⟩
  | 90 => ⟨S_, .f32⟩
  | 91 => ⟨S4x4x128, .f32⟩
  | 92 => ⟨S4x4x128, .f32⟩
  | 93 => ⟨S4x4x128, .f32⟩
  | 94 => ⟨S_, .f32⟩
  | 95 => ⟨S4x4x128, .f32⟩
  | 96 => ⟨S4x4x128, .f32⟩
  | 97 => ⟨S4x4x128, .f32⟩
  | 98 => ⟨S_, .f32⟩
  | 99 => ⟨S4x4x128, .f32⟩
  | 100 => ⟨S4x4x128, .f32⟩
  | 101 => ⟨S4x4x128, .f32⟩
  | 102 => ⟨S_, .f32⟩
  | 103 => ⟨S4x4x128, .f32⟩
  | 104 => ⟨S4x4x128, .f32⟩
  | 105 => ⟨S_, .f32⟩
  | 106 => ⟨S4x64, .f32⟩
  | 107 => ⟨S4x64, .f32⟩
  | 108 => ⟨S_, .f32⟩
  | 109 => ⟨S4x64, .f32⟩
  | 110 => ⟨S4x64, .f32⟩
  | 111 => ⟨S4x64, .f32⟩
  | 112 => ⟨S_, .f32⟩
  | 113 => ⟨S4x64, .f32⟩
  | 114 => ⟨S4x64, .f32⟩
  | 115 => ⟨S4x64, .f32⟩
  | 116 => ⟨S_, .f32⟩
  | 117 => ⟨S4x64, .f32⟩
  | 118 => ⟨S4x64, .f32⟩
  | 119 => ⟨S4x64, .f32⟩
  | 120 => ⟨S_, .f32⟩
  | 121 => ⟨S4x64, .f32⟩
  | 122 => ⟨S4x64, .f32⟩
  | 123 => ⟨S_, .f32⟩
  | 124 => ⟨S4x64, .f32⟩
  | 125 => ⟨S4x64, .f32⟩
  | 126 => ⟨S4x64, .f32⟩
  | 127 => ⟨S_, .f32⟩
  | _ => ⟨S1024, .f32⟩

abbrev hbmTy0_4 (i : Nat) : BufTy := match i % 128 with
  | 0 => ⟨S4x64, .f32⟩
  | 1 => ⟨S4x64, .f32⟩
  | 2 => ⟨S4x64, .f32⟩
  | 3 => ⟨S_, .f32⟩
  | 4 => ⟨S4x64, .f32⟩
  | 5 => ⟨S4x64, .f32⟩
  | 6 => ⟨S4x64, .f32⟩
  | 7 => ⟨S_, .f32⟩
  | 8 => ⟨S4x64, .f32⟩
  | 9 => ⟨S4x64, .f32⟩
  | 10 => ⟨S_, .f32⟩
  | 11 => ⟨S4x64, .f32⟩
  | 12 => ⟨S4x64, .f32⟩
  | 13 => ⟨S_, .f32⟩
  | 14 => ⟨S4x64, .f32⟩
  | 15 => ⟨S4x64, .f32⟩
  | 16 => ⟨S4x64, .f32⟩
  | 17 => ⟨S_, .f32⟩
  | 18 => ⟨S4x64, .f32⟩
  | 19 => ⟨S4x64, .f32⟩
  | 20 => ⟨S4x64, .f32⟩
  | 21 => ⟨S_, .f32⟩
  | 22 => ⟨S4x64, .f32⟩
  | 23 => ⟨S4x64, .f32⟩
  | 24 => ⟨S4x64, .f32⟩
  | 25 => ⟨S_, .f32⟩
  | 26 => ⟨S4x64, .f32⟩
  | 27 => ⟨S4x64, .f32⟩
  | 28 => ⟨S_, .f32⟩
  | 29 => ⟨S4x64, .f32⟩
  | 30 => ⟨S4x64, .f32⟩
  | 31 => ⟨S4x64, .f32⟩
  | 32 => ⟨S_, .f32⟩
  | 33 => ⟨S4x64, .f32⟩
  | 34 => ⟨S4x64, .f32⟩
  | 35 => ⟨S4x64, .f32⟩
  | 36 => ⟨S_, .f32⟩
  | 37 => ⟨S4x64, .f32⟩
  | 38 => ⟨S4x64, .f32⟩
  | 39 => ⟨S4x64, .f32⟩
  | 40 => ⟨S_, .f32⟩
  | 41 => ⟨S4x64, .f32⟩
  | 42 => ⟨S4x64, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_cst : Ref sig .tc := ⟨.hbm, 60, rfl⟩
abbrev main_v0 : Ref sig .tc := ⟨.hbm, 61, rfl⟩
abbrev main_v1 : Ref sig .tc := ⟨.hbm, 62, rfl⟩
abbrev main_cst_0 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_1 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst_2 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_v11 : Ref sig .tc := ⟨.hbm, 76, rfl⟩
abbrev main_v12 : Ref sig .tc := ⟨.hbm, 77, rfl⟩
abbrev main_cst_4 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_5 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_6 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_cst_9 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_10 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_11 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_cst_12 : Ref sig .tc := ⟨.hbm, 108, rfl⟩
abbrev main_v35 : Ref sig .tc := ⟨.hbm, 109, rfl⟩
abbrev main_v36 : Ref sig .tc := ⟨.hbm, 110, rfl⟩
abbrev main_cst_13 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_14 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_16 : Ref sig .tc := ⟨.hbm, 123, rfl⟩
abbrev main_v46 : Ref sig .tc := ⟨.hbm, 124, rfl⟩
abbrev main_v47 : Ref sig .tc := ⟨.hbm, 125, rfl⟩
abbrev main_cst_17 : Ref sig .tc := ⟨.hbm, 126, rfl⟩
abbrev main_v48 : Ref sig .tc := ⟨.hbm, 127, rfl⟩
abbrev main_v49 : Ref sig .tc := ⟨.hbm, 128, rfl⟩
abbrev main_cst_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_19 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_20 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_21 : Ref sig .tc := ⟨.hbm, 141, rfl⟩
abbrev main_v59 : Ref sig .tc := ⟨.hbm, 142, rfl⟩
abbrev main_v60 : Ref sig .tc := ⟨.hbm, 143, rfl⟩
abbrev main_cst_22 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_23 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_24 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_25 : Ref sig .tc := ⟨.hbm, 156, rfl⟩
abbrev main_v70 : Ref sig .tc := ⟨.hbm, 157, rfl⟩
abbrev main_v71 : Ref sig .tc := ⟨.hbm, 158, rfl⟩
abbrev main_cst_26 : Ref sig .tc := ⟨.hbm, 159, rfl⟩
abbrev main_v72 : Ref sig .tc := ⟨.hbm, 160, rfl⟩
abbrev main_v73 : Ref sig .tc := ⟨.hbm, 161, rfl⟩
abbrev main_cst_27 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_28 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_cst_29 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_cst_30 : Ref sig .tc := ⟨.hbm, 174, rfl⟩
abbrev main_v83 : Ref sig .tc := ⟨.hbm, 175, rfl⟩
abbrev main_v84 : Ref sig .tc := ⟨.hbm, 176, rfl⟩
abbrev main_cst_31 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_32 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_33 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_34 : Ref sig .tc := ⟨.hbm, 189, rfl⟩
abbrev main_v94 : Ref sig .tc := ⟨.hbm, 190, rfl⟩
abbrev main_v95 : Ref sig .tc := ⟨.hbm, 191, rfl⟩
abbrev main_cst_35 : Ref sig .tc := ⟨.hbm, 192, rfl⟩
abbrev main_v96 : Ref sig .tc := ⟨.hbm, 193, rfl⟩
abbrev main_v97 : Ref sig .tc := ⟨.hbm, 194, rfl⟩
abbrev main_cst_36 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_37 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_38 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_39 : Ref sig .tc := ⟨.hbm, 207, rfl⟩
abbrev main_v107 : Ref sig .tc := ⟨.hbm, 208, rfl⟩
abbrev main_v108 : Ref sig .tc := ⟨.hbm, 209, rfl⟩
abbrev main_cst_40 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_41 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_42 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_43 : Ref sig .tc := ⟨.hbm, 222, rfl⟩
abbrev main_v118 : Ref sig .tc := ⟨.hbm, 223, rfl⟩
abbrev main_v119 : Ref sig .tc := ⟨.hbm, 224, rfl⟩
abbrev main_cst_44 : Ref sig .tc := ⟨.hbm, 225, rfl⟩
abbrev main_v120 : Ref sig .tc := ⟨.hbm, 226, rfl⟩
abbrev main_v121 : Ref sig .tc := ⟨.hbm, 227, rfl⟩
abbrev main_cst_45 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_cst_46 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_47 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_48 : Ref sig .tc := ⟨.hbm, 240, rfl⟩
abbrev main_v131 : Ref sig .tc := ⟨.hbm, 241, rfl⟩
abbrev main_v132 : Ref sig .tc := ⟨.hbm, 242, rfl⟩
abbrev main_cst_49 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_50 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_cst_51 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_52 : Ref sig .tc := ⟨.hbm, 255, rfl⟩
abbrev main_v142 : Ref sig .tc := ⟨.hbm, 256, rfl⟩
abbrev main_v143 : Ref sig .tc := ⟨.hbm, 257, rfl⟩
abbrev main_cst_53 : Ref sig .tc := ⟨.hbm, 258, rfl⟩
abbrev main_v144 : Ref sig .tc := ⟨.hbm, 259, rfl⟩
abbrev main_v145 : Ref sig .tc := ⟨.hbm, 260, rfl⟩
abbrev main_cst_54 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_55 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_56 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_57 : Ref sig .tc := ⟨.hbm, 273, rfl⟩
abbrev main_v155 : Ref sig .tc := ⟨.hbm, 274, rfl⟩
abbrev main_v156 : Ref sig .tc := ⟨.hbm, 275, rfl⟩
abbrev main_cst_58 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_59 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_61 : Ref sig .tc := ⟨.hbm, 288, rfl⟩
abbrev main_v166 : Ref sig .tc := ⟨.hbm, 289, rfl⟩
abbrev main_v167 : Ref sig .tc := ⟨.hbm, 290, rfl⟩
abbrev main_cst_62 : Ref sig .tc := ⟨.hbm, 291, rfl⟩
abbrev main_v168 : Ref sig .tc := ⟨.hbm, 292, rfl⟩
abbrev main_v169 : Ref sig .tc := ⟨.hbm, 293, rfl⟩
abbrev main_cst_63 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_cst_64 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_cst_65 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_cst_66 : Ref sig .tc := ⟨.hbm, 306, rfl⟩
abbrev main_v179 : Ref sig .tc := ⟨.hbm, 307, rfl⟩
abbrev main_v180 : Ref sig .tc := ⟨.hbm, 308, rfl⟩
abbrev main_cst_67 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_68 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_cst_69 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_70 : Ref sig .tc := ⟨.hbm, 321, rfl⟩
abbrev main_v190 : Ref sig .tc := ⟨.hbm, 322, rfl⟩
abbrev main_v191 : Ref sig .tc := ⟨.hbm, 323, rfl⟩
abbrev main_cst_71 : Ref sig .tc := ⟨.hbm, 324, rfl⟩
abbrev main_v192 : Ref sig .tc := ⟨.hbm, 325, rfl⟩
abbrev main_v193 : Ref sig .tc := ⟨.hbm, 326, rfl⟩
abbrev main_cst_72 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_cst_73 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_cst_74 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_cst_75 : Ref sig .tc := ⟨.hbm, 339, rfl⟩
abbrev main_v203 : Ref sig .tc := ⟨.hbm, 340, rfl⟩
abbrev main_v204 : Ref sig .tc := ⟨.hbm, 341, rfl⟩
abbrev main_cst_76 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_cst_77 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_cst_78 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_cst_79 : Ref sig .tc := ⟨.hbm, 354, rfl⟩
abbrev main_v214 : Ref sig .tc := ⟨.hbm, 355, rfl⟩
abbrev main_v215 : Ref sig .tc := ⟨.hbm, 356, rfl⟩
abbrev main_cst_80 : Ref sig .tc := ⟨.hbm, 357, rfl⟩
abbrev main_v216 : Ref sig .tc := ⟨.hbm, 358, rfl⟩
abbrev main_v217 : Ref sig .tc := ⟨.hbm, 359, rfl⟩
abbrev main_cst_81 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_cst_82 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_cst_83 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_cst_84 : Ref sig .tc := ⟨.hbm, 372, rfl⟩
abbrev main_v227 : Ref sig .tc := ⟨.hbm, 373, rfl⟩
abbrev main_v228 : Ref sig .tc := ⟨.hbm, 374, rfl⟩
abbrev main_cst_85 : Ref sig .tc := ⟨.hbm, 375, rfl⟩
abbrev main_v229 : Ref sig .tc := ⟨.hbm, 376, rfl⟩
abbrev main_v230 : Ref sig .tc := ⟨.hbm, 377, rfl⟩
abbrev main_v231 : Ref sig .tc := ⟨.hbm, 378, rfl⟩
abbrev main_cst_86 : Ref sig .tc := ⟨.hbm, 379, rfl⟩
abbrev main_v232 : Ref sig .tc := ⟨.hbm, 380, rfl⟩
abbrev main_v233 : Ref sig .tc := ⟨.hbm, 381, rfl⟩
abbrev main_v234 : Ref sig .tc := ⟨.hbm, 382, rfl⟩
abbrev main_cst_87 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_cst_88 : Ref sig .tc := ⟨.hbm, 387, rfl⟩
abbrev main_v238 : Ref sig .tc := ⟨.hbm, 388, rfl⟩
abbrev main_v239 : Ref sig .tc := ⟨.hbm, 389, rfl⟩
abbrev main_cst_89 : Ref sig .tc := ⟨.hbm, 390, rfl⟩
abbrev main_v240 : Ref sig .tc := ⟨.hbm, 391, rfl⟩
abbrev main_v241 : Ref sig .tc := ⟨.hbm, 392, rfl⟩
abbrev main_cst_90 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_cst_91 : Ref sig .tc := ⟨.hbm, 397, rfl⟩
abbrev main_v245 : Ref sig .tc := ⟨.hbm, 398, rfl⟩
abbrev main_v246 : Ref sig .tc := ⟨.hbm, 399, rfl⟩
abbrev main_v247 : Ref sig .tc := ⟨.hbm, 400, rfl⟩
abbrev main_cst_92 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_cst_93 : Ref sig .tc := ⟨.hbm, 405, rfl⟩
abbrev main_v251 : Ref sig .tc := ⟨.hbm, 406, rfl⟩
abbrev main_v252 : Ref sig .tc := ⟨.hbm, 407, rfl⟩
abbrev main_cst_94 : Ref sig .tc := ⟨.hbm, 408, rfl⟩
abbrev main_v253 : Ref sig .tc := ⟨.hbm, 409, rfl⟩
abbrev main_v254 : Ref sig .tc := ⟨.hbm, 410, rfl⟩
abbrev main_v255 : Ref sig .tc := ⟨.hbm, 411, rfl⟩
abbrev main_cst_95 : Ref sig .tc := ⟨.hbm, 412, rfl⟩
abbrev main_v256 : Ref sig .tc := ⟨.hbm, 413, rfl⟩
abbrev main_v257 : Ref sig .tc := ⟨.hbm, 414, rfl⟩
abbrev main_v258 : Ref sig .tc := ⟨.hbm, 415, rfl⟩
abbrev main_cst_96 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_cst_97 : Ref sig .tc := ⟨.hbm, 420, rfl⟩
abbrev main_v262 : Ref sig .tc := ⟨.hbm, 421, rfl⟩
abbrev main_v263 : Ref sig .tc := ⟨.hbm, 422, rfl⟩
abbrev main_cst_98 : Ref sig .tc := ⟨.hbm, 423, rfl⟩
abbrev main_v264 : Ref sig .tc := ⟨.hbm, 424, rfl⟩
abbrev main_v265 : Ref sig .tc := ⟨.hbm, 425, rfl⟩
abbrev main_cst_99 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_cst_100 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_cst_101 : Ref sig .tc := ⟨.hbm, 434, rfl⟩
abbrev main_v272 : Ref sig .tc := ⟨.hbm, 435, rfl⟩
abbrev main_v273 : Ref sig .tc := ⟨.hbm, 436, rfl⟩
abbrev main_v274 : Ref sig .tc := ⟨.hbm, 437, rfl⟩
abbrev main_cst_102 : Ref sig .tc := ⟨.hbm, 438, rfl⟩
abbrev main_v275 : Ref sig .tc := ⟨.hbm, 439, rfl⟩
abbrev main_v276 : Ref sig .tc := ⟨.hbm, 440, rfl⟩
abbrev main_cst_103 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_cst_104 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_cst_105 : Ref sig .tc := ⟨.hbm, 449, rfl⟩
abbrev main_v283 : Ref sig .tc := ⟨.hbm, 450, rfl⟩
abbrev main_v284 : Ref sig .tc := ⟨.hbm, 451, rfl⟩
abbrev main_v285 : Ref sig .tc := ⟨.hbm, 452, rfl⟩
abbrev main_cst_106 : Ref sig .tc := ⟨.hbm, 453, rfl⟩
abbrev main_v286 : Ref sig .tc := ⟨.hbm, 454, rfl⟩
abbrev main_v287 : Ref sig .tc := ⟨.hbm, 455, rfl⟩
abbrev main_cst_107 : Ref sig .tc := ⟨.hbm, 456, rfl⟩
abbrev main_v288 : Ref sig .tc := ⟨.hbm, 457, rfl⟩
abbrev main_v289 : Ref sig .tc := ⟨.hbm, 458, rfl⟩
abbrev main_cst_108 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_cst_109 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_cst_110 : Ref sig .tc := ⟨.hbm, 467, rfl⟩
abbrev main_v296 : Ref sig .tc := ⟨.hbm, 468, rfl⟩
abbrev main_v297 : Ref sig .tc := ⟨.hbm, 469, rfl⟩
abbrev main_v298 : Ref sig .tc := ⟨.hbm, 470, rfl⟩
abbrev main_cst_111 : Ref sig .tc := ⟨.hbm, 471, rfl⟩
abbrev main_v299 : Ref sig .tc := ⟨.hbm, 472, rfl⟩
abbrev main_v300 : Ref sig .tc := ⟨.hbm, 473, rfl⟩
abbrev main_cst_112 : Ref sig .tc := ⟨.hbm, 474, rfl⟩
abbrev main_v301 : Ref sig .tc := ⟨.hbm, 475, rfl⟩
abbrev main_v302 : Ref sig .tc := ⟨.hbm, 476, rfl⟩
abbrev main_v303 : Ref sig .tc := ⟨.hbm, 477, rfl⟩
abbrev main_cst_113 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_cst_114 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_cst_115 : Ref sig .tc := ⟨.hbm, 486, rfl⟩
abbrev main_v310 : Ref sig .tc := ⟨.hbm, 487, rfl⟩
abbrev main_v311 : Ref sig .tc := ⟨.hbm, 488, rfl⟩
abbrev main_cst_116 : Ref sig .tc := ⟨.hbm, 489, rfl⟩
abbrev main_v312 : Ref sig .tc := ⟨.hbm, 490, rfl⟩
abbrev main_v313 : Ref sig .tc := ⟨.hbm, 491, rfl⟩
abbrev main_cst_117 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_cst_118 : Ref sig .tc := ⟨.hbm, 496, rfl⟩
abbrev main_v317 : Ref sig .tc := ⟨.hbm, 497, rfl⟩
abbrev main_v318 : Ref sig .tc := ⟨.hbm, 498, rfl⟩
abbrev main_v319 : Ref sig .tc := ⟨.hbm, 499, rfl⟩
abbrev main_cst_119 : Ref sig .tc := ⟨.hbm, 500, rfl⟩
abbrev main_v320 : Ref sig .tc := ⟨.hbm, 501, rfl⟩
abbrev main_v321 : Ref sig .tc := ⟨.hbm, 502, rfl⟩
abbrev main_v322 : Ref sig .tc := ⟨.hbm, 503, rfl⟩
abbrev main_cst_120 : Ref sig .tc := ⟨.hbm, 504, rfl⟩
abbrev main_v323 : Ref sig .tc := ⟨.hbm, 505, rfl⟩
abbrev main_v324 : Ref sig .tc := ⟨.hbm, 506, rfl⟩
abbrev main_cst_121 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_cst_122 : Ref sig .tc := ⟨.hbm, 511, rfl⟩
abbrev main_v328 : Ref sig .tc := ⟨.hbm, 512, rfl⟩
abbrev main_v329 : Ref sig .tc := ⟨.hbm, 513, rfl⟩
abbrev main_v330 : Ref sig .tc := ⟨.hbm, 514, rfl⟩
abbrev main_cst_123 : Ref sig .tc := ⟨.hbm, 515, rfl⟩
abbrev main_v331 : Ref sig .tc := ⟨.hbm, 516, rfl⟩
abbrev main_v332 : Ref sig .tc := ⟨.hbm, 517, rfl⟩
abbrev main_v333 : Ref sig .tc := ⟨.hbm, 518, rfl⟩
abbrev main_cst_124 : Ref sig .tc := ⟨.hbm, 519, rfl⟩
abbrev main_v334 : Ref sig .tc := ⟨.hbm, 520, rfl⟩
abbrev main_v335 : Ref sig .tc := ⟨.hbm, 521, rfl⟩
abbrev main_cst_125 : Ref sig .tc := ⟨.hbm, 522, rfl⟩
abbrev main_v336 : Ref sig .tc := ⟨.hbm, 523, rfl⟩
abbrev main_v337 : Ref sig .tc := ⟨.hbm, 524, rfl⟩
abbrev main_cst_126 : Ref sig .tc := ⟨.hbm, 525, rfl⟩
abbrev main_v338 : Ref sig .tc := ⟨.hbm, 526, rfl⟩
abbrev main_v339 : Ref sig .tc := ⟨.hbm, 527, rfl⟩
abbrev main_v340 : Ref sig .tc := ⟨.hbm, 528, rfl⟩
abbrev main_cst_127 : Ref sig .tc := ⟨.hbm, 529, rfl⟩
abbrev main_v341 : Ref sig .tc := ⟨.hbm, 530, rfl⟩
abbrev main_v342 : Ref sig .tc := ⟨.hbm, 531, rfl⟩
abbrev main_v343 : Ref sig .tc := ⟨.hbm, 532, rfl⟩
abbrev main_cst_128 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_cst_129 : Ref sig .tc := ⟨.hbm, 537, rfl⟩
abbrev main_v347 : Ref sig .tc := ⟨.hbm, 538, rfl⟩
abbrev main_v348 : Ref sig .tc := ⟨.hbm, 539, rfl⟩
abbrev main_cst_130 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_cst_131 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_cst_132 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_cst_133 : Ref sig .tc := ⟨.hbm, 552, rfl⟩
abbrev main_v358 : Ref sig .tc := ⟨.hbm, 553, rfl⟩
abbrev main_v359 : Ref sig .tc := ⟨.hbm, 554, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.IdealHost

/-! # The gradients over the reals

The mathematics both programs compute, at real inputs: the input half of one block (RMS norm, modulation, the input
projection, head norm and rotary rotation) and its gradients. Rows `0 … 255` are the context rows, the others the latent
rows. -/

@[expose] public section

namespace Cert.InProj

open Idealize.ShloMosaic

noncomputable section

/-- A sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The constant under the square roots (the f32 word nearest one millionth). -/
def eps : ℝ := 8796093 / 8796093022208

theorem eps_pos : 0 < eps := by unfold eps; norm_num

theorem c_eps : Ideal.ofBits .f32 0x358637BD#32 = ((eps : ℝ) : EReal) := by
  unfold eps; simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_inv64 : Ideal.ofBits .f32 0x3C800000#32 = ((1 / 64 : ℝ) : EReal) := by
  simp [Ideal.ofBits, Ideal.ieee, -EReal.coe_mul]; norm_num
theorem c_eighth : Ideal.ofBits .f32 0x3E000000#32 = ((1 / 8 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_zero : Ideal.ofBits .f32 0x00000000#32 = ((0 : ℝ) : EReal) := by
  simp [Ideal.ofBits, Ideal.ieee]
theorem c_neghalf : Ideal.ofBits .f32 0xBF000000#32 = ((-(1 / 2) : ℝ) : EReal) := by
  simp [Ideal.ofBits, Ideal.ieee, -EReal.coe_mul, -EReal.coe_neg]; norm_num
theorem c_two : Ideal.ofBits .f32 0x40000000#32 = ((2 : ℝ) : EReal) := by
  simp [Ideal.ofBits, Ideal.ieee, -EReal.coe_mul]; norm_num
theorem c_32 : Ideal.ofBits .f32 0x42000000#32 = ((32 : ℝ) : EReal) := by
  simp [Ideal.ofBits, Ideal.ieee, -EReal.coe_mul]; norm_num
theorem c_1e4 : Ideal.ofBits .f32 0x461C4000#32 = ((10000 : ℝ) : EReal) := by
  simp [Ideal.ofBits, Ideal.ieee, -EReal.coe_mul]; norm_num

/-- Division of reals. -/
theorem div_real (x y : ℝ) (h : y ≠ 0) : Ideal.div (x : EReal) (y : EReal) = ((x / y : ℝ) : EReal) := by
  rw [Ideal.div_coe h, ← EReal.coe_mul]; congr 1; ring

/-- Reciprocal square root of a positive real. -/
theorem rsqrt_real (x : ℝ) (h : 0 < x) : Ideal.rsqrt (x : EReal) = (((Real.sqrt x)⁻¹ : ℝ) : EReal) := by
  rw [Ideal.rsqrt_coe, if_neg h.not_gt, if_neg h.ne']

/-- The arguments, as reals. -/
structure Inp where
  X : Fin 8448 → Fin 1024 → ℝ
  shc : Fin 1024 → ℝ
  scc : Fin 1024 → ℝ
  sh : Fin 1024 → ℝ
  sc : Fin 1024 → ℝ
  g : Fin 1024 → ℝ
  W : Fin 1024 → Fin 3328 → ℝ
  qg : Fin 64 → ℝ
  kg : Fin 64 → ℝ
  cp : Fin 8448 → Fin 2560 → ℝ
  cq : Fin 8448 → Fin 256 → ℝ
  ck : Fin 8448 → Fin 128 → ℝ
  cv : Fin 8448 → Fin 128 → ℝ
  cg : Fin 8448 → Fin 256 → ℝ
  cx : Fin 8448 → Fin 1024 → ℝ

namespace Inp
variable (I : Inp)

def SH (t : Fin 8448) (d : Fin 1024) : ℝ := if (t : ℕ) < 256 then I.shc d else I.sh d
def SC (t : Fin 8448) (d : Fin 1024) : ℝ := if (t : ℕ) < 256 then I.scc d else I.sc d
def ms (t : Fin 8448) : ℝ := (∑ d, I.X t d * I.X t d) / 1024 + eps
def r (t : Fin 8448) : ℝ := (Real.sqrt (I.ms t))⁻¹
def xn (t : Fin 8448) (d : Fin 1024) : ℝ := I.X t d * I.r t
def h (t : Fin 8448) (d : Fin 1024) : ℝ := I.xn t d * I.g d * (1 + I.SC t d) + I.SH t d
def P (t : Fin 8448) (j : Fin 3328) : ℝ := ∑ d, I.h t d * I.W d j

/-- Heads `0 … 3` are the query heads, `4`, `5` the key heads; a head's `64` lanes lie side by side. -/
def pq (t : Fin 8448) (hd : Fin 6) (e : Fin 64) : ℝ := I.P t ⟨2560 + 64 * hd + e, by omega⟩
def hms (t : Fin 8448) (hd : Fin 6) : ℝ := (∑ e, I.pq t hd e * I.pq t hd e) / 64 + eps
def hr (t : Fin 8448) (hd : Fin 6) : ℝ := (Real.sqrt (I.hms t hd))⁻¹
def xh (t : Fin 8448) (hd : Fin 6) (e : Fin 64) : ℝ := I.pq t hd e * I.hr t hd
def gain (hd : Fin 6) (e : Fin 64) : ℝ := if (hd : ℕ) < 4 then I.qg e else I.kg e
def ct (t : Fin 8448) (hd : Fin 6) (e : Fin 64) : ℝ :=
  if h : (hd : ℕ) < 4 then I.cq t ⟨64 * hd + e, by omega⟩ * (1 / 8) else I.ck t ⟨64 * (hd - 4) + e, by omega⟩

end Inp

/-- The rotary frequencies. -/
def freq (e : ℕ) : ℝ := 1 / Real.rpow 10000 ((0 + 2 * ((e % 16 : ℕ) : ℝ)) / 32)
/-- The angle of lane `e` on latent row `n` (grid row on lanes `0 … 31`, grid column on the others). -/
def angle (n e : ℕ) : ℝ := (if e < 32 then ((n / 64 : ℕ) : ℝ) else ((n % 64 : ℕ) : ℝ)) * freq e
def CS (t : Fin 8448) (e : ℕ) : ℝ := if (t : ℕ) < 256 then 1 else Real.cos (angle (t - 256) e)
def SN (t : Fin 8448) (e : ℕ) : ℝ := if (t : ℕ) < 256 then 0 else Real.sin (angle (t - 256) e)

namespace Inp
variable (I : Inp)

/-- The cotangent of a head rotated back. -/
def dxg (t : Fin 8448) (hd : Fin 6) (e : Fin 64) : ℝ :=
  I.ct t hd e * CS t e + (if h : (e : ℕ) % 32 < 16 then I.ct t hd ⟨e + 16, by omega⟩ * SN t e
    else -(I.ct t hd ⟨e - 16, by omega⟩ * SN t e))
def dxh (t : Fin 8448) (hd : Fin 6) (e : Fin 64) : ℝ := I.dxg t hd e * I.gain hd e
def dpq (t : Fin 8448) (hd : Fin 6) (e : Fin 64) : ℝ :=
  I.hr t hd * (I.dxh t hd e - I.xh t hd e * ((∑ k, I.dxh t hd k * I.xh t hd k) * (1 / 64)))

/-- The cotangent of the projection. -/
def dP (t : Fin 8448) (j : Fin 3328) : ℝ :=
  if h₁ : (j : ℕ) < 2560 then I.cp t ⟨j, h₁⟩
  else if h₂ : (j : ℕ) < 2944 then I.dpq t ⟨(j - 2560) / 64, by omega⟩ ⟨(j - 2560) % 64, by omega⟩
  else if h₃ : (j : ℕ) < 3072 then I.cv t ⟨j - 2944, by omega⟩
  else I.cg t ⟨j - 3072, by omega⟩
def dh (t : Fin 8448) (d : Fin 1024) : ℝ := ∑ j, I.dP t j * I.W d j
def dxn (t : Fin 8448) (d : Fin 1024) : ℝ := I.dh t d * (1 + I.SC t d) * I.g d

/-! The results. -/

def gX (t : Fin 8448) (d : Fin 1024) : ℝ :=
  I.r t * (I.dxn t d - I.xn t d * ((∑ k, I.dxn t k * I.xn t k) / 1024)) + I.cx t d
def gShc (d : Fin 1024) : ℝ := ∑ t : Fin 8448, if (t : ℕ) < 256 then I.dh t d else 0
def gScc (d : Fin 1024) : ℝ := ∑ t : Fin 8448, if (t : ℕ) < 256 then I.dh t d * (I.xn t d * I.g d) else 0
def gSh (d : Fin 1024) : ℝ := ∑ t : Fin 8448, if (t : ℕ) < 256 then 0 else I.dh t d
def gSc (d : Fin 1024) : ℝ := ∑ t : Fin 8448, if (t : ℕ) < 256 then 0 else I.dh t d * (I.xn t d * I.g d)
def gG (d : Fin 1024) : ℝ := ∑ t : Fin 8448, I.dh t d * (1 + I.SC t d) * I.xn t d
def gW (d : Fin 1024) (j : Fin 3328) : ℝ := ∑ t : Fin 8448, I.h t d * I.dP t j
def gQ (e : Fin 64) : ℝ := ∑ t : Fin 8448, ∑ hd : Fin 6, if (hd : ℕ) < 4 then I.dxg t hd e * I.xh t hd e else 0
def gK (e : Fin 64) : ℝ := ∑ t : Fin 8448, ∑ hd : Fin 6, if (hd : ℕ) < 4 then 0 else I.dxg t hd e * I.xh t hd e

theorem ms_pos (t : Fin 8448) : 0 < I.ms t :=
  add_pos_of_nonneg_of_pos (div_nonneg (Finset.sum_nonneg fun _ _ => mul_self_nonneg _) (by norm_num)) eps_pos
theorem hms_pos (t : Fin 8448) (hd : Fin 6) : 0 < I.hms t hd :=
  add_pos_of_nonneg_of_pos (div_nonneg (Finset.sum_nonneg fun _ _ => mul_self_nonneg _) (by norm_num)) eps_pos

end Inp

end

end Cert.InProj
-- ==== Proof.Fin.lean ====
module

public import proofs.«01_k».proof.Pre_finite
public import proofs.«01_k».proof.Proof.Spec
public import Idealize.ShloMosaic.Lib.ReduceAll
public import Idealize.ShloMosaic.Lib.Pointwise

/-! # Finite arrays are arrays of reals -/

@[expose] public section

set_option maxRecDepth 16384

namespace Cert.InProj

open Idealize.ShloMosaic Cert.Pre_finite

/-- The shape relations of the precondition. -/
theorem finFacts : Cert.Pre_finite.Facts where
  bcast_S_S8448x1024 := by decide
  reducesTo_S8448x1024_S_d0_1 := by decide
  h_S_ := by decide
  bcast_S_S1024 := by decide
  reducesTo_S1024_S_d0 := by decide
  bcast_S_S1024x3328 := by decide
  reducesTo_S1024x3328_S_d0_1 := by decide
  bcast_S_S64 := by decide
  reducesTo_S64_S_d0 := by decide
  bcast_S_S8448x2560 := by decide
  reducesTo_S8448x2560_S_d0_1 := by decide
  bcast_S_S8448x256 := by decide
  reducesTo_S8448x256_S_d0_1 := by decide
  bcast_S_S8448x128 := by decide
  reducesTo_S8448x128_S_d0_1 := by decide

theorem and_one : ∀ a b : BitVec 1, IntOp.andi a b = 1#1 → a = 1#1 ∧ b = 1#1 := by decide

instance : Subsingleton S_.Idx := ⟨fun a b => funext fun k => k.elim0⟩

theorem real_of_lt (x : EReal) (h : max x (-x) < ⊤) : ((x.toReal : ℝ) : EReal) = x := by
  refine EReal.coe_toReal ?_ ?_
  · rintro rfl; simp at h
  · rintro rfl; simp at h

/-- One array's test: every element has a finite size. -/
theorem all_real {s : Shape} {axes : List (Fin s.rank)} (A : FVec Ideal s .f32) (hb : S_.BroadcastsInDim s (![] : Fin 0 → Fin s.rank))
    (hr : s.ReducesTo axes S_) (hu : 0 < S_.numel) (j : S_.Idx)
    (h : Host.reduce IntOp.andi (cmpf .olt (Host.absf A) (broadcastInDim s ![] hb (constant S_ .f32 0x7F800000#32))) (constantI S_ 1 1#1) hr hu j = 1#1)
    (i : s.Idx) : (((A i : EReal).toReal : ℝ) : EReal) = A i := by
  have h1 := Host.reduce_andi_all _ _ hr hu j h i
  refine real_of_lt _ ?_
  have h3 : Ideal.ofBits .f32 0x7F800000#32 = ⊤ := by simp [Ideal.ofBits, Ideal.ieee]
  have h2 : BitVec.ofBool (decide (max (A i : EReal) (-(A i : EReal)) < Ideal.ofBits .f32 0x7F800000#32)) = 1#1 := h1
  rw [h3] at h2
  by_contra hc
  rw [decide_eq_false hc] at h2
  exact absurd h2 (by decide)

/-- The reals fifteen arrays hold. -/
noncomputable def inpOf (a0 : FVec Ideal S8448x1024 .f32) (a1 a2 a3 a4 a5 : FVec Ideal S1024 .f32) (a6 : FVec Ideal S1024x3328 .f32) (a7 a8 : FVec Ideal S64 .f32)
    (a9 : FVec Ideal S8448x2560 .f32) (a10 : FVec Ideal S8448x256 .f32) (a11 a12 : FVec Ideal S8448x128 .f32) (a13 : FVec Ideal S8448x256 .f32)
    (a14 : FVec Ideal S8448x1024 .f32) : Inp where
  X t d := (a0 (ix2 t d) : EReal).toReal
  shc d := (a1 (ix1 d) : EReal).toReal
  scc d := (a2 (ix1 d) : EReal).toReal
  sh d := (a3 (ix1 d) : EReal).toReal
  sc d := (a4 (ix1 d) : EReal).toReal
  g d := (a5 (ix1 d) : EReal).toReal
  W d j := (a6 (ix2 d j) : EReal).toReal
  qg e := (a7 (ix1 e) : EReal).toReal
  kg e := (a8 (ix1 e) : EReal).toReal
  cp t j := (a9 (ix2 t j) : EReal).toReal
  cq t j := (a10 (ix2 t j) : EReal).toReal
  ck t j := (a11 (ix2 t j) : EReal).toReal
  cv t j := (a12 (ix2 t j) : EReal).toReal
  cg t j := (a13 (ix2 t j) : EReal).toReal
  cx t d := (a14 (ix2 t d) : EReal).toReal

/-- Where the precondition holds, every array is its reals. -/
theorem finite_real [Cert.Pre_finite.Facts] (a0 : FVec Ideal S8448x1024 .f32) (a1 a2 a3 a4 a5 : FVec Ideal S1024 .f32) (a6 : FVec Ideal S1024x3328 .f32) (a7 a8 : FVec Ideal S64 .f32)
    (a9 : FVec Ideal S8448x2560 .f32) (a10 : FVec Ideal S8448x256 .f32) (a11 a12 : FVec Ideal S8448x128 .f32) (a13 : FVec Ideal S8448x256 .f32)
    (a14 : FVec Ideal S8448x1024 .f32) (h : Cert.Pre_finite.fn (F := Ideal) a0 a1 a2 a3 a4 a5 a6 a7 a8 a9 a10 a11 a12 a13 a14 = fun _ => 1#1) :
    (∀ i, (((a0 i : EReal).toReal : ℝ) : EReal) = a0 i) ∧ (∀ i, (((a1 i : EReal).toReal : ℝ) : EReal) = a1 i) ∧ (∀ i, (((a2 i : EReal).toReal : ℝ) : EReal) = a2 i) ∧ (∀ i, (((a3 i : EReal).toReal : ℝ) : EReal) = a3 i) ∧ (∀ i, (((a4 i : EReal).toReal : ℝ) : EReal) = a4 i) ∧ (∀ i, (((a5 i : EReal).toReal : ℝ) : EReal) = a5 i) ∧ (∀ i, (((a6 i : EReal).toReal : ℝ) : EReal) = a6 i) ∧ (∀ i, (((a7 i : EReal).toReal : ℝ) : EReal) = a7 i) ∧ (∀ i, (((a8 i : EReal).toReal : ℝ) : EReal) = a8 i) ∧ (∀ i, (((a9 i : EReal).toReal : ℝ) : EReal) = a9 i) ∧ (∀ i, (((a10 i : EReal).toReal : ℝ) : EReal) = a10 i) ∧ (∀ i, (((a11 i : EReal).toReal : ℝ) : EReal) = a11 i) ∧ (∀ i, (((a12 i : EReal).toReal : ℝ) : EReal) = a12 i) ∧ (∀ i, (((a13 i : EReal).toReal : ℝ) : EReal) = a13 i) ∧ (∀ i, (((a14 i : EReal).toReal : ℝ) : EReal) = a14 i) := by
  have h := congrFun h (fun k => k.elim0)
  simp only [fn, fn_part1, fn_part2, fn_part3, fn_part4] at h
  obtain ⟨h, h14⟩ := and_one _ _ h
  obtain ⟨h, h13⟩ := and_one _ _ h
  obtain ⟨h, h12⟩ := and_one _ _ h
  obtain ⟨h, h11⟩ := and_one _ _ h
  obtain ⟨h, h10⟩ := and_one _ _ h
  obtain ⟨h, h9⟩ := and_one _ _ h
  obtain ⟨h, h8⟩ := and_one _ _ h
  obtain ⟨h, h7⟩ := and_one _ _ h
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h, h1⟩ := and_one _ _ h
  exact ⟨all_real _ _ _ _ _ h, all_real _ _ _ _ _ h1, all_real _ _ _ _ _ h2, all_real _ _ _ _ _ h3, all_real _ _ _ _ _ h4, all_real _ _ _ _ _ h5, all_real _ _ _ _ _ h6, all_real _ _ _ _ _ h7, all_real _ _ _ _ _ h8, all_real _ _ _ _ _ h9, all_real _ _ _ _ _ h10, all_real _ _ _ _ _ h11, all_real _ _ _ _ _ h12, all_real _ _ _ _ _ h13, all_real _ _ _ _ _ h14⟩

end Cert.InProj
-- ==== Proof.TileDefs.lean ====
module

public import proofs.«01_k».proof.Proof.Gen.KernelIdeal.Skeleton
public import proofs.«01_k».proof.Proof.Spec

/-! # The kernel bodies' arithmetic on one tile of rows

The vector expressions the three bodies compute on a tile of 256 rows, as functions of the tiles they load. -/

@[expose] public section

namespace Cert.InProj.Tile

open Idealize.ShloMosaic Cert.KernelIdeal Cert.KernelIdeal.Gen

noncomputable section

/-- Lanes of the first head of a pair. -/
def lo : IVec S256x128 1 := cmpi .slt (iota .tc S256x128 32 [1] iota_S256x128_d1_w32) (broadcast S256x128 64#32)
/-- Lanes of the first half of a rotary group. -/
def lo16 : IVec S256x128 1 :=
  cmpi .slt (andi (iota .tc S256x128 32 [1] iota_S256x128_d1_w32) (broadcast S256x128 31#32)) (broadcast S256x128 16#32)

def zero128 : FVec Ideal S256x128 .f32 := broadcast S256x128 (Scalar.ofBits .f32 0x00000000#32)

def rowSum (x : FVec Ideal S256x128 .f32) : FVec Ideal S256x1 .f32 :=
  shapeCast S256x1 (multiReduction .add [1] S256 x 0x00000000#32 reduces_S256x128_S256 (.inl rfl) rfl) shapeCasts_S256_S256x1

def spread (x : FVec Ideal S256x1 .f32) : FVec Ideal S256x128 .f32 :=
  broadcastTo S256x128 (shapeCast S256x1 x shapeCasts_S256x1_S256x1) broadcasts_S256x1_S256x128

/-- Each lane's sum over its head of the pair. -/
def pairSums (x : FVec Ideal S256x128 .f32) : FVec Ideal S256x128 .f32 :=
  select lo (spread (rowSum (select lo x zero128))) (spread (rowSum (select lo zero128 x)))

def inv64 : FVec Ideal S256x128 .f32 := broadcast S256x128 (Scalar.ofBits .f32 0x3C800000#32)

def headR (x : FVec Ideal S256x128 .f32) : FVec Ideal S256x128 .f32 :=
  rsqrt (addf (mulf (pairSums (mulf x x)) inv64) (broadcast S256x128 (Scalar.ofBits .f32 0x358637BD#32)))

def headXh (x : FVec Ideal S256x128 .f32) : FVec Ideal S256x128 .f32 := mulf x (headR x)

/-- Two heads' planes side by side. -/
def joinHalves (a b : FVec Ideal S1x256x128 .f32) : FVec Ideal S256x128 .f32 :=
  addf (shapeCast S256x128 a shapeCasts_S1x256x128_S256x128)
    (dynamicRotate 1 64#32 none (shapeCast S256x128 b shapeCasts_S1x256x128_S256x128) rotates_S256x128_d1)

def eighth (x : FVec Ideal S256x128 .f32) : FVec Ideal S256x128 .f32 :=
  mulf x (broadcast S256x128 (Scalar.ofBits .f32 0x3E000000#32))

/-- The rotary rotation's transpose. -/
def backRot (d cos sin : FVec Ideal S256x128 .f32) : FVec Ideal S256x128 .f32 :=
  addf (mulf d cos) (select lo16 (dynamicRotate 1 112#32 none (mulf d sin) rotates_S256x128_d1)
    (dynamicRotate 1 16#32 none (mulf d sin) rotates_S256x128_d1))

def gained (dxg : FVec Ideal S256x128 .f32) (gain : FVec Ideal S1x128 .f32) : FVec Ideal S256x128 .f32 :=
  mulf dxg (broadcastTo S256x128 (shapeCast S1x128 gain shapeCasts_S1x128_S1x128) broadcasts_S1x128_S256x128)

/-- The head norm's gradient. -/
def headBack (x dxh : FVec Ideal S256x128 .f32) : FVec Ideal S256x128 .f32 :=
  mulf (headR x) (subf dxh (mulf (headXh x) (mulf (pairSums (mulf dxh (headXh x))) inv64)))

def id128 (x : FVec Ideal S256x128 .f32) : FVec Ideal S256x128 .f32 := shapeCast S256x128 x shapeCasts_S256x128_S256x128

/-- One pair of heads: the cotangent rotated back (`q`: scaled first). -/
def dxgQ (cos sin : FVec Ideal S256x128 .f32) (a b : FVec Ideal S1x256x128 .f32) : FVec Ideal S256x128 .f32 :=
  backRot (eighth (joinHalves a b)) (id128 cos) (id128 sin)
def dxgK (cos sin : FVec Ideal S256x128 .f32) (a b : FVec Ideal S1x256x128 .f32) : FVec Ideal S256x128 .f32 :=
  backRot (joinHalves a b) (id128 cos) (id128 sin)

/-- The gain's gradient over the tile, added to what it was. -/
def gainAdd (old : FVec Ideal S1x128 .f32) (dxg x : FVec Ideal S256x128 .f32) : FVec Ideal S1x128 .f32 :=
  addf (shapeCast S1x128 old shapeCasts_S1x128_S1x128)
    (shapeCast S1x128 (multiReduction .add [0] S128 (mulf dxg (headXh x)) 0x00000000#32 reduces_S256x128_S128 (.inl rfl) rfl)
      shapeCasts_S128_S1x128)

/-- The cotangent of the projection's head columns. -/
def dpqT (x0 x1 x2 : FVec Ideal S256x128 .f32) (cos sin : FVec Ideal S256x128 .f32)
    (q0 q1 q2 q3 k0 k1 v0 v1 : FVec Ideal S1x256x128 .f32) (gq gk : FVec Ideal S1x128 .f32) : FVec Ideal S256x512 .bf16 :=
  truncf .bf16 (concatenate S256x512 1 [⟨S256x128, headBack (id128 x0) (gained (dxgQ cos sin q0 q1) gq)⟩,
    ⟨S256x128, headBack (id128 x1) (gained (dxgQ cos sin q2 q3) gq)⟩,
    ⟨S256x128, headBack (id128 x2) (gained (dxgK cos sin k0 k1) gk)⟩,
    ⟨S256x128, joinHalves v0 v1⟩] concatenates_S256x128_S256x128_S256x128_S256x128_S256x512_d1) bitsLt_bf16_f32

/-- The cotangent of the projection's input. -/
def dhT (dpq : FVec Ideal S256x512 .bf16) (dpc : FVec Ideal S256x1024 .bf16) (wc : FVec Ideal S1024x1024 .bf16)
    (dpr : FVec Ideal S256x1792 .bf16) (wr : FVec Ideal S1024x1792 .bf16) (wq : FVec Ideal S1024x512 .bf16) : FVec Ideal S256x1024 .f32 :=
  addf (addf (matmul dot_S256x1024_S1024x1024_S256x1024_1_1_0_0_n_n none (shapeCast S256x1024 dpc shapeCasts_S256x1024_S256x1024)
        (shapeCast S1024x1024 wc shapeCasts_S1024x1024_S1024x1024) (constant S256x1024 .f32 0x00000000#32))
      (matmul dot_S256x1792_S1024x1792_S256x1024_1_1_0_0_n_n none (shapeCast S256x1792 dpr shapeCasts_S256x1792_S256x1792)
        (shapeCast S1024x1792 wr shapeCasts_S1024x1792_S1024x1792) (constant S256x1024 .f32 0x00000000#32)))
    (matmul dot_S256x512_S1024x512_S256x1024_1_1_0_0_n_n none dpq (shapeCast S1024x512 wq shapeCasts_S1024x512_S1024x512)
      (constant S256x1024 .f32 0x00000000#32))

/-- The RMS norm's factor, and the normed rows. -/
def rT (x : FVec Ideal S256x1024 .f32) : FVec Ideal S256x1 .f32 :=
  rsqrt (addf (divf (shapeCast S256x1 (multiReduction .add [1] S256 (mulf x x) 0x00000000#32 reduces_S256x1024_S256 (.inl rfl) rfl)
      shapeCasts_S256_S256x1) (broadcast S256x1 (Scalar.ofBits .f32 0x44800000#32)))
    (broadcast S256x1 (Scalar.ofBits .f32 0x358637BD#32)))
def xnT (x : FVec Ideal S256x1024 .f32) : FVec Ideal S256x1024 .f32 := mulf x (broadcastTo S256x1024 (rT x) broadcasts_S256x1_S256x1024)

def id1024 (x : FVec Ideal S1x1024 .f32) : FVec Ideal S1x1024 .f32 := shapeCast S1x1024 x shapeCasts_S1x1024_S1x1024
def bc (x : FVec Ideal S1x1024 .f32) : FVec Ideal S256x1024 .f32 := broadcastTo S256x1024 x broadcasts_S1x1024_S256x1024
def colSum (x : FVec Ideal S256x1024 .f32) : FVec Ideal S1x1024 .f32 :=
  shapeCast S1x1024 (multiReduction .add [0] S1024 x 0x00000000#32 reduces_S256x1024_S1024 (.inl rfl) rfl) shapeCasts_S1024_S1x1024
def zero1024 : FVec Ideal S1x1024 .f32 := broadcast S1x1024 (Scalar.ofBits .f32 0x00000000#32)

/-- The row picked by whether the tile is the context's. -/
def pick (c : BitVec 1) (a b : FVec Ideal S1x1024 .f32) : FVec Ideal S1x1024 .f32 := Scalar.select c (id1024 a) (id1024 b)

def scaled (dh : FVec Ideal S256x1024 .f32) (sc : FVec Ideal S1x1024 .f32) : FVec Ideal S256x1024 .f32 :=
  mulf dh (bc (addf (broadcast S1x1024 (Scalar.ofBits .f32 0x3F800000#32)) sc))

def dxnT (dh : FVec Ideal S256x1024 .f32) (sc g : FVec Ideal S1x1024 .f32) : FVec Ideal S256x1024 .f32 := mulf (scaled dh sc) (bc g)

/-- The RMS norm's gradient, plus the cotangent that passes it by. -/
def dxT (x dxo : FVec Ideal S256x1024 .f32) (dxn : FVec Ideal S256x1024 .f32) : FVec Ideal S256x1024 .f32 :=
  addf (mulf (broadcastTo S256x1024 (rT x) broadcasts_S256x1_S256x1024)
    (subf dxn (mulf (xnT x) (broadcastTo S256x1024 (divf (shapeCast S256x1
      (multiReduction .add [1] S256 (mulf dxn (xnT x)) 0x00000000#32 reduces_S256x1024_S256 (.inl rfl) rfl) shapeCasts_S256_S256x1)
      (broadcast S256x1 (Scalar.ofBits .f32 0x44800000#32))) broadcasts_S256x1_S256x1024)))) dxo

/-- The accumulated rows. -/
def addCtx (c : BitVec 1) (old : FVec Ideal S1x1024 .f32) (s : FVec Ideal S1x1024 .f32) : FVec Ideal S1x1024 .f32 :=
  addf (id1024 old) (Scalar.select c s zero1024)
def addLat (c : BitVec 1) (old : FVec Ideal S1x1024 .f32) (s : FVec Ideal S1x1024 .f32) : FVec Ideal S1x1024 .f32 :=
  addf (id1024 old) (Scalar.select c zero1024 s)
def dscS (dh : FVec Ideal S256x1024 .f32) (x : FVec Ideal S256x1024 .f32) (g : FVec Ideal S1x1024 .f32) : FVec Ideal S1x1024 .f32 :=
  colSum (mulf dh (mulf (xnT x) (bc g)))
def addG (old : FVec Ideal S1x1024 .f32) (dh : FVec Ideal S256x1024 .f32) (sc : FVec Ideal S1x1024 .f32)
    (x : FVec Ideal S256x1024 .f32) : FVec Ideal S1x1024 .f32 :=
  addf (id1024 old) (colSum (mulf (scaled dh sc) (xnT x)))

/-- The forward pass: the modulated normed rows, and their product with the head columns. -/
def hT (x : FVec Ideal S256x1024 .f32) (sh sc g : FVec Ideal S1x1024 .f32) : FVec Ideal S256x1024 .bf16 :=
  truncf .bf16 (addf (mulf (mulf (xnT x) (bc g)) (bc (addf (broadcast S1x1024 (Scalar.ofBits .f32 0x3F800000#32)) sc))) (bc sh))
    bitsLt_bf16_f32
def pqT (h : FVec Ideal S256x1024 .bf16) (wq : FVec Ideal S1024x512 .bf16) : FVec Ideal S256x512 .f32 :=
  matmul dot_S256x1024_S1024x512_S256x512_1_0_0_1_n_n none h (shapeCast S1024x512 wq shapeCasts_S1024x512_S1024x512)
    (constant S256x512 .f32 0x00000000#32)

end

end Cert.InProj.Tile
-- ==== Proof.TileReal.lean ====
module

public import proofs.«01_k».proof.Proof.TileDefs

/-! # The tile arithmetic at real inputs

Each tile expression read at an index, its inputs being reals. A lane `l` of a pair of heads is lane `lw l` of head `hi l`. -/

@[expose] public section

namespace Cert.InProj.Tile

open Idealize.ShloMosaic Cert.KernelIdeal Cert.KernelIdeal.Gen

noncomputable section

def hi (l : Fin 128) : Fin 2 := ⟨l / 64, by omega⟩
def lw (l : Fin 128) : Fin 64 := ⟨l % 64, by omega⟩

theorem lo_word : ∀ l : Fin 128, IntOp.cmpi CmpIPredicate.slt (BitVec.ofNat 32 (l : ℕ)) 64#32 = if hi l = 0 then 1#1 else 0#1 := by
  decide +kernel
theorem lo16_word : ∀ l : Fin 128, IntOp.cmpi CmpIPredicate.slt (IntOp.andi (BitVec.ofNat 32 (l : ℕ)) 31#32) 16#32
    = if (lw l : ℕ) % 32 < 16 then 1#1 else 0#1 := by
  decide +kernel
theorem sel1 {α : Type} (a b : α) : Scalar.select 1#1 a b = a := rfl
theorem sel0 {α : Type} (a b : α) : Scalar.select 0#1 a b = b := rfl
theorem sel_ite {α : Type} (c : Prop) [Decidable c] (a b : α) : Scalar.select (if c then 1#1 else 0#1) a b = if c then a else b := by
  split <;> rfl

/-- A sum over a pair's lanes, head by head. -/
theorem sum_lanes (f : Fin 2 → Fin 64 → ℝ) : ∑ l : Fin 128, f (hi l) (lw l) = ∑ a : Fin 2, ∑ e : Fin 64, f a e := by
  rw [← Fintype.sum_prod_type' f]
  refine Finset.sum_nbij' (fun l => (hi l, lw l)) (fun q => ⟨64 * (q.1 : ℕ) + q.2, by omega⟩) ?_ ?_ ?_ ?_ ?_
  · intro _ _; simp
  · intro _ _; simp
  · intro l _; apply Fin.ext; simp only [hi, lw]; omega
  · rintro ⟨a, e⟩ _; simp only [hi, lw, Prod.mk.injEq]; constructor <;> apply Fin.ext <;> simp only <;> omega
  · intro _ _; rfl

theorem pairSums_at (x : FVec Ideal S256x128 .f32) (G : Fin 256 → Fin 2 → Fin 64 → ℝ)
    (hx : ∀ p l, x (ix2 p l) = (G p (hi l) (lw l) : EReal)) (p : Fin 256) (l : Fin 128) :
    pairSums x (ix2 p l) = ((∑ e, G p (hi l) e : ℝ) : EReal) := by
  pointwise [pairSums, lo, zero128, rowSum, spread]
  simp only [lo_word, sel_ite, hx]
  have e0 : (∑ k : Fin 128, if hi k = 0 then (G p (hi k) (lw k) : EReal) else 0) = ((∑ e, G p 0 e : ℝ) : EReal) := by
    rw [show (∑ k : Fin 128, if hi k = 0 then (G p (hi k) (lw k) : EReal) else 0)
      = ((∑ k : Fin 128, if hi k = 0 then G p (hi k) (lw k) else 0 : ℝ) : EReal) from by
        rw [coe_sum]; exact Finset.sum_congr rfl fun k _ => by split <;> simp]
    rw [sum_lanes (fun a e => if a = 0 then G p a e else 0), Fin.sum_univ_two]; simp
  have e1 : (∑ k : Fin 128, if hi k = 0 then (0 : EReal) else (G p (hi k) (lw k) : EReal)) = ((∑ e, G p 1 e : ℝ) : EReal) := by
    rw [show (∑ k : Fin 128, if hi k = 0 then (0 : EReal) else (G p (hi k) (lw k) : EReal))
      = ((∑ k : Fin 128, if hi k = 0 then 0 else G p (hi k) (lw k) : ℝ) : EReal) from by
        rw [coe_sum]; exact Finset.sum_congr rfl fun k _ => by split <;> simp]
    rw [sum_lanes (fun a e => if a = 0 then 0 else G p a e), Fin.sum_univ_two]; simp
  rw [e0, e1]
  rcases (by omega : hi l = 0 ∨ hi l = 1) with h | h <;> simp [h]

/-- The factor of a head's norm. -/
def nrm (f : Fin 64 → ℝ) : ℝ := (Real.sqrt ((∑ e, f e * f e) / 64 + eps))⁻¹

theorem headR_at (x : FVec Ideal S256x128 .f32) (G : Fin 256 → Fin 2 → Fin 64 → ℝ)
    (hx : ∀ p l, x (ix2 p l) = (G p (hi l) (lw l) : EReal)) (p : Fin 256) (l : Fin 128) :
    headR x (ix2 p l) = (nrm (G p (hi l)) : EReal) := by
  pointwise [headR, inv64]
  rw [pairSums_at _ (fun p a e => G p a e * G p a e) (fun p l => by pointwise; rw [hx, ← EReal.coe_mul]), c_inv64, c_eps,
    ← EReal.coe_mul, ← EReal.coe_add, rsqrt_real]
  · rw [nrm]; norm_num [div_eq_mul_inv]
  · exact add_pos_of_nonneg_of_pos (mul_nonneg (Finset.sum_nonneg fun _ _ => mul_self_nonneg _) (by norm_num)) eps_pos

theorem headXh_at (x : FVec Ideal S256x128 .f32) (G : Fin 256 → Fin 2 → Fin 64 → ℝ)
    (hx : ∀ p l, x (ix2 p l) = (G p (hi l) (lw l) : EReal)) (p : Fin 256) (l : Fin 128) :
    headXh x (ix2 p l) = ((G p (hi l) (lw l) * nrm (G p (hi l)) : ℝ) : EReal) := by
  pointwise [headXh]
  rw [headR_at x G hx, hx, EReal.coe_mul]

theorem headBack_at (x d : FVec Ideal S256x128 .f32) (G D : Fin 256 → Fin 2 → Fin 64 → ℝ)
    (hx : ∀ p l, x (ix2 p l) = (G p (hi l) (lw l) : EReal)) (hd : ∀ p l, d (ix2 p l) = (D p (hi l) (lw l) : EReal))
    (p : Fin 256) (l : Fin 128) :
    headBack x d (ix2 p l) = ((nrm (G p (hi l)) * (D p (hi l) (lw l) - G p (hi l) (lw l) * nrm (G p (hi l))
      * ((∑ k, D p (hi l) k * (G p (hi l) k * nrm (G p (hi l)))) * (1 / 64))) : ℝ) : EReal) := by
  pointwise [headBack, inv64]
  rw [headR_at x G hx, headXh_at x G hx, hd, pairSums_at _ (fun p a e => D p a e * (G p a e * nrm (G p a)))
    (fun p l => by pointwise; rw [hd, headXh_at x G hx, ← EReal.coe_mul]), c_inv64]
  simp only [← EReal.coe_mul, ← EReal.coe_sub]

theorem joinHalves_at (a b : FVec Ideal S1x256x128 .f32) (G : Fin 256 → Fin 2 → Fin 64 → ℝ)
    (ha : ∀ p l, a (ix3 0 p l) = ((if hi l = 0 then G p 0 (lw l) else 0 : ℝ) : EReal))
    (hb : ∀ p l, b (ix3 0 p l) = ((if hi l = 0 then G p 1 (lw l) else 0 : ℝ) : EReal))
    (p : Fin 256) (l : Fin 128) : joinHalves a b (ix2 p l) = (G p (hi l) (lw l) : EReal) := by
  pointwise [joinHalves]
  rw [ha, hb, ← EReal.coe_add]
  congr 1
  obtain ⟨l, hl⟩ := l
  by_cases h : l < 64
  · rw [if_pos (by apply Fin.ext; simp only [hi, Fin.val_zero]; omega), if_neg (by
      intro h'; have := congrArg Fin.val h'; simp only [hi, Fin.val_zero] at this; omega)]
    rw [show hi ⟨l, hl⟩ = 0 from by apply Fin.ext; simp only [hi, Fin.val_zero]; omega]; ring
  · rw [if_neg (by intro h'; have := congrArg Fin.val h'; simp only [hi, Fin.val_zero] at this; omega),
      if_pos (by apply Fin.ext; simp only [hi, Fin.val_zero]; omega)]
    rw [show hi ⟨l, hl⟩ = 1 from by apply Fin.ext; simp only [hi, Fin.val_one]; omega, zero_add]
    congr 1; apply Fin.ext; simp only [lw]; omega

theorem eighth_at (x : FVec Ideal S256x128 .f32) (G : Fin 256 → Fin 2 → Fin 64 → ℝ)
    (hx : ∀ p l, x (ix2 p l) = (G p (hi l) (lw l) : EReal)) (p : Fin 256) (l : Fin 128) :
    eighth x (ix2 p l) = ((G p (hi l) (lw l) * (1 / 8) : ℝ) : EReal) := by
  pointwise [eighth]
  rw [hx, c_eighth, EReal.coe_mul]

/-- A head's lanes rotated back. -/
def unrot (c s : Fin 64 → ℝ) (f : Fin 64 → ℝ) (e : Fin 64) : ℝ :=
  f e * c e + (if h : (e : ℕ) % 32 < 16 then f ⟨e + 16, by omega⟩ * s e else -(f ⟨e - 16, by omega⟩ * s e))

theorem backRot_at (d c s : FVec Ideal S256x128 .f32) (G : Fin 256 → Fin 2 → Fin 64 → ℝ) (C S : Fin 256 → Fin 64 → ℝ)
    (hd : ∀ p l, d (ix2 p l) = (G p (hi l) (lw l) : EReal)) (hc : ∀ p l, c (ix2 p l) = (C p (lw l) : EReal))
    (hs : ∀ p l, s (ix2 p l) = (((if (lw l : ℕ) % 32 < 16 then -1 else 1) * S p (lw l) : ℝ) : EReal))
    (hS : ∀ p (e f : Fin 64), (e : ℕ) / 32 = f / 32 → (e : ℕ) % 16 = f % 16 → S p e = S p f)
    (p : Fin 256) (l : Fin 128) :
    backRot d c s (ix2 p l) = (unrot (C p) (S p) (G p (hi l)) (lw l) : EReal) := by
  pointwise [backRot, lo16]
  simp only [lo16_word, sel_ite, hd, hc, hs, ← EReal.coe_mul]
  rw [unrot]
  by_cases h : (lw l : ℕ) % 32 < 16
  · rw [if_pos h, dif_pos h, ← EReal.coe_add]
    congr 2
    have h0 : (lw l : ℕ) = l % 64 := rfl
    have e1 : hi ⟨(↑l + 128 - 112) % 128, by omega⟩ = hi l := by apply Fin.ext; simp only [hi]; omega
    have e2 : lw ⟨(↑l + 128 - 112) % 128, by omega⟩ = ⟨lw l + 16, by omega⟩ := by apply Fin.ext; simp only [lw]; omega
    rw [e1, e2, if_neg (by show ¬ ((lw l : ℕ) + 16) % 32 < 16; omega), one_mul,
      hS p ⟨lw l + 16, by omega⟩ (lw l) (by show ((lw l : ℕ) + 16) / 32 = _; omega) (by show ((lw l : ℕ) + 16) % 16 = _; omega)]
  · rw [if_neg h, dif_neg h, ← EReal.coe_add]
    congr 2
    have h0 : (lw l : ℕ) = l % 64 := rfl
    have e1 : hi ⟨(↑l + 128 - 16) % 128, by omega⟩ = hi l := by apply Fin.ext; simp only [hi]; omega
    have e2 : lw ⟨(↑l + 128 - 16) % 128, by omega⟩ = ⟨lw l - 16, by omega⟩ := by apply Fin.ext; simp only [lw]; omega
    rw [e1, e2, if_pos (by show ((lw l : ℕ) - 16) % 32 < 16; omega),
      hS p ⟨lw l - 16, by omega⟩ (lw l) (by show ((lw l : ℕ) - 16) / 32 = _; omega) (by show ((lw l : ℕ) - 16) % 16 = _; omega)]
    ring

theorem gained_at (d : FVec Ideal S256x128 .f32) (g : FVec Ideal S1x128 .f32) (G : Fin 256 → Fin 2 → Fin 64 → ℝ) (K : Fin 64 → ℝ)
    (hd : ∀ p l, d (ix2 p l) = (G p (hi l) (lw l) : EReal)) (hg : ∀ l, g (ix2 0 l) = (K (lw l) : EReal))
    (p : Fin 256) (l : Fin 128) : gained d g (ix2 p l) = ((G p (hi l) (lw l) * K (lw l) : ℝ) : EReal) := by
  pointwise [gained]
  rw [hd, hg, EReal.coe_mul]

theorem gainAdd_at (old : FVec Ideal S1x128 .f32) (d x : FVec Ideal S256x128 .f32) (D G : Fin 256 → Fin 2 → Fin 64 → ℝ)
    (hd : ∀ p l, d (ix2 p l) = (D p (hi l) (lw l) : EReal)) (hx : ∀ p l, x (ix2 p l) = (G p (hi l) (lw l) : EReal)) (l : Fin 128) :
    gainAdd old d x (ix2 0 l) = old (ix2 0 l)
      + ((∑ p, D p (hi l) (lw l) * (G p (hi l) (lw l) * nrm (G p (hi l))) : ℝ) : EReal) := by
  pointwise [gainAdd]
  rw [coe_sum]; congr 1
  exact Finset.sum_congr rfl fun p _ => by rw [hd, headXh_at x G hx]; norm_cast

theorem id128_at (x : FVec Ideal S256x128 .f32) (p : Fin 256) (l : Fin 128) : id128 x (ix2 p l) = x (ix2 p l) := by
  pointwise [id128]
theorem id1024_at (x : FVec Ideal S1x1024 .f32) (d : Fin 1024) : id1024 x (ix2 0 d) = x (ix2 0 d) := by
  pointwise [id1024]

/-! ## The rows of width 1024 -/

/-- The factor of a row's norm. -/
def rnrm (f : Fin 1024 → ℝ) : ℝ := (Real.sqrt ((∑ d, f d * f d) / 1024 + eps))⁻¹

theorem rT_at (x : FVec Ideal S256x1024 .f32) (f : Fin 256 → Fin 1024 → ℝ)
    (hx : ∀ p l, x (ix2 p l) = (f p l : EReal)) (p : Fin 256) : rT x (ix2 p 0) = (rnrm (f p) : EReal) := by
  pointwise [rT]
  simp only [hx, ← EReal.coe_mul, ← coe_sum, c_1024, c_eps]
  rw [div_real _ _ (by norm_num), ← EReal.coe_add, rsqrt_real]
  · rfl
  · exact add_pos_of_nonneg_of_pos (div_nonneg (Finset.sum_nonneg fun _ _ => mul_self_nonneg _) (by norm_num)) eps_pos

theorem xnT_at (x : FVec Ideal S256x1024 .f32) (f : Fin 256 → Fin 1024 → ℝ)
    (hx : ∀ p l, x (ix2 p l) = (f p l : EReal)) (p : Fin 256) (d : Fin 1024) :
    xnT x (ix2 p d) = ((f p d * rnrm (f p) : ℝ) : EReal) := by
  pointwise [xnT]
  rw [rT_at x f hx, hx, EReal.coe_mul]

theorem bc_at (x : FVec Ideal S1x1024 .f32) (p : Fin 256) (d : Fin 1024) : bc x (ix2 p d) = x (ix2 0 d) := by
  pointwise [bc]

theorem colSum_at (x : FVec Ideal S256x1024 .f32) (d : Fin 1024) : colSum x (ix2 0 d) = ∑ p : Fin 256, x (ix2 p d) := by
  pointwise [colSum]

theorem scaled_at (dh : FVec Ideal S256x1024 .f32) (sc : FVec Ideal S1x1024 .f32) (f : Fin 256 → Fin 1024 → ℝ) (s : Fin 1024 → ℝ)
    (hdh : ∀ p d, dh (ix2 p d) = (f p d : EReal)) (hs : ∀ d, sc (ix2 0 d) = (s d : EReal)) (p : Fin 256) (d : Fin 1024) :
    scaled dh sc (ix2 p d) = ((f p d * (1 + s d) : ℝ) : EReal) := by
  pointwise [scaled, bc]
  rw [hdh, hs]
  norm_cast

theorem dxnT_at (dh : FVec Ideal S256x1024 .f32) (sc g : FVec Ideal S1x1024 .f32) (f : Fin 256 → Fin 1024 → ℝ) (s k : Fin 1024 → ℝ)
    (hdh : ∀ p d, dh (ix2 p d) = (f p d : EReal)) (hs : ∀ d, sc (ix2 0 d) = (s d : EReal)) (hg : ∀ d, g (ix2 0 d) = (k d : EReal))
    (p : Fin 256) (d : Fin 1024) : dxnT dh sc g (ix2 p d) = ((f p d * (1 + s d) * k d : ℝ) : EReal) := by
  pointwise [dxnT]
  rw [scaled_at dh sc f s hdh hs, bc_at, hg]; norm_cast

theorem dxT_at (x dxo dxn : FVec Ideal S256x1024 .f32) (f o n : Fin 256 → Fin 1024 → ℝ)
    (hx : ∀ p d, x (ix2 p d) = (f p d : EReal)) (ho : ∀ p d, dxo (ix2 p d) = (o p d : EReal)) (hn : ∀ p d, dxn (ix2 p d) = (n p d : EReal))
    (p : Fin 256) (d : Fin 1024) : dxT x dxo dxn (ix2 p d)
      = ((rnrm (f p) * (n p d - f p d * rnrm (f p) * ((∑ k, n p k * (f p k * rnrm (f p))) / 1024)) + o p d : ℝ) : EReal) := by
  pointwise [dxT]
  simp only [rT_at x f hx, xnT_at x f hx, hn, ho, ← EReal.coe_mul, ← coe_sum, c_1024]
  rw [div_real _ _ (by norm_num)]
  norm_cast

theorem dscS_at (dh x : FVec Ideal S256x1024 .f32) (g : FVec Ideal S1x1024 .f32) (f n : Fin 256 → Fin 1024 → ℝ) (k : Fin 1024 → ℝ)
    (hx : ∀ p d, x (ix2 p d) = (f p d : EReal)) (hn : ∀ p d, dh (ix2 p d) = (n p d : EReal)) (hg : ∀ d, g (ix2 0 d) = (k d : EReal))
    (d : Fin 1024) : dscS dh x g (ix2 0 d) = ((∑ p, n p d * (f p d * rnrm (f p) * k d) : ℝ) : EReal) := by
  rw [dscS, colSum_at, coe_sum]
  refine Finset.sum_congr rfl fun p _ => ?_
  pointwise
  rw [xnT_at x f hx, bc_at, hn, hg]
  norm_cast

theorem addG_at (old : FVec Ideal S1x1024 .f32) (dh x : FVec Ideal S256x1024 .f32) (sc : FVec Ideal S1x1024 .f32)
    (f n : Fin 256 → Fin 1024 → ℝ) (s : Fin 1024 → ℝ)
    (hx : ∀ p d, x (ix2 p d) = (f p d : EReal)) (hn : ∀ p d, dh (ix2 p d) = (n p d : EReal)) (hs : ∀ d, sc (ix2 0 d) = (s d : EReal))
    (d : Fin 1024) : addG old dh sc x (ix2 0 d) = old (ix2 0 d) + ((∑ p, n p d * (1 + s d) * (f p d * rnrm (f p)) : ℝ) : EReal) := by
  have h : colSum (mulf (scaled dh sc) (xnT x)) (ix2 0 d) = ((∑ p, n p d * (1 + s d) * (f p d * rnrm (f p)) : ℝ) : EReal) := by
    rw [colSum_at, coe_sum]
    refine Finset.sum_congr rfl fun p _ => ?_
    pointwise
    rw [xnT_at x f hx, scaled_at dh sc n s hn hs]
    norm_cast
  pointwise [addG]
  rw [h, id1024_at]

theorem hT_at (x : FVec Ideal S256x1024 .f32) (sh sc g : FVec Ideal S1x1024 .f32) (f : Fin 256 → Fin 1024 → ℝ) (a s k : Fin 1024 → ℝ)
    (hx : ∀ p d, x (ix2 p d) = (f p d : EReal)) (ha : ∀ d, sh (ix2 0 d) = (a d : EReal)) (hs : ∀ d, sc (ix2 0 d) = (s d : EReal))
    (hg : ∀ d, g (ix2 0 d) = (k d : EReal)) (p : Fin 256) (d : Fin 1024) :
    hT x sh sc g (ix2 p d) = ((f p d * rnrm (f p) * k d * (1 + s d) + a d : ℝ) : EReal) := by
  pointwise [hT, bc]
  rw [xnT_at x f hx, ha, hs, hg]
  norm_cast

theorem pqT_at (h : FVec Ideal S256x1024 .bf16) (w : FVec Ideal S1024x512 .bf16) (p : Fin 256) (j : Fin 512) :
    pqT h w (ix2 p j) = ∑ d : Fin 1024, h (ix2 p d) * w (ix2 d j) := by
  pointwise [pqT]

theorem dhT_at (dpq : FVec Ideal S256x512 .bf16) (dpc : FVec Ideal S256x1024 .bf16) (wc : FVec Ideal S1024x1024 .bf16)
    (dpr : FVec Ideal S256x1792 .bf16) (wr : FVec Ideal S1024x1792 .bf16) (wq : FVec Ideal S1024x512 .bf16) (p : Fin 256) (d : Fin 1024) :
    dhT dpq dpc wc dpr wr wq (ix2 p d) = (∑ j : Fin 1024, dpc (ix2 p j) * wc (ix2 d j)) + (∑ j : Fin 1792, dpr (ix2 p j) * wr (ix2 d j))
      + ∑ j : Fin 512, dpq (ix2 p j) * wq (ix2 d j) := by
  pointwise [dhT]

end

end Cert.InProj.Tile
-- ==== Proof.TileSpec.lean ====
module

public import proofs.«01_k».proof.Proof.TileReal

/-! # One tile's values

The tile expressions when the tile holds rows `ρ 0, …, ρ 255` of the arguments. -/

@[expose] public section

set_option maxRecDepth 16384

namespace Cert.InProj

/-! The kernel's three groups of the projection's columns. -/
def cC (j : Fin 1024) : Fin 3328 := if (j : ℕ) < 512 then ⟨256 + j, by omega⟩ else ⟨1024 + (j - 512), by omega⟩
def cR (j : Fin 1792) : Fin 3328 :=
  if (j : ℕ) < 256 then ⟨j, by omega⟩ else if (j : ℕ) < 512 then ⟨768 + (j - 256), by omega⟩
  else if (j : ℕ) < 1536 then ⟨1536 + (j - 512), by omega⟩ else ⟨3072 + (j - 1536), by omega⟩
def cQ (j : Fin 512) : Fin 3328 := ⟨2560 + j, by omega⟩

theorem sum_groups (F : Fin 3328 → ℝ) : ∑ j, F j = (∑ j, F (cC j)) + (∑ j, F (cR j)) + ∑ j, F (cQ j) := by
  let f : ℕ → ℝ := fun n => if h : n < 3328 then F ⟨n, h⟩ else 0
  have hf (n : ℕ) (h : n < 3328) : f n = F ⟨n, h⟩ := dif_pos h
  have e0 : ∑ j, F j = ∑ n ∈ Finset.range (256 + 512 + 256 + 512 + 1024 + 512 + 256), f n := by
    rw [← Fin.sum_univ_eq_sum_range]; exact Finset.sum_congr rfl fun j _ => (hf j j.2).symm
  have eC : ∑ j, F (cC j) = ∑ n ∈ Finset.range (512 + 512), (if n < 512 then f (256 + n) else f (1024 + (n - 512))) := by
    rw [← Fin.sum_univ_eq_sum_range (fun n => if n < 512 then f (256 + n) else f (1024 + (n - 512)))]
    refine Finset.sum_congr rfl fun j _ => ?_
    have := j.2
    rw [cC]; split <;> rw [hf]
  have eR : ∑ j, F (cR j) = ∑ n ∈ Finset.range (256 + 256 + 1024 + 256), (if n < 256 then f n else if n < 512 then f (768 + (n - 256))
      else if n < 1536 then f (1536 + (n - 512)) else f (3072 + (n - 1536))) := by
    rw [← Fin.sum_univ_eq_sum_range (fun n => if n < 256 then f n else if n < 512 then f (768 + (n - 256))
      else if n < 1536 then f (1536 + (n - 512)) else f (3072 + (n - 1536)))]
    refine Finset.sum_congr rfl fun j _ => ?_
    have := j.2
    rw [cR]; split
    · rw [hf]
    · split
      · rw [hf]
      · split <;> rw [hf]
  have eQ : ∑ j, F (cQ j) = ∑ n ∈ Finset.range 512, f (2560 + n) := by
    rw [← Fin.sum_univ_eq_sum_range (fun n => f (2560 + n))]
    exact Finset.sum_congr rfl fun j _ => by rw [cQ, hf]
  rw [e0, eC, eR, eQ]
  simp only [Finset.sum_range_add]
  have s (m : ℕ) (a b : ℕ → ℝ) (h : ∀ n < m, a n = b n) : ∑ n ∈ Finset.range m, a n = ∑ n ∈ Finset.range m, b n :=
    Finset.sum_congr rfl fun n hn => h n (Finset.mem_range.mp hn)
  rw [s 512 (fun n => if n < 512 then f (256 + n) else f (1024 + (n - 512))) (fun n => f (256 + n)) (fun n h => if_pos h),
    s 512 (fun n => if 512 + n < 512 then f (256 + (512 + n)) else f (1024 + (512 + n - 512))) (fun n => f (1024 + n)) (fun n h => by
      rw [if_neg (by omega)]; congr 1; omega),
    s 256 (fun n => if n < 256 then f n else if n < 512 then f (768 + (n - 256))
      else if n < 1536 then f (1536 + (n - 512)) else f (3072 + (n - 1536))) f (fun n h => if_pos h),
    s 256 (fun n => if 256 + n < 256 then f (256 + n) else if 256 + n < 512 then f (768 + (256 + n - 256))
      else if 256 + n < 1536 then f (1536 + (256 + n - 512)) else f (3072 + (256 + n - 1536))) (fun n => f (768 + n)) (fun n h => by
      rw [if_neg (by omega), if_pos (by omega)]; congr 1; omega),
    s 1024 (fun n => if 256 + 256 + n < 256 then f (256 + 256 + n) else if 256 + 256 + n < 512 then f (768 + (256 + 256 + n - 256))
      else if 256 + 256 + n < 1536 then f (1536 + (256 + 256 + n - 512)) else f (3072 + (256 + 256 + n - 1536)))
      (fun n => f (1536 + n)) (fun n h => by
      rw [if_neg (by omega), if_neg (by omega), if_pos (by omega)]; congr 1; omega),
    s 256 (fun n => if 256 + 256 + 1024 + n < 256 then f (256 + 256 + 1024 + n) else if 256 + 256 + 1024 + n < 512 then
      f (768 + (256 + 256 + 1024 + n - 256)) else if 256 + 256 + 1024 + n < 1536 then f (1536 + (256 + 256 + 1024 + n - 512))
      else f (3072 + (256 + 256 + 1024 + n - 1536)))
      (fun n => f (3072 + n)) (fun n h => by
      rw [if_neg (by omega), if_neg (by omega), if_neg (by omega)]; congr 1; omega)]
  have c (m a b : ℕ) (h : a = b) : ∑ n ∈ Finset.range m, f (a + n) = ∑ n ∈ Finset.range m, f (b + n) := by rw [h]
  rw [c 256 (256 + 512) 768 (by norm_num), c 512 (256 + 512 + 256) 1024 (by norm_num), c 1024 (256 + 512 + 256 + 512) 1536 (by norm_num),
    c 512 (256 + 512 + 256 + 512 + 1024) 2560 (by norm_num), c 256 (256 + 512 + 256 + 512 + 1024 + 512) 3072 (by norm_num)]
  ring

end Cert.InProj

namespace Cert.InProj.Tile

open Idealize.ShloMosaic Cert.KernelIdeal Cert.KernelIdeal.Gen

noncomputable section

/-- Head `hi l` of pair `b`. -/
def hd (b : ℕ) (hb : b < 3) (l : Fin 128) : Fin 6 := ⟨2 * b + hi l, by have := (hi l).2; omega⟩

/-- The head tiles hold the rows `ρ`. -/
structure Heads (I : Inp) (ρ : Fin 256 → Fin 8448) (x0 x1 x2 cos sin : FVec Ideal S256x128 .f32)
    (q0 q1 q2 q3 k0 k1 v0 v1 : FVec Ideal S1x256x128 .f32) (gq gk : FVec Ideal S1x128 .f32) : Prop where
  x0 : ∀ p l, x0 (ix2 p l) = (I.pq (ρ p) (hd 0 (by decide) l) (lw l) : EReal)
  x1 : ∀ p l, x1 (ix2 p l) = (I.pq (ρ p) (hd 1 (by decide) l) (lw l) : EReal)
  x2 : ∀ p l, x2 (ix2 p l) = (I.pq (ρ p) (hd 2 (by decide) l) (lw l) : EReal)
  cos : ∀ p l, cos (ix2 p l) = (CS (ρ p) (lw l) : EReal)
  sin : ∀ p l, sin (ix2 p l) = (((if (lw l : ℕ) % 32 < 16 then -1 else 1) * SN (ρ p) (lw l) : ℝ) : EReal)
  q0 : ∀ p l, q0 (ix3 0 p l) = ((if hi l = 0 then I.cq (ρ p) ⟨lw l, by omega⟩ else 0 : ℝ) : EReal)
  q1 : ∀ p l, q1 (ix3 0 p l) = ((if hi l = 0 then I.cq (ρ p) ⟨64 + lw l, by omega⟩ else 0 : ℝ) : EReal)
  q2 : ∀ p l, q2 (ix3 0 p l) = ((if hi l = 0 then I.cq (ρ p) ⟨128 + lw l, by omega⟩ else 0 : ℝ) : EReal)
  q3 : ∀ p l, q3 (ix3 0 p l) = ((if hi l = 0 then I.cq (ρ p) ⟨192 + lw l, by omega⟩ else 0 : ℝ) : EReal)
  k0 : ∀ p l, k0 (ix3 0 p l) = ((if hi l = 0 then I.ck (ρ p) ⟨lw l, by omega⟩ else 0 : ℝ) : EReal)
  k1 : ∀ p l, k1 (ix3 0 p l) = ((if hi l = 0 then I.ck (ρ p) ⟨64 + lw l, by omega⟩ else 0 : ℝ) : EReal)
  v0 : ∀ p l, v0 (ix3 0 p l) = ((if hi l = 0 then I.cv (ρ p) ⟨lw l, by omega⟩ else 0 : ℝ) : EReal)
  v1 : ∀ p l, v1 (ix3 0 p l) = ((if hi l = 0 then I.cv (ρ p) ⟨64 + lw l, by omega⟩ else 0 : ℝ) : EReal)
  gq : ∀ l, gq (ix2 0 l) = (I.qg (lw l) : EReal)
  gk : ∀ l, gk (ix2 0 l) = (I.kg (lw l) : EReal)

theorem SN_half (t : Fin 8448) (e f : Fin 64) (h : (e : ℕ) / 32 = f / 32) (h' : (e : ℕ) % 16 = f % 16) : SN t e = SN t f := by
  have h32 : (e : ℕ) < 32 ↔ (f : ℕ) < 32 := by omega
  simp only [SN, angle, freq, h', h32]

theorem unrot_dxg (I : Inp) (t : Fin 8448) (a : Fin 6) (e : Fin 64) :
    unrot (fun e => CS t e) (fun e => SN t e) (I.ct t a) e = I.dxg t a e := rfl

section
variable {I : Inp} {ρ : Fin 256 → Fin 8448} {x0 x1 x2 cos sin : FVec Ideal S256x128 .f32}
  {q0 q1 q2 q3 k0 k1 v0 v1 : FVec Ideal S1x256x128 .f32} {gq gk : FVec Ideal S1x128 .f32}

/-- A pair's cotangents rotated back, by the cotangents of its lanes. -/
theorem back_pair (H : Heads I ρ x0 x1 x2 cos sin q0 q1 q2 q3 k0 k1 v0 v1 gq gk) (b : ℕ) (hb : b < 3)
    (d : FVec Ideal S256x128 .f32) (hd' : ∀ p l, d (ix2 p l) = (I.ct (ρ p) (hd b hb l) (lw l) : EReal)) (p : Fin 256) (l : Fin 128) :
    backRot d (id128 cos) (id128 sin) (ix2 p l) = (I.dxg (ρ p) (hd b hb l) (lw l) : EReal) :=
  backRot_at d (id128 cos) (id128 sin) (fun p a => I.ct (ρ p) ⟨2 * b + a, by omega⟩) (fun p e => CS (ρ p) e) (fun p e => SN (ρ p) e)
    hd' (fun p l => by rw [id128_at, H.cos]) (fun p l => by rw [id128_at, H.sin]) (fun p e f h h' => SN_half (ρ p) e f h h') p l

theorem dxgQ0_at (H : Heads I ρ x0 x1 x2 cos sin q0 q1 q2 q3 k0 k1 v0 v1 gq gk) (p : Fin 256) (l : Fin 128) :
    dxgQ cos sin q0 q1 (ix2 p l) = (I.dxg (ρ p) (hd 0 (by decide) l) (lw l) : EReal) := by
  refine back_pair H 0 (by decide) _ (fun p l => ?_) p l
  rw [eighth_at _ (fun p a e => I.cq (ρ p) ⟨64 * a + e, by omega⟩) fun p l =>
    joinHalves_at q0 q1 (fun p a e => I.cq (ρ p) ⟨64 * a + e, by omega⟩) (fun p l => by rw [H.q0]; simp) (fun p l => by rw [H.q1]; simp) p l]
  have := (hi l).2
  rw [Inp.ct, dif_pos (show (hd 0 (by decide) l : ℕ) < 4 from by simp only [hd]; omega)]
  simp only [hd, Nat.mul_zero, Nat.zero_add]

theorem dxgQ1_at (H : Heads I ρ x0 x1 x2 cos sin q0 q1 q2 q3 k0 k1 v0 v1 gq gk) (p : Fin 256) (l : Fin 128) :
    dxgQ cos sin q2 q3 (ix2 p l) = (I.dxg (ρ p) (hd 1 (by decide) l) (lw l) : EReal) := by
  refine back_pair H 1 (by decide) _ (fun p l => ?_) p l
  rw [eighth_at _ (fun p a e => I.cq (ρ p) ⟨128 + 64 * a + e, by omega⟩) fun p l =>
    joinHalves_at q2 q3 (fun p a e => I.cq (ρ p) ⟨128 + 64 * a + e, by omega⟩) (fun p l => by rw [H.q2]; simp) (fun p l => by rw [H.q3]; simp) p l]
  have := (hi l).2
  rw [Inp.ct, dif_pos (show (hd 1 (by decide) l : ℕ) < 4 from by simp only [hd]; omega)]
  congr 3; apply Fin.ext; simp only [hd]; omega

theorem dxgK_at (H : Heads I ρ x0 x1 x2 cos sin q0 q1 q2 q3 k0 k1 v0 v1 gq gk) (p : Fin 256) (l : Fin 128) :
    dxgK cos sin k0 k1 (ix2 p l) = (I.dxg (ρ p) (hd 2 (by decide) l) (lw l) : EReal) := by
  refine back_pair H 2 (by decide) _ (fun p l => ?_) p l
  rw [joinHalves_at k0 k1 (fun p a e => I.ck (ρ p) ⟨64 * a + e, by omega⟩) (fun p l => by rw [H.k0]; simp) (fun p l => by rw [H.k1]; simp) p l]
  rw [Inp.ct, dif_neg (show ¬ (hd 2 (by decide) l : ℕ) < 4 from by simp only [hd]; omega)]
  congr 2; apply Fin.ext; simp only [hd]; omega

theorem joinV_at (H : Heads I ρ x0 x1 x2 cos sin q0 q1 q2 q3 k0 k1 v0 v1 gq gk) (p : Fin 256) (l : Fin 128) :
    joinHalves v0 v1 (ix2 p l) = (I.cv (ρ p) l : EReal) := by
  rw [joinHalves_at v0 v1 (fun p a e => I.cv (ρ p) ⟨64 * a + e, by omega⟩) (fun p l => by rw [H.v0]; simp) (fun p l => by rw [H.v1]; simp) p l]
  congr 2; apply Fin.ext; simp only [hi, lw]; omega

theorem nrm_hr (I : Inp) (t : Fin 8448) (a : Fin 6) : nrm (I.pq t a) = I.hr t a := rfl

/-- A pair's gradient through the head norm. -/
theorem pair_at (I : Inp) (ρ : Fin 256 → Fin 8448) (b : ℕ) (hb : b < 3) (x dxg : FVec Ideal S256x128 .f32) (g : FVec Ideal S1x128 .f32)
    (hx : ∀ p l, x (ix2 p l) = (I.pq (ρ p) (hd b hb l) (lw l) : EReal))
    (hd' : ∀ p l, dxg (ix2 p l) = (I.dxg (ρ p) (hd b hb l) (lw l) : EReal))
    (K : Fin 64 → ℝ) (hK : ∀ (a : Fin 6) e, (a : ℕ) / 2 = b → I.gain a e = K e)
    (hg : ∀ l, g (ix2 0 l) = (K (lw l) : EReal)) (p : Fin 256) (l : Fin 128) :
    headBack (id128 x) (gained dxg g) (ix2 p l) = (I.dpq (ρ p) (hd b hb l) (lw l) : EReal) := by
  have := headBack_at (id128 x) (gained dxg g) (fun p a => I.pq (ρ p) ⟨2 * b + a, by omega⟩)
    (fun p a e => I.dxg (ρ p) ⟨2 * b + a, by omega⟩ e * K e) (fun p l => by rw [id128_at]; exact hx p l)
    (gained_at dxg g (fun p a => I.dxg (ρ p) ⟨2 * b + a, by omega⟩) K hd' hg) p l
  rw [this]
  have hk : ∀ e, I.dxh (ρ p) (hd b hb l) e = I.dxg (ρ p) (hd b hb l) e * K e := fun e => by
    rw [Inp.dxh, hK _ _ (by have := (hi l).2; simp only [hd]; omega)]
  unfold Inp.dpq
  simp only [hk]
  rfl

theorem gain_q (I : Inp) (b : ℕ) (hb : b < 2) (a : Fin 6) (e : Fin 64) (h : (a : ℕ) / 2 = b) : I.gain a e = I.qg e :=
  if_pos (by omega)
theorem gain_k (I : Inp) (a : Fin 6) (e : Fin 64) (h : (a : ℕ) / 2 = 2) : I.gain a e = I.kg e :=
  if_neg (by omega)

/-- A pair's part of the gain's gradient. -/
theorem pairGain_at (I : Inp) (ρ : Fin 256 → Fin 8448) (b : ℕ) (hb : b < 3) (old : FVec Ideal S1x128 .f32) (x dxg : FVec Ideal S256x128 .f32)
    (hx : ∀ p l, x (ix2 p l) = (I.pq (ρ p) (hd b hb l) (lw l) : EReal))
    (hd' : ∀ p l, dxg (ix2 p l) = (I.dxg (ρ p) (hd b hb l) (lw l) : EReal)) (l : Fin 128) :
    gainAdd old dxg (id128 x) (ix2 0 l) = old (ix2 0 l)
      + ((∑ p, I.dxg (ρ p) (hd b hb l) (lw l) * I.xh (ρ p) (hd b hb l) (lw l) : ℝ) : EReal) :=
  gainAdd_at old dxg (id128 x) (fun p a => I.dxg (ρ p) ⟨2 * b + a, by omega⟩) (fun p a => I.pq (ρ p) ⟨2 * b + a, by omega⟩) hd'
    (fun p l => by rw [id128_at]; exact hx p l) l

theorem dpqT_at (H : Heads I ρ x0 x1 x2 cos sin q0 q1 q2 q3 k0 k1 v0 v1 gq gk) (p : Fin 256) (j : Fin 512) :
    dpqT x0 x1 x2 cos sin q0 q1 q2 q3 k0 k1 v0 v1 gq gk (ix2 p j) = (I.dP (ρ p) (cQ j) : EReal) := by
  pointwise [dpqT]
  have key (b : ℕ) (hb : b < 3) (l : Fin 128) (h : (j : ℕ) = 128 * b + l) :
      I.dpq (ρ p) (hd b hb l) (lw l) = I.dP (ρ p) (cQ j) := by
    have := l.2
    rw [Inp.dP, dif_neg (by simp only [cQ]; omega), dif_pos (by simp only [cQ]; omega)]
    exact congrArg₂ (I.dpq (ρ p)) (Fin.ext (by simp only [cQ, hd, hi]; omega)) (Fin.ext (by simp only [cQ, lw]; omega))
  have hj := j.2
  split
  · rw [pair_at I ρ 0 (by decide) x0 _ gq H.x0 (dxgQ0_at H) I.qg (gain_q I 0 (by decide)) H.gq, key 0 (by decide) _ (by simp)]
  split
  · rw [pair_at I ρ 1 (by decide) x1 _ gq H.x1 (dxgQ1_at H) I.qg (gain_q I 1 (by decide)) H.gq, key 1 (by decide) _ (by simp only; omega)]
  split
  · rw [pair_at I ρ 2 (by decide) x2 _ gk H.x2 (dxgK_at H) I.kg (gain_k I) H.gk, key 2 (by decide) _ (by simp only; omega)]
  · rw [joinV_at H, Inp.dP, dif_neg (by simp only [cQ]; omega), dif_neg (by simp only [cQ]; omega), dif_pos (by simp only [cQ]; omega)]
    exact congrArg (fun z => (I.cv (ρ p) z : EReal)) (Fin.ext (by simp only [cQ]; omega))

end

/-- The factor of a row. -/
theorem rnrm_r (I : Inp) (t : Fin 8448) : rnrm (I.X t) = I.r t := rfl

/-- The tiles of width 1024 and more hold the rows `ρ`. -/
structure Rows (I : Inp) (ρ : Fin 256 → Fin 8448) (dpq : FVec Ideal S256x512 .bf16) (dpc : FVec Ideal S256x1024 .bf16)
    (wc : FVec Ideal S1024x1024 .bf16) (dpr : FVec Ideal S256x1792 .bf16) (wr : FVec Ideal S1024x1792 .bf16)
    (wq : FVec Ideal S1024x512 .bf16) : Prop where
  dpq : ∀ p j, dpq (ix2 p j) = (I.dP (ρ p) (cQ j) : EReal)
  dpc : ∀ p j, dpc (ix2 p j) = (I.dP (ρ p) (cC j) : EReal)
  dpr : ∀ p j, dpr (ix2 p j) = (I.dP (ρ p) (cR j) : EReal)
  wc : ∀ d j, wc (ix2 d j) = (I.W d (cC j) : EReal)
  wr : ∀ d j, wr (ix2 d j) = (I.W d (cR j) : EReal)
  wq : ∀ d j, wq (ix2 d j) = (I.W d (cQ j) : EReal)

theorem dhT_spec {I : Inp} {ρ : Fin 256 → Fin 8448} {dpq : FVec Ideal S256x512 .bf16} {dpc : FVec Ideal S256x1024 .bf16}
    {wc : FVec Ideal S1024x1024 .bf16} {dpr : FVec Ideal S256x1792 .bf16} {wr : FVec Ideal S1024x1792 .bf16}
    {wq : FVec Ideal S1024x512 .bf16} (H : Rows I ρ dpq dpc wc dpr wr wq) (p : Fin 256) (d : Fin 1024) :
    dhT dpq dpc wc dpr wr wq (ix2 p d) = (I.dh (ρ p) d : EReal) := by
  rw [dhT_at, Inp.dh, sum_groups]
  simp only [H.dpq, H.dpc, H.dpr, H.wc, H.wr, H.wq, EReal.coe_add, coe_sum, EReal.coe_mul]

end

end Cert.InProj.Tile
-- ==== Proof.HA.lean ====
module

public import proofs.«01_k».proof.Proof.Gen.KernelIdeal.Frame.Fold0
public import proofs.«01_k».proof.Proof.TileSpec
public import Idealize.ShloMosaic.Lib.Claim
public import Idealize.ShloMosaic.Lib.StableHlo.Predicate

@[expose] public section

set_option maxRecDepth 16384

namespace Cert.InProj

open Idealize.ShloMosaic Idealize.ShloMosaic.TcCoe Cert.KernelIdeal Cert.KernelIdeal.Gen Tile

noncomputable section

/-! ## Before the first launch -/

theorem h0_v12 (X : Valuation τ sig (Elt Ideal)) (d : Fin 1024) (j : Fin 512) :
    StableHlo.after hostOps0 X (Proc.devRef .tc main_v12) (ix2 (n0 := 1024) (n1 := 512) d j) = X (Proc.devRef .tc main_arg6) (ix2 (n0 := 1024) (n1 := 3328) d (cQ j)) := by
  unfold_abbrev_sides
  after_results
  pointwise
  rfl

theorem h0_v6 (X : Valuation τ sig (Elt Ideal)) (d : Fin 1024) (j : Fin 1024) :
    StableHlo.after hostOps0 X (Proc.devRef .tc main_v6) (ix2 (n0 := 1024) (n1 := 1024) d j) = X (Proc.devRef .tc main_arg6) (ix2 (n0 := 1024) (n1 := 3328) d (cC j)) := by
  unfold_abbrev_sides
  after_results
  pointwise
  rw [cC]
  split_ifs <;> rfl

theorem h0_v11 (X : Valuation τ sig (Elt Ideal)) (d : Fin 1024) (j : Fin 1792) :
    StableHlo.after hostOps0 X (Proc.devRef .tc main_v11) (ix2 (n0 := 1024) (n1 := 1792) d j) = X (Proc.devRef .tc main_arg6) (ix2 (n0 := 1024) (n1 := 3328) d (cR j)) := by
  unfold_abbrev_sides
  after_results
  pointwise
  rw [cR]
  split_ifs
  all_goals
    first
    | omega
    | (generalize_proofs
       after_results_loop
       pointwise
       first | done | exact congrArg (fun q => X (Proc.devRef .tc main_arg6) (ix2 (n0 := 1024) (n1 := 3328) d q)) (Fin.ext (by split_ifs <;> simp only <;> omega)))

theorem h0_v22_0 (X : Valuation τ sig (Elt Ideal)) (d : Fin 1024) :
    StableHlo.after hostOps0 X (Proc.devRef .tc main_v22) (ix2 (n0 := 8) (n1 := 1024) 0 d) = X (Proc.devRef .tc main_arg1) (ix1 (n0 := 1024) d) := by
  unfold_abbrev_sides
  after_results
  pointwise
  after_results_loop
  pointwise

theorem h0_v22_1 (X : Valuation τ sig (Elt Ideal)) (d : Fin 1024) :
    StableHlo.after hostOps0 X (Proc.devRef .tc main_v22) (ix2 (n0 := 8) (n1 := 1024) 1 d) = X (Proc.devRef .tc main_arg2) (ix1 (n0 := 1024) d) := by
  unfold_abbrev_sides
  after_results
  pointwise
  after_results_loop
  pointwise

theorem h0_v22_3 (X : Valuation τ sig (Elt Ideal)) (d : Fin 1024) :
    StableHlo.after hostOps0 X (Proc.devRef .tc main_v22) (ix2 (n0 := 8) (n1 := 1024) 3 d) = X (Proc.devRef .tc main_arg3) (ix1 (n0 := 1024) d) := by
  unfold_abbrev_sides
  after_results
  pointwise
  after_results_loop
  pointwise

theorem h0_v22_4 (X : Valuation τ sig (Elt Ideal)) (d : Fin 1024) :
    StableHlo.after hostOps0 X (Proc.devRef .tc main_v22) (ix2 (n0 := 8) (n1 := 1024) 4 d) = X (Proc.devRef .tc main_arg4) (ix1 (n0 := 1024) d) := by
  unfold_abbrev_sides
  after_results
  pointwise
  after_results_loop
  pointwise

theorem h0_v32_0 (X : Valuation τ sig (Elt Ideal)) (d : Fin 128) :
    StableHlo.after hostOps0 X (Proc.devRef .tc main_v32) (ix2 (n0 := 8) (n1 := 128) 0 d) = X (Proc.devRef .tc main_arg7) (ix1 (n0 := 64) (lw d)) := by
  unfold_abbrev_sides
  after_results
  pointwise
  after_results_loop
  pointwise
  rfl

theorem h0_v32_1 (X : Valuation τ sig (Elt Ideal)) (d : Fin 128) :
    StableHlo.after hostOps0 X (Proc.devRef .tc main_v32) (ix2 (n0 := 8) (n1 := 128) 1 d) = X (Proc.devRef .tc main_arg8) (ix1 (n0 := 64) (lw d)) := by
  unfold_abbrev_sides
  after_results
  pointwise
  after_results_loop
  pointwise
  rfl

end

end Cert.InProj
-- ==== Proof.HB.lean ====
module

public import proofs.«01_k».proof.Proof.HA

/-! # The rotary tables the host prepares -/

@[expose] public section

set_option maxRecDepth 16384

namespace Cert.InProj

open Idealize.ShloMosaic Idealize.ShloMosaic.TcCoe Cert.KernelIdeal Cert.KernelIdeal.Gen Tile

noncomputable section

theorem lit0_at : ∀ l : Fin 128, lit0 l = BitVec.ofNat 32 (l % 16) := by decide +kernel
theorem lit1_at : ∀ l : Fin 128, lit1 l = if (l : ℕ) % 64 < 32 then 1#1 else 0#1 := by decide +kernel
theorem lit2_at : ∀ l : Fin 128, lit2 l = if (l : ℕ) % 64 < 32 then 1#1 else 0#1 := by decide +kernel
theorem lit3_at : ∀ l : Fin 128, lit3 l = if (l : ℕ) % 32 < 16 then 0xBF800000#32 else 0x3F800000#32 := by decide +kernel

theorem take_word : ∀ l : Fin 128, min (BitVec.ofNat 32 ((l : ℕ) % 16)).toInt.toNat (16 - 1) = l % 16 := by decide +kernel

theorem sitofp_nat (n : ℕ) (h : n < 2 ^ 31) : (FloatOps.sitofp FTy.f32 (BitVec.ofNat 32 n) : Ideal FTy.f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem rowMajor_128 (l : Fin 128) : S128.rowMajor (ix1 l) = l := Fin.ext (by simp [Shape.rowMajor_val_one])

/-- The frequencies, as the host computes them. -/
def fT : FVec Ideal S16 .f32 :=
  (Host.divf (F := Ideal) (broadcastInDim S16 ![] bcast_S_S16 (constant S_ FTy.f32 1065353216#32))
          (Host.powf (broadcastInDim S16 ![] bcast_S_S16 (constant S_ FTy.f32 1176256512#32))
            (Host.divf
              (addf (broadcastInDim S16 ![] bcast_S_S16 (constant S_ FTy.f32 0#32))
                (mulf (broadcastInDim S16 ![] bcast_S_S16 (constant S_ FTy.f32 1073741824#32))
                  (sitofp FTy.f32 (iotaInDim S16 32 0))))
              (broadcastInDim S16 ![] bcast_S_S16 (constant S_ FTy.f32 1107296256#32)))))
/-- The lanes' places in that table. -/
def iT : IVec S128x1 32 :=
  (broadcastInDim S128x1 ![0] bcast_S128_S128x1_0
          (select (constantI S128 1 0#1)
            (addi (fun i => lit0 (S128.rowMajor i)) (broadcastInDim S128 ![] bcast_S_S128 (constantI S_ 32 16#32)))
            fun i => lit0 (S128.rowMajor i)))

theorem fT_at (k : Fin 16) : fT (ix1 k) = (freq k : EReal) := by
  pointwise [fT]
  rw [sitofp_nat _ (by omega), c_two, c_32, c_1e4, ← EReal.coe_mul, div_real _ _ (by norm_num), Ideal.pow_coe_coe, ← EReal.coe_one,
    div_real _ (Real.rpow 10000 (2 * ((k : ℕ) : ℝ) / 32)) (Real.rpow_pos_of_pos (by norm_num) _).ne', freq]
  norm_num [Nat.mod_eq_of_lt k.2]

theorem iT_at (l : Fin 128) : iT (StableHlo.Predicate.ixP l) = BitVec.ofNat 32 ((l : ℕ) % 16) :=
  (congrArg lit0 (rowMajor_128 l)).trans (lit0_at l)

theorem ofFin_ix1 {n : ℕ} (k : Fin n) : Shape.Idx.ofFin k = ix1 k := funext fun a => by
  obtain rfl : a = 0 := Subsingleton.elim _ _
  rfl

theorem take16 (x : FVec Ideal S16 .f32) (idx : IVec S128x1 32) (l : Fin 128) (k : Fin 16)
    (h : min (idx (StableHlo.Predicate.ixP l)).toInt.toNat (16 - 1) = k) :
    Host.gather gather_S16_S128x1_S128_n_0_n_n_0_1_1 x idx (ix1 l) = x (ix1 k) := by
  have := StableHlo.Predicate.gather_take gather_S16_S128x1_S128_n_0_n_n_0_1_1 rfl rfl rfl rfl x idx l (by decide)
  rw [ofFin_ix1, ofFin_ix1] at this
  exact this.trans (congrArg (fun q => x (ix1 q)) (Fin.ext h))

/-- The frequency table looked up lane by lane. -/
theorem take_freq (l : Fin 128) :
    (Host.gather gather_S16_S128x1_S128_n_0_n_n_0_1_1
        (Host.divf (F := Ideal) (broadcastInDim S16 ![] bcast_S_S16 (constant S_ FTy.f32 1065353216#32))
          (Host.powf (broadcastInDim S16 ![] bcast_S_S16 (constant S_ FTy.f32 1176256512#32))
            (Host.divf
              (addf (broadcastInDim S16 ![] bcast_S_S16 (constant S_ FTy.f32 0#32))
                (mulf (broadcastInDim S16 ![] bcast_S_S16 (constant S_ FTy.f32 1073741824#32))
                  (sitofp FTy.f32 (iotaInDim S16 32 0))))
              (broadcastInDim S16 ![] bcast_S_S16 (constant S_ FTy.f32 1107296256#32)))))
        (broadcastInDim S128x1 ![0] bcast_S128_S128x1_0
          (select (constantI S128 1 0#1)
            (addi (fun i => lit0 (S128.rowMajor i)) (broadcastInDim S128 ![] bcast_S_S128 (constantI S_ 32 16#32)))
            fun i => lit0 (S128.rowMajor i))) : FVec Ideal S128 .f32) (ix1 l) = (freq l : EReal) := by
  show Host.gather gather_S16_S128x1_S128_n_0_n_n_0_1_1 fT iT (ix1 l) = _
  rw [take16 fT iT l ⟨l % 16, by omega⟩ (by rw [iT_at]; exact take_word l), fT_at]
  simp only [freq, Nat.mod_mod]

theorem h0_v54 (X : Valuation τ sig (Elt Ideal)) (n d : Fin 128) :
    StableHlo.after hostOps0 X (Proc.devRef .tc main_v54) (ix2 (n0 := 128) (n1 := 128) n d) = (((n : ℕ) * freq d : ℝ) : EReal) := by
  unfold_abbrev_sides
  after_results
  pointwise
  refine (congrArg (fun z : EReal => (FloatOps.sitofp FTy.f32 (BitVec.ofNat 32 (n : ℕ)) : Ideal FTy.f32) * z) (take_freq d)).trans ?_
  rw [sitofp_nat _ (by omega), EReal.coe_mul]

theorem h0_v65 (X : Valuation τ sig (Elt Ideal)) (n : Fin 64) (d : Fin 128) :
    StableHlo.after hostOps0 X (Proc.devRef .tc main_v65) (ix2 (n0 := 64) (n1 := 128) n d) = (((n : ℕ) * freq d : ℝ) : EReal) := by
  unfold_abbrev_sides
  after_results
  pointwise
  refine (congrArg (fun z : EReal => (FloatOps.sitofp FTy.f32 (BitVec.ofNat 32 (n : ℕ)) : Ideal FTy.f32) * z) (take_freq d)).trans ?_
  rw [sitofp_nat _ (by omega), EReal.coe_mul]

theorem h0_v68 (X : Valuation τ sig (Elt Ideal)) (n l : Fin 128) :
    StableHlo.after hostOps0 X (Proc.devRef .tc main_v68) (ix3 (n0 := 128) (n1 := 1) (n2 := 128) n 0 l) = ((Real.cos ((n : ℕ) * freq l) : ℝ) : EReal) := by
  unfold_abbrev_sides
  after_results
  pointwise
  refine (congrArg (fun z : EReal => Ideal.cos ((FloatOps.sitofp FTy.f32 (BitVec.ofNat 32 (n : ℕ)) : Ideal FTy.f32) * z)) (take_freq l)).trans ?_
  rw [sitofp_nat _ (by omega), ← EReal.coe_mul, Ideal.cos_coe]

theorem h0_v70 (X : Valuation τ sig (Elt Ideal)) (n : Fin 64) (l : Fin 128) :
    StableHlo.after hostOps0 X (Proc.devRef .tc main_v70) (ix3 (n0 := 1) (n1 := 64) (n2 := 128) 0 n l) = ((Real.cos ((n : ℕ) * freq l) : ℝ) : EReal) := by
  unfold_abbrev_sides
  after_results
  pointwise
  refine (congrArg (fun z : EReal => Ideal.cos ((FloatOps.sitofp FTy.f32 (BitVec.ofNat 32 (n : ℕ)) : Ideal FTy.f32) * z)) (take_freq l)).trans ?_
  rw [sitofp_nat _ (by omega), ← EReal.coe_mul, Ideal.cos_coe]

theorem h0_v0 (X : Valuation τ sig (Elt Ideal)) (l : Fin 128) :
    StableHlo.after hostOps0 X (Proc.devRef .tc main_v0) (ix3 (n0 := 1) (n1 := 1) (n2 := 128) 0 0 l) = if (l : ℕ) % 64 < 32 then 1#1 else 0#1 := by
  unfold_abbrev_sides
  after_results
  pointwise
  exact (congrArg lit1 (rowMajor_128 l)).trans (lit1_at l)

theorem h0_v1 (X : Valuation τ sig (Elt Ideal)) (l : Fin 128) :
    StableHlo.after hostOps0 X (Proc.devRef .tc main_v1) (ix3 (n0 := 1) (n1 := 1) (n2 := 128) 0 0 l) = if (l : ℕ) % 64 < 32 then 1#1 else 0#1 := by
  unfold_abbrev_sides
  after_results
  pointwise
  exact (congrArg lit2 (rowMajor_128 l)).trans (lit2_at l)

theorem h0_v2 (X : Valuation τ sig (Elt Ideal)) (l : Fin 128) :
    StableHlo.after hostOps0 X (Proc.devRef .tc main_v2) (ix2 (n0 := 1) (n1 := 128) 0 l) = ((if (l : ℕ) % 32 < 16 then -1 else 1 : ℝ) : EReal) := by
  unfold_abbrev_sides
  after_results
  pointwise
  refine (congrArg (fun w => Ideal.ofBits .f32 (lit3 w)) (rowMajor_128 l)).trans ?_
  simp only [lit3_at]
  split_ifs
  · simp [Ideal.ofBits, Ideal.ieee, -EReal.coe_mul, -EReal.coe_neg]; try norm_num
  · exact c_one

theorem h0_v66 (X : Valuation τ sig (Elt Ideal)) (n : Fin 256) (l : Fin 128) :
    StableHlo.after hostOps0 X (Proc.devRef .tc main_v66) (ix2 (n0 := 256) (n1 := 128) n l) = ((1 : ℝ) : EReal) := by
  unfold_abbrev_sides
  after_results
  pointwise
  exact EReal.coe_one.symm

theorem h1_v71 (X : Valuation τ sig (Elt Ideal)) (n : Fin 128) (k : Fin 64) (l : Fin 128) :
    StableHlo.after hostOps0_1 X (Proc.devRef .tc main_v71) (ix3 (n0 := 128) (n1 := 64) (n2 := 128) n k l)
      = if X (Proc.devRef .tc main_v0) (ix3 (n0 := 1) (n1 := 1) (n2 := 128) 0 0 l) = 1#1 then X (Proc.devRef .tc main_v68) (ix3 (n0 := 128) (n1 := 1) (n2 := 128) n 0 l)
        else X (Proc.devRef .tc main_v70) (ix3 (n0 := 1) (n1 := 64) (n2 := 128) 0 k l) := by
  unfold_abbrev_sides
  after_results
  refine (show _ = select (broadcastInDim S128x64x128 ![0, 1, 2] bcast_S1x1x128_S128x64x128_0_1_2 (X (Proc.devRef .tc main_v0)))
    (broadcastInDim S128x64x128 ![0, 1, 2] bcast_S128x1x128_S128x64x128_0_1_2 (X (Proc.devRef .tc main_v68)))
    (broadcastInDim S128x64x128 ![0, 1, 2] bcast_S1x64x128_S128x64x128_0_1_2 (X (Proc.devRef .tc main_v70))) (ix3 n k l) from rfl).trans ?_
  pointwise
  rfl

theorem h3_v79 (X : Valuation τ sig (Elt Ideal)) (n : Fin 128) (k : Fin 64) (l : Fin 128) :
    StableHlo.after hostOps0_3 X (Proc.devRef .tc main_v79) (ix3 (n0 := 128) (n1 := 64) (n2 := 128) n k l)
      = if X (Proc.devRef .tc main_v1) (ix3 (n0 := 1) (n1 := 1) (n2 := 128) 0 0 l) = 1#1 then X (Proc.devRef .tc main_v76) (ix3 (n0 := 128) (n1 := 1) (n2 := 128) n 0 l)
        else X (Proc.devRef .tc main_v78) (ix3 (n0 := 1) (n1 := 64) (n2 := 128) 0 k l) := by
  unfold_abbrev_sides
  after_results
  refine (show _ = select (broadcastInDim S128x64x128 ![0, 1, 2] bcast_S1x1x128_S128x64x128_0_1_2 (X (Proc.devRef .tc main_v1)))
    (broadcastInDim S128x64x128 ![0, 1, 2] bcast_S128x1x128_S128x64x128_0_1_2 (X (Proc.devRef .tc main_v76)))
    (broadcastInDim S128x64x128 ![0, 1, 2] bcast_S1x64x128_S128x64x128_0_1_2 (X (Proc.devRef .tc main_v78))) (ix3 n k l) from rfl).trans ?_
  pointwise
  rfl

theorem h2_v73 (X : Valuation τ sig (Elt Ideal)) (t : Fin 8448) (l : Fin 128) :
    StableHlo.after hostOps0_2 X (Proc.devRef .tc main_v73) (ix2 (n0 := 8448) (n1 := 128) t l)
      = if h : (t : ℕ) < 256 then X (Proc.devRef .tc main_v66) (ix2 (n0 := 256) (n1 := 128) ⟨t, h⟩ l)
        else X (Proc.devRef .tc main_v71) (ix3 (n0 := 128) (n1 := 64) (n2 := 128) ⟨(t - 256) / 64, by omega⟩ ⟨(t - 256) % 64, by omega⟩ l) := by
  unfold_abbrev_sides
  after_results
  pointwise
  try rfl

theorem h2_v76 (X : Valuation τ sig (Elt Ideal)) (n l : Fin 128) :
    StableHlo.after hostOps0_2 X (Proc.devRef .tc main_v76) (ix3 (n0 := 128) (n1 := 1) (n2 := 128) n 0 l)
      = Ideal.sin (X (Proc.devRef .tc main_v54) (ix2 (n0 := 128) (n1 := 128) n l)) := by
  unfold_abbrev_sides
  after_results
  pointwise
  try rfl

theorem h2_v78 (X : Valuation τ sig (Elt Ideal)) (n : Fin 64) (l : Fin 128) :
    StableHlo.after hostOps0_2 X (Proc.devRef .tc main_v78) (ix3 (n0 := 1) (n1 := 64) (n2 := 128) 0 n l)
      = Ideal.sin (X (Proc.devRef .tc main_v65) (ix2 (n0 := 64) (n1 := 128) n l)) := by
  unfold_abbrev_sides
  after_results
  pointwise
  try rfl

theorem h2_v74 (X : Valuation τ sig (Elt Ideal)) (n : Fin 256) (l : Fin 128) :
    StableHlo.after hostOps0_2 X (Proc.devRef .tc main_v74) (ix2 (n0 := 256) (n1 := 128) n l) = ((0 : ℝ) : EReal) := by
  unfold_abbrev_sides
  after_results
  pointwise
  exact EReal.coe_zero.symm

theorem h4_v83 (X : Valuation τ sig (Elt Ideal)) (t : Fin 8448) (l : Fin 128) :
    StableHlo.after hostOps0_4 X (Proc.devRef .tc main_v83) (ix2 (n0 := 8448) (n1 := 128) t l)
      = if h : (t : ℕ) < 256 then X (Proc.devRef .tc main_v74) (ix2 (n0 := 256) (n1 := 128) ⟨t, h⟩ l)
        else @HMul.hMul EReal EReal EReal _ (X (Proc.devRef .tc main_v79) (ix3 (n0 := 128) (n1 := 64) (n2 := 128) ⟨(t - 256) / 64, by omega⟩ ⟨(t - 256) % 64, by omega⟩ l))
          (X (Proc.devRef .tc main_v2) (ix2 (n0 := 1) (n1 := 128) 0 l)) := by
  unfold_abbrev_sides
  after_results
  pointwise
  try rfl

theorem h4_v84 (X : Valuation τ sig (Elt Ideal)) (d : Fin 1024) :
    StableHlo.after hostOps0_4 X (Proc.devRef .tc main_v84) (ix2 (n0 := 1) (n1 := 1024) 0 d) = X (Proc.devRef .tc main_arg5) (ix1 (n0 := 1024) d) := by
  unfold_abbrev_sides
  after_results
  pointwise

end
end Cert.InProj
-- ==== Proof.K0.lean ====
module

public import proofs.«01_k».proof.Proof.Gen.KernelIdeal.Frame.Region0
public import proofs.«01_k».proof.Proof.TileSpec
public import Idealize.ShloMosaic.Lib.Pipeline.ValueKit

/-! # The first launch: the forward pass's normed rows and head columns -/

@[expose] public section

set_option maxRecDepth 16384

namespace Cert.InProj

open Idealize.ShloMosaic Idealize.ShloMosaic.TcCoe Cert.KernelIdeal Cert.KernelIdeal.Gen

noncomputable section

/-- Row `r` of the block of grid point `n`. -/
def row (n : Fin 11) (r : Fin 768) : Fin 8448 := ⟨768 * n + r, by omega⟩
/-- Row `p` of the tile at `o` of that block. -/
def tl (n : Fin 11) (o : ℕ) (ho : o ≤ 512) (p : Fin 256) : Fin 8448 := row n ⟨o + p, by omega⟩

/-- The test that picks the context's rows of the modulation: true on the first tile alone. -/
theorem word0 : ∀ n : Fin 11, Scalar.cmpi .slt (Scalar.addi (Scalar.muli (BitVec.ofNat 32 (n : ℕ)) 3#32) 0#32) 1#32
    = if (n : ℕ) = 0 then 1#1 else 0#1 := by decide +kernel
theorem word1 : ∀ n : Fin 11, Scalar.cmpi .slt (Scalar.addi (Scalar.muli (BitVec.ofNat 32 (n : ℕ)) 3#32) 1#32) 1#32
    = if False then 1#1 else 0#1 := by decide +kernel
theorem word2 : ∀ n : Fin 11, Scalar.cmpi .slt (Scalar.addi (Scalar.muli (BitVec.ofNat 32 (n : ℕ)) 3#32) 2#32) 1#32
    = if False then 1#1 else 0#1 := by decide +kernel
theorem tl0_ctx (n : Fin 11) (p : Fin 256) : (tl n 0 (by decide) p : ℕ) < 256 ↔ (n : ℕ) = 0 := by
  simp only [tl, row]; omega
theorem tl1_ctx (n : Fin 11) (p : Fin 256) : (tl n 256 (by decide) p : ℕ) < 256 ↔ False := by
  simp only [tl, row, iff_false]; omega
theorem tl2_ctx (n : Fin 11) (p : Fin 256) : (tl n 512 (by decide) p : ℕ) < 256 ↔ False := by
  simp only [tl, row, iff_false]; omega

namespace Tile

theorem pick_at {first : Prop} [Decidable first] {c : BitVec 1} (hc : c = if first then 1#1 else 0#1) (a b : FVec Ideal S1x1024 .f32)
    (A B : Fin 1024 → ℝ) (ha : ∀ d, a (ix2 0 d) = (A d : EReal)) (hb : ∀ d, b (ix2 0 d) = (B d : EReal)) (d : Fin 1024) :
    pick c a b (ix2 0 d) = ((if first then A d else B d : ℝ) : EReal) := by
  subst hc
  unfold pick
  by_cases h : first
  · rw [if_pos h, if_pos h, sel1, id1024_at, ha]
  · rw [if_neg h, if_neg h, sel0, id1024_at, hb]

theorem h_tile {I : Inp} {ρ : Fin 256 → Fin 8448} {first : Prop} [Decidable first] {c : BitVec 1} (hc : c = if first then 1#1 else 0#1)
    (hρ : ∀ p, (ρ p : ℕ) < 256 ↔ first) {x : FVec Ideal S256x1024 .f32} {s0 s1 c0 c1 g : FVec Ideal S1x1024 .f32}
    (hx : ∀ p d, x (ix2 p d) = (I.X (ρ p) d : EReal)) (hs0 : ∀ d, s0 (ix2 0 d) = (I.shc d : EReal))
    (hs1 : ∀ d, s1 (ix2 0 d) = (I.sh d : EReal)) (hc0 : ∀ d, c0 (ix2 0 d) = (I.scc d : EReal)) (hc1 : ∀ d, c1 (ix2 0 d) = (I.sc d : EReal))
    (hg : ∀ d, g (ix2 0 d) = (I.g d : EReal)) (p : Fin 256) (d : Fin 1024) :
    hT x (pick c s0 s1) (pick c c0 c1) (id1024 g) (ix2 p d) = (I.h (ρ p) d : EReal) := by
  rw [hT_at x _ _ _ (fun p => I.X (ρ p)) _ _ I.g hx (pick_at hc s0 s1 I.shc I.sh hs0 hs1) (pick_at hc c0 c1 I.scc I.sc hc0 hc1)
    (fun d => by rw [id1024_at, hg])]
  simp only [Inp.h, Inp.SH, Inp.SC, hρ p]
  rfl

end Tile

/-- The first launch's blocks at point `n`. -/
structure Blk0 (I : Inp) (n : Fin 11) (x0 : Vec Ideal S768x1024 .f32) (x1 : Vec Ideal S8x1024 .f32) (x2 : Vec Ideal S1x1024 .f32)
    (x5 : Vec Ideal S1024x512 .bf16) : Prop where
  x0 : ∀ r d, x0 (ix2 r d) = (I.X (row n r) d : EReal)
  m0 : ∀ d, x1 (ix2 0 d) = (I.shc d : EReal)
  m1 : ∀ d, x1 (ix2 1 d) = (I.scc d : EReal)
  m3 : ∀ d, x1 (ix2 3 d) = (I.sh d : EReal)
  m4 : ∀ d, x1 (ix2 4 d) = (I.sc d : EReal)
  x2 : ∀ d, x2 (ix2 0 d) = (I.g d : EReal)
  x5 : ∀ d j, x5 (ix2 d j) = (I.W d (cQ j) : EReal)

/-- An index of two coordinates, from their values. -/
theorem at2 {a b : ℕ} {α : Type} (X : (⟨2, ![a, b]⟩ : Shape).Idx → α) (i : (⟨2, ![a, b]⟩ : Shape).Idx) (p : Fin a) (q : Fin b)
    (h0 : (i 0 : ℕ) = p) (h1 : (i 1 : ℕ) = q) : X i = X (ix2 p q) := by
  rw [eq_ix2 i]
  exact congrArg X (congrArg₂ ix2 (Fin.ext h0) (Fin.ext h1))
theorem at3 {a b c : ℕ} {α : Type} (X : (⟨3, ![a, b, c]⟩ : Shape).Idx → α) (i : (⟨3, ![a, b, c]⟩ : Shape).Idx) (p : Fin a) (q : Fin b)
    (r : Fin c) (h0 : (i 0 : ℕ) = p) (h1 : (i 1 : ℕ) = q) (h2 : (i 2 : ℕ) = r) : X i = X (ix3 p q r) := by
  have e : i = ix3 p q r := by
    funext a
    match a with
    | 0 => exact Fin.ext h0
    | 1 => exact Fin.ext h1
    | 2 => exact Fin.ext h2
  rw [e]

/-- A tile's values at rows `o`, `o + 1`, … of a block, as values at the whole array's rows. -/
theorem of_tile {B : ℕ} {α : Type} {pay : (⟨2, ![256, B]⟩ : Shape).Idx → α} {R : Fin 8448 → Fin B → α} {n : Fin 11} {o : ℕ} {ho : o ≤ 512}
    (h : ∀ p d, pay (ix2 p d) = R (tl n o ho p) d) (r : Fin 768) (d : Fin B) (x : (⟨2, ![256, B]⟩ : Shape).Idx)
    (h0 : (r : ℕ) = o + (x 0 : ℕ)) (h1 : (d : ℕ) = (x 1 : ℕ)) : pay x = R (row n r) d := by
  obtain ⟨p, e, rfl⟩ : ∃ p e, x = ix2 p e := ⟨x 0, x 1, eq_ix2 x⟩
  rw [h]
  exact congrArg₂ R (Fin.ext (by simp only [tl, row]; rw [h0]; rfl)) (Fin.ext h1.symm)

theorem P_tile {I : Inp} {ρ : Fin 256 → Fin 8448} {h : FVec Ideal S256x1024 .bf16} {w : FVec Ideal S1024x512 .bf16}
    (hh : ∀ p d, h (ix2 p d) = (I.h (ρ p) d : EReal)) (hw : ∀ d j, w (ix2 d j) = (I.W d (cQ j) : EReal)) (p : Fin 256) (j : Fin 512) :
    Tile.pqT h w (ix2 p j) = (I.P (ρ p) (cQ j) : EReal) := by
  rw [Tile.pqT_at]
  simp only [hh, hw, Inp.P]
  norm_cast

section
variable {I : Inp} {i : grid0.Coords} {x0 : Vec Ideal S768x1024 .f32} {x1 : Vec Ideal S8x1024 .f32} {x2 : Vec Ideal S1x1024 .f32}
  {x3 : Vec Ideal S1024x1024 .bf16} {x4 : Vec Ideal S1024x1792 .bf16} {x5 : Vec Ideal S1024x512 .bf16} {x6 : Vec Ideal S8x128 .f32}
  {x7 x8 : Vec Ideal S768x128 .f32} (H : Blk0 I (i 0) x0 x1 x2 x5)
include H

/-- The launch's own names of the three tiles' rows `h`. -/
theorem h0_at (p : Fin 256) (d : Fin 1024) :
    k0_pay9 (k0_pay6 i (View.ld x1 r0_1) (View.ld x1 r0_2)) (k0_pay7 i (View.ld x1 r0_3) (View.ld x1 r0_4)) (k0_pay8 (View.ld x0 r0_0))
      (View.ld x2 r0_5) (ix2 p d) = (I.h (tl (i 0) 0 (by decide) p) d : EReal) := by
  refine Tile.h_tile (I := I) (word0 (i 0)) (tl0_ctx (i 0)) (x := View.ld x0 r0_0) (s0 := View.ld x1 r0_1) (s1 := View.ld x1 r0_2)
    (c0 := View.ld x1 r0_3) (c1 := View.ld x1 r0_4) (g := View.ld x2 r0_5) ?_ ?_ ?_ ?_ ?_ ?_ p d
  · intro p d; pointwise
    exact (congrArg (fun r => x0 (ix2 r d)) (Fin.ext (Nat.zero_add _).symm)).trans (H.x0 ⟨0 + p, by omega⟩ d)
  · intro d; pointwise; exact H.m0 _
  · intro d; pointwise; exact H.m3 _
  · intro d; pointwise; exact H.m1 _
  · intro d; pointwise; exact H.m4 _
  · intro d; pointwise; exact H.x2 _

theorem h1_at (p : Fin 256) (d : Fin 1024) :
    k0_pay34 (Scalar.cmpi .slt (Scalar.addi (Scalar.muli (BitVec.ofNat 32 ((i 0 : Fin 11) : ℕ)) 3#32) 1#32) 1#32) (View.ld x0 r0_20) (k0_pay33 (View.ld x0 r0_20)) (View.ld x1 r0_1)
      (View.ld x1 r0_2) (View.ld x1 r0_3) (View.ld x1 r0_4) (View.ld x2 r0_5) (ix2 p d) = (I.h (tl (i 0) 256 (by decide) p) d : EReal) := by
  refine Tile.h_tile (I := I) (word1 (i 0)) (tl1_ctx (i 0)) (x := View.ld x0 r0_20) (s0 := View.ld x1 r0_1) (s1 := View.ld x1 r0_2)
    (c0 := View.ld x1 r0_3) (c1 := View.ld x1 r0_4) (g := View.ld x2 r0_5) ?_ ?_ ?_ ?_ ?_ ?_ p d
  · intro p d; pointwise; exact H.x0 _ _
  · intro d; pointwise; exact H.m0 _
  · intro d; pointwise; exact H.m3 _
  · intro d; pointwise; exact H.m1 _
  · intro d; pointwise; exact H.m4 _
  · intro d; pointwise; exact H.x2 _

theorem h2_at (p : Fin 256) (d : Fin 1024) :
    k0_pay59 (Scalar.addi (Scalar.muli (BitVec.ofNat 32 ((i 0 : Fin 11) : ℕ)) 3#32) 2#32) 1#32 (View.ld x0 r0_30) (View.ld x1 r0_1)
      (View.ld x1 r0_2) (View.ld x1 r0_3) (View.ld x1 r0_4) (View.ld x2 r0_5) (ix2 p d) = (I.h (tl (i 0) 512 (by decide) p) d : EReal) := by
  refine Tile.h_tile (I := I) (word2 (i 0)) (tl2_ctx (i 0)) (x := View.ld x0 r0_30) (s0 := View.ld x1 r0_1) (s1 := View.ld x1 r0_2)
    (c0 := View.ld x1 r0_3) (c1 := View.ld x1 r0_4) (g := View.ld x2 r0_5) ?_ ?_ ?_ ?_ ?_ ?_ p d
  · intro p d; pointwise; exact H.x0 _ _
  · intro d; pointwise; exact H.m0 _
  · intro d; pointwise; exact H.m3 _
  · intro d; pointwise; exact H.m1 _
  · intro d; pointwise; exact H.m4 _
  · intro d; pointwise; exact H.x2 _

theorem out0_9_at (r : Fin 768) (d : Fin 1024) : out0_9 i x0 x1 x2 x3 x4 x5 x6 x7 x8 (ix2 r d) = (I.h (row (i 0) r) d : EReal) := by
  unfold_out out0_9
  canon_tiles x h
  · exact of_tile (R := fun t d => (I.h t d : EReal)) (h2_at H) r d x h0 h1
  · exact of_tile (R := fun t d => (I.h t d : EReal)) (h1_at H) r d x h0 h1
  · exact of_tile (R := fun t d => (I.h t d : EReal)) (h0_at H) r d x (h0.trans (Nat.zero_add _).symm) h1

theorem w5_at (d : Fin 1024) (j : Fin 512) : View.ld x5 r0_9 (ix2 d j) = (I.W d (cQ j) : EReal) := by
  pointwise; exact H.x5 _ _

theorem out0_12_at (r : Fin 768) (j : Fin 512) : out0_12 i x0 x1 x2 x3 x4 x5 x6 x7 x8 (ix2 r j) = (I.P (row (i 0) r) (cQ j) : EReal) := by
  unfold_out out0_12
  canon_tiles x h
  · exact of_tile (R := fun t j => (I.P t (cQ j) : EReal)) (P_tile (h2_at H) (w5_at H)) r j x h0 h1
  · exact of_tile (R := fun t j => (I.P t (cQ j) : EReal)) (P_tile (h1_at H) (w5_at H)) r j x h0 h1
  · exact of_tile (R := fun t j => (I.P t (cQ j) : EReal)) (P_tile (h0_at H) (w5_at H)) r j x (h0.trans (Nat.zero_add _).symm) h1

end

/-! ## The whole arrays -/

theorem coords0 (t : Fin cfg0.N) : ((grid0.coords t 0 : Fin 11) : ℕ) = t.val := (by decide +kernel : ∀ t : Fin grid0.N, ((grid0.coords t 0 : Fin 11) : ℕ) = t.val) t
theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_5 : ∀ t : Fin cfg0.N, win0_5.index t = ![0, 0] := (by decide +kernel : ∀ t : Fin grid0.N, _)
theorem idx0_9 : ∀ t : Fin cfg0.N, win0_9.index t = ![t.val, 0] := (by decide +kernel : ∀ t : Fin grid0.N, _)
theorem idx0_12 : ∀ t : Fin cfg0.N, win0_12.index t = ![t.val, 0] := (by decide +kernel : ∀ t : Fin grid0.N, _)

variable {I : Inp} (V : (c : Dev nD) → (b : Ref sig .tc) → Buf (Elt Ideal) ((c : Thread nD τ).loc b)) (c : Dev nD)

/-- What the launch finds in its arrays. -/
structure Arr0 (I : Inp) : Prop where
  x0 : ∀ t d, V c (Pipeline.arrRef spec0 0) (ix2 (n0 := 8448) (n1 := 1024) t d) = (I.X t d : EReal)
  m0 : ∀ d, V c (Pipeline.arrRef spec0 1) (ix2 (n0 := 8) (n1 := 1024) 0 d) = (I.shc d : EReal)
  m1 : ∀ d, V c (Pipeline.arrRef spec0 1) (ix2 (n0 := 8) (n1 := 1024) 1 d) = (I.scc d : EReal)
  m3 : ∀ d, V c (Pipeline.arrRef spec0 1) (ix2 (n0 := 8) (n1 := 1024) 3 d) = (I.sh d : EReal)
  m4 : ∀ d, V c (Pipeline.arrRef spec0 1) (ix2 (n0 := 8) (n1 := 1024) 4 d) = (I.sc d : EReal)
  x2 : ∀ d, V c (Pipeline.arrRef spec0 2) (ix2 (n0 := 1) (n1 := 1024) 0 d) = (I.g d : EReal)
  x5 : ∀ d j, V c (Pipeline.arrRef spec0 5) (ix2 (n0 := 1024) (n1 := 512) d j) = (I.W d (cQ j) : EReal)

variable {V c}

theorem row0 (t : Fin cfg0.N) (r : Fin 768) : (row (grid0.coords t 0) r : ℕ) = t.val * 768 + r := by
  simp only [row, coords0]; omega

theorem Arr0.blk (A : Arr0 V c I) (t : Fin cfg0.N) :
    Blk0 I (grid0.coords t 0) (iblk0 V c 0 t) (iblk0 V c 1 t) (iblk0 V c 2 t) (iblk0 V c 5 t) where
  x0 r d := by
    blk_simp [iblk0, idx0_0]
    exact (at2 (V c (Pipeline.arrRef spec0 0)) _ (row (grid0.coords t 0) r) d (by blk_simp [idx0_0]; rw [row0]) (by blk_simp [idx0_0])).trans (A.x0 _ _)
  m0 d := by
    blk_simp [iblk0, idx0_1]
    exact (at2 (V c (Pipeline.arrRef spec0 1)) _ 0 d (by blk_simp [idx0_1]) (by blk_simp [idx0_1])).trans (A.m0 _)
  m1 d := by
    blk_simp [iblk0, idx0_1]
    exact (at2 (V c (Pipeline.arrRef spec0 1)) _ 1 d (by blk_simp [idx0_1]) (by blk_simp [idx0_1])).trans (A.m1 _)
  m3 d := by
    blk_simp [iblk0, idx0_1]
    exact (at2 (V c (Pipeline.arrRef spec0 1)) _ 3 d (by blk_simp [idx0_1]) (by blk_simp [idx0_1])).trans (A.m3 _)
  m4 d := by
    blk_simp [iblk0, idx0_1]
    exact (at2 (V c (Pipeline.arrRef spec0 1)) _ 4 d (by blk_simp [idx0_1]) (by blk_simp [idx0_1])).trans (A.m4 _)
  x2 d := by
    blk_simp [iblk0, idx0_2]
    exact (at2 (V c (Pipeline.arrRef spec0 2)) _ 0 d (by blk_simp [idx0_2]) (by blk_simp [idx0_2])).trans (A.x2 _)
  x5 d j := by
    blk_simp [iblk0, idx0_5]
    exact (at2 (V c (Pipeline.arrRef spec0 5)) _ d j (by blk_simp [idx0_5]) (by blk_simp [idx0_5])).trans (A.x5 _ _)

theorem arr9 (A : Arr0 V c I) (t : Fin 8448) (d : Fin 1024) :
    (dat0 V c).arrAt 9 cfg0.N (ix2 (n0 := 8448) (n1 := 1024) t d) = (I.h t d : EReal) := by
  have := (dat0 V c).arrAt_eq_of_covers 9 (fun y : S8448x1024.Idx => (I.h (y 0) (y 1) : EReal)) (by decide +kernel) fun t hf y => by
    obtain ⟨r, e, rfl⟩ : ∃ (r : Fin 768) (e : Fin 1024), y = ix2 r e := ⟨y 0, y 1, eq_ix2 (n0 := 768) (n1 := 1024) y⟩
    rw [after0_9]
    blk_simp [idx0_9]
    refine (out0_9_at (A.blk t) r e).trans ?_
    exact (at2 (fun y : S8448x1024.Idx => (I.h (y 0) (y 1) : EReal)) _ (row (grid0.coords t 0) r) e (by blk_simp [idx0_9]; rw [row0])
      (by blk_simp [idx0_9])).symm
  rw [this]; rfl

theorem arr12 (A : Arr0 V c I) (t : Fin 8448) (j : Fin 512) :
    (dat0 V c).arrAt 12 cfg0.N (ix2 (n0 := 8448) (n1 := 512) t j) = (I.P t (cQ j) : EReal) := by
  have := (dat0 V c).arrAt_eq_of_covers 12 (fun y : S8448x512.Idx => (I.P (y 0) (cQ (y 1)) : EReal)) (by decide +kernel) fun t hf y => by
    obtain ⟨r, e, rfl⟩ : ∃ (r : Fin 768) (e : Fin 512), y = ix2 r e := ⟨y 0, y 1, eq_ix2 (n0 := 768) (n1 := 512) y⟩
    rw [after0_12]
    blk_simp [idx0_12]
    refine (out0_12_at (A.blk t) r e).trans ?_
    exact (at2 (fun y : S8448x512.Idx => (I.P (y 0) (cQ (y 1)) : EReal)) _ (row (grid0.coords t 0) r) e (by blk_simp [idx0_12]; rw [row0])
      (by blk_simp [idx0_12])).symm
  rw [this]; rfl

end

end Cert.InProj
-- ==== Proof.K1.lean ====
module

public import proofs.«01_k».proof.Proof.K0

/-! # The second launch's tiles: the block of a grid point, and its three tiles of rows -/

@[expose] public section

set_option maxRecDepth 16384

namespace Cert.InProj

open Idealize.ShloMosaic Idealize.ShloMosaic.TcCoe Cert.KernelIdeal Cert.KernelIdeal.Gen Tile

noncomputable section

/-- The second launch's blocks at point `n`. -/
structure Blk1 (I : Inp) (n : Fin 11) (x0 : Vec Ideal S768x1024 .bf16) (x1 : Vec Ideal S768x1792 .bf16) (x2 : Vec Ideal S4x768x128 .f32)
    (x3 x4 : Vec Ideal S2x768x128 .f32) (x5 : Vec Ideal S768x512 .f32) (x6 : Vec Ideal S8x128 .f32) (x7 x8 : Vec Ideal S768x128 .f32)
    (x9 : Vec Ideal S1024x1024 .bf16) (x10 : Vec Ideal S1024x1792 .bf16) (x11 : Vec Ideal S1024x512 .bf16)
    (x12 x13 : Vec Ideal S768x1024 .f32) (x14 : Vec Ideal S8x1024 .f32) (x15 : Vec Ideal S1x1024 .f32) : Prop where
  dpc : ∀ r j, x0 (ix2 r j) = (I.dP (row n r) (cC j) : EReal)
  dpr : ∀ r j, x1 (ix2 r j) = (I.dP (row n r) (cR j) : EReal)
  dq : ∀ (a : Fin 4) r l, x2 (ix3 a r l) = ((if hi l = 0 then I.cq (row n r) ⟨64 * a + lw l, by omega⟩ else 0 : ℝ) : EReal)
  dk : ∀ (a : Fin 2) r l, x3 (ix3 a r l) = ((if hi l = 0 then I.ck (row n r) ⟨64 * a + lw l, by omega⟩ else 0 : ℝ) : EReal)
  dv : ∀ (a : Fin 2) r l, x4 (ix3 a r l) = ((if hi l = 0 then I.cv (row n r) ⟨64 * a + lw l, by omega⟩ else 0 : ℝ) : EReal)
  pq : ∀ r j, x5 (ix2 r j) = (I.P (row n r) (cQ j) : EReal)
  gq : ∀ l, x6 (ix2 0 l) = (I.qg (lw l) : EReal)
  gk : ∀ l, x6 (ix2 1 l) = (I.kg (lw l) : EReal)
  cos : ∀ r l, x7 (ix2 r l) = (CS (row n r) (lw l) : EReal)
  sin : ∀ r l, x8 (ix2 r l) = (((if (lw l : ℕ) % 32 < 16 then -1 else 1) * SN (row n r) (lw l) : ℝ) : EReal)
  wc : ∀ d j, x9 (ix2 d j) = (I.W d (cC j) : EReal)
  wr : ∀ d j, x10 (ix2 d j) = (I.W d (cR j) : EReal)
  wq : ∀ d j, x11 (ix2 d j) = (I.W d (cQ j) : EReal)
  x : ∀ r d, x12 (ix2 r d) = (I.X (row n r) d : EReal)
  cx : ∀ r d, x13 (ix2 r d) = (I.cx (row n r) d : EReal)
  m1 : ∀ d, x14 (ix2 1 d) = (I.scc d : EReal)
  m4 : ∀ d, x14 (ix2 4 d) = (I.sc d : EReal)
  g : ∀ d, x15 (ix2 0 d) = (I.g d : EReal)

theorem pq_at (I : Inp) (t : Fin 8448) (b : ℕ) (hb : b < 3) (l : Fin 128) (j : Fin 512) (h : (j : ℕ) = 128 * b + l) :
    I.P t (cQ j) = I.pq t (hd b hb l) (lw l) := by
  rw [Inp.pq]
  exact congrArg (I.P t) (Fin.ext (by simp only [cQ, hd, hi, lw]; omega))

theorem Tile.addCtx_at {first : Prop} [Decidable first] {c : BitVec 1} (hc : c = if first then 1#1 else 0#1) (old s : FVec Ideal S1x1024 .f32)
    (d : Fin 1024) : addCtx c old s (ix2 0 d) = old (ix2 0 d) + (if first then s (ix2 0 d) else 0) := by
  subst hc
  pointwise [addCtx]
  rw [id1024_at]
  by_cases h : first
  · rw [if_pos h, if_pos h, sel1]
  · rw [if_neg h, if_neg h, sel0]; pointwise [zero1024]

theorem Tile.addLat_at {first : Prop} [Decidable first] {c : BitVec 1} (hc : c = if first then 1#1 else 0#1) (old s : FVec Ideal S1x1024 .f32)
    (d : Fin 1024) : addLat c old s (ix2 0 d) = old (ix2 0 d) + (if first then 0 else s (ix2 0 d)) := by
  subst hc
  pointwise [addLat]
  rw [id1024_at]
  by_cases h : first
  · rw [if_pos h, if_pos h, sel1]; pointwise [zero1024]
  · rw [if_neg h, if_neg h, sel0]

section
variable {I : Inp} {n : Fin 11} {x0 : Vec Ideal S768x1024 .bf16} {x1 : Vec Ideal S768x1792 .bf16} {x2 : Vec Ideal S4x768x128 .f32}
    {x3 x4 : Vec Ideal S2x768x128 .f32} {x5 : Vec Ideal S768x512 .f32} {x6 : Vec Ideal S8x128 .f32} {x7 x8 : Vec Ideal S768x128 .f32}
    {x9 : Vec Ideal S1024x1024 .bf16} {x10 : Vec Ideal S1024x1792 .bf16} {x11 : Vec Ideal S1024x512 .bf16}
    {x12 x13 : Vec Ideal S768x1024 .f32} {x14 : Vec Ideal S8x1024 .f32} {x15 : Vec Ideal S1x1024 .f32}
    (B : Blk1 I n x0 x1 x2 x3 x4 x5 x6 x7 x8 x9 x10 x11 x12 x13 x14 x15) (o : ℕ) (ho : o ≤ 512)
include B

theorem Blk1.heads {a0 a1 a2 a3 a4 a5 a6 a7 a8 a9 a10 a11 a12 a13 a14} :
    Heads I (tl n o ho) (View.ld x5 (Rect.unit ![o, 0] ![256, 128] a0)) (View.ld x5 (Rect.unit ![o, 128] ![256, 128] a1))
      (View.ld x5 (Rect.unit ![o, 256] ![256, 128] a2)) (View.ld x7 (Rect.unit ![o, 0] ![256, 128] a3))
      (View.ld x8 (Rect.unit ![o, 0] ![256, 128] a4))
      (View.ld x2 (Rect.unit ![0, o, 0] ![1, 256, 128] a5)) (View.ld x2 (Rect.unit ![1, o, 0] ![1, 256, 128] a6))
      (View.ld x2 (Rect.unit ![2, o, 0] ![1, 256, 128] a7)) (View.ld x2 (Rect.unit ![3, o, 0] ![1, 256, 128] a8))
      (View.ld x3 (Rect.unit ![0, o, 0] ![1, 256, 128] a9)) (View.ld x3 (Rect.unit ![1, o, 0] ![1, 256, 128] a10))
      (View.ld x4 (Rect.unit ![0, o, 0] ![1, 256, 128] a11)) (View.ld x4 (Rect.unit ![1, o, 0] ![1, 256, 128] a12))
      (View.ld x6 (Rect.unit ![0, 0] ![1, 128] a13)) (View.ld x6 (Rect.unit ![1, 0] ![1, 128] a14)) where
  x0 p l := by pointwise; exact (B.pq _ _).trans (congrArg _ (pq_at I _ 0 (by decide) l _ (by simp only; omega)))
  x1 p l := by pointwise; exact (B.pq _ _).trans (congrArg _ (pq_at I _ 1 (by decide) l _ (by simp only)))
  x2 p l := by pointwise; exact (B.pq _ _).trans (congrArg _ (pq_at I _ 2 (by decide) l _ (by simp only)))
  cos p l := by pointwise; exact B.cos _ _
  sin p l := by pointwise; exact B.sin _ _
  q0 p l := by pointwise; refine (B.dq 0 _ _).trans ?_; simp only [Fin.val_zero, Nat.mul_zero, Nat.zero_add]; rfl
  q1 p l := by pointwise; exact B.dq 1 _ _
  q2 p l := by pointwise; exact B.dq 2 _ _
  q3 p l := by pointwise; exact B.dq 3 _ _
  k0 p l := by pointwise; refine (B.dk 0 _ _).trans ?_; simp only [Fin.val_zero, Nat.mul_zero, Nat.zero_add]; rfl
  k1 p l := by pointwise; exact B.dk 1 _ _
  v0 p l := by pointwise; refine (B.dv 0 _ _).trans ?_; simp only [Fin.val_zero, Nat.mul_zero, Nat.zero_add]; rfl
  v1 p l := by pointwise; exact B.dv 1 _ _
  gq l := by pointwise; exact B.gq _
  gk l := by pointwise; exact B.gk _

theorem Blk1.rows {a0 a2} {dpq : FVec Ideal S256x512 .bf16} (h : ∀ p j, dpq (ix2 p j) = (I.dP (tl n o ho p) (cQ j) : EReal)) :
    Rows I (tl n o ho) dpq (View.ld x0 (Rect.unit ![o, 0] ![256, 1024] a0)) x9 (View.ld x1 (Rect.unit ![o, 0] ![256, 1792] a2)) x10 x11 where
  dpq := h
  dpc p j := by pointwise; exact B.dpc _ _
  dpr p j := by pointwise; exact B.dpr _ _
  wc := B.wc
  wr := B.wr
  wq := B.wq

theorem Blk1.xrows {a0} (p : Fin 256) (d : Fin 1024) : View.ld x12 (Rect.unit ![o, 0] ![256, 1024] a0) (ix2 p d) = (I.X (tl n o ho p) d : EReal) := by
  pointwise; exact B.x _ _

theorem Blk1.sc_at {first : Prop} [Decidable first] {c : BitVec 1} (hc : c = if first then 1#1 else 0#1) {a0 a1} (d : Fin 1024) :
    pick c (View.ld x14 (Rect.unit ![1, 0] ![1, 1024] a0)) (View.ld x14 (Rect.unit ![4, 0] ![1, 1024] a1)) (ix2 0 d)
      = ((if first then I.scc d else I.sc d : ℝ) : EReal) :=
  pick_at hc _ _ I.scc I.sc (fun d => by pointwise; exact B.m1 _) (fun d => by pointwise; exact B.m4 _) d

theorem Blk1.g_at (d : Fin 1024) : id1024 x15 (ix2 0 d) = (I.g d : EReal) := by rw [id1024_at, B.g]

section
variable {first : Prop} [Decidable first] {c : BitVec 1} (hc : c = if first then 1#1 else 0#1) (hρ : ∀ p, (tl n o ho p : ℕ) < 256 ↔ first)
  {dh : FVec Ideal S256x1024 .f32} (hdh : ∀ p d, dh (ix2 p d) = (I.dh (tl n o ho p) d : EReal))
include hdh

theorem Blk1.dx (hc : c = if first then 1#1 else 0#1) (hρ : ∀ p, (tl n o ho p : ℕ) < 256 ↔ first) {a0 a1 a2 a3} (p : Fin 256) (d : Fin 1024) :
    dxT (View.ld x12 (Rect.unit ![o, 0] ![256, 1024] a0)) (View.ld x13 (Rect.unit ![o, 0] ![256, 1024] a1))
      (dxnT dh (pick c (View.ld x14 (Rect.unit ![1, 0] ![1, 1024] a2)) (View.ld x14 (Rect.unit ![4, 0] ![1, 1024] a3))) (id1024 x15)) (ix2 p d)
      = (I.gX (tl n o ho p) d : EReal) := by
  rw [dxT_at _ _ _ (fun p => I.X (tl n o ho p)) (fun p => I.cx (tl n o ho p)) (fun p => I.dxn (tl n o ho p)) (B.xrows o ho)
    (fun p d => by pointwise; exact B.cx _ _) (fun p d => by
      rw [dxnT_at dh _ _ (fun p => I.dh (tl n o ho p)) _ I.g hdh (B.sc_at hc) B.g_at]
      simp only [Inp.dxn, Inp.SC, hρ p])]
  rfl

/-- The rows accumulated over the tiles. -/
theorem Blk1.acc0 (hc : c = if first then 1#1 else 0#1) (hρ : ∀ p, (tl n o ho p : ℕ) < 256 ↔ first) (old : FVec Ideal S1x1024 .f32) (d : Fin 1024) :
    addCtx c old (colSum dh) (ix2 0 d)
      = old (ix2 0 d) + ((∑ p, (if (tl n o ho p : ℕ) < 256 then I.dh (tl n o ho p) d else 0) : ℝ) : EReal) := by
  have e : colSum dh (ix2 0 d) = ((∑ p, I.dh (tl n o ho p) d : ℝ) : EReal) := by rw [colSum_at, coe_sum]; simp only [hdh]
  rw [addCtx_at hc, e]
  simp only [hρ]
  by_cases h : first <;> simp [h]

theorem Blk1.acc2 (hc : c = if first then 1#1 else 0#1) (hρ : ∀ p, (tl n o ho p : ℕ) < 256 ↔ first) (old : FVec Ideal S1x1024 .f32) (d : Fin 1024) :
    addLat c old (colSum dh) (ix2 0 d)
      = old (ix2 0 d) + ((∑ p, (if (tl n o ho p : ℕ) < 256 then 0 else I.dh (tl n o ho p) d) : ℝ) : EReal) := by
  have e : colSum dh (ix2 0 d) = ((∑ p, I.dh (tl n o ho p) d : ℝ) : EReal) := by rw [colSum_at, coe_sum]; simp only [hdh]
  rw [addLat_at hc, e]
  simp only [hρ]
  by_cases h : first <;> simp [h]

theorem Blk1.dsc_at {a0} (d : Fin 1024) : dscS dh (View.ld x12 (Rect.unit ![o, 0] ![256, 1024] a0)) (id1024 x15) (ix2 0 d)
    = ((∑ p, I.dh (tl n o ho p) d * (I.xn (tl n o ho p) d * I.g d) : ℝ) : EReal) := by
  rw [dscS_at dh _ _ (fun p => I.X (tl n o ho p)) (fun p => I.dh (tl n o ho p)) I.g (B.xrows o ho) hdh B.g_at]
  rfl

theorem Blk1.acc1 (hc : c = if first then 1#1 else 0#1) (hρ : ∀ p, (tl n o ho p : ℕ) < 256 ↔ first) {a0} (old : FVec Ideal S1x1024 .f32) (d : Fin 1024) :
    addCtx c old (dscS dh (View.ld x12 (Rect.unit ![o, 0] ![256, 1024] a0)) (id1024 x15)) (ix2 0 d)
      = old (ix2 0 d) + ((∑ p, (if (tl n o ho p : ℕ) < 256 then I.dh (tl n o ho p) d * (I.xn (tl n o ho p) d * I.g d) else 0) : ℝ) : EReal) := by
  rw [addCtx_at hc, B.dsc_at o ho hdh]
  simp only [hρ]
  by_cases h : first <;> simp [h]

theorem Blk1.acc3 (hc : c = if first then 1#1 else 0#1) (hρ : ∀ p, (tl n o ho p : ℕ) < 256 ↔ first) {a0} (old : FVec Ideal S1x1024 .f32) (d : Fin 1024) :
    addLat c old (dscS dh (View.ld x12 (Rect.unit ![o, 0] ![256, 1024] a0)) (id1024 x15)) (ix2 0 d)
      = old (ix2 0 d) + ((∑ p, (if (tl n o ho p : ℕ) < 256 then 0 else I.dh (tl n o ho p) d * (I.xn (tl n o ho p) d * I.g d)) : ℝ) : EReal) := by
  rw [addLat_at hc, B.dsc_at o ho hdh]
  simp only [hρ]
  by_cases h : first <;> simp [h]

theorem Blk1.acc4 (hc : c = if first then 1#1 else 0#1) (hρ : ∀ p, (tl n o ho p : ℕ) < 256 ↔ first) {a0 a2 a3} (old : FVec Ideal S1x1024 .f32) (d : Fin 1024) :
    addG old dh (pick c (View.ld x14 (Rect.unit ![1, 0] ![1, 1024] a2)) (View.ld x14 (Rect.unit ![4, 0] ![1, 1024] a3)))
        (View.ld x12 (Rect.unit ![o, 0] ![256, 1024] a0)) (ix2 0 d)
      = old (ix2 0 d) + ((∑ p, I.dh (tl n o ho p) d * (1 + I.SC (tl n o ho p) d) * I.xn (tl n o ho p) d : ℝ) : EReal) := by
  rw [addG_at old dh _ _ (fun p => I.X (tl n o ho p)) (fun p => I.dh (tl n o ho p)) _ (B.xrows o ho) hdh (B.sc_at hc)]
  simp only [Inp.SC, hρ]
  rfl

end

end

end

end Cert.InProj
-- ==== Proof.K1Out.lean ====
module

public import proofs.«01_k».proof.Proof.Gen.KernelIdeal.Frame.Region1
public import proofs.«01_k».proof.Proof.K1
public import Idealize.ShloMosaic.Lib.Pipeline.ValueKit
public import Idealize.ShloMosaic.Lib.Pipeline.ReadBack
public import Idealize.ShloMosaic.Lib.WritesUnit

/-! # The second launch's outputs at a grid point -/

@[expose] public section

set_option maxRecDepth 16384

namespace Cert.InProj

open Idealize.ShloMosaic Idealize.ShloMosaic.TcCoe Cert.KernelIdeal Cert.KernelIdeal.Gen Tile

noncomputable section

/-! ## Reading a list of stores of whole rows -/

section
variable {sg : RefSig} {κ : Kind} {sp : Space} {N W : ℕ} {Val : EltTy → Type} {e : EltTy} (v : View sg κ sp (⟨2, ![N, W]⟩ : Shape) e)

theorem wr_hit (f : v.ty.Contents Val) {k : ℕ} (inb : ∀ a, (![k, 0] : Fin 2 → ℕ) a + (![1, W] : Fin 2 → ℕ) a ≤ (⟨2, ![N, W]⟩ : Shape).size a)
    (w : (Rect.unit (s := ⟨2, ![N, W]⟩) ![k, 0] ![1, W] inb).shape.Idx → Val e) (L : List (View.Piece Val (⟨2, ![N, W]⟩ : Shape) e)) (i : Fin N) (l : Fin W) (h : (i : ℕ) = k) :
    v.read Val (v.writes Val f (⟨Rect.unit ![k, 0] ![1, W] inb, w⟩ :: L)) (ix2 i l) = w (ix2 (0 : Fin 1) l) :=
  View.read_writes_cons_rows_of_mem v f inb w L (ix2 i l) (ix2 (0 : Fin 1) l) rfl h rfl

theorem wr_miss (f : v.ty.Contents Val) {k : ℕ} (inb : ∀ a, (![k, 0] : Fin 2 → ℕ) a + (![1, W] : Fin 2 → ℕ) a ≤ (⟨2, ![N, W]⟩ : Shape).size a)
    (w : (Rect.unit (s := ⟨2, ![N, W]⟩) ![k, 0] ![1, W] inb).shape.Idx → Val e) (L : List (View.Piece Val (⟨2, ![N, W]⟩ : Shape) e)) (i : Fin N) (l : Fin W) (h : (i : ℕ) ≠ k) :
    v.read Val (v.writes Val f (⟨Rect.unit ![k, 0] ![1, W] inb, w⟩ :: L)) (ix2 i l) = v.read Val (v.writes Val f L) (ix2 i l) :=
  View.read_writes_cons_rows_of_not_mem v f inb w L (ix2 i l) rfl rfl (by change (i : ℕ) < k ∨ k + 1 ≤ (i : ℕ); omega)

theorem cn_hit [∀ e, Nonempty (Val e)] {k : ℕ} (inb : ∀ a, (![k, 0] : Fin 2 → ℕ) a + (![1, W] : Fin 2 → ℕ) a ≤ (⟨2, ![N, W]⟩ : Shape).size a)
    (w : (Rect.unit (s := ⟨2, ![N, W]⟩) ![k, 0] ![1, W] inb).shape.Idx → Val e) (L : List (View.Piece Val (⟨2, ![N, W]⟩ : Shape) e)) (i : Fin N) (l : Fin W) (h : (i : ℕ) = k) :
    View.canon (⟨Rect.unit ![k, 0] ![1, W] inb, w⟩ :: L) (ix2 i l) = w (ix2 (0 : Fin 1) l) := by
  have e : (Rect.unit (s := ⟨2, ![N, W]⟩) ![k, 0] ![1, W] inb).emb (ix2 (0 : Fin 1) l) = ix2 i l :=
    Rect.emb_eq_of_coords _ _ _ (Fin.forall_fin_two.mpr ⟨by change (i : ℕ) = k + 1 * 0; omega, by change (l : ℕ) = 0 + 1 * (l : ℕ); omega⟩)
  rw [← e]
  exact View.canon_cons_emb _ w L (ix2 (0 : Fin 1) l)

theorem cn_miss [∀ e, Nonempty (Val e)] {k : ℕ} (inb : ∀ a, (![k, 0] : Fin 2 → ℕ) a + (![1, W] : Fin 2 → ℕ) a ≤ (⟨2, ![N, W]⟩ : Shape).size a)
    (w : (Rect.unit (s := ⟨2, ![N, W]⟩) ![k, 0] ![1, W] inb).shape.Idx → Val e) (L : List (View.Piece Val (⟨2, ![N, W]⟩ : Shape) e)) (i : Fin N) (l : Fin W) (h : (i : ℕ) ≠ k) :
    View.canon (⟨Rect.unit ![k, 0] ![1, W] inb, w⟩ :: L) (ix2 i l) = View.canon L (ix2 i l) :=
  View.canon_cons_of_not_mem _ L (Rect.not_mem_set_of_axis _ (ix2 i l) (0 : Fin 2) k 1 rfl rfl rfl (by
    change (i : ℕ) < k ∨ k + 1 ≤ (i : ℕ); omega))

end

theorem ld_row {N W : ℕ} {Val : EltTy → Type} {e : EltTy} (X : (⟨2, ![N, W]⟩ : Shape).Idx → Val e) {k : ℕ}
    (inb : ∀ a, (![k, 0] : Fin 2 → ℕ) a + (![1, W] : Fin 2 → ℕ) a ≤ (⟨2, ![N, W]⟩ : Shape).size a) (i : Fin N) (l : Fin W) (h : (i : ℕ) = k) :
    View.ld X (Rect.unit (s := ⟨2, ![N, W]⟩) ![k, 0] ![1, W] inb) (ix2 (0 : Fin 1) l) = X (ix2 i l) := by
  have e : (Rect.unit (s := ⟨2, ![N, W]⟩) ![k, 0] ![1, W] inb).emb (ix2 (0 : Fin 1) l) = ix2 i l :=
    Rect.emb_eq_of_coords _ _ _ (Fin.forall_fin_two.mpr ⟨by change (i : ℕ) = k + 1 * 0; omega, by change (l : ℕ) = 0 + 1 * (l : ℕ); omega⟩)
  rw [← e]
  rfl

theorem ld_zero {S : Shape} (Z : Vec Ideal S .f32) (r : Rect S) (x : r.shape.Idx) (h : ∀ j, Z j = (0 : EReal)) : View.ld Z r x = (0 : EReal) :=
  h _
theorem zero18 (j : S8x1024.Idx) : (k1_pay2 : FVec Ideal S8x1024 .f32) j = (0 : EReal) := c_zero
theorem zero19 (j : S8x128.Idx) : (k1_pay3 : FVec Ideal S8x128 .f32) j = (0 : EReal) := c_zero

/-- A block's three tiles cover its rows. -/
theorem sum_768 (F : Fin 768 → ℝ) : ∑ r, F r = (∑ p : Fin 256, F ⟨0 + p, by omega⟩) + (∑ p : Fin 256, F ⟨256 + p, by omega⟩)
    + ∑ p : Fin 256, F ⟨512 + p, by omega⟩ := by
  have e := Fin.sum_univ_add (a := 512) (b := 256) (F : Fin (512 + 256) → ℝ)
  have e' := Fin.sum_univ_add (a := 256) (b := 256) fun i => (F : Fin (512 + 256) → ℝ) (Fin.castAdd 256 i)
  refine e.trans ((congrArg (· + _) e').trans ?_)
  refine congrArg₂ (· + ·) (congrArg₂ (· + ·) ?_ ?_) ?_
  · exact Finset.sum_congr rfl fun p _ => congrArg F (Fin.ext (Nat.zero_add _).symm)
  · rfl
  · rfl

theorem le0 : 0 ≤ 512 := by decide
theorem le1 : 256 ≤ 512 := by decide
theorem le2 : 512 ≤ 512 := by decide

variable {I : Inp} {V : (c : Dev nD) → (b : Ref sig .tc) → Buf (Elt Ideal) ((c : Thread nD τ).loc b)} {c : Dev nD}

/-- The blocks the launch finds at point `t`. -/
abbrev At (I : Inp) (V : (c : Dev nD) → (b : Ref sig .tc) → Buf (Elt Ideal) ((c : Thread nD τ).loc b)) (c : Dev nD) (t : Fin cfg1.N) : Prop :=
  Blk1 I (grid1.coords t 0) (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) (iblk1 V c 14 t)
    (iblk1 V c 15 t)

theorem dpq_A (t : Fin cfg1.N) (B : At I V c t) (hk : t.val % 11 = 0) (r : Fin 768) (j : Fin 512) :
    (outsAt1 V c t.val t.isLt).2.1 (ix2 r j) = (I.dP (row (grid1.coords t 0) r) (cQ j) : EReal) := by
  rw [outsAt1_A V c t hk]
  frame_out
  canon_tiles x h
  · exact of_tile (ho := le2) (R := fun t j => (I.dP t (cQ j) : EReal)) (fun p j => dpqT_at (B.heads 512 le2) p j) r j x h0 h1
  · exact of_tile (ho := le1) (R := fun t j => (I.dP t (cQ j) : EReal)) (fun p j => dpqT_at (B.heads 256 le1) p j) r j x h0 h1
  · exact of_tile (ho := le0) (R := fun t j => (I.dP t (cQ j) : EReal)) (fun p j => dpqT_at (B.heads 0 le0) p j) r j x (h0.trans (Nat.zero_add _).symm) h1

theorem dx_A (t : Fin cfg1.N) (B : At I V c t) (hk : t.val % 11 = 0) (r : Fin 768) (d : Fin 1024) :
    (outsAt1 V c t.val t.isLt).1 (ix2 r d) = (I.gX (row (grid1.coords t 0) r) d : EReal) := by
  rw [outsAt1_A V c t hk]
  frame_out
  canon_tiles x h
  · exact of_tile (ho := le2) (R := fun t j => (I.gX t j : EReal)) (fun p d => B.dx 512 le2
      (dhT_spec (B.rows 512 le2 (dpqT_at (B.heads 512 le2)))) (word2 _) (tl2_ctx _) p d) r d x h0 h1
  · exact of_tile (ho := le1) (R := fun t j => (I.gX t j : EReal)) (fun p d => B.dx 256 le1
      (dhT_spec (B.rows 256 le1 (dpqT_at (B.heads 256 le1)))) (word1 _) (tl1_ctx _) p d) r d x h0 h1
  · exact of_tile (ho := le0) (R := fun t j => (I.gX t j : EReal)) (fun p d => B.dx 0 le0
      (dhT_spec (B.rows 0 le0 (dpqT_at (B.heads 0 le0)))) (word0 _) (tl0_ctx _) p d) r d x (h0.trans (Nat.zero_add _).symm) h1

theorem dpq_B (t : Fin cfg1.N) (B : At I V c t) (hk : ¬ t.val % 11 = 0) (r : Fin 768) (j : Fin 512) :
    (outsAt1 V c t.val t.isLt).2.1 (ix2 r j) = (I.dP (row (grid1.coords t 0) r) (cQ j) : EReal) := by
  rw [outsAt1_B V c t hk]
  frame_out
  canon_tiles x h
  · exact of_tile (ho := le2) (R := fun t j => (I.dP t (cQ j) : EReal)) (fun p j => dpqT_at (B.heads 512 le2) p j) r j x h0 h1
  · exact of_tile (ho := le1) (R := fun t j => (I.dP t (cQ j) : EReal)) (fun p j => dpqT_at (B.heads 256 le1) p j) r j x h0 h1
  · exact of_tile (ho := le0) (R := fun t j => (I.dP t (cQ j) : EReal)) (fun p j => dpqT_at (B.heads 0 le0) p j) r j x (h0.trans (Nat.zero_add _).symm) h1

theorem dx_B (t : Fin cfg1.N) (B : At I V c t) (hk : ¬ t.val % 11 = 0) (r : Fin 768) (d : Fin 1024) :
    (outsAt1 V c t.val t.isLt).1 (ix2 r d) = (I.gX (row (grid1.coords t 0) r) d : EReal) := by
  rw [outsAt1_B V c t hk]
  frame_out
  canon_tiles x h
  · exact of_tile (ho := le2) (R := fun t j => (I.gX t j : EReal)) (fun p d => B.dx 512 le2
      (dhT_spec (B.rows 512 le2 (dpqT_at (B.heads 512 le2)))) (word2 _) (tl2_ctx _) p d) r d x h0 h1
  · exact of_tile (ho := le1) (R := fun t j => (I.gX t j : EReal)) (fun p d => B.dx 256 le1
      (dhT_spec (B.rows 256 le1 (dpqT_at (B.heads 256 le1)))) (word1 _) (tl1_ctx _) p d) r d x h0 h1
  · exact of_tile (ho := le0) (R := fun t j => (I.gX t j : EReal)) (fun p d => B.dx 0 le0
      (dhT_spec (B.rows 0 le0 (dpqT_at (B.heads 0 le0)))) (word0 _) (tl0_ctx _) p d) r d x (h0.trans (Nat.zero_add _).symm) h1

theorem tiles_sum (n : Fin 11) (F : Fin 8448 → ℝ) (a : EReal) :
    a + ((∑ p, F (tl n 0 le0 p) : ℝ) : EReal) + ((∑ p, F (tl n 256 le1 p) : ℝ) : EReal) + ((∑ p, F (tl n 512 le2 p) : ℝ) : EReal)
      = a + ((∑ r, F (row n r) : ℝ) : EReal) := by
  rw [add_assoc, add_assoc, ← EReal.coe_add, ← EReal.coe_add, ← add_assoc, sum_768 fun r => F (row n r)]
  rfl

theorem tiles_sum2 (n : Fin 11) (F G : Fin 8448 → ℝ) (a : EReal) :
    a + ((∑ p, F (tl n 0 le0 p) : ℝ) : EReal) + ((∑ p, G (tl n 0 le0 p) : ℝ) : EReal) + ((∑ p, F (tl n 256 le1 p) : ℝ) : EReal)
      + ((∑ p, G (tl n 256 le1 p) : ℝ) : EReal) + ((∑ p, F (tl n 512 le2 p) : ℝ) : EReal) + ((∑ p, G (tl n 512 le2 p) : ℝ) : EReal)
      = a + ((∑ r, (F (row n r) + G (row n r)) : ℝ) : EReal) := by
  rw [← tiles_sum n (fun t => F t + G t)]
  simp only [Finset.sum_add_distrib, EReal.coe_add, add_assoc]

theorem acc0_A (t : Fin cfg1.N) (B : At I V c t) (hk : t.val % 11 = 0) (d : Fin 1024) :
    (outsAt1 V c t.val t.isLt).2.2.1 (ix2 0 d) = ((∑ r, (fun t' : Fin 8448 => if (t' : ℕ) < 256 then I.dh t' d else 0) (row (grid1.coords t 0) r) : ℝ) : EReal) := by
  rw [outsAt1_A V c t hk]
  frame_open
  simp (disch := decide) only [↓ View.readCov_skip, ↓ View.readCov_cons_toLoadRect, ↓ View.readCov_fill]
  frame_out
  repeat refine (cn_miss _ _ _ _ _ (by decide)).trans ?_
  refine (cn_hit _ _ _ _ _ (by decide)).trans ?_
  refine (B.acc0 512 le2 (dhT_spec (B.rows 512 le2 (dpqT_at (B.heads 512 le2)))) (word2 _) (tl2_ctx _) _ d).trans ?_
  refine (congrArg (· + _) (B.acc0 256 le1 (dhT_spec (B.rows 256 le1 (dpqT_at (B.heads 256 le1)))) (word1 _) (tl1_ctx _) _ d)).trans ?_
  refine (congrArg (· + _ + _) (B.acc0 0 le0 (dhT_spec (B.rows 0 le0 (dpqT_at (B.heads 0 le0)))) (word0 _) (tl0_ctx _) _ d)).trans ?_
  refine (tiles_sum (grid1.coords t 0) (fun t' => if (t' : ℕ) < 256 then I.dh t' d else 0) _).trans ?_
  refine (congrArg (· + _) (ld_zero _ _ _ (fun j => ?_))).trans (zero_add _)
  exact zero18 j

theorem acc1_A (t : Fin cfg1.N) (B : At I V c t) (hk : t.val % 11 = 0) (d : Fin 1024) :
    (outsAt1 V c t.val t.isLt).2.2.1 (ix2 1 d) = ((∑ r, (fun t' : Fin 8448 => if (t' : ℕ) < 256 then I.dh t' d * (I.xn t' d * I.g d) else 0) (row (grid1.coords t 0) r) : ℝ) : EReal) := by
  rw [outsAt1_A V c t hk]
  frame_open
  simp (disch := decide) only [↓ View.readCov_skip, ↓ View.readCov_cons_toLoadRect, ↓ View.readCov_fill]
  frame_out
  repeat refine (cn_miss _ _ _ _ _ (by decide)).trans ?_
  refine (cn_hit _ _ _ _ _ (by decide)).trans ?_
  refine (B.acc1 512 le2 (dhT_spec (B.rows 512 le2 (dpqT_at (B.heads 512 le2)))) (word2 _) (tl2_ctx _) _ d).trans ?_
  refine (congrArg (· + _) (B.acc1 256 le1 (dhT_spec (B.rows 256 le1 (dpqT_at (B.heads 256 le1)))) (word1 _) (tl1_ctx _) _ d)).trans ?_
  refine (congrArg (· + _ + _) (B.acc1 0 le0 (dhT_spec (B.rows 0 le0 (dpqT_at (B.heads 0 le0)))) (word0 _) (tl0_ctx _) _ d)).trans ?_
  refine (tiles_sum (grid1.coords t 0) (fun t' => if (t' : ℕ) < 256 then I.dh t' d * (I.xn t' d * I.g d) else 0) _).trans ?_
  refine (congrArg (· + _) (ld_zero _ _ _ (fun j => ?_))).trans (zero_add _)
  exact zero18 j

theorem acc2_A (t : Fin cfg1.N) (B : At I V c t) (hk : t.val % 11 = 0) (d : Fin 1024) :
    (outsAt1 V c t.val t.isLt).2.2.1 (ix2 2 d) = ((∑ r, (fun t' : Fin 8448 => if (t' : ℕ) < 256 then 0 else I.dh t' d) (row (grid1.coords t 0) r) : ℝ) : EReal) := by
  rw [outsAt1_A V c t hk]
  frame_open
  simp (disch := decide) only [↓ View.readCov_skip, ↓ View.readCov_cons_toLoadRect, ↓ View.readCov_fill]
  frame_out
  repeat refine (cn_miss _ _ _ _ _ (by decide)).trans ?_
  refine (cn_hit _ _ _ _ _ (by decide)).trans ?_
  refine (B.acc2 512 le2 (dhT_spec (B.rows 512 le2 (dpqT_at (B.heads 512 le2)))) (word2 _) (tl2_ctx _) _ d).trans ?_
  refine (congrArg (· + _) (B.acc2 256 le1 (dhT_spec (B.rows 256 le1 (dpqT_at (B.heads 256 le1)))) (word1 _) (tl1_ctx _) _ d)).trans ?_
  refine (congrArg (· + _ + _) (B.acc2 0 le0 (dhT_spec (B.rows 0 le0 (dpqT_at (B.heads 0 le0)))) (word0 _) (tl0_ctx _) _ d)).trans ?_
  refine (tiles_sum (grid1.coords t 0) (fun t' => if (t' : ℕ) < 256 then 0 else I.dh t' d) _).trans ?_
  refine (congrArg (· + _) (ld_zero _ _ _ (fun j => ?_))).trans (zero_add _)
  exact zero18 j

theorem acc3_A (t : Fin cfg1.N) (B : At I V c t) (hk : t.val % 11 = 0) (d : Fin 1024) :
    (outsAt1 V c t.val t.isLt).2.2.1 (ix2 3 d) = ((∑ r, (fun t' : Fin 8448 => if (t' : ℕ) < 256 then 0 else I.dh t' d * (I.xn t' d * I.g d)) (row (grid1.coords t 0) r) : ℝ) : EReal) := by
  rw [outsAt1_A V c t hk]
  frame_open
  simp (disch := decide) only [↓ View.readCov_skip, ↓ View.readCov_cons_toLoadRect, ↓ View.readCov_fill]
  frame_out
  repeat refine (cn_miss _ _ _ _ _ (by decide)).trans ?_
  refine (cn_hit _ _ _ _ _ (by decide)).trans ?_
  refine (B.acc3 512 le2 (dhT_spec (B.rows 512 le2 (dpqT_at (B.heads 512 le2)))) (word2 _) (tl2_ctx _) _ d).trans ?_
  refine (congrArg (· + _) (B.acc3 256 le1 (dhT_spec (B.rows 256 le1 (dpqT_at (B.heads 256 le1)))) (word1 _) (tl1_ctx _) _ d)).trans ?_
  refine (congrArg (· + _ + _) (B.acc3 0 le0 (dhT_spec (B.rows 0 le0 (dpqT_at (B.heads 0 le0)))) (word0 _) (tl0_ctx _) _ d)).trans ?_
  refine (tiles_sum (grid1.coords t 0) (fun t' => if (t' : ℕ) < 256 then 0 else I.dh t' d * (I.xn t' d * I.g d)) _).trans ?_
  refine (congrArg (· + _) (ld_zero _ _ _ (fun j => ?_))).trans (zero_add _)
  exact zero18 j

theorem acc4_A (t : Fin cfg1.N) (B : At I V c t) (hk : t.val % 11 = 0) (d : Fin 1024) :
    (outsAt1 V c t.val t.isLt).2.2.1 (ix2 4 d) = ((∑ r, (fun t' : Fin 8448 => I.dh t' d * (1 + I.SC t' d) * I.xn t' d) (row (grid1.coords t 0) r) : ℝ) : EReal) := by
  rw [outsAt1_A V c t hk]
  frame_open
  simp (disch := decide) only [↓ View.readCov_skip, ↓ View.readCov_cons_toLoadRect, ↓ View.readCov_fill]
  frame_out
  repeat refine (cn_miss _ _ _ _ _ (by decide)).trans ?_
  refine (cn_hit _ _ _ _ _ (by decide)).trans ?_
  refine (B.acc4 512 le2 (dhT_spec (B.rows 512 le2 (dpqT_at (B.heads 512 le2)))) (word2 _) (tl2_ctx _) _ d).trans ?_
  refine (congrArg (· + _) (B.acc4 256 le1 (dhT_spec (B.rows 256 le1 (dpqT_at (B.heads 256 le1)))) (word1 _) (tl1_ctx _) _ d)).trans ?_
  refine (congrArg (· + _ + _) (B.acc4 0 le0 (dhT_spec (B.rows 0 le0 (dpqT_at (B.heads 0 le0)))) (word0 _) (tl0_ctx _) _ d)).trans ?_
  refine (tiles_sum (grid1.coords t 0) (fun t' => I.dh t' d * (1 + I.SC t' d) * I.xn t' d) _).trans ?_
  refine (congrArg (· + _) (ld_zero _ _ _ (fun j => ?_))).trans (zero_add _)
  exact zero18 j

theorem gain0_A (t : Fin cfg1.N) (B : At I V c t) (hk : t.val % 11 = 0) (l : Fin 128) :
    (outsAt1 V c t.val t.isLt).2.2.2 (ix2 0 l) = ((∑ r, (fun t' : Fin 8448 => I.dxg t' (hd 0 (by decide) l) (lw l) * I.xh t' (hd 0 (by decide) l) (lw l) + I.dxg t' (hd 1 (by decide) l) (lw l) * I.xh t' (hd 1 (by decide) l) (lw l)) (row (grid1.coords t 0) r) : ℝ) : EReal) := by
  rw [outsAt1_A V c t hk]
  frame_open
  simp (disch := decide) only [↓ View.readCov_skip, ↓ View.readCov_cons_toLoadRect, ↓ View.readCov_fill]
  frame_out
  repeat refine (cn_miss _ _ _ _ _ (by decide)).trans ?_
  refine (cn_hit _ _ _ _ _ (by decide)).trans ?_
  refine (congrArg (·) (pairGain_at I (tl (grid1.coords t 0) 512 le2) 1 (by decide) _ _ _ (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0)).x1 (dxgQ1_at (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0))) l)).trans ?_
  refine (congrArg (· + _) (pairGain_at I (tl (grid1.coords t 0) 512 le2) 0 (by decide) _ _ _ (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0)).x0 (dxgQ0_at (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0))) l)).trans ?_
  refine (congrArg (· + _ + _) (pairGain_at I (tl (grid1.coords t 0) 256 le1) 1 (by decide) _ _ _ (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0)).x1 (dxgQ1_at (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0))) l)).trans ?_
  refine (congrArg (· + _ + _ + _) (pairGain_at I (tl (grid1.coords t 0) 256 le1) 0 (by decide) _ _ _ (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0)).x0 (dxgQ0_at (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0))) l)).trans ?_
  refine (congrArg (· + _ + _ + _ + _) (pairGain_at I (tl (grid1.coords t 0) 0 le0) 1 (by decide) _ _ _ (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0)).x1 (dxgQ1_at (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0))) l)).trans ?_
  refine (congrArg (· + _ + _ + _ + _ + _) (pairGain_at I (tl (grid1.coords t 0) 0 le0) 0 (by decide) _ _ _ (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0)).x0 (dxgQ0_at (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0))) l)).trans ?_
  refine (tiles_sum2 (grid1.coords t 0) (fun t' => I.dxg t' (hd 0 (by decide) l) (lw l) * I.xh t' (hd 0 (by decide) l) (lw l)) (fun t' => I.dxg t' (hd 1 (by decide) l) (lw l) * I.xh t' (hd 1 (by decide) l) (lw l)) _).trans ?_
  refine (congrArg (· + _) (ld_zero _ _ _ (fun j => ?_))).trans (zero_add _)
  exact zero19 j

theorem gain1_A (t : Fin cfg1.N) (B : At I V c t) (hk : t.val % 11 = 0) (l : Fin 128) :
    (outsAt1 V c t.val t.isLt).2.2.2 (ix2 1 l) = ((∑ r, (fun t' : Fin 8448 => I.dxg t' (hd 2 (by decide) l) (lw l) * I.xh t' (hd 2 (by decide) l) (lw l)) (row (grid1.coords t 0) r) : ℝ) : EReal) := by
  rw [outsAt1_A V c t hk]
  frame_open
  simp (disch := decide) only [↓ View.readCov_skip, ↓ View.readCov_cons_toLoadRect, ↓ View.readCov_fill]
  frame_out
  repeat refine (cn_miss _ _ _ _ _ (by decide)).trans ?_
  refine (cn_hit _ _ _ _ _ (by decide)).trans ?_
  refine (congrArg (·) (pairGain_at I (tl (grid1.coords t 0) 512 le2) 2 (by decide) _ _ _ (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0)).x2 (dxgK_at (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0))) l)).trans ?_
  refine (congrArg (· + _) (pairGain_at I (tl (grid1.coords t 0) 256 le1) 2 (by decide) _ _ _ (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0)).x2 (dxgK_at (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0))) l)).trans ?_
  refine (congrArg (· + _ + _) (pairGain_at I (tl (grid1.coords t 0) 0 le0) 2 (by decide) _ _ _ (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0)).x2 (dxgK_at (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0))) l)).trans ?_
  refine (tiles_sum (grid1.coords t 0) (fun t' => I.dxg t' (hd 2 (by decide) l) (lw l) * I.xh t' (hd 2 (by decide) l) (lw l)) _).trans ?_
  refine (congrArg (· + _) (ld_zero _ _ _ (fun j => ?_))).trans (zero_add _)
  exact zero19 j

theorem acc0_B (t : Fin cfg1.N) (B : At I V c t) (hk : ¬ t.val % 11 = 0) (d : Fin 1024) :
    (outsAt1 V c t.val t.isLt).2.2.1 (ix2 0 d) = (outsAt1 V c (t.val - 1) (Nat.lt_of_le_of_lt (Nat.sub_le _ _) t.isLt)).2.2.1 (ix2 0 d) + ((∑ r, (fun t' : Fin 8448 => if (t' : ℕ) < 256 then I.dh t' d else 0) (row (grid1.coords t 0) r) : ℝ) : EReal) := by
  rw [outsAt1_B V c t hk]
  frame_open
  simp (disch := decide) only [↓ View.readCov_skip, ↓ View.readCov_cons_toLoadRect, ↓ View.readCov_fill]
  frame_out
  repeat refine (wr_miss _ _ _ _ _ _ _ (by decide)).trans ?_
  refine (wr_hit _ _ _ _ _ _ _ (by decide)).trans ?_
  refine (B.acc0 512 le2 (dhT_spec (B.rows 512 le2 (dpqT_at (B.heads 512 le2)))) (word2 _) (tl2_ctx _) _ d).trans ?_
  refine (congrArg (· + _) (B.acc0 256 le1 (dhT_spec (B.rows 256 le1 (dpqT_at (B.heads 256 le1)))) (word1 _) (tl1_ctx _) _ d)).trans ?_
  refine (congrArg (· + _ + _) (B.acc0 0 le0 (dhT_spec (B.rows 0 le0 (dpqT_at (B.heads 0 le0)))) (word0 _) (tl0_ctx _) _ d)).trans ?_
  refine (tiles_sum (grid1.coords t 0) (fun t' => if (t' : ℕ) < 256 then I.dh t' d else 0) _).trans ?_
  exact congrArg (· + _) (ld_row _ _ 0 d rfl)

theorem acc1_B (t : Fin cfg1.N) (B : At I V c t) (hk : ¬ t.val % 11 = 0) (d : Fin 1024) :
    (outsAt1 V c t.val t.isLt).2.2.1 (ix2 1 d) = (outsAt1 V c (t.val - 1) (Nat.lt_of_le_of_lt (Nat.sub_le _ _) t.isLt)).2.2.1 (ix2 1 d) + ((∑ r, (fun t' : Fin 8448 => if (t' : ℕ) < 256 then I.dh t' d * (I.xn t' d * I.g d) else 0) (row (grid1.coords t 0) r) : ℝ) : EReal) := by
  rw [outsAt1_B V c t hk]
  frame_open
  simp (disch := decide) only [↓ View.readCov_skip, ↓ View.readCov_cons_toLoadRect, ↓ View.readCov_fill]
  frame_out
  repeat refine (wr_miss _ _ _ _ _ _ _ (by decide)).trans ?_
  refine (wr_hit _ _ _ _ _ _ _ (by decide)).trans ?_
  refine (B.acc1 512 le2 (dhT_spec (B.rows 512 le2 (dpqT_at (B.heads 512 le2)))) (word2 _) (tl2_ctx _) _ d).trans ?_
  refine (congrArg (· + _) (B.acc1 256 le1 (dhT_spec (B.rows 256 le1 (dpqT_at (B.heads 256 le1)))) (word1 _) (tl1_ctx _) _ d)).trans ?_
  refine (congrArg (· + _ + _) (B.acc1 0 le0 (dhT_spec (B.rows 0 le0 (dpqT_at (B.heads 0 le0)))) (word0 _) (tl0_ctx _) _ d)).trans ?_
  refine (tiles_sum (grid1.coords t 0) (fun t' => if (t' : ℕ) < 256 then I.dh t' d * (I.xn t' d * I.g d) else 0) _).trans ?_
  exact congrArg (· + _) (ld_row _ _ 1 d rfl)

theorem acc2_B (t : Fin cfg1.N) (B : At I V c t) (hk : ¬ t.val % 11 = 0) (d : Fin 1024) :
    (outsAt1 V c t.val t.isLt).2.2.1 (ix2 2 d) = (outsAt1 V c (t.val - 1) (Nat.lt_of_le_of_lt (Nat.sub_le _ _) t.isLt)).2.2.1 (ix2 2 d) + ((∑ r, (fun t' : Fin 8448 => if (t' : ℕ) < 256 then 0 else I.dh t' d) (row (grid1.coords t 0) r) : ℝ) : EReal) := by
  rw [outsAt1_B V c t hk]
  frame_open
  simp (disch := decide) only [↓ View.readCov_skip, ↓ View.readCov_cons_toLoadRect, ↓ View.readCov_fill]
  frame_out
  repeat refine (wr_miss _ _ _ _ _ _ _ (by decide)).trans ?_
  refine (wr_hit _ _ _ _ _ _ _ (by decide)).trans ?_
  refine (B.acc2 512 le2 (dhT_spec (B.rows 512 le2 (dpqT_at (B.heads 512 le2)))) (word2 _) (tl2_ctx _) _ d).trans ?_
  refine (congrArg (· + _) (B.acc2 256 le1 (dhT_spec (B.rows 256 le1 (dpqT_at (B.heads 256 le1)))) (word1 _) (tl1_ctx _) _ d)).trans ?_
  refine (congrArg (· + _ + _) (B.acc2 0 le0 (dhT_spec (B.rows 0 le0 (dpqT_at (B.heads 0 le0)))) (word0 _) (tl0_ctx _) _ d)).trans ?_
  refine (tiles_sum (grid1.coords t 0) (fun t' => if (t' : ℕ) < 256 then 0 else I.dh t' d) _).trans ?_
  exact congrArg (· + _) (ld_row _ _ 2 d rfl)

theorem acc3_B (t : Fin cfg1.N) (B : At I V c t) (hk : ¬ t.val % 11 = 0) (d : Fin 1024) :
    (outsAt1 V c t.val t.isLt).2.2.1 (ix2 3 d) = (outsAt1 V c (t.val - 1) (Nat.lt_of_le_of_lt (Nat.sub_le _ _) t.isLt)).2.2.1 (ix2 3 d) + ((∑ r, (fun t' : Fin 8448 => if (t' : ℕ) < 256 then 0 else I.dh t' d * (I.xn t' d * I.g d)) (row (grid1.coords t 0) r) : ℝ) : EReal) := by
  rw [outsAt1_B V c t hk]
  frame_open
  simp (disch := decide) only [↓ View.readCov_skip, ↓ View.readCov_cons_toLoadRect, ↓ View.readCov_fill]
  frame_out
  repeat refine (wr_miss _ _ _ _ _ _ _ (by decide)).trans ?_
  refine (wr_hit _ _ _ _ _ _ _ (by decide)).trans ?_
  refine (B.acc3 512 le2 (dhT_spec (B.rows 512 le2 (dpqT_at (B.heads 512 le2)))) (word2 _) (tl2_ctx _) _ d).trans ?_
  refine (congrArg (· + _) (B.acc3 256 le1 (dhT_spec (B.rows 256 le1 (dpqT_at (B.heads 256 le1)))) (word1 _) (tl1_ctx _) _ d)).trans ?_
  refine (congrArg (· + _ + _) (B.acc3 0 le0 (dhT_spec (B.rows 0 le0 (dpqT_at (B.heads 0 le0)))) (word0 _) (tl0_ctx _) _ d)).trans ?_
  refine (tiles_sum (grid1.coords t 0) (fun t' => if (t' : ℕ) < 256 then 0 else I.dh t' d * (I.xn t' d * I.g d)) _).trans ?_
  exact congrArg (· + _) (ld_row _ _ 3 d rfl)

theorem acc4_B (t : Fin cfg1.N) (B : At I V c t) (hk : ¬ t.val % 11 = 0) (d : Fin 1024) :
    (outsAt1 V c t.val t.isLt).2.2.1 (ix2 4 d) = (outsAt1 V c (t.val - 1) (Nat.lt_of_le_of_lt (Nat.sub_le _ _) t.isLt)).2.2.1 (ix2 4 d) + ((∑ r, (fun t' : Fin 8448 => I.dh t' d * (1 + I.SC t' d) * I.xn t' d) (row (grid1.coords t 0) r) : ℝ) : EReal) := by
  rw [outsAt1_B V c t hk]
  frame_open
  simp (disch := decide) only [↓ View.readCov_skip, ↓ View.readCov_cons_toLoadRect, ↓ View.readCov_fill]
  frame_out
  repeat refine (wr_miss _ _ _ _ _ _ _ (by decide)).trans ?_
  refine (wr_hit _ _ _ _ _ _ _ (by decide)).trans ?_
  refine (B.acc4 512 le2 (dhT_spec (B.rows 512 le2 (dpqT_at (B.heads 512 le2)))) (word2 _) (tl2_ctx _) _ d).trans ?_
  refine (congrArg (· + _) (B.acc4 256 le1 (dhT_spec (B.rows 256 le1 (dpqT_at (B.heads 256 le1)))) (word1 _) (tl1_ctx _) _ d)).trans ?_
  refine (congrArg (· + _ + _) (B.acc4 0 le0 (dhT_spec (B.rows 0 le0 (dpqT_at (B.heads 0 le0)))) (word0 _) (tl0_ctx _) _ d)).trans ?_
  refine (tiles_sum (grid1.coords t 0) (fun t' => I.dh t' d * (1 + I.SC t' d) * I.xn t' d) _).trans ?_
  exact congrArg (· + _) (ld_row _ _ 4 d rfl)

theorem gain0_B (t : Fin cfg1.N) (B : At I V c t) (hk : ¬ t.val % 11 = 0) (l : Fin 128) :
    (outsAt1 V c t.val t.isLt).2.2.2 (ix2 0 l) = (outsAt1 V c (t.val - 1) (Nat.lt_of_le_of_lt (Nat.sub_le _ _) t.isLt)).2.2.2 (ix2 0 l) + ((∑ r, (fun t' : Fin 8448 => I.dxg t' (hd 0 (by decide) l) (lw l) * I.xh t' (hd 0 (by decide) l) (lw l) + I.dxg t' (hd 1 (by decide) l) (lw l) * I.xh t' (hd 1 (by decide) l) (lw l)) (row (grid1.coords t 0) r) : ℝ) : EReal) := by
  rw [outsAt1_B V c t hk]
  frame_open
  simp (disch := decide) only [↓ View.readCov_skip, ↓ View.readCov_cons_toLoadRect, ↓ View.readCov_fill]
  frame_out
  repeat refine (wr_miss _ _ _ _ _ _ _ (by decide)).trans ?_
  refine (wr_hit _ _ _ _ _ _ _ (by decide)).trans ?_
  refine (congrArg (·) (pairGain_at I (tl (grid1.coords t 0) 512 le2) 1 (by decide) _ _ _ (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0)).x1 (dxgQ1_at (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0))) l)).trans ?_
  refine (congrArg (· + _) (pairGain_at I (tl (grid1.coords t 0) 512 le2) 0 (by decide) _ _ _ (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0)).x0 (dxgQ0_at (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0))) l)).trans ?_
  refine (congrArg (· + _ + _) (pairGain_at I (tl (grid1.coords t 0) 256 le1) 1 (by decide) _ _ _ (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0)).x1 (dxgQ1_at (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0))) l)).trans ?_
  refine (congrArg (· + _ + _ + _) (pairGain_at I (tl (grid1.coords t 0) 256 le1) 0 (by decide) _ _ _ (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0)).x0 (dxgQ0_at (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0))) l)).trans ?_
  refine (congrArg (· + _ + _ + _ + _) (pairGain_at I (tl (grid1.coords t 0) 0 le0) 1 (by decide) _ _ _ (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0)).x1 (dxgQ1_at (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0))) l)).trans ?_
  refine (congrArg (· + _ + _ + _ + _ + _) (pairGain_at I (tl (grid1.coords t 0) 0 le0) 0 (by decide) _ _ _ (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0)).x0 (dxgQ0_at (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0))) l)).trans ?_
  refine (tiles_sum2 (grid1.coords t 0) (fun t' => I.dxg t' (hd 0 (by decide) l) (lw l) * I.xh t' (hd 0 (by decide) l) (lw l)) (fun t' => I.dxg t' (hd 1 (by decide) l) (lw l) * I.xh t' (hd 1 (by decide) l) (lw l)) _).trans ?_
  exact congrArg (· + _) (ld_row _ _ 0 l rfl)

theorem gain1_B (t : Fin cfg1.N) (B : At I V c t) (hk : ¬ t.val % 11 = 0) (l : Fin 128) :
    (outsAt1 V c t.val t.isLt).2.2.2 (ix2 1 l) = (outsAt1 V c (t.val - 1) (Nat.lt_of_le_of_lt (Nat.sub_le _ _) t.isLt)).2.2.2 (ix2 1 l) + ((∑ r, (fun t' : Fin 8448 => I.dxg t' (hd 2 (by decide) l) (lw l) * I.xh t' (hd 2 (by decide) l) (lw l)) (row (grid1.coords t 0) r) : ℝ) : EReal) := by
  rw [outsAt1_B V c t hk]
  frame_open
  simp (disch := decide) only [↓ View.readCov_skip, ↓ View.readCov_cons_toLoadRect, ↓ View.readCov_fill]
  frame_out
  repeat refine (wr_miss _ _ _ _ _ _ _ (by decide)).trans ?_
  refine (wr_hit _ _ _ _ _ _ _ (by decide)).trans ?_
  refine (congrArg (·) (pairGain_at I (tl (grid1.coords t 0) 512 le2) 2 (by decide) _ _ _ (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0)).x2 (dxgK_at (B.heads 512 le2 (a0 := inb_S768x512_S256x128_512_0) (a1 := inb_S768x512_S256x128_512_128) (a2 := inb_S768x512_S256x128_512_256) (a3 := inb_S768x128_S256x128_512_0) (a4 := inb_S768x128_S256x128_512_0) (a5 := inb_S4x768x128_S1x256x128_0_512_0) (a6 := inb_S4x768x128_S1x256x128_1_512_0) (a7 := inb_S4x768x128_S1x256x128_2_512_0) (a8 := inb_S4x768x128_S1x256x128_3_512_0) (a9 := inb_S2x768x128_S1x256x128_0_512_0) (a10 := inb_S2x768x128_S1x256x128_1_512_0) (a11 := inb_S2x768x128_S1x256x128_0_512_0) (a12 := inb_S2x768x128_S1x256x128_1_512_0) (a13 := inb_S8x128_S1x128_0_0) (a14 := inb_S8x128_S1x128_1_0))) l)).trans ?_
  refine (congrArg (· + _) (pairGain_at I (tl (grid1.coords t 0) 256 le1) 2 (by decide) _ _ _ (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0)).x2 (dxgK_at (B.heads 256 le1 (a0 := inb_S768x512_S256x128_256_0) (a1 := inb_S768x512_S256x128_256_128) (a2 := inb_S768x512_S256x128_256_256) (a3 := inb_S768x128_S256x128_256_0) (a4 := inb_S768x128_S256x128_256_0) (a5 := inb_S4x768x128_S1x256x128_0_256_0) (a6 := inb_S4x768x128_S1x256x128_1_256_0) (a7 := inb_S4x768x128_S1x256x128_2_256_0) (a8 := inb_S4x768x128_S1x256x128_3_256_0) (a9 := inb_S2x768x128_S1x256x128_0_256_0) (a10 := inb_S2x768x128_S1x256x128_1_256_0) (a11 := inb_S2x768x128_S1x256x128_0_256_0) (a12 := inb_S2x768x128_S1x256x128_1_256_0) (a13 := inb_S8x128_S1x128_0_0) (a14 := inb_S8x128_S1x128_1_0))) l)).trans ?_
  refine (congrArg (· + _ + _) (pairGain_at I (tl (grid1.coords t 0) 0 le0) 2 (by decide) _ _ _ (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0)).x2 (dxgK_at (B.heads 0 le0 (a0 := inb_S768x512_S256x128_0_0) (a1 := inb_S768x512_S256x128_0_128) (a2 := inb_S768x512_S256x128_0_256) (a3 := inb_S768x128_S256x128_0_0) (a4 := inb_S768x128_S256x128_0_0) (a5 := inb_S4x768x128_S1x256x128_0_0_0) (a6 := inb_S4x768x128_S1x256x128_1_0_0) (a7 := inb_S4x768x128_S1x256x128_2_0_0) (a8 := inb_S4x768x128_S1x256x128_3_0_0) (a9 := inb_S2x768x128_S1x256x128_0_0_0) (a10 := inb_S2x768x128_S1x256x128_1_0_0) (a11 := inb_S2x768x128_S1x256x128_0_0_0) (a12 := inb_S2x768x128_S1x256x128_1_0_0) (a13 := inb_S8x128_S1x128_0_0) (a14 := inb_S8x128_S1x128_1_0))) l)).trans ?_
  refine (tiles_sum (grid1.coords t 0) (fun t' => I.dxg t' (hd 2 (by decide) l) (lw l) * I.xh t' (hd 2 (by decide) l) (lw l)) _).trans ?_
  exact congrArg (· + _) (ld_row _ _ 1 l rfl)

end

end Cert.InProj
-- ==== Proof.K1Arr.lean ====
module

public import proofs.«01_k».proof.Proof.K1Out

/-! # The second launch's arrays -/

@[expose] public section

set_option maxRecDepth 16384

namespace Cert.InProj

open Idealize.ShloMosaic Idealize.ShloMosaic.TcCoe Cert.KernelIdeal Cert.KernelIdeal.Gen Tile

noncomputable section

theorem coords1 (t : Fin cfg1.N) : ((grid1.coords t 0 : Fin 11) : ℕ) = t.val := (by decide +kernel : ∀ t : Fin grid1.N, ((grid1.coords t 0 : Fin 11) : ℕ) = t.val) t
theorem row1 (t : Fin cfg1.N) (r : Fin 768) : (row (grid1.coords t 0) r : ℕ) = t.val * 768 + r := by
  simp only [row, coords1]; omega
theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, t.val, 0] := (by decide +kernel : ∀ t : Fin grid1.N, _)
theorem idx1_3 : ∀ t : Fin cfg1.N, win1_3.index t = ![0, t.val, 0] := (by decide +kernel : ∀ t : Fin grid1.N, _)
theorem idx1_4 : ∀ t : Fin cfg1.N, win1_4.index t = ![0, t.val, 0] := (by decide +kernel : ∀ t : Fin grid1.N, _)
theorem idx1_5 : ∀ t : Fin cfg1.N, win1_5.index t = ![t.val, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![t.val, 0] := (by decide +kernel : ∀ t : Fin grid1.N, _)
theorem idx1_8 : ∀ t : Fin cfg1.N, win1_8.index t = ![t.val, 0] := (by decide +kernel : ∀ t : Fin grid1.N, _)
theorem idx1_9 : ∀ t : Fin cfg1.N, win1_9.index t = ![0, 0] := (by decide +kernel : ∀ t : Fin grid1.N, _)
theorem idx1_10 : ∀ t : Fin cfg1.N, win1_10.index t = ![0, 0] := (by decide +kernel : ∀ t : Fin grid1.N, _)
theorem idx1_11 : ∀ t : Fin cfg1.N, win1_11.index t = ![0, 0] := (by decide +kernel : ∀ t : Fin grid1.N, _)
theorem idx1_12 : ∀ t : Fin cfg1.N, win1_12.index t = ![t.val, 0] := (by decide +kernel : ∀ t : Fin grid1.N, _)
theorem idx1_13 : ∀ t : Fin cfg1.N, win1_13.index t = ![t.val, 0] := (by decide +kernel : ∀ t : Fin grid1.N, _)
theorem idx1_14 : ∀ t : Fin cfg1.N, win1_14.index t = ![0, 0] := (by decide +kernel : ∀ t : Fin grid1.N, _)
theorem idx1_15 : ∀ t : Fin cfg1.N, win1_15.index t = ![0, 0] := (by decide +kernel : ∀ t : Fin grid1.N, _)
theorem idx1_16 : ∀ t : Fin cfg1.N, win1_16.index t = ![t.val, 0] := (by decide +kernel : ∀ t : Fin grid1.N, _)
theorem idx1_17 : ∀ t : Fin cfg1.N, win1_17.index t = ![t.val, 0] := (by decide +kernel : ∀ t : Fin grid1.N, _)
theorem idx1_18 : ∀ t : Fin cfg1.N, win1_18.index t = ![0, 0] := (by decide +kernel : ∀ t : Fin grid1.N, _)
theorem idx1_19 : ∀ t : Fin cfg1.N, win1_19.index t = ![0, 0] := (by decide +kernel : ∀ t : Fin grid1.N, _)

variable {I : Inp} (V : (c : Dev nD) → (b : Ref sig .tc) → Buf (Elt Ideal) ((c : Thread nD τ).loc b)) (c : Dev nD)

/-- What the launch finds in its arrays. -/
structure Arr1 (I : Inp) : Prop where
  dpc : ∀ t j, V c (Pipeline.arrRef spec1 0) (ix2 (n0 := 8448) (n1 := 1024) t j) = (I.dP t (cC j) : EReal)
  dpr : ∀ t j, V c (Pipeline.arrRef spec1 1) (ix2 (n0 := 8448) (n1 := 1792) t j) = (I.dP t (cR j) : EReal)
  pq : ∀ t j, V c (Pipeline.arrRef spec1 5) (ix2 (n0 := 8448) (n1 := 512) t j) = (I.P t (cQ j) : EReal)
  cos : ∀ t j, V c (Pipeline.arrRef spec1 7) (ix2 (n0 := 8448) (n1 := 128) t j) = (CS t (lw j) : EReal)
  sin : ∀ t j, V c (Pipeline.arrRef spec1 8) (ix2 (n0 := 8448) (n1 := 128) t j) = (((if (lw j : ℕ) % 32 < 16 then -1 else 1) * SN t (lw j) : ℝ) : EReal)
  x : ∀ t j, V c (Pipeline.arrRef spec1 12) (ix2 (n0 := 8448) (n1 := 1024) t j) = (I.X t j : EReal)
  cx : ∀ t j, V c (Pipeline.arrRef spec1 13) (ix2 (n0 := 8448) (n1 := 1024) t j) = (I.cx t j : EReal)
  dq : ∀ (a : Fin 4) t l, V c (Pipeline.arrRef spec1 2) (ix3 (n0 := 4) (n1 := 8448) (n2 := 128) a t l)
    = ((if hi l = 0 then I.cq t ⟨64 * a + lw l, by omega⟩ else 0 : ℝ) : EReal)
  dk : ∀ (a : Fin 2) t l, V c (Pipeline.arrRef spec1 3) (ix3 (n0 := 2) (n1 := 8448) (n2 := 128) a t l)
    = ((if hi l = 0 then I.ck t ⟨64 * a + lw l, by omega⟩ else 0 : ℝ) : EReal)
  dv : ∀ (a : Fin 2) t l, V c (Pipeline.arrRef spec1 4) (ix3 (n0 := 2) (n1 := 8448) (n2 := 128) a t l)
    = ((if hi l = 0 then I.cv t ⟨64 * a + lw l, by omega⟩ else 0 : ℝ) : EReal)
  wc : ∀ d j, V c (Pipeline.arrRef spec1 9) (ix2 (n0 := 1024) (n1 := 1024) d j) = (I.W d (cC j) : EReal)
  wr : ∀ d j, V c (Pipeline.arrRef spec1 10) (ix2 (n0 := 1024) (n1 := 1792) d j) = (I.W d (cR j) : EReal)
  wq : ∀ d j, V c (Pipeline.arrRef spec1 11) (ix2 (n0 := 1024) (n1 := 512) d j) = (I.W d (cQ j) : EReal)
  gq : ∀ j, V c (Pipeline.arrRef spec1 6) (ix2 (n0 := 8) (n1 := 128) 0 j) = (I.qg (lw j) : EReal)
  gk : ∀ j, V c (Pipeline.arrRef spec1 6) (ix2 (n0 := 8) (n1 := 128) 1 j) = (I.kg (lw j) : EReal)
  m1 : ∀ j, V c (Pipeline.arrRef spec1 14) (ix2 (n0 := 8) (n1 := 1024) 1 j) = (I.scc j : EReal)
  m4 : ∀ j, V c (Pipeline.arrRef spec1 14) (ix2 (n0 := 8) (n1 := 1024) 4 j) = (I.sc j : EReal)
  g : ∀ j, V c (Pipeline.arrRef spec1 15) (ix2 (n0 := 1) (n1 := 1024) 0 j) = (I.g j : EReal)

variable {V c}

theorem Arr1.blk (A : Arr1 V c I) (t : Fin cfg1.N) : At I V c t where
  dpc r j := by
    blk_simp [iblk1, idx1_0]
    exact (at2 (V c (Pipeline.arrRef spec1 0)) _ (row (grid1.coords t 0) r) j (by blk_simp [idx1_0]; rw [row1]) (by blk_simp [idx1_0])).trans (A.dpc _ _)
  dpr r j := by
    blk_simp [iblk1, idx1_1]
    exact (at2 (V c (Pipeline.arrRef spec1 1)) _ (row (grid1.coords t 0) r) j (by blk_simp [idx1_1]; rw [row1]) (by blk_simp [idx1_1])).trans (A.dpr _ _)
  pq r j := by
    blk_simp [iblk1, idx1_5]
    exact (at2 (V c (Pipeline.arrRef spec1 5)) _ (row (grid1.coords t 0) r) j (by blk_simp [idx1_5]; rw [row1]) (by blk_simp [idx1_5])).trans (A.pq _ _)
  cos r j := by
    blk_simp [iblk1, idx1_7]
    exact (at2 (V c (Pipeline.arrRef spec1 7)) _ (row (grid1.coords t 0) r) j (by blk_simp [idx1_7]; rw [row1]) (by blk_simp [idx1_7])).trans (A.cos _ _)
  sin r j := by
    blk_simp [iblk1, idx1_8]
    exact (at2 (V c (Pipeline.arrRef spec1 8)) _ (row (grid1.coords t 0) r) j (by blk_simp [idx1_8]; rw [row1]) (by blk_simp [idx1_8])).trans (A.sin _ _)
  x r j := by
    blk_simp [iblk1, idx1_12]
    exact (at2 (V c (Pipeline.arrRef spec1 12)) _ (row (grid1.coords t 0) r) j (by blk_simp [idx1_12]; rw [row1]) (by blk_simp [idx1_12])).trans (A.x _ _)
  cx r j := by
    blk_simp [iblk1, idx1_13]
    exact (at2 (V c (Pipeline.arrRef spec1 13)) _ (row (grid1.coords t 0) r) j (by blk_simp [idx1_13]; rw [row1]) (by blk_simp [idx1_13])).trans (A.cx _ _)
  dq a r l := by
    blk_simp [iblk1, idx1_2]
    exact (at3 (V c (Pipeline.arrRef spec1 2)) _ a (row (grid1.coords t 0) r) l (by blk_simp [idx1_2]) (by blk_simp [idx1_2]; rw [row1])
      (by blk_simp [idx1_2])).trans (A.dq _ _ _)
  dk a r l := by
    blk_simp [iblk1, idx1_3]
    exact (at3 (V c (Pipeline.arrRef spec1 3)) _ a (row (grid1.coords t 0) r) l (by blk_simp [idx1_3]) (by blk_simp [idx1_3]; rw [row1])
      (by blk_simp [idx1_3])).trans (A.dk _ _ _)
  dv a r l := by
    blk_simp [iblk1, idx1_4]
    exact (at3 (V c (Pipeline.arrRef spec1 4)) _ a (row (grid1.coords t 0) r) l (by blk_simp [idx1_4]) (by blk_simp [idx1_4]; rw [row1])
      (by blk_simp [idx1_4])).trans (A.dv _ _ _)
  wc d j := by
    blk_simp [iblk1, idx1_9]
    exact (at2 (V c (Pipeline.arrRef spec1 9)) _ d j (by blk_simp [idx1_9]) (by blk_simp [idx1_9])).trans (A.wc _ _)
  wr d j := by
    blk_simp [iblk1, idx1_10]
    exact (at2 (V c (Pipeline.arrRef spec1 10)) _ d j (by blk_simp [idx1_10]) (by blk_simp [idx1_10])).trans (A.wr _ _)
  wq d j := by
    blk_simp [iblk1, idx1_11]
    exact (at2 (V c (Pipeline.arrRef spec1 11)) _ d j (by blk_simp [idx1_11]) (by blk_simp [idx1_11])).trans (A.wq _ _)
  gq j := by
    blk_simp [iblk1, idx1_6]
    exact (at2 (V c (Pipeline.arrRef spec1 6)) _ 0 j (by blk_simp [idx1_6]) (by blk_simp [idx1_6])).trans (A.gq _)
  gk j := by
    blk_simp [iblk1, idx1_6]
    exact (at2 (V c (Pipeline.arrRef spec1 6)) _ 1 j (by blk_simp [idx1_6]) (by blk_simp [idx1_6])).trans (A.gk _)
  m1 j := by
    blk_simp [iblk1, idx1_14]
    exact (at2 (V c (Pipeline.arrRef spec1 14)) _ 1 j (by blk_simp [idx1_14]) (by blk_simp [idx1_14])).trans (A.m1 _)
  m4 j := by
    blk_simp [iblk1, idx1_14]
    exact (at2 (V c (Pipeline.arrRef spec1 14)) _ 4 j (by blk_simp [idx1_14]) (by blk_simp [idx1_14])).trans (A.m4 _)
  g j := by
    blk_simp [iblk1, idx1_15]
    exact (at2 (V c (Pipeline.arrRef spec1 15)) _ 0 j (by blk_simp [idx1_15]) (by blk_simp [idx1_15])).trans (A.g _)

theorem dpq_at (A : Arr1 V c I) (t : Fin cfg1.N) (r : Fin 768) (j : Fin 512) :
    (outsAt1 V c t.val t.isLt).2.1 (ix2 r j) = (I.dP (row (grid1.coords t 0) r) (cQ j) : EReal) := by
  by_cases h : t.val % 11 = 0
  · exact dpq_A t (A.blk t) h r j
  · exact dpq_B t (A.blk t) h r j
theorem dx_at (A : Arr1 V c I) (t : Fin cfg1.N) (r : Fin 768) (d : Fin 1024) :
    (outsAt1 V c t.val t.isLt).1 (ix2 r d) = (I.gX (row (grid1.coords t 0) r) d : EReal) := by
  by_cases h : t.val % 11 = 0
  · exact dx_A t (A.blk t) h r d
  · exact dx_B t (A.blk t) h r d

theorem arr16 (A : Arr1 V c I) (t : Fin 8448) (d : Fin 1024) :
    (dat1 V c).arrAt 16 cfg1.N (ix2 (n0 := 8448) (n1 := 1024) t d) = (I.gX t d : EReal) := by
  have := (dat1 V c).arrAt_eq_of_covers 16 (fun y : S8448x1024.Idx => (I.gX (y 0) (y 1) : EReal)) (by decide +kernel) fun t hf y => by
    obtain ⟨r, e, rfl⟩ : ∃ (r : Fin 768) (e : Fin 1024), y = ix2 r e := ⟨y 0, y 1, eq_ix2 (n0 := 768) (n1 := 1024) y⟩
    rw [after1_16]
    blk_simp [idx1_16]
    refine (dx_at A t r e).trans ?_
    exact (at2 (fun y : S8448x1024.Idx => (I.gX (y 0) (y 1) : EReal)) _ (row (grid1.coords t 0) r) e (by blk_simp [idx1_16]; rw [row1])
      (by blk_simp [idx1_16])).symm
  rw [this]; rfl

theorem arr17 (A : Arr1 V c I) (t : Fin 8448) (j : Fin 512) :
    (dat1 V c).arrAt 17 cfg1.N (ix2 (n0 := 8448) (n1 := 512) t j) = (I.dP t (cQ j) : EReal) := by
  have := (dat1 V c).arrAt_eq_of_covers 17 (fun y : S8448x512.Idx => (I.dP (y 0) (cQ (y 1)) : EReal)) (by decide +kernel) fun t hf y => by
    obtain ⟨r, e, rfl⟩ : ∃ (r : Fin 768) (e : Fin 512), y = ix2 r e := ⟨y 0, y 1, eq_ix2 (n0 := 768) (n1 := 512) y⟩
    rw [after1_17]
    blk_simp [idx1_17]
    refine (dpq_at A t r e).trans ?_
    exact (at2 (fun y : S8448x512.Idx => (I.dP (y 0) (cQ (y 1)) : EReal)) _ (row (grid1.coords t 0) r) e (by blk_simp [idx1_17]; rw [row1])
      (by blk_simp [idx1_17])).symm
  rw [this]; rfl

/-- The rows of all blocks are the array's rows. -/
theorem sum_rows_blocks (F : Fin 8448 → ℝ) : ∑ t, F t = ∑ n : Fin 11, ∑ r : Fin 768, F (row n r) := by
  refine ((finProdFinEquiv (m := 11) (n := 768)).sum_comp (fun i : Fin (11 * 768) => F i)).symm.trans ?_
  rw [Fintype.sum_prod_type]
  exact Finset.sum_congr rfl fun n _ => Finset.sum_congr rfl fun r _ => congrArg F (Fin.ext (by
    simp only [finProdFinEquiv_apply_val, row]; omega))

/-- An accumulation over the points, begun at the first. -/
theorem acc_total {N : ℕ} (hN : N = 11) (f : (n : ℕ) → n < N → EReal) (T : Fin 11 → ℝ) (hA : ∀ h, f 0 h = (T 0 : EReal))
    (hB : ∀ n (h : n + 1 < N) (h' : n < N), f (n + 1) h = f n h' + (T ⟨n + 1, by omega⟩ : EReal)) (h : 10 < N) :
    f 10 h = ((∑ n, T n : ℝ) : EReal) := by
  subst hN
  rw [hB 9 (by decide) (by decide), hB 8 (by decide) (by decide), hB 7 (by decide) (by decide), hB 6 (by decide) (by decide),
    hB 5 (by decide) (by decide), hB 4 (by decide) (by decide), hB 3 (by decide) (by decide), hB 2 (by decide) (by decide),
    hB 1 (by decide) (by decide), hB 0 (by decide) (by decide), hA]
  simp only [Fin.sum_univ_succ, Fin.sum_univ_zero, add_zero, EReal.coe_add]
  simp only [← add_assoc]
  rfl

theorem arr18 (k : Fin 8) (d : Fin 1024) : (dat1 V c).arrAt 18 cfg1.N (ix2 (n0 := 8) (n1 := 1024) k d)
    = (outsAt1 V c 10 (by decide)).2.2.1 (ix2 k d) := by
  have := (dat1 V c).arrAt_eq_of_after_last 18 t1_10 (by decide +kernel) ((outsAt1 V c 10 (by decide)).2.2.1) fun j => by
    blk_simp
    rw [after1_18]
    rfl
  rw [this]

theorem arr19 (k : Fin 8) (d : Fin 128) : (dat1 V c).arrAt 19 cfg1.N (ix2 (n0 := 8) (n1 := 128) k d)
    = (outsAt1 V c 10 (by decide)).2.2.2 (ix2 k d) := by
  have := (dat1 V c).arrAt_eq_of_after_last 19 t1_10 (by decide +kernel) ((outsAt1 V c 10 (by decide)).2.2.2) fun j => by
    blk_simp
    rw [after1_19]
    rfl
  rw [this]

theorem acc_all (A : Arr1 V c I) (F : Fin 8448 → ℝ) (g : (n : ℕ) → n < cfg1.N → EReal)
    (hA : ∀ t : Fin cfg1.N, At I V c t → t.val % 11 = 0 → g t.val t.isLt = ((∑ r, F (row (grid1.coords t 0) r) : ℝ) : EReal))
    (hB : ∀ t : Fin cfg1.N, At I V c t → ¬ t.val % 11 = 0 → g t.val t.isLt = g (t.val - 1) (Nat.lt_of_le_of_lt (Nat.sub_le _ _) t.isLt)
      + ((∑ r, F (row (grid1.coords t 0) r) : ℝ) : EReal)) (h : 10 < cfg1.N) : g 10 h = ((∑ t, F t : ℝ) : EReal) := by
  rw [sum_rows_blocks]
  refine acc_total (show cfg1.N = 11 from N_1) g (fun n => ∑ r, F (row n r)) (fun h => ?_) (fun n h h' => ?_) h
  · refine (hA ⟨0, h⟩ (A.blk _) rfl).trans ?_
    rw [show grid1.coords (⟨0, h⟩ : Fin cfg1.N) 0 = (0 : Fin 11) from Fin.ext (coords1 _)]
  · have h11 : n + 1 < 11 := lt_of_lt_of_eq h N_1
    refine (hB ⟨n + 1, h⟩ (A.blk _) (by simp only; omega)).trans ?_
    rw [show grid1.coords (⟨n + 1, h⟩ : Fin cfg1.N) 0 = (⟨n + 1, h11⟩ : Fin 11) from Fin.ext (coords1 _)]
    rfl

theorem acc0_total (A : Arr1 V c I) (d : Fin 1024) :
    (dat1 V c).arrAt 18 cfg1.N (ix2 (n0 := 8) (n1 := 1024) 0 d) = (I.gShc d : EReal) := by
  rw [arr18]
  exact acc_all A (fun t' => if (t' : ℕ) < 256 then I.dh t' d else 0) (fun n h => (outsAt1 V c n h).2.2.1 (ix2 0 d)) (fun t B h => acc0_A t B h d)
    (fun t B h => acc0_B t B h d) _

theorem acc1_total (A : Arr1 V c I) (d : Fin 1024) :
    (dat1 V c).arrAt 18 cfg1.N (ix2 (n0 := 8) (n1 := 1024) 1 d) = (I.gScc d : EReal) := by
  rw [arr18]
  exact acc_all A (fun t' => if (t' : ℕ) < 256 then I.dh t' d * (I.xn t' d * I.g d) else 0) (fun n h => (outsAt1 V c n h).2.2.1 (ix2 1 d)) (fun t B h => acc1_A t B h d)
    (fun t B h => acc1_B t B h d) _

theorem acc2_total (A : Arr1 V c I) (d : Fin 1024) :
    (dat1 V c).arrAt 18 cfg1.N (ix2 (n0 := 8) (n1 := 1024) 2 d) = (I.gSh d : EReal) := by
  rw [arr18]
  exact acc_all A (fun t' => if (t' : ℕ) < 256 then 0 else I.dh t' d) (fun n h => (outsAt1 V c n h).2.2.1 (ix2 2 d)) (fun t B h => acc2_A t B h d)
    (fun t B h => acc2_B t B h d) _

theorem acc3_total (A : Arr1 V c I) (d : Fin 1024) :
    (dat1 V c).arrAt 18 cfg1.N (ix2 (n0 := 8) (n1 := 1024) 3 d) = (I.gSc d : EReal) := by
  rw [arr18]
  exact acc_all A (fun t' => if (t' : ℕ) < 256 then 0 else I.dh t' d * (I.xn t' d * I.g d)) (fun n h => (outsAt1 V c n h).2.2.1 (ix2 3 d)) (fun t B h => acc3_A t B h d)
    (fun t B h => acc3_B t B h d) _

theorem acc4_total (A : Arr1 V c I) (d : Fin 1024) :
    (dat1 V c).arrAt 18 cfg1.N (ix2 (n0 := 8) (n1 := 1024) 4 d) = (I.gG d : EReal) := by
  rw [arr18]
  exact acc_all A (fun t' => I.dh t' d * (1 + I.SC t' d) * I.xn t' d) (fun n h => (outsAt1 V c n h).2.2.1 (ix2 4 d)) (fun t B h => acc4_A t B h d)
    (fun t B h => acc4_B t B h d) _

theorem gain0_total (A : Arr1 V c I) (l : Fin 128) :
    (dat1 V c).arrAt 19 cfg1.N (ix2 (n0 := 8) (n1 := 128) 0 l)
      = ((∑ t' : Fin 8448, (I.dxg t' (hd 0 (by decide) l) (lw l) * I.xh t' (hd 0 (by decide) l) (lw l) + I.dxg t' (hd 1 (by decide) l) (lw l) * I.xh t' (hd 1 (by decide) l) (lw l)) : ℝ) : EReal) := by
  rw [arr19]
  exact acc_all A (fun t' => I.dxg t' (hd 0 (by decide) l) (lw l) * I.xh t' (hd 0 (by decide) l) (lw l) + I.dxg t' (hd 1 (by decide) l) (lw l) * I.xh t' (hd 1 (by decide) l) (lw l)) (fun n h => (outsAt1 V c n h).2.2.2 (ix2 0 l)) (fun t B h => gain0_A t B h l)
    (fun t B h => gain0_B t B h l) _

theorem gain1_total (A : Arr1 V c I) (l : Fin 128) :
    (dat1 V c).arrAt 19 cfg1.N (ix2 (n0 := 8) (n1 := 128) 1 l)
      = ((∑ t' : Fin 8448, (I.dxg t' (hd 2 (by decide) l) (lw l) * I.xh t' (hd 2 (by decide) l) (lw l)) : ℝ) : EReal) := by
  rw [arr19]
  exact acc_all A (fun t' => I.dxg t' (hd 2 (by decide) l) (lw l) * I.xh t' (hd 2 (by decide) l) (lw l)) (fun n h => (outsAt1 V c n h).2.2.2 (ix2 1 l)) (fun t B h => gain1_A t B h l)
    (fun t B h => gain1_B t B h l) _

end

end Cert.InProj
-- ==== Proof.HC.lean ====
module

public import proofs.«01_k».proof.Proof.HA
public import proofs.«01_k».proof.Proof.K1Arr

/-! # Between the launches, and after them -/

@[expose] public section

set_option maxRecDepth 16384

namespace Cert.InProj

open Idealize.ShloMosaic Idealize.ShloMosaic.TcCoe Cert.KernelIdeal Cert.KernelIdeal.Gen Tile

noncomputable section

variable {I : Inp}

theorem dP_cp (t : Fin 8448) (j : Fin 3328) (k : Fin 2560) (h : (j : ℕ) = k) : I.dP t j = I.cp t k := by
  rw [Inp.dP, dif_pos (by omega)]
  exact congrArg (I.cp t) (Fin.ext h)
theorem dP_cg (t : Fin 8448) (j : Fin 3328) (k : Fin 256) (h : (j : ℕ) = 3072 + k) : I.dP t j = I.cg t k := by
  rw [Inp.dP, dif_neg (by omega), dif_neg (by omega), dif_neg (by omega)]
  exact congrArg (I.cg t) (Fin.ext (by simp only [h]; omega))

theorem h1_v89 (X : Valuation τ sig (Elt Ideal)) (h9 : ∀ t j, X (Proc.devRef .tc main_arg9) (ix2 (n0 := 8448) (n1 := 2560) t j) = (I.cp t j : EReal))
    (t : Fin 8448) (j : Fin 1024) : StableHlo.after hostOps1 X (Proc.devRef .tc main_v89) (ix2 (n0 := 8448) (n1 := 1024) t j) = (I.dP t (cC j) : EReal) := by
  unfold_abbrev_sides
  after_results
  pointwise
  split_ifs with h
  · exact (h9 _ _).trans (congrArg _ (dP_cp t _ _ (by rw [cC, if_pos h])).symm)
  · exact (h9 _ _).trans (congrArg _ (dP_cp t _ _ (by rw [cC, if_neg h])).symm)
  · exact absurd rfl ‹¬ _›

theorem h1_v94 (X : Valuation τ sig (Elt Ideal)) (h9 : ∀ t j, X (Proc.devRef .tc main_arg9) (ix2 (n0 := 8448) (n1 := 2560) t j) = (I.cp t j : EReal))
    (h13 : ∀ t j, X (Proc.devRef .tc main_arg13) (ix2 (n0 := 8448) (n1 := 256) t j) = (I.cg t j : EReal))
    (t : Fin 8448) (j : Fin 1792) : StableHlo.after hostOps1 X (Proc.devRef .tc main_v94) (ix2 (n0 := 8448) (n1 := 1792) t j) = (I.dP t (cR j) : EReal) := by
  unfold_abbrev_sides
  after_results
  pointwise
  split_ifs
  all_goals
    first
    | omega
    | (generalize_proofs
       after_results_loop
       pointwise
       first
       | exact (h9 _ _).trans (congrArg _ (dP_cp t _ _ (by rw [cR]; split_ifs <;> simp only <;> omega)).symm)
       | exact (h13 _ _).trans (congrArg _ (dP_cg t _ _ (by rw [cR]; split_ifs <;> simp only <;> omega)).symm))

theorem h1_v98 (X : Valuation τ sig (Elt Ideal)) (h : ∀ t j, X (Proc.devRef .tc main_arg10) (ix2 (n0 := 8448) (n1 := 256) t j) = (I.cq t j : EReal))
    (a : Fin 4) (t : Fin 8448) (l : Fin 128) : StableHlo.after hostOps1 X (Proc.devRef .tc main_v98) (ix3 (n0 := 4) (n1 := 8448) (n2 := 128) a t l)
      = ((if hi l = 0 then I.cq t ⟨64 * a + lw l, by omega⟩ else 0 : ℝ) : EReal) := by
  unfold_abbrev_sides
  after_results
  pointwise
  have e : (hi l = 0) ↔ (l : ℕ) < 64 := by rw [Fin.ext_iff]; simp only [hi, Fin.val_zero]; omega
  split_ifs with h₁ h₂ h₂
  · refine (h _ _).trans (congrArg (fun q => (I.cq t q : EReal)) (Fin.ext ?_))
    simp only [lw]
    omega
  · exact absurd (e.2 h₁) h₂
  · exact absurd (e.1 h₂) h₁
  · first | exact EReal.coe_zero.symm | exact c_zero

theorem h1_v102 (X : Valuation τ sig (Elt Ideal)) (h : ∀ t j, X (Proc.devRef .tc main_arg11) (ix2 (n0 := 8448) (n1 := 128) t j) = (I.ck t j : EReal))
    (a : Fin 2) (t : Fin 8448) (l : Fin 128) : StableHlo.after hostOps1 X (Proc.devRef .tc main_v102) (ix3 (n0 := 2) (n1 := 8448) (n2 := 128) a t l)
      = ((if hi l = 0 then I.ck t ⟨64 * a + lw l, by omega⟩ else 0 : ℝ) : EReal) := by
  unfold_abbrev_sides
  after_results
  pointwise
  have e : (hi l = 0) ↔ (l : ℕ) < 64 := by rw [Fin.ext_iff]; simp only [hi, Fin.val_zero]; omega
  split_ifs with h₁ h₂ h₂
  · refine (h _ _).trans (congrArg (fun q => (I.ck t q : EReal)) (Fin.ext ?_))
    simp only [lw]
    omega
  · exact absurd (e.2 h₁) h₂
  · exact absurd (e.1 h₂) h₁
  · first | exact EReal.coe_zero.symm | exact c_zero

theorem h1_v106 (X : Valuation τ sig (Elt Ideal)) (h : ∀ t j, X (Proc.devRef .tc main_arg12) (ix2 (n0 := 8448) (n1 := 128) t j) = (I.cv t j : EReal))
    (a : Fin 2) (t : Fin 8448) (l : Fin 128) : StableHlo.after hostOps1 X (Proc.devRef .tc main_v106) (ix3 (n0 := 2) (n1 := 8448) (n2 := 128) a t l)
      = ((if hi l = 0 then I.cv t ⟨64 * a + lw l, by omega⟩ else 0 : ℝ) : EReal) := by
  unfold_abbrev_sides
  after_results
  pointwise
  have e : (hi l = 0) ↔ (l : ℕ) < 64 := by rw [Fin.ext_iff]; simp only [hi, Fin.val_zero]; omega
  split_ifs with h₁ h₂ h₂
  · refine (h _ _).trans (congrArg (fun q => (I.cv t q : EReal)) (Fin.ext ?_))
    simp only [lw]
    omega
  · exact absurd (e.2 h₁) h₂
  · exact absurd (e.1 h₂) h₁
  · first | exact EReal.coe_zero.symm | exact c_zero

theorem h1_v107 (X : Valuation τ sig (Elt Ideal)) (d : Fin 1024) :
    StableHlo.after hostOps1 X (Proc.devRef .tc main_v107) (ix2 (n0 := 1) (n1 := 1024) 0 d) = X (Proc.devRef .tc main_arg5) (ix1 (n0 := 1024) d) := by
  unfold_abbrev_sides
  after_results
  pointwise

theorem h3_v116 (X : Valuation τ sig (Elt Ideal)) (hC : ∀ d j, X (Proc.devRef .tc main_v109_0) (ix2 (n0 := 1024) (n1 := 1024) d j) = (I.gW d (cC j) : EReal))
    (hR : ∀ d j, X (Proc.devRef .tc main_v109_1) (ix2 (n0 := 1024) (n1 := 1792) d j) = (I.gW d (cR j) : EReal))
    (hQ : ∀ d j, X (Proc.devRef .tc main_v109_2) (ix2 (n0 := 1024) (n1 := 512) d j) = (I.gW d (cQ j) : EReal))
    (d : Fin 1024) (j : Fin 3328) : StableHlo.after hostOps3 X (Proc.devRef .tc main_v116) (ix2 (n0 := 1024) (n1 := 3328) d j) = (I.gW d j : EReal) := by
  unfold_abbrev_sides
  after_results
  pointwise
  split_ifs
  all_goals
    first
    | omega
    | (generalize_proofs
       after_results_loop
       pointwise
       first
       | exact (hC _ _).trans (congrArg (fun q => (I.gW d q : EReal)) (Fin.ext (by unfold cC; split_ifs <;> first | omega | (simp only; omega) | (simp only at * <;> omega))))
       | exact (hR _ _).trans (congrArg (fun q => (I.gW d q : EReal)) (Fin.ext (by unfold cR; split_ifs <;> first | omega | (simp only; omega) | (simp only at * <;> omega))))
       | exact (hQ _ _).trans (congrArg (fun q => (I.gW d q : EReal)) (Fin.ext (by simp only [cQ]; omega))))

theorem h3_v118 (X : Valuation τ sig (Elt Ideal)) (d : Fin 1024) :
    StableHlo.after hostOps3 X (Proc.devRef .tc main_v118) (ix1 (n0 := 1024) d) = X (Proc.devRef .tc main_v108_2) (ix2 (n0 := 8) (n1 := 1024) 0 d) := by
  unfold_abbrev_sides
  after_results
  pointwise

theorem h3_v120 (X : Valuation τ sig (Elt Ideal)) (d : Fin 1024) :
    StableHlo.after hostOps3 X (Proc.devRef .tc main_v120) (ix1 (n0 := 1024) d) = X (Proc.devRef .tc main_v108_2) (ix2 (n0 := 8) (n1 := 1024) 1 d) := by
  unfold_abbrev_sides
  after_results
  pointwise

theorem h3_v122 (X : Valuation τ sig (Elt Ideal)) (d : Fin 1024) :
    StableHlo.after hostOps3 X (Proc.devRef .tc main_v122) (ix1 (n0 := 1024) d) = X (Proc.devRef .tc main_v108_2) (ix2 (n0 := 8) (n1 := 1024) 2 d) := by
  unfold_abbrev_sides
  after_results
  pointwise

theorem h3_v124 (X : Valuation τ sig (Elt Ideal)) (d : Fin 1024) :
    StableHlo.after hostOps3 X (Proc.devRef .tc main_v124) (ix1 (n0 := 1024) d) = X (Proc.devRef .tc main_v108_2) (ix2 (n0 := 8) (n1 := 1024) 3 d) := by
  unfold_abbrev_sides
  after_results
  pointwise

theorem h3_v126 (X : Valuation τ sig (Elt Ideal)) (d : Fin 1024) :
    StableHlo.after hostOps3 X (Proc.devRef .tc main_v126) (ix1 (n0 := 1024) d) = X (Proc.devRef .tc main_v108_2) (ix2 (n0 := 8) (n1 := 1024) 4 d) := by
  unfold_abbrev_sides
  after_results
  pointwise

theorem h3_v131 (X : Valuation τ sig (Elt Ideal)) (e : Fin 64) :
    StableHlo.after hostOps3 X (Proc.devRef .tc main_v131) (ix1 (n0 := 64) e)
      = @HAdd.hAdd EReal EReal EReal _ (X (Proc.devRef .tc main_v108_3) (ix2 (n0 := 8) (n1 := 128) 0 ⟨e, by omega⟩))
        (X (Proc.devRef .tc main_v108_3) (ix2 (n0 := 8) (n1 := 128) 0 ⟨64 + e, by omega⟩)) := by
  unfold_abbrev_sides
  after_results
  pointwise
  rfl

theorem h3_v136 (X : Valuation τ sig (Elt Ideal)) (e : Fin 64) :
    StableHlo.after hostOps3 X (Proc.devRef .tc main_v136) (ix1 (n0 := 64) e)
      = @HAdd.hAdd EReal EReal EReal _ (X (Proc.devRef .tc main_v108_3) (ix2 (n0 := 8) (n1 := 128) 1 ⟨e, by omega⟩))
        (X (Proc.devRef .tc main_v108_3) (ix2 (n0 := 8) (n1 := 128) 1 ⟨64 + e, by omega⟩)) := by
  unfold_abbrev_sides
  after_results
  pointwise
  rfl

end

end Cert.InProj
-- ==== Proof.K2.lean ====
module

public import proofs.«01_k».proof.Proof.Gen.KernelIdeal.Frame.Region2
public import proofs.«01_k».proof.Proof.K1Arr

/-! # The third launch: the weight's gradient -/

@[expose] public section

set_option maxRecDepth 16384

namespace Cert.InProj

open Idealize.ShloMosaic Idealize.ShloMosaic.TcCoe Cert.KernelIdeal Cert.KernelIdeal.Gen Tile

noncomputable section

theorem coords2 (t : Fin cfg2.N) : ((grid2.coords t 0 : Fin 11) : ℕ) = t.val := (by decide +kernel : ∀ t : Fin grid2.N, ((grid2.coords t 0 : Fin 11) : ℕ) = t.val) t
theorem row2 (t : Fin cfg2.N) (r : Fin 768) : (row (grid2.coords t 0) r : ℕ) = t.val * 768 + r := by
  simp only [row, coords2]; omega
theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![t.val, 0] := (by decide +kernel : ∀ t : Fin grid2.N, _)
theorem idx2_3 : ∀ t : Fin cfg2.N, win2_3.index t = ![t.val, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![0, 0] := (by decide +kernel : ∀ t : Fin grid2.N, _)

/-- The third launch's blocks at point `n`. -/
structure Blk2 (I : Inp) (n : Fin 11) (x0 x1 : Vec Ideal S768x1024 .bf16) (x2 : Vec Ideal S768x1792 .bf16) (x3 : Vec Ideal S768x512 .bf16) : Prop where
  h : ∀ r d, x0 (ix2 r d) = (I.h (row n r) d : EReal)
  dpc : ∀ r j, x1 (ix2 r j) = (I.dP (row n r) (cC j) : EReal)
  dpr : ∀ r j, x2 (ix2 r j) = (I.dP (row n r) (cR j) : EReal)
  dpq : ∀ r j, x3 (ix2 r j) = (I.dP (row n r) (cQ j) : EReal)

variable {I : Inp} (V : (c : Dev nD) → (b : Ref sig .tc) → Buf (Elt Ideal) ((c : Thread nD τ).loc b)) (c : Dev nD)

/-- What the launch finds in its arrays. -/
structure Arr2 (I : Inp) : Prop where
  h : ∀ t d, V c (Pipeline.arrRef spec2 0) (ix2 (n0 := 8448) (n1 := 1024) t d) = (I.h t d : EReal)
  dpc : ∀ t j, V c (Pipeline.arrRef spec2 1) (ix2 (n0 := 8448) (n1 := 1024) t j) = (I.dP t (cC j) : EReal)
  dpr : ∀ t j, V c (Pipeline.arrRef spec2 2) (ix2 (n0 := 8448) (n1 := 1792) t j) = (I.dP t (cR j) : EReal)
  dpq : ∀ t j, V c (Pipeline.arrRef spec2 3) (ix2 (n0 := 8448) (n1 := 512) t j) = (I.dP t (cQ j) : EReal)

variable {V c}

abbrev At2 (I : Inp) (V : (c : Dev nD) → (b : Ref sig .tc) → Buf (Elt Ideal) ((c : Thread nD τ).loc b)) (c : Dev nD) (t : Fin cfg2.N) : Prop :=
  Blk2 I (grid2.coords t 0) (iblk2 V c 0 t) (iblk2 V c 1 t) (iblk2 V c 2 t) (iblk2 V c 3 t)

theorem Arr2.blk (A : Arr2 V c I) (t : Fin cfg2.N) : At2 I V c t where
  h r j := by
    blk_simp [iblk2, idx2_0]
    exact (at2 (V c (Pipeline.arrRef spec2 0)) _ (row (grid2.coords t 0) r) j (by blk_simp [idx2_0]; rw [row2]) (by blk_simp [idx2_0])).trans (A.h _ _)
  dpc r j := by
    blk_simp [iblk2, idx2_1]
    exact (at2 (V c (Pipeline.arrRef spec2 1)) _ (row (grid2.coords t 0) r) j (by blk_simp [idx2_1]; rw [row2]) (by blk_simp [idx2_1])).trans (A.dpc _ _)
  dpr r j := by
    blk_simp [iblk2, idx2_2]
    exact (at2 (V c (Pipeline.arrRef spec2 2)) _ (row (grid2.coords t 0) r) j (by blk_simp [idx2_2]; rw [row2]) (by blk_simp [idx2_2])).trans (A.dpr _ _)
  dpq r j := by
    blk_simp [iblk2, idx2_3]
    exact (at2 (V c (Pipeline.arrRef spec2 3)) _ (row (grid2.coords t 0) r) j (by blk_simp [idx2_3]; rw [row2]) (by blk_simp [idx2_3])).trans (A.dpq _ _)

theorem pay5_at (v3 : Vec Ideal S768x1024 .bf16) (v5 : Vec Ideal S1024x1024 .f32) (v7 : Vec Ideal S768x1024 .bf16) (d : Fin 1024) (j : Fin 1024) :
    k2_pay5 v3 v5 v7 (ix2 d j) = v5 (ix2 d j) + ∑ r : Fin 768, v3 (ix2 r d) * v7 (ix2 r j) := by
  pointwise [k2_pay5, k2_pay4]

theorem termC {n : Fin 11} {x0 x1 : Vec Ideal S768x1024 .bf16} {x2 : Vec Ideal S768x1792 .bf16} {x3 : Vec Ideal S768x512 .bf16}
    (B : Blk2 I n x0 x1 x2 x3) (d : Fin 1024) (j : Fin 1024) : ∑ r : Fin 768, x0 (ix2 r d) * x1 (ix2 r j)
      = ((∑ r, (fun t' => I.h t' d * I.dP t' (cC j)) (row n r) : ℝ) : EReal) := by
  simp only [B.h, B.dpc, coe_sum, EReal.coe_mul]

theorem gwC_A (t : Fin cfg2.N) (B : At2 I V c t) (hk : t.val % 11 = 0) (d : Fin 1024) (j : Fin 1024) :
    (outsAt2 V c t.val t.isLt).1 (ix2 d j) = ((∑ r, (fun t' => I.h t' d * I.dP t' (cC j)) (row (grid2.coords t 0) r) : ℝ) : EReal) := by
  rw [outsAt2_A V c t hk]
  frame_out
  rw [pay5_at, termC B]
  exact (congrArg (· + _) (c_zero : (k2_pay1 : FVec Ideal S1024x1024 .f32) (ix2 d j) = _)).trans (zero_add _)

theorem gwC_B (t : Fin cfg2.N) (B : At2 I V c t) (hk : ¬ t.val % 11 = 0) (d : Fin 1024) (j : Fin 1024) :
    (outsAt2 V c t.val t.isLt).1 (ix2 d j) = (outsAt2 V c (t.val - 1) (Nat.lt_of_le_of_lt (Nat.sub_le _ _) t.isLt)).1 (ix2 d j)
      + ((∑ r, (fun t' => I.h t' d * I.dP t' (cC j)) (row (grid2.coords t 0) r) : ℝ) : EReal) := by
  rw [outsAt2_B V c t hk]
  frame_out
  rw [pay5_at, termC B]

theorem arr2_4 (d : Fin 1024) (j : Fin 1024) : (dat2 V c).arrAt 4 cfg2.N (ix2 (n0 := 1024) (n1 := 1024) d j)
    = (outsAt2 V c 10 (by decide)).1 (ix2 d j) := by
  have := (dat2 V c).arrAt_eq_of_after_last 4 t2_10 (by decide +kernel) ((outsAt2 V c 10 (by decide)).1) fun j => by
    blk_simp
    rw [after2_4]
    rfl
  rw [this]

theorem pay6_at (v3 : Vec Ideal S768x1024 .bf16) (v5 : Vec Ideal S1024x1792 .f32) (v7 : Vec Ideal S768x1792 .bf16) (d : Fin 1024) (j : Fin 1792) :
    k2_pay6 v3 v5 v7 (ix2 d j) = v5 (ix2 d j) + ∑ r : Fin 768, v3 (ix2 r d) * v7 (ix2 r j) := by
  pointwise [k2_pay6, k2_pay4]

theorem termR {n : Fin 11} {x0 x1 : Vec Ideal S768x1024 .bf16} {x2 : Vec Ideal S768x1792 .bf16} {x3 : Vec Ideal S768x512 .bf16}
    (B : Blk2 I n x0 x1 x2 x3) (d : Fin 1024) (j : Fin 1792) : ∑ r : Fin 768, x0 (ix2 r d) * x2 (ix2 r j)
      = ((∑ r, (fun t' => I.h t' d * I.dP t' (cR j)) (row n r) : ℝ) : EReal) := by
  simp only [B.h, B.dpr, coe_sum, EReal.coe_mul]

theorem gwR_A (t : Fin cfg2.N) (B : At2 I V c t) (hk : t.val % 11 = 0) (d : Fin 1024) (j : Fin 1792) :
    (outsAt2 V c t.val t.isLt).2.1 (ix2 d j) = ((∑ r, (fun t' => I.h t' d * I.dP t' (cR j)) (row (grid2.coords t 0) r) : ℝ) : EReal) := by
  rw [outsAt2_A V c t hk]
  frame_out
  rw [pay6_at, termR B]
  exact (congrArg (· + _) (c_zero : (k2_pay2 : FVec Ideal S1024x1792 .f32) (ix2 d j) = _)).trans (zero_add _)

theorem gwR_B (t : Fin cfg2.N) (B : At2 I V c t) (hk : ¬ t.val % 11 = 0) (d : Fin 1024) (j : Fin 1792) :
    (outsAt2 V c t.val t.isLt).2.1 (ix2 d j) = (outsAt2 V c (t.val - 1) (Nat.lt_of_le_of_lt (Nat.sub_le _ _) t.isLt)).2.1 (ix2 d j)
      + ((∑ r, (fun t' => I.h t' d * I.dP t' (cR j)) (row (grid2.coords t 0) r) : ℝ) : EReal) := by
  rw [outsAt2_B V c t hk]
  frame_out
  rw [pay6_at, termR B]

theorem arr2_5 (d : Fin 1024) (j : Fin 1792) : (dat2 V c).arrAt 5 cfg2.N (ix2 (n0 := 1024) (n1 := 1792) d j)
    = (outsAt2 V c 10 (by decide)).2.1 (ix2 d j) := by
  have := (dat2 V c).arrAt_eq_of_after_last 5 t2_10 (by decide +kernel) ((outsAt2 V c 10 (by decide)).2.1) fun j => by
    blk_simp
    rw [after2_5]
    rfl
  rw [this]

theorem pay7_at (v3 : Vec Ideal S768x1024 .bf16) (v5 : Vec Ideal S1024x512 .f32) (v7 : Vec Ideal S768x512 .bf16) (d : Fin 1024) (j : Fin 512) :
    k2_pay7 v3 v5 v7 (ix2 d j) = v5 (ix2 d j) + ∑ r : Fin 768, v3 (ix2 r d) * v7 (ix2 r j) := by
  pointwise [k2_pay7, k2_pay4]

theorem termQ {n : Fin 11} {x0 x1 : Vec Ideal S768x1024 .bf16} {x2 : Vec Ideal S768x1792 .bf16} {x3 : Vec Ideal S768x512 .bf16}
    (B : Blk2 I n x0 x1 x2 x3) (d : Fin 1024) (j : Fin 512) : ∑ r : Fin 768, x0 (ix2 r d) * x3 (ix2 r j)
      = ((∑ r, (fun t' => I.h t' d * I.dP t' (cQ j)) (row n r) : ℝ) : EReal) := by
  simp only [B.h, B.dpq, coe_sum, EReal.coe_mul]

theorem gwQ_A (t : Fin cfg2.N) (B : At2 I V c t) (hk : t.val % 11 = 0) (d : Fin 1024) (j : Fin 512) :
    (outsAt2 V c t.val t.isLt).2.2 (ix2 d j) = ((∑ r, (fun t' => I.h t' d * I.dP t' (cQ j)) (row (grid2.coords t 0) r) : ℝ) : EReal) := by
  rw [outsAt2_A V c t hk]
  frame_out
  rw [pay7_at, termQ B]
  exact (congrArg (· + _) (c_zero : (k2_pay3 : FVec Ideal S1024x512 .f32) (ix2 d j) = _)).trans (zero_add _)

theorem gwQ_B (t : Fin cfg2.N) (B : At2 I V c t) (hk : ¬ t.val % 11 = 0) (d : Fin 1024) (j : Fin 512) :
    (outsAt2 V c t.val t.isLt).2.2 (ix2 d j) = (outsAt2 V c (t.val - 1) (Nat.lt_of_le_of_lt (Nat.sub_le _ _) t.isLt)).2.2 (ix2 d j)
      + ((∑ r, (fun t' => I.h t' d * I.dP t' (cQ j)) (row (grid2.coords t 0) r) : ℝ) : EReal) := by
  rw [outsAt2_B V c t hk]
  frame_out
  rw [pay7_at, termQ B]

theorem arr2_6 (d : Fin 1024) (j : Fin 512) : (dat2 V c).arrAt 6 cfg2.N (ix2 (n0 := 1024) (n1 := 512) d j)
    = (outsAt2 V c 10 (by decide)).2.2 (ix2 d j) := by
  have := (dat2 V c).arrAt_eq_of_after_last 6 t2_10 (by decide +kernel) ((outsAt2 V c 10 (by decide)).2.2) fun j => by
    blk_simp
    rw [after2_6]
    rfl
  rw [this]

theorem acc_all2 (A : Arr2 V c I) (F : Fin 8448 → ℝ) (g : (n : ℕ) → n < cfg2.N → EReal)
    (hA : ∀ t : Fin cfg2.N, At2 I V c t → t.val % 11 = 0 → g t.val t.isLt = ((∑ r, F (row (grid2.coords t 0) r) : ℝ) : EReal))
    (hB : ∀ t : Fin cfg2.N, At2 I V c t → ¬ t.val % 11 = 0 → g t.val t.isLt = g (t.val - 1) (Nat.lt_of_le_of_lt (Nat.sub_le _ _) t.isLt)
      + ((∑ r, F (row (grid2.coords t 0) r) : ℝ) : EReal)) (h : 10 < cfg2.N) : g 10 h = ((∑ t, F t : ℝ) : EReal) := by
  rw [sum_rows_blocks]
  refine acc_total (show cfg2.N = 11 from N_2) g (fun n => ∑ r, F (row n r)) (fun h => ?_) (fun n h h' => ?_) h
  · refine (hA ⟨0, h⟩ (A.blk _) rfl).trans ?_
    rw [show grid2.coords (⟨0, h⟩ : Fin cfg2.N) 0 = (0 : Fin 11) from Fin.ext (coords2 _)]
  · have h11 : n + 1 < 11 := lt_of_lt_of_eq h N_2
    refine (hB ⟨n + 1, h⟩ (A.blk _) (by simp only; omega)).trans ?_
    rw [show grid2.coords (⟨n + 1, h⟩ : Fin cfg2.N) 0 = (⟨n + 1, h11⟩ : Fin 11) from Fin.ext (coords2 _)]
    rfl

theorem gwC_total (A : Arr2 V c I) (d : Fin 1024) (j : Fin 1024) :
    (dat2 V c).arrAt 4 cfg2.N (ix2 (n0 := 1024) (n1 := 1024) d j) = (I.gW d (cC j) : EReal) := by
  rw [arr2_4]
  exact acc_all2 A (fun t' => I.h t' d * I.dP t' (cC j)) (fun n h => (outsAt2 V c n h).1 (ix2 d j)) (fun t B h => gwC_A t B h d j)
    (fun t B h => gwC_B t B h d j) _

theorem gwR_total (A : Arr2 V c I) (d : Fin 1024) (j : Fin 1792) :
    (dat2 V c).arrAt 5 cfg2.N (ix2 (n0 := 1024) (n1 := 1792) d j) = (I.gW d (cR j) : EReal) := by
  rw [arr2_5]
  exact acc_all2 A (fun t' => I.h t' d * I.dP t' (cR j)) (fun n h => (outsAt2 V c n h).2.1 (ix2 d j)) (fun t B h => gwR_A t B h d j)
    (fun t B h => gwR_B t B h d j) _

theorem gwQ_total (A : Arr2 V c I) (d : Fin 1024) (j : Fin 512) :
    (dat2 V c).arrAt 6 cfg2.N (ix2 (n0 := 1024) (n1 := 512) d j) = (I.gW d (cQ j) : EReal) := by
  rw [arr2_6]
  exact acc_all2 A (fun t' => I.h t' d * I.dP t' (cQ j)) (fun n h => (outsAt2 V c n h).2.2 (ix2 d j)) (fun t B h => gwQ_A t B h d j)
    (fun t B h => gwQ_B t B h d j) _

end

end Cert.InProj
-- ==== Proof.HD.lean ====
module

public import proofs.«01_k».proof.Proof.HB
public import proofs.«01_k».proof.Proof.HC
public import proofs.«01_k».proof.Proof.K0
public import proofs.«01_k».proof.Proof.K2

/-! # The whole program's arrays -/

@[expose] public section

set_option maxRecDepth 16384

namespace Cert.InProj

open Idealize.ShloMosaic Idealize.ShloMosaic.TcCoe Cert.KernelIdeal Cert.KernelIdeal.Gen Tile

noncomputable section

variable {I : Inp} (m : (ℓ : Loc nD τ sig) → Buf (Elt Ideal) ℓ) (ρ : Dev nD → PrngReg) (c : Dev nD)

/-- The argument arrays hold the reals `I`. -/
structure KArgs (I : Inp) : Prop where
  a0 : ∀ t d, m ((c : Thread nD τ).loc main_arg0) (ix2 (n0 := 8448) (n1 := 1024) t d) = (I.X t d : EReal)
  a1 : ∀ d, m ((c : Thread nD τ).loc main_arg1) (ix1 (n0 := 1024) d) = (I.shc d : EReal)
  a2 : ∀ d, m ((c : Thread nD τ).loc main_arg2) (ix1 (n0 := 1024) d) = (I.scc d : EReal)
  a3 : ∀ d, m ((c : Thread nD τ).loc main_arg3) (ix1 (n0 := 1024) d) = (I.sh d : EReal)
  a4 : ∀ d, m ((c : Thread nD τ).loc main_arg4) (ix1 (n0 := 1024) d) = (I.sc d : EReal)
  a5 : ∀ d, m ((c : Thread nD τ).loc main_arg5) (ix1 (n0 := 1024) d) = (I.g d : EReal)
  a6 : ∀ d j, m ((c : Thread nD τ).loc main_arg6) (ix2 (n0 := 1024) (n1 := 3328) d j) = (I.W d j : EReal)
  a7 : ∀ e, m ((c : Thread nD τ).loc main_arg7) (ix1 (n0 := 64) e) = (I.qg e : EReal)
  a8 : ∀ e, m ((c : Thread nD τ).loc main_arg8) (ix1 (n0 := 64) e) = (I.kg e : EReal)
  a9 : ∀ t j, m ((c : Thread nD τ).loc main_arg9) (ix2 (n0 := 8448) (n1 := 2560) t j) = (I.cp t j : EReal)
  a10 : ∀ t j, m ((c : Thread nD τ).loc main_arg10) (ix2 (n0 := 8448) (n1 := 256) t j) = (I.cq t j : EReal)
  a11 : ∀ t j, m ((c : Thread nD τ).loc main_arg11) (ix2 (n0 := 8448) (n1 := 128) t j) = (I.ck t j : EReal)
  a12 : ∀ t j, m ((c : Thread nD τ).loc main_arg12) (ix2 (n0 := 8448) (n1 := 128) t j) = (I.cv t j : EReal)
  a13 : ∀ t j, m ((c : Thread nD τ).loc main_arg13) (ix2 (n0 := 8448) (n1 := 256) t j) = (I.cg t j : EReal)
  a14 : ∀ t d, m ((c : Thread nD τ).loc main_arg14) (ix2 (n0 := 8448) (n1 := 1024) t d) = (I.cx t d : EReal)

theorem W5_from1 (r : Ref sig .tc) (h1 : r ∉ hostOps0_1_W) (h2 : r ∉ hostOps0_2_W) (h3 : r ∉ hostOps0_3_W) (h4 : r ∉ hostOps0_4_W) :
    W5 m ρ c (Proc.devRef .tc r) = W1 m ρ c (Proc.devRef .tc r) :=
  (W5_of m ρ c r h4).trans ((W4_of m ρ c r h3).trans ((W3_of m ρ c r h2).trans (W2_of m ρ c r h1)))
theorem W7_from5 (r : Ref sig .tc) (h : r ∉ hostOps1_W) (h' : ∀ w : Fin cfg0.W, Pipeline.arrRef spec0 w = r → (cfg0.win w).isOut = false) :
    W7 m ρ c (Proc.devRef .tc r) = W5 m ρ c (Proc.devRef .tc r) :=
  (W7_of m ρ c r h).trans (W6_of m ρ c r h')

/-! ## The rotary tables -/

theorem freq_lw (l : Fin 128) : freq (lw l) = freq l := by
  simp only [freq, lw]
  rw [Nat.mod_mod_of_dvd _ (by norm_num)]

theorem cos_at (t : Fin 8448) (l : Fin 128) :
    W5 m ρ c (Proc.devRef .tc main_v73) (ix2 (n0 := 8448) (n1 := 128) t l) = (CS t (lw l) : EReal) := by
  refine (congrFun ((W5_of m ρ c main_v73 (by decide)).trans (W4_of m ρ c main_v73 (by decide))) _).trans ((h2_v73 _ t l).trans ?_)
  rw [CS]
  split_ifs with h
  · exact (congrFun (W2_of m ρ c main_v66 (by decide)) _).trans (h0_v66 _ _ _)
  · refine (h1_v71 _ _ _ _).trans ?_
    rw [show W1 m ρ c (Proc.devRef .tc main_v0) (ix3 (n0 := 1) (n1 := 1) (n2 := 128) 0 0 l) = _ from h0_v0 _ l,
      show W1 m ρ c (Proc.devRef .tc main_v68) (ix3 (n0 := 128) (n1 := 1) (n2 := 128) _ 0 l) = _ from h0_v68 _ _ l,
      show W1 m ρ c (Proc.devRef .tc main_v70) (ix3 (n0 := 1) (n1 := 64) (n2 := 128) 0 _ l) = _ from h0_v70 _ _ l, angle, freq_lw]
    by_cases hb : (l : ℕ) % 64 < 32
    · rw [show (if (l : ℕ) % 64 < 32 then (1#1 : BitVec 1) else 0#1) = 1#1 from if_pos hb, if_pos rfl]
      exact congrArg (fun z : ℝ => ((Real.cos (z * freq l) : ℝ) : EReal)) (if_pos (show (lw l : ℕ) < 32 from hb)).symm
    · rw [show (if (l : ℕ) % 64 < 32 then (1#1 : BitVec 1) else 0#1) = 0#1 from if_neg hb, if_neg (show ¬ (0#1 : BitVec 1) = 1#1 by decide)]
      exact congrArg (fun z : ℝ => ((Real.cos (z * freq l) : ℝ) : EReal)) (if_neg (show ¬ (lw l : ℕ) < 32 from hb)).symm

theorem sin_at (t : Fin 8448) (l : Fin 128) :
    W5 m ρ c (Proc.devRef .tc main_v83) (ix2 (n0 := 8448) (n1 := 128) t l) = (((if (lw l : ℕ) % 32 < 16 then -1 else 1) * SN t (lw l) : ℝ) : EReal) := by
  refine (h4_v83 _ t l).trans ?_
  rw [SN]
  split_ifs with h h' h'
  · refine (congrFun (W4_of m ρ c main_v74 (by decide)) _).trans ((h2_v74 _ _ _).trans ?_)
    rw [mul_zero]
  · refine (congrFun (W4_of m ρ c main_v74 (by decide)) _).trans ((h2_v74 _ _ _).trans ?_)
    rw [mul_zero]
  all_goals
    have e2 : W4 m ρ c (Proc.devRef .tc main_v2) (ix2 (n0 := 1) (n1 := 128) 0 l) = ((if (l : ℕ) % 32 < 16 then -1 else 1 : ℝ) : EReal) :=
      (congrFun ((W4_of m ρ c main_v2 (by decide)).trans ((W3_of m ρ c main_v2 (by decide)).trans (W2_of m ρ c main_v2 (by decide)))) _).trans (h0_v2 _ l)
    have e1 : W3 m ρ c (Proc.devRef .tc main_v1) (ix3 (n0 := 1) (n1 := 1) (n2 := 128) 0 0 l) = if (l : ℕ) % 64 < 32 then 1#1 else 0#1 :=
      (congrFun ((W3_of m ρ c main_v1 (by decide)).trans (W2_of m ρ c main_v1 (by decide))) _).trans (h0_v1 _ l)
    have e76 (n : Fin 128) : W3 m ρ c (Proc.devRef .tc main_v76) (ix3 (n0 := 128) (n1 := 1) (n2 := 128) n 0 l) = ((Real.sin ((n : ℕ) * freq l) : ℝ) : EReal) :=
      (h2_v76 _ n l).trans ((congrArg Ideal.sin ((congrFun (W2_of m ρ c main_v54 (by decide)) _).trans (h0_v54 _ n l))).trans (Ideal.sin_coe _))
    have e78 (n : Fin 64) : W3 m ρ c (Proc.devRef .tc main_v78) (ix3 (n0 := 1) (n1 := 64) (n2 := 128) 0 n l) = ((Real.sin ((n : ℕ) * freq l) : ℝ) : EReal) :=
      (h2_v78 _ n l).trans ((congrArg Ideal.sin ((congrFun (W2_of m ρ c main_v65 (by decide)) _).trans (h0_v65 _ n l))).trans (Ideal.sin_coe _))
    have e79 (n : Fin 128) (k : Fin 64) : W4 m ρ c (Proc.devRef .tc main_v79) (ix3 (n0 := 128) (n1 := 64) (n2 := 128) n k l)
        = ((Real.sin ((if (l : ℕ) % 64 < 32 then ((n : ℕ) : ℝ) else ((k : ℕ) : ℝ)) * freq l) : ℝ) : EReal) := by
      refine (h3_v79 _ n k l).trans ?_
      rw [e1, e76, e78]
      by_cases hb : (l : ℕ) % 64 < 32
      · rw [show (if (l : ℕ) % 64 < 32 then (1#1 : BitVec 1) else 0#1) = 1#1 from if_pos hb, if_pos rfl, if_pos hb]
      · rw [show (if (l : ℕ) % 64 < 32 then (1#1 : BitVec 1) else 0#1) = 0#1 from if_neg hb, if_neg (show ¬ (0#1 : BitVec 1) = 1#1 by decide), if_neg hb]
    rw [e2, e79, ← EReal.coe_mul, angle, freq_lw]
    simp only [lw] at h' ⊢
    rw [Nat.mod_mod_of_dvd _ (by norm_num)] at h'
    first | rw [if_pos h'] | rw [if_neg h']
    rw [mul_comm]
    all_goals rfl

/-! ## The launches' arrays -/

variable {m c}

theorem arr0 (K : KArgs m c I) : Arr0 (V5 m ρ) c I where
  x0 t d := (congrFun (W5_args m ρ c main_arg0 (by decide)) _).trans (K.a0 t d)
  m0 d := (congrFun (W5_from1 m ρ c main_v22 (by decide) (by decide) (by decide) (by decide)) _).trans ((h0_v22_0 _ d).trans (K.a1 d))
  m1 d := (congrFun (W5_from1 m ρ c main_v22 (by decide) (by decide) (by decide) (by decide)) _).trans ((h0_v22_1 _ d).trans (K.a2 d))
  m3 d := (congrFun (W5_from1 m ρ c main_v22 (by decide) (by decide) (by decide) (by decide)) _).trans ((h0_v22_3 _ d).trans (K.a3 d))
  m4 d := (congrFun (W5_from1 m ρ c main_v22 (by decide) (by decide) (by decide) (by decide)) _).trans ((h0_v22_4 _ d).trans (K.a4 d))
  x2 d := (h4_v84 _ d).trans ((congrFun (W4_args m ρ c main_arg5 (by decide)) _).trans (K.a5 d))
  x5 d j := (congrFun (W5_from1 m ρ c main_v12 (by decide) (by decide) (by decide) (by decide)) _).trans ((h0_v12 _ d j).trans (K.a6 d _))

theorem W7_v32 : W7 m ρ c (Proc.devRef .tc main_v32) = W1 m ρ c (Proc.devRef .tc main_v32) :=
  (W7_from5 m ρ c main_v32 (by decide) (by decide +kernel)).trans (W5_from1 m ρ c main_v32 (by decide) (by decide) (by decide) (by decide))
theorem W7_v22 : W7 m ρ c (Proc.devRef .tc main_v22) = W1 m ρ c (Proc.devRef .tc main_v22) :=
  (W7_from5 m ρ c main_v22 (by decide) (by decide +kernel)).trans (W5_from1 m ρ c main_v22 (by decide) (by decide) (by decide) (by decide))

theorem arr1 (K : KArgs m c I) : Arr1 (V7 m ρ) c I where
  dpc t j := h1_v89 _ (fun t j => (congrFun (W6_args m ρ c main_arg9 (by decide)) _).trans (K.a9 t j)) t j
  dpr t j := h1_v94 _ (fun t j => (congrFun (W6_args m ρ c main_arg9 (by decide)) _).trans (K.a9 t j))
    (fun t j => (congrFun (W6_args m ρ c main_arg13 (by decide)) _).trans (K.a13 t j)) t j
  pq t j := (congrFun ((W7_of m ρ c main_v85_3 (by decide)).trans (W6_arr m ρ c 12)) _).trans (arr12 (arr0 ρ K) t j)
  cos t j := (congrFun (W7_from5 m ρ c main_v73 (by decide) (by decide +kernel)) _).trans (cos_at m ρ c t j)
  sin t j := (congrFun (W7_from5 m ρ c main_v83 (by decide) (by decide +kernel)) _).trans (sin_at m ρ c t j)
  x t j := (congrFun (W7_args m ρ c main_arg0 (by decide)) _).trans (K.a0 t j)
  cx t j := (congrFun (W7_args m ρ c main_arg14 (by decide)) _).trans (K.a14 t j)
  dq a t l := h1_v98 _ (fun t j => (congrFun (W6_args m ρ c main_arg10 (by decide)) _).trans (K.a10 t j)) a t l
  dk a t l := h1_v102 _ (fun t j => (congrFun (W6_args m ρ c main_arg11 (by decide)) _).trans (K.a11 t j)) a t l
  dv a t l := h1_v106 _ (fun t j => (congrFun (W6_args m ρ c main_arg12 (by decide)) _).trans (K.a12 t j)) a t l
  wc d j := (congrFun ((W7_from5 m ρ c main_v6 (by decide) (by decide +kernel)).trans
    (W5_from1 m ρ c main_v6 (by decide) (by decide) (by decide) (by decide))) _).trans ((h0_v6 _ d j).trans (K.a6 d _))
  wr d j := (congrFun ((W7_from5 m ρ c main_v11 (by decide) (by decide +kernel)).trans
    (W5_from1 m ρ c main_v11 (by decide) (by decide) (by decide) (by decide))) _).trans ((h0_v11 _ d j).trans (K.a6 d _))
  wq d j := (congrFun ((W7_from5 m ρ c main_v12 (by decide) (by decide +kernel)).trans
    (W5_from1 m ρ c main_v12 (by decide) (by decide) (by decide) (by decide))) _).trans ((h0_v12 _ d j).trans (K.a6 d _))
  gq j := (congrFun (W7_v32 ρ) _).trans ((h0_v32_0 _ j).trans (K.a7 _))
  gk j := (congrFun (W7_v32 ρ) _).trans ((h0_v32_1 _ j).trans (K.a8 _))
  m1 j := (congrFun (W7_v22 ρ) _).trans ((h0_v22_1 _ j).trans (K.a2 _))
  m4 j := (congrFun (W7_v22 ρ) _).trans ((h0_v22_4 _ j).trans (K.a4 _))
  g j := (h1_v107 _ j).trans ((congrFun (W6_args m ρ c main_arg5 (by decide)) _).trans (K.a5 j))

theorem arr2 (K : KArgs m c I) : Arr2 (V8 m ρ) c I where
  h t d := (congrFun ((W8_of m ρ c main_v85_0 (by decide +kernel)).trans ((W7_of m ρ c main_v85_0 (by decide)).trans (W6_arr m ρ c 9))) _).trans (arr9 (arr0 ρ K) t d)
  dpc t j := (congrFun (W8_of m ρ c main_v89 (by decide +kernel)) _).trans ((arr1 ρ K).dpc t j)
  dpr t j := (congrFun (W8_of m ρ c main_v94 (by decide +kernel)) _).trans ((arr1 ρ K).dpr t j)
  dpq t j := (congrFun (W8_arr m ρ c 17) _).trans (arr17 (arr1 ρ K) t j)

/-! ## The results -/

theorem out_dx (K : KArgs m c I) (t : Fin 8448) (d : Fin 1024) :
    W10 m ρ c (Proc.devRef .tc main_v108_0) (ix2 (n0 := 8448) (n1 := 1024) t d) = (I.gX t d : EReal) :=
  (congrFun ((W10_of m ρ c main_v108_0 (by decide)).trans ((W9_of m ρ c main_v108_0 (by decide +kernel)).trans (W8_arr m ρ c 16))) _).trans
    (arr16 (arr1 ρ K) t d)

theorem W9_acc : W9 m ρ c (Proc.devRef .tc main_v108_2) = (dat1 (V7 m ρ) c).arrAt 18 cfg1.N :=
  (W9_of m ρ c main_v108_2 (by decide +kernel)).trans (W8_arr m ρ c 18)
theorem W9_gain : W9 m ρ c (Proc.devRef .tc main_v108_3) = (dat1 (V7 m ρ) c).arrAt 19 cfg1.N :=
  (W9_of m ρ c main_v108_3 (by decide +kernel)).trans (W8_arr m ρ c 19)

theorem out_shc (K : KArgs m c I) (d : Fin 1024) : W10 m ρ c (Proc.devRef .tc main_v118) (ix1 (n0 := 1024) d) = (I.gShc d : EReal) :=
  (h3_v118 _ d).trans ((congrFun (W9_acc ρ) _).trans (acc0_total (arr1 ρ K) d))
theorem out_scc (K : KArgs m c I) (d : Fin 1024) : W10 m ρ c (Proc.devRef .tc main_v120) (ix1 (n0 := 1024) d) = (I.gScc d : EReal) :=
  (h3_v120 _ d).trans ((congrFun (W9_acc ρ) _).trans (acc1_total (arr1 ρ K) d))
theorem out_sh (K : KArgs m c I) (d : Fin 1024) : W10 m ρ c (Proc.devRef .tc main_v122) (ix1 (n0 := 1024) d) = (I.gSh d : EReal) :=
  (h3_v122 _ d).trans ((congrFun (W9_acc ρ) _).trans (acc2_total (arr1 ρ K) d))
theorem out_sc (K : KArgs m c I) (d : Fin 1024) : W10 m ρ c (Proc.devRef .tc main_v124) (ix1 (n0 := 1024) d) = (I.gSc d : EReal) :=
  (h3_v124 _ d).trans ((congrFun (W9_acc ρ) _).trans (acc3_total (arr1 ρ K) d))
theorem out_g (K : KArgs m c I) (d : Fin 1024) : W10 m ρ c (Proc.devRef .tc main_v126) (ix1 (n0 := 1024) d) = (I.gG d : EReal) :=
  (h3_v126 _ d).trans ((congrFun (W9_acc ρ) _).trans (acc4_total (arr1 ρ K) d))

theorem out_w (K : KArgs m c I) (d : Fin 1024) (j : Fin 3328) :
    W10 m ρ c (Proc.devRef .tc main_v116) (ix2 (n0 := 1024) (n1 := 3328) d j) = (I.gW d j : EReal) :=
  h3_v116 _ (fun d j => (congrFun (W9_arr m ρ c 4) _).trans (gwC_total (arr2 ρ K) d j))
    (fun d j => (congrFun (W9_arr m ρ c 5) _).trans (gwR_total (arr2 ρ K) d j))
    (fun d j => (congrFun (W9_arr m ρ c 6) _).trans (gwQ_total (arr2 ρ K) d j)) d j

theorem out_q (K : KArgs m c I) (e : Fin 64) : W10 m ρ c (Proc.devRef .tc main_v131) (ix1 (n0 := 64) e) = (I.gQ e : EReal) := by
  refine (h3_v131 _ e).trans ?_
  rw [show W9 m ρ c (Proc.devRef .tc main_v108_3) (ix2 (n0 := 8) (n1 := 128) 0 ⟨e, by omega⟩) = _ from (congrFun (W9_gain ρ) _).trans (gain0_total (arr1 ρ K) _),
    show W9 m ρ c (Proc.devRef .tc main_v108_3) (ix2 (n0 := 8) (n1 := 128) 0 ⟨64 + e, by omega⟩) = _ from (congrFun (W9_gain ρ) _).trans (gain0_total (arr1 ρ K) _),
    ← EReal.coe_add]
  refine congrArg _ ?_
  rw [← Finset.sum_add_distrib, Inp.gQ]
  refine Finset.sum_congr rfl fun t' _ => ?_
  have l0 : lw ⟨(e : ℕ), by omega⟩ = e := Fin.ext (by simp only [lw]; omega)
  have l1 : lw ⟨64 + (e : ℕ), by omega⟩ = e := Fin.ext (by simp only [lw]; omega)
  have a0 : hd 0 (by decide) ⟨(e : ℕ), by omega⟩ = 0 := Fin.ext (by simp only [hd, hi]; show _ = 0; omega)
  have a1 : hd 0 (by decide) ⟨64 + (e : ℕ), by omega⟩ = 1 := Fin.ext (by simp only [hd, hi]; show _ = 1; omega)
  have a2 : hd 1 (by decide) ⟨(e : ℕ), by omega⟩ = 2 := Fin.ext (by simp only [hd, hi]; show _ = 2; omega)
  have a3 : hd 1 (by decide) ⟨64 + (e : ℕ), by omega⟩ = 3 := Fin.ext (by simp only [hd, hi]; show _ = 3; omega)
  rw [l0, l1, a0, a1, a2, a3]
  simp only [Fin.sum_univ_succ, Fin.sum_univ_zero]
  simp
  ring

theorem out_k (K : KArgs m c I) (e : Fin 64) : W10 m ρ c (Proc.devRef .tc main_v136) (ix1 (n0 := 64) e) = (I.gK e : EReal) := by
  refine (h3_v136 _ e).trans ?_
  rw [show W9 m ρ c (Proc.devRef .tc main_v108_3) (ix2 (n0 := 8) (n1 := 128) 1 ⟨e, by omega⟩) = _ from (congrFun (W9_gain ρ) _).trans (gain1_total (arr1 ρ K) _),
    show W9 m ρ c (Proc.devRef .tc main_v108_3) (ix2 (n0 := 8) (n1 := 128) 1 ⟨64 + e, by omega⟩) = _ from (congrFun (W9_gain ρ) _).trans (gain1_total (arr1 ρ K) _),
    ← EReal.coe_add]
  refine congrArg _ ?_
  rw [← Finset.sum_add_distrib, Inp.gK]
  refine Finset.sum_congr rfl fun t' _ => ?_
  have l0 : lw ⟨(e : ℕ), by omega⟩ = e := Fin.ext (by simp only [lw]; omega)
  have l1 : lw ⟨64 + (e : ℕ), by omega⟩ = e := Fin.ext (by simp only [lw]; omega)
  have a2 : hd 2 (by decide) ⟨(e : ℕ), by omega⟩ = 4 := Fin.ext (by simp only [hd, hi]; show _ = 4; omega)
  have a3 : hd 2 (by decide) ⟨64 + (e : ℕ), by omega⟩ = 5 := Fin.ext (by simp only [hd, hi]; show _ = 5; omega)
  rw [l0, l1, a2, a3]
  simp only [Fin.sum_univ_succ, Fin.sum_univ_zero]
  simp

end

end Cert.InProj
-- ==== Proof.KRun.lean ====
module

public import proofs.«01_k».proof.Proof.Gen.KernelIdeal.Frame

/-! # The kernel's run: what the results hold at the end -/

@[expose] public section

-- membership in a rectangle of production extents (`View.cover_of_tiled`): the elaborator's structural look
-- recurses once per coordinate of the long axes
set_option maxRecDepth 16384

noncomputable section

namespace Cert.InProj

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result array the last valuation's, the arguments as launched and every counter at zero. -/
theorem run_values : θ_run defs (onTc (τ := τ) (main (F := F))) ⟨m, fun _ => 0, ρ⟩ (fun r => (∀ c : Dev nD,
      r.2.mem ((c.tc : Thread nD τ).loc main_v108_0) = W10 m ρ c (Proc.devRef .tc main_v108_0)
      ∧ r.2.mem ((c.tc : Thread nD τ).loc main_v118) = W10 m ρ c (Proc.devRef .tc main_v118)
      ∧ r.2.mem ((c.tc : Thread nD τ).loc main_v120) = W10 m ρ c (Proc.devRef .tc main_v120)
      ∧ r.2.mem ((c.tc : Thread nD τ).loc main_v122) = W10 m ρ c (Proc.devRef .tc main_v122)
      ∧ r.2.mem ((c.tc : Thread nD τ).loc main_v124) = W10 m ρ c (Proc.devRef .tc main_v124)
      ∧ r.2.mem ((c.tc : Thread nD τ).loc main_v126) = W10 m ρ c (Proc.devRef .tc main_v126)
      ∧ r.2.mem ((c.tc : Thread nD τ).loc main_v116) = W10 m ρ c (Proc.devRef .tc main_v116)
      ∧ r.2.mem ((c.tc : Thread nD τ).loc main_v131) = W10 m ρ c (Proc.devRef .tc main_v131)
      ∧ r.2.mem ((c.tc : Thread nD τ).loc main_v136) = W10 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨h c _ (mem_uc main_v108_0 (by decide)),
       h c _ (mem_uc main_v118 (by decide)),
       h c _ (mem_uc main_v120 (by decide)),
       h c _ (mem_uc main_v122 (by decide)),
       h c _ (mem_uc main_v124 (by decide)),
       h c _ (mem_uc main_v126 (by decide)),
       h c _ (mem_uc main_v116 (by decide)),
       h c _ (mem_uc main_v131 (by decide)),
       h c _ (mem_uc main_v136 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩), funext fun g => hz g (.inr (no_unscoped g.2))⟩)

end Cert.InProj
-- ==== Proof.RefA.lean ====
module

public import proofs.«01_k».proof.Proof.Gen.ReferenceIdeal.Run
public import proofs.«01_k».proof.Proof.Spec

/-! # The reference's intermediate arrays at real arguments: the forward pass -/

@[expose] public section

set_option maxRecDepth 16384

namespace Cert.InProj.Ref

open Idealize.ShloMosaic Cert.ReferenceIdeal Cert.ReferenceIdeal.Gen Cert.ReferenceIdeal.Value

noncomputable section

/-- Latent row `n`, context row `n`. -/
def lat (n : Fin 8192) : Fin 8448 := ⟨256 + n, by omega⟩
def ctx (n : Fin 256) : Fin 8448 := ⟨n, by omega⟩

/-- The reference's arguments are the reals of `I`. -/
structure Args (I : Inp) (V0 : Valuation τ sig (Elt Ideal)) : Prop where
  a0 : ∀ t d, V0 (Proc.tc.devRef main_arg0) (ix2 t d) = (I.X t d : EReal)
  a1 : ∀ d, V0 (Proc.tc.devRef main_arg1) (ix1 d) = (I.shc d : EReal)
  a2 : ∀ d, V0 (Proc.tc.devRef main_arg2) (ix1 d) = (I.scc d : EReal)
  a3 : ∀ d, V0 (Proc.tc.devRef main_arg3) (ix1 d) = (I.sh d : EReal)
  a4 : ∀ d, V0 (Proc.tc.devRef main_arg4) (ix1 d) = (I.sc d : EReal)
  a5 : ∀ d, V0 (Proc.tc.devRef main_arg5) (ix1 d) = (I.g d : EReal)
  a6 : ∀ d j, V0 (Proc.tc.devRef main_arg6) (ix2 d j) = (I.W d j : EReal)
  a7 : ∀ e, V0 (Proc.tc.devRef main_arg7) (ix1 e) = (I.qg e : EReal)
  a8 : ∀ e, V0 (Proc.tc.devRef main_arg8) (ix1 e) = (I.kg e : EReal)
  a9 : ∀ t j, V0 (Proc.tc.devRef main_arg9) (ix2 t j) = (I.cp t j : EReal)
  a10 : ∀ t j, V0 (Proc.tc.devRef main_arg10) (ix2 t j) = (I.cq t j : EReal)
  a11 : ∀ t j, V0 (Proc.tc.devRef main_arg11) (ix2 t j) = (I.ck t j : EReal)
  a12 : ∀ t j, V0 (Proc.tc.devRef main_arg12) (ix2 t j) = (I.cv t j : EReal)
  a13 : ∀ t j, V0 (Proc.tc.devRef main_arg13) (ix2 t j) = (I.cg t j : EReal)
  a14 : ∀ t d, V0 (Proc.tc.devRef main_arg14) (ix2 t d) = (I.cx t d : EReal)

theorem sitofp_real (n : ℕ) (h : n < 2 ^ 31) : (FloatOps.sitofp FTy.f32 (BitVec.ofNat 32 n) : Ideal FTy.f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-! ## The rotary tables -/

theorem v18_at (V0 : Valuation τ sig (Elt Ideal)) (e : Fin 16) : res_main_v18 V0 (ix1 e) = (freq e : EReal) := by
  pointwise [res_main_v18]
  rw [sitofp_real _ (by omega), c_two, c_32, c_1e4, ← EReal.coe_mul, div_real _ _ (by norm_num), Ideal.pow_coe_coe, ← EReal.coe_one,
    div_real _ (Real.rpow 10000 (2 * ((e : ℕ) : ℝ) / 32)) (Real.rpow_pos_of_pos (by norm_num) _).ne', freq]
  norm_num [Nat.mod_eq_of_lt e.2]

theorem v23_at (V0 : Valuation τ sig (Elt Ideal)) (n : Fin 8192) (e : Fin 16) :
    res_main_v23 V0 (ix2 n e) = ((((n : ℕ) / 64 : ℕ) * freq e : ℝ) : EReal) := by
  pointwise [res_main_v23]
  rw [sitofp_real _ (by omega), v18_at, ← EReal.coe_mul]
theorem v28_at (V0 : Valuation τ sig (Elt Ideal)) (n : Fin 8192) (e : Fin 16) :
    res_main_v28 V0 (ix2 n e) = ((((n : ℕ) % 64 : ℕ) * freq e : ℝ) : EReal) := by
  pointwise [res_main_v28]
  rw [sitofp_real _ (by omega), v18_at, ← EReal.coe_mul]

theorem CS_row (n : Fin 8192) (e : ℕ) (h : e < 32) : CS (lat n) e = Real.cos (((n : ℕ) / 64 : ℕ) * freq e) := by
  rw [CS, if_neg (by simp only [lat]; omega), angle, if_pos h]; simp only [lat, Nat.add_sub_cancel_left]
theorem SN_row (n : Fin 8192) (e : ℕ) (h : e < 32) : SN (lat n) e = Real.sin (((n : ℕ) / 64 : ℕ) * freq e) := by
  rw [SN, if_neg (by simp only [lat]; omega), angle, if_pos h]; simp only [lat, Nat.add_sub_cancel_left]
theorem CS_col (n : Fin 8192) (e : ℕ) (h : ¬ e < 32) : CS (lat n) e = Real.cos (((n : ℕ) % 64 : ℕ) * freq e) := by
  rw [CS, if_neg (by simp only [lat]; omega), angle, if_neg h]; simp only [lat, Nat.add_sub_cancel_left]
theorem SN_col (n : Fin 8192) (e : ℕ) (h : ¬ e < 32) : SN (lat n) e = Real.sin (((n : ℕ) % 64 : ℕ) * freq e) := by
  rw [SN, if_neg (by simp only [lat]; omega), angle, if_neg h]; simp only [lat, Nat.add_sub_cancel_left]
theorem freq_mod (a b : ℕ) (h : a % 16 = b % 16) : freq a = freq b := by rw [freq, freq, h]
theorem CS_ctx (n : Fin 256) (e : ℕ) : CS (ctx n) e = 1 := if_pos (by simp only [ctx]; omega)
theorem SN_ctx (n : Fin 256) (e : ℕ) : SN (ctx n) e = 0 := if_pos (by simp only [ctx]; omega)

theorem v30_at (V0 : Valuation τ sig (Elt Ideal)) (n : Fin 8192) (k : Fin 16) (e : ℕ) (h : e < 32) (he : (k : ℕ) % 16 = e % 16) :
    res_main_v30 V0 (ix3 n 0 k) = (CS (lat n) e : EReal) := by
  pointwise [res_main_v30]
  rw [v23_at, Ideal.cos_coe, CS_row n e h, freq_mod k e he]
theorem v32_at (V0 : Valuation τ sig (Elt Ideal)) (n : Fin 8192) (k : Fin 16) (e : ℕ) (h : e < 32) (he : (k : ℕ) % 16 = e % 16) :
    res_main_v32 V0 (ix3 n 0 k) = (SN (lat n) e : EReal) := by
  pointwise [res_main_v32]
  rw [v23_at, Ideal.sin_coe, SN_row n e h, freq_mod k e he]
theorem v34_at (V0 : Valuation τ sig (Elt Ideal)) (n : Fin 8192) (k : Fin 16) (e : ℕ) (h : ¬ e < 32) (he : (k : ℕ) % 16 = e % 16) :
    res_main_v34 V0 (ix3 n 0 k) = (CS (lat n) e : EReal) := by
  pointwise [res_main_v34]
  rw [v28_at, Ideal.cos_coe, CS_col n e h, freq_mod k e he]
theorem v36_at (V0 : Valuation τ sig (Elt Ideal)) (n : Fin 8192) (k : Fin 16) (e : ℕ) (h : ¬ e < 32) (he : (k : ℕ) % 16 = e % 16) :
    res_main_v36 V0 (ix3 n 0 k) = (SN (lat n) e : EReal) := by
  pointwise [res_main_v36]
  rw [v28_at, Ideal.sin_coe, SN_col n e h, freq_mod k e he]

/-! ## The norm and the modulation -/

section
variable {I : Inp} {V0 : Valuation τ sig (Elt Ideal)} (H : Args I V0)
include H

theorem SH_lat (n : Fin 8192) (d : Fin 1024) : I.SH (lat n) d = I.sh d := if_neg (by simp only [lat]; omega)
theorem SC_lat (n : Fin 8192) (d : Fin 1024) : I.SC (lat n) d = I.sc d := if_neg (by simp only [lat]; omega)
theorem SH_ctx (n : Fin 256) (d : Fin 1024) : I.SH (ctx n) d = I.shc d := if_pos (by simp only [ctx]; omega)
theorem SC_ctx (n : Fin 256) (d : Fin 1024) : I.SC (ctx n) d = I.scc d := if_pos (by simp only [ctx]; omega)

theorem v38_at (n : Fin 8192) (d : Fin 1024) : res_main_v38 V0 (ix2 n d) = (I.X (lat n) d : EReal) := by
  pointwise [res_main_v38]; exact H.a0 _ _
theorem v37_at (n : Fin 256) (d : Fin 1024) : res_main_v37 V0 (ix2 n d) = (I.X (ctx n) d : EReal) := by
  pointwise [res_main_v37]; exact H.a0 _ _
theorem v45_at (n : Fin 8192) : res_main_v45 V0 (ix2 n 0) = (I.ms (lat n) : EReal) := by
  pointwise [res_main_v45]
  simp only [v38_at H, ← EReal.coe_mul, ← coe_sum, c_1024, c_eps]
  rw [div_real _ _ (by norm_num), ← EReal.coe_add]; rfl
theorem v69_at (n : Fin 256) : res_main_v69 V0 (ix2 n 0) = (I.ms (ctx n) : EReal) := by
  pointwise [res_main_v69]
  simp only [v37_at H, ← EReal.coe_mul, ← coe_sum, c_1024, c_eps]
  rw [div_real _ _ (by norm_num), ← EReal.coe_add]; rfl
theorem v46_at (n : Fin 8192) : res_main_v46 V0 (ix2 n 0) = (I.r (lat n) : EReal) := by
  pointwise [res_main_v46]
  rw [v45_at H, rsqrt_real _ (I.ms_pos _)]; rfl
theorem v70_at (n : Fin 256) : res_main_v70 V0 (ix2 n 0) = (I.r (ctx n) : EReal) := by
  pointwise [res_main_v70]
  rw [v69_at H, rsqrt_real _ (I.ms_pos _)]; rfl
theorem v51_at (n : Fin 8192) (d : Fin 1024) : res_main_v51 V0 (ix2 n d) = (I.xn (lat n) d : EReal) := by
  pointwise [res_main_v51]
  rw [v38_at H, v46_at H, ← EReal.coe_mul]; rfl
theorem v75_at (n : Fin 256) (d : Fin 1024) : res_main_v75 V0 (ix2 n d) = (I.xn (ctx n) d : EReal) := by
  pointwise [res_main_v75]
  rw [v37_at H, v70_at H, ← EReal.coe_mul]; rfl
theorem v52_at (d : Fin 1024) : res_main_v52 V0 (ix2 0 d) = (I.g d : EReal) := by
  pointwise [res_main_v52]; exact H.a5 _
theorem v76_at (d : Fin 1024) : res_main_v76 V0 (ix2 0 d) = (I.g d : EReal) := by
  pointwise [res_main_v76]; exact H.a5 _
theorem v54_at (n : Fin 8192) (d : Fin 1024) : res_main_v54 V0 (ix2 n d) = ((I.xn (lat n) d * I.g d : ℝ) : EReal) := by
  pointwise [res_main_v54]
  rw [v51_at H, v52_at H, ← EReal.coe_mul]
theorem v78_at (n : Fin 256) (d : Fin 1024) : res_main_v78 V0 (ix2 n d) = ((I.xn (ctx n) d * I.g d : ℝ) : EReal) := by
  pointwise [res_main_v78]
  rw [v75_at H, v76_at H, ← EReal.coe_mul]
theorem v57_at (n : Fin 8192) (d : Fin 1024) : res_main_v57 V0 (ix2 0 d) = ((1 + I.SC (lat n) d : ℝ) : EReal) := by
  pointwise [res_main_v57]
  rw [H.a4, SC_lat H]; norm_cast
theorem v81_at (n : Fin 256) (d : Fin 1024) : res_main_v81 V0 (ix2 0 d) = ((1 + I.SC (ctx n) d : ℝ) : EReal) := by
  pointwise [res_main_v81]
  rw [H.a2, SC_ctx H]; norm_cast
theorem v62_at (n : Fin 8192) (d : Fin 1024) : res_main_v62 V0 (ix2 n d) = (I.h (lat n) d : EReal) := by
  pointwise [res_main_v62]
  rw [v54_at H, v57_at H n, H.a3, ← SH_lat H n, ← EReal.coe_mul, ← EReal.coe_add]; rfl
theorem v86_at (n : Fin 256) (d : Fin 1024) : res_main_v86 V0 (ix2 n d) = (I.h (ctx n) d : EReal) := by
  pointwise [res_main_v86]
  rw [v78_at H, v81_at H n, H.a1, ← SH_ctx H n, ← EReal.coe_mul, ← EReal.coe_add]; rfl
theorem v87_at (n : Fin 8192) (j : Fin 3328) : res_main_v87 V0 (ix2 n j) = (I.P (lat n) j : EReal) := by
  pointwise [res_main_v87]
  simp only [v62_at H, H.a6, ← EReal.coe_mul, ← coe_sum]; rfl
theorem v88_at (n : Fin 256) (j : Fin 3328) : res_main_v88 V0 (ix2 n j) = (I.P (ctx n) j : EReal) := by
  pointwise [res_main_v88]
  simp only [v86_at H, H.a6, ← EReal.coe_mul, ← coe_sum]; rfl

/-! ## The heads -/

def qh (a : Fin 4) : Fin 6 := ⟨a, by omega⟩
def kh (a : Fin 2) : Fin 6 := ⟨4 + a, by omega⟩

theorem v90_at (n : Fin 8192) (a : Fin 4) (e : Fin 64) : res_main_v90 V0 (ix3 n a e) = (I.pq (lat n) (qh a) e : EReal) := by
  pointwise [res_main_v90]
  rw [v87_at H]; exact congrArg (fun z => (I.P (lat n) z : EReal)) (Fin.ext (by simp only [qh]; omega))
theorem v137_at (n : Fin 8192) (a : Fin 2) (e : Fin 64) : res_main_v137 V0 (ix3 n a e) = (I.pq (lat n) (kh a) e : EReal) := by
  pointwise [res_main_v137]
  rw [v87_at H]; exact congrArg (fun z => (I.P (lat n) z : EReal)) (Fin.ext (by simp only [kh]; omega))
theorem v184_at (n : Fin 256) (a : Fin 4) (e : Fin 64) : res_main_v184 V0 (ix3 n a e) = (I.pq (ctx n) (qh a) e : EReal) := by
  pointwise [res_main_v184]
  rw [v88_at H]; exact congrArg (fun z => (I.P (ctx n) z : EReal)) (Fin.ext (by simp only [qh]; omega))
theorem v202_at (n : Fin 256) (a : Fin 2) (e : Fin 64) : res_main_v202 V0 (ix3 n a e) = (I.pq (ctx n) (kh a) e : EReal) := by
  pointwise [res_main_v202]
  rw [v88_at H]; exact congrArg (fun z => (I.P (ctx n) z : EReal)) (Fin.ext (by simp only [kh]; omega))

theorem v97_at (n : Fin 8192) (a : Fin 4) : res_main_v97 V0 (ix3 n a 0) = (I.hms (lat n) (qh a) : EReal) := by
  pointwise [res_main_v97]
  simp only [v90_at H, ← EReal.coe_mul, ← coe_sum, c_64, c_eps]
  rw [div_real _ _ (by norm_num), ← EReal.coe_add]; rfl
theorem v144_at (n : Fin 8192) (a : Fin 2) : res_main_v144 V0 (ix3 n a 0) = (I.hms (lat n) (kh a) : EReal) := by
  pointwise [res_main_v144]
  simp only [v137_at H, ← EReal.coe_mul, ← coe_sum, c_64, c_eps]
  rw [div_real _ _ (by norm_num), ← EReal.coe_add]; rfl
theorem v191_at (n : Fin 256) (a : Fin 4) : res_main_v191 V0 (ix3 n a 0) = (I.hms (ctx n) (qh a) : EReal) := by
  pointwise [res_main_v191]
  simp only [v184_at H, ← EReal.coe_mul, ← coe_sum, c_64, c_eps]
  rw [div_real _ _ (by norm_num), ← EReal.coe_add]; rfl
theorem v209_at (n : Fin 256) (a : Fin 2) : res_main_v209 V0 (ix3 n a 0) = (I.hms (ctx n) (kh a) : EReal) := by
  pointwise [res_main_v209]
  simp only [v202_at H, ← EReal.coe_mul, ← coe_sum, c_64, c_eps]
  rw [div_real _ _ (by norm_num), ← EReal.coe_add]; rfl

theorem v98_at (n : Fin 8192) (a : Fin 4) : res_main_v98 V0 (ix3 n a 0) = (I.hr (lat n) (qh a) : EReal) := by
  pointwise [res_main_v98]
  rw [v97_at H, rsqrt_real _ (I.hms_pos _ _)]; rfl
theorem v145_at (n : Fin 8192) (a : Fin 2) : res_main_v145 V0 (ix3 n a 0) = (I.hr (lat n) (kh a) : EReal) := by
  pointwise [res_main_v145]
  rw [v144_at H, rsqrt_real _ (I.hms_pos _ _)]; rfl
theorem v192_at (n : Fin 256) (a : Fin 4) : res_main_v192 V0 (ix3 n a 0) = (I.hr (ctx n) (qh a) : EReal) := by
  pointwise [res_main_v192]
  rw [v191_at H, rsqrt_real _ (I.hms_pos _ _)]; rfl
theorem v210_at (n : Fin 256) (a : Fin 2) : res_main_v210 V0 (ix3 n a 0) = (I.hr (ctx n) (kh a) : EReal) := by
  pointwise [res_main_v210]
  rw [v209_at H, rsqrt_real _ (I.hms_pos _ _)]; rfl

theorem v103_at (n : Fin 8192) (a : Fin 4) (e : Fin 64) : res_main_v103 V0 (ix3 n a e) = (I.xh (lat n) (qh a) e : EReal) := by
  pointwise [res_main_v103]
  rw [v90_at H, v98_at H, ← EReal.coe_mul]; rfl
theorem v150_at (n : Fin 8192) (a : Fin 2) (e : Fin 64) : res_main_v150 V0 (ix3 n a e) = (I.xh (lat n) (kh a) e : EReal) := by
  pointwise [res_main_v150]
  rw [v137_at H, v145_at H, ← EReal.coe_mul]; rfl
theorem v197_at (n : Fin 256) (a : Fin 4) (e : Fin 64) : res_main_v197 V0 (ix3 n a e) = (I.xh (ctx n) (qh a) e : EReal) := by
  pointwise [res_main_v197]
  rw [v184_at H, v192_at H, ← EReal.coe_mul]; rfl
theorem v215_at (n : Fin 256) (a : Fin 2) (e : Fin 64) : res_main_v215 V0 (ix3 n a e) = (I.xh (ctx n) (kh a) e : EReal) := by
  pointwise [res_main_v215]
  rw [v202_at H, v210_at H, ← EReal.coe_mul]; rfl

theorem gain_qh (a : Fin 4) (e : Fin 64) : I.gain (qh a) e = I.qg e := if_pos (by simp only [qh]; omega)
theorem gain_kh (a : Fin 2) (e : Fin 64) : I.gain (kh a) e = I.kg e := if_neg (by simp only [kh]; omega)
theorem v104_at (a : Fin 4) (e : Fin 64) : res_main_v104 V0 (ix3 0 0 e) = (I.gain (qh a) e : EReal) := by
  pointwise [res_main_v104]; rw [gain_qh H]; exact H.a7 _
theorem v198_at (a : Fin 4) (e : Fin 64) : res_main_v198 V0 (ix3 0 0 e) = (I.gain (qh a) e : EReal) := by
  pointwise [res_main_v198]; rw [gain_qh H]; exact H.a7 _
theorem v151_at (a : Fin 2) (e : Fin 64) : res_main_v151 V0 (ix3 0 0 e) = (I.gain (kh a) e : EReal) := by
  pointwise [res_main_v151]; rw [gain_kh H]; exact H.a8 _
theorem v216_at (a : Fin 2) (e : Fin 64) : res_main_v216 V0 (ix3 0 0 e) = (I.gain (kh a) e : EReal) := by
  pointwise [res_main_v216]; rw [gain_kh H]; exact H.a8 _

end

end

end Cert.InProj.Ref
-- ==== Proof.RefB.lean ====
module

public import proofs.«01_k».proof.Proof.RefA

/-! # The reference's intermediate arrays at real arguments: the backward pass -/

@[expose] public section

set_option maxRecDepth 16384

namespace Cert.InProj.Ref

open Idealize.ShloMosaic Cert.ReferenceIdeal Cert.ReferenceIdeal.Gen Cert.ReferenceIdeal.Value

noncomputable section

/-- The derivative of a norm, as differentiating gives it and as the kernel writes it. -/
theorem norm_back {ι : Type} [Fintype ι] (f D : ι → ℝ) (m r N : ℝ) (h : r * r = m⁻¹) (e : ι) :
    D e * r + f e * ((∑ k, f k * D k) * (-(1 / 2) * (r / m)) / N) + ((∑ k, f k * D k) * (-(1 / 2) * (r / m)) / N) * f e
      = r * (D e - f e * r * ((∑ k, D k * (f k * r)) * (1 / N))) := by
  have hs : ∑ k, D k * (f k * r) = r * ∑ k, f k * D k := by
    rw [Finset.mul_sum]; exact Finset.sum_congr rfl fun k _ => by ring
  rw [hs, div_eq_mul_inv r m, ← h]
  ring

theorem hr_sq (I : Inp) (t : Fin 8448) (a : Fin 6) : I.hr t a * I.hr t a = (I.hms t a)⁻¹ := by
  rw [Inp.hr, ← mul_inv, Real.mul_self_sqrt (I.hms_pos t a).le]
theorem r_sq (I : Inp) (t : Fin 8448) : I.r t * I.r t = (I.ms t)⁻¹ := by
  rw [Inp.r, ← mul_inv, Real.mul_self_sqrt (I.ms_pos t).le]

/-- A head's factor in the derivative. -/
def hc (I : Inp) (t : Fin 8448) (a : Fin 6) : ℝ := (∑ k, I.pq t a k * I.dxh t a k) * (-(1 / 2) * (I.hr t a / I.hms t a)) / 64
theorem dpq_eq (I : Inp) (t : Fin 8448) (a : Fin 6) (e : Fin 64) :
    I.dxh t a e * I.hr t a + I.pq t a e * hc I t a + hc I t a * I.pq t a e = I.dpq t a e :=
  norm_back (I.pq t a) (I.dxh t a) (I.hms t a) (I.hr t a) 64 (hr_sq I t a) e
/-- A row's factor in the derivative. -/
def rc (I : Inp) (t : Fin 8448) : ℝ := (∑ k, I.X t k * I.dxn t k) * (-(1 / 2) * (I.r t / I.ms t)) / 1024
theorem gX_eq (I : Inp) (t : Fin 8448) (d : Fin 1024) :
    I.dxn t d * I.r t + I.X t d * rc I t + rc I t * I.X t d + I.cx t d = I.gX t d := by
  rw [show I.dxn t d * I.r t + I.X t d * rc I t + rc I t * I.X t d = _ from norm_back (I.X t) (I.dxn t) (I.ms t) (I.r t) 1024 (r_sq I t) d]
  rw [Inp.gX]
  simp only [Inp.xn]
  ring

theorem dxg_ctx (I : Inp) (n : Fin 256) (a : Fin 6) (e : Fin 64) : I.dxg (ctx n) a e = I.ct (ctx n) a e := by
  rw [Inp.dxg, CS_ctx, SN_ctx]; split <;> simp

section
variable {I : Inp} {V0 : Valuation τ sig (Elt Ideal)} (H : Args I V0)
include H

/-! ## The heads' cotangents -/

theorem ct_q (t : Fin 8448) (a : Fin 4) (e : Fin 64) (h : (a : ℕ) * 64 + e < 256) :
    I.ct t (qh a) e = I.cq t ⟨a * 64 + e, h⟩ * (1 / 8) := by
  rw [Inp.ct, dif_pos (by simp only [qh]; omega)]
  exact congrArg (fun z => I.cq t z * (1 / 8)) (Fin.ext (by simp only [qh]; omega))
theorem ct_k (t : Fin 8448) (a : Fin 2) (e : Fin 64) (h : (a : ℕ) * 64 + e < 128) :
    I.ct t (kh a) e = I.ck t ⟨a * 64 + e, h⟩ := by
  rw [Inp.ct, dif_neg (by simp only [kh]; omega)]
  exact congrArg (fun z => I.ck t z) (Fin.ext (by simp only [kh]; omega))

theorem v244_at (t : Fin 8448) (a : Fin 2) (e : Fin 64) : res_main_v244 V0 (ix3 t a e) = (I.ct t (kh a) e : EReal) := by
  pointwise [res_main_v244]
  rw [H.a11, ct_k H t a e (by omega)]
theorem v249_at (t : Fin 8448) (a : Fin 4) (e : Fin 64) : res_main_v249 V0 (ix3 t a e) = (I.ct t (qh a) e : EReal) := by
  pointwise [res_main_v249]
  rw [H.a10, ct_q H t a e (by omega), c_eighth, ← EReal.coe_mul]
theorem v245_at (n : Fin 256) (a : Fin 2) (e : Fin 64) : res_main_v245 V0 (ix3 n a e) = (I.ct (ctx n) (kh a) e : EReal) := by
  pointwise [res_main_v245]; exact v244_at H _ _ _
theorem v246_at (n : Fin 8192) (a : Fin 2) (e : Fin 64) : res_main_v246 V0 (ix3 n a e) = (I.ct (lat n) (kh a) e : EReal) := by
  pointwise [res_main_v246]; exact v244_at H _ _ _
theorem v250_at (n : Fin 256) (a : Fin 4) (e : Fin 64) : res_main_v250 V0 (ix3 n a e) = (I.ct (ctx n) (qh a) e : EReal) := by
  pointwise [res_main_v250]; exact v249_at H _ _ _
theorem v251_at (n : Fin 8192) (a : Fin 4) (e : Fin 64) : res_main_v251 V0 (ix3 n a e) = (I.ct (lat n) (qh a) e : EReal) := by
  pointwise [res_main_v251]; exact v249_at H _ _ _

/-! ## The rotation back -/

theorem v320_at (n : Fin 8192) (a : Fin 2) (k : Fin 16) : res_main_v320 V0 (ix3 n a k) = (I.ct (lat n) (kh a) ⟨k, by omega⟩ : EReal) := by
  pointwise [res_main_v320, res_main_v304]; exact v246_at H _ _ _
theorem v321_at (n : Fin 8192) (a : Fin 2) (k : Fin 16) : res_main_v321 V0 (ix3 n a k) = (I.ct (lat n) (kh a) ⟨16 + k, by omega⟩ : EReal) := by
  pointwise [res_main_v321, res_main_v304]; exact v246_at H _ _ _
theorem v306_at (n : Fin 8192) (a : Fin 2) (k : Fin 16) : res_main_v306 V0 (ix3 n a k) = (I.ct (lat n) (kh a) ⟨32 + k, by omega⟩ : EReal) := by
  pointwise [res_main_v306, res_main_v305]; exact v246_at H _ _ _
theorem v307_at (n : Fin 8192) (a : Fin 2) (k : Fin 16) : res_main_v307 V0 (ix3 n a k) = (I.ct (lat n) (kh a) ⟨32 + (16 + k), by omega⟩ : EReal) := by
  pointwise [res_main_v307, res_main_v305]; exact v246_at H _ _ _
theorem v375_at (n : Fin 8192) (a : Fin 4) (k : Fin 16) : res_main_v375 V0 (ix3 n a k) = (I.ct (lat n) (qh a) ⟨k, by omega⟩ : EReal) := by
  pointwise [res_main_v375, res_main_v359]; exact v251_at H _ _ _
theorem v376_at (n : Fin 8192) (a : Fin 4) (k : Fin 16) : res_main_v376 V0 (ix3 n a k) = (I.ct (lat n) (qh a) ⟨16 + k, by omega⟩ : EReal) := by
  pointwise [res_main_v376, res_main_v359]; exact v251_at H _ _ _
theorem v361_at (n : Fin 8192) (a : Fin 4) (k : Fin 16) : res_main_v361 V0 (ix3 n a k) = (I.ct (lat n) (qh a) ⟨32 + k, by omega⟩ : EReal) := by
  pointwise [res_main_v361, res_main_v360]; exact v251_at H _ _ _
theorem v362_at (n : Fin 8192) (a : Fin 4) (k : Fin 16) : res_main_v362 V0 (ix3 n a k) = (I.ct (lat n) (qh a) ⟨32 + (16 + k), by omega⟩ : EReal) := by
  pointwise [res_main_v362, res_main_v360]; exact v251_at H _ _ _

/-- The two halves of a rotary group. -/
theorem dxg_lo (t : Fin 8448) (a : Fin 6) (e f : Fin 64) (h : (e : ℕ) % 32 < 16) (hf : (f : ℕ) = e + 16) :
    (I.ct t a f * SN t e + I.ct t a e * CS t e : ℝ) = I.dxg t a e := by
  rw [Inp.dxg, dif_pos h, show f = ⟨e + 16, by omega⟩ from Fin.ext hf, add_comm]
theorem dxg_hi (t : Fin 8448) (a : Fin 6) (e f : Fin 64) (h : ¬ (e : ℕ) % 32 < 16) (hf : (f : ℕ) + 16 = e) :
    (I.ct t a e * CS t e + -I.ct t a f * SN t e : ℝ) = I.dxg t a e := by
  rw [Inp.dxg, dif_neg h, show f = ⟨e - 16, by omega⟩ from Fin.ext (by simp only; omega), neg_mul]

theorem v334_at (n : Fin 8192) (a : Fin 2) (e : Fin 64) : res_main_v334 V0 (ix3 n a e) = (I.dxg (lat n) (kh a) e : EReal) := by
  pointwise [res_main_v334]
  split
  · split
    · rw [v321_at H, v320_at H, v32_at V0 n _ e (by omega) (by simp only), v30_at V0 n _ e (by omega) (by simp only),
        ← dxg_lo H (lat n) (kh a) e ⟨16 + e, by omega⟩ (by omega) (by simp only; omega)]
      simp only [EReal.coe_add, EReal.coe_mul]
    · rw [v321_at H, v320_at H, v32_at V0 n _ e (by omega) (by simp only; omega), v30_at V0 n _ e (by omega) (by simp only; omega),
        ← dxg_hi H (lat n) (kh a) e ⟨e - 16, by omega⟩ (by omega) (by simp only; omega)]
      have : (⟨16 + (e - 16), by omega⟩ : Fin 64) = e := Fin.ext (by simp only; omega)
      simp only [EReal.coe_add, EReal.coe_mul, EReal.coe_neg, this]
  · split
    · rw [v307_at H, v306_at H, v36_at V0 n _ e (by omega) (by simp only; omega), v34_at V0 n _ e (by omega) (by simp only; omega),
        ← dxg_lo H (lat n) (kh a) e ⟨16 + e, by omega⟩ (by omega) (by simp only; omega)]
      have : (⟨32 + (e - 32), by omega⟩ : Fin 64) = e := Fin.ext (by simp only; omega)
      have h2 : (⟨32 + (16 + (e - 32)), by omega⟩ : Fin 64) = ⟨16 + e, by omega⟩ := Fin.ext (by simp only; omega)
      simp only [EReal.coe_add, EReal.coe_mul, this, h2]
    · rw [v307_at H, v306_at H, v36_at V0 n _ e (by omega) (by simp only; omega), v34_at V0 n _ e (by omega) (by simp only; omega),
        ← dxg_hi H (lat n) (kh a) e ⟨e - 16, by omega⟩ (by omega) (by simp only; omega)]
      have : (⟨32 + (16 + (e - 32 - 16)), by omega⟩ : Fin 64) = e := Fin.ext (by simp only; omega)
      have h2 : (⟨32 + (e - 32 - 16), by omega⟩ : Fin 64) = ⟨e - 16, by omega⟩ := Fin.ext (by simp only; omega)
      simp only [EReal.coe_add, EReal.coe_mul, EReal.coe_neg, this, h2]

theorem v389_at (n : Fin 8192) (a : Fin 4) (e : Fin 64) : res_main_v389 V0 (ix3 n a e) = (I.dxg (lat n) (qh a) e : EReal) := by
  pointwise [res_main_v389]
  split
  · split
    · rw [v376_at H, v375_at H, v32_at V0 n _ e (by omega) (by simp only), v30_at V0 n _ e (by omega) (by simp only),
        ← dxg_lo H (lat n) (qh a) e ⟨16 + e, by omega⟩ (by omega) (by simp only; omega)]
      simp only [EReal.coe_add, EReal.coe_mul]
    · rw [v376_at H, v375_at H, v32_at V0 n _ e (by omega) (by simp only; omega), v30_at V0 n _ e (by omega) (by simp only; omega),
        ← dxg_hi H (lat n) (qh a) e ⟨e - 16, by omega⟩ (by omega) (by simp only; omega)]
      have : (⟨16 + (e - 16), by omega⟩ : Fin 64) = e := Fin.ext (by simp only; omega)
      simp only [EReal.coe_add, EReal.coe_mul, EReal.coe_neg, this]
  · split
    · rw [v362_at H, v361_at H, v36_at V0 n _ e (by omega) (by simp only; omega), v34_at V0 n _ e (by omega) (by simp only; omega),
        ← dxg_lo H (lat n) (qh a) e ⟨16 + e, by omega⟩ (by omega) (by simp only; omega)]
      have : (⟨32 + (e - 32), by omega⟩ : Fin 64) = e := Fin.ext (by simp only; omega)
      have h2 : (⟨32 + (16 + (e - 32)), by omega⟩ : Fin 64) = ⟨16 + e, by omega⟩ := Fin.ext (by simp only; omega)
      simp only [EReal.coe_add, EReal.coe_mul, this, h2]
    · rw [v362_at H, v361_at H, v36_at V0 n _ e (by omega) (by simp only; omega), v34_at V0 n _ e (by omega) (by simp only; omega),
        ← dxg_hi H (lat n) (qh a) e ⟨e - 16, by omega⟩ (by omega) (by simp only; omega)]
      have : (⟨32 + (16 + (e - 32 - 16)), by omega⟩ : Fin 64) = e := Fin.ext (by simp only; omega)
      have h2 : (⟨32 + (e - 32 - 16), by omega⟩ : Fin 64) = ⟨e - 16, by omega⟩ := Fin.ext (by simp only; omega)
      simp only [EReal.coe_add, EReal.coe_mul, EReal.coe_neg, this, h2]

/-! ## Through the head norms -/

theorem v262_at (n : Fin 256) (a : Fin 2) (e : Fin 64) : res_main_v262 V0 (ix3 n a e) = (I.dxh (ctx n) (kh a) e : EReal) := by
  pointwise [res_main_v262]
  rw [v245_at H, v216_at H a, ← dxg_ctx, ← EReal.coe_mul]; rfl
theorem v285_at (n : Fin 256) (a : Fin 4) (e : Fin 64) : res_main_v285 V0 (ix3 n a e) = (I.dxh (ctx n) (qh a) e : EReal) := by
  pointwise [res_main_v285]
  rw [v250_at H, v198_at H a, ← dxg_ctx, ← EReal.coe_mul]; rfl
theorem v339_at (n : Fin 8192) (a : Fin 2) (e : Fin 64) : res_main_v339 V0 (ix3 n a e) = (I.dxh (lat n) (kh a) e : EReal) := by
  pointwise [res_main_v339]
  rw [v334_at H, v151_at H a, ← EReal.coe_mul]; rfl
theorem v394_at (n : Fin 8192) (a : Fin 4) (e : Fin 64) : res_main_v394 V0 (ix3 n a e) = (I.dxh (lat n) (qh a) e : EReal) := by
  pointwise [res_main_v394]
  rw [v389_at H, v104_at H a, ← EReal.coe_mul]; rfl

/-- The factor as the reference spells it. -/
theorem hc_coe (t : Fin 8448) (a : Fin 6) :
    ∑ _x : Fin 1, Ideal.div ((∑ k, (I.pq t a k : EReal) * (I.dxh t a k : EReal)) * (Ideal.ofBits .f32 0xBF000000#32
      * Ideal.div (I.hr t a : EReal) (I.hms t a : EReal))) (Ideal.ofBits .f32 0x42800000#32) = (hc I t a : EReal) := by
  rw [Fin.sum_univ_one, c_neghalf, c_64, div_real _ _ (I.hms_pos t a).ne']
  simp only [← EReal.coe_mul, ← coe_sum]
  rw [div_real _ _ (by norm_num)]; rfl

theorem v273_at (n : Fin 256) (a : Fin 2) (e : Fin 64) : res_main_v273 V0 (ix3 n a e) = (hc I (ctx n) (kh a) : EReal) := by
  pointwise [res_main_v273]
  rw [← hc_coe H, Fin.sum_univ_one, Fin.sum_univ_one]
  simp only [v202_at H, v262_at H, v210_at H, v209_at H]
theorem v296_at (n : Fin 256) (a : Fin 4) (e : Fin 64) : res_main_v296 V0 (ix3 n a e) = (hc I (ctx n) (qh a) : EReal) := by
  pointwise [res_main_v296]
  rw [← hc_coe H, Fin.sum_univ_one, Fin.sum_univ_one]
  simp only [v184_at H, v285_at H, v192_at H, v191_at H]
theorem v351_at (n : Fin 8192) (a : Fin 2) (e : Fin 64) : res_main_v351 V0 (ix3 n a e) = (hc I (lat n) (kh a) : EReal) := by
  pointwise [res_main_v351]
  rw [← hc_coe H, Fin.sum_univ_one, Fin.sum_univ_one]
  simp only [v137_at H, v339_at H, v145_at H, v144_at H]
theorem v406_at (n : Fin 8192) (a : Fin 4) (e : Fin 64) : res_main_v406 V0 (ix3 n a e) = (hc I (lat n) (qh a) : EReal) := by
  pointwise [res_main_v406]
  rw [← hc_coe H, Fin.sum_univ_one, Fin.sum_univ_one]
  simp only [v90_at H, v394_at H, v98_at H, v97_at H]

/-! ## The projection's cotangent -/

theorem dP_q (t : Fin 8448) (j : Fin 3328) (h : 2560 ≤ (j : ℕ) ∧ (j : ℕ) - 2560 < 256) :
    I.dpq t (qh ⟨((j : ℕ) - 2560) / 64, by omega⟩) ⟨((j : ℕ) - 2560) % 64, by omega⟩ = I.dP t j := by
  rw [Inp.dP, dif_neg (by omega), dif_pos (by omega)]; rfl
theorem dP_k (t : Fin 8448) (j : Fin 3328) (h : 2816 ≤ (j : ℕ) ∧ (j : ℕ) - 2816 < 128) :
    I.dpq t (kh ⟨((j : ℕ) - 2816) / 64, by omega⟩) ⟨((j : ℕ) - 2816) % 64, by omega⟩ = I.dP t j := by
  rw [Inp.dP, dif_neg (by omega), dif_pos (by omega)]
  exact congrArg₂ (I.dpq t) (Fin.ext (by simp only [kh]; omega)) (Fin.ext (by simp only; omega))

/-- The five parts of the projection's columns, each zero outside its own. -/
theorem dP_parts (t : Fin 8448) (j : Fin 3328) (g v p k q : EReal)
    (hg : g = if 3072 ≤ (j : ℕ) ∧ (j : ℕ) - 3072 < 256 then (I.dP t j : EReal) else 0)
    (hv : v = if 2944 ≤ (j : ℕ) ∧ (j : ℕ) - 2944 < 128 then (I.dP t j : EReal) else 0)
    (hp : p = if (j : ℕ) < 2560 then (I.dP t j : EReal) else 0)
    (hk : k = if 2816 ≤ (j : ℕ) ∧ (j : ℕ) - 2816 < 128 then (I.dP t j : EReal) else 0)
    (hq : q = if 2560 ≤ (j : ℕ) ∧ (j : ℕ) - 2560 < 256 then (I.dP t j : EReal) else 0) :
    g + v + p + k + q = (I.dP t j : EReal) := by
  have := j.2
  subst hg hv hp hk hq
  rcases (by omega : (j : ℕ) < 2560 ∨ (2560 ≤ (j : ℕ) ∧ (j : ℕ) < 2816) ∨ (2816 ≤ (j : ℕ) ∧ (j : ℕ) < 2944)
    ∨ (2944 ≤ (j : ℕ) ∧ (j : ℕ) < 3072) ∨ 3072 ≤ (j : ℕ)) with h | h | h | h | h
  · rw [if_neg (by omega), if_neg (by omega), if_pos (by omega), if_neg (by omega), if_neg (by omega)]; simp
  · rw [if_neg (by omega), if_neg (by omega), if_neg (by omega), if_neg (by omega), if_pos (by omega)]; simp
  · rw [if_neg (by omega), if_neg (by omega), if_neg (by omega), if_pos (by omega), if_neg (by omega)]; simp
  · rw [if_neg (by omega), if_pos (by omega), if_neg (by omega), if_neg (by omega), if_neg (by omega)]; simp
  · rw [if_pos (by omega), if_neg (by omega), if_neg (by omega), if_neg (by omega), if_neg (by omega)]; simp

theorem dP_g (t : Fin 8448) (j : Fin 3328) (h : 3072 ≤ (j : ℕ) ∧ (j : ℕ) - 3072 < 256) :
    I.cg t ⟨(j : ℕ) - 3072, h.2⟩ = I.dP t j := by
  rw [Inp.dP, dif_neg (by omega), dif_neg (by omega), dif_neg (by omega)]
theorem dP_v (t : Fin 8448) (j : Fin 3328) (h : 2944 ≤ (j : ℕ) ∧ (j : ℕ) - 2944 < 128) :
    I.cv t ⟨(j : ℕ) - 2944, h.2⟩ = I.dP t j := by
  rw [Inp.dP, dif_neg (by omega), dif_neg (by omega), dif_pos (by omega)]
theorem dP_p (t : Fin 8448) (j : Fin 3328) (h : (j : ℕ) < 2560) : I.cp t ⟨j, h⟩ = I.dP t j := by
  rw [Inp.dP, dif_pos (by omega)]

theorem v413_at (n : Fin 8192) (j : Fin 3328) : res_main_v413 V0 (ix2 n j) = (I.dP (lat n) j : EReal) := by
  pointwise [res_main_v413]
  refine dP_parts H (lat n) j _ _ _ _ _ ?_ ?_ ?_ ?_ ?_
  · split
    · rename_i h; rw [H.a13]; exact congrArg _ (dP_g H (lat n) j h)
    · rfl
  · split
    · rename_i h; rw [H.a12]; exact congrArg _ (dP_v H (lat n) j h)
    · rfl
  · split
    · rename_i h; rw [H.a9]; exact congrArg _ (dP_p H (lat n) j h)
    · rfl
  · split
    · rename_i h; rw [v339_at H, v145_at H, v137_at H, v351_at H, ← dP_k H _ j h, ← dpq_eq]; simp only [EReal.coe_add, EReal.coe_mul]
    · rfl
  · split
    · rename_i h; rw [v394_at H, v98_at H, v90_at H, v406_at H, ← dP_q H _ j h, ← dpq_eq]; simp only [EReal.coe_add, EReal.coe_mul]
    · rfl

theorem v303_at (n : Fin 256) (j : Fin 3328) : res_main_v303 V0 (ix2 n j) = (I.dP (ctx n) j : EReal) := by
  pointwise [res_main_v303]
  refine dP_parts H (ctx n) j _ _ _ _ _ ?_ ?_ ?_ ?_ ?_
  · split
    · rename_i h; rw [H.a13]; exact congrArg _ (dP_g H (ctx n) j h)
    · rfl
  · split
    · rename_i h; rw [H.a12]; exact congrArg _ (dP_v H (ctx n) j h)
    · rfl
  · split
    · rename_i h; rw [H.a9]; exact congrArg _ (dP_p H (ctx n) j h)
    · rfl
  · split
    · rename_i h; rw [v262_at H, v210_at H, v202_at H, v273_at H, ← dP_k H _ j h, ← dpq_eq]; simp only [EReal.coe_add, EReal.coe_mul]
    · rfl
  · split
    · rename_i h; rw [v285_at H, v192_at H, v184_at H, v296_at H, ← dP_q H _ j h, ← dpq_eq]; simp only [EReal.coe_add, EReal.coe_mul]
    · rfl

theorem v420_at (n : Fin 8192) (d : Fin 1024) : res_main_v420 V0 (ix2 n d) = (I.dh (lat n) d : EReal) := by
  pointwise [res_main_v420]
  simp only [v413_at H, H.a6, ← EReal.coe_mul, ← coe_sum]; rfl
theorem v416_at (n : Fin 256) (d : Fin 1024) : res_main_v416 V0 (ix2 n d) = (I.dh (ctx n) d : EReal) := by
  pointwise [res_main_v416]
  simp only [v303_at H, H.a6, ← EReal.coe_mul, ← coe_sum]; rfl
theorem v428_at (n : Fin 256) (d : Fin 1024) : res_main_v428 V0 (ix2 n d) = ((I.dh (ctx n) d * (1 + I.SC (ctx n) d) : ℝ) : EReal) := by
  pointwise [res_main_v428]
  rw [v416_at H, v81_at H n, ← EReal.coe_mul]
theorem v457_at (n : Fin 8192) (d : Fin 1024) : res_main_v457 V0 (ix2 n d) = ((I.dh (lat n) d * (1 + I.SC (lat n) d) : ℝ) : EReal) := by
  pointwise [res_main_v457]
  rw [v420_at H, v57_at H n, ← EReal.coe_mul]
theorem v434_at (n : Fin 256) (d : Fin 1024) : res_main_v434 V0 (ix2 n d) = (I.dxn (ctx n) d : EReal) := by
  pointwise [res_main_v434]
  rw [v428_at H, v76_at H, ← EReal.coe_mul]; rfl
theorem v463_at (n : Fin 8192) (d : Fin 1024) : res_main_v463 V0 (ix2 n d) = (I.dxn (lat n) d : EReal) := by
  pointwise [res_main_v463]
  rw [v457_at H, v52_at H, ← EReal.coe_mul]; rfl

theorem rc_coe (t : Fin 8448) :
    ∑ _x : Fin 1, Ideal.div ((∑ k, (I.X t k : EReal) * (I.dxn t k : EReal)) * (Ideal.ofBits .f32 0xBF000000#32
      * Ideal.div (I.r t : EReal) (I.ms t : EReal))) (Ideal.ofBits .f32 0x44800000#32) = (rc I t : EReal) := by
  rw [Fin.sum_univ_one, c_neghalf, c_1024, div_real _ _ (I.ms_pos t).ne']
  simp only [← EReal.coe_mul, ← coe_sum]
  rw [div_real _ _ (by norm_num)]; rfl
theorem v445_at (n : Fin 256) (d : Fin 1024) : res_main_v445 V0 (ix2 n d) = (rc I (ctx n) : EReal) := by
  pointwise [res_main_v445]
  rw [← rc_coe H, Fin.sum_univ_one, Fin.sum_univ_one]
  simp only [v37_at H, v434_at H, v70_at H, v69_at H]
theorem v475_at (n : Fin 8192) (d : Fin 1024) : res_main_v475 V0 (ix2 n d) = (rc I (lat n) : EReal) := by
  pointwise [res_main_v475]
  rw [← rc_coe H, Fin.sum_univ_one, Fin.sum_univ_one]
  simp only [v38_at H, v463_at H, v46_at H, v45_at H]

end

end

end Cert.InProj.Ref
-- ==== Proof.RefC.lean ====
module

public import proofs.«01_k».proof.Proof.RefB

/-! # The reference's nine results at real arguments -/

@[expose] public section

set_option maxRecDepth 16384

namespace Cert.InProj.Ref

open Idealize.ShloMosaic Idealize.SL.Sem Cert.ReferenceIdeal Cert.ReferenceIdeal.Gen Cert.ReferenceIdeal.Value

noncomputable section

/-- A sum over the first two axes. -/
theorem reduce_two {a b c : ℕ} (h : (⟨3, ![a, b, c]⟩ : Shape).ReducesTo [0, 1] ⟨1, ![c]⟩)
    (x : (⟨3, ![a, b, c]⟩ : Shape).Idx → EReal) (z : EReal) (k : Fin c) :
    Ideal.hostReduceAdd h x z (ix1 k) = z + ∑ i : Fin a, ∑ j : Fin b, x (ix3 i j k) := by
  unfold Ideal.hostReduceAdd
  refine congrArg (z + ·) ?_
  rw [← Finset.sum_product']
  refine Finset.sum_nbij' (fun i => (i 0, i 1)) (fun p => ix3 p.1 p.2 k) ?_ ?_ ?_ ?_ ?_
  · intro i _; simp
  · intro p _
    simp only [Finset.mem_filter, Finset.mem_univ, true_and]
    funext d; obtain rfl : d = 0 := Subsingleton.elim _ _
    rfl
  · intro i hi
    have h2 := congrFun (Finset.mem_filter.1 hi).2 0
    funext d
    fin_cases d
    · rfl
    · rfl
    · exact h2.symm
  · intro p _; rfl
  · intro i hi
    have h2 := congrFun (Finset.mem_filter.1 hi).2 0
    refine congrArg x ?_
    funext d
    fin_cases d
    · rfl
    · rfl
    · exact h2

/-- A sum over all rows, by context and latent rows. -/
theorem sum_rows (f : Fin 8448 → ℝ) : ∑ t, f t = ∑ n, f (ctx n) + ∑ n, f (lat n) :=
  Fin.sum_univ_add (a := 256) (b := 8192) (fun t : Fin (256 + 8192) => f t)
theorem sum_ctx (f : Fin 8448 → ℝ) : ∑ t : Fin 8448, (if (t : ℕ) < 256 then f t else 0) = ∑ n, f (ctx n) := by
  rw [sum_rows]
  have h1 : ∀ n : Fin 256, (if ((ctx n : Fin 8448) : ℕ) < 256 then f (ctx n) else 0) = f (ctx n) := fun n => if_pos n.2
  have h2 : ∀ n : Fin 8192, (if ((lat n : Fin 8448) : ℕ) < 256 then f (lat n) else 0) = 0 := fun n => if_neg (by simp only [lat]; omega)
  simp only [h1, h2, Finset.sum_const_zero, add_zero]
theorem sum_lat (f : Fin 8448 → ℝ) : ∑ t : Fin 8448, (if (t : ℕ) < 256 then 0 else f t) = ∑ n, f (lat n) := by
  rw [sum_rows]
  have h1 : ∀ n : Fin 256, (if ((ctx n : Fin 8448) : ℕ) < 256 then 0 else f (ctx n)) = 0 := fun n => if_pos n.2
  have h2 : ∀ n : Fin 8192, (if ((lat n : Fin 8448) : ℕ) < 256 then 0 else f (lat n)) = f (lat n) := fun n => if_neg (by simp only [lat]; omega)
  simp only [h1, h2, Finset.sum_const_zero, zero_add]
theorem sum_q (f : Fin 6 → ℝ) : ∑ a : Fin 6, (if (a : ℕ) < 4 then f a else 0) = ∑ a, f (qh a) := by
  simp [Fin.sum_univ_succ, qh]
theorem sum_k (f : Fin 6 → ℝ) : ∑ a : Fin 6, (if (a : ℕ) < 4 then 0 else f a) = ∑ a, f (kh a) := by
  simp [Fin.sum_univ_succ, kh]

section
variable {I : Inp} {V0 : Valuation τ sig (Elt Ideal)} (H : Args I V0)
include H

theorem gX_at (t : Fin 8448) (d : Fin 1024) :
    (addf (addf (V0 (Proc.devRef .tc main_arg14)) (pad S8448x1024 ![256, 0] ![0, 0] ![0, 0] (addf (addf (mulf (res_main_v463 V0) (broadcastInDim S8192x1024 ![0, 1] bcast_S8192x1_S8192x1024_0_1 (res_main_v46 V0))) (mulf (res_main_v38 V0) (res_main_v475 V0))) (mulf (res_main_v475 V0) (res_main_v38 V0))) (constant S_ .f32 0x00000000#32) pads_S8192x1024_S8448x1024_25600_000 h_S_)) (pad S8448x1024 ![0, 0] ![8192, 0] ![0, 0] (addf (addf (mulf (res_main_v434 V0) (broadcastInDim S256x1024 ![0, 1] bcast_S256x1_S256x1024_0_1 (res_main_v70 V0))) (mulf (res_main_v37 V0) (res_main_v445 V0))) (mulf (res_main_v445 V0) (res_main_v37 V0))) (constant S_ .f32 0x00000000#32) pads_S256x1024_S8448x1024_081920_000 h_S_) : FVec Ideal _ .f32) (ix2 t d) = (I.gX t d : EReal) := by
  pointwise
  rw [H.a14, ← gX_eq]
  by_cases h : (t : ℕ) < 256
  · rw [dif_neg (fun hh => absurd (show 256 ≤ (t : ℕ) from (hh (0 : Fin 2)).1) (by omega)), dif_pos (by
      intro a; change Fin 2 at a; fin_cases a
      · exact ⟨Nat.zero_le _, Nat.mod_one _, show ((t : ℕ) - 0) / 1 < 256 by omega⟩
      · exact ⟨Nat.zero_le _, Nat.mod_one _, show ((d : ℕ) - 0) / 1 < 1024 by omega⟩)]
    rw [v434_at H, v37_at H, v70_at H, v445_at H, show ctx ⟨t, h⟩ = t from Fin.ext rfl]
    simp only [EReal.coe_add, EReal.coe_mul, add_zero]
    rw [add_comm]
  · rw [dif_pos (by
      intro a; change Fin 2 at a; fin_cases a
      · exact ⟨show 256 ≤ (t : ℕ) by omega, Nat.mod_one _, show ((t : ℕ) - 256) / 1 < 8192 by omega⟩
      · exact ⟨Nat.zero_le _, Nat.mod_one _, show ((d : ℕ) - 0) / 1 < 1024 by omega⟩),
      dif_neg (fun hh => absurd (show ((t : ℕ) - 0) / 1 < 256 from (hh (0 : Fin 2)).2.2) (by omega))]
    rw [v463_at H, v38_at H, v46_at H, v475_at H, show lat ⟨(t : ℕ) - 256, by omega⟩ = t from Fin.ext (by simp only [lat]; omega)]
    simp only [EReal.coe_add, EReal.coe_mul, add_zero]
    rw [add_comm]

theorem gShc_at (d : Fin 1024) :
    (Host.reduceAdd (shapeCast _ (Host.reduceAdd (res_main_v416 V0) (constant S_ .f32 0x00000000#32) reducesTo_S256x1024_S1024_d0 h_S_) shapeCasts_S1024_S1x1024) (constant S_ .f32 0x00000000#32) reducesTo_S1x1024_S1024_d0 h_S_ : FVec Ideal _ .f32) (ix1 d) = (I.gShc d : EReal) := by
  pointwise
  rw [Fin.sum_univ_one, Inp.gShc, sum_ctx (fun t => I.dh t d)]
  simp only [v416_at H, ← coe_sum]

theorem gScc_at (d : Fin 1024) :
    (Host.reduceAdd (shapeCast _ (Host.reduceAdd (mulf (res_main_v78 V0) (res_main_v416 V0)) (constant S_ .f32 0x00000000#32) reducesTo_S256x1024_S1024_d0 h_S_) shapeCasts_S1024_S1x1024) (constant S_ .f32 0x00000000#32) reducesTo_S1x1024_S1024_d0 h_S_ : FVec Ideal _ .f32) (ix1 d) = (I.gScc d : EReal) := by
  pointwise
  rw [Fin.sum_univ_one, Inp.gScc, sum_ctx (fun t => I.dh t d * (I.xn t d * I.g d))]
  simp only [v416_at H, v78_at H, ← EReal.coe_mul, ← coe_sum]
  exact congrArg _ (Finset.sum_congr rfl fun _ _ => mul_comm _ _)

theorem gSh_at (d : Fin 1024) :
    (Host.reduceAdd (shapeCast _ (Host.reduceAdd (res_main_v420 V0) (constant S_ .f32 0x00000000#32) reducesTo_S8192x1024_S1024_d0 h_S_) shapeCasts_S1024_S1x1024) (constant S_ .f32 0x00000000#32) reducesTo_S1x1024_S1024_d0 h_S_ : FVec Ideal _ .f32) (ix1 d) = (I.gSh d : EReal) := by
  pointwise
  rw [Fin.sum_univ_one, Inp.gSh, sum_lat (fun t => I.dh t d)]
  simp only [v420_at H, ← coe_sum]

theorem gSc_at (d : Fin 1024) :
    (Host.reduceAdd (shapeCast _ (Host.reduceAdd (mulf (res_main_v54 V0) (res_main_v420 V0)) (constant S_ .f32 0x00000000#32) reducesTo_S8192x1024_S1024_d0 h_S_) shapeCasts_S1024_S1x1024) (constant S_ .f32 0x00000000#32) reducesTo_S1x1024_S1024_d0 h_S_ : FVec Ideal _ .f32) (ix1 d) = (I.gSc d : EReal) := by
  pointwise
  rw [Fin.sum_univ_one, Inp.gSc, sum_lat (fun t => I.dh t d * (I.xn t d * I.g d))]
  simp only [v420_at H, v54_at H, ← EReal.coe_mul, ← coe_sum]
  exact congrArg _ (Finset.sum_congr rfl fun _ _ => mul_comm _ _)

theorem gG_at (d : Fin 1024) :
    (addf (Host.reduceAdd (shapeCast _ (Host.reduceAdd (mulf (res_main_v75 V0) (res_main_v428 V0)) (constant S_ .f32 0x00000000#32) reducesTo_S256x1024_S1024_d0 h_S_) shapeCasts_S1024_S1x1024) (constant S_ .f32 0x00000000#32) reducesTo_S1x1024_S1024_d0 h_S_) (Host.reduceAdd (shapeCast _ (Host.reduceAdd (mulf (res_main_v51 V0) (res_main_v457 V0)) (constant S_ .f32 0x00000000#32) reducesTo_S8192x1024_S1024_d0 h_S_) shapeCasts_S1024_S1x1024) (constant S_ .f32 0x00000000#32) reducesTo_S1x1024_S1024_d0 h_S_) : FVec Ideal _ .f32) (ix1 d) = (I.gG d : EReal) := by
  pointwise
  rw [Fin.sum_univ_one, Fin.sum_univ_one, Inp.gG, sum_rows]
  simp only [v428_at H, v75_at H, v457_at H, v51_at H, ← EReal.coe_mul, ← coe_sum, ← EReal.coe_add]
  exact congrArg _ (congrArg₂ (· + ·) (Finset.sum_congr rfl fun _ _ => mul_comm _ _) (Finset.sum_congr rfl fun _ _ => mul_comm _ _))

theorem gW_at (d : Fin 1024) (j : Fin 3328) :
    (addf (transpose S1024x3328 [1, 0] (Host.dotGeneral (φ₁ := .f32) (φ₂ := .f32) dot_S256x3328_S256x1024_S3328x1024_0_0_1_1_n_n none (res_main_v303 V0) (res_main_v86 V0)) transposes_S3328x1024_S1024x3328_1_0) (transpose S1024x3328 [1, 0] (Host.dotGeneral (φ₁ := .f32) (φ₂ := .f32) dot_S8192x3328_S8192x1024_S3328x1024_0_0_1_1_n_n none (res_main_v413 V0) (res_main_v62 V0)) transposes_S3328x1024_S1024x3328_1_0) : FVec Ideal _ .f32) (ix2 d j) = (I.gW d j : EReal) := by
  pointwise
  rw [Inp.gW, sum_rows]
  simp only [v303_at H, v86_at H, v413_at H, v62_at H, ← EReal.coe_mul, ← coe_sum, ← EReal.coe_add]
  exact congrArg _ (congrArg₂ (· + ·) (Finset.sum_congr rfl fun _ _ => mul_comm _ _) (Finset.sum_congr rfl fun _ _ => mul_comm _ _))

theorem gQ_at (e : Fin 64) :
    (addf (Host.reduceAdd (shapeCast _ (Host.reduceAdd (mulf (res_main_v197 V0) (res_main_v250 V0)) (constant S_ .f32 0x00000000#32) reducesTo_S256x4x64_S64_d0_1 h_S_) shapeCasts_S64_S1x1x64) (constant S_ .f32 0x00000000#32) reducesTo_S1x1x64_S64_d0_1 h_S_) (Host.reduceAdd (shapeCast _ (Host.reduceAdd (mulf (res_main_v103 V0) (res_main_v389 V0)) (constant S_ .f32 0x00000000#32) reducesTo_S8192x4x64_S64_d0_1 h_S_) shapeCasts_S64_S1x1x64) (constant S_ .f32 0x00000000#32) reducesTo_S1x1x64_S64_d0_1 h_S_) : FVec Ideal _ .f32) (ix1 e) = (I.gQ e : EReal) := by
  refine (congrArg₂ (· + ·) ((reduce_two (a := 1) (b := 1) (c := 64) _ _ _ _).trans
    (by rw [Fin.sum_univ_one, Fin.sum_univ_one])) ((reduce_two (a := 1) (b := 1) (c := 64) _ _ _ _).trans
    (by rw [Fin.sum_univ_one, Fin.sum_univ_one]))).trans ?_
  pointwise
  refine (congrArg₂ (· + ·) (reduce_two (a := 256) (b := 4) (c := 64) _ _ _ _) (reduce_two (a := 8192) (b := 4) (c := 64) _ _ _ _)).trans ?_
  pointwise
  simp only [v197_at H, v250_at H, v103_at H, v389_at H, zero_add, ← dxg_ctx, ← EReal.coe_mul, ← coe_sum, ← EReal.coe_add]
  rw [Inp.gQ, sum_rows]
  simp only [sum_q (fun a => I.dxg _ a e * I.xh _ a e)]
  exact congrArg _ (congrArg₂ (· + ·) (Finset.sum_congr rfl fun _ _ => Finset.sum_congr rfl fun _ _ => mul_comm _ _)
    (Finset.sum_congr rfl fun _ _ => Finset.sum_congr rfl fun _ _ => mul_comm _ _))

theorem gK_at (e : Fin 64) :
    (addf (Host.reduceAdd (shapeCast _ (Host.reduceAdd (mulf (res_main_v215 V0) (res_main_v245 V0)) (constant S_ .f32 0x00000000#32) reducesTo_S256x2x64_S64_d0_1 h_S_) shapeCasts_S64_S1x1x64) (constant S_ .f32 0x00000000#32) reducesTo_S1x1x64_S64_d0_1 h_S_) (Host.reduceAdd (shapeCast _ (Host.reduceAdd (mulf (res_main_v150 V0) (res_main_v334 V0)) (constant S_ .f32 0x00000000#32) reducesTo_S8192x2x64_S64_d0_1 h_S_) shapeCasts_S64_S1x1x64) (constant S_ .f32 0x00000000#32) reducesTo_S1x1x64_S64_d0_1 h_S_) : FVec Ideal _ .f32) (ix1 e) = (I.gK e : EReal) := by
  refine (congrArg₂ (· + ·) ((reduce_two (a := 1) (b := 1) (c := 64) _ _ _ _).trans
    (by rw [Fin.sum_univ_one, Fin.sum_univ_one])) ((reduce_two (a := 1) (b := 1) (c := 64) _ _ _ _).trans
    (by rw [Fin.sum_univ_one, Fin.sum_univ_one]))).trans ?_
  pointwise
  refine (congrArg₂ (· + ·) (reduce_two (a := 256) (b := 2) (c := 64) _ _ _ _) (reduce_two (a := 8192) (b := 2) (c := 64) _ _ _ _)).trans ?_
  pointwise
  simp only [v215_at H, v245_at H, v150_at H, v334_at H, zero_add, ← dxg_ctx, ← EReal.coe_mul, ← coe_sum, ← EReal.coe_add]
  rw [Inp.gK, sum_rows]
  simp only [sum_k (fun a => I.dxg _ a e * I.xh _ a e)]
  exact congrArg _ (congrArg₂ (· + ·) (Finset.sum_congr rfl fun _ _ => Finset.sum_congr rfl fun _ _ => mul_comm _ _)
    (Finset.sum_congr rfl fun _ _ => Finset.sum_congr rfl fun _ _ => mul_comm _ _))

end

/-- The reference's run: nine results, the arguments kept. -/
theorem run (I : Inp) (m : (ℓ : Loc nD τ sig) → Buf (Elt Ideal) ℓ) (ρ : Dev nD → PrngReg)
    (H : ∀ c : Dev nD, Args I (Idealize.ShloMosaic.StableHlo.launchContents m c)) :
    θ_run defs (onTc (τ := τ) (main (F := Ideal))) ⟨m, fun _ => 0, ρ⟩ fun r => ∀ c : Dev nD,
      (∀ t d, r.2.mem ((c.tc : Thread nD τ).loc main_v483) (ix2 t d) = (I.gX t d : EReal))
      ∧ (∀ d, r.2.mem ((c.tc : Thread nD τ).loc main_v423) (ix1 d) = (I.gShc d : EReal))
      ∧ (∀ d, r.2.mem ((c.tc : Thread nD τ).loc main_v429) (ix1 d) = (I.gScc d : EReal))
      ∧ (∀ d, r.2.mem ((c.tc : Thread nD τ).loc main_v452) (ix1 d) = (I.gSh d : EReal))
      ∧ (∀ d, r.2.mem ((c.tc : Thread nD τ).loc main_v458) (ix1 d) = (I.gSc d : EReal))
      ∧ (∀ d, r.2.mem ((c.tc : Thread nD τ).loc main_v465) (ix1 d) = (I.gG d : EReal))
      ∧ (∀ d j, r.2.mem ((c.tc : Thread nD τ).loc main_v419) (ix2 d j) = (I.gW d j : EReal))
      ∧ (∀ d, r.2.mem ((c.tc : Thread nD τ).loc main_v396) (ix1 d) = (I.gQ d : EReal))
      ∧ (∀ d, r.2.mem ((c.tc : Thread nD τ).loc main_v341) (ix1 d) = (I.gK d : EReal)) :=
  (θ_run defs _ _).mono (fun r h c => by
    obtain ⟨h0, h1, h2, h3, h4, h5, h6, h7, h8, _⟩ := h c
    exact ⟨fun t d => (congrFun h0 _).trans (gX_at (H c) t d), fun d => (congrFun h1 _).trans (gShc_at (H c) d), fun d => (congrFun h2 _).trans (gScc_at (H c) d), fun d => (congrFun h3 _).trans (gSh_at (H c) d), fun d => (congrFun h4 _).trans (gSc_at (H c) d), fun d => (congrFun h5 _).trans (gG_at (H c) d), fun d j => (congrFun h6 _).trans (gW_at (H c) d j), fun d => (congrFun h7 _).trans (gQ_at (H c) d), fun d => (congrFun h8 _).trans (gK_at (H c) d)⟩)
    (Cert.ReferenceIdeal.Value.run (F := Ideal) m ρ)

end

end Cert.InProj.Ref
-- ==== Proof.ASpec.lean ====
module

public import proofs.«01_k».proof.Proof.Spec

/-! # Attention over the reals

For one query: the scores `s j` of the keys and the rows `v j` of values. The kernel meets the keys a block at a time and
keeps the greatest score met and the values' sum weighted by the exponentials of the scores less it. -/

@[expose] public section

namespace Cert.Attn

open Idealize.ShloMosaic Cert.InProj

noncomputable section

/-- What the kernel keeps of one query once it has met `n` keys. -/
def Seen (n : ℕ) (s : ℕ → ℝ) (v : ℕ → Fin 128 → ℝ) (m : EReal) (acc : Fin 128 → EReal) : Prop :=
  (n = 0 ∧ m = ⊥) ∨ ∃ μ : ℝ, m = (μ : EReal) ∧ ∀ c, acc c = ((∑ j ∈ Finset.range n, Real.exp (s j - μ) * v j c : ℝ) : EReal)

theorem fold_max_real {N : ℕ} (hN : 0 < N) (f : Fin N → ℝ) :
    ∃ x : ℝ, (Finset.univ : Finset (Fin N)).fold max (⊥ : EReal) (fun j => (f j : EReal)) = (x : EReal) := by
  obtain ⟨i, -, h⟩ := Finset.exists_mem_eq_sup (Finset.univ : Finset (Fin N)) ⟨⟨0, hN⟩, Finset.mem_univ _⟩ fun j => (f j : EReal)
  exact ⟨f i, h⟩

theorem c_bot : Ideal.ofBits .f32 0xFF800000#32 = (⊥ : EReal) := by
  simp [Ideal.ofBits, Ideal.ieee]

theorem exp_sub_real (x y : ℝ) : Ideal.exp ((x : EReal) - (y : EReal)) = ((Real.exp (x - y) : ℝ) : EReal) := by
  rw [← EReal.coe_sub, Ideal.exp_coe]

theorem coe_max (x y : ℝ) : ((max x y : ℝ) : EReal) = max (x : EReal) (y : EReal) :=
  EReal.coe_strictMono.monotone.map_max

theorem Seen.step {n N : ℕ} (hN : 0 < N) {s : ℕ → ℝ} {v : ℕ → Fin 128 → ℝ} {m : EReal} {acc : Fin 128 → EReal} (H : Seen n s v m acc)
    {m' : EReal} {acc' : Fin 128 → EReal}
    (hm : m' = max m ((Finset.univ : Finset (Fin N)).fold max (⊥ : EReal) fun j : Fin N => (s (n + j) : EReal)))
    (ha : ∀ c, acc' c = acc c * Ideal.exp (m - m') + ∑ j : Fin N, Ideal.exp ((s (n + j) : EReal) - m') * (v (n + j) c : EReal)) :
    Seen (n + N) s v m' acc' := by
  obtain ⟨x, hx⟩ := fold_max_real hN fun j : Fin N => s (n + j)
  rw [hx] at hm
  have split : ∀ (μ : ℝ) (c : Fin 128), ∑ j ∈ Finset.range (n + N), Real.exp (s j - μ) * v j c
      = (∑ j ∈ Finset.range n, Real.exp (s j - μ) * v j c) + ∑ j : Fin N, Real.exp (s (n + j) - μ) * v (n + j) c := fun μ c => by
    rw [Finset.sum_range_add, Finset.sum_range (fun j => Real.exp (s (n + j) - μ) * v (n + j) c)]
  rcases H with ⟨h0, hb⟩ | ⟨μ, hμ, hacc⟩
  · subst h0
    rw [hb, bot_sup_eq] at hm
    refine Or.inr ⟨x, hm, fun c => ?_⟩
    rw [ha, hm, hb, EReal.bot_sub, Ideal.exp_bot, mul_zero, zero_add, split, Finset.sum_range_zero, zero_add, coe_sum]
    exact Finset.sum_congr rfl fun j _ => by rw [exp_sub_real, EReal.coe_mul]
  · refine Or.inr ⟨max μ x, by rw [hm, hμ]; exact (coe_max μ x).symm, fun c => ?_⟩
    have hm' : m' = ((max μ x : ℝ) : EReal) := by rw [hm, hμ]; exact (coe_max μ x).symm
    rw [ha, hm', hμ, hacc, exp_sub_real, split, EReal.coe_add, ← EReal.coe_mul, Finset.sum_mul,
      coe_sum Finset.univ fun j : Fin N => Real.exp (s (n + j) - max μ x) * v (n + j) c]
    refine congrArg₂ (· + ·) (congrArg _ (Finset.sum_congr rfl fun j _ => ?_)) (Finset.sum_congr rfl fun j _ => ?_)
    · rw [show s j - max μ x = (s j - μ) + (μ - max μ x) by ring, Real.exp_add]; ring
    · rw [exp_sub_real, EReal.coe_mul]

/-- The quotient both programs end with. -/
def mean (n : ℕ) (s : ℕ → ℝ) (w : ℕ → ℝ) : ℝ := (∑ j ∈ Finset.range n, Real.exp (s j) * w j) / ∑ j ∈ Finset.range n, Real.exp (s j)

theorem sum_exp_pos {n : ℕ} (hn : 0 < n) (s : ℕ → ℝ) : 0 < ∑ j ∈ Finset.range n, Real.exp (s j) :=
  Finset.sum_pos (fun _ _ => Real.exp_pos _) ⟨0, Finset.mem_range.mpr hn⟩

theorem mean_shift {n : ℕ} (s : ℕ → ℝ) (w : ℕ → ℝ) (μ : ℝ) :
    (∑ j ∈ Finset.range n, Real.exp (s j - μ) * w j) / (∑ j ∈ Finset.range n, Real.exp (s j - μ)) = mean n s w := by
  have e1 : (∑ j ∈ Finset.range n, Real.exp (s j - μ) * w j) = Real.exp (-μ) * ∑ j ∈ Finset.range n, Real.exp (s j) * w j := by
    rw [Finset.mul_sum]; exact Finset.sum_congr rfl fun j _ => by rw [sub_eq_add_neg, Real.exp_add]; ring
  have e2 : (∑ j ∈ Finset.range n, Real.exp (s j - μ)) = Real.exp (-μ) * ∑ j ∈ Finset.range n, Real.exp (s j) := by
    rw [Finset.mul_sum]; exact Finset.sum_congr rfl fun j _ => by rw [sub_eq_add_neg, Real.exp_add]; ring
  rw [e1, e2, mul_div_mul_left _ _ (Real.exp_ne_zero _), mean]

/-- Once the keys are met, with a lane of ones in the values: the kernel's quotient. -/
theorem Seen.quot {n : ℕ} (hn : 0 < n) {s : ℕ → ℝ} {v : ℕ → Fin 128 → ℝ} {m : EReal} {acc : Fin 128 → EReal} (H : Seen n s v m acc)
    (one : Fin 128) (h1 : ∀ j < n, v j one = 1) (c : Fin 128) :
    acc c * Ideal.div 1 (acc one) = ((mean n s fun j => v j c : ℝ) : EReal) := by
  rcases H with ⟨h0, -⟩ | ⟨μ, -, hacc⟩
  · omega
  · have e : ∑ j ∈ Finset.range n, Real.exp (s j - μ) * v j one = ∑ j ∈ Finset.range n, Real.exp (s j - μ) :=
      Finset.sum_congr rfl fun j hj => by rw [h1 j (Finset.mem_range.mp hj), mul_one]
    rw [hacc, hacc, e, ← EReal.coe_one, div_real _ _ (sum_exp_pos hn fun j => s j - μ).ne', ← EReal.coe_mul, mul_one_div, mean_shift s (fun j => v j c) μ]

/-- The input arrays, as reals: queries, keys and values by row and column. -/
structure Inp where
  q : Fin 8448 → Fin 256 → ℝ
  k : Fin 8448 → Fin 128 → ℝ
  v : Fin 8448 → Fin 128 → ℝ

/-- A column, by head and place in the head. -/
def col4 (h : Fin 4) (d : Fin 64) : Fin 256 := ⟨64 * h + d, by omega⟩
def col2 (g : Fin 2) (d : Fin 64) : Fin 128 := ⟨64 * g + d, by omega⟩
/-- The key and value head of a query head. -/
def grp (h : Fin 4) : Fin 2 := ⟨h / 2, by omega⟩
/-- How many keys row `t` sees: a context row the context alone. -/
def nk (t : Fin 8448) : ℕ := if (t : ℕ) < 256 then 256 else 8448

theorem nk_pos (t : Fin 8448) : 0 < nk t := by unfold nk; split_ifs <;> decide
theorem nk_le (t : Fin 8448) : nk t ≤ 8448 := by unfold nk; split_ifs <;> decide

/-- An array's row at a natural number (none past the end). -/
def at0 {α : Type} [Zero α] (f : Fin 8448 → α) (j : ℕ) : α := if h : j < 8448 then f ⟨j, h⟩ else 0

theorem at0_val {α : Type} [Zero α] (f : Fin 8448 → α) (j : Fin 8448) : at0 f j = f j := dif_pos j.isLt
theorem at0_lt {α : Type} [Zero α] (f : Fin 8448 → α) (j : ℕ) (h : j < 8448) : at0 f j = f ⟨j, h⟩ := dif_pos h

namespace Inp
variable (I : Inp)

/-- The score of key `j` for row `t` and head `h`. -/
def sc (t : Fin 8448) (h : Fin 4) (j : Fin 8448) : ℝ := (∑ d : Fin 64, I.q t (col4 h d) * I.k j (col2 (grp h) d)) * (1 / 8)
/-- The attention's result. -/
def out (t : Fin 8448) (h : Fin 4) (d : Fin 64) : ℝ := mean (nk t) (at0 (I.sc t h)) (at0 fun j => I.v j (col2 (grp h) d))

end Inp

end

end Cert.Attn
-- ==== Proof.ATile.lean ====
module

public import proofs.«01_k».proof.Proof.Gen.Kernel2Ideal.Skeleton
public import proofs.«01_k».proof.Proof.ASpec

/-! # The kernel's vector expressions

The kernel meets the first 256 keys, then blocks of 1024. Each block's update is the same expression, whatever statements
of the kernel hold its parts. -/

@[expose] public section

set_option maxRecDepth 16384

namespace Cert.Attn

open Idealize.ShloMosaic Idealize.ShloMosaic.TcCoe Cert.Kernel2Ideal Cert.Kernel2Ideal.Gen Cert.InProj

noncomputable section

/-- The lane numbers. -/
abbrev lanes : IVec S512x128 32 := iota .tc S512x128 32 [1] iota_S512x128_d1_w32

/-! ## One form for each update -/

/-- The exponentials of a block's scores less the greatest score. -/
def eS (q : FVec Ideal S512x128 .bf16) (m : FVec Ideal S512x1 .f32) (k : Vec Ideal S1x1024x128 .bf16) : FVec Ideal S512x1024 .f32 :=
  exp (subf (k0_pay32 q k) (broadcastTo S512x1024 (k0_pay33 q m k) broadcasts_S512x1_S512x1024))
/-- A sum rescaled from one greatest score to the next. -/
def sc (m m' : FVec Ideal S512x1 .f32) (a : FVec Ideal S512x128 .f32) : FVec Ideal S512x128 .f32 :=
  mulf a (broadcastTo S512x128 (exp (subf m m')) broadcasts_S512x1_S512x128)
/-- A block's weighted values. -/
def pv (s : FVec Ideal S512x1024 .bf16) (v : Vec Ideal S1x1024x128 .bf16) : FVec Ideal S512x128 .f32 :=
  matmul (φ₂ := .bf16) dot_S512x1024_S1024x128_S512x128_1_0_0_1_n_n none s (shapeCast (α := Ideal .bf16) S1024x128 v shapeCasts_S1x1024x128_S1024x128)
    (constant S512x128 .f32 0x00000000#32)

section
variable (q : FVec Ideal S512x128 .bf16) (m x : FVec Ideal S512x1 .f32) (a b : FVec Ideal S512x128 .f32)
  (k0 v0 : Vec Ideal S1x256x128 .bf16) (k v k' : Vec Ideal S1x1024x128 .bf16) (s : FVec Ideal S512x1024 .f32) (t : FVec Ideal S512x1024 .bf16)

theorem e15 : k0_pay15 q m k0 = k0_pay12 q m k0 := rfl
theorem e27 : k0_pay27 q m k0 = k0_pay12 q m k0 := rfl
theorem e30 : k0_pay30 q m k0 = k0_pay12 q m k0 := rfl
theorem e16 : k0_pay16 q m a k0 v0 = k0_pay13 q m a k0 v0 := rfl
theorem e28 : k0_pay28 q m a k0 v0 = k0_pay13 q m a k0 v0 := rfl
theorem e31 : k0_pay31 q m a k0 v0 = k0_pay13 q m a k0 v0 := rfl
theorem e36 : k0_pay36 q m k = k0_pay33 q m k := rfl
theorem e39 : k0_pay39 q m k = k0_pay33 q m k := rfl
theorem e42 : k0_pay42 q m k = k0_pay33 q m k := rfl
theorem e49 : k0_pay49 q m k = k0_pay33 q m k := rfl
theorem e56 : k0_pay56 q m k = k0_pay33 q m k := rfl
theorem e62 : k0_pay62 q m k = k0_pay33 q m k := rfl
theorem e65 : k0_pay65 q m k = k0_pay33 q m k := rfl
theorem e69 : k0_pay69 q m k = k0_pay33 q m k := rfl
theorem e72 : k0_pay72 q m k = k0_pay33 q m k := rfl
theorem e76 : k0_pay76 q m k = k0_pay33 q m k := rfl
theorem e79 : k0_pay79 q m k = k0_pay33 q m k := rfl
theorem e83 : k0_pay83 q m k = k0_pay33 q m k := rfl
theorem e37 : k0_pay37 q m a k v = k0_pay34 q m a k v := rfl
theorem e40 : k0_pay40 q m a k v = k0_pay34 q m a k v := rfl
theorem e43 : k0_pay43 q m a k v = k0_pay34 q m a k v := rfl
theorem e50 : k0_pay50 q m a k v = k0_pay34 q m a k v := rfl
theorem e57 : k0_pay57 q m a k v = k0_pay34 q m a k v := rfl
theorem e63 : k0_pay63 q m a k v = k0_pay34 q m a k v := rfl
theorem e70 : k0_pay70 q m a k v = k0_pay34 q m a k v := rfl
theorem e77 : k0_pay77 q m a k v = k0_pay34 q m a k v := rfl
theorem e84 : k0_pay84 q m a k v = k0_pay34 q m a k v := rfl
theorem e46 : k0_pay46 q m (k0_pay44 k) (constant S512x1024 .f32 0x00000000#32) = k0_pay33 q m k := rfl
theorem e47 : k0_pay47 q m a (k0_pay44 k) (constant S512x1024 .f32 0x00000000#32) v = k0_pay34 q m a k v := rfl
theorem e53 : k0_pay53 m (k0_pay52 q k) = k0_pay33 q m k := rfl
theorem e54 : k0_pay54 m a (k0_pay51 q k) (k0_pay52 q k) v = k0_pay34 q m a k v := rfl
theorem e59 : k0_pay59 q m x k = k0_pay33 q (k0_pay53 m x) k := rfl
theorem e60 : k0_pay60 q m x k = eS q (k0_pay53 m x) k := rfl
theorem e66 : k0_pay66 q m k = eS q m k := rfl
theorem e74 : k0_pay74 q m k = truncf .bf16 (eS q m k) bitsLt_bf16_f32 := rfl
theorem e67 : k0_pay67 q x a m s v k' = sc m (k0_pay33 q m k') (addf (sc x m a) (pv (truncf .bf16 s bitsLt_bf16_f32) v)) := rfl
theorem e73 : k0_pay73 q m s a v k' = sc m (k0_pay33 q m k') (addf a (pv (truncf .bf16 s bitsLt_bf16_f32) v)) := rfl
theorem e80 : k0_pay80 q m a t v k' = sc m (k0_pay33 q m k') (addf a (pv t v)) := rfl
theorem e81 : k0_pay81 q m k v = pv (truncf .bf16 (eS q m k) bitsLt_bf16_f32) v := rfl
theorem e34 : addf (sc m (k0_pay33 q m k) a) (pv (truncf .bf16 (eS q m k) bitsLt_bf16_f32) v) = k0_pay34 q m a k v := rfl
theorem e87 : k0_pay87 (k0_pay86 lanes m a b) = k0_pay90 lanes m (addf a b) := rfl
theorem e88 : k0_pay88 (k0_pay85 lanes m a b) = k0_pay10 (k0_pay91 lanes m (addf a b)) := rfl
theorem e19 : k0_pay19 lanes m (k0_pay13 q x a k0 v0) (k0_pay17 lanes q x a k0 v0) = k0_pay90 lanes m (k0_pay13 q x a k0 v0) := rfl
theorem e20 : k0_pay20 lanes m (k0_pay13 q x a k0 v0) (k0_pay17 lanes q x a k0 v0) = k0_pay10 (k0_pay91 lanes m (k0_pay13 q x a k0 v0)) := rfl
theorem e8 : k0_pay8 (k0_pay22 lanes) (k0_pay23 lanes a) (k0_pay24 lanes) (k0_pay25 lanes m a) = k0_pay90 lanes m a := rfl
theorem e9 : k0_pay9 (k0_pay22 lanes) (k0_pay23 lanes a) (k0_pay24 lanes) (k0_pay25 lanes m a) = k0_pay10 (k0_pay91 lanes m a) := rfl
theorem e2 (y z : Vec Ideal S1x256x128 .bf16) : k0_pay2 y z = k0_pay1 y z := rfl
theorem e5 : (k0_pay5 : FVec Ideal S512x1 .f32) = k0_pay3 := rfl
theorem e6 : (k0_pay6 : FVec Ideal S512x128 .f32) = k0_pay4 := rfl

end

/-! ## The updates over the reals -/

/-- A score's real: the product of a row of queries and a key. -/
def dotR (Q : Fin 512 → Fin 128 → ℝ) (K : ℕ → Fin 128 → ℝ) (p : Fin 512) (j : ℕ) : ℝ := ∑ l, Q p l * K j l

theorem step256 {q : FVec Ideal S512x128 .bf16} {m : FVec Ideal S512x1 .f32} {a : FVec Ideal S512x128 .f32} {k v : Vec Ideal S1x256x128 .bf16}
    {Q : Fin 512 → Fin 128 → ℝ} {K V : ℕ → Fin 128 → ℝ} {n : ℕ} (hq : ∀ p l, q (ix2 p l) = (Q p l : EReal))
    (hk : ∀ j l, k (ix3 0 j l) = (K (n + j) l : EReal)) (hv : ∀ j l, v (ix3 0 j l) = (V (n + j) l : EReal)) (p : Fin 512)
    (H : Seen n (dotR Q K p) V (m (ix2 p 0)) fun c => a (ix2 p c)) :
    Seen (n + 256) (dotR Q K p) V (k0_pay12 q m k (ix2 p 0)) fun c => k0_pay13 q m a k v (ix2 p c) := by
  have hs : ∀ j : Fin 256, k0_pay11 q k (ix2 p j) = (dotR Q K p (n + j) : EReal) := fun j => by
    pointwise [k0_pay11]
    rw [dotR, coe_sum]
    exact Finset.sum_congr rfl fun l _ => by rw [hq, hk, EReal.coe_mul]
  refine H.step (N := 256) (by decide) ?_ fun c => ?_
  · pointwise [k0_pay12]
    rw [c_bot]
    simp only [hs]
  · pointwise [k0_pay13]
    simp only [hs, hv]

theorem step1024 {q : FVec Ideal S512x128 .bf16} {m : FVec Ideal S512x1 .f32} {a : FVec Ideal S512x128 .f32} {k v : Vec Ideal S1x1024x128 .bf16}
    {Q : Fin 512 → Fin 128 → ℝ} {K V : ℕ → Fin 128 → ℝ} {n : ℕ} (hq : ∀ p l, q (ix2 p l) = (Q p l : EReal))
    (hk : ∀ j l, k (ix3 0 j l) = (K (n + j) l : EReal)) (hv : ∀ j l, v (ix3 0 j l) = (V (n + j) l : EReal)) (p : Fin 512)
    (H : Seen n (dotR Q K p) V (m (ix2 p 0)) fun c => a (ix2 p c)) :
    Seen (n + 1024) (dotR Q K p) V (k0_pay33 q m k (ix2 p 0)) fun c => k0_pay34 q m a k v (ix2 p c) := by
  have hs : ∀ j : Fin 1024, k0_pay32 q k (ix2 p j) = (dotR Q K p (n + j) : EReal) := fun j => by
    pointwise [k0_pay32]
    rw [dotR, coe_sum]
    exact Finset.sum_congr rfl fun l _ => by rw [hq, hk, EReal.coe_mul]
  refine H.step (N := 1024) (by decide) ?_ fun c => ?_
  · pointwise [k0_pay33]
    rw [c_bot]
    simp only [hs]
  · pointwise [k0_pay34]
    simp only [hs, hv]

theorem init_at (Q : Fin 512 → Fin 128 → ℝ) (K V : ℕ → Fin 128 → ℝ) (p : Fin 512) :
    Seen 0 (dotR Q K p) V ((k0_pay3 : FVec Ideal S512x1 .f32) (ix2 p 0)) fun c => (k0_pay4 : FVec Ideal S512x128 .f32) (ix2 p c) :=
  Or.inl ⟨rfl, c_bot⟩

theorem q_at {a b : Vec Ideal S1x256x128 .bf16} {A B : Fin 256 → Fin 128 → ℝ} (ha : ∀ p l, a (ix3 0 p l) = (A p l : EReal))
    (hb : ∀ p l, b (ix3 0 p l) = (B p l : EReal)) (p : Fin 512) (l : Fin 128) :
    k0_pay1 a b (ix2 p l) = ((if h : (p : ℕ) < 256 then A ⟨p, h⟩ l else B ⟨p - 256, by omega⟩ l : ℝ) : EReal) := by
  pointwise [k0_pay1]
  by_cases h : (p : ℕ) < 256
  · simp only [dif_pos h]
    exact ha _ _
  · simp only [dif_neg h]
    first | exact hb _ _ | exact (if_pos rfl).trans (hb _ _) | simp [hb]

theorem lt_lane (d : Fin 128) : IntOp.cmpi .slt (BitVec.ofNat 32 (d : ℕ)) 64#32 = if (d : ℕ) < 64 then 1#1 else 0#1 := by
  revert d; decide +kernel
theorem eq_lane (d : Fin 128) : IntOp.cmpi .eq (BitVec.ofNat 32 (d : ℕ)) 64#32 = if d = 64 then 1#1 else 0#1 := by
  revert d; decide +kernel

theorem pick_ite {α : Type} (c : Prop) [Decidable c] (a b : α) : Scalar.select (if c then 1#1 else 0#1) a b = if c then a else b := by
  split <;> rfl

theorem lo_at (m : FVec Ideal S512x1 .f32) (a : FVec Ideal S512x128 .f32) (p : Fin 256) (d : Fin 128) (hd : (d : ℕ) < 64) :
    k0_pay90 lanes m a (ix3 0 p d) = a (ix2 ⟨p, by omega⟩ d) * Ideal.div 1 (a (ix2 ⟨p, by omega⟩ 64)) := by
  pointwise [k0_pay90, k0_pay89]
  simp only [lt_lane, eq_lane, pick_ite, hd, if_true, Finset.sum_ite_eq', Finset.mem_univ]
  rfl
theorem hi_at (m : FVec Ideal S512x1 .f32) (a : FVec Ideal S512x128 .f32) (p : Fin 256) (d : Fin 128) (hd : (d : ℕ) < 64) :
    k0_pay10 (k0_pay91 lanes m a) (ix3 0 p d) = a (ix2 ⟨256 + p, by omega⟩ d) * Ideal.div 1 (a (ix2 ⟨256 + p, by omega⟩ 64)) := by
  pointwise [k0_pay10, k0_pay91, k0_pay89]
  simp only [lt_lane, eq_lane, pick_ite, hd, if_true, Finset.sum_ite_eq', Finset.mem_univ]
  rfl

end

end Cert.Attn
-- ==== Proof.AOut.lean ====
module

public import proofs.«01_k».proof.Proof.Gen.Kernel2Ideal.Frame
public import proofs.«01_k».proof.Proof.ATile
public import Idealize.ShloMosaic.Lib.Pipeline.ValueKit
public import Idealize.ShloMosaic.Lib.Pipeline.ReadBack
public import Idealize.ShloMosaic.Lib.WritesUnit

/-! # The launch's output at a grid point -/

@[expose] public section

set_option maxRecDepth 16384

namespace Cert.Attn

open Idealize.ShloMosaic Idealize.ShloMosaic.TcCoe Cert.Kernel2Ideal Cert.Kernel2Ideal.Gen Cert.InProj

noncomputable section

theorem lt33 (t : Fin cfg0.N) : (t : ℕ) < 33 := by
  have e : cfg0.N = 33 := by decide +kernel
  have := t.isLt
  omega
/-- Row `r` of the block of grid point `t`. -/
def row (t : Fin cfg0.N) (r : Fin 256) : Fin 8448 := ⟨256 * t + r, by have := lt33 t; omega⟩

namespace Inp
variable (I : Inp)

/-- A query's plane: the head's 64 columns scaled, then zeros. -/
def Qp (t : Fin 8448) (h : Fin 4) (l : Fin 128) : ℝ := if e : (l : ℕ) < 64 then I.q t (col4 h ⟨l, e⟩) * (1 / 8) else 0
/-- A key's plane. -/
def Kp (g : Fin 2) (j : Fin 8448) (l : Fin 128) : ℝ := if e : (l : ℕ) < 64 then I.k j (col2 g ⟨l, e⟩) else 0
/-- A value's plane, with a one past its columns. -/
def Vp (g : Fin 2) (j : Fin 8448) (l : Fin 128) : ℝ := if e : (l : ℕ) < 64 then I.v j (col2 g ⟨l, e⟩) else if l = 64 then 1 else 0

theorem Vp_col (g : Fin 2) (j : Fin 8448) (d : Fin 64) : I.Vp g j ⟨d, by omega⟩ = I.v j (col2 g d) := dif_pos d.isLt

theorem score (t : Fin 8448) (h : Fin 4) (j : ℕ) : (∑ l, I.Qp t h l * at0 (fun j => I.Kp (grp h) j l) j) = at0 (I.sc t h) j := by
  by_cases hj : j < 8448
  · simp only [at0_lt _ _ hj, sc]
    have e := Fin.sum_univ_add (a := 64) (b := 64) fun l : Fin (64 + 64) => I.Qp t h l * I.Kp (grp h) ⟨j, hj⟩ l
    refine e.trans ?_
    rw [Finset.sum_mul, add_comm, Finset.sum_eq_zero, zero_add]
    · refine Finset.sum_congr rfl fun d _ => ?_
      have q : I.Qp t h (Fin.castAdd 64 d) = I.q t (col4 h d) * (1 / 8) := dif_pos d.isLt
      have k : I.Kp (grp h) ⟨j, hj⟩ (Fin.castAdd 64 d) = I.k ⟨j, hj⟩ (col2 (grp h) d) := dif_pos d.isLt
      rw [q, k]
      ring
    · intro d _
      have q : I.Qp t h (Fin.natAdd 64 d) = 0 := dif_neg (by simp)
      rw [q, zero_mul]
  · simp only [at0, dif_neg hj, mul_zero, Finset.sum_const_zero]

end Inp

/-- A block of rows of one plane. -/
theorem ld3 {G M n : ℕ} {Val : EltTy → Type} {e : EltTy} (X : (⟨3, ![G, M, 128]⟩ : Shape).Idx → Val e) (g o : ℕ)
    (inb : ∀ a, (![g, o, 0] : Fin 3 → ℕ) a + (![1, n, 128] : Fin 3 → ℕ) a ≤ (⟨3, ![G, M, 128]⟩ : Shape).size a) (i : Fin G) (j : Fin M) (p : Fin n) (l : Fin 128)
    (hi : (i : ℕ) = g) (hj : (j : ℕ) = o + p) :
    View.ld X (Rect.unit (s := ⟨3, ![G, M, 128]⟩) ![g, o, 0] ![1, n, 128] inb) (ix3 (0 : Fin 1) p l) = X (ix3 i j l) := by
  have e : (Rect.unit (s := ⟨3, ![G, M, 128]⟩) ![g, o, 0] ![1, n, 128] inb).emb (ix3 (0 : Fin 1) p l) = ix3 i j l :=
    Rect.emb_eq_of_coords _ _ _ (by
      intro a
      match a with
      | 0 => change (i : ℕ) = g + 1 * 0; omega
      | 1 => change (j : ℕ) = o + 1 * (p : ℕ); omega
      | 2 => change (l : ℕ) = 0 + 1 * (l : ℕ); omega)
  rw [← e]
  rfl

variable {I : Inp} {m : (ℓ : Loc nD τ sig) → Buf (Elt Ideal) ℓ} {c : Dev nD} {t : Fin cfg0.N}

/-- What the launch's blocks hold at point `t`. -/
structure At (I : Inp) (m : (ℓ : Loc nD τ sig) → Buf (Elt Ideal) ℓ) (c : Dev nD) (t : Fin cfg0.N) : Prop where
  q : ∀ h r l, iblk m c 0 t (ix3 (n0 := 4) (n1 := 256) (n2 := 128) h r l) = (I.Qp (row t r) h l : EReal)
  k : ∀ g j l, iblk m c 1 t (ix3 (n0 := 2) (n1 := 8448) (n2 := 128) g j l) = (I.Kp g j l : EReal)
  v : ∀ g j l, iblk m c 2 t (ix3 (n0 := 2) (n1 := 8448) (n2 := 128) g j l) = (I.Vp g j l : EReal)

/-- The queries of a pair of heads, one head's rows after the other's. -/
def Q2 (I : Inp) (t : Fin cfg0.N) (h h' : Fin 4) (p : Fin 512) (l : Fin 128) : ℝ :=
  if e : (p : ℕ) < 256 then I.Qp (row t ⟨p, e⟩) h l else I.Qp (row t ⟨p - 256, by omega⟩) h' l
/-- Keys and values by number. -/
def K0 (I : Inp) (g : Fin 2) (j : ℕ) (l : Fin 128) : ℝ := at0 (fun j => I.Kp g j l) j
def V0' (I : Inp) (g : Fin 2) (j : ℕ) (l : Fin 128) : ℝ := at0 (fun j => I.Vp g j l) j

theorem At.q2 (A : At I m c t) (h h' : Fin 4)
    (i1 : ∀ a, (![(h : ℕ), 0, 0] : Fin 3 → ℕ) a + (![1, 256, 128] : Fin 3 → ℕ) a ≤ (⟨3, ![4, 256, 128]⟩ : Shape).size a)
    (i2 : ∀ a, (![(h' : ℕ), 0, 0] : Fin 3 → ℕ) a + (![1, 256, 128] : Fin 3 → ℕ) a ≤ (⟨3, ![4, 256, 128]⟩ : Shape).size a) (p : Fin 512) (l : Fin 128) :
    k0_pay1 (F := Ideal) (View.ld (iblk m c 0 t) (Rect.unit (s := ⟨3, ![4, 256, 128]⟩) ![(h : ℕ), 0, 0] ![1, 256, 128] i1))
      (View.ld (iblk m c 0 t) (Rect.unit (s := ⟨3, ![4, 256, 128]⟩) ![(h' : ℕ), 0, 0] ![1, 256, 128] i2)) (ix2 p l) = (Q2 I t h h' p l : EReal) :=
  q_at (A := fun p l => I.Qp (row t p) h l) (B := fun p l => I.Qp (row t p) h' l)
    (fun p l => (ld3 (iblk m c 0 t) h 0 i1 h p p l rfl (by omega)).trans (A.q _ _ _))
    (fun p l => (ld3 (iblk m c 0 t) h' 0 i2 h' p p l rfl (by omega)).trans (A.q _ _ _)) p l

theorem At.k1 (A : At I m c t) (g : Fin 2) (n o : ℕ) (hn : o + n ≤ 8448)
    (i : ∀ a, (![(g : ℕ), o, 0] : Fin 3 → ℕ) a + (![1, n, 128] : Fin 3 → ℕ) a ≤ (⟨3, ![2, 8448, 128]⟩ : Shape).size a) (j : Fin n) (l : Fin 128) :
    View.ld (iblk m c 1 t) (Rect.unit (s := ⟨3, ![2, 8448, 128]⟩) ![(g : ℕ), o, 0] ![1, n, 128] i) (ix3 (0 : Fin 1) j l) = (K0 I g (o + j) l : EReal) := by
  rw [ld3 (iblk m c 1 t) g o i g ⟨o + j, by omega⟩ j l rfl rfl, A.k, K0, at0_lt]
theorem At.v1 (A : At I m c t) (g : Fin 2) (n o : ℕ) (hn : o + n ≤ 8448)
    (i : ∀ a, (![(g : ℕ), o, 0] : Fin 3 → ℕ) a + (![1, n, 128] : Fin 3 → ℕ) a ≤ (⟨3, ![2, 8448, 128]⟩ : Shape).size a) (j : Fin n) (l : Fin 128) :
    View.ld (iblk m c 2 t) (Rect.unit (s := ⟨3, ![2, 8448, 128]⟩) ![(g : ℕ), o, 0] ![1, n, 128] i) (ix3 (0 : Fin 1) j l) = (V0' I g (o + j) l : EReal) := by
  rw [ld3 (iblk m c 2 t) g o i g ⟨o + j, by omega⟩ j l rfl rfl, A.v, V0', at0_lt]

/-- The finish, from what has been gathered. -/
theorem quot_out {n : ℕ} {g : Fin 2} {s : ℕ → ℝ} {M : EReal} {a : Fin 128 → EReal} {r : Fin 8448} {h : Fin 4} (hg : grp h = g) (hn : nk r = n)
    (hs : ∀ j, s j = at0 (I.sc r h) j) (H : Seen n s (V0' I g) M a) (d : Fin 64) :
    a ⟨d, by omega⟩ * Ideal.div 1 (a 64) = (I.out r h d : EReal) := by
  subst hg hn
  rw [H.quot (nk_pos r) 64 fun j hj => ?_]
  · obtain rfl : s = at0 (I.sc r h) := funext hs
    unfold Inp.out
    refine congrArg (fun w => (mean (nk r) (at0 (I.sc r h)) w : EReal)) (funext fun j => ?_)
    exact congrArg (fun f => at0 f j) (funext fun j => I.Vp_col _ j d)
  · have hj' : j < 8448 := lt_of_lt_of_le hj (nk_le r)
    rw [V0', at0_lt _ _ hj']
    rfl

theorem lo_out {n : ℕ} {g : Fin 2} {h h' : Fin 4} {m' : FVec Ideal S512x1 .f32} {a : FVec Ideal S512x128 .f32} {M : EReal} (hg : grp h = g) (p : Fin 256)
    (d : Fin 64) (hn : nk (row t p) = n) (H : Seen n (dotR (Q2 I t h h') (K0 I g) ⟨p, by omega⟩) (V0' I g) M fun c => a (ix2 ⟨p, by omega⟩ c)) :
    k0_pay90 lanes m' a (ix3 0 p ⟨d, by omega⟩) = (I.out (row t p) h d : EReal) := by
  rw [lo_at _ _ _ _ d.isLt]
  refine quot_out hg hn (fun j => ?_) H d
  subst hg
  rw [← Inp.score]
  refine Finset.sum_congr rfl fun l _ => congrArg (· * _) ?_
  exact dif_pos p.isLt

theorem hi_out {n : ℕ} {g : Fin 2} {h h' : Fin 4} {m' : FVec Ideal S512x1 .f32} {a : FVec Ideal S512x128 .f32} {M : EReal} (hg : grp h' = g) (p : Fin 256)
    (d : Fin 64) (hn : nk (row t p) = n) (H : Seen n (dotR (Q2 I t h h') (K0 I g) ⟨256 + p, by omega⟩) (V0' I g) M fun c => a (ix2 ⟨256 + p, by omega⟩ c)) :
    k0_pay10 (k0_pay91 lanes m' a) (ix3 0 p ⟨d, by omega⟩) = (I.out (row t p) h' d : EReal) := by
  rw [hi_at _ _ _ _ d.isLt]
  refine quot_out hg hn (fun j => ?_) H d
  subst hg
  rw [← Inp.score]
  refine Finset.sum_congr rfl fun l _ => congrArg (· * _) ?_
  refine (dif_neg (by simp)).trans ?_
  exact congrArg (fun r => I.Qp (row t r) h' l) (Fin.ext (by simp))

/-- A head's tile read at the output's index. -/
theorem of_head {pay : S1x256x128.Idx → EReal} (H : Fin 4) (hp : ∀ (p : Fin 256) (d : Fin 64), pay (ix3 0 p ⟨d, by omega⟩) = (I.out (row t p) H d : EReal))
    (h : Fin 4) (r : Fin 256) (l : Fin 128) (hl : (l : ℕ) < 64) (x : S1x256x128.Idx) (h0 : (h : ℕ) = H + (x 0 : ℕ)) (h1 : (r : ℕ) = (x 1 : ℕ))
    (h2 : (l : ℕ) = (x 2 : ℕ)) : pay x = (I.out (row t r) h ⟨l, hl⟩ : EReal) := by
  have x0 : ((x 0 : Fin 1) : ℕ) = 0 := Nat.lt_one_iff.mp (x 0 : Fin 1).isLt
  have x0' : (x 0 : ℕ) = 0 := x0
  have e : x = ix3 (0 : Fin 1) r l := by
    funext a
    match a with
    | 0 => exact Fin.ext x0
    | 1 => exact Fin.ext h1.symm
    | 2 => exact Fin.ext h2.symm
  obtain rfl : h = H := Fin.ext (by omega)
  rw [e]
  exact hp r ⟨l, hl⟩

theorem nk_A (h1 : ¬ 1 ≤ t.val) (p : Fin 256) : nk (row t p) = 0 + 256 := if_pos (by simp only [row]; omega)
theorem nk_B (h1 : 1 ≤ t.val) (p : Fin 256) : nk (row t p) = 0 + 256 + 1024 + 1024 + 1024 + 1024 + 1024 + 1024 + 1024 + 1024 :=
  if_neg (by simp only [row]; omega)

theorem out_A (A : At I m c t) (h0 : t.val % 33 = 0) (h1 : ¬1 ≤ t.val) (h : Fin 4) (r : Fin 256) (l : Fin 128) (hl : (l : ℕ) < 64) :
    (outsAt0 m c t.val t.isLt) (ix3 h r l) = (I.out (row t r) h ⟨l, hl⟩ : EReal) := by
  have hk := nk_A (t := t) h1
  rw [outsAt0_A m c t h0 h1]
  frame_out
  canon_tiles x h
  · refine of_head 3 (fun p d => ?_) h r l hl x h0 h1 h2
    try simp only [e2, e5, e6, e15, e16, e8, e9, e19, e20]
    exact hi_out (g := 1) (h := 2) (h' := 3) rfl p d (hk p) (step256 (A.q2 2 3 _ _) (A.k1 1 256 0 (by decide) _) (A.v1 1 256 0 (by decide) _) _ (init_at _ _ _ _))
  · refine of_head 2 (fun p d => ?_) h r l hl x h0 h1 h2
    try simp only [e2, e5, e6, e15, e16, e8, e9, e19, e20]
    exact lo_out (g := 1) (h := 2) (h' := 3) rfl p d (hk p) (step256 (A.q2 2 3 _ _) (A.k1 1 256 0 (by decide) _) (A.v1 1 256 0 (by decide) _) _ (init_at _ _ _ _))
  · refine of_head 1 (fun p d => ?_) h r l hl x h0 h1 h2
    try simp only [e2, e5, e6, e15, e16, e8, e9, e19, e20]
    exact hi_out (g := 0) (h := 0) (h' := 1) rfl p d (hk p) (step256 (A.q2 0 1 _ _) (A.k1 0 256 0 (by decide) _) (A.v1 0 256 0 (by decide) _) _ (init_at _ _ _ _))
  · refine of_head 0 (fun p d => ?_) h r l hl x (h0.trans (Nat.zero_add _).symm) h1 h2
    try simp only [e2, e5, e6, e15, e16, e8, e9, e19, e20]
    exact lo_out (g := 0) (h := 0) (h' := 1) rfl p d (hk p) (step256 (A.q2 0 1 _ _) (A.k1 0 256 0 (by decide) _) (A.v1 0 256 0 (by decide) _) _ (init_at _ _ _ _))

theorem out_B (A : At I m c t) (h0 : ¬t.val % 33 = 0) (h1 : 1 ≤ t.val) (h : Fin 4) (r : Fin 256) (l : Fin 128) (hl : (l : ℕ) < 64) :
    (outsAt0 m c t.val t.isLt) (ix3 h r l) = (I.out (row t r) h ⟨l, hl⟩ : EReal) := by
  have hk := nk_B (t := t) h1
  rw [outsAt0_B m c t h0 h1]
  frame_out
  canon_tiles x h
  · refine of_head 3 (fun p d => ?_) h r l hl x h0 h1 h2
    simp only [e2, e5, e6, e27, e28, e30, e31, e36, e39, e42, e49, e56, e62, e65, e69, e72, e76, e79, e83, e37, e40, e43, e50, e57, e63, e70, e77, e84, e46, e47, e53, e54, e59, e60, e66, e74, e67, e73, e80, e81, e34, e87, e88]
    exact hi_out (g := 1) (h := 2) (h' := 3) rfl p d (hk p) (step1024 (A.q2 2 3 _ _) (A.k1 1 1024 7424 (by decide) _) (A.v1 1 1024 7424 (by decide) _) _ (step1024 (A.q2 2 3 _ _) (A.k1 1 1024 6400 (by decide) _) (A.v1 1 1024 6400 (by decide) _) _ (step1024 (A.q2 2 3 _ _) (A.k1 1 1024 5376 (by decide) _) (A.v1 1 1024 5376 (by decide) _) _ (step1024 (A.q2 2 3 _ _) (A.k1 1 1024 4352 (by decide) _) (A.v1 1 1024 4352 (by decide) _) _ (step1024 (A.q2 2 3 _ _) (A.k1 1 1024 3328 (by decide) _) (A.v1 1 1024 3328 (by decide) _) _ (step1024 (A.q2 2 3 _ _) (A.k1 1 1024 2304 (by decide) _) (A.v1 1 1024 2304 (by decide) _) _ (step1024 (A.q2 2 3 _ _) (A.k1 1 1024 1280 (by decide) _) (A.v1 1 1024 1280 (by decide) _) _ (step1024 (A.q2 2 3 _ _) (A.k1 1 1024 256 (by decide) _) (A.v1 1 1024 256 (by decide) _) _ (step256 (A.q2 2 3 _ _) (A.k1 1 256 0 (by decide) _) (A.v1 1 256 0 (by decide) _) _ (init_at _ _ _ _))))))))))
  · refine of_head 2 (fun p d => ?_) h r l hl x h0 h1 h2
    simp only [e2, e5, e6, e27, e28, e30, e31, e36, e39, e42, e49, e56, e62, e65, e69, e72, e76, e79, e83, e37, e40, e43, e50, e57, e63, e70, e77, e84, e46, e47, e53, e54, e59, e60, e66, e74, e67, e73, e80, e81, e34, e87, e88]
    exact lo_out (g := 1) (h := 2) (h' := 3) rfl p d (hk p) (step1024 (A.q2 2 3 _ _) (A.k1 1 1024 7424 (by decide) _) (A.v1 1 1024 7424 (by decide) _) _ (step1024 (A.q2 2 3 _ _) (A.k1 1 1024 6400 (by decide) _) (A.v1 1 1024 6400 (by decide) _) _ (step1024 (A.q2 2 3 _ _) (A.k1 1 1024 5376 (by decide) _) (A.v1 1 1024 5376 (by decide) _) _ (step1024 (A.q2 2 3 _ _) (A.k1 1 1024 4352 (by decide) _) (A.v1 1 1024 4352 (by decide) _) _ (step1024 (A.q2 2 3 _ _) (A.k1 1 1024 3328 (by decide) _) (A.v1 1 1024 3328 (by decide) _) _ (step1024 (A.q2 2 3 _ _) (A.k1 1 1024 2304 (by decide) _) (A.v1 1 1024 2304 (by decide) _) _ (step1024 (A.q2 2 3 _ _) (A.k1 1 1024 1280 (by decide) _) (A.v1 1 1024 1280 (by decide) _) _ (step1024 (A.q2 2 3 _ _) (A.k1 1 1024 256 (by decide) _) (A.v1 1 1024 256 (by decide) _) _ (step256 (A.q2 2 3 _ _) (A.k1 1 256 0 (by decide) _) (A.v1 1 256 0 (by decide) _) _ (init_at _ _ _ _))))))))))
  · refine of_head 1 (fun p d => ?_) h r l hl x h0 h1 h2
    simp only [e2, e5, e6, e27, e28, e30, e31, e36, e39, e42, e49, e56, e62, e65, e69, e72, e76, e79, e83, e37, e40, e43, e50, e57, e63, e70, e77, e84, e46, e47, e53, e54, e59, e60, e66, e74, e67, e73, e80, e81, e34, e87, e88]
    exact hi_out (g := 0) (h := 0) (h' := 1) rfl p d (hk p) (step1024 (A.q2 0 1 _ _) (A.k1 0 1024 7424 (by decide) _) (A.v1 0 1024 7424 (by decide) _) _ (step1024 (A.q2 0 1 _ _) (A.k1 0 1024 6400 (by decide) _) (A.v1 0 1024 6400 (by decide) _) _ (step1024 (A.q2 0 1 _ _) (A.k1 0 1024 5376 (by decide) _) (A.v1 0 1024 5376 (by decide) _) _ (step1024 (A.q2 0 1 _ _) (A.k1 0 1024 4352 (by decide) _) (A.v1 0 1024 4352 (by decide) _) _ (step1024 (A.q2 0 1 _ _) (A.k1 0 1024 3328 (by decide) _) (A.v1 0 1024 3328 (by decide) _) _ (step1024 (A.q2 0 1 _ _) (A.k1 0 1024 2304 (by decide) _) (A.v1 0 1024 2304 (by decide) _) _ (step1024 (A.q2 0 1 _ _) (A.k1 0 1024 1280 (by decide) _) (A.v1 0 1024 1280 (by decide) _) _ (step1024 (A.q2 0 1 _ _) (A.k1 0 1024 256 (by decide) _) (A.v1 0 1024 256 (by decide) _) _ (step256 (A.q2 0 1 _ _) (A.k1 0 256 0 (by decide) _) (A.v1 0 256 0 (by decide) _) _ (init_at _ _ _ _))))))))))
  · refine of_head 0 (fun p d => ?_) h r l hl x (h0.trans (Nat.zero_add _).symm) h1 h2
    simp only [e2, e5, e6, e27, e28, e30, e31, e36, e39, e42, e49, e56, e62, e65, e69, e72, e76, e79, e83, e37, e40, e43, e50, e57, e63, e70, e77, e84, e46, e47, e53, e54, e59, e60, e66, e74, e67, e73, e80, e81, e34, e87, e88]
    exact lo_out (g := 0) (h := 0) (h' := 1) rfl p d (hk p) (step1024 (A.q2 0 1 _ _) (A.k1 0 1024 7424 (by decide) _) (A.v1 0 1024 7424 (by decide) _) _ (step1024 (A.q2 0 1 _ _) (A.k1 0 1024 6400 (by decide) _) (A.v1 0 1024 6400 (by decide) _) _ (step1024 (A.q2 0 1 _ _) (A.k1 0 1024 5376 (by decide) _) (A.v1 0 1024 5376 (by decide) _) _ (step1024 (A.q2 0 1 _ _) (A.k1 0 1024 4352 (by decide) _) (A.v1 0 1024 4352 (by decide) _) _ (step1024 (A.q2 0 1 _ _) (A.k1 0 1024 3328 (by decide) _) (A.v1 0 1024 3328 (by decide) _) _ (step1024 (A.q2 0 1 _ _) (A.k1 0 1024 2304 (by decide) _) (A.v1 0 1024 2304 (by decide) _) _ (step1024 (A.q2 0 1 _ _) (A.k1 0 1024 1280 (by decide) _) (A.v1 0 1024 1280 (by decide) _) _ (step1024 (A.q2 0 1 _ _) (A.k1 0 1024 256 (by decide) _) (A.v1 0 1024 256 (by decide) _) _ (step256 (A.q2 0 1 _ _) (A.k1 0 256 0 (by decide) _) (A.v1 0 256 0 (by decide) _) _ (init_at _ _ _ _))))))))))

end

end Cert.Attn
-- ==== Proof.AArr.lean ====
module

public import proofs.«01_k».proof.Proof.AOut
public import proofs.«01_k».proof.Proof.K0
public import Idealize.ShloMosaic.Lib.Claim
public import Idealize.ShloMosaic.Lib.StableHlo.Predicate

/-! # The launch's arrays and the lines around it -/

@[expose] public section

set_option maxRecDepth 16384

namespace Cert.Attn

open Idealize.ShloMosaic Idealize.ShloMosaic.TcCoe Cert.Kernel2Ideal Cert.Kernel2Ideal.Gen Cert.InProj
open Cert.Attn (row)

noncomputable section

theorem coords0 (t : Fin cfg0.N) : ((grid0.coords t 0 : Fin 33) : ℕ) = t.val := (by decide +kernel : ∀ t : Fin grid0.N, ((grid0.coords t 0 : Fin 33) : ℕ) = t.val) t
theorem idx0_0 : ∀ t : Fin cfg0.N, win0_0.index t = ![0, t.val, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, t.val, 0] := (by decide +kernel : ∀ t : Fin grid0.N, _)
theorem row0 (t : Fin cfg0.N) (r : Fin 256) : (Cert.Attn.row t r : ℕ) = t.val * 256 + r := by simp only [Cert.Attn.row]; omega

/-! ## Around the launch -/

theorem pre_v6 (X : Valuation τ sig (Elt Ideal)) (h : Fin 4) (t : Fin 8448) (l : Fin 128) :
    StableHlo.after hostOps0 X (Proc.devRef .tc main_v6) (ix3 (n0 := 4) (n1 := 8448) (n2 := 128) h t l)
      = if e : (l : ℕ) < 64 then @HMul.hMul EReal EReal EReal instHMul (X (Proc.devRef .tc main_arg0) (ix2 (n0 := 8448) (n1 := 256) t ⟨h * 64 + l, by omega⟩)) (Ideal.ofBits .f32 0x3E000000#32) else (0 : EReal) := by
  unfold_abbrev_sides
  after_results
  pointwise
theorem pre_v11 (X : Valuation τ sig (Elt Ideal)) (h : Fin 2) (t : Fin 8448) (l : Fin 128) :
    StableHlo.after hostOps0 X (Proc.devRef .tc main_v11) (ix3 (n0 := 2) (n1 := 8448) (n2 := 128) h t l)
      = if e : (l : ℕ) < 64 then (X (Proc.devRef .tc main_arg1) (ix2 (n0 := 8448) (n1 := 128) t ⟨h * 64 + l, by omega⟩) : EReal) else (0 : EReal) := by
  unfold_abbrev_sides
  after_results
  pointwise
theorem pre_v21 (X : Valuation τ sig (Elt Ideal)) (h : Fin 2) (t : Fin 8448) (l : Fin 128) :
    StableHlo.after hostOps0 X (Proc.devRef .tc main_v21) (ix3 (n0 := 2) (n1 := 8448) (n2 := 128) h t l)
      = if e : (l : ℕ) < 64 then (X (Proc.devRef .tc main_arg2) (ix2 (n0 := 8448) (n1 := 128) t ⟨h * 64 + l, by omega⟩) : EReal) else if (l : ℕ) = 64 then (1 : EReal) else (0 : EReal) := by
  unfold_abbrev_sides
  after_results
  pointwise
  by_cases e : (l : ℕ) < 64
  · simp only [dif_pos e]
  · simp only [dif_neg e]
    by_cases e' : (l : ℕ) = 64
    · rw [if_pos e', dif_pos (by omega : (l : ℕ) - 64 < 1)]
    · rw [if_neg e', dif_neg (by omega : ¬(l : ℕ) - 64 < 1)]

theorem Qp_lt (I : Inp) (h : Fin 4) (t : Fin 8448) (l : Fin 128) (e : (l : ℕ) < 64) : I.Qp t h l = I.q t (col4 h ⟨l, e⟩) * (1 / 8) := dif_pos e
theorem Qp_ge (I : Inp) (h : Fin 4) (t : Fin 8448) (l : Fin 128) (e : ¬(l : ℕ) < 64) : I.Qp t h l = 0 := dif_neg e
theorem Kp_lt (I : Inp) (h : Fin 2) (t : Fin 8448) (l : Fin 128) (e : (l : ℕ) < 64) : I.Kp h t l = I.k t (col2 h ⟨l, e⟩) := dif_pos e
theorem Kp_ge (I : Inp) (h : Fin 2) (t : Fin 8448) (l : Fin 128) (e : ¬(l : ℕ) < 64) : I.Kp h t l = 0 := dif_neg e
theorem Vp_lt (I : Inp) (h : Fin 2) (t : Fin 8448) (l : Fin 128) (e : (l : ℕ) < 64) : I.Vp h t l = I.v t (col2 h ⟨l, e⟩) := dif_pos e
theorem Vp_one (I : Inp) (h : Fin 2) (t : Fin 8448) (l : Fin 128) (e : (l : ℕ) = 64) : I.Vp h t l = 1 := by
  obtain rfl : l = 64 := Fin.ext e
  exact (dif_neg (by decide)).trans (if_pos rfl)
theorem Vp_ge (I : Inp) (h : Fin 2) (t : Fin 8448) (l : Fin 128) (e : ¬(l : ℕ) < 64) (e' : ¬(l : ℕ) = 64) : I.Vp h t l = 0 :=
  (dif_neg e).trans (if_neg fun h => e' (congrArg Fin.val h))

/-- The arguments are the reals of `I`. -/
structure KArgs (m : (ℓ : Loc nD τ sig) → Buf (Elt Ideal) ℓ) (c : Dev nD) (I : Inp) : Prop where
  q : ∀ t j, m ((c.tc : Thread nD τ).loc main_arg0) (ix2 (n0 := 8448) (n1 := 256) t j) = (I.q t j : EReal)
  k : ∀ t j, m ((c.tc : Thread nD τ).loc main_arg1) (ix2 (n0 := 8448) (n1 := 128) t j) = (I.k t j : EReal)
  v : ∀ t j, m ((c.tc : Thread nD τ).loc main_arg2) (ix2 (n0 := 8448) (n1 := 128) t j) = (I.v t j : EReal)

variable {I : Inp} {m : (ℓ : Loc nD τ sig) → Buf (Elt Ideal) ℓ} {c : Dev nD}

theorem V_eq (b : Ref sig .tc) : V m c b = StableHlo.after hostOps0 (fun b => m (c, b)) (Proc.devRef .tc b) := by
  unfold V V0
  rw [List.flatten_singleton]

theorem q_plane (K : KArgs m c I) (h : Fin 4) (t : Fin 8448) (l : Fin 128) :
    V m c main_v6 (ix3 (n0 := 4) (n1 := 8448) (n2 := 128) h t l) = (I.Qp t h l : EReal) := by
  refine ((congrFun (V_eq main_v6) _).trans (pre_v6 _ h t l)).trans ?_
  by_cases e : (l : ℕ) < 64
  · rw [dif_pos e, Qp_lt I h t l e, EReal.coe_mul]
    refine congrArg₂ (fun a b : EReal => a * b) ((K.q t _).trans ?_) c_eighth
    exact congrArg (fun c => (I.q t c : EReal)) (Fin.ext (by simp only [col4]; omega))
  · rw [dif_neg e, Qp_ge I h t l e]; rfl
theorem k_plane (K : KArgs m c I) (h : Fin 2) (t : Fin 8448) (l : Fin 128) :
    V m c main_v11 (ix3 (n0 := 2) (n1 := 8448) (n2 := 128) h t l) = (I.Kp h t l : EReal) := by
  refine ((congrFun (V_eq main_v11) _).trans (pre_v11 _ h t l)).trans ?_
  by_cases e : (l : ℕ) < 64
  · rw [dif_pos e, Kp_lt I h t l e]
    refine (K.k t _).trans ?_
    exact congrArg (fun c => (I.k t c : EReal)) (Fin.ext (by simp only [col2]; omega))
  · rw [dif_neg e, Kp_ge I h t l e]; rfl
theorem v_plane (K : KArgs m c I) (h : Fin 2) (t : Fin 8448) (l : Fin 128) :
    V m c main_v21 (ix3 (n0 := 2) (n1 := 8448) (n2 := 128) h t l) = (I.Vp h t l : EReal) := by
  refine ((congrFun (V_eq main_v21) _).trans (pre_v21 _ h t l)).trans ?_
  by_cases e : (l : ℕ) < 64
  · rw [dif_pos e, Vp_lt I h t l e]
    refine (K.v t _).trans ?_
    exact congrArg (fun c => (I.v t c : EReal)) (Fin.ext (by simp only [col2]; omega))
  · rw [dif_neg e]
    by_cases e' : (l : ℕ) = 64
    · rw [if_pos e', Vp_one I h t l e']; rfl
    · rw [if_neg e', Vp_ge I h t l e e']; rfl

theorem KArgs.blk (K : KArgs m c I) (t : Fin cfg0.N) : At I m c t where
  q h r l := by
    blk_simp [iblk, idx0_0]
    exact (at3 (V m c (Pipeline.arrRef spec0 0)) _ h (Cert.Attn.row t r) l (by blk_simp [idx0_0]) (by blk_simp [idx0_0]; rw [row0]) (by blk_simp [idx0_0])).trans (q_plane K _ _ _)
  k g j l := by
    blk_simp [iblk, idx0_1]
    exact (at3 (V m c (Pipeline.arrRef spec0 1)) _ g j l (by blk_simp [idx0_1]) (by blk_simp [idx0_1]) (by blk_simp [idx0_1])).trans (k_plane K _ _ _)
  v g j l := by
    blk_simp [iblk, idx0_2]
    exact (at3 (V m c (Pipeline.arrRef spec0 2)) _ g j l (by blk_simp [idx0_2]) (by blk_simp [idx0_2]) (by blk_simp [idx0_2])).trans (v_plane K _ _ _)

theorem out_at (K : KArgs m c I) (t : Fin cfg0.N) (h : Fin 4) (r : Fin 256) (l : Fin 128) (hl : (l : ℕ) < 64) :
    (outsAt0 m c t.val t.isLt) (ix3 h r l) = (I.out (Cert.Attn.row t r) h ⟨l, hl⟩ : EReal) := by
  have := lt33 t
  by_cases h1 : 1 ≤ t.val
  · exact out_B (K.blk t) (by omega) h1 h r l hl
  · exact out_A (K.blk t) (by omega) h1 h r l hl

/-- The launch's array: the attention in a plane's first columns, what the kernel leaves there in the rest. -/
def full (m : (ℓ : Loc nD τ sig) → Buf (Elt Ideal) ℓ) (c : Dev nD) (h : Fin 4) (t : Fin 8448) (l : Fin 128) : EReal :=
  outsAt0 m c (t / 256) (by have e : cfg0.N = 33 := by decide +kernel
                            omega) (ix3 (n0 := 4) (n1 := 256) (n2 := 128) h ⟨t % 256, by omega⟩ l)

theorem arr (m : (ℓ : Loc nD τ sig) → Buf (Elt Ideal) ℓ) (c : Dev nD) (h : Fin 4) (t : Fin 8448) (l : Fin 128) :
    (dats m 0 c).arrAt 3 cfg0.N (ix3 (n0 := 4) (n1 := 8448) (n2 := 128) h t l) = full m c h t l := by
  have := (dats m 0 c).arrAt_eq_of_covers 3 (fun y : S4x8448x128.Idx => full m c (y 0) (y 1) (y 2)) (by decide +kernel) fun t hf y => by
    obtain ⟨h, r, e, rfl⟩ : ∃ (h : Fin 4) (r : Fin 256) (e : Fin 128), y = ix3 h r e := ⟨y 0, y 1, y 2, eq_ix3 (n0 := 4) (n1 := 256) (n2 := 128) y⟩
    rw [after0_3]
    blk_simp [idx0_3]
    refine Eq.trans ?_ (at3 (fun y : S4x8448x128.Idx => full m c (y 0) (y 1) (y 2)) _ h (Cert.Attn.row t r) e (by blk_simp [idx0_3])
      (by blk_simp [idx0_3]; rw [row0]) (by blk_simp [idx0_3])).symm
    have e1 : (Cert.Attn.row t r : ℕ) / 256 = t.val := by rw [row0]; omega
    have e2 : (Cert.Attn.row t r : ℕ) % 256 = r := by rw [row0]; omega
    show outsAt0 m c t.val t.isLt (ix3 h r e) = full m c h (Cert.Attn.row t r) e
    unfold full
    congr 1
    · congr 1
      exact e1.symm
    · exact congrArg (fun r => ix3 h r e) (Fin.ext e2.symm)
  rw [this]; rfl

theorem full_at (K : KArgs m c I) (h : Fin 4) (t : Fin 8448) (l : Fin 128) (hl : (l : ℕ) < 64) : full m c h t l = (I.out t h ⟨l, hl⟩ : EReal) := by
  have e : cfg0.N = 33 := by decide +kernel
  refine (out_at K ⟨t / 256, by omega⟩ h ⟨t % 256, by omega⟩ l hl).trans ?_
  exact congrArg (fun t => (I.out t h ⟨l, hl⟩ : EReal)) (Fin.ext (by rw [row0]; show (t : ℕ) / 256 * 256 + (t : ℕ) % 256 = t; omega))

theorem after_v25 (X : Valuation τ sig (Elt Ideal)) (t : Fin 8448) (j : Fin 256) :
    StableHlo.after hostOps1 X (Proc.devRef .tc main_v25) (ix2 (n0 := 8448) (n1 := 256) t j)
      = X (Proc.devRef .tc main_v22) (ix3 (n0 := 4) (n1 := 8448) (n2 := 128) ⟨j / 64, by omega⟩ t ⟨j % 64, by omega⟩) := by
  unfold_abbrev_sides
  after_results
  pointwise

/-- What the run leaves in the result. -/
def result (m : (ℓ : Loc nD τ sig) → Buf (Elt Ideal) ℓ) (c : Dev nD) : Buf (Elt Ideal) ((c.tc : Thread nD τ).loc main_v25) :=
  Pipeline.afterTail₀ cfgs (dats m) 0 (V0 m) [hostOps1] c main_v25

theorem result_at (K : KArgs m c I) (t : Fin 8448) (j : Fin 256) :
    result m c (ix2 (n0 := 8448) (n1 := 256) t j) = (I.out t ⟨j / 64, by omega⟩ ⟨j % 64, by omega⟩ : EReal) := by
  unfold result Pipeline.afterTail₀
  rw [List.flatten_singleton, after_v25]
  exact (congrFun (Pipeline.withArrays_arr spec0 launch0.win.arr_inj c (V0 m c) (fun w => (dats m 0 c).arrAt w cfg0.N) 3) _).trans
    ((arr m c _ t _).trans (full_at K _ t _ (by show (j : ℕ) % 64 < 64; omega)))

/-- The run ends with that result and the arguments as they were. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).2 main_v25 (by decide), ((h c).2 main_arg0 (by decide)).trans (W_main_arg0 m (dats m) c),
    ((h c).2 main_arg1 (by decide)).trans (W_main_arg1 m (dats m) c), ((h c).2 main_arg2 (by decide)).trans (W_main_arg2 m (dats m) c)⟩) (run_main m ρ)

end

end Cert.Attn
-- ==== Proof.ARef.lean ====
module

public import proofs.«01_k».proof.Proof.Gen.Reference2Ideal.Run
public import proofs.«01_k».proof.Proof.ASpec

/-! # The reference's attention at real arguments -/

@[expose] public section

set_option maxRecDepth 16384

namespace Cert.Attn.Ref

open Idealize.ShloMosaic Cert.Reference2Ideal Cert.Reference2Ideal.Gen Cert.Reference2Ideal.Value Cert.InProj Cert.Attn

noncomputable section

/-! ## The reference by its steps -/

def scC (k : FVec Ideal S256x2x64 .f32) (q : FVec Ideal S256x2x2x64 .f32) : FVec Ideal S2x2x256x256 .f32 :=
  mulf (transpose S2x2x256x256 [0, 3, 2, 1] (Host.dotGeneral dot_S256x2x64_S256x2x2x64_S2x256x256x2_2_3_0_02_1_1 none k q) transposes_S2x256x256x2_S2x2x256x256_0_3_2_1)
    (broadcastInDim S2x2x256x256 ![] bcast_S_S2x2x256x256 (constant S_ .f32 0x3E000000#32))
def exC (s : FVec Ideal S2x2x256x256 .f32) : FVec Ideal S2x2x256x256 .f32 :=
  Host.exp (subf s (broadcastInDim S2x2x256x256 ![0, 1, 2, 3] bcast_S2x2x256x1_S2x2x256x256_0_1_2_3 (broadcastInDim S2x2x256x1 ![0, 1, 2] bcast_S2x2x256_S2x2x256x1_0_1_2
    (maximumf (broadcastInDim S2x2x256 ![] bcast_S_S2x2x256 (constant S_ .f32 0xFF800000#32))
      (Host.reduce FloatOps.maximumf s (constant S_ .f32 0xFF800000#32) reducesTo_S2x2x256x256_S2x2x256_d3 h_S_)))))
def prC (e : FVec Ideal S2x2x256x256 .f32) : FVec Ideal S2x2x256x256 .f32 :=
  Host.divf e (broadcastInDim S2x2x256x256 ![0, 1, 2, 3] bcast_S2x2x256x1_S2x2x256x256_0_1_2_3 (broadcastInDim S2x2x256x1 ![0, 1, 2] bcast_S2x2x256_S2x2x256x1_0_1_2
    (Host.reduceAdd e (constant S_ .f32 0x00000000#32) reducesTo_S2x2x256x256_S2x2x256_d3 h_S_)))
def ouC (v : FVec Ideal S256x2x64 .f32) (p : FVec Ideal S2x2x256x256 .f32) : FVec Ideal S256x256 .f32 :=
  shapeCast _ (transpose S256x2x2x64 [3, 0, 2, 1] (Host.dotGeneral dot_S256x2x64_S2x2x256x256_S2x64x2x256_0_3_2_12_1_0 none v p : FVec Ideal S2x64x2x256 .f32) transposes_S2x64x2x256_S256x2x2x64_3_0_2_1)
    shapeCasts_S256x2x2x64_S256x256
def scL (k : FVec Ideal S8448x2x64 .f32) (q : FVec Ideal S8192x2x2x64 .f32) : FVec Ideal S2x2x8192x8448 .f32 :=
  mulf (transpose S2x2x8192x8448 [0, 3, 2, 1] (Host.dotGeneral dot_S8448x2x64_S8192x2x2x64_S2x8448x8192x2_2_3_0_02_1_1 none k q) transposes_S2x8448x8192x2_S2x2x8192x8448_0_3_2_1)
    (broadcastInDim S2x2x8192x8448 ![] bcast_S_S2x2x8192x8448 (constant S_ .f32 0x3E000000#32))
def exL (s : FVec Ideal S2x2x8192x8448 .f32) : FVec Ideal S2x2x8192x8448 .f32 :=
  Host.exp (subf s (broadcastInDim S2x2x8192x8448 ![0, 1, 2, 3] bcast_S2x2x8192x1_S2x2x8192x8448_0_1_2_3 (broadcastInDim S2x2x8192x1 ![0, 1, 2] bcast_S2x2x8192_S2x2x8192x1_0_1_2
    (maximumf (broadcastInDim S2x2x8192 ![] bcast_S_S2x2x8192 (constant S_ .f32 0xFF800000#32))
      (Host.reduce FloatOps.maximumf s (constant S_ .f32 0xFF800000#32) reducesTo_S2x2x8192x8448_S2x2x8192_d3 h_S_)))))
def prL (e : FVec Ideal S2x2x8192x8448 .f32) : FVec Ideal S2x2x8192x8448 .f32 :=
  Host.divf e (broadcastInDim S2x2x8192x8448 ![0, 1, 2, 3] bcast_S2x2x8192x1_S2x2x8192x8448_0_1_2_3 (broadcastInDim S2x2x8192x1 ![0, 1, 2] bcast_S2x2x8192_S2x2x8192x1_0_1_2
    (Host.reduceAdd e (constant S_ .f32 0x00000000#32) reducesTo_S2x2x8192x8448_S2x2x8192_d3 h_S_)))
def ouL (v : FVec Ideal S8448x2x64 .f32) (p : FVec Ideal S2x2x8192x8448 .f32) : FVec Ideal S8192x256 .f32 :=
  shapeCast _ (transpose S8192x2x2x64 [3, 0, 2, 1] (Host.dotGeneral dot_S8448x2x64_S2x2x8192x8448_S2x64x2x8192_0_3_2_12_1_0 none v p : FVec Ideal S2x64x2x8192 .f32) transposes_S2x64x2x8192_S8192x2x2x64_3_0_2_1)
    shapeCasts_S8192x2x2x64_S8192x256
def hdC (a : FVec Ideal S8448x128 .f32) : FVec Ideal S256x2x64 .f32 :=
  extractStridedSlice S256x2x64 ![0, 0, 0] (shapeCast S8448x2x64 a shapeCasts_S8448x128_S8448x2x64) slices_S8448x2x64_S256x2x64_0_0_0
def hdL (a : FVec Ideal S8448x128 .f32) : FVec Ideal S8448x2x64 .f32 := shapeCast S8448x2x64 a shapeCasts_S8448x128_S8448x2x64
def qC (a : FVec Ideal S8448x256 .f32) : FVec Ideal S256x2x2x64 .f32 :=
  shapeCast S256x2x2x64 (extractStridedSlice S256x256 ![0, 0] a slices_S8448x256_S256x256_0_0) shapeCasts_S256x256_S256x2x2x64
def qL (a : FVec Ideal S8448x256 .f32) : FVec Ideal S8192x2x2x64 .f32 :=
  shapeCast S8192x2x2x64 (extractStridedSlice S8192x256 ![256, 0] a slices_S8448x256_S8192x256_256_0) shapeCasts_S8192x256_S8192x2x2x64
def res (q : FVec Ideal S8448x256 .f32) (k v : FVec Ideal S8448x128 .f32) : FVec Ideal S8448x256 .f32 :=
  concatenate S8448x256 0 [⟨S256x256, ouC (hdC v) (prC (exC (scC (hdC k) (qC q))))⟩, ⟨S8192x256, ouL (hdL v) (prL (exL (scL (hdL k) (qL q))))⟩]
    concatenates_S256x256_S8192x256_S8448x256_d0

theorem res_eq (m : (ℓ : Loc nD τ sig) → Buf (Elt Ideal) ℓ) (c : Dev nD) :
    res_main_v44 m c = res (m ((c.tc : Thread nD τ).loc main_arg0)) (m ((c.tc : Thread nD τ).loc main_arg1)) (m ((c.tc : Thread nD τ).loc main_arg2)) := by
  unfold res_main_v44
  rfl

/-- The head of group `g` and place `x`. -/
def hd (g x : Fin 2) : Fin 4 := ⟨2 * g + x, by omega⟩
/-- Context row `n`, latent row `n`. -/
def ctx (n : Fin 256) : Fin 8448 := ⟨n, by omega⟩
def lat (n : Fin 8192) : Fin 8448 := ⟨256 + n, by omega⟩

theorem grp_hd (g x : Fin 2) : grp (hd g x) = g := Fin.ext (by simp only [grp, hd]; omega)

/-- A row's softmax against the values, whatever it is reckoned from. -/
theorem soft {N : ℕ} (hN : 0 < N) (s w : ℕ → ℝ) {S E P W : Fin N → EReal} {M : EReal} (hs : ∀ j, S j = (s j : EReal)) (hM : M = max ⊥ (Finset.univ.fold max ⊥ S))
    (hE : ∀ j, E j = Ideal.exp (S j - M)) (hP : ∀ j, P j = Ideal.div (E j) (∑ x, E x)) (hW : ∀ j, W j = (w j : EReal)) :
    ∑ j, W j * P j = (mean N s w : EReal) := by
  obtain ⟨μ, hμ⟩ := fold_max_real hN fun j : Fin N => s j
  obtain rfl : S = fun j : Fin N => (s j : EReal) := funext hs
  rw [hμ, max_eq_right bot_le] at hM
  subst hM
  have e1 : ∀ j, E j = (Real.exp (s j - μ) : EReal) := fun j => (hE j).trans (exp_sub_real _ _)
  have e2 : (∑ x, E x) = ((∑ j ∈ Finset.range N, Real.exp (s j - μ) : ℝ) : EReal) := by
    rw [Finset.sum_range, coe_sum]
    exact Finset.sum_congr rfl fun j _ => e1 j
  have e3 : ∀ j, W j * P j = ((Real.exp (s j - μ) * w j / ∑ j ∈ Finset.range N, Real.exp (s j - μ) : ℝ) : EReal) := fun j => by
    rw [hP, hW, e1, e2, div_real _ _ (sum_exp_pos hN fun j => s j - μ).ne', ← EReal.coe_mul]
    congr 1
    ring
  rw [← mean_shift s w μ, Finset.sum_div, Finset.sum_range, coe_sum]
  exact Finset.sum_congr rfl fun j _ => e3 j

/-! ## The steps at an index -/

theorem exC_at (s : FVec Ideal S2x2x256x256 .f32) (g x : Fin 2) (n j : Fin 256) :
    exC s (ix4 g x n j) = Ideal.exp (s (ix4 g x n j) - max ⊥ (Finset.univ.fold max ⊥ fun j => (s (ix4 g x n j) : EReal))) := by
  pointwise [exC]
  rw [c_bot]
theorem prC_at (s : FVec Ideal S2x2x256x256 .f32) (g x : Fin 2) (n j : Fin 256) :
    prC s (ix4 g x n j) = Ideal.div (s (ix4 g x n j)) (∑ j, s (ix4 g x n j)) := by
  pointwise [prC]
/-- Exponentials less the greatest score, that given. -/
def exG (s : FVec Ideal S2x2x8192x8448 .f32) (A : FVec Ideal S2x2x8192 .f32) : FVec Ideal S2x2x8192x8448 .f32 :=
  Host.exp (subf s (broadcastInDim S2x2x8192x8448 ![0, 1, 2, 3] bcast_S2x2x8192x1_S2x2x8192x8448_0_1_2_3 (broadcastInDim S2x2x8192x1 ![0, 1, 2] bcast_S2x2x8192_S2x2x8192x1_0_1_2
    (maximumf (broadcastInDim S2x2x8192 ![] bcast_S_S2x2x8192 (constant S_ .f32 0xFF800000#32)) A))))
def mxL (s : FVec Ideal S2x2x8192x8448 .f32) : FVec Ideal S2x2x8192 .f32 :=
  Host.reduce FloatOps.maximumf s (constant S_ .f32 0xFF800000#32) reducesTo_S2x2x8192x8448_S2x2x8192_d3 h_S_
theorem exG_at (s : FVec Ideal S2x2x8192x8448 .f32) (A : FVec Ideal S2x2x8192 .f32) (g x : Fin 2) (n : Fin 8192) (j : Fin 8448) :
    exG s A (ix4 g x n j) = Ideal.exp (s (ix4 g x n j) - max ⊥ (A (ix3 g x n) : EReal)) := by
  pointwise [exG]
  rw [c_bot]
theorem mxL_at (s : FVec Ideal S2x2x8192x8448 .f32) (g x : Fin 2) (n : Fin 8192) :
    mxL s (ix3 g x n) = Finset.univ.fold max ⊥ fun j => (s (ix4 g x n j) : EReal) := by
  pointwise [mxL]
  rw [c_bot]
theorem exL_at (s : FVec Ideal S2x2x8192x8448 .f32) (g x : Fin 2) (n : Fin 8192) (j : Fin 8448) :
    exL s (ix4 g x n j) = Ideal.exp (s (ix4 g x n j) - max ⊥ (mxL s (ix3 g x n) : EReal)) := exG_at s (mxL s) g x n j
theorem prL_at (s : FVec Ideal S2x2x8192x8448 .f32) (g x : Fin 2) (n : Fin 8192) (j : Fin 8448) :
    prL s (ix4 g x n j) = Ideal.div (s (ix4 g x n j)) (∑ j, s (ix4 g x n j)) := by
  pointwise [prL]

/-! ## Over the reals -/

/-- The reference's arguments are the reals of `I`. -/
structure Args (I : Inp) (q : FVec Ideal S8448x256 .f32) (k v : FVec Ideal S8448x128 .f32) : Prop where
  q : ∀ t j, q (ix2 t j) = (I.q t j : EReal)
  k : ∀ t j, k (ix2 t j) = (I.k t j : EReal)
  v : ∀ t j, v (ix2 t j) = (I.v t j : EReal)

variable {I : Inp} {q : FVec Ideal S8448x256 .f32} {k v : FVec Ideal S8448x128 .f32} (A : Args I q k v)
include A

theorem kC_at (j : Fin 256) (g : Fin 2) (d : Fin 64) : hdC k (ix3 j g d) = (I.k (ctx j) (col2 g d) : EReal) := by
  pointwise [hdC]
  rw [A.k]
  exact congrArg (fun c => (I.k (ctx j) c : EReal)) (Fin.ext (by simp only [col2]; omega))
theorem vC_at (j : Fin 256) (g : Fin 2) (d : Fin 64) : hdC v (ix3 j g d) = (I.v (ctx j) (col2 g d) : EReal) := by
  pointwise [hdC]
  rw [A.v]
  exact congrArg (fun c => (I.v (ctx j) c : EReal)) (Fin.ext (by simp only [col2]; omega))
theorem qC_at (n : Fin 256) (g x : Fin 2) (d : Fin 64) : qC q (ix4 n g x d) = (I.q (ctx n) (col4 (hd g x) d) : EReal) := by
  pointwise [qC]
  rw [A.q]
  exact congrArg (fun c => (I.q (ctx n) c : EReal)) (Fin.ext (by simp only [col4, hd]; omega))
theorem kL_at (j : Fin 8448) (g : Fin 2) (d : Fin 64) : hdL k (ix3 j g d) = (I.k j (col2 g d) : EReal) := by
  pointwise [hdL]
  rw [A.k]
  exact congrArg (fun c => (I.k j c : EReal)) (Fin.ext (by simp only [col2]; omega))
theorem vL_at (j : Fin 8448) (g : Fin 2) (d : Fin 64) : hdL v (ix3 j g d) = (I.v j (col2 g d) : EReal) := by
  pointwise [hdL]
  rw [A.v]
  exact congrArg (fun c => (I.v j c : EReal)) (Fin.ext (by simp only [col2]; omega))
theorem qL_at (n : Fin 8192) (g x : Fin 2) (d : Fin 64) : qL q (ix4 n g x d) = (I.q (lat n) (col4 (hd g x) d) : EReal) := by
  pointwise [qL]
  rw [A.q]
  exact congrArg (fun c => (I.q (lat n) c : EReal)) (Fin.ext (by simp only [col4, hd]; omega))

theorem scC_at (g x : Fin 2) (n j : Fin 256) : scC (hdC k) (qC q) (ix4 g x n j) = (I.sc (ctx n) (hd g x) (ctx j) : EReal) := by
  pointwise [scC]
  rw [c_eighth, Inp.sc, EReal.coe_mul, coe_sum]
  refine congrArg (· * _) (Finset.sum_congr rfl fun d _ => ?_)
  rw [kC_at A, qC_at A, grp_hd, mul_comm, EReal.coe_mul]
theorem scL_at (g x : Fin 2) (n : Fin 8192) (j : Fin 8448) : scL (hdL k) (qL q) (ix4 g x n j) = (I.sc (lat n) (hd g x) j : EReal) := by
  pointwise [scL]
  rw [c_eighth, Inp.sc, EReal.coe_mul, coe_sum]
  refine congrArg (· * _) (Finset.sum_congr rfl fun d _ => ?_)
  rw [kL_at A, qL_at A, grp_hd, mul_comm, EReal.coe_mul]

/-- A column's head, in the group and among all. -/
def gX (j : Fin 256) : Fin 2 := ⟨j / 128, by omega⟩
def xX (j : Fin 256) : Fin 2 := ⟨j / 64 % 2, by omega⟩
def dX (j : Fin 256) : Fin 64 := ⟨j % 64, by omega⟩

omit A in
theorem head_val (j : Fin 256) : (hd (gX j) (xX j) : ℕ) = j / 64 := by
  show 2 * ((j : ℕ) / 128) + (j : ℕ) / 64 % 2 = (j : ℕ) / 64
  omega

theorem ouC_at (n j : Fin 256) : ouC (hdC v) (prC (exC (scC (hdC k) (qC q)))) (ix2 n j) = (I.out (ctx n) (hd (gX j) (xX j)) (dX j) : EReal) := by
  pointwise [ouC]
  refine (soft (N := 256) (by decide) (at0 (I.sc (ctx n) (hd (gX j) (xX j)))) (at0 fun t => I.v t (col2 (gX j) (dX j)))
    (S := fun t => scC (hdC k) (qC q) (ix4 (gX j) (xX j) n t)) (E := fun t => exC (scC (hdC k) (qC q)) (ix4 (gX j) (xX j) n t))
    (fun t => (scC_at A _ _ _ _).trans (congrArg _ (at0_lt (I.sc (ctx n) (hd (gX j) (xX j))) t (by omega)).symm)) rfl (fun t => exC_at _ _ _ _ _) (fun t => prC_at _ _ _ _ _)
    (fun t => (vC_at A _ _ _).trans (congrArg _ (at0_lt (fun t => I.v t (col2 (gX j) (dX j))) t (by omega)).symm))).trans ?_
  rw [Inp.out, grp_hd, show nk (ctx n) = 256 from if_pos n.isLt]
theorem ouL_at (n : Fin 8192) (j : Fin 256) :
    ouL (hdL v) (prL (exL (scL (hdL k) (qL q)))) (ix2 n j) = (I.out (lat n) (hd (gX j) (xX j)) (dX j) : EReal) := by
  pointwise [ouL]
  refine (soft (N := 8448) (by decide) (at0 (I.sc (lat n) (hd (gX j) (xX j)))) (at0 fun t => I.v t (col2 (gX j) (dX j)))
    (S := fun t => scL (hdL k) (qL q) (ix4 (gX j) (xX j) n t)) (E := fun t => exL (scL (hdL k) (qL q)) (ix4 (gX j) (xX j) n t))
    (fun t => (scL_at A _ _ _ _).trans (congrArg _ (at0_val (I.sc (lat n) (hd (gX j) (xX j))) t).symm)) (congrArg _ (mxL_at _ _ _ _)) (fun t => exL_at _ _ _ _ _) (fun t => prL_at _ _ _ _ _)
    (fun t => (vL_at A _ _ _).trans (congrArg _ (at0_val (fun t => I.v t (col2 (gX j) (dX j))) t).symm))).trans ?_
  rw [Inp.out, grp_hd, show nk (lat n) = 8448 from if_neg (by simp only [lat]; omega)]

theorem res_at (t : Fin 8448) (j : Fin 256) : res q k v (ix2 t j) = (I.out t (hd (gX j) (xX j)) (dX j) : EReal) := by
  pointwise [res]
  by_cases h : (t : ℕ) < 256
  · simp only [dif_pos h]
    exact ouC_at A ⟨t, h⟩ j
  · simp only [dif_neg h]
    refine (ouL_at A ⟨t - 256, by omega⟩ j).trans ?_
    exact congrArg (fun t => (I.out t (hd (gX j) (xX j)) (dX j) : EReal)) (Fin.ext (by simp only [lat]; omega))

end

end Cert.Attn.Ref
-- ==== Proof.AFin.lean ====
module

public import proofs.«01_k».proof.Pre_finite2
public import proofs.«01_k».proof.Proof.Fin
public import proofs.«01_k».proof.Proof.ASpec

/-! # The attention's finite arguments are reals -/

@[expose] public section

set_option maxRecDepth 16384

namespace Cert.Attn

open Idealize.ShloMosaic Cert.Pre_finite2

/-- The shape relations of the precondition. -/
theorem finFacts : Cert.Pre_finite2.Facts where
  bcast_S_S8448x256 := by decide
  reducesTo_S8448x256_S_d0_1 := by decide
  h_S_ := by decide
  bcast_S_S8448x128 := by decide
  reducesTo_S8448x128_S_d0_1 := by decide

/-- The reals three arrays hold. -/
noncomputable def inpOf (q : FVec Ideal S8448x256 .f32) (k v : FVec Ideal S8448x128 .f32) : Inp where
  q t j := (q (ix2 t j) : EReal).toReal
  k t j := (k (ix2 t j) : EReal).toReal
  v t j := (v (ix2 t j) : EReal).toReal

/-- Where the precondition holds, every array is its reals. -/
theorem finite_real [Cert.Pre_finite2.Facts] (q : FVec Ideal S8448x256 .f32) (k v : FVec Ideal S8448x128 .f32)
    (h : Cert.Pre_finite2.fn (F := Ideal) q k v = fun _ => 1#1) :
    (∀ i, (((q i : EReal).toReal : ℝ) : EReal) = q i) ∧ (∀ i, (((k i : EReal).toReal : ℝ) : EReal) = k i) ∧ (∀ i, (((v i : EReal).toReal : ℝ) : EReal) = v i) := by
  have h := congrFun h (fun k => k.elim0)
  simp only [fn] at h
  obtain ⟨h, h2⟩ := Cert.InProj.and_one _ _ h
  obtain ⟨h, h1⟩ := Cert.InProj.and_one _ _ h
  exact ⟨Cert.InProj.all_real _ _ _ _ _ h, Cert.InProj.all_real _ _ _ _ _ h1, Cert.InProj.all_real _ _ _ _ _ h2⟩

end Cert.Attn
-- ==== Proof.FSpec.lean ====
module

public import proofs.«01_k».proof.Proof.K0

/-! # The input half of a block over the extended reals

The forward lines at any inputs: RMS norm, modulation, the input projection, the heads' norms with their gains, the rotary
rotation. Rows `0 … 255` are the context rows, the others the latent rows. -/

@[expose] public section

set_option maxRecDepth 16384

namespace Cert.Fwd

open Idealize.ShloMosaic Cert.InProj

noncomputable section

/-- The arguments. -/
structure Inp where
  X : Fin 8448 → Fin 1024 → EReal
  shc : Fin 1024 → EReal
  scc : Fin 1024 → EReal
  sh : Fin 1024 → EReal
  sc : Fin 1024 → EReal
  g : Fin 1024 → EReal
  W : Fin 1024 → Fin 3328 → EReal
  qg : Fin 64 → EReal
  kg : Fin 64 → EReal

/-- The factor of a row's norm. -/
def rnrm (f : Fin 1024 → EReal) : EReal :=
  Ideal.rsqrt (Ideal.div (∑ d, f d * f d) (Ideal.ofBits .f32 0x44800000#32) + Ideal.ofBits .f32 0x358637BD#32)
/-- The factor of a head's norm. -/
def hnrm (f : Fin 64 → EReal) : EReal :=
  Ideal.rsqrt ((∑ e, f e * f e) * ((1 / 64 : ℝ) : EReal) + Ideal.ofBits .f32 0x358637BD#32)
/-- A head's lanes rotated. -/
def rot (c s : ℕ → ℝ) (f : Fin 64 → EReal) (e : Fin 64) : EReal :=
  f e * (c e : EReal) + (if h : (e : ℕ) % 32 < 16 then -(f ⟨e + 16, by omega⟩ * (s e : EReal)) else f ⟨e - 16, by omega⟩ * (s e : EReal))

namespace Inp
variable (I : Inp)

def SH (t : Fin 8448) (d : Fin 1024) : EReal := if (t : ℕ) < 256 then I.shc d else I.sh d
def SC (t : Fin 8448) (d : Fin 1024) : EReal := if (t : ℕ) < 256 then I.scc d else I.sc d
def h (t : Fin 8448) (d : Fin 1024) : EReal := I.X t d * rnrm (I.X t) * I.g d * (1 + I.SC t d) + I.SH t d
def P (t : Fin 8448) (j : Fin 3328) : EReal := ∑ d, I.h t d * I.W d j

/-- Heads `0 … 3` are the query heads, `4`, `5` the key heads; a head's `64` lanes lie side by side. -/
def pq (t : Fin 8448) (hd : Fin 6) (e : Fin 64) : EReal := I.P t ⟨2560 + 64 * hd + e, by omega⟩
def gain (hd : Fin 6) (e : Fin 64) : EReal := if (hd : ℕ) < 4 then I.qg e else I.kg e
/-- A head normed and multiplied by its gain. -/
def xg (t : Fin 8448) (hd : Fin 6) (e : Fin 64) : EReal := I.pq t hd e * hnrm (I.pq t hd) * I.gain hd e
/-- A head of a row, rotated. -/
def rt (t : Fin 8448) (hd : Fin 6) (e : Fin 64) : EReal := rot (CS t) (SN t) (I.xg t hd) e

/-! The results. -/

def q (t : Fin 8448) (a : Fin 4) (e : Fin 64) : EReal := I.rt t ⟨a, by omega⟩ e * Ideal.ofBits .f32 0x3E000000#32
def k (t : Fin 8448) (a : Fin 2) (e : Fin 64) : EReal := I.rt t ⟨4 + a, by omega⟩ e
def v (t : Fin 8448) (a : Fin 2) (e : Fin 64) : EReal := I.P t ⟨2944 + 64 * a + e, by omega⟩

end Inp

theorem rot_ctx (f : Fin 64 → EReal) (c s : ℕ → ℝ) (hc : ∀ e, c e = 1) (hs : ∀ e, s e = 0) (e : Fin 64) : rot c s f e = f e := by
  unfold rot
  rw [hc, hs]
  split <;> simp

end

end Cert.Fwd
-- ==== Proof.FTile.lean ====
module

public import proofs.«01_k».proof.Proof.Gen.Kernel3Ideal.Frame
public import proofs.«01_k».proof.Proof.FSpec
public import Idealize.ShloMosaic.Lib.Pipeline.ValueKit

/-! # The forward launch's arithmetic on one tile of rows -/

@[expose] public section

set_option maxRecDepth 16384

namespace Cert.Fwd

open Idealize.ShloMosaic Idealize.ShloMosaic.TcCoe Cert.Kernel3Ideal Cert.Kernel3Ideal.Gen
open Cert.InProj (row tl at2 at3 of_tile word0 word1 word2 tl0_ctx tl1_ctx tl2_ctx cQ cC cR CS SN c_inv64 c_eighth)
open Cert.InProj.Tile (hi lw lo_word lo16_word sel0 sel1 sel_ite SN_half)

noncomputable section

/-! ## The expressions -/

/-- Lanes of the first head of a pair. -/
def lo : IVec S256x128 1 := cmpi .slt (iota .tc S256x128 32 [1] iota_S256x128_d1_w32) (broadcast S256x128 64#32)
/-- Lanes of the first half of a rotary group. -/
def lo16 : IVec S256x128 1 :=
  cmpi .slt (andi (iota .tc S256x128 32 [1] iota_S256x128_d1_w32) (broadcast S256x128 31#32)) (broadcast S256x128 16#32)

def zero128 : FVec Ideal S256x128 .f32 := broadcast S256x128 (Scalar.ofBits .f32 0x00000000#32)

def rowSum (x : FVec Ideal S256x128 .f32) : FVec Ideal S256x1 .f32 :=
  shapeCast S256x1 (multiReduction .add [1] S256 x 0x00000000#32 reduces_S256x128_S256 (.inl rfl) rfl) shapeCasts_S256_S256x1

def spread (x : FVec Ideal S256x1 .f32) : FVec Ideal S256x128 .f32 :=
  broadcastTo S256x128 (shapeCast S256x1 x shapeCasts_S256x1_S256x1) broadcasts_S256x1_S256x128

/-- Each lane's sum over its head of the pair. -/
def pairSums (x : FVec Ideal S256x128 .f32) : FVec Ideal S256x128 .f32 :=
  select lo (spread (rowSum (select lo x zero128))) (spread (rowSum (select lo zero128 x)))

def headR (x : FVec Ideal S256x128 .f32) : FVec Ideal S256x128 .f32 :=
  rsqrt (addf (mulf (pairSums (mulf x x)) (broadcast S256x128 (Scalar.ofBits .f32 0x3C800000#32)))
    (broadcast S256x128 (Scalar.ofBits .f32 0x358637BD#32)))

/-- A pair of heads normed and multiplied by the gain. -/
def gained (x : FVec Ideal S256x128 .f32) (g : FVec Ideal S1x128 .f32) : FVec Ideal S256x128 .f32 :=
  mulf (mulf x (headR x)) (broadcastTo S256x128 (shapeCast S1x128 g shapeCasts_S1x128_S1x128) broadcasts_S1x128_S256x128)

/-- The rotary rotation. -/
def rotT (x cos sin : FVec Ideal S256x128 .f32) : FVec Ideal S256x128 .f32 :=
  addf (mulf x (shapeCast S256x128 cos shapeCasts_S256x128_S256x128))
    (mulf (select lo16 (dynamicRotate 1 112#32 none x rotates_S256x128_d1) (dynamicRotate 1 16#32 none x rotates_S256x128_d1))
      (shapeCast S256x128 sin shapeCasts_S256x128_S256x128))

def eighth (x : FVec Ideal S256x128 .f32) : FVec Ideal S256x128 .f32 :=
  mulf x (broadcast S256x128 (Scalar.ofBits .f32 0x3E000000#32))

/-- The first head's plane, and the second's, the other lanes `z`. -/
def plane0 (y z : FVec Ideal S256x128 .f32) : FVec Ideal S1x256x128 .bf16 :=
  shapeCast S1x256x128 (truncf .bf16 (select lo y z) bitsLt_bf16_f32) shapeCasts_S256x128_S1x256x128
def plane1 (y z : FVec Ideal S256x128 .f32) : FVec Ideal S1x256x128 .bf16 :=
  shapeCast S1x256x128 (truncf .bf16 (select lo (dynamicRotate 1 64#32 none y rotates_S256x128_d1) z) bitsLt_bf16_f32) shapeCasts_S256x128_S1x256x128

def xnT (x : FVec Ideal S256x1024 .f32) : FVec Ideal S256x1024 .f32 :=
  mulf x (broadcastTo S256x1024 (rsqrt (addf (divf (shapeCast S256x1 (multiReduction .add [1] S256 (mulf x x) 0x00000000#32 reduces_S256x1024_S256 (.inl rfl) rfl)
      shapeCasts_S256_S256x1) (broadcast S256x1 (Scalar.ofBits .f32 0x44800000#32)))
    (broadcast S256x1 (Scalar.ofBits .f32 0x358637BD#32)))) broadcasts_S256x1_S256x1024)

def id1024 (x : FVec Ideal S1x1024 .f32) : FVec Ideal S1x1024 .f32 := shapeCast S1x1024 x shapeCasts_S1x1024_S1x1024
def bc (x : FVec Ideal S1x1024 .f32) : FVec Ideal S256x1024 .f32 := broadcastTo S256x1024 x broadcasts_S1x1024_S256x1024
/-- The row picked by whether the tile is the context's. -/
def pick (c : BitVec 1) (a b : FVec Ideal S1x1024 .f32) : FVec Ideal S1x1024 .f32 := Scalar.select c (id1024 a) (id1024 b)

/-- The modulated normed rows. -/
def hT (x : FVec Ideal S256x1024 .f32) (sh sc g : FVec Ideal S1x1024 .f32) : FVec Ideal S256x1024 .bf16 :=
  truncf .bf16 (addf (mulf (mulf (xnT x) (bc g)) (bc (addf (broadcast S1x1024 (Scalar.ofBits .f32 0x3F800000#32)) sc))) (bc sh))
    bitsLt_bf16_f32
/-- Their products with the three parts of the weights. -/
def pcT (h : FVec Ideal S256x1024 .bf16) (w : FVec Ideal S1024x1024 .bf16) : FVec Ideal S256x1024 .f32 :=
  matmul dot_S256x1024_S1024x1024_S256x1024_1_0_0_1_n_n none h (shapeCast S1024x1024 w shapeCasts_S1024x1024_S1024x1024)
    (constant S256x1024 .f32 0x00000000#32)
def prT (h : FVec Ideal S256x1024 .bf16) (w : FVec Ideal S1024x1792 .bf16) : FVec Ideal S256x1792 .f32 :=
  matmul dot_S256x1024_S1024x1792_S256x1792_1_0_0_1_n_n none h (shapeCast S1024x1792 w shapeCasts_S1024x1792_S1024x1792)
    (constant S256x1792 .f32 0x00000000#32)
def pqT (h : FVec Ideal S256x1024 .bf16) (w : FVec Ideal S1024x512 .bf16) : FVec Ideal S256x512 .f32 :=
  matmul dot_S256x1024_S1024x512_S256x512_1_0_0_1_n_n none h (shapeCast S1024x512 w shapeCasts_S1024x512_S1024x512)
    (constant S256x512 .f32 0x00000000#32)

/-! ## Read at an index -/

/-- A sum over a pair's lanes, head by head. -/
theorem sum_lanes (f : Fin 2 → Fin 64 → EReal) : ∑ l : Fin 128, f (hi l) (lw l) = ∑ a : Fin 2, ∑ e : Fin 64, f a e := by
  rw [← Fintype.sum_prod_type' f]
  refine Finset.sum_nbij' (fun l => (hi l, lw l)) (fun q => ⟨64 * (q.1 : ℕ) + q.2, by omega⟩) ?_ ?_ ?_ ?_ ?_
  · intro _ _; simp
  · intro _ _; simp
  · intro l _; apply Fin.ext; simp only [hi, lw]; omega
  · rintro ⟨a, e⟩ _; simp only [hi, lw, Prod.mk.injEq]; constructor <;> apply Fin.ext <;> simp only <;> omega
  · intro _ _; rfl

theorem pairSums_at (x : FVec Ideal S256x128 .f32) (G : Fin 256 → Fin 2 → Fin 64 → EReal)
    (hx : ∀ p l, x (ix2 p l) = G p (hi l) (lw l)) (p : Fin 256) (l : Fin 128) :
    pairSums x (ix2 p l) = ∑ e, G p (hi l) e := by
  pointwise [pairSums, lo, zero128, rowSum, spread]
  simp only [lo_word, sel_ite, hx]
  have e0 : (∑ k : Fin 128, if hi k = 0 then G p (hi k) (lw k) else 0) = ∑ e, G p 0 e := by
    rw [sum_lanes (fun a e => if a = 0 then G p a e else 0), Fin.sum_univ_two]; simp
  have e1 : (∑ k : Fin 128, if hi k = 0 then (0 : EReal) else G p (hi k) (lw k)) = ∑ e, G p 1 e := by
    rw [sum_lanes (fun a e => if a = 0 then 0 else G p a e), Fin.sum_univ_two]; simp
  rw [e0, e1]
  rcases (by omega : hi l = 0 ∨ hi l = 1) with h | h <;> simp [h]

theorem headR_at (x : FVec Ideal S256x128 .f32) (G : Fin 256 → Fin 2 → Fin 64 → EReal)
    (hx : ∀ p l, x (ix2 p l) = G p (hi l) (lw l)) (p : Fin 256) (l : Fin 128) : headR x (ix2 p l) = hnrm (G p (hi l)) := by
  pointwise [headR]
  rw [pairSums_at _ (fun p a e => G p a e * G p a e) (fun p l => by pointwise; rw [hx]), c_inv64]
  rfl

theorem gained_at (x : FVec Ideal S256x128 .f32) (g : FVec Ideal S1x128 .f32) (G : Fin 256 → Fin 2 → Fin 64 → EReal) (K : Fin 64 → EReal)
    (hx : ∀ p l, x (ix2 p l) = G p (hi l) (lw l)) (hg : ∀ l, g (ix2 0 l) = K (lw l)) (p : Fin 256) (l : Fin 128) :
    gained x g (ix2 p l) = G p (hi l) (lw l) * hnrm (G p (hi l)) * K (lw l) := by
  pointwise [gained]
  rw [headR_at x G hx, hx, hg]

theorem rotT_at (x c s : FVec Ideal S256x128 .f32) (G : Fin 256 → Fin 2 → Fin 64 → EReal) (C S : Fin 256 → ℕ → ℝ)
    (hx : ∀ p l, x (ix2 p l) = G p (hi l) (lw l)) (hc : ∀ p l, c (ix2 p l) = (C p (lw l) : EReal))
    (hs : ∀ p l, s (ix2 p l) = (((if (lw l : ℕ) % 32 < 16 then -1 else 1) * S p (lw l) : ℝ) : EReal)) (p : Fin 256) (l : Fin 128) :
    rotT x c s (ix2 p l) = rot (C p) (S p) (G p (hi l)) (lw l) := by
  pointwise [rotT, lo16]
  simp only [lo16_word, sel_ite, hx, hc, hs]
  rw [rot]
  by_cases h : (lw l : ℕ) % 32 < 16
  · rw [if_pos h, dif_pos h, if_pos h]
    congr 1
    have h0 : (lw l : ℕ) = l % 64 := rfl
    have e1 : hi ⟨(↑l + 128 - 112) % 128, by omega⟩ = hi l := by apply Fin.ext; simp only [hi]; omega
    have e2 : lw ⟨(↑l + 128 - 112) % 128, by omega⟩ = ⟨lw l + 16, by omega⟩ := by apply Fin.ext; simp only [lw]; omega
    rw [e1, e2, neg_one_mul, EReal.coe_neg, mul_neg]
  · rw [if_neg h, dif_neg h, if_neg h]
    congr 1
    have h0 : (lw l : ℕ) = l % 64 := rfl
    have e1 : hi ⟨(↑l + 128 - 16) % 128, by omega⟩ = hi l := by apply Fin.ext; simp only [hi]; omega
    have e2 : lw ⟨(↑l + 128 - 16) % 128, by omega⟩ = ⟨lw l - 16, by omega⟩ := by apply Fin.ext; simp only [lw]; omega
    rw [e1, e2, one_mul]

theorem eighth_at (x : FVec Ideal S256x128 .f32) (p : Fin 256) (l : Fin 128) : eighth x (ix2 p l) = x (ix2 p l) * Ideal.ofBits .f32 0x3E000000#32 := by
  pointwise [eighth]

theorem plane0_at (y z : FVec Ideal S256x128 .f32) (p : Fin 256) (d : Fin 64) : plane0 y z (ix3 0 p ⟨d, by omega⟩) = y (ix2 p ⟨d, by omega⟩) := by
  pointwise [plane0, lo]
  rw [lo_word ⟨d, by omega⟩, sel_ite, if_pos (by apply Fin.ext; simp only [hi, Fin.val_zero]; omega)]
theorem plane1_at (y z : FVec Ideal S256x128 .f32) (p : Fin 256) (d : Fin 64) : plane1 y z (ix3 0 p ⟨d, by omega⟩) = y (ix2 p ⟨64 + d, by omega⟩) := by
  pointwise [plane1, lo]
  rw [lo_word ⟨d, by omega⟩, sel_ite, if_pos (by apply Fin.ext; simp only [hi, Fin.val_zero]; omega)]
  exact congrArg (fun l => y (ix2 p l)) (Fin.ext (by simp only; omega))

theorem id1024_at (x : FVec Ideal S1x1024 .f32) (d : Fin 1024) : id1024 x (ix2 0 d) = x (ix2 0 d) := by
  pointwise [id1024]
theorem pick_at {first : Prop} [Decidable first] {c : BitVec 1} (hc : c = if first then 1#1 else 0#1) (a b : FVec Ideal S1x1024 .f32) (d : Fin 1024) :
    pick c a b (ix2 0 d) = if first then a (ix2 0 d) else b (ix2 0 d) := by
  subst hc
  unfold pick
  by_cases h : first
  · rw [if_pos h, if_pos h, sel1, id1024_at]
  · rw [if_neg h, if_neg h, sel0, id1024_at]

theorem xnT_at (x : FVec Ideal S256x1024 .f32) (f : Fin 256 → Fin 1024 → EReal) (hx : ∀ p d, x (ix2 p d) = f p d) (p : Fin 256) (d : Fin 1024) :
    xnT x (ix2 p d) = f p d * rnrm (f p) := by
  pointwise [xnT]
  simp only [hx]
  rfl

theorem hT_at (x : FVec Ideal S256x1024 .f32) (sh sc g : FVec Ideal S1x1024 .f32) (f : Fin 256 → Fin 1024 → EReal)
    (hx : ∀ p d, x (ix2 p d) = f p d) (p : Fin 256) (d : Fin 1024) :
    hT x sh sc g (ix2 p d) = f p d * rnrm (f p) * g (ix2 0 d) * (1 + sc (ix2 0 d)) + sh (ix2 0 d) := by
  pointwise [hT, bc]
  rw [xnT_at x f hx]

theorem pcT_at (h : FVec Ideal S256x1024 .bf16) (w : FVec Ideal S1024x1024 .bf16) (p : Fin 256) (j : Fin 1024) :
    pcT h w (ix2 p j) = ∑ d : Fin 1024, h (ix2 p d) * w (ix2 d j) := by
  pointwise [pcT]
theorem prT_at (h : FVec Ideal S256x1024 .bf16) (w : FVec Ideal S1024x1792 .bf16) (p : Fin 256) (j : Fin 1792) :
    prT h w (ix2 p j) = ∑ d : Fin 1024, h (ix2 p d) * w (ix2 d j) := by
  pointwise [prT]
theorem pqT_at (h : FVec Ideal S256x1024 .bf16) (w : FVec Ideal S1024x512 .bf16) (p : Fin 256) (j : Fin 512) :
    pqT h w (ix2 p j) = ∑ d : Fin 1024, h (ix2 p d) * w (ix2 d j) := by
  pointwise [pqT]

end

end Cert.Fwd
-- ==== Proof.FOut.lean ====
module

public import proofs.«01_k».proof.Proof.FTile

/-! # The forward launch's outputs at a grid point -/

@[expose] public section

set_option maxRecDepth 16384

namespace Cert.Fwd

open Idealize.ShloMosaic Idealize.ShloMosaic.TcCoe Cert.Kernel3Ideal Cert.Kernel3Ideal.Gen
open Cert.InProj (row tl at2 at3 of_tile word0 word1 word2 tl0_ctx tl1_ctx tl2_ctx cQ cC cR CS SN)
open Cert.InProj.Tile (hi lw)

noncomputable section

/-- The launch's blocks at point `n`. -/
structure Blk (I : Inp) (n : Fin 11) (x0 : Vec Ideal S768x1024 .f32) (x1 : Vec Ideal S8x1024 .f32) (x2 : Vec Ideal S1x1024 .f32)
    (x3 : Vec Ideal S1024x1024 .bf16) (x4 : Vec Ideal S1024x1792 .bf16) (x5 : Vec Ideal S1024x512 .bf16) (x6 : Vec Ideal S8x128 .f32)
    (x7 x8 : Vec Ideal S768x128 .f32) : Prop where
  x0 : ∀ r d, x0 (ix2 r d) = I.X (row n r) d
  m0 : ∀ d, x1 (ix2 0 d) = I.shc d
  m1 : ∀ d, x1 (ix2 1 d) = I.scc d
  m3 : ∀ d, x1 (ix2 3 d) = I.sh d
  m4 : ∀ d, x1 (ix2 4 d) = I.sc d
  x2 : ∀ d, x2 (ix2 0 d) = I.g d
  x3 : ∀ d j, x3 (ix2 d j) = I.W d (cC j)
  x4 : ∀ d j, x4 (ix2 d j) = I.W d (cR j)
  x5 : ∀ d j, x5 (ix2 d j) = I.W d (cQ j)
  gq : ∀ l, x6 (ix2 0 l) = I.qg (lw l)
  gk : ∀ l, x6 (ix2 1 l) = I.kg (lw l)
  cos : ∀ r l, x7 (ix2 r l) = (CS (row n r) (lw l) : EReal)
  sin : ∀ r l, x8 (ix2 r l) = (((if (lw l : ℕ) % 32 < 16 then -1 else 1) * SN (row n r) (lw l) : ℝ) : EReal)

theorem h_tile {I : Inp} {ρ : Fin 256 → Fin 8448} {first : Prop} [Decidable first] {c : BitVec 1} (hc : c = if first then 1#1 else 0#1)
    (hρ : ∀ p, (ρ p : ℕ) < 256 ↔ first) {x : FVec Ideal S256x1024 .f32} {s0 s1 c0 c1 g : FVec Ideal S1x1024 .f32}
    (hx : ∀ p d, x (ix2 p d) = I.X (ρ p) d) (hs0 : ∀ d, s0 (ix2 0 d) = I.shc d)
    (hs1 : ∀ d, s1 (ix2 0 d) = I.sh d) (hc0 : ∀ d, c0 (ix2 0 d) = I.scc d) (hc1 : ∀ d, c1 (ix2 0 d) = I.sc d)
    (hg : ∀ d, g (ix2 0 d) = I.g d) (p : Fin 256) (d : Fin 1024) :
    hT x (pick c s0 s1) (pick c c0 c1) (id1024 g) (ix2 p d) = I.h (ρ p) d := by
  rw [hT_at x _ _ _ (fun p => I.X (ρ p)) hx, pick_at hc, pick_at hc, id1024_at]
  simp only [Inp.h, Inp.SH, Inp.SC, hρ p, hs0, hs1, hc0, hc1, hg]

/-- A pair of heads' tile: normed, multiplied by the gain, rotated. -/
theorem pair_at {I : Inp} {ρ : Fin 256 → Fin 8448} {P : FVec Ideal S256x512 .f32} (hP : ∀ p j, P (ix2 p j) = I.P (ρ p) (cQ j)) (b : ℕ) (hb : b < 3)
    {x : FVec Ideal S256x128 .f32} (hx : ∀ p (l : Fin 128), x (ix2 p l) = P (ix2 p ⟨128 * b + l, by omega⟩))
    {g : FVec Ideal S1x128 .f32} {K : Fin 64 → EReal} (hK : ∀ (a : Fin 6) e, (a : ℕ) / 2 = b → I.gain a e = K e)
    (hg : ∀ l, g (ix2 0 l) = K (lw l)) {cos sin : FVec Ideal S256x128 .f32} (hc : ∀ p l, cos (ix2 p l) = (CS (ρ p) (lw l) : EReal))
    (hs : ∀ p l, sin (ix2 p l) = (((if (lw l : ℕ) % 32 < 16 then -1 else 1) * SN (ρ p) (lw l) : ℝ) : EReal)) (p : Fin 256) (l : Fin 128) :
    rotT (gained x g) cos sin (ix2 p l) = I.rt (ρ p) ⟨2 * b + hi l, by have := (hi l).2; omega⟩ (lw l) := by
  have h1 : ∀ p l, x (ix2 p l) = I.pq (ρ p) ⟨2 * b + hi l, by have := (hi l).2; omega⟩ (lw l) := fun p l => by
    rw [hx, hP]
    exact congrArg (I.P (ρ p)) (Fin.ext (by simp only [cQ, hi, lw]; omega))
  refine rotT_at (gained x g) cos sin (fun p a => I.xg (ρ p) ⟨2 * b + a, by omega⟩) (fun p => CS (ρ p)) (fun p => SN (ρ p)) (fun p l => ?_) hc hs p l
  rw [gained_at x g (fun p a => I.pq (ρ p) ⟨2 * b + a, by omega⟩) K h1 hg]
  unfold Inp.xg
  rw [hK _ _ (by have := (hi l).2; simp only; omega)]

theorem gain_q (I : Inp) (b : ℕ) (hb : b < 2) (a : Fin 6) (e : Fin 64) (h : (a : ℕ) / 2 = b) : I.gain a e = I.qg e :=
  if_pos (by omega)
theorem gain_k (I : Inp) (a : Fin 6) (e : Fin 64) (h : (a : ℕ) / 2 = 2) : I.gain a e = I.kg e :=
  if_neg (by omega)

theorem rt_lo (I : Inp) (t : Fin 8448) (b : ℕ) (hb : b < 3) (d : Fin 64) :
    I.rt t ⟨2 * b + hi ⟨d, by omega⟩, by have := (hi ⟨d, by omega⟩).2; omega⟩ (lw ⟨d, by omega⟩) = I.rt t ⟨2 * b, by omega⟩ d :=
  congrArg₂ (I.rt t) (Fin.ext (by simp only [hi]; omega)) (Fin.ext (by simp only [lw]; omega))
theorem rt_hi (I : Inp) (t : Fin 8448) (b : ℕ) (hb : b < 3) (d : Fin 64) :
    I.rt t ⟨2 * b + hi ⟨64 + d, by omega⟩, by have := (hi ⟨64 + d, by omega⟩).2; omega⟩ (lw ⟨64 + d, by omega⟩) = I.rt t ⟨2 * b + 1, by omega⟩ d :=
  congrArg₂ (I.rt t) (Fin.ext (by simp only [hi]; omega)) (Fin.ext (by simp only [lw]; omega))

/-- A head's tile read at the output's index. -/
theorem of_head {G : ℕ} {pay : S1x256x128.Idx → EReal} {R : Fin 8448 → Fin G → Fin 64 → EReal} {n : Fin 11} {o : ℕ} {ho : o ≤ 512} (H : Fin G)
    (hp : ∀ (p : Fin 256) (d : Fin 64), pay (ix3 0 p ⟨d, by omega⟩) = R (tl n o ho p) H d)
    (h : Fin G) (r : Fin 768) (l : Fin 128) (hl : (l : ℕ) < 64) (x : S1x256x128.Idx) (h0 : (h : ℕ) = H + (x 0 : ℕ)) (h1 : (r : ℕ) = o + (x 1 : ℕ))
    (h2 : (l : ℕ) = (x 2 : ℕ)) : pay x = R (row n r) h ⟨l, hl⟩ := by
  have x0 : ((x 0 : Fin 1) : ℕ) = 0 := Nat.lt_one_iff.mp (x 0 : Fin 1).isLt
  have x0' : (x 0 : ℕ) = 0 := x0
  obtain ⟨p, hp'⟩ : ∃ p : Fin 256, (x 1 : ℕ) = p := ⟨x 1, rfl⟩
  have e : x = ix3 (0 : Fin 1) p l := by
    funext a
    match a with
    | 0 => exact Fin.ext x0
    | 1 => exact Fin.ext hp'
    | 2 => exact Fin.ext h2.symm
  obtain rfl : h = H := Fin.ext (by omega)
  rw [e]
  refine (hp p ⟨l, hl⟩).trans ?_
  exact congrArg (fun t => R t h ⟨l, hl⟩) (Fin.ext (by simp only [tl, row]; omega))

section
variable {I : Inp} {i : grid0.Coords} {x0 : Vec Ideal S768x1024 .f32} {x1 : Vec Ideal S8x1024 .f32} {x2 : Vec Ideal S1x1024 .f32}
  {x3 : Vec Ideal S1024x1024 .bf16} {x4 : Vec Ideal S1024x1792 .bf16} {x5 : Vec Ideal S1024x512 .bf16} {x6 : Vec Ideal S8x128 .f32}
  {x7 x8 : Vec Ideal S768x128 .f32} (H : Blk I (i 0) x0 x1 x2 x3 x4 x5 x6 x7 x8)
include H

theorem h0_at (p : Fin 256) (d : Fin 1024) :
    k0_pay9 (k0_pay6 i (View.ld x1 r0_1) (View.ld x1 r0_2)) (k0_pay7 i (View.ld x1 r0_3) (View.ld x1 r0_4)) (k0_pay8 (View.ld x0 r0_0))
      (View.ld x2 r0_5) (ix2 p d) = I.h (tl (i 0) 0 (by decide) p) d := by
  refine h_tile (I := I) (word0 (i 0)) (tl0_ctx (i 0)) (x := View.ld x0 r0_0) (s0 := View.ld x1 r0_1) (s1 := View.ld x1 r0_2)
    (c0 := View.ld x1 r0_3) (c1 := View.ld x1 r0_4) (g := View.ld x2 r0_5) ?_ ?_ ?_ ?_ ?_ ?_ p d
  · intro p d; pointwise
    exact (congrArg (fun r => x0 (ix2 r d)) (Fin.ext (Nat.zero_add _).symm)).trans (H.x0 ⟨0 + p, by omega⟩ d)
  · intro d; pointwise; exact H.m0 _
  · intro d; pointwise; exact H.m3 _
  · intro d; pointwise; exact H.m1 _
  · intro d; pointwise; exact H.m4 _
  · intro d; pointwise; exact H.x2 _

theorem h1_at (p : Fin 256) (d : Fin 1024) :
    k0_pay34 (Scalar.cmpi .slt (Scalar.addi (Scalar.muli (BitVec.ofNat 32 ((i 0 : Fin 11) : ℕ)) 3#32) 1#32) 1#32) (View.ld x0 r0_20) (k0_pay33 (View.ld x0 r0_20)) (View.ld x1 r0_1)
      (View.ld x1 r0_2) (View.ld x1 r0_3) (View.ld x1 r0_4) (View.ld x2 r0_5) (ix2 p d) = I.h (tl (i 0) 256 (by decide) p) d := by
  refine h_tile (I := I) (word1 (i 0)) (tl1_ctx (i 0)) (x := View.ld x0 r0_20) (s0 := View.ld x1 r0_1) (s1 := View.ld x1 r0_2)
    (c0 := View.ld x1 r0_3) (c1 := View.ld x1 r0_4) (g := View.ld x2 r0_5) ?_ ?_ ?_ ?_ ?_ ?_ p d
  · intro p d; pointwise; exact H.x0 _ _
  · intro d; pointwise; exact H.m0 _
  · intro d; pointwise; exact H.m3 _
  · intro d; pointwise; exact H.m1 _
  · intro d; pointwise; exact H.m4 _
  · intro d; pointwise; exact H.x2 _

theorem h2_at (p : Fin 256) (d : Fin 1024) :
    k0_pay59 (Scalar.addi (Scalar.muli (BitVec.ofNat 32 ((i 0 : Fin 11) : ℕ)) 3#32) 2#32) 1#32 (View.ld x0 r0_30) (View.ld x1 r0_1)
      (View.ld x1 r0_2) (View.ld x1 r0_3) (View.ld x1 r0_4) (View.ld x2 r0_5) (ix2 p d) = I.h (tl (i 0) 512 (by decide) p) d := by
  refine h_tile (I := I) (word2 (i 0)) (tl2_ctx (i 0)) (x := View.ld x0 r0_30) (s0 := View.ld x1 r0_1) (s1 := View.ld x1 r0_2)
    (c0 := View.ld x1 r0_3) (c1 := View.ld x1 r0_4) (g := View.ld x2 r0_5) ?_ ?_ ?_ ?_ ?_ ?_ p d
  · intro p d; pointwise; exact H.x0 _ _
  · intro d; pointwise; exact H.m0 _
  · intro d; pointwise; exact H.m3 _
  · intro d; pointwise; exact H.m1 _
  · intro d; pointwise; exact H.m4 _
  · intro d; pointwise; exact H.x2 _

theorem c_tile {o : ℕ} {ho : o ≤ 512} {h : FVec Ideal S256x1024 .bf16} (hh : ∀ p d, h (ix2 p d) = I.h (tl (i 0) o ho p) d) (p : Fin 256) (j : Fin 1024) :
    pcT h (View.ld x3 r0_6) (ix2 p j) = I.P (tl (i 0) o ho p) (cC j) := by
  rw [pcT_at]
  refine Finset.sum_congr rfl fun d _ => ?_
  rw [hh]
  refine congrArg (fun w => I.h (tl (i 0) o ho p) d * w) ?_
  pointwise; exact H.x3 _ _
theorem r_tile {o : ℕ} {ho : o ≤ 512} {h : FVec Ideal S256x1024 .bf16} (hh : ∀ p d, h (ix2 p d) = I.h (tl (i 0) o ho p) d) (p : Fin 256) (j : Fin 1792) :
    prT h (View.ld x4 r0_7) (ix2 p j) = I.P (tl (i 0) o ho p) (cR j) := by
  rw [prT_at]
  refine Finset.sum_congr rfl fun d _ => ?_
  rw [hh]
  refine congrArg (fun w => I.h (tl (i 0) o ho p) d * w) ?_
  pointwise; exact H.x4 _ _
theorem q_tile {o : ℕ} {ho : o ≤ 512} {h : FVec Ideal S256x1024 .bf16} (hh : ∀ p d, h (ix2 p d) = I.h (tl (i 0) o ho p) d) (p : Fin 256) (j : Fin 512) :
    pqT h (View.ld x5 r0_9) (ix2 p j) = I.P (tl (i 0) o ho p) (cQ j) := by
  rw [pqT_at]
  refine Finset.sum_congr rfl fun d _ => ?_
  rw [hh]
  refine congrArg (fun w => I.h (tl (i 0) o ho p) d * w) ?_
  pointwise; exact H.x5 _ _

theorem out0_10_at (r : Fin 768) (j : Fin 1024) : out0_10 i x0 x1 x2 x3 x4 x5 x6 x7 x8 (ix2 r j) = I.P (row (i 0) r) (cC j) := by
  unfold_out out0_10
  canon_tiles x h
  · exact of_tile (R := fun t j => I.P t (cC j)) (c_tile H (h2_at H)) r j x h0 h1
  · exact of_tile (R := fun t j => I.P t (cC j)) (c_tile H (h1_at H)) r j x h0 h1
  · exact of_tile (R := fun t j => I.P t (cC j)) (c_tile H (h0_at H)) r j x (h0.trans (Nat.zero_add _).symm) h1

theorem out0_11_at (r : Fin 768) (j : Fin 1792) : out0_11 i x0 x1 x2 x3 x4 x5 x6 x7 x8 (ix2 r j) = I.P (row (i 0) r) (cR j) := by
  unfold_out out0_11
  canon_tiles x h
  · exact of_tile (R := fun t j => I.P t (cR j)) (r_tile H (h2_at H)) r j x h0 h1
  · exact of_tile (R := fun t j => I.P t (cR j)) (r_tile H (h1_at H)) r j x h0 h1
  · exact of_tile (R := fun t j => I.P t (cR j)) (r_tile H (h0_at H)) r j x (h0.trans (Nat.zero_add _).symm) h1

theorem gq_at (l : Fin 128) : View.ld x6 r0_12 (ix2 0 l) = I.qg (lw l) := by pointwise; exact H.gq _
theorem gk_at (l : Fin 128) : View.ld x6 r0_17 (ix2 0 l) = I.kg (lw l) := by pointwise; exact H.gk _
theorem cos0_at (p : Fin 256) (l : Fin 128) : View.ld x7 r0_11 (ix2 p l) = (CS (tl (i 0) 0 (by decide) p) (lw l) : EReal) := by
  pointwise
  exact (congrArg (fun r => x7 (ix2 r l)) (Fin.ext (Nat.zero_add _).symm)).trans (H.cos ⟨0 + p, by omega⟩ l)
theorem sin0_at (p : Fin 256) (l : Fin 128) :
    View.ld x8 r0_11 (ix2 p l) = (((if (lw l : ℕ) % 32 < 16 then -1 else 1) * SN (tl (i 0) 0 (by decide) p) (lw l) : ℝ) : EReal) := by
  pointwise
  exact (congrArg (fun r => x8 (ix2 r l)) (Fin.ext (Nat.zero_add _).symm)).trans (H.sin ⟨0 + p, by omega⟩ l)
theorem cos1_at (p : Fin 256) (l : Fin 128) : View.ld x7 r0_23 (ix2 p l) = (CS (tl (i 0) 256 (by decide) p) (lw l) : EReal) := by
  pointwise
  exact H.cos _ _
theorem sin1_at (p : Fin 256) (l : Fin 128) :
    View.ld x8 r0_23 (ix2 p l) = (((if (lw l : ℕ) % 32 < 16 then -1 else 1) * SN (tl (i 0) 256 (by decide) p) (lw l) : ℝ) : EReal) := by
  pointwise
  exact H.sin _ _
theorem cos2_at (p : Fin 256) (l : Fin 128) : View.ld x7 r0_33 (ix2 p l) = (CS (tl (i 0) 512 (by decide) p) (lw l) : EReal) := by
  pointwise
  exact H.cos _ _
theorem sin2_at (p : Fin 256) (l : Fin 128) :
    View.ld x8 r0_33 (ix2 p l) = (((if (lw l : ℕ) % 32 < 16 then -1 else 1) * SN (tl (i 0) 512 (by decide) p) (lw l) : ℝ) : EReal) := by
  pointwise
  exact H.sin _ _

end

/-! ## The heads' planes -/

section
variable {I : Inp} {ρ : Fin 256 → Fin 8448} {P : FVec Ideal S256x512 .f32} (hP : ∀ p j, P (ix2 p j) = I.P (ρ p) (cQ j))
  {gq gk : FVec Ideal S1x128 .f32} (hq : ∀ l, gq (ix2 0 l) = I.qg (lw l)) (hk : ∀ l, gk (ix2 0 l) = I.kg (lw l))
  {cos sin : FVec Ideal S256x128 .f32} (hc : ∀ p l, cos (ix2 p l) = (CS (ρ p) (lw l) : EReal))
  (hs : ∀ p l, sin (ix2 p l) = (((if (lw l : ℕ) % 32 < 16 then -1 else 1) * SN (ρ p) (lw l) : ℝ) : EReal))
  (z : FVec Ideal S256x128 .f32)

include hP hq hc hs in
theorem q0_plane (p : Fin 256) (d : Fin 64) : plane0 (eighth (rotT (gained (extractStridedSlice S256x128 ![0, 0] P slices_S256x512_o0_0_S256x128) gq) cos sin)) z (ix3 0 p ⟨d, by omega⟩) = I.q (ρ p) 0 d := by
  rw [plane0_at, eighth_at, pair_at hP 0 (by decide) (fun p l => by pointwise) (gain_q I 0 (by decide)) hq hc hs, rt_lo I _ 0 (by decide)]
  rfl

include hP hq hc hs in
theorem q1_plane (p : Fin 256) (d : Fin 64) : plane1 (eighth (rotT (gained (extractStridedSlice S256x128 ![0, 0] P slices_S256x512_o0_0_S256x128) gq) cos sin)) z (ix3 0 p ⟨d, by omega⟩) = I.q (ρ p) 1 d := by
  rw [plane1_at, eighth_at, pair_at hP 0 (by decide) (fun p l => by pointwise) (gain_q I 0 (by decide)) hq hc hs, rt_hi I _ 0 (by decide)]
  rfl

include hP hq hc hs in
theorem q2_plane (p : Fin 256) (d : Fin 64) : plane0 (eighth (rotT (gained (extractStridedSlice S256x128 ![0, 128] P slices_S256x512_o0_128_S256x128) gq) cos sin)) z (ix3 0 p ⟨d, by omega⟩) = I.q (ρ p) 2 d := by
  rw [plane0_at, eighth_at, pair_at hP 1 (by decide) (fun p l => by pointwise) (gain_q I 1 (by decide)) hq hc hs, rt_lo I _ 1 (by decide)]
  rfl

include hP hq hc hs in
theorem q3_plane (p : Fin 256) (d : Fin 64) : plane1 (eighth (rotT (gained (extractStridedSlice S256x128 ![0, 128] P slices_S256x512_o0_128_S256x128) gq) cos sin)) z (ix3 0 p ⟨d, by omega⟩) = I.q (ρ p) 3 d := by
  rw [plane1_at, eighth_at, pair_at hP 1 (by decide) (fun p l => by pointwise) (gain_q I 1 (by decide)) hq hc hs, rt_hi I _ 1 (by decide)]
  rfl

include hP hk hc hs in
theorem k0_plane (p : Fin 256) (d : Fin 64) : plane0 (rotT (gained (extractStridedSlice S256x128 ![0, 256] P slices_S256x512_o0_256_S256x128) gk) cos sin) z (ix3 0 p ⟨d, by omega⟩) = I.k (ρ p) 0 d := by
  rw [plane0_at, pair_at hP 2 (by decide) (fun p l => by pointwise) (gain_k I) hk hc hs, rt_lo I _ 2 (by decide)]
  rfl

include hP in
theorem v0_plane (p : Fin 256) (d : Fin 64) : plane0 (extractStridedSlice S256x128 ![0, 384] P slices_S256x512_o0_384_S256x128) z (ix3 0 p ⟨d, by omega⟩) = I.v (ρ p) 0 d := by
  rw [plane0_at]
  pointwise
  rw [hP]
  exact congrArg (I.P (ρ p)) (Fin.ext (by simp [cQ]; try omega))

include hP hk hc hs in
theorem k1_plane (p : Fin 256) (d : Fin 64) : plane1 (rotT (gained (extractStridedSlice S256x128 ![0, 256] P slices_S256x512_o0_256_S256x128) gk) cos sin) z (ix3 0 p ⟨d, by omega⟩) = I.k (ρ p) 1 d := by
  rw [plane1_at, pair_at hP 2 (by decide) (fun p l => by pointwise) (gain_k I) hk hc hs, rt_hi I _ 2 (by decide)]
  rfl

include hP in
theorem v1_plane (p : Fin 256) (d : Fin 64) : plane1 (extractStridedSlice S256x128 ![0, 384] P slices_S256x512_o0_384_S256x128) z (ix3 0 p ⟨d, by omega⟩) = I.v (ρ p) 1 d := by
  rw [plane1_at]
  pointwise
  rw [hP]
  exact congrArg (I.P (ρ p)) (Fin.ext (by simp [cQ]; try omega))

end

section
variable {I : Inp} {i : grid0.Coords} {x0 : Vec Ideal S768x1024 .f32} {x1 : Vec Ideal S8x1024 .f32} {x2 : Vec Ideal S1x1024 .f32}
  {x3 : Vec Ideal S1024x1024 .bf16} {x4 : Vec Ideal S1024x1792 .bf16} {x5 : Vec Ideal S1024x512 .bf16} {x6 : Vec Ideal S8x128 .f32}
  {x7 x8 : Vec Ideal S768x128 .f32} (H : Blk I (i 0) x0 x1 x2 x3 x4 x5 x6 x7 x8)
include H

theorem out0_13_at (h : Fin 4) (r : Fin 768) (l : Fin 128) (hl : (l : ℕ) < 64) :
    out0_13 i x0 x1 x2 x3 x4 x5 x6 x7 x8 (ix3 h r l) = I.q (row (i 0) r) h ⟨l, hl⟩ := by
  unfold_out out0_13
  canon_tiles x h
  · exact of_head (R := I.q) 3 (q3_plane (q_tile H (h2_at H)) (gq_at H) (cos2_at H) (sin2_at H) zero128) h r l hl x h0 h1 h2
  · exact of_head (R := I.q) 2 (q2_plane (q_tile H (h2_at H)) (gq_at H) (cos2_at H) (sin2_at H) zero128) h r l hl x h0 h1 h2
  · exact of_head (R := I.q) 1 (q1_plane (q_tile H (h2_at H)) (gq_at H) (cos2_at H) (sin2_at H) zero128) h r l hl x h0 h1 h2
  · exact of_head (R := I.q) 0 (q0_plane (q_tile H (h2_at H)) (gq_at H) (cos2_at H) (sin2_at H) zero128) h r l hl x (h0.trans (Nat.zero_add _).symm) h1 h2
  · exact of_head (R := I.q) 3 (q3_plane (q_tile H (h1_at H)) (gq_at H) (cos1_at H) (sin1_at H) zero128) h r l hl x h0 h1 h2
  · exact of_head (R := I.q) 2 (q2_plane (q_tile H (h1_at H)) (gq_at H) (cos1_at H) (sin1_at H) zero128) h r l hl x h0 h1 h2
  · exact of_head (R := I.q) 1 (q1_plane (q_tile H (h1_at H)) (gq_at H) (cos1_at H) (sin1_at H) zero128) h r l hl x h0 h1 h2
  · exact of_head (R := I.q) 0 (q0_plane (q_tile H (h1_at H)) (gq_at H) (cos1_at H) (sin1_at H) zero128) h r l hl x (h0.trans (Nat.zero_add _).symm) h1 h2
  · exact of_head (R := I.q) 3 (q3_plane (q_tile H (h0_at H)) (gq_at H) (cos0_at H) (sin0_at H) zero128) h r l hl x h0 (h1.trans (Nat.zero_add _).symm) h2
  · exact of_head (R := I.q) 2 (q2_plane (q_tile H (h0_at H)) (gq_at H) (cos0_at H) (sin0_at H) zero128) h r l hl x h0 (h1.trans (Nat.zero_add _).symm) h2
  · exact of_head (R := I.q) 1 (q1_plane (q_tile H (h0_at H)) (gq_at H) (cos0_at H) (sin0_at H) zero128) h r l hl x h0 (h1.trans (Nat.zero_add _).symm) h2
  · exact of_head (R := I.q) 0 (q0_plane (q_tile H (h0_at H)) (gq_at H) (cos0_at H) (sin0_at H) zero128) h r l hl x (h0.trans (Nat.zero_add _).symm) (h1.trans (Nat.zero_add _).symm) h2

theorem out0_14_at (h : Fin 2) (r : Fin 768) (l : Fin 128) (hl : (l : ℕ) < 64) :
    out0_14 i x0 x1 x2 x3 x4 x5 x6 x7 x8 (ix3 h r l) = I.k (row (i 0) r) h ⟨l, hl⟩ := by
  unfold_out out0_14
  canon_tiles x h
  · exact of_head (R := I.k) 1 (k1_plane (q_tile H (h2_at H)) (gk_at H) (cos2_at H) (sin2_at H) zero128) h r l hl x h0 h1 h2
  · exact of_head (R := I.k) 0 (k0_plane (q_tile H (h2_at H)) (gk_at H) (cos2_at H) (sin2_at H) zero128) h r l hl x (h0.trans (Nat.zero_add _).symm) h1 h2
  · exact of_head (R := I.k) 1 (k1_plane (q_tile H (h1_at H)) (gk_at H) (cos1_at H) (sin1_at H) zero128) h r l hl x h0 h1 h2
  · exact of_head (R := I.k) 0 (k0_plane (q_tile H (h1_at H)) (gk_at H) (cos1_at H) (sin1_at H) zero128) h r l hl x (h0.trans (Nat.zero_add _).symm) h1 h2
  · exact of_head (R := I.k) 1 (k1_plane (q_tile H (h0_at H)) (gk_at H) (cos0_at H) (sin0_at H) zero128) h r l hl x h0 (h1.trans (Nat.zero_add _).symm) h2
  · exact of_head (R := I.k) 0 (k0_plane (q_tile H (h0_at H)) (gk_at H) (cos0_at H) (sin0_at H) zero128) h r l hl x (h0.trans (Nat.zero_add _).symm) (h1.trans (Nat.zero_add _).symm) h2

theorem out0_15_at (h : Fin 2) (r : Fin 768) (l : Fin 128) (hl : (l : ℕ) < 64) :
    out0_15 i x0 x1 x2 x3 x4 x5 x6 x7 x8 (ix3 h r l) = I.v (row (i 0) r) h ⟨l, hl⟩ := by
  unfold_out out0_15
  canon_tiles x h
  · exact of_head (R := I.v) 1 (v1_plane (q_tile H (h2_at H)) k0_pay5) h r l hl x h0 h1 h2
  · exact of_head (R := I.v) 0 (v0_plane (q_tile H (h2_at H)) k0_pay5) h r l hl x (h0.trans (Nat.zero_add _).symm) h1 h2
  · exact of_head (R := I.v) 1 (v1_plane (q_tile H (h1_at H)) k0_pay5) h r l hl x h0 h1 h2
  · exact of_head (R := I.v) 0 (v0_plane (q_tile H (h1_at H)) k0_pay5) h r l hl x (h0.trans (Nat.zero_add _).symm) h1 h2
  · exact of_head (R := I.v) 1 (v1_plane (q_tile H (h0_at H)) k0_pay5) h r l hl x h0 (h1.trans (Nat.zero_add _).symm) h2
  · exact of_head (R := I.v) 0 (v0_plane (q_tile H (h0_at H)) k0_pay5) h r l hl x (h0.trans (Nat.zero_add _).symm) (h1.trans (Nat.zero_add _).symm) h2

end

end

end Cert.Fwd
-- ==== Proof.FHost.lean ====
module

public import proofs.«01_k».proof.Proof.Gen.Kernel3Ideal.Frame
public import proofs.«01_k».proof.Proof.FSpec
public import proofs.«01_k».proof.Proof.TileSpec
public import Idealize.ShloMosaic.Lib.Claim
public import Idealize.ShloMosaic.Lib.StableHlo.Predicate

/-! # What the host prepares for the forward launch -/

@[expose] public section

set_option maxRecDepth 16384

namespace Cert.Fwd

open Idealize.ShloMosaic Idealize.ShloMosaic.TcCoe Cert.Kernel3Ideal Cert.Kernel3Ideal.Gen
open Cert.InProj (cC cR cQ freq angle CS SN c_two c_32 c_1e4 c_one div_real)
open Cert.InProj.Tile (hi lw)

noncomputable section

/-! ## Before the first launch -/

theorem h0_v12 (X : Valuation τ sig (Elt Ideal)) (d : Fin 1024) (j : Fin 512) :
    StableHlo.after hostOps0 X (Proc.devRef .tc main_v12) (ix2 (n0 := 1024) (n1 := 512) d j) = X (Proc.devRef .tc main_arg6) (ix2 (n0 := 1024) (n1 := 3328) d (cQ j)) := by
  unfold_abbrev_sides
  after_results
  pointwise
  rfl

theorem h0_v6 (X : Valuation τ sig (Elt Ideal)) (d : Fin 1024) (j : Fin 1024) :
    StableHlo.after hostOps0 X (Proc.devRef .tc main_v6) (ix2 (n0 := 1024) (n1 := 1024) d j) = X (Proc.devRef .tc main_arg6) (ix2 (n0 := 1024) (n1 := 3328) d (cC j)) := by
  unfold_abbrev_sides
  after_results
  pointwise
  rw [cC]
  split_ifs <;> rfl

theorem h0_v11 (X : Valuation τ sig (Elt Ideal)) (d : Fin 1024) (j : Fin 1792) :
    StableHlo.after hostOps0 X (Proc.devRef .tc main_v11) (ix2 (n0 := 1024) (n1 := 1792) d j) = X (Proc.devRef .tc main_arg6) (ix2 (n0 := 1024) (n1 := 3328) d (cR j)) := by
  unfold_abbrev_sides
  after_results
  pointwise
  rw [cR]
  split_ifs
  all_goals
    first
    | omega
    | (generalize_proofs
       after_results_loop
       pointwise
       first | done | exact congrArg (fun q => X (Proc.devRef .tc main_arg6) (ix2 (n0 := 1024) (n1 := 3328) d q)) (Fin.ext (by split_ifs <;> simp only <;> omega)))

theorem h0_v22_0 (X : Valuation τ sig (Elt Ideal)) (d : Fin 1024) :
    StableHlo.after hostOps0 X (Proc.devRef .tc main_v22) (ix2 (n0 := 8) (n1 := 1024) 0 d) = X (Proc.devRef .tc main_arg1) (ix1 (n0 := 1024) d) := by
  unfold_abbrev_sides
  after_results
  pointwise
  after_results_loop
  pointwise

theorem h0_v22_1 (X : Valuation τ sig (Elt Ideal)) (d : Fin 1024) :
    StableHlo.after hostOps0 X (Proc.devRef .tc main_v22) (ix2 (n0 := 8) (n1 := 1024) 1 d) = X (Proc.devRef .tc main_arg2) (ix1 (n0 := 1024) d) := by
  unfold_abbrev_sides
  after_results
  pointwise
  after_results_loop
  pointwise

theorem h0_v22_3 (X : Valuation τ sig (Elt Ideal)) (d : Fin 1024) :
    StableHlo.after hostOps0 X (Proc.devRef .tc main_v22) (ix2 (n0 := 8) (n1 := 1024) 3 d) = X (Proc.devRef .tc main_arg3) (ix1 (n0 := 1024) d) := by
  unfold_abbrev_sides
  after_results
  pointwise
  after_results_loop
  pointwise

theorem h0_v22_4 (X : Valuation τ sig (Elt Ideal)) (d : Fin 1024) :
    StableHlo.after hostOps0 X (Proc.devRef .tc main_v22) (ix2 (n0 := 8) (n1 := 1024) 4 d) = X (Proc.devRef .tc main_arg4) (ix1 (n0 := 1024) d) := by
  unfold_abbrev_sides
  after_results
  pointwise
  after_results_loop
  pointwise

theorem h0_v32_0 (X : Valuation τ sig (Elt Ideal)) (d : Fin 128) :
    StableHlo.after hostOps0 X (Proc.devRef .tc main_v32) (ix2 (n0 := 8) (n1 := 128) 0 d) = X (Proc.devRef .tc main_arg7) (ix1 (n0 := 64) (lw d)) := by
  unfold_abbrev_sides
  after_results
  pointwise
  after_results_loop
  pointwise
  rfl

theorem h0_v32_1 (X : Valuation τ sig (Elt Ideal)) (d : Fin 128) :
    StableHlo.after hostOps0 X (Proc.devRef .tc main_v32) (ix2 (n0 := 8) (n1 := 128) 1 d) = X (Proc.devRef .tc main_arg8) (ix1 (n0 := 64) (lw d)) := by
  unfold_abbrev_sides
  after_results
  pointwise
  after_results_loop
  pointwise
  rfl

theorem lit0_at : ∀ l : Fin 128, lit0 l = BitVec.ofNat 32 (l % 16) := by decide +kernel
theorem lit1_at : ∀ l : Fin 128, lit1 l = if (l : ℕ) % 64 < 32 then 1#1 else 0#1 := by decide +kernel
theorem lit2_at : ∀ l : Fin 128, lit2 l = if (l : ℕ) % 64 < 32 then 1#1 else 0#1 := by decide +kernel
theorem lit3_at : ∀ l : Fin 128, lit3 l = if (l : ℕ) % 32 < 16 then 0xBF800000#32 else 0x3F800000#32 := by decide +kernel

theorem take_word : ∀ l : Fin 128, min (BitVec.ofNat 32 ((l : ℕ) % 16)).toInt.toNat (16 - 1) = l % 16 := by decide +kernel

theorem sitofp_nat (n : ℕ) (h : n < 2 ^ 31) : (FloatOps.sitofp FTy.f32 (BitVec.ofNat 32 n) : Ideal FTy.f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem rowMajor_128 (l : Fin 128) : S128.rowMajor (ix1 l) = l := Fin.ext (by simp [Shape.rowMajor_val_one])

/-- The frequencies, as the host computes them. -/
def fT : FVec Ideal S16 .f32 :=
  (Host.divf (F := Ideal) (broadcastInDim S16 ![] bcast_S_S16 (constant S_ FTy.f32 1065353216#32))
          (Host.powf (broadcastInDim S16 ![] bcast_S_S16 (constant S_ FTy.f32 1176256512#32))
            (Host.divf
              (addf (broadcastInDim S16 ![] bcast_S_S16 (constant S_ FTy.f32 0#32))
                (mulf (broadcastInDim S16 ![] bcast_S_S16 (constant S_ FTy.f32 1073741824#32))
                  (sitofp FTy.f32 (iotaInDim S16 32 0))))
              (broadcastInDim S16 ![] bcast_S_S16 (constant S_ FTy.f32 1107296256#32)))))
/-- The lanes' places in that table. -/
def iT : IVec S128x1 32 :=
  (broadcastInDim S128x1 ![0] bcast_S128_S128x1_0
          (select (constantI S128 1 0#1)
            (addi (fun i => lit0 (S128.rowMajor i)) (broadcastInDim S128 ![] bcast_S_S128 (constantI S_ 32 16#32)))
            fun i => lit0 (S128.rowMajor i)))

theorem fT_at (k : Fin 16) : fT (ix1 k) = (freq k : EReal) := by
  pointwise [fT]
  rw [sitofp_nat _ (by omega), c_two, c_32, c_1e4, ← EReal.coe_mul, div_real _ _ (by norm_num), Ideal.pow_coe_coe, ← EReal.coe_one,
    div_real _ (Real.rpow 10000 (2 * ((k : ℕ) : ℝ) / 32)) (Real.rpow_pos_of_pos (by norm_num) _).ne', freq]
  norm_num [Nat.mod_eq_of_lt k.2]

theorem iT_at (l : Fin 128) : iT (StableHlo.Predicate.ixP l) = BitVec.ofNat 32 ((l : ℕ) % 16) :=
  (congrArg lit0 (rowMajor_128 l)).trans (lit0_at l)

theorem ofFin_ix1 {n : ℕ} (k : Fin n) : Shape.Idx.ofFin k = ix1 k := funext fun a => by
  obtain rfl : a = 0 := Subsingleton.elim _ _
  rfl

theorem take16 (x : FVec Ideal S16 .f32) (idx : IVec S128x1 32) (l : Fin 128) (k : Fin 16)
    (h : min (idx (StableHlo.Predicate.ixP l)).toInt.toNat (16 - 1) = k) :
    Host.gather gather_S16_S128x1_S128_n_0_n_n_0_1_1 x idx (ix1 l) = x (ix1 k) := by
  have := StableHlo.Predicate.gather_take gather_S16_S128x1_S128_n_0_n_n_0_1_1 rfl rfl rfl rfl x idx l (by decide)
  rw [ofFin_ix1, ofFin_ix1] at this
  exact this.trans (congrArg (fun q => x (ix1 q)) (Fin.ext h))

/-- The frequency table looked up lane by lane. -/
theorem take_freq (l : Fin 128) :
    (Host.gather gather_S16_S128x1_S128_n_0_n_n_0_1_1
        (Host.divf (F := Ideal) (broadcastInDim S16 ![] bcast_S_S16 (constant S_ FTy.f32 1065353216#32))
          (Host.powf (broadcastInDim S16 ![] bcast_S_S16 (constant S_ FTy.f32 1176256512#32))
            (Host.divf
              (addf (broadcastInDim S16 ![] bcast_S_S16 (constant S_ FTy.f32 0#32))
                (mulf (broadcastInDim S16 ![] bcast_S_S16 (constant S_ FTy.f32 1073741824#32))
                  (sitofp FTy.f32 (iotaInDim S16 32 0))))
              (broadcastInDim S16 ![] bcast_S_S16 (constant S_ FTy.f32 1107296256#32)))))
        (broadcastInDim S128x1 ![0] bcast_S128_S128x1_0
          (select (constantI S128 1 0#1)
            (addi (fun i => lit0 (S128.rowMajor i)) (broadcastInDim S128 ![] bcast_S_S128 (constantI S_ 32 16#32)))
            fun i => lit0 (S128.rowMajor i))) : FVec Ideal S128 .f32) (ix1 l) = (freq l : EReal) := by
  show Host.gather gather_S16_S128x1_S128_n_0_n_n_0_1_1 fT iT (ix1 l) = _
  rw [take16 fT iT l ⟨l % 16, by omega⟩ (by rw [iT_at]; exact take_word l), fT_at]
  simp only [freq, Nat.mod_mod]

theorem h0_v54 (X : Valuation τ sig (Elt Ideal)) (n d : Fin 128) :
    StableHlo.after hostOps0 X (Proc.devRef .tc main_v54) (ix2 (n0 := 128) (n1 := 128) n d) = (((n : ℕ) * freq d : ℝ) : EReal) := by
  unfold_abbrev_sides
  after_results
  pointwise
  refine (congrArg (fun z : EReal => (FloatOps.sitofp FTy.f32 (BitVec.ofNat 32 (n : ℕ)) : Ideal FTy.f32) * z) (take_freq d)).trans ?_
  rw [sitofp_nat _ (by omega), EReal.coe_mul]

theorem h0_v65 (X : Valuation τ sig (Elt Ideal)) (n : Fin 64) (d : Fin 128) :
    StableHlo.after hostOps0 X (Proc.devRef .tc main_v65) (ix2 (n0 := 64) (n1 := 128) n d) = (((n : ℕ) * freq d : ℝ) : EReal) := by
  unfold_abbrev_sides
  after_results
  pointwise
  refine (congrArg (fun z : EReal => (FloatOps.sitofp FTy.f32 (BitVec.ofNat 32 (n : ℕ)) : Ideal FTy.f32) * z) (take_freq d)).trans ?_
  rw [sitofp_nat _ (by omega), EReal.coe_mul]

theorem h0_v68 (X : Valuation τ sig (Elt Ideal)) (n l : Fin 128) :
    StableHlo.after hostOps0 X (Proc.devRef .tc main_v68) (ix3 (n0 := 128) (n1 := 1) (n2 := 128) n 0 l) = ((Real.cos ((n : ℕ) * freq l) : ℝ) : EReal) := by
  unfold_abbrev_sides
  after_results
  pointwise
  refine (congrArg (fun z : EReal => Ideal.cos ((FloatOps.sitofp FTy.f32 (BitVec.ofNat 32 (n : ℕ)) : Ideal FTy.f32) * z)) (take_freq l)).trans ?_
  rw [sitofp_nat _ (by omega), ← EReal.coe_mul, Ideal.cos_coe]

theorem h0_v70 (X : Valuation τ sig (Elt Ideal)) (n : Fin 64) (l : Fin 128) :
    StableHlo.after hostOps0 X (Proc.devRef .tc main_v70) (ix3 (n0 := 1) (n1 := 64) (n2 := 128) 0 n l) = ((Real.cos ((n : ℕ) * freq l) : ℝ) : EReal) := by
  unfold_abbrev_sides
  after_results
  pointwise
  refine (congrArg (fun z : EReal => Ideal.cos ((FloatOps.sitofp FTy.f32 (BitVec.ofNat 32 (n : ℕ)) : Ideal FTy.f32) * z)) (take_freq l)).trans ?_
  rw [sitofp_nat _ (by omega), ← EReal.coe_mul, Ideal.cos_coe]

theorem h0_v0 (X : Valuation τ sig (Elt Ideal)) (l : Fin 128) :
    StableHlo.after hostOps0 X (Proc.devRef .tc main_v0) (ix3 (n0 := 1) (n1 := 1) (n2 := 128) 0 0 l) = if (l : ℕ) % 64 < 32 then 1#1 else 0#1 := by
  unfold_abbrev_sides
  after_results
  pointwise
  exact (congrArg lit1 (rowMajor_128 l)).trans (lit1_at l)

theorem h0_v1 (X : Valuation τ sig (Elt Ideal)) (l : Fin 128) :
    StableHlo.after hostOps0 X (Proc.devRef .tc main_v1) (ix3 (n0 := 1) (n1 := 1) (n2 := 128) 0 0 l) = if (l : ℕ) % 64 < 32 then 1#1 else 0#1 := by
  unfold_abbrev_sides
  after_results
  pointwise
  exact (congrArg lit2 (rowMajor_128 l)).trans (lit2_at l)

theorem h0_v2 (X : Valuation τ sig (Elt Ideal)) (l : Fin 128) :
    StableHlo.after hostOps0 X (Proc.devRef .tc main_v2) (ix2 (n0 := 1) (n1 := 128) 0 l) = ((if (l : ℕ) % 32 < 16 then -1 else 1 : ℝ) : EReal) := by
  unfold_abbrev_sides
  after_results
  pointwise
  refine (congrArg (fun w => Ideal.ofBits .f32 (lit3 w)) (rowMajor_128 l)).trans ?_
  simp only [lit3_at]
  split_ifs
  · simp [Ideal.ofBits, Ideal.ieee, -EReal.coe_mul, -EReal.coe_neg]; try norm_num
  · exact c_one

theorem h0_v66 (X : Valuation τ sig (Elt Ideal)) (n : Fin 256) (l : Fin 128) :
    StableHlo.after hostOps0 X (Proc.devRef .tc main_v66) (ix2 (n0 := 256) (n1 := 128) n l) = ((1 : ℝ) : EReal) := by
  unfold_abbrev_sides
  after_results
  pointwise
  exact EReal.coe_one.symm

theorem h1_v71 (X : Valuation τ sig (Elt Ideal)) (n : Fin 128) (k : Fin 64) (l : Fin 128) :
    StableHlo.after hostOps0_1 X (Proc.devRef .tc main_v71) (ix3 (n0 := 128) (n1 := 64) (n2 := 128) n k l)
      = if X (Proc.devRef .tc main_v0) (ix3 (n0 := 1) (n1 := 1) (n2 := 128) 0 0 l) = 1#1 then X (Proc.devRef .tc main_v68) (ix3 (n0 := 128) (n1 := 1) (n2 := 128) n 0 l)
        else X (Proc.devRef .tc main_v70) (ix3 (n0 := 1) (n1 := 64) (n2 := 128) 0 k l) := by
  unfold_abbrev_sides
  after_results
  refine (show _ = select (broadcastInDim S128x64x128 ![0, 1, 2] bcast_S1x1x128_S128x64x128_0_1_2 (X (Proc.devRef .tc main_v0)))
    (broadcastInDim S128x64x128 ![0, 1, 2] bcast_S128x1x128_S128x64x128_0_1_2 (X (Proc.devRef .tc main_v68)))
    (broadcastInDim S128x64x128 ![0, 1, 2] bcast_S1x64x128_S128x64x128_0_1_2 (X (Proc.devRef .tc main_v70))) (ix3 n k l) from rfl).trans ?_
  pointwise
  rfl

theorem h3_v79 (X : Valuation τ sig (Elt Ideal)) (n : Fin 128) (k : Fin 64) (l : Fin 128) :
    StableHlo.after hostOps0_3 X (Proc.devRef .tc main_v79) (ix3 (n0 := 128) (n1 := 64) (n2 := 128) n k l)
      = if X (Proc.devRef .tc main_v1) (ix3 (n0 := 1) (n1 := 1) (n2 := 128) 0 0 l) = 1#1 then X (Proc.devRef .tc main_v76) (ix3 (n0 := 128) (n1 := 1) (n2 := 128) n 0 l)
        else X (Proc.devRef .tc main_v78) (ix3 (n0 := 1) (n1 := 64) (n2 := 128) 0 k l) := by
  unfold_abbrev_sides
  after_results
  refine (show _ = select (broadcastInDim S128x64x128 ![0, 1, 2] bcast_S1x1x128_S128x64x128_0_1_2 (X (Proc.devRef .tc main_v1)))
    (broadcastInDim S128x64x128 ![0, 1, 2] bcast_S128x1x128_S128x64x128_0_1_2 (X (Proc.devRef .tc main_v76)))
    (broadcastInDim S128x64x128 ![0, 1, 2] bcast_S1x64x128_S128x64x128_0_1_2 (X (Proc.devRef .tc main_v78))) (ix3 n k l) from rfl).trans ?_
  pointwise
  rfl

theorem h2_v73 (X : Valuation τ sig (Elt Ideal)) (t : Fin 8448) (l : Fin 128) :
    StableHlo.after hostOps0_2 X (Proc.devRef .tc main_v73) (ix2 (n0 := 8448) (n1 := 128) t l)
      = if h : (t : ℕ) < 256 then X (Proc.devRef .tc main_v66) (ix2 (n0 := 256) (n1 := 128) ⟨t, h⟩ l)
        else X (Proc.devRef .tc main_v71) (ix3 (n0 := 128) (n1 := 64) (n2 := 128) ⟨(t - 256) / 64, by omega⟩ ⟨(t - 256) % 64, by omega⟩ l) := by
  unfold_abbrev_sides
  after_results
  pointwise
  try rfl

theorem h2_v76 (X : Valuation τ sig (Elt Ideal)) (n l : Fin 128) :
    StableHlo.after hostOps0_2 X (Proc.devRef .tc main_v76) (ix3 (n0 := 128) (n1 := 1) (n2 := 128) n 0 l)
      = Ideal.sin (X (Proc.devRef .tc main_v54) (ix2 (n0 := 128) (n1 := 128) n l)) := by
  unfold_abbrev_sides
  after_results
  pointwise
  try rfl

theorem h2_v78 (X : Valuation τ sig (Elt Ideal)) (n : Fin 64) (l : Fin 128) :
    StableHlo.after hostOps0_2 X (Proc.devRef .tc main_v78) (ix3 (n0 := 1) (n1 := 64) (n2 := 128) 0 n l)
      = Ideal.sin (X (Proc.devRef .tc main_v65) (ix2 (n0 := 64) (n1 := 128) n l)) := by
  unfold_abbrev_sides
  after_results
  pointwise
  try rfl

theorem h2_v74 (X : Valuation τ sig (Elt Ideal)) (n : Fin 256) (l : Fin 128) :
    StableHlo.after hostOps0_2 X (Proc.devRef .tc main_v74) (ix2 (n0 := 256) (n1 := 128) n l) = ((0 : ℝ) : EReal) := by
  unfold_abbrev_sides
  after_results
  pointwise
  exact EReal.coe_zero.symm

theorem h4_v83 (X : Valuation τ sig (Elt Ideal)) (t : Fin 8448) (l : Fin 128) :
    StableHlo.after hostOps0_4 X (Proc.devRef .tc main_v83) (ix2 (n0 := 8448) (n1 := 128) t l)
      = if h : (t : ℕ) < 256 then X (Proc.devRef .tc main_v74) (ix2 (n0 := 256) (n1 := 128) ⟨t, h⟩ l)
        else @HMul.hMul EReal EReal EReal _ (X (Proc.devRef .tc main_v79) (ix3 (n0 := 128) (n1 := 64) (n2 := 128) ⟨(t - 256) / 64, by omega⟩ ⟨(t - 256) % 64, by omega⟩ l))
          (X (Proc.devRef .tc main_v2) (ix2 (n0 := 1) (n1 := 128) 0 l)) := by
  unfold_abbrev_sides
  after_results
  pointwise
  try rfl

theorem h4_v84 (X : Valuation τ sig (Elt Ideal)) (d : Fin 1024) :
    StableHlo.after hostOps0_4 X (Proc.devRef .tc main_v84) (ix2 (n0 := 1) (n1 := 1024) 0 d) = X (Proc.devRef .tc main_arg5) (ix1 (n0 := 1024) d) := by
  unfold_abbrev_sides
  after_results
  pointwise

/-! ## From line to line -/

theorem keep1 (X : Valuation τ sig (Elt Ideal)) {r : Ref sig .tc} (h : r ∉ [main_call0_v0, main_call0_v1, main_call0_v2, main_v71]) :
    StableHlo.after hostOps0_1 X (Proc.devRef .tc r) = X (Proc.devRef .tc r) :=
  StableHlo.after_of_writes_sub hostOps0_1 X (by
    simp only [hostOps0_1, List.Forall, StableHlo.nullary_writes, StableHlo.unary_writes, StableHlo.binary_writes, StableHlo.ternary_writes, StableHlo.reshape_writes, List.map_cons, List.map_nil, List.toFinset_cons, List.toFinset_nil]
    decide) h

theorem keep2 (X : Valuation τ sig (Elt Ideal)) {r : Ref sig .tc} (h : r ∉ [main_v72, main_v73, main_cst_14, main_v74, main_v75, main_v76, main_v77, main_v78]) :
    StableHlo.after hostOps0_2 X (Proc.devRef .tc r) = X (Proc.devRef .tc r) :=
  StableHlo.after_of_writes_sub hostOps0_2 X (by
    simp only [hostOps0_2, List.Forall, StableHlo.nullary_writes, StableHlo.unary_writes, StableHlo.binary_writes, StableHlo.ternary_writes, StableHlo.reshape_writes, List.map_cons, List.map_nil, List.toFinset_cons, List.toFinset_nil]
    decide) h

theorem keep3 (X : Valuation τ sig (Elt Ideal)) {r : Ref sig .tc} (h : r ∉ [main_call1_v0, main_call1_v1, main_call1_v2, main_v79]) :
    StableHlo.after hostOps0_3 X (Proc.devRef .tc r) = X (Proc.devRef .tc r) :=
  StableHlo.after_of_writes_sub hostOps0_3 X (by
    simp only [hostOps0_3, List.Forall, StableHlo.nullary_writes, StableHlo.unary_writes, StableHlo.binary_writes, StableHlo.ternary_writes, StableHlo.reshape_writes, List.map_cons, List.map_nil, List.toFinset_cons, List.toFinset_nil]
    decide) h

theorem keep4 (X : Valuation τ sig (Elt Ideal)) {r : Ref sig .tc} (h : r ∉ [main_v80, main_v81, main_v82, main_v83, main_v84]) :
    StableHlo.after hostOps0_4 X (Proc.devRef .tc r) = X (Proc.devRef .tc r) :=
  StableHlo.after_of_writes_sub hostOps0_4 X (by
    simp only [hostOps0_4, List.Forall, StableHlo.nullary_writes, StableHlo.unary_writes, StableHlo.binary_writes, StableHlo.ternary_writes, StableHlo.reshape_writes, List.map_cons, List.map_nil, List.toFinset_cons, List.toFinset_nil]
    decide) h

end

end Cert.Fwd
-- ==== Proof.FArr.lean ====
module

public import proofs.«01_k».proof.Proof.FOut
public import proofs.«01_k».proof.Proof.FHost

/-! # The forward launch's arrays and the results -/

@[expose] public section

set_option maxRecDepth 16384

namespace Cert.Fwd

open Idealize.ShloMosaic Idealize.ShloMosaic.TcCoe Cert.Kernel3Ideal Cert.Kernel3Ideal.Gen
open Cert.InProj (row at2 at3 cC cR cQ CS SN freq angle)
open Cert.InProj.Tile (hi lw)

noncomputable section

theorem after_app (l k : List (HloOp τ sig (Elt Ideal))) (X : Valuation τ sig (Elt Ideal)) :
    StableHlo.after (l ++ k) X = StableHlo.after k (StableHlo.after l X) := by
  induction l generalizing X with
  | nil => rfl
  | cons op l ih => exact ih _

variable (m : (ℓ : Loc nD τ sig) → Buf (Elt Ideal) ℓ) (c : Dev nD)

/-- The arguments. -/
def inp : Inp where
  X t d := m ((c : Thread nD τ).loc main_arg0) (ix2 (n0 := 8448) (n1 := 1024) t d)
  shc d := m ((c : Thread nD τ).loc main_arg1) (ix1 (n0 := 1024) d)
  scc d := m ((c : Thread nD τ).loc main_arg2) (ix1 (n0 := 1024) d)
  sh d := m ((c : Thread nD τ).loc main_arg3) (ix1 (n0 := 1024) d)
  sc d := m ((c : Thread nD τ).loc main_arg4) (ix1 (n0 := 1024) d)
  g d := m ((c : Thread nD τ).loc main_arg5) (ix1 (n0 := 1024) d)
  W d j := m ((c : Thread nD τ).loc main_arg6) (ix2 (n0 := 1024) (n1 := 3328) d j)
  qg e := m ((c : Thread nD τ).loc main_arg7) (ix1 (n0 := 64) e)
  kg e := m ((c : Thread nD τ).loc main_arg8) (ix1 (n0 := 64) e)

/-! ## The host's lines before the launch, part by part -/

abbrev W1 : Valuation τ sig (Elt Ideal) := StableHlo.after hostOps0 (fun b => m (c, b))
abbrev W2 : Valuation τ sig (Elt Ideal) := StableHlo.after hostOps0_1 (W1 m c)
abbrev W3 : Valuation τ sig (Elt Ideal) := StableHlo.after hostOps0_2 (W2 m c)
abbrev W4 : Valuation τ sig (Elt Ideal) := StableHlo.after hostOps0_3 (W3 m c)
abbrev W5 : Valuation τ sig (Elt Ideal) := StableHlo.after hostOps0_4 (W4 m c)

theorem V0_eq : V0 m c = W5 m c := by
  unfold V0
  rw [List.flatten_cons, List.flatten_cons, List.flatten_cons, List.flatten_cons, List.flatten_singleton, after_app, after_app, after_app, after_app]

theorem V_W5 (r : Ref sig .tc) : V m c r = W5 m c (Proc.devRef .tc r) := congrFun (V0_eq m c) _
theorem V_W1 (r : Ref sig .tc) (h1 : r ∉ [main_call0_v0, main_call0_v1, main_call0_v2, main_v71])
    (h2 : r ∉ [main_v72, main_v73, main_cst_14, main_v74, main_v75, main_v76, main_v77, main_v78])
    (h3 : r ∉ [main_call1_v0, main_call1_v1, main_call1_v2, main_v79]) (h4 : r ∉ [main_v80, main_v81, main_v82, main_v83, main_v84]) :
    V m c r = W1 m c (Proc.devRef .tc r) :=
  (V_W5 m c r).trans ((keep4 _ h4).trans ((keep3 _ h3).trans ((keep2 _ h2).trans (keep1 _ h1))))

theorem freq_lw (l : Fin 128) : freq (lw l) = freq l := by
  simp only [freq, lw]
  rw [Nat.mod_mod_of_dvd _ (by norm_num)]

theorem cos_at (t : Fin 8448) (l : Fin 128) :
    W5 m c (Proc.devRef .tc main_v73) (ix2 (n0 := 8448) (n1 := 128) t l) = (CS t (lw l) : EReal) := by
  refine (congrFun ((keep4 (W4 m c) (r := main_v73) (by decide)).trans (keep3 (W3 m c) (r := main_v73) (by decide))) _).trans ((h2_v73 _ t l).trans ?_)
  rw [CS]
  split_ifs with h
  · exact (congrFun (keep1 (W1 m c) (r := main_v66) (by decide)) _).trans (h0_v66 _ _ _)
  · refine (h1_v71 _ _ _ _).trans ?_
    rw [show W1 m c (Proc.devRef .tc main_v0) (ix3 (n0 := 1) (n1 := 1) (n2 := 128) 0 0 l) = _ from h0_v0 _ l,
      show W1 m c (Proc.devRef .tc main_v68) (ix3 (n0 := 128) (n1 := 1) (n2 := 128) _ 0 l) = _ from h0_v68 _ _ l,
      show W1 m c (Proc.devRef .tc main_v70) (ix3 (n0 := 1) (n1 := 64) (n2 := 128) 0 _ l) = _ from h0_v70 _ _ l, angle, freq_lw]
    by_cases hb : (l : ℕ) % 64 < 32
    · rw [show (if (l : ℕ) % 64 < 32 then (1#1 : BitVec 1) else 0#1) = 1#1 from if_pos hb, if_pos rfl]
      exact congrArg (fun z : ℝ => ((Real.cos (z * freq l) : ℝ) : EReal)) (if_pos (show (lw l : ℕ) < 32 from hb)).symm
    · rw [show (if (l : ℕ) % 64 < 32 then (1#1 : BitVec 1) else 0#1) = 0#1 from if_neg hb, if_neg (show ¬ (0#1 : BitVec 1) = 1#1 by decide)]
      exact congrArg (fun z : ℝ => ((Real.cos (z * freq l) : ℝ) : EReal)) (if_neg (show ¬ (lw l : ℕ) < 32 from hb)).symm

theorem sin_at (t : Fin 8448) (l : Fin 128) :
    W5 m c (Proc.devRef .tc main_v83) (ix2 (n0 := 8448) (n1 := 128) t l) = (((if (lw l : ℕ) % 32 < 16 then -1 else 1) * SN t (lw l) : ℝ) : EReal) := by
  refine (h4_v83 _ t l).trans ?_
  rw [SN]
  split_ifs with h h' h'
  · refine (congrFun (keep3 (W3 m c) (r := main_v74) (by decide)) _).trans ((h2_v74 _ _ _).trans ?_)
    rw [mul_zero]
  · refine (congrFun (keep3 (W3 m c) (r := main_v74) (by decide)) _).trans ((h2_v74 _ _ _).trans ?_)
    rw [mul_zero]
  all_goals
    have e2 : W4 m c (Proc.devRef .tc main_v2) (ix2 (n0 := 1) (n1 := 128) 0 l) = ((if (l : ℕ) % 32 < 16 then -1 else 1 : ℝ) : EReal) :=
      (congrFun ((keep3 (W3 m c) (r := main_v2) (by decide)).trans ((keep2 (W2 m c) (r := main_v2) (by decide)).trans (keep1 (W1 m c) (r := main_v2) (by decide)))) _).trans (h0_v2 _ l)
    have e1 : W3 m c (Proc.devRef .tc main_v1) (ix3 (n0 := 1) (n1 := 1) (n2 := 128) 0 0 l) = if (l : ℕ) % 64 < 32 then 1#1 else 0#1 :=
      (congrFun ((keep2 (W2 m c) (r := main_v1) (by decide)).trans (keep1 (W1 m c) (r := main_v1) (by decide))) _).trans (h0_v1 _ l)
    have e76 (n : Fin 128) : W3 m c (Proc.devRef .tc main_v76) (ix3 (n0 := 128) (n1 := 1) (n2 := 128) n 0 l) = ((Real.sin ((n : ℕ) * freq l) : ℝ) : EReal) :=
      (h2_v76 _ n l).trans ((congrArg Ideal.sin ((congrFun (keep1 (W1 m c) (r := main_v54) (by decide)) _).trans (h0_v54 _ n l))).trans (Ideal.sin_coe _))
    have e78 (n : Fin 64) : W3 m c (Proc.devRef .tc main_v78) (ix3 (n0 := 1) (n1 := 64) (n2 := 128) 0 n l) = ((Real.sin ((n : ℕ) * freq l) : ℝ) : EReal) :=
      (h2_v78 _ n l).trans ((congrArg Ideal.sin ((congrFun (keep1 (W1 m c) (r := main_v65) (by decide)) _).trans (h0_v65 _ n l))).trans (Ideal.sin_coe _))
    have e79 (n : Fin 128) (k : Fin 64) : W4 m c (Proc.devRef .tc main_v79) (ix3 (n0 := 128) (n1 := 64) (n2 := 128) n k l)
        = ((Real.sin ((if (l : ℕ) % 64 < 32 then ((n : ℕ) : ℝ) else ((k : ℕ) : ℝ)) * freq l) : ℝ) : EReal) := by
      refine (h3_v79 _ n k l).trans ?_
      rw [e1, e76, e78]
      by_cases hb : (l : ℕ) % 64 < 32
      · rw [show (if (l : ℕ) % 64 < 32 then (1#1 : BitVec 1) else 0#1) = 1#1 from if_pos hb, if_pos rfl, if_pos hb]
      · rw [show (if (l : ℕ) % 64 < 32 then (1#1 : BitVec 1) else 0#1) = 0#1 from if_neg hb, if_neg (show ¬ (0#1 : BitVec 1) = 1#1 by decide), if_neg hb]
    rw [e2, e79, ← EReal.coe_mul, angle, freq_lw]
    simp only [lw] at h' ⊢
    rw [Nat.mod_mod_of_dvd _ (by norm_num)] at h'
    first | rw [if_pos h'] | rw [if_neg h']
    rw [mul_comm]
    all_goals rfl

/-! ## The launch's blocks -/

theorem coords0 (t : Fin cfg0.N) : ((grid0.coords t 0 : Fin 11) : ℕ) = t.val := (by decide +kernel : ∀ t : Fin grid0.N, ((grid0.coords t 0 : Fin 11) : ℕ) = t.val) t
theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)
theorem idx0_10 : ∀ t : Fin cfg0.N, win0_10.index t = ![t.val, 0] := (by decide +kernel : ∀ t : Fin grid0.N, _)
theorem idx0_11 : ∀ t : Fin cfg0.N, win0_11.index t = ![t.val, 0] := (by decide +kernel : ∀ t : Fin grid0.N, _)
theorem idx0_13 : ∀ t : Fin cfg0.N, win0_13.index t = ![0, t.val, 0] := (by decide +kernel : ∀ t : Fin grid0.N, _)
theorem idx0_14 : ∀ t : Fin cfg0.N, win0_14.index t = ![0, t.val, 0] := (by decide +kernel : ∀ t : Fin grid0.N, _)
theorem idx0_15 : ∀ t : Fin cfg0.N, win0_15.index t = ![0, t.val, 0] := (by decide +kernel : ∀ t : Fin grid0.N, _)
theorem row0 (t : Fin cfg0.N) (r : Fin 768) : (row (grid0.coords t 0) r : ℕ) = t.val * 768 + r := by
  simp only [row, coords0]; omega

theorem h0_arg5 (X : Valuation τ sig (Elt Ideal)) : StableHlo.after hostOps0 X (Proc.devRef .tc main_arg5) = X (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem blk_x0 (t : Fin cfg0.N) (r : Fin 768) (d : Fin 1024) :
    iblk m c 0 t (ix2 (n0 := 768) (n1 := 1024) r d) = (inp m c).X (row (grid0.coords t 0) r) d := by
  blk_simp [iblk, idx0_0]
  exact (at2 (V m c (Pipeline.arrRef spec0 0)) _ (row (grid0.coords t 0) r) d (by blk_simp [idx0_0]; rw [row0]) (by blk_simp [idx0_0])).trans (congrFun (V_main_arg0 m c) _)
theorem blk_m0 (t : Fin cfg0.N) (d : Fin 1024) :
    iblk m c 1 t (ix2 (n0 := 8) (n1 := 1024) 0 d) = (inp m c).shc d := by
  blk_simp [iblk, idx0_1]
  exact (at2 (V m c (Pipeline.arrRef spec0 1)) _ 0 d (by blk_simp [idx0_1]) (by blk_simp [idx0_1])).trans ((congrFun (V_W1 m c main_v22 (by decide) (by decide) (by decide) (by decide)) _).trans (h0_v22_0 _ d))
theorem blk_m1 (t : Fin cfg0.N) (d : Fin 1024) :
    iblk m c 1 t (ix2 (n0 := 8) (n1 := 1024) 1 d) = (inp m c).scc d := by
  blk_simp [iblk, idx0_1]
  exact (at2 (V m c (Pipeline.arrRef spec0 1)) _ 1 d (by blk_simp [idx0_1]) (by blk_simp [idx0_1])).trans ((congrFun (V_W1 m c main_v22 (by decide) (by decide) (by decide) (by decide)) _).trans (h0_v22_1 _ d))
theorem blk_m3 (t : Fin cfg0.N) (d : Fin 1024) :
    iblk m c 1 t (ix2 (n0 := 8) (n1 := 1024) 3 d) = (inp m c).sh d := by
  blk_simp [iblk, idx0_1]
  exact (at2 (V m c (Pipeline.arrRef spec0 1)) _ 3 d (by blk_simp [idx0_1]) (by blk_simp [idx0_1])).trans ((congrFun (V_W1 m c main_v22 (by decide) (by decide) (by decide) (by decide)) _).trans (h0_v22_3 _ d))
theorem blk_m4 (t : Fin cfg0.N) (d : Fin 1024) :
    iblk m c 1 t (ix2 (n0 := 8) (n1 := 1024) 4 d) = (inp m c).sc d := by
  blk_simp [iblk, idx0_1]
  exact (at2 (V m c (Pipeline.arrRef spec0 1)) _ 4 d (by blk_simp [idx0_1]) (by blk_simp [idx0_1])).trans ((congrFun (V_W1 m c main_v22 (by decide) (by decide) (by decide) (by decide)) _).trans (h0_v22_4 _ d))
theorem blk_x2 (t : Fin cfg0.N) (d : Fin 1024) :
    iblk m c 2 t (ix2 (n0 := 1) (n1 := 1024) 0 d) = (inp m c).g d := by
  blk_simp [iblk, idx0_2]
  exact (at2 (V m c (Pipeline.arrRef spec0 2)) _ 0 d (by blk_simp [idx0_2]) (by blk_simp [idx0_2])).trans ((congrFun (V_W5 m c main_v84) _).trans ((h4_v84 _ d).trans (congrFun ((keep3 _ (by decide)).trans ((keep2 _ (by decide)).trans ((keep1 _ (by decide)).trans (h0_arg5 _)))) _)))
theorem blk_x3 (t : Fin cfg0.N) (d : Fin 1024) (j : Fin 1024) :
    iblk m c 3 t (ix2 (n0 := 1024) (n1 := 1024) d j) = (inp m c).W d (cC j) := by
  blk_simp [iblk, idx0_3]
  exact (at2 (V m c (Pipeline.arrRef spec0 3)) _ d j (by blk_simp [idx0_3]) (by blk_simp [idx0_3])).trans ((congrFun (V_W1 m c main_v6 (by decide) (by decide) (by decide) (by decide)) _).trans (h0_v6 _ d j))
theorem blk_x4 (t : Fin cfg0.N) (d : Fin 1024) (j : Fin 1792) :
    iblk m c 4 t (ix2 (n0 := 1024) (n1 := 1792) d j) = (inp m c).W d (cR j) := by
  blk_simp [iblk, idx0_4]
  exact (at2 (V m c (Pipeline.arrRef spec0 4)) _ d j (by blk_simp [idx0_4]) (by blk_simp [idx0_4])).trans ((congrFun (V_W1 m c main_v11 (by decide) (by decide) (by decide) (by decide)) _).trans (h0_v11 _ d j))
theorem blk_x5 (t : Fin cfg0.N) (d : Fin 1024) (j : Fin 512) :
    iblk m c 5 t (ix2 (n0 := 1024) (n1 := 512) d j) = (inp m c).W d (cQ j) := by
  blk_simp [iblk, idx0_5]
  exact (at2 (V m c (Pipeline.arrRef spec0 5)) _ d j (by blk_simp [idx0_5]) (by blk_simp [idx0_5])).trans ((congrFun (V_W1 m c main_v12 (by decide) (by decide) (by decide) (by decide)) _).trans (h0_v12 _ d j))
theorem blk_gq (t : Fin cfg0.N) (l : Fin 128) :
    iblk m c 6 t (ix2 (n0 := 8) (n1 := 128) 0 l) = (inp m c).qg (lw l) := by
  blk_simp [iblk, idx0_6]
  exact (at2 (V m c (Pipeline.arrRef spec0 6)) _ 0 l (by blk_simp [idx0_6]) (by blk_simp [idx0_6])).trans ((congrFun (V_W1 m c main_v32 (by decide) (by decide) (by decide) (by decide)) _).trans (h0_v32_0 _ l))
theorem blk_gk (t : Fin cfg0.N) (l : Fin 128) :
    iblk m c 6 t (ix2 (n0 := 8) (n1 := 128) 1 l) = (inp m c).kg (lw l) := by
  blk_simp [iblk, idx0_6]
  exact (at2 (V m c (Pipeline.arrRef spec0 6)) _ 1 l (by blk_simp [idx0_6]) (by blk_simp [idx0_6])).trans ((congrFun (V_W1 m c main_v32 (by decide) (by decide) (by decide) (by decide)) _).trans (h0_v32_1 _ l))
theorem blk_cos (t : Fin cfg0.N) (r : Fin 768) (l : Fin 128) :
    iblk m c 7 t (ix2 (n0 := 768) (n1 := 128) r l) = (CS (row (grid0.coords t 0) r) (lw l) : EReal) := by
  blk_simp [iblk, idx0_7]
  exact (at2 (V m c (Pipeline.arrRef spec0 7)) _ (row (grid0.coords t 0) r) l (by blk_simp [idx0_7]; rw [row0]) (by blk_simp [idx0_7])).trans ((congrFun (V_W5 m c main_v73) _).trans (cos_at m c _ l))
theorem blk_sin (t : Fin cfg0.N) (r : Fin 768) (l : Fin 128) :
    iblk m c 8 t (ix2 (n0 := 768) (n1 := 128) r l) = (((if (lw l : ℕ) % 32 < 16 then -1 else 1) * SN (row (grid0.coords t 0) r) (lw l) : ℝ) : EReal) := by
  blk_simp [iblk, idx0_8]
  exact (at2 (V m c (Pipeline.arrRef spec0 8)) _ (row (grid0.coords t 0) r) l (by blk_simp [idx0_8]; rw [row0]) (by blk_simp [idx0_8])).trans ((congrFun (V_W5 m c main_v83) _).trans (sin_at m c _ l))

theorem blk (t : Fin cfg0.N) : Blk (inp m c) (grid0.coords t 0) (iblk m c 0 t) (iblk m c 1 t) (iblk m c 2 t) (iblk m c 3 t) (iblk m c 4 t)
    (iblk m c 5 t) (iblk m c 6 t) (iblk m c 7 t) (iblk m c 8 t) where
  x0 := blk_x0 m c t
  m0 := blk_m0 m c t
  m1 := blk_m1 m c t
  m3 := blk_m3 m c t
  m4 := blk_m4 m c t
  x2 := blk_x2 m c t
  x3 := blk_x3 m c t
  x4 := blk_x4 m c t
  x5 := blk_x5 m c t
  gq := blk_gq m c t
  gk := blk_gk m c t
  cos := blk_cos m c t
  sin := blk_sin m c t

/-! ## The launch's arrays at the end -/

theorem arr10 (t : Fin 8448) (j : Fin 1024) :
    (dats m 0 c).arrAt 10 cfg0.N (ix2 (n0 := 8448) (n1 := 1024) t j) = (inp m c).P t (cC j) := by
  have := (dats m 0 c).arrAt_eq_of_covers 10 (fun y : S8448x1024.Idx => (inp m c).P (y 0) (cC (y 1))) (by decide +kernel) fun t hf y => by
    obtain ⟨r, e, rfl⟩ : ∃ (r : Fin 768) (e : Fin 1024), y = ix2 r e := ⟨y 0, y 1, eq_ix2 (n0 := 768) (n1 := 1024) y⟩
    rw [after0_10]
    blk_simp [idx0_10]
    refine (out0_10_at (blk m c t) r e).trans ?_
    exact (at2 (fun y : S8448x1024.Idx => (inp m c).P (y 0) (cC (y 1))) _ (row (grid0.coords t 0) r) e (by blk_simp [idx0_10]; rw [row0])
      (by blk_simp [idx0_10])).symm
  rw [this]; rfl

theorem arr11 (t : Fin 8448) (j : Fin 1792) :
    (dats m 0 c).arrAt 11 cfg0.N (ix2 (n0 := 8448) (n1 := 1792) t j) = (inp m c).P t (cR j) := by
  have := (dats m 0 c).arrAt_eq_of_covers 11 (fun y : S8448x1792.Idx => (inp m c).P (y 0) (cR (y 1))) (by decide +kernel) fun t hf y => by
    obtain ⟨r, e, rfl⟩ : ∃ (r : Fin 768) (e : Fin 1792), y = ix2 r e := ⟨y 0, y 1, eq_ix2 (n0 := 768) (n1 := 1792) y⟩
    rw [after0_11]
    blk_simp [idx0_11]
    refine (out0_11_at (blk m c t) r e).trans ?_
    exact (at2 (fun y : S8448x1792.Idx => (inp m c).P (y 0) (cR (y 1))) _ (row (grid0.coords t 0) r) e (by blk_simp [idx0_11]; rw [row0])
      (by blk_simp [idx0_11])).symm
  rw [this]; rfl

/-- The launch's planes: what the kernel leaves there. -/
def full13 (h : Fin 4) (t' : Fin 8448) (l : Fin 128) : EReal :=
  (fun t : Fin cfg0.N => out0_13 (grid0.coords t) (iblk m c 0 t) (iblk m c 1 t) (iblk m c 2 t) (iblk m c 3 t) (iblk m c 4 t) (iblk m c 5 t) (iblk m c 6 t) (iblk m c 7 t) (iblk m c 8 t) (ix3 (n0 := 4) (n1 := 768) (n2 := 128) h ⟨t' % 768, by omega⟩ l))
    ⟨t' / 768, by have e : cfg0.N = 11 := by decide +kernel
                  omega⟩

theorem arr13 (h : Fin 4) (t : Fin 8448) (l : Fin 128) :
    (dats m 0 c).arrAt 13 cfg0.N (ix3 (n0 := 4) (n1 := 8448) (n2 := 128) h t l) = full13 m c h t l := by
  have := (dats m 0 c).arrAt_eq_of_covers 13 (fun y : S4x8448x128.Idx => full13 m c (y 0) (y 1) (y 2)) (by decide +kernel) fun t hf y => by
    obtain ⟨h, r, e, rfl⟩ : ∃ (h : Fin 4) (r : Fin 768) (e : Fin 128), y = ix3 h r e := ⟨y 0, y 1, y 2, eq_ix3 (n0 := 4) (n1 := 768) (n2 := 128) y⟩
    rw [after0_13]
    blk_simp [idx0_13]
    refine Eq.trans ?_ (at3 (fun y : S4x8448x128.Idx => full13 m c (y 0) (y 1) (y 2)) _ h (row (grid0.coords t 0) r) e (by blk_simp [idx0_13])
      (by blk_simp [idx0_13]; rw [row0]) (by blk_simp [idx0_13])).symm
    have e1 : (row (grid0.coords t 0) r : ℕ) / 768 = t.val := by rw [row0]; omega
    have e2 : (row (grid0.coords t 0) r : ℕ) % 768 = r := by rw [row0]; omega
    have key (s : Fin cfg0.N) (r' : Fin 768) (hs : s = t) (hr : r' = r) : out0_13 (grid0.coords t) (iblk m c 0 t) (iblk m c 1 t) (iblk m c 2 t) (iblk m c 3 t) (iblk m c 4 t) (iblk m c 5 t) (iblk m c 6 t) (iblk m c 7 t) (iblk m c 8 t) (ix3 (n0 := 4) (n1 := 768) (n2 := 128) h r e)
        = (fun t : Fin cfg0.N => out0_13 (grid0.coords t) (iblk m c 0 t) (iblk m c 1 t) (iblk m c 2 t) (iblk m c 3 t) (iblk m c 4 t) (iblk m c 5 t) (iblk m c 6 t) (iblk m c 7 t) (iblk m c 8 t) (ix3 (n0 := 4) (n1 := 768) (n2 := 128) h r' e)) s := by subst hs hr; rfl
    exact key _ _ (Fin.ext e1) (Fin.ext e2)
  rw [this]; rfl

theorem full13_at (h : Fin 4) (t : Fin 8448) (l : Fin 128) (hl : (l : ℕ) < 64) : full13 m c h t l = (inp m c).q t h ⟨l, hl⟩ := by
  have e : cfg0.N = 11 := by decide +kernel
  refine (out0_13_at (blk m c ⟨t / 768, by omega⟩) h ⟨t % 768, by omega⟩ l hl).trans ?_
  exact congrArg (fun t => (inp m c).q t h ⟨l, hl⟩) (Fin.ext (by rw [row0]; show (t : ℕ) / 768 * 768 + (t : ℕ) % 768 = t; omega))

/-- The launch's planes: what the kernel leaves there. -/
def full14 (h : Fin 2) (t' : Fin 8448) (l : Fin 128) : EReal :=
  (fun t : Fin cfg0.N => out0_14 (grid0.coords t) (iblk m c 0 t) (iblk m c 1 t) (iblk m c 2 t) (iblk m c 3 t) (iblk m c 4 t) (iblk m c 5 t) (iblk m c 6 t) (iblk m c 7 t) (iblk m c 8 t) (ix3 (n0 := 2) (n1 := 768) (n2 := 128) h ⟨t' % 768, by omega⟩ l))
    ⟨t' / 768, by have e : cfg0.N = 11 := by decide +kernel
                  omega⟩

theorem arr14 (h : Fin 2) (t : Fin 8448) (l : Fin 128) :
    (dats m 0 c).arrAt 14 cfg0.N (ix3 (n0 := 2) (n1 := 8448) (n2 := 128) h t l) = full14 m c h t l := by
  have := (dats m 0 c).arrAt_eq_of_covers 14 (fun y : S2x8448x128.Idx => full14 m c (y 0) (y 1) (y 2)) (by decide +kernel) fun t hf y => by
    obtain ⟨h, r, e, rfl⟩ : ∃ (h : Fin 2) (r : Fin 768) (e : Fin 128), y = ix3 h r e := ⟨y 0, y 1, y 2, eq_ix3 (n0 := 2) (n1 := 768) (n2 := 128) y⟩
    rw [after0_14]
    blk_simp [idx0_14]
    refine Eq.trans ?_ (at3 (fun y : S2x8448x128.Idx => full14 m c (y 0) (y 1) (y 2)) _ h (row (grid0.coords t 0) r) e (by blk_simp [idx0_14])
      (by blk_simp [idx0_14]; rw [row0]) (by blk_simp [idx0_14])).symm
    have e1 : (row (grid0.coords t 0) r : ℕ) / 768 = t.val := by rw [row0]; omega
    have e2 : (row (grid0.coords t 0) r : ℕ) % 768 = r := by rw [row0]; omega
    have key (s : Fin cfg0.N) (r' : Fin 768) (hs : s = t) (hr : r' = r) : out0_14 (grid0.coords t) (iblk m c 0 t) (iblk m c 1 t) (iblk m c 2 t) (iblk m c 3 t) (iblk m c 4 t) (iblk m c 5 t) (iblk m c 6 t) (iblk m c 7 t) (iblk m c 8 t) (ix3 (n0 := 2) (n1 := 768) (n2 := 128) h r e)
        = (fun t : Fin cfg0.N => out0_14 (grid0.coords t) (iblk m c 0 t) (iblk m c 1 t) (iblk m c 2 t) (iblk m c 3 t) (iblk m c 4 t) (iblk m c 5 t) (iblk m c 6 t) (iblk m c 7 t) (iblk m c 8 t) (ix3 (n0 := 2) (n1 := 768) (n2 := 128) h r' e)) s := by subst hs hr; rfl
    exact key _ _ (Fin.ext e1) (Fin.ext e2)
  rw [this]; rfl

theorem full14_at (h : Fin 2) (t : Fin 8448) (l : Fin 128) (hl : (l : ℕ) < 64) : full14 m c h t l = (inp m c).k t h ⟨l, hl⟩ := by
  have e : cfg0.N = 11 := by decide +kernel
  refine (out0_14_at (blk m c ⟨t / 768, by omega⟩) h ⟨t % 768, by omega⟩ l hl).trans ?_
  exact congrArg (fun t => (inp m c).k t h ⟨l, hl⟩) (Fin.ext (by rw [row0]; show (t : ℕ) / 768 * 768 + (t : ℕ) % 768 = t; omega))

/-- The launch's planes: what the kernel leaves there. -/
def full15 (h : Fin 2) (t' : Fin 8448) (l : Fin 128) : EReal :=
  (fun t : Fin cfg0.N => out0_15 (grid0.coords t) (iblk m c 0 t) (iblk m c 1 t) (iblk m c 2 t) (iblk m c 3 t) (iblk m c 4 t) (iblk m c 5 t) (iblk m c 6 t) (iblk m c 7 t) (iblk m c 8 t) (ix3 (n0 := 2) (n1 := 768) (n2 := 128) h ⟨t' % 768, by omega⟩ l))
    ⟨t' / 768, by have e : cfg0.N = 11 := by decide +kernel
                  omega⟩

theorem arr15 (h : Fin 2) (t : Fin 8448) (l : Fin 128) :
    (dats m 0 c).arrAt 15 cfg0.N (ix3 (n0 := 2) (n1 := 8448) (n2 := 128) h t l) = full15 m c h t l := by
  have := (dats m 0 c).arrAt_eq_of_covers 15 (fun y : S2x8448x128.Idx => full15 m c (y 0) (y 1) (y 2)) (by decide +kernel) fun t hf y => by
    obtain ⟨h, r, e, rfl⟩ : ∃ (h : Fin 2) (r : Fin 768) (e : Fin 128), y = ix3 h r e := ⟨y 0, y 1, y 2, eq_ix3 (n0 := 2) (n1 := 768) (n2 := 128) y⟩
    rw [after0_15]
    blk_simp [idx0_15]
    refine Eq.trans ?_ (at3 (fun y : S2x8448x128.Idx => full15 m c (y 0) (y 1) (y 2)) _ h (row (grid0.coords t 0) r) e (by blk_simp [idx0_15])
      (by blk_simp [idx0_15]; rw [row0]) (by blk_simp [idx0_15])).symm
    have e1 : (row (grid0.coords t 0) r : ℕ) / 768 = t.val := by rw [row0]; omega
    have e2 : (row (grid0.coords t 0) r : ℕ) % 768 = r := by rw [row0]; omega
    have key (s : Fin cfg0.N) (r' : Fin 768) (hs : s = t) (hr : r' = r) : out0_15 (grid0.coords t) (iblk m c 0 t) (iblk m c 1 t) (iblk m c 2 t) (iblk m c 3 t) (iblk m c 4 t) (iblk m c 5 t) (iblk m c 6 t) (iblk m c 7 t) (iblk m c 8 t) (ix3 (n0 := 2) (n1 := 768) (n2 := 128) h r e)
        = (fun t : Fin cfg0.N => out0_15 (grid0.coords t) (iblk m c 0 t) (iblk m c 1 t) (iblk m c 2 t) (iblk m c 3 t) (iblk m c 4 t) (iblk m c 5 t) (iblk m c 6 t) (iblk m c 7 t) (iblk m c 8 t) (ix3 (n0 := 2) (n1 := 768) (n2 := 128) h r' e)) s := by subst hs hr; rfl
    exact key _ _ (Fin.ext e1) (Fin.ext e2)
  rw [this]; rfl

theorem full15_at (h : Fin 2) (t : Fin 8448) (l : Fin 128) (hl : (l : ℕ) < 64) : full15 m c h t l = (inp m c).v t h ⟨l, hl⟩ := by
  have e : cfg0.N = 11 := by decide +kernel
  refine (out0_15_at (blk m c ⟨t / 768, by omega⟩) h ⟨t % 768, by omega⟩ l hl).trans ?_
  exact congrArg (fun t => (inp m c).v t h ⟨l, hl⟩) (Fin.ext (by rw [row0]; show (t : ℕ) / 768 * 768 + (t : ℕ) % 768 = t; omega))

/-! ## After the launch -/

theorem after_v91 (X : Valuation τ sig (Elt Ideal)) (P : Fin 8448 → Fin 3328 → EReal)
    (hC : ∀ t j, X (Proc.devRef .tc main_v85_1) (ix2 (n0 := 8448) (n1 := 1024) t j) = P t (cC j))
    (hR : ∀ t j, X (Proc.devRef .tc main_v85_2) (ix2 (n0 := 8448) (n1 := 1792) t j) = P t (cR j)) (t : Fin 8448) (j : Fin 2560) :
    StableHlo.after hostOps1 X (Proc.devRef .tc main_v91) (ix2 (n0 := 8448) (n1 := 2560) t j) = P t ⟨j, by omega⟩ := by
  unfold_abbrev_sides
  after_results
  pointwise
  split_ifs
  all_goals
    first
    | omega
    | (generalize_proofs
       after_results_loop
       pointwise
       first
       | exact (hC _ _).trans (congrArg (fun q => P t q) (Fin.ext (by unfold cC; split_ifs <;> first | omega | (simp only; omega) | (simp only at * <;> omega))))
       | exact (hR _ _).trans (congrArg (fun q => P t q) (Fin.ext (by unfold cR; split_ifs <;> first | omega | (simp only; omega) | (simp only at * <;> omega)))))
theorem after_v104 (X : Valuation τ sig (Elt Ideal)) (P : Fin 8448 → Fin 3328 → EReal)
    (hR : ∀ t j, X (Proc.devRef .tc main_v85_2) (ix2 (n0 := 8448) (n1 := 1792) t j) = P t (cR j)) (t : Fin 8448) (j : Fin 256) :
    StableHlo.after hostOps1 X (Proc.devRef .tc main_v104) (ix2 (n0 := 8448) (n1 := 256) t j) = P t ⟨3072 + j, by omega⟩ := by
  unfold_abbrev_sides
  after_results
  pointwise
  exact (hR _ _).trans (congrArg (fun q => P t q) (Fin.ext (by unfold cR; split_ifs <;> first | omega | (simp only; omega) | (simp only at * <;> omega))))
theorem after_v95 (X : Valuation τ sig (Elt Ideal)) (t : Fin 8448) (j : Fin 256) :
    StableHlo.after hostOps1 X (Proc.devRef .tc main_v95) (ix2 (n0 := 8448) (n1 := 256) t j)
      = X (Proc.devRef .tc main_v85_4) (ix3 (n0 := 4) (n1 := 8448) (n2 := 128) ⟨j / 64, by omega⟩ t ⟨j % 64, by omega⟩) := by
  unfold_abbrev_sides
  after_results
  pointwise
theorem after_v99 (X : Valuation τ sig (Elt Ideal)) (t : Fin 8448) (j : Fin 128) :
    StableHlo.after hostOps1 X (Proc.devRef .tc main_v99) (ix2 (n0 := 8448) (n1 := 128) t j)
      = X (Proc.devRef .tc main_v85_5) (ix3 (n0 := 2) (n1 := 8448) (n2 := 128) ⟨j / 64, by omega⟩ t ⟨j % 64, by omega⟩) := by
  unfold_abbrev_sides
  after_results
  pointwise
theorem after_v103 (X : Valuation τ sig (Elt Ideal)) (t : Fin 8448) (j : Fin 128) :
    StableHlo.after hostOps1 X (Proc.devRef .tc main_v103) (ix2 (n0 := 8448) (n1 := 128) t j)
      = X (Proc.devRef .tc main_v85_6) (ix3 (n0 := 2) (n1 := 8448) (n2 := 128) ⟨j / 64, by omega⟩ t ⟨j % 64, by omega⟩) := by
  unfold_abbrev_sides
  after_results
  pointwise

/-- What the run leaves in a result. -/
def result (r : Ref sig .tc) : Buf (Elt Ideal) ((c.tc : Thread nD τ).loc r) :=
  Pipeline.afterTail₀ cfgs (dats m) 0 (V0 m) [hostOps1] c r

theorem win_arr (w : Fin cfg0.W) : Pipeline.withArrays spec0 c (V0 m c) (fun w => (dats m 0 c).arrAt w cfg0.N) (Proc.devRef .tc (Pipeline.arrRef spec0 w))
    = (dats m 0 c).arrAt w cfg0.N :=
  Pipeline.withArrays_arr spec0 launch0.win.arr_inj c (V0 m c) (fun w => (dats m 0 c).arrAt w cfg0.N) w

theorem result_parts (t : Fin 8448) (j : Fin 2560) : result m c main_v91 (ix2 (n0 := 8448) (n1 := 2560) t j) = (inp m c).P t ⟨j, by omega⟩ := by
  unfold result Pipeline.afterTail₀
  rw [List.flatten_singleton]
  exact after_v91 _ (inp m c).P (fun t j => (congrFun (win_arr m c 10) _).trans (arr10 m c t j)) (fun t j => (congrFun (win_arr m c 11) _).trans (arr11 m c t j)) t j
theorem result_gate (t : Fin 8448) (j : Fin 256) : result m c main_v104 (ix2 (n0 := 8448) (n1 := 256) t j) = (inp m c).P t ⟨3072 + j, by omega⟩ := by
  unfold result Pipeline.afterTail₀
  rw [List.flatten_singleton]
  exact after_v104 _ (inp m c).P (fun t j => (congrFun (win_arr m c 11) _).trans (arr11 m c t j)) t j
theorem result_q (t : Fin 8448) (j : Fin 256) :
    result m c main_v95 (ix2 (n0 := 8448) (n1 := 256) t j) = (inp m c).q t ⟨j / 64, by omega⟩ ⟨j % 64, by omega⟩ := by
  unfold result Pipeline.afterTail₀
  rw [List.flatten_singleton, after_v95]
  exact (congrFun (win_arr m c 13) _).trans ((arr13 m c _ t _).trans (full13_at m c _ t _ (by show (j : ℕ) % 64 < 64; omega)))
theorem result_k (t : Fin 8448) (j : Fin 128) :
    result m c main_v99 (ix2 (n0 := 8448) (n1 := 128) t j) = (inp m c).k t ⟨j / 64, by omega⟩ ⟨j % 64, by omega⟩ := by
  unfold result Pipeline.afterTail₀
  rw [List.flatten_singleton, after_v99]
  exact (congrFun (win_arr m c 14) _).trans ((arr14 m c _ t _).trans (full14_at m c _ t _ (by show (j : ℕ) % 64 < 64; omega)))
theorem result_v (t : Fin 8448) (j : Fin 128) :
    result m c main_v103 (ix2 (n0 := 8448) (n1 := 128) t j) = (inp m c).v t ⟨j / 64, by omega⟩ ⟨j % 64, by omega⟩ := by
  unfold result Pipeline.afterTail₀
  rw [List.flatten_singleton, after_v103]
  exact (congrFun (win_arr m c 15) _).trans ((arr15 m c _ t _).trans (full15_at m c _ t _ (by show (j : ℕ) % 64 < 64; omega)))

variable {c}

/-- The run ends with those results and the arguments as they were. -/
theorem run_values (ρ : Dev nD → PrngReg) :
    θ_run defs (onTc (τ := τ) (main (F := Ideal))) ⟨m, fun _ => 0, ρ⟩ fun r => ∀ c : Dev nD,
      r.2.mem ((c.tc : Thread nD τ).loc main_v91) = result m c main_v91
      ∧ r.2.mem ((c.tc : Thread nD τ).loc main_v95) = result m c main_v95
      ∧ r.2.mem ((c.tc : Thread nD τ).loc main_v99) = result m c main_v99
      ∧ r.2.mem ((c.tc : Thread nD τ).loc main_v103) = result m c main_v103
      ∧ r.2.mem ((c.tc : Thread nD τ).loc main_v104) = result m c main_v104
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).2 main_v91 (by decide), (h.1 c).2 main_v95 (by decide), (h.1 c).2 main_v99 (by decide), (h.1 c).2 main_v103 (by decide), (h.1 c).2 main_v104 (by decide), h.2 c⟩) (θ_run_and (run_main m ρ) (unchanged m ρ))

end

end Cert.Fwd
-- ==== Proof.FRef.lean ====
module

public import proofs.«01_k».proof.Proof.Gen.Reference3Ideal.Run
public import proofs.«01_k».proof.Proof.FSpec
public import proofs.«01_k».proof.Proof.RefA

/-! # The reference's results at any arguments: the forward lines -/

@[expose] public section

set_option maxRecDepth 16384

namespace Cert.Fwd.Ref

open Idealize.ShloMosaic Cert.Reference3Ideal Cert.Reference3Ideal.Gen Cert.Reference3Ideal.Value
open Cert.InProj (freq angle CS SN c_two c_32 c_1e4 c_one c_64 div_real)
open Cert.InProj.Ref (lat ctx sitofp_real CS_row SN_row CS_col SN_col freq_mod CS_ctx SN_ctx)

noncomputable section

/-- The arguments. -/
def inp (V0 : Valuation τ sig (Elt Ideal)) : Inp where
  X t d := V0 (Proc.tc.devRef main_arg0) (ix2 (n0 := 8448) (n1 := 1024) t d)
  shc d := V0 (Proc.tc.devRef main_arg1) (ix1 (n0 := 1024) d)
  scc d := V0 (Proc.tc.devRef main_arg2) (ix1 (n0 := 1024) d)
  sh d := V0 (Proc.tc.devRef main_arg3) (ix1 (n0 := 1024) d)
  sc d := V0 (Proc.tc.devRef main_arg4) (ix1 (n0 := 1024) d)
  g d := V0 (Proc.tc.devRef main_arg5) (ix1 (n0 := 1024) d)
  W d j := V0 (Proc.tc.devRef main_arg6) (ix2 (n0 := 1024) (n1 := 3328) d j)
  qg e := V0 (Proc.tc.devRef main_arg7) (ix1 (n0 := 64) e)
  kg e := V0 (Proc.tc.devRef main_arg8) (ix1 (n0 := 64) e)

/-! ## The rotary tables -/

theorem v18_at (V0 : Valuation τ sig (Elt Ideal)) (e : Fin 16) : res_main_v18 V0 (ix1 e) = (freq e : EReal) := by
  pointwise [res_main_v18]
  rw [sitofp_real _ (by omega), c_two, c_32, c_1e4, ← EReal.coe_mul, div_real _ _ (by norm_num), Ideal.pow_coe_coe, ← EReal.coe_one,
    div_real _ (Real.rpow 10000 (2 * ((e : ℕ) : ℝ) / 32)) (Real.rpow_pos_of_pos (by norm_num) _).ne', freq]
  norm_num [Nat.mod_eq_of_lt e.2]

theorem v23_at (V0 : Valuation τ sig (Elt Ideal)) (n : Fin 8192) (e : Fin 16) :
    res_main_v23 V0 (ix2 n e) = ((((n : ℕ) / 64 : ℕ) * freq e : ℝ) : EReal) := by
  pointwise [res_main_v23]
  rw [sitofp_real _ (by omega), v18_at, ← EReal.coe_mul]
theorem v28_at (V0 : Valuation τ sig (Elt Ideal)) (n : Fin 8192) (e : Fin 16) :
    res_main_v28 V0 (ix2 n e) = ((((n : ℕ) % 64 : ℕ) * freq e : ℝ) : EReal) := by
  pointwise [res_main_v28]
  rw [sitofp_real _ (by omega), v18_at, ← EReal.coe_mul]

theorem v30_at (V0 : Valuation τ sig (Elt Ideal)) (n : Fin 8192) (k : Fin 16) (e : ℕ) (h : e < 32) (he : (k : ℕ) % 16 = e % 16) :
    res_main_v30 V0 (ix3 n 0 k) = (CS (lat n) e : EReal) := by
  pointwise [res_main_v30]
  rw [v23_at, Ideal.cos_coe, CS_row n e h, freq_mod k e he]
theorem v32_at (V0 : Valuation τ sig (Elt Ideal)) (n : Fin 8192) (k : Fin 16) (e : ℕ) (h : e < 32) (he : (k : ℕ) % 16 = e % 16) :
    res_main_v32 V0 (ix3 n 0 k) = (SN (lat n) e : EReal) := by
  pointwise [res_main_v32]
  rw [v23_at, Ideal.sin_coe, SN_row n e h, freq_mod k e he]
theorem v34_at (V0 : Valuation τ sig (Elt Ideal)) (n : Fin 8192) (k : Fin 16) (e : ℕ) (h : ¬ e < 32) (he : (k : ℕ) % 16 = e % 16) :
    res_main_v34 V0 (ix3 n 0 k) = (CS (lat n) e : EReal) := by
  pointwise [res_main_v34]
  rw [v28_at, Ideal.cos_coe, CS_col n e h, freq_mod k e he]
theorem v36_at (V0 : Valuation τ sig (Elt Ideal)) (n : Fin 8192) (k : Fin 16) (e : ℕ) (h : ¬ e < 32) (he : (k : ℕ) % 16 = e % 16) :
    res_main_v36 V0 (ix3 n 0 k) = (SN (lat n) e : EReal) := by
  pointwise [res_main_v36]
  rw [v28_at, Ideal.sin_coe, SN_col n e h, freq_mod k e he]

/-! ## The norm, the modulation, the projection -/

variable (V0 : Valuation τ sig (Elt Ideal))

theorem one_bits : Ideal.ofBits .f32 0x3F800000#32 = 1 := c_one.trans EReal.coe_one

theorem SH_lat (I : Inp) (n : Fin 8192) (d : Fin 1024) : I.SH (lat n) d = I.sh d := if_neg (by simp only [lat]; omega)
theorem SC_lat (I : Inp) (n : Fin 8192) (d : Fin 1024) : I.SC (lat n) d = I.sc d := if_neg (by simp only [lat]; omega)
theorem SH_ctx (I : Inp) (n : Fin 256) (d : Fin 1024) : I.SH (ctx n) d = I.shc d := if_pos (by simp only [ctx]; omega)
theorem SC_ctx (I : Inp) (n : Fin 256) (d : Fin 1024) : I.SC (ctx n) d = I.scc d := if_pos (by simp only [ctx]; omega)

theorem v38_at (n : Fin 8192) (d : Fin 1024) : res_main_v38 V0 (ix2 n d) = (inp V0).X (lat n) d := by
  pointwise [res_main_v38]; rfl
theorem v37_at (n : Fin 256) (d : Fin 1024) : res_main_v37 V0 (ix2 n d) = (inp V0).X (ctx n) d := by
  pointwise [res_main_v37]
  exact congrArg (fun t => (inp V0).X t d) (Fin.ext rfl)
theorem v81_at (n : Fin 8192) (j : Fin 3328) : res_main_v81 V0 (ix2 n j) = (inp V0).P (lat n) j := by
  pointwise [res_main_v81]
  unfold Inp.P
  refine congrArg (fun f : Fin 1024 → EReal => ∑ d, f d) (funext fun d => ?_)
  unfold Inp.h
  rw [SH_lat, SC_lat]
  simp only [v38_at, one_bits]
  rfl
theorem v82_at (n : Fin 256) (j : Fin 3328) : res_main_v82 V0 (ix2 n j) = (inp V0).P (ctx n) j := by
  pointwise [res_main_v82]
  unfold Inp.P
  refine congrArg (fun f : Fin 1024 → EReal => ∑ d, f d) (funext fun d => ?_)
  unfold Inp.h
  rw [SH_ctx, SC_ctx]
  simp only [v37_at, one_bits]
  rfl

/-! ## The heads -/

theorem mean64 (x : EReal) : Ideal.div x (Ideal.ofBits .f32 0x42800000#32) = x * ((1 / 64 : ℝ) : EReal) := by
  rw [c_64, Ideal.div_coe (by norm_num)]

theorem pqq (t : Fin 8448) (a : Fin 4) (e : Fin 64) (h : 2560 + (a * 64 + e : ℕ) < 3328) : (inp V0).P t ⟨2560 + (a * 64 + e), h⟩ = (inp V0).pq t ⟨a, by omega⟩ e :=
  congrArg ((inp V0).P t) (Fin.ext (by simp only; omega))
theorem pqk (t : Fin 8448) (a : Fin 2) (e : Fin 64) (h : 2816 + (a * 64 + e : ℕ) < 3328) : (inp V0).P t ⟨2816 + (a * 64 + e), h⟩ = (inp V0).pq t ⟨4 + a, by omega⟩ e :=
  congrArg ((inp V0).P t) (Fin.ext (by simp only; omega))

theorem v84_at (n : Fin 8192) (a : Fin 4) (e : Fin 64) : res_main_v84 V0 (ix3 n a e) = (inp V0).pq (lat n) ⟨a, by omega⟩ e := by
  pointwise [res_main_v84]
  rw [v81_at]; exact congrArg ((inp V0).P (lat n)) (Fin.ext (by simp only; omega))
theorem v128_at (n : Fin 8192) (a : Fin 2) (e : Fin 64) : res_main_v128 V0 (ix3 n a e) = (inp V0).pq (lat n) ⟨4 + a, by omega⟩ e := by
  pointwise [res_main_v128]
  rw [v81_at]; exact congrArg ((inp V0).P (lat n)) (Fin.ext (by simp only; omega))
theorem v172_at (n : Fin 256) (a : Fin 4) (e : Fin 64) : res_main_v172 V0 (ix3 n a e) = (inp V0).pq (ctx n) ⟨a, by omega⟩ e := by
  pointwise [res_main_v172]
  rw [v82_at]; exact congrArg ((inp V0).P (ctx n)) (Fin.ext (by simp only; omega))
theorem v187_at (n : Fin 256) (a : Fin 2) (e : Fin 64) : res_main_v187 V0 (ix3 n a e) = (inp V0).pq (ctx n) ⟨4 + a, by omega⟩ e := by
  pointwise [res_main_v187]
  rw [v82_at]; exact congrArg ((inp V0).P (ctx n)) (Fin.ext (by simp only; omega))

theorem gain_q (I : Inp) (a : Fin 4) (e : Fin 64) : I.gain ⟨a, by omega⟩ e = I.qg e := if_pos (by simp only; omega)
theorem gain_k (I : Inp) (a : Fin 2) (e : Fin 64) : I.gain ⟨4 + a, by omega⟩ e = I.kg e := if_neg (by simp only; omega)

theorem v97_at (n : Fin 8192) (a : Fin 4) (e : Fin 64) : res_main_v97 V0 (ix3 n a e) = (inp V0).xg (lat n) ⟨a, by omega⟩ e := by
  pointwise [res_main_v97]
  simp only [v84_at]
  unfold Inp.xg hnrm
  rw [gain_q, ← mean64]
  rfl
theorem v141_at (n : Fin 8192) (a : Fin 2) (e : Fin 64) : res_main_v141 V0 (ix3 n a e) = (inp V0).xg (lat n) ⟨4 + a, by omega⟩ e := by
  pointwise [res_main_v141]
  simp only [v128_at]
  unfold Inp.xg hnrm
  rw [gain_k, ← mean64]
  rfl

theorem v100_at (n : Fin 8192) (a : Fin 4) (k : Fin 16) (e : Fin 64) (h : (e : ℕ) = 0 + k) :
    res_main_v100 V0 (ix3 n a k) = (inp V0).xg (lat n) ⟨a, by omega⟩ e := by
  pointwise [res_main_v100, res_main_v98]
  rw [v97_at]
  exact congrArg ((inp V0).xg (lat n) _) (Fin.ext (by simp only; omega))
theorem v101_at (n : Fin 8192) (a : Fin 4) (k : Fin 16) (e : Fin 64) (h : (e : ℕ) = 16 + k) :
    res_main_v101 V0 (ix3 n a k) = (inp V0).xg (lat n) ⟨a, by omega⟩ e := by
  pointwise [res_main_v101, res_main_v98]
  rw [v97_at]
  exact congrArg ((inp V0).xg (lat n) _) (Fin.ext (by simp only; omega))
theorem v113_at (n : Fin 8192) (a : Fin 4) (k : Fin 16) (e : Fin 64) (h : (e : ℕ) = 32 + k) :
    res_main_v113 V0 (ix3 n a k) = (inp V0).xg (lat n) ⟨a, by omega⟩ e := by
  pointwise [res_main_v113, res_main_v99]
  rw [v97_at]
  exact congrArg ((inp V0).xg (lat n) _) (Fin.ext (by simp only; omega))
theorem v114_at (n : Fin 8192) (a : Fin 4) (k : Fin 16) (e : Fin 64) (h : (e : ℕ) = 48 + k) :
    res_main_v114 V0 (ix3 n a k) = (inp V0).xg (lat n) ⟨a, by omega⟩ e := by
  pointwise [res_main_v114, res_main_v99]
  rw [v97_at]
  exact congrArg ((inp V0).xg (lat n) _) (Fin.ext (by simp only; omega))
theorem v144_at (n : Fin 8192) (a : Fin 2) (k : Fin 16) (e : Fin 64) (h : (e : ℕ) = 0 + k) :
    res_main_v144 V0 (ix3 n a k) = (inp V0).xg (lat n) ⟨4 + a, by omega⟩ e := by
  pointwise [res_main_v144, res_main_v142]
  rw [v141_at]
  exact congrArg ((inp V0).xg (lat n) _) (Fin.ext (by simp only; omega))
theorem v145_at (n : Fin 8192) (a : Fin 2) (k : Fin 16) (e : Fin 64) (h : (e : ℕ) = 16 + k) :
    res_main_v145 V0 (ix3 n a k) = (inp V0).xg (lat n) ⟨4 + a, by omega⟩ e := by
  pointwise [res_main_v145, res_main_v142]
  rw [v141_at]
  exact congrArg ((inp V0).xg (lat n) _) (Fin.ext (by simp only; omega))
theorem v157_at (n : Fin 8192) (a : Fin 2) (k : Fin 16) (e : Fin 64) (h : (e : ℕ) = 32 + k) :
    res_main_v157 V0 (ix3 n a k) = (inp V0).xg (lat n) ⟨4 + a, by omega⟩ e := by
  pointwise [res_main_v157, res_main_v143]
  rw [v141_at]
  exact congrArg ((inp V0).xg (lat n) _) (Fin.ext (by simp only; omega))
theorem v158_at (n : Fin 8192) (a : Fin 2) (k : Fin 16) (e : Fin 64) (h : (e : ℕ) = 48 + k) :
    res_main_v158 V0 (ix3 n a k) = (inp V0).xg (lat n) ⟨4 + a, by omega⟩ e := by
  pointwise [res_main_v158, res_main_v143]
  rw [v141_at]
  exact congrArg ((inp V0).xg (lat n) _) (Fin.ext (by simp only; omega))

/-! ## The results -/

/-- A rotated head's two kinds of lanes. -/
theorem rot_lo (c s : ℕ → ℝ) (f : Fin 64 → EReal) (e e' : Fin 64) (h : (e : ℕ) % 32 < 16) (he : (e' : ℕ) = e + 16) :
    f e * (c e : EReal) - f e' * (s e : EReal) = rot c s f e := by
  unfold rot
  rw [dif_pos h, sub_eq_add_neg, show e' = ⟨e + 16, by omega⟩ from Fin.ext he]
theorem rot_hi (c s : ℕ → ℝ) (f : Fin 64 → EReal) (e e' : Fin 64) (h : ¬ (e : ℕ) % 32 < 16) (he : (e' : ℕ) + 16 = e) :
    f e * (c e : EReal) + f e' * (s e : EReal) = rot c s f e := by
  unfold rot
  rw [dif_neg h, show e' = ⟨e - 16, by omega⟩ from Fin.ext (by simp only; omega)]
theorem rt_ctx (I : Inp) (n : Fin 256) (hd : Fin 6) (e : Fin 64) : I.rt (ctx n) hd e = I.xg (ctx n) hd e :=
  rot_ctx _ _ _ (fun e => CS_ctx n e) (fun e => SN_ctx n e) e
theorem eq_lat (t : Fin 8448) (h : ¬ (t : ℕ) < 256) (h' : (t : ℕ) - 256 < 8192) : lat ⟨t - 256, h'⟩ = t := Fin.ext (by simp only [lat]; omega)
theorem eq_ctx (t : Fin 8448) (h : (t : ℕ) < 256) : ctx ⟨t, h⟩ = t := rfl

/-- The latent rows' rotated heads. -/
def rot_q : FVec Ideal S8192x4x64 .f32 :=
  (concatenate S8192x4x64 2 [⟨S8192x4x32, (concatenate S8192x4x32 2 [⟨S8192x4x16, (subf (mulf (res_main_v100 V0) (broadcastInDim S8192x4x16 ![0, 1, 2] bcast_S8192x1x16_S8192x4x16_0_1_2 (res_main_v30 V0))) (mulf (res_main_v101 V0) (broadcastInDim S8192x4x16 ![0, 1, 2] bcast_S8192x1x16_S8192x4x16_0_1_2 (res_main_v32 V0))))⟩, ⟨S8192x4x16, (addf (mulf (res_main_v101 V0) (broadcastInDim S8192x4x16 ![0, 1, 2] bcast_S8192x1x16_S8192x4x16_0_1_2 (res_main_v30 V0))) (mulf (res_main_v100 V0) (broadcastInDim S8192x4x16 ![0, 1, 2] bcast_S8192x1x16_S8192x4x16_0_1_2 (res_main_v32 V0))))⟩] concatenates_S8192x4x16_S8192x4x16_S8192x4x32_d2)⟩, ⟨S8192x4x32, (concatenate S8192x4x32 2 [⟨S8192x4x16, (subf (mulf (res_main_v113 V0) (broadcastInDim S8192x4x16 ![0, 1, 2] bcast_S8192x1x16_S8192x4x16_0_1_2 (res_main_v34 V0))) (mulf (res_main_v114 V0) (broadcastInDim S8192x4x16 ![0, 1, 2] bcast_S8192x1x16_S8192x4x16_0_1_2 (res_main_v36 V0))))⟩, ⟨S8192x4x16, (addf (mulf (res_main_v114 V0) (broadcastInDim S8192x4x16 ![0, 1, 2] bcast_S8192x1x16_S8192x4x16_0_1_2 (res_main_v34 V0))) (mulf (res_main_v113 V0) (broadcastInDim S8192x4x16 ![0, 1, 2] bcast_S8192x1x16_S8192x4x16_0_1_2 (res_main_v36 V0))))⟩] concatenates_S8192x4x16_S8192x4x16_S8192x4x32_d2)⟩] concatenates_S8192x4x32_S8192x4x32_S8192x4x64_d2)
theorem rot_q_at (n : Fin 8192) (a : Fin 4) (e : Fin 64) : rot_q V0 (ix3 n a e) = (inp V0).rt (lat n) ⟨a, by omega⟩ e := by
  pointwise [rot_q]
  unfold Inp.rt
  split
  · split
    · rw [v100_at V0 n a _ e (by simp only; omega), v101_at V0 n a _ ⟨e + 16, by omega⟩ (by simp only; omega),
        v30_at V0 n _ e (by omega) (by simp only; try omega), v32_at V0 n _ e (by omega) (by simp only; try omega)]
      exact rot_lo _ _ _ e _ (by omega) rfl
    · rw [v101_at V0 n a _ e (by simp only; omega), v100_at V0 n a _ ⟨e - 16, by omega⟩ (by simp only; omega),
        v30_at V0 n _ e (by omega) (by simp only; omega), v32_at V0 n _ e (by omega) (by simp only; omega)]
      exact rot_hi _ _ _ e _ (by omega) (by simp only; omega)
  · split
    · rw [v113_at V0 n a _ e (by simp only; omega), v114_at V0 n a _ ⟨e + 16, by omega⟩ (by simp only; omega),
        v34_at V0 n _ e (by omega) (by simp only; omega), v36_at V0 n _ e (by omega) (by simp only; omega)]
      exact rot_lo _ _ _ e _ (by omega) rfl
    · rw [v114_at V0 n a _ e (by simp only; omega), v113_at V0 n a _ ⟨e - 16, by omega⟩ (by simp only; omega),
        v34_at V0 n _ e (by omega) (by simp only; omega), v36_at V0 n _ e (by omega) (by simp only; omega)]
      exact rot_hi _ _ _ e _ (by omega) (by simp only; omega)

/-- The context rows' heads. -/
def ctx_q : FVec Ideal S256x4x64 .f32 :=
  (mulf (mulf (res_main_v172 V0) (broadcastInDim S256x4x64 ![0, 1, 2] bcast_S256x4x1_S256x4x64_0_1_2 (Host.rsqrt (addf (Host.divf (broadcastInDim S256x4x1 ![0, 1] bcast_S256x4_S256x4x1_0_1 (Host.reduceAdd (mulf (res_main_v172 V0) (res_main_v172 V0)) (constant S_ .f32 0x00000000#32) reducesTo_S256x4x64_S256x4_d2 h_S_)) (broadcastInDim S256x4x1 ![] bcast_S_S256x4x1 (constant S_ .f32 0x42800000#32))) (broadcastInDim S256x4x1 ![] bcast_S_S256x4x1 (constant S_ .f32 0x358637BD#32)))))) (broadcastInDim S256x4x64 ![0, 1, 2] bcast_S1x1x64_S256x4x64_0_1_2 (broadcastInDim S1x1x64 ![2] bcast_S64_S1x1x64_2 (V0 (Proc.devRef .tc main_arg7)))))
theorem ctx_q_at (n : Fin 256) (a : Fin 4) (e : Fin 64) : ctx_q V0 (ix3 n a e) = (inp V0).rt (ctx n) ⟨a, by omega⟩ e := by
  rw [rt_ctx]
  pointwise [ctx_q]
  simp only [v172_at]
  unfold Inp.xg hnrm
  rw [gain_q, ← mean64]
  rfl

def res_q : FVec Ideal S8448x256 .f32 :=
  mulf (shapeCast _ (concatenate S8448x4x64 0 [⟨S256x4x64, ctx_q V0⟩, ⟨S8192x4x64, rot_q V0⟩] concatenates_S256x4x64_S8192x4x64_S8448x4x64_d0) shapeCasts_S8448x4x64_S8448x256) (broadcastInDim S8448x256 ![] bcast_S_S8448x256 (constant S_ .f32 0x3E000000#32))
theorem res_q_at (t : Fin 8448) (j : Fin 256) : res_q V0 (ix2 t j) = (inp V0).q t ⟨j / 64, by omega⟩ ⟨j % 64, by omega⟩ := by
  pointwise [res_q]
  unfold Inp.q
  split_ifs with h
  · rw [ctx_q_at]; rfl
  · rw [rot_q_at, eq_lat t h]; try rfl
  · exact absurd rfl ‹¬ _›

/-- The latent rows' rotated heads. -/
def rot_k : FVec Ideal S8192x2x64 .f32 :=
  (concatenate S8192x2x64 2 [⟨S8192x2x32, (concatenate S8192x2x32 2 [⟨S8192x2x16, (subf (mulf (res_main_v144 V0) (broadcastInDim S8192x2x16 ![0, 1, 2] bcast_S8192x1x16_S8192x2x16_0_1_2 (res_main_v30 V0))) (mulf (res_main_v145 V0) (broadcastInDim S8192x2x16 ![0, 1, 2] bcast_S8192x1x16_S8192x2x16_0_1_2 (res_main_v32 V0))))⟩, ⟨S8192x2x16, (addf (mulf (res_main_v145 V0) (broadcastInDim S8192x2x16 ![0, 1, 2] bcast_S8192x1x16_S8192x2x16_0_1_2 (res_main_v30 V0))) (mulf (res_main_v144 V0) (broadcastInDim S8192x2x16 ![0, 1, 2] bcast_S8192x1x16_S8192x2x16_0_1_2 (res_main_v32 V0))))⟩] concatenates_S8192x2x16_S8192x2x16_S8192x2x32_d2)⟩, ⟨S8192x2x32, (concatenate S8192x2x32 2 [⟨S8192x2x16, (subf (mulf (res_main_v157 V0) (broadcastInDim S8192x2x16 ![0, 1, 2] bcast_S8192x1x16_S8192x2x16_0_1_2 (res_main_v34 V0))) (mulf (res_main_v158 V0) (broadcastInDim S8192x2x16 ![0, 1, 2] bcast_S8192x1x16_S8192x2x16_0_1_2 (res_main_v36 V0))))⟩, ⟨S8192x2x16, (addf (mulf (res_main_v158 V0) (broadcastInDim S8192x2x16 ![0, 1, 2] bcast_S8192x1x16_S8192x2x16_0_1_2 (res_main_v34 V0))) (mulf (res_main_v157 V0) (broadcastInDim S8192x2x16 ![0, 1, 2] bcast_S8192x1x16_S8192x2x16_0_1_2 (res_main_v36 V0))))⟩] concatenates_S8192x2x16_S8192x2x16_S8192x2x32_d2)⟩] concatenates_S8192x2x32_S8192x2x32_S8192x2x64_d2)
theorem rot_k_at (n : Fin 8192) (a : Fin 2) (e : Fin 64) : rot_k V0 (ix3 n a e) = (inp V0).rt (lat n) ⟨4 + a, by omega⟩ e := by
  pointwise [rot_k]
  unfold Inp.rt
  split
  · split
    · rw [v144_at V0 n a _ e (by simp only; omega), v145_at V0 n a _ ⟨e + 16, by omega⟩ (by simp only; omega),
        v30_at V0 n _ e (by omega) (by simp only; try omega), v32_at V0 n _ e (by omega) (by simp only; try omega)]
      exact rot_lo _ _ _ e _ (by omega) rfl
    · rw [v145_at V0 n a _ e (by simp only; omega), v144_at V0 n a _ ⟨e - 16, by omega⟩ (by simp only; omega),
        v30_at V0 n _ e (by omega) (by simp only; omega), v32_at V0 n _ e (by omega) (by simp only; omega)]
      exact rot_hi _ _ _ e _ (by omega) (by simp only; omega)
  · split
    · rw [v157_at V0 n a _ e (by simp only; omega), v158_at V0 n a _ ⟨e + 16, by omega⟩ (by simp only; omega),
        v34_at V0 n _ e (by omega) (by simp only; omega), v36_at V0 n _ e (by omega) (by simp only; omega)]
      exact rot_lo _ _ _ e _ (by omega) rfl
    · rw [v158_at V0 n a _ e (by simp only; omega), v157_at V0 n a _ ⟨e - 16, by omega⟩ (by simp only; omega),
        v34_at V0 n _ e (by omega) (by simp only; omega), v36_at V0 n _ e (by omega) (by simp only; omega)]
      exact rot_hi _ _ _ e _ (by omega) (by simp only; omega)

/-- The context rows' heads. -/
def ctx_k : FVec Ideal S256x2x64 .f32 :=
  (mulf (mulf (res_main_v187 V0) (broadcastInDim S256x2x64 ![0, 1, 2] bcast_S256x2x1_S256x2x64_0_1_2 (Host.rsqrt (addf (Host.divf (broadcastInDim S256x2x1 ![0, 1] bcast_S256x2_S256x2x1_0_1 (Host.reduceAdd (mulf (res_main_v187 V0) (res_main_v187 V0)) (constant S_ .f32 0x00000000#32) reducesTo_S256x2x64_S256x2_d2 h_S_)) (broadcastInDim S256x2x1 ![] bcast_S_S256x2x1 (constant S_ .f32 0x42800000#32))) (broadcastInDim S256x2x1 ![] bcast_S_S256x2x1 (constant S_ .f32 0x358637BD#32)))))) (broadcastInDim S256x2x64 ![0, 1, 2] bcast_S1x1x64_S256x2x64_0_1_2 (broadcastInDim S1x1x64 ![2] bcast_S64_S1x1x64_2 (V0 (Proc.devRef .tc main_arg8)))))
theorem ctx_k_at (n : Fin 256) (a : Fin 2) (e : Fin 64) : ctx_k V0 (ix3 n a e) = (inp V0).rt (ctx n) ⟨4 + a, by omega⟩ e := by
  rw [rt_ctx]
  pointwise [ctx_k]
  simp only [v187_at]
  unfold Inp.xg hnrm
  rw [gain_k, ← mean64]
  rfl

def res_k : FVec Ideal S8448x128 .f32 :=
  shapeCast _ (concatenate S8448x2x64 0 [⟨S256x2x64, ctx_k V0⟩, ⟨S8192x2x64, rot_k V0⟩] concatenates_S256x2x64_S8192x2x64_S8448x2x64_d0) shapeCasts_S8448x2x64_S8448x128
theorem res_k_at (t : Fin 8448) (j : Fin 128) : res_k V0 (ix2 t j) = (inp V0).k t ⟨j / 64, by omega⟩ ⟨j % 64, by omega⟩ := by
  pointwise [res_k]
  unfold Inp.k
  split_ifs with h
  · rw [ctx_k_at]; rfl
  · rw [rot_k_at, eq_lat t h]; try rfl
  · exact absurd rfl ‹¬ _›

def res_parts : FVec Ideal S8448x2560 .f32 :=
  concatenate S8448x2560 0 [⟨S256x2560, (extractStridedSlice S256x2560 ![0, 0] (res_main_v82 V0) slices_S256x3328_S256x2560_0_0)⟩, ⟨S8192x2560, (extractStridedSlice S8192x2560 ![0, 0] (res_main_v81 V0) slices_S8192x3328_S8192x2560_0_0)⟩] concatenates_S256x2560_S8192x2560_S8448x2560_d0
theorem res_parts_at (t : Fin 8448) (j : Fin 2560) : res_parts V0 (ix2 t j) = (inp V0).P t ⟨j, by omega⟩ := by
  pointwise [res_parts]
  split_ifs with h
  · rw [v82_at, eq_ctx t h]; try rfl
  · rw [v81_at, eq_lat t h]; try rfl
  · exact absurd rfl ‹¬ _›

def res_v : FVec Ideal S8448x128 .f32 :=
  concatenate S8448x128 0 [⟨S256x128, (extractStridedSlice S256x128 ![0, 2944] (res_main_v82 V0) slices_S256x3328_S256x128_0_2944)⟩, ⟨S8192x128, (extractStridedSlice S8192x128 ![0, 2944] (res_main_v81 V0) slices_S8192x3328_S8192x128_0_2944)⟩] concatenates_S256x128_S8192x128_S8448x128_d0
theorem res_v_at (t : Fin 8448) (j : Fin 128) : res_v V0 (ix2 t j) = (inp V0).v t ⟨j / 64, by omega⟩ ⟨j % 64, by omega⟩ := by
  pointwise [res_v]
  unfold Inp.v
  split_ifs with h
  · rw [v82_at, eq_ctx t h]; exact congrArg ((inp V0).P _) (Fin.ext (by simp only; omega))
  · rw [v81_at, eq_lat t h]; exact congrArg ((inp V0).P _) (Fin.ext (by simp only; omega))
  · exact absurd rfl ‹¬ _›

def res_gate : FVec Ideal S8448x256 .f32 :=
  concatenate S8448x256 0 [⟨S256x256, (extractStridedSlice S256x256 ![0, 3072] (res_main_v82 V0) slices_S256x3328_S256x256_0_3072)⟩, ⟨S8192x256, (extractStridedSlice S8192x256 ![0, 3072] (res_main_v81 V0) slices_S8192x3328_S8192x256_0_3072)⟩] concatenates_S256x256_S8192x256_S8448x256_d0
theorem res_gate_at (t : Fin 8448) (j : Fin 256) : res_gate V0 (ix2 t j) = (inp V0).P t ⟨3072 + j, by omega⟩ := by
  pointwise [res_gate]
  split_ifs with h
  · rw [v82_at, eq_ctx t h]; try rfl
  · rw [v81_at, eq_lat t h]; try rfl
  · exact absurd rfl ‹¬ _›

end

end Cert.Fwd.Ref
-- ==== Proof.OMod.lean ====
module

public import proofs.«01_k».proof.Proof.Gen.Kernel6Ideal.Value
public import Idealize.ShloMosaic.Lib.ValueIdx

/-! # The optimiser's update of the modulation's weights

Every point of the grid takes `512` rows of the gradient, the weights and the two moments, and writes the gradient, the
update and the new moments of the same rows. The eight points' blocks fill the arrays. -/

@[expose] public section

namespace Cert.Kernel6Ideal.Opt

open Cert.Kernel6Ideal Cert.Kernel6Ideal.Gen Idealize.ShloMosaic Idealize.ShloMosaic.TcCoe Idealize.SL.Sem
open Idealize.ShloMosaic.ValueIdx

noncomputable section

variable {F : FTy → Type} [FloatOps F]
variable (m : (ℓ : Loc nD τ sig) → Buf (Elt F) ℓ) (c : Dev nD)

abbrev Arr (F : FTy → Type) := S4096x768.Idx → Elt F .f32

/-- The new first moment. -/
def mom (g a : Arr F) : Arr F := fun i => k0_pay1 (F := F) (fun _ => g i) (fun _ => a i) (ix2 (n0 := 512) (n1 := 768) 0 0)
/-- The new second moment. -/
def sqm (g a : Arr F) : Arr F := fun i => k0_pay2 (F := F) (fun _ => g i) (fun _ => a i) (ix2 (n0 := 512) (n1 := 768) 0 0)
/-- The update. -/
def upd (g a b w : Arr F) : Arr F := fun i =>
  k0_pay3 (F := F) (fun _ => g i) (fun _ => a i) (fun _ => b i) (fun _ => w i) (ix2 (n0 := 512) (n1 := 768) 0 0)

theorem hz : (![0, 0] : Fin 2 → Nat) = fun _ => 0 := funext fun a => by fin_cases a <;> rfl

theorem flushed4_eq (t : Fin cfg0.N) : (dats m 0 c).flushed 4 t = ((cfg0.win 4).blk t).view.read (Elt F) (V m c main_arg0) := by
  rw [Value.flushed4]
  unfold out0_4
  rw [View.canon_unit_zero hz]
  simp only [View.ld_unit_zero (S := S512x768) hz]
  rfl
theorem flushed5_eq (t : Fin cfg0.N) : (dats m 0 c).flushed 5 t
    = ((cfg0.win 5).blk t).view.read (Elt F) (upd (V m c main_arg0) (V m c main_arg2) (V m c main_arg3) (V m c main_arg1)) := by
  rw [Value.flushed5]
  unfold out0_5
  rw [View.canon_unit_zero hz]
  simp only [View.ld_unit_zero (S := S512x768) hz]
  rfl
theorem flushed6_eq (t : Fin cfg0.N) : (dats m 0 c).flushed 6 t
    = ((cfg0.win 6).blk t).view.read (Elt F) (mom (V m c main_arg0) (V m c main_arg2)) := by
  rw [Value.flushed6]
  unfold out0_6
  rw [View.canon_unit_zero hz]
  simp only [View.ld_unit_zero (S := S512x768) hz]
  rfl
theorem flushed7_eq (t : Fin cfg0.N) : (dats m 0 c).flushed 7 t
    = ((cfg0.win 7).blk t).view.read (Elt F) (sqm (V m c main_arg0) (V m c main_arg3)) := by
  rw [Value.flushed7]
  unfold out0_7
  rw [View.canon_unit_zero hz]
  simp only [View.ld_unit_zero (S := S512x768) hz]
  rfl

theorem idx4 : ∀ t : Fin cfg0.N, win0_4.index t = ![t.val, 0] := (by decide +kernel : ∀ t : Fin grid0.N, _)

theorem mem_blk (t : Fin cfg0.N) (i : S4096x768.Idx) :
    i ∈ ((cfg0.win 4).blk t).view.set ↔ ∀ a : Fin 2, win0_4.index t a * S512x768.size a ≤ (i a).val ∧ (i a).val < win0_4.index t a * S512x768.size a + S512x768.size a := by
  show i ∈ ((View.whole main_v0_0).slice (win0_4.rect t)).set ↔ _
  rw [View.set_slice_whole, Rect.mem_set_unit]
  exact Iff.rfl

/-- Every row lies in the block of its number divided by `512`. -/
theorem covered (i : S4096x768.Idx) : ∃ t : Fin cfg0.N, (cfg0.win 4).flush t = true ∧ i ∈ ((cfg0.win 4).blk t).view.set := by
  have h0 : (i 0).val < 4096 := (i 0).isLt
  have h1 : (i 1).val < 768 := (i 1).isLt
  have hN : cfg0.N = 8 := by decide
  refine ⟨⟨(i 0).val / 512, by omega⟩, flush0_4 _, (mem_blk _ i).2 fun a => ?_⟩
  have e := idx4 ⟨(i 0).val / 512, by omega⟩
  match a with
  | ⟨0, _⟩ =>
    show win0_4.index _ (0 : Fin 2) * 512 ≤ (i 0).val ∧ (i 0).val < win0_4.index _ (0 : Fin 2) * 512 + 512
    rw [e]
    show (i 0).val / 512 * 512 ≤ _ ∧ _ < (i 0).val / 512 * 512 + 512
    omega
  | ⟨1, _⟩ =>
    show win0_4.index _ (1 : Fin 2) * 768 ≤ (i 1).val ∧ (i 1).val < win0_4.index _ (1 : Fin 2) * 768 + 768
    rw [e]
    show 0 * 768 ≤ _ ∧ _ < 0 * 768 + 768
    omega

/-- The run ends with the gradient, the update and the new moments, and the arguments as they were. -/
theorem run (ρ : Dev nD → PrngReg) : θ_run defs (onTc (τ := τ) (main (F := F))) ⟨m, fun _ => 0, ρ⟩ fun r => ∀ c : Dev nD,
      r.2.mem ((c : Thread nD τ).loc main_v0_0) = m ((c : Thread nD τ).loc main_arg0)
      ∧ r.2.mem ((c : Thread nD τ).loc main_v0_1) = upd (m ((c : Thread nD τ).loc main_arg0)) (m ((c : Thread nD τ).loc main_arg2)) (m ((c : Thread nD τ).loc main_arg3)) (m ((c : Thread nD τ).loc main_arg1))
      ∧ r.2.mem ((c : Thread nD τ).loc main_v0_2) = mom (m ((c : Thread nD τ).loc main_arg0)) (m ((c : Thread nD τ).loc main_arg2))
      ∧ r.2.mem ((c : Thread nD τ).loc main_v0_3) = sqm (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed4_eq m c t) covered),
      (h c).2.1.trans ((dats m 0 c).arrAt_eq_of_cover 5 _ (fun t _ => flushed5_eq m c t) covered),
      (h c).2.2.1.trans ((dats m 0 c).arrAt_eq_of_cover 6 _ (fun t _ => flushed6_eq m c t) covered),
      (h c).2.2.2.1.trans ((dats m 0 c).arrAt_eq_of_cover 7 _ (fun t _ => flushed7_eq m c t) covered),
      (h c).2.2.2.2⟩)
    (Value.run_blocks m ρ)

end

end Cert.Kernel6Ideal.Opt
-- ==== Proof.OPack.lean ====
module

public import proofs.«01_k».proof.Proof.Gen.Kernel7Ideal.Frame
public import Idealize.ShloMosaic.Lib.Pipeline.Value
public import Idealize.ShloMosaic.Lib.Pointwise

/-! # The small parameters laid end to end

The fifteen small parameters are laid end to end, padded and cut into rows of `128`. Taking a parameter's stretch out of
such an array gives the parameter back. -/

@[expose] public section

set_option maxRecDepth 16384

namespace Cert.Kernel7Ideal.Opt

open Cert.Kernel7Ideal Cert.Kernel7Ideal.Gen Idealize.ShloMosaic Idealize.ShloMosaic.TcCoe Idealize.SL.Sem

noncomputable section

variable {F : FTy → Type} [FloatOps F]

abbrev Rows (F : FTy → Type) := S2352x128.Idx → Elt F .f32

/-- Fifteen arrays of the small parameters' shapes. -/
structure Small (F : FTy → Type) where
  p0 : S1024.Idx → Elt F .f32
  p1 : S4x3072.Idx → Elt F .f32
  p2 : S4x1024.Idx → Elt F .f32
  p3 : S4x1024.Idx → Elt F .f32
  p4 : S4x3x64.Idx → Elt F .f32
  p5 : S4x31x64.Idx → Elt F .f32
  p6 : S4x256.Idx → Elt F .f32
  p7 : S4x256.Idx → Elt F .f32
  p8 : S4x256.Idx → Elt F .f32
  p9 : S4x256.Idx → Elt F .f32
  p10 : S4x256.Idx → Elt F .f32
  p11 : S4x4x128x128.Idx → Elt F .f32
  p12 : S4x4x128.Idx → Elt F .f32
  p13 : S4x64.Idx → Elt F .f32
  p14 : S4x64.Idx → Elt F .f32

/-- The fifteen, end to end. -/
def cat (p : Small F) : S300032.Idx → Elt F .f32 :=
  concatenate S300032 0 [⟨S1024, p.p0⟩, ⟨S12288, shapeCast S12288 p.p1 shapeCasts_S4x3072_S12288⟩, ⟨S4096, shapeCast S4096 p.p2 shapeCasts_S4x1024_S4096⟩, ⟨S4096, shapeCast S4096 p.p3 shapeCasts_S4x1024_S4096⟩, ⟨S768, shapeCast S768 p.p4 shapeCasts_S4x3x64_S768⟩, ⟨S7936, shapeCast S7936 p.p5 shapeCasts_S4x31x64_S7936⟩, ⟨S1024, shapeCast S1024 p.p6 shapeCasts_S4x256_S1024⟩, ⟨S1024, shapeCast S1024 p.p7 shapeCasts_S4x256_S1024⟩, ⟨S1024, shapeCast S1024 p.p8 shapeCasts_S4x256_S1024⟩, ⟨S1024, shapeCast S1024 p.p9 shapeCasts_S4x256_S1024⟩, ⟨S1024, shapeCast S1024 p.p10 shapeCasts_S4x256_S1024⟩, ⟨S262144, shapeCast S262144 p.p11 shapeCasts_S4x4x128x128_S262144⟩, ⟨S2048, shapeCast S2048 p.p12 shapeCasts_S4x4x128_S2048⟩, ⟨S256, shapeCast S256 p.p13 shapeCasts_S4x64_S256⟩, ⟨S256, shapeCast S256 p.p14 shapeCasts_S4x64_S256⟩] concatenates_S1024_S12288_S4096_S4096_S768_S7936_S1024_S1024_S1024_S1024_S1024_S262144_S2048_S256_S256_S300032_d0
/-- Padded, in rows of `128`. -/
def pack (p : Small F) : Rows F :=
  shapeCast S2352x128 (concatenate S301056x1 0 [⟨S300032x1, shapeCast S300032x1 (cat p) shapeCasts_S300032_S300032x1⟩,
    ⟨S1024x1, broadcastInDim S1024x1 ![] bcast_S_S1024x1 (constant S_ .f32 0x00000000#32)⟩] concatenates_S300032x1_S1024x1_S301056x1_d0) shapeCasts_S301056x1_S2352x128

theorem flat_pack (p : Small F) (j : Fin 301056) (h : (j : ℕ) < 300032) :
    shapeCast S301056 (pack p) shapeCasts_S2352x128_S301056 (ix1 j) = cat p (ix1 (n0 := 300032) ⟨j, h⟩) := by
  unfold pack
  pointwise
  exact dif_pos h

/-- The stretch of parameter 0. -/
def un0 {α : Type} (X : S2352x128.Idx → α) : S1024.Idx → α :=
  extractStridedSlice S1024 ![0] (shapeCast S301056 X shapeCasts_S2352x128_S301056) slices_S301056_S1024_0
theorem cat0 (p : Small F) (j : S1024.Idx) (i : Fin 300032) (h : (i : ℕ) = 0 + (j 0 : ℕ)) : cat p (ix1 i) = (p.p0) j := by
  unfold cat
  refine concatenate_apply_piece 0 _ _ _ 0 (by show 0 < 15; decide) S1024 (p.p0) ?_ ?_ 0 ?_ j ?_ ?_
  · rfl
  · rfl
  · simp
  · exact fun b hb => absurd (Subsingleton.elim (α := Fin 1) _ _) hb
  · exact h.symm
theorem slice0 (p : Small F) : extractStridedSlice S1024 ![0] (shapeCast S301056 (pack p) shapeCasts_S2352x128_S301056) slices_S301056_S1024_0
    = p.p0 := by
  funext j
  have hj : (j 0 : ℕ) < 1024 := (j 0).isLt
  refine (extractStridedSlice_apply _ _ _ j (ix1 (n0 := 301056) ⟨0 + (j 0 : ℕ), by omega⟩) (by intro a; fin_cases a; rfl)).trans ?_
  exact (flat_pack p ⟨0 + (j 0 : ℕ), by omega⟩ (by show 0 + (j 0 : ℕ) < 300032; omega)).trans (cat0 p j _ rfl)
theorem un_pack0 (p : Small F) : un0 (pack p) = p.p0 := by
  unfold un0
  rw [slice0]

/-- The stretch of parameter 1. -/
def un1 {α : Type} (X : S2352x128.Idx → α) : S4x3072.Idx → α :=
  shapeCast S4x3072 (extractStridedSlice S12288 ![1024] (shapeCast S301056 X shapeCasts_S2352x128_S301056) slices_S301056_S12288_1024) shapeCasts_S12288_S4x3072
theorem cat1 (p : Small F) (j : S12288.Idx) (i : Fin 300032) (h : (i : ℕ) = 1024 + (j 0 : ℕ)) : cat p (ix1 i) = (shapeCast S12288 p.p1 shapeCasts_S4x3072_S12288) j := by
  unfold cat
  refine concatenate_apply_piece 0 _ _ _ 1 (by show 1 < 15; decide) S12288 (shapeCast S12288 p.p1 shapeCasts_S4x3072_S12288) ?_ ?_ 1024 ?_ j ?_ ?_
  · rfl
  · rfl
  · simp
  · exact fun b hb => absurd (Subsingleton.elim (α := Fin 1) _ _) hb
  · exact h.symm
theorem slice1 (p : Small F) : extractStridedSlice S12288 ![1024] (shapeCast S301056 (pack p) shapeCasts_S2352x128_S301056) slices_S301056_S12288_1024
    = shapeCast S12288 p.p1 shapeCasts_S4x3072_S12288 := by
  funext j
  have hj : (j 0 : ℕ) < 12288 := (j 0).isLt
  refine (extractStridedSlice_apply _ _ _ j (ix1 (n0 := 301056) ⟨1024 + (j 0 : ℕ), by omega⟩) (by intro a; fin_cases a; rfl)).trans ?_
  exact (flat_pack p ⟨1024 + (j 0 : ℕ), by omega⟩ (by show 1024 + (j 0 : ℕ) < 300032; omega)).trans (cat1 p j _ rfl)
theorem un_pack1 (p : Small F) : un1 (pack p) = p.p1 := by
  unfold un1
  rw [slice1]
  exact shapeCast_shapeCast _ _ _

/-- The stretch of parameter 2. -/
def un2 {α : Type} (X : S2352x128.Idx → α) : S4x1024.Idx → α :=
  shapeCast S4x1024 (extractStridedSlice S4096 ![13312] (shapeCast S301056 X shapeCasts_S2352x128_S301056) slices_S301056_S4096_13312) shapeCasts_S4096_S4x1024
theorem cat2 (p : Small F) (j : S4096.Idx) (i : Fin 300032) (h : (i : ℕ) = 13312 + (j 0 : ℕ)) : cat p (ix1 i) = (shapeCast S4096 p.p2 shapeCasts_S4x1024_S4096) j := by
  unfold cat
  refine concatenate_apply_piece 0 _ _ _ 2 (by show 2 < 15; decide) S4096 (shapeCast S4096 p.p2 shapeCasts_S4x1024_S4096) ?_ ?_ 13312 ?_ j ?_ ?_
  · rfl
  · rfl
  · simp
  · exact fun b hb => absurd (Subsingleton.elim (α := Fin 1) _ _) hb
  · exact h.symm
theorem slice2 (p : Small F) : extractStridedSlice S4096 ![13312] (shapeCast S301056 (pack p) shapeCasts_S2352x128_S301056) slices_S301056_S4096_13312
    = shapeCast S4096 p.p2 shapeCasts_S4x1024_S4096 := by
  funext j
  have hj : (j 0 : ℕ) < 4096 := (j 0).isLt
  refine (extractStridedSlice_apply _ _ _ j (ix1 (n0 := 301056) ⟨13312 + (j 0 : ℕ), by omega⟩) (by intro a; fin_cases a; rfl)).trans ?_
  exact (flat_pack p ⟨13312 + (j 0 : ℕ), by omega⟩ (by show 13312 + (j 0 : ℕ) < 300032; omega)).trans (cat2 p j _ rfl)
theorem un_pack2 (p : Small F) : un2 (pack p) = p.p2 := by
  unfold un2
  rw [slice2]
  exact shapeCast_shapeCast _ _ _

/-- The stretch of parameter 3. -/
def un3 {α : Type} (X : S2352x128.Idx → α) : S4x1024.Idx → α :=
  shapeCast S4x1024 (extractStridedSlice S4096 ![17408] (shapeCast S301056 X shapeCasts_S2352x128_S301056) slices_S301056_S4096_17408) shapeCasts_S4096_S4x1024
theorem cat3 (p : Small F) (j : S4096.Idx) (i : Fin 300032) (h : (i : ℕ) = 17408 + (j 0 : ℕ)) : cat p (ix1 i) = (shapeCast S4096 p.p3 shapeCasts_S4x1024_S4096) j := by
  unfold cat
  refine concatenate_apply_piece 0 _ _ _ 3 (by show 3 < 15; decide) S4096 (shapeCast S4096 p.p3 shapeCasts_S4x1024_S4096) ?_ ?_ 17408 ?_ j ?_ ?_
  · rfl
  · rfl
  · simp
  · exact fun b hb => absurd (Subsingleton.elim (α := Fin 1) _ _) hb
  · exact h.symm
theorem slice3 (p : Small F) : extractStridedSlice S4096 ![17408] (shapeCast S301056 (pack p) shapeCasts_S2352x128_S301056) slices_S301056_S4096_17408
    = shapeCast S4096 p.p3 shapeCasts_S4x1024_S4096 := by
  funext j
  have hj : (j 0 : ℕ) < 4096 := (j 0).isLt
  refine (extractStridedSlice_apply _ _ _ j (ix1 (n0 := 301056) ⟨17408 + (j 0 : ℕ), by omega⟩) (by intro a; fin_cases a; rfl)).trans ?_
  exact (flat_pack p ⟨17408 + (j 0 : ℕ), by omega⟩ (by show 17408 + (j 0 : ℕ) < 300032; omega)).trans (cat3 p j _ rfl)
theorem un_pack3 (p : Small F) : un3 (pack p) = p.p3 := by
  unfold un3
  rw [slice3]
  exact shapeCast_shapeCast _ _ _

/-- The stretch of parameter 4. -/
def un4 {α : Type} (X : S2352x128.Idx → α) : S4x3x64.Idx → α :=
  shapeCast S4x3x64 (extractStridedSlice S768 ![21504] (shapeCast S301056 X shapeCasts_S2352x128_S301056) slices_S301056_S768_21504) shapeCasts_S768_S4x3x64
theorem cat4 (p : Small F) (j : S768.Idx) (i : Fin 300032) (h : (i : ℕ) = 21504 + (j 0 : ℕ)) : cat p (ix1 i) = (shapeCast S768 p.p4 shapeCasts_S4x3x64_S768) j := by
  unfold cat
  refine concatenate_apply_piece 0 _ _ _ 4 (by show 4 < 15; decide) S768 (shapeCast S768 p.p4 shapeCasts_S4x3x64_S768) ?_ ?_ 21504 ?_ j ?_ ?_
  · rfl
  · rfl
  · simp
  · exact fun b hb => absurd (Subsingleton.elim (α := Fin 1) _ _) hb
  · exact h.symm
theorem slice4 (p : Small F) : extractStridedSlice S768 ![21504] (shapeCast S301056 (pack p) shapeCasts_S2352x128_S301056) slices_S301056_S768_21504
    = shapeCast S768 p.p4 shapeCasts_S4x3x64_S768 := by
  funext j
  have hj : (j 0 : ℕ) < 768 := (j 0).isLt
  refine (extractStridedSlice_apply _ _ _ j (ix1 (n0 := 301056) ⟨21504 + (j 0 : ℕ), by omega⟩) (by intro a; fin_cases a; rfl)).trans ?_
  exact (flat_pack p ⟨21504 + (j 0 : ℕ), by omega⟩ (by show 21504 + (j 0 : ℕ) < 300032; omega)).trans (cat4 p j _ rfl)
theorem un_pack4 (p : Small F) : un4 (pack p) = p.p4 := by
  unfold un4
  rw [slice4]
  exact shapeCast_shapeCast _ _ _

/-- The stretch of parameter 5. -/
def un5 {α : Type} (X : S2352x128.Idx → α) : S4x31x64.Idx → α :=
  shapeCast S4x31x64 (extractStridedSlice S7936 ![22272] (shapeCast S301056 X shapeCasts_S2352x128_S301056) slices_S301056_S7936_22272) shapeCasts_S7936_S4x31x64
theorem cat5 (p : Small F) (j : S7936.Idx) (i : Fin 300032) (h : (i : ℕ) = 22272 + (j 0 : ℕ)) : cat p (ix1 i) = (shapeCast S7936 p.p5 shapeCasts_S4x31x64_S7936) j := by
  unfold cat
  refine concatenate_apply_piece 0 _ _ _ 5 (by show 5 < 15; decide) S7936 (shapeCast S7936 p.p5 shapeCasts_S4x31x64_S7936) ?_ ?_ 22272 ?_ j ?_ ?_
  · rfl
  · rfl
  · simp
  · exact fun b hb => absurd (Subsingleton.elim (α := Fin 1) _ _) hb
  · exact h.symm
theorem slice5 (p : Small F) : extractStridedSlice S7936 ![22272] (shapeCast S301056 (pack p) shapeCasts_S2352x128_S301056) slices_S301056_S7936_22272
    = shapeCast S7936 p.p5 shapeCasts_S4x31x64_S7936 := by
  funext j
  have hj : (j 0 : ℕ) < 7936 := (j 0).isLt
  refine (extractStridedSlice_apply _ _ _ j (ix1 (n0 := 301056) ⟨22272 + (j 0 : ℕ), by omega⟩) (by intro a; fin_cases a; rfl)).trans ?_
  exact (flat_pack p ⟨22272 + (j 0 : ℕ), by omega⟩ (by show 22272 + (j 0 : ℕ) < 300032; omega)).trans (cat5 p j _ rfl)
theorem un_pack5 (p : Small F) : un5 (pack p) = p.p5 := by
  unfold un5
  rw [slice5]
  exact shapeCast_shapeCast _ _ _

/-- The stretch of parameter 6. -/
def un6 {α : Type} (X : S2352x128.Idx → α) : S4x256.Idx → α :=
  shapeCast S4x256 (extractStridedSlice S1024 ![30208] (shapeCast S301056 X shapeCasts_S2352x128_S301056) slices_S301056_S1024_30208) shapeCasts_S1024_S4x256
theorem cat6 (p : Small F) (j : S1024.Idx) (i : Fin 300032) (h : (i : ℕ) = 30208 + (j 0 : ℕ)) : cat p (ix1 i) = (shapeCast S1024 p.p6 shapeCasts_S4x256_S1024) j := by
  unfold cat
  refine concatenate_apply_piece 0 _ _ _ 6 (by show 6 < 15; decide) S1024 (shapeCast S1024 p.p6 shapeCasts_S4x256_S1024) ?_ ?_ 30208 ?_ j ?_ ?_
  · rfl
  · rfl
  · simp
  · exact fun b hb => absurd (Subsingleton.elim (α := Fin 1) _ _) hb
  · exact h.symm
theorem slice6 (p : Small F) : extractStridedSlice S1024 ![30208] (shapeCast S301056 (pack p) shapeCasts_S2352x128_S301056) slices_S301056_S1024_30208
    = shapeCast S1024 p.p6 shapeCasts_S4x256_S1024 := by
  funext j
  have hj : (j 0 : ℕ) < 1024 := (j 0).isLt
  refine (extractStridedSlice_apply _ _ _ j (ix1 (n0 := 301056) ⟨30208 + (j 0 : ℕ), by omega⟩) (by intro a; fin_cases a; rfl)).trans ?_
  exact (flat_pack p ⟨30208 + (j 0 : ℕ), by omega⟩ (by show 30208 + (j 0 : ℕ) < 300032; omega)).trans (cat6 p j _ rfl)
theorem un_pack6 (p : Small F) : un6 (pack p) = p.p6 := by
  unfold un6
  rw [slice6]
  exact shapeCast_shapeCast _ _ _

/-- The stretch of parameter 7. -/
def un7 {α : Type} (X : S2352x128.Idx → α) : S4x256.Idx → α :=
  shapeCast S4x256 (extractStridedSlice S1024 ![31232] (shapeCast S301056 X shapeCasts_S2352x128_S301056) slices_S301056_S1024_31232) shapeCasts_S1024_S4x256
theorem cat7 (p : Small F) (j : S1024.Idx) (i : Fin 300032) (h : (i : ℕ) = 31232 + (j 0 : ℕ)) : cat p (ix1 i) = (shapeCast S1024 p.p7 shapeCasts_S4x256_S1024) j := by
  unfold cat
  refine concatenate_apply_piece 0 _ _ _ 7 (by show 7 < 15; decide) S1024 (shapeCast S1024 p.p7 shapeCasts_S4x256_S1024) ?_ ?_ 31232 ?_ j ?_ ?_
  · rfl
  · rfl
  · simp
  · exact fun b hb => absurd (Subsingleton.elim (α := Fin 1) _ _) hb
  · exact h.symm
theorem slice7 (p : Small F) : extractStridedSlice S1024 ![31232] (shapeCast S301056 (pack p) shapeCasts_S2352x128_S301056) slices_S301056_S1024_31232
    = shapeCast S1024 p.p7 shapeCasts_S4x256_S1024 := by
  funext j
  have hj : (j 0 : ℕ) < 1024 := (j 0).isLt
  refine (extractStridedSlice_apply _ _ _ j (ix1 (n0 := 301056) ⟨31232 + (j 0 : ℕ), by omega⟩) (by intro a; fin_cases a; rfl)).trans ?_
  exact (flat_pack p ⟨31232 + (j 0 : ℕ), by omega⟩ (by show 31232 + (j 0 : ℕ) < 300032; omega)).trans (cat7 p j _ rfl)
theorem un_pack7 (p : Small F) : un7 (pack p) = p.p7 := by
  unfold un7
  rw [slice7]
  exact shapeCast_shapeCast _ _ _

/-- The stretch of parameter 8. -/
def un8 {α : Type} (X : S2352x128.Idx → α) : S4x256.Idx → α :=
  shapeCast S4x256 (extractStridedSlice S1024 ![32256] (shapeCast S301056 X shapeCasts_S2352x128_S301056) slices_S301056_S1024_32256) shapeCasts_S1024_S4x256
theorem cat8 (p : Small F) (j : S1024.Idx) (i : Fin 300032) (h : (i : ℕ) = 32256 + (j 0 : ℕ)) : cat p (ix1 i) = (shapeCast S1024 p.p8 shapeCasts_S4x256_S1024) j := by
  unfold cat
  refine concatenate_apply_piece 0 _ _ _ 8 (by show 8 < 15; decide) S1024 (shapeCast S1024 p.p8 shapeCasts_S4x256_S1024) ?_ ?_ 32256 ?_ j ?_ ?_
  · rfl
  · rfl
  · simp
  · exact fun b hb => absurd (Subsingleton.elim (α := Fin 1) _ _) hb
  · exact h.symm
theorem slice8 (p : Small F) : extractStridedSlice S1024 ![32256] (shapeCast S301056 (pack p) shapeCasts_S2352x128_S301056) slices_S301056_S1024_32256
    = shapeCast S1024 p.p8 shapeCasts_S4x256_S1024 := by
  funext j
  have hj : (j 0 : ℕ) < 1024 := (j 0).isLt
  refine (extractStridedSlice_apply _ _ _ j (ix1 (n0 := 301056) ⟨32256 + (j 0 : ℕ), by omega⟩) (by intro a; fin_cases a; rfl)).trans ?_
  exact (flat_pack p ⟨32256 + (j 0 : ℕ), by omega⟩ (by show 32256 + (j 0 : ℕ) < 300032; omega)).trans (cat8 p j _ rfl)
theorem un_pack8 (p : Small F) : un8 (pack p) = p.p8 := by
  unfold un8
  rw [slice8]
  exact shapeCast_shapeCast _ _ _

/-- The stretch of parameter 9. -/
def un9 {α : Type} (X : S2352x128.Idx → α) : S4x256.Idx → α :=
  shapeCast S4x256 (extractStridedSlice S1024 ![33280] (shapeCast S301056 X shapeCasts_S2352x128_S301056) slices_S301056_S1024_33280) shapeCasts_S1024_S4x256
theorem cat9 (p : Small F) (j : S1024.Idx) (i : Fin 300032) (h : (i : ℕ) = 33280 + (j 0 : ℕ)) : cat p (ix1 i) = (shapeCast S1024 p.p9 shapeCasts_S4x256_S1024) j := by
  unfold cat
  refine concatenate_apply_piece 0 _ _ _ 9 (by show 9 < 15; decide) S1024 (shapeCast S1024 p.p9 shapeCasts_S4x256_S1024) ?_ ?_ 33280 ?_ j ?_ ?_
  · rfl
  · rfl
  · simp
  · exact fun b hb => absurd (Subsingleton.elim (α := Fin 1) _ _) hb
  · exact h.symm
theorem slice9 (p : Small F) : extractStridedSlice S1024 ![33280] (shapeCast S301056 (pack p) shapeCasts_S2352x128_S301056) slices_S301056_S1024_33280
    = shapeCast S1024 p.p9 shapeCasts_S4x256_S1024 := by
  funext j
  have hj : (j 0 : ℕ) < 1024 := (j 0).isLt
  refine (extractStridedSlice_apply _ _ _ j (ix1 (n0 := 301056) ⟨33280 + (j 0 : ℕ), by omega⟩) (by intro a; fin_cases a; rfl)).trans ?_
  exact (flat_pack p ⟨33280 + (j 0 : ℕ), by omega⟩ (by show 33280 + (j 0 : ℕ) < 300032; omega)).trans (cat9 p j _ rfl)
theorem un_pack9 (p : Small F) : un9 (pack p) = p.p9 := by
  unfold un9
  rw [slice9]
  exact shapeCast_shapeCast _ _ _

/-- The stretch of parameter 10. -/
def un10 {α : Type} (X : S2352x128.Idx → α) : S4x256.Idx → α :=
  shapeCast S4x256 (extractStridedSlice S1024 ![34304] (shapeCast S301056 X shapeCasts_S2352x128_S301056) slices_S301056_S1024_34304) shapeCasts_S1024_S4x256
theorem cat10 (p : Small F) (j : S1024.Idx) (i : Fin 300032) (h : (i : ℕ) = 34304 + (j 0 : ℕ)) : cat p (ix1 i) = (shapeCast S1024 p.p10 shapeCasts_S4x256_S1024) j := by
  unfold cat
  refine concatenate_apply_piece 0 _ _ _ 10 (by show 10 < 15; decide) S1024 (shapeCast S1024 p.p10 shapeCasts_S4x256_S1024) ?_ ?_ 34304 ?_ j ?_ ?_
  · rfl
  · rfl
  · simp
  · exact fun b hb => absurd (Subsingleton.elim (α := Fin 1) _ _) hb
  · exact h.symm
theorem slice10 (p : Small F) : extractStridedSlice S1024 ![34304] (shapeCast S301056 (pack p) shapeCasts_S2352x128_S301056) slices_S301056_S1024_34304
    = shapeCast S1024 p.p10 shapeCasts_S4x256_S1024 := by
  funext j
  have hj : (j 0 : ℕ) < 1024 := (j 0).isLt
  refine (extractStridedSlice_apply _ _ _ j (ix1 (n0 := 301056) ⟨34304 + (j 0 : ℕ), by omega⟩) (by intro a; fin_cases a; rfl)).trans ?_
  exact (flat_pack p ⟨34304 + (j 0 : ℕ), by omega⟩ (by show 34304 + (j 0 : ℕ) < 300032; omega)).trans (cat10 p j _ rfl)
theorem un_pack10 (p : Small F) : un10 (pack p) = p.p10 := by
  unfold un10
  rw [slice10]
  exact shapeCast_shapeCast _ _ _

/-- The stretch of parameter 11. -/
def un11 {α : Type} (X : S2352x128.Idx → α) : S4x4x128x128.Idx → α :=
  shapeCast S4x4x128x128 (extractStridedSlice S262144 ![35328] (shapeCast S301056 X shapeCasts_S2352x128_S301056) slices_S301056_S262144_35328) shapeCasts_S262144_S4x4x128x128
theorem cat11 (p : Small F) (j : S262144.Idx) (i : Fin 300032) (h : (i : ℕ) = 35328 + (j 0 : ℕ)) : cat p (ix1 i) = (shapeCast S262144 p.p11 shapeCasts_S4x4x128x128_S262144) j := by
  unfold cat
  refine concatenate_apply_piece 0 _ _ _ 11 (by show 11 < 15; decide) S262144 (shapeCast S262144 p.p11 shapeCasts_S4x4x128x128_S262144) ?_ ?_ 35328 ?_ j ?_ ?_
  · rfl
  · rfl
  · simp
  · exact fun b hb => absurd (Subsingleton.elim (α := Fin 1) _ _) hb
  · exact h.symm
theorem slice11 (p : Small F) : extractStridedSlice S262144 ![35328] (shapeCast S301056 (pack p) shapeCasts_S2352x128_S301056) slices_S301056_S262144_35328
    = shapeCast S262144 p.p11 shapeCasts_S4x4x128x128_S262144 := by
  funext j
  have hj : (j 0 : ℕ) < 262144 := (j 0).isLt
  refine (extractStridedSlice_apply _ _ _ j (ix1 (n0 := 301056) ⟨35328 + (j 0 : ℕ), by omega⟩) (by intro a; fin_cases a; rfl)).trans ?_
  exact (flat_pack p ⟨35328 + (j 0 : ℕ), by omega⟩ (by show 35328 + (j 0 : ℕ) < 300032; omega)).trans (cat11 p j _ rfl)
theorem un_pack11 (p : Small F) : un11 (pack p) = p.p11 := by
  unfold un11
  rw [slice11]
  exact shapeCast_shapeCast _ _ _

/-- The stretch of parameter 12. -/
def un12 {α : Type} (X : S2352x128.Idx → α) : S4x4x128.Idx → α :=
  shapeCast S4x4x128 (extractStridedSlice S2048 ![297472] (shapeCast S301056 X shapeCasts_S2352x128_S301056) slices_S301056_S2048_297472) shapeCasts_S2048_S4x4x128
theorem cat12 (p : Small F) (j : S2048.Idx) (i : Fin 300032) (h : (i : ℕ) = 297472 + (j 0 : ℕ)) : cat p (ix1 i) = (shapeCast S2048 p.p12 shapeCasts_S4x4x128_S2048) j := by
  unfold cat
  refine concatenate_apply_piece 0 _ _ _ 12 (by show 12 < 15; decide) S2048 (shapeCast S2048 p.p12 shapeCasts_S4x4x128_S2048) ?_ ?_ 297472 ?_ j ?_ ?_
  · rfl
  · rfl
  · simp
  · exact fun b hb => absurd (Subsingleton.elim (α := Fin 1) _ _) hb
  · exact h.symm
theorem slice12 (p : Small F) : extractStridedSlice S2048 ![297472] (shapeCast S301056 (pack p) shapeCasts_S2352x128_S301056) slices_S301056_S2048_297472
    = shapeCast S2048 p.p12 shapeCasts_S4x4x128_S2048 := by
  funext j
  have hj : (j 0 : ℕ) < 2048 := (j 0).isLt
  refine (extractStridedSlice_apply _ _ _ j (ix1 (n0 := 301056) ⟨297472 + (j 0 : ℕ), by omega⟩) (by intro a; fin_cases a; rfl)).trans ?_
  exact (flat_pack p ⟨297472 + (j 0 : ℕ), by omega⟩ (by show 297472 + (j 0 : ℕ) < 300032; omega)).trans (cat12 p j _ rfl)
theorem un_pack12 (p : Small F) : un12 (pack p) = p.p12 := by
  unfold un12
  rw [slice12]
  exact shapeCast_shapeCast _ _ _

/-- The stretch of parameter 13. -/
def un13 {α : Type} (X : S2352x128.Idx → α) : S4x64.Idx → α :=
  shapeCast S4x64 (extractStridedSlice S256 ![299520] (shapeCast S301056 X shapeCasts_S2352x128_S301056) slices_S301056_S256_299520) shapeCasts_S256_S4x64
theorem cat13 (p : Small F) (j : S256.Idx) (i : Fin 300032) (h : (i : ℕ) = 299520 + (j 0 : ℕ)) : cat p (ix1 i) = (shapeCast S256 p.p13 shapeCasts_S4x64_S256) j := by
  unfold cat
  refine concatenate_apply_piece 0 _ _ _ 13 (by show 13 < 15; decide) S256 (shapeCast S256 p.p13 shapeCasts_S4x64_S256) ?_ ?_ 299520 ?_ j ?_ ?_
  · rfl
  · rfl
  · simp
  · exact fun b hb => absurd (Subsingleton.elim (α := Fin 1) _ _) hb
  · exact h.symm
theorem slice13 (p : Small F) : extractStridedSlice S256 ![299520] (shapeCast S301056 (pack p) shapeCasts_S2352x128_S301056) slices_S301056_S256_299520
    = shapeCast S256 p.p13 shapeCasts_S4x64_S256 := by
  funext j
  have hj : (j 0 : ℕ) < 256 := (j 0).isLt
  refine (extractStridedSlice_apply _ _ _ j (ix1 (n0 := 301056) ⟨299520 + (j 0 : ℕ), by omega⟩) (by intro a; fin_cases a; rfl)).trans ?_
  exact (flat_pack p ⟨299520 + (j 0 : ℕ), by omega⟩ (by show 299520 + (j 0 : ℕ) < 300032; omega)).trans (cat13 p j _ rfl)
theorem un_pack13 (p : Small F) : un13 (pack p) = p.p13 := by
  unfold un13
  rw [slice13]
  exact shapeCast_shapeCast _ _ _

/-- The stretch of parameter 14. -/
def un14 {α : Type} (X : S2352x128.Idx → α) : S4x64.Idx → α :=
  shapeCast S4x64 (extractStridedSlice S256 ![299776] (shapeCast S301056 X shapeCasts_S2352x128_S301056) slices_S301056_S256_299776) shapeCasts_S256_S4x64
theorem cat14 (p : Small F) (j : S256.Idx) (i : Fin 300032) (h : (i : ℕ) = 299776 + (j 0 : ℕ)) : cat p (ix1 i) = (shapeCast S256 p.p14 shapeCasts_S4x64_S256) j := by
  unfold cat
  refine concatenate_apply_piece 0 _ _ _ 14 (by show 14 < 15; decide) S256 (shapeCast S256 p.p14 shapeCasts_S4x64_S256) ?_ ?_ 299776 ?_ j ?_ ?_
  · rfl
  · rfl
  · simp
  · exact fun b hb => absurd (Subsingleton.elim (α := Fin 1) _ _) hb
  · exact h.symm
theorem slice14 (p : Small F) : extractStridedSlice S256 ![299776] (shapeCast S301056 (pack p) shapeCasts_S2352x128_S301056) slices_S301056_S256_299776
    = shapeCast S256 p.p14 shapeCasts_S4x64_S256 := by
  funext j
  have hj : (j 0 : ℕ) < 256 := (j 0).isLt
  refine (extractStridedSlice_apply _ _ _ j (ix1 (n0 := 301056) ⟨299776 + (j 0 : ℕ), by omega⟩) (by intro a; fin_cases a; rfl)).trans ?_
  exact (flat_pack p ⟨299776 + (j 0 : ℕ), by omega⟩ (by show 299776 + (j 0 : ℕ) < 300032; omega)).trans (cat14 p j _ rfl)
theorem un_pack14 (p : Small F) : un14 (pack p) = p.p14 := by
  unfold un14
  rw [slice14]
  exact shapeCast_shapeCast _ _ _

end

end Cert.Kernel7Ideal.Opt
-- ==== Proof.OHost.lean ====
module

public import proofs.«01_k».proof.Proof.OPack
public import Idealize.ShloMosaic.Lib.Claim
public import Idealize.ShloMosaic.Lib.StableHlo.Predicate

/-! # The lines before and after the small parameters' launch

Before it the four groups of fifteen arrays are packed; after it each result is one parameter's stretch of one of the
launch's arrays. -/

@[expose] public section

set_option maxRecDepth 16384

namespace Cert.Kernel7Ideal.Opt

open Cert.Kernel7Ideal Cert.Kernel7Ideal.Gen Idealize.ShloMosaic Idealize.ShloMosaic.TcCoe Idealize.SL.Sem

noncomputable section

variable {F : FTy → Type} [FloatOps F]

/-- The arguments from the 0th on. -/
def args0 (X : Valuation τ sig (Elt F)) : Small F :=
  ⟨X (Proc.devRef .tc main_arg0), X (Proc.devRef .tc main_arg1), X (Proc.devRef .tc main_arg2), X (Proc.devRef .tc main_arg3), X (Proc.devRef .tc main_arg4), X (Proc.devRef .tc main_arg5), X (Proc.devRef .tc main_arg6), X (Proc.devRef .tc main_arg7), X (Proc.devRef .tc main_arg8), X (Proc.devRef .tc main_arg9), X (Proc.devRef .tc main_arg10), X (Proc.devRef .tc main_arg11), X (Proc.devRef .tc main_arg12), X (Proc.devRef .tc main_arg13), X (Proc.devRef .tc main_arg14)⟩
theorem before0 (X : Valuation τ sig (Elt F)) : StableHlo.after hostOps0 X (Proc.devRef .tc main_v18) = pack (args0 X) := by
  unfold_abbrev_sides
  after_results
  rfl

/-- The arguments from the 15th on. -/
def args1 (X : Valuation τ sig (Elt F)) : Small F :=
  ⟨X (Proc.devRef .tc main_arg15), X (Proc.devRef .tc main_arg16), X (Proc.devRef .tc main_arg17), X (Proc.devRef .tc main_arg18), X (Proc.devRef .tc main_arg19), X (Proc.devRef .tc main_arg20), X (Proc.devRef .tc main_arg21), X (Proc.devRef .tc main_arg22), X (Proc.devRef .tc main_arg23), X (Proc.devRef .tc main_arg24), X (Proc.devRef .tc main_arg25), X (Proc.devRef .tc main_arg26), X (Proc.devRef .tc main_arg27), X (Proc.devRef .tc main_arg28), X (Proc.devRef .tc main_arg29)⟩
theorem before1 (X : Valuation τ sig (Elt F)) : StableHlo.after hostOps0 X (Proc.devRef .tc main_v37) = pack (args1 X) := by
  unfold_abbrev_sides
  after_results
  rfl

/-- The arguments from the 30th on. -/
def args2 (X : Valuation τ sig (Elt F)) : Small F :=
  ⟨X (Proc.devRef .tc main_arg30), X (Proc.devRef .tc main_arg31), X (Proc.devRef .tc main_arg32), X (Proc.devRef .tc main_arg33), X (Proc.devRef .tc main_arg34), X (Proc.devRef .tc main_arg35), X (Proc.devRef .tc main_arg36), X (Proc.devRef .tc main_arg37), X (Proc.devRef .tc main_arg38), X (Proc.devRef .tc main_arg39), X (Proc.devRef .tc main_arg40), X (Proc.devRef .tc main_arg41), X (Proc.devRef .tc main_arg42), X (Proc.devRef .tc main_arg43), X (Proc.devRef .tc main_arg44)⟩
theorem before2 (X : Valuation τ sig (Elt F)) : StableHlo.after hostOps0 X (Proc.devRef .tc main_v56) = pack (args2 X) := by
  unfold_abbrev_sides
  after_results
  rfl

/-- The arguments from the 45th on. -/
def args3 (X : Valuation τ sig (Elt F)) : Small F :=
  ⟨X (Proc.devRef .tc main_arg45), X (Proc.devRef .tc main_arg46), X (Proc.devRef .tc main_arg47), X (Proc.devRef .tc main_arg48), X (Proc.devRef .tc main_arg49), X (Proc.devRef .tc main_arg50), X (Proc.devRef .tc main_arg51), X (Proc.devRef .tc main_arg52), X (Proc.devRef .tc main_arg53), X (Proc.devRef .tc main_arg54), X (Proc.devRef .tc main_arg55), X (Proc.devRef .tc main_arg56), X (Proc.devRef .tc main_arg57), X (Proc.devRef .tc main_arg58), X (Proc.devRef .tc main_arg59)⟩
theorem before3 (X : Valuation τ sig (Elt F)) : StableHlo.after hostOps0 X (Proc.devRef .tc main_v75) = pack (args3 X) := by
  unfold_abbrev_sides
  after_results
  rfl

theorem line0_0 (X : Valuation τ sig (Elt F)) : StableHlo.after hostOps1 X (Proc.devRef .tc main_v78) = un0 (X (Proc.devRef .tc main_v76_1)) := by
  unfold_abbrev_sides
  after_results
  rfl

theorem line0_1 (X : Valuation τ sig (Elt F)) : StableHlo.after hostOps1 X (Proc.devRef .tc main_v80) = un1 (X (Proc.devRef .tc main_v76_1)) := by
  unfold_abbrev_sides
  after_results
  rfl

theorem line0_2 (X : Valuation τ sig (Elt F)) : StableHlo.after hostOps1 X (Proc.devRef .tc main_v82) = un2 (X (Proc.devRef .tc main_v76_1)) := by
  unfold_abbrev_sides
  after_results
  rfl

theorem line0_3 (X : Valuation τ sig (Elt F)) : StableHlo.after hostOps1 X (Proc.devRef .tc main_v84) = un3 (X (Proc.devRef .tc main_v76_1)) := by
  unfold_abbrev_sides
  after_results
  rfl

theorem line0_4 (X : Valuation τ sig (Elt F)) : StableHlo.after hostOps1 X (Proc.devRef .tc main_v86) = un4 (X (Proc.devRef .tc main_v76_1)) := by
  unfold_abbrev_sides
  after_results
  rfl

theorem line0_5 (X : Valuation τ sig (Elt F)) : StableHlo.after hostOps1 X (Proc.devRef .tc main_v88) = un5 (X (Proc.devRef .tc main_v76_1)) := by
  unfold_abbrev_sides
  after_results
  rfl

theorem line0_6 (X : Valuation τ sig (Elt F)) : StableHlo.after hostOps1 X (Proc.devRef .tc main_v90) = un6 (X (Proc.devRef .tc main_v76_1)) := by
  unfold_abbrev_sides
  after_results
  rfl

theorem line0_7 (X : Valuation τ sig (Elt F)) : StableHlo.after hostOps1 X (Proc.devRef .tc main_v92) = un7 (X (Proc.devRef .tc main_v76_1)) := by
  unfold_abbrev_sides
  after_results
  rfl

theorem line0_8 (X : Valuation τ sig (Elt F)) : StableHlo.after hostOps1 X (Proc.devRef .tc main_v94) = un8 (X (Proc.devRef .tc main_v76_1)) := by
  unfold_abbrev_sides
  after_results
  rfl

theorem line0_9 (X : Valuation τ sig (Elt F)) : StableHlo.after hostOps1 X (Proc.devRef .tc main_v96) = un9 (X (Proc.devRef .tc main_v76_1)) := by
  unfold_abbrev_sides
  after_results
  rfl

theorem line0_10 (X : Valuation τ sig (Elt F)) : StableHlo.after hostOps1 X (Proc.devRef .tc main_v98) = un10 (X (Proc.devRef .tc main_v76_1)) := by
  unfold_abbrev_sides
  after_results
  rfl

theorem line0_11 (X : Valuation τ sig (Elt F)) : StableHlo.after hostOps1 X (Proc.devRef .tc main_v100) = un11 (X (Proc.devRef .tc main_v76_1)) := by
  unfold_abbrev_sides
  after_results
  rfl

theorem line0_12 (X : Valuation τ sig (Elt F)) : StableHlo.after hostOps1 X (Proc.devRef .tc main_v102) = un12 (X (Proc.devRef .tc main_v76_1)) := by
  unfold_abbrev_sides
  after_results
  rfl

theorem line0_13 (X : Valuation τ sig (Elt F)) : StableHlo.after hostOps1 X (Proc.devRef .tc main_v104) = un13 (X (Proc.devRef .tc main_v76_1)) := by
  unfold_abbrev_sides
  after_results
  rfl

theorem line0_14 (X : Valuation τ sig (Elt F)) : StableHlo.after hostOps1 X (Proc.devRef .tc main_v106) = un14 (X (Proc.devRef .tc main_v76_1)) := by
  unfold_abbrev_sides
  after_results
  rfl

theorem line1_0 (X : Valuation τ sig (Elt F)) : StableHlo.after hostOps1 X (Proc.devRef .tc main_v108) = un0 (X (Proc.devRef .tc main_v76_2)) := by
  unfold_abbrev_sides
  after_results
  rfl

theorem line1_1 (X : Valuation τ sig (Elt F)) : StableHlo.after hostOps1 X (Proc.devRef .tc main_v110) = un1 (X (Proc.devRef .tc main_v76_2)) := by
  unfold_abbrev_sides
  after_results
  rfl

theorem line1_2 (X : Valuation τ sig (Elt F)) : StableHlo.after hostOps1 X (Proc.devRef .tc main_v112) = un2 (X (Proc.devRef .tc main_v76_2)) := by
  unfold_abbrev_sides
  after_results
  rfl

theorem line1_3 (X : Valuation τ sig (Elt F)) : StableHlo.after hostOps1 X (Proc.devRef .tc main_v114) = un3 (X (Proc.devRef .tc main_v76_2)) := by
  unfold_abbrev_sides
  after_results
  rfl

theorem line1_4 (X : Valuation τ sig (Elt F)) : StableHlo.after hostOps1 X (Proc.devRef .tc main_v116) = un4 (X (Proc.devRef .tc main_v76_2)) := by
  unfold_abbrev_sides
  after_results
  rfl

theorem line1_5 (X : Valuation τ sig (Elt F)) : StableHlo.after hostOps1 X (Proc.devRef .tc main_v118) = un5 (X (Proc.devRef .tc main_v76_2)) := by
  unfold_abbrev_sides
  after_results
  rfl

theorem line1_6 (X : Valuation τ sig (Elt F)) : StableHlo.after hostOps1 X (Proc.devRef .tc main_v120) = un6 (X (Proc.devRef .tc main_v76_2)) := by
  unfold_abbrev_sides
  after_results
  rfl

theorem line1_7 (X : Valuation τ sig (Elt F)) : StableHlo.after hostOps1 X (Proc.devRef .tc main_v122) = un7 (X (Proc.devRef .tc main_v76_2)) := by
  unfold_abbrev_sides
  after_results
  rfl

theorem line1_8 (X : Valuation τ sig (Elt F)) : StableHlo.after hostOps1 X (Proc.devRef .tc main_v124) = un8 (X (Proc.devRef .tc main_v76_2)) := by
  unfold_abbrev_sides
  after_results
  rfl

theorem line1_9 (X : Valuation τ sig (Elt F)) : StableHlo.after hostOps1 X (Proc.devRef .tc main_v126) = un9 (X (Proc.devRef .tc main_v76_2)) := by
  unfold_abbrev_sides
  after_results
  rfl

theorem line1_10 (X : Valuation τ sig (Elt F)) : StableHlo.after hostOps1 X (Proc.devRef .tc main_v128) = un10 (X (Proc.devRef .tc main_v76_2)) := by
  unfold_abbrev_sides
  after_results
  rfl

theorem line1_11 (X : Valuation τ sig (Elt F)) : StableHlo.after hostOps1 X (Proc.devRef .tc main_v130) = un11 (X (Proc.devRef .tc main_v76_2)) := by
  unfold_abbrev_sides
  after_results
  rfl

theorem line1_12 (X : Valuation τ sig (Elt F)) : StableHlo.after hostOps1 X (Proc.devRef .tc main_v132) = un12 (X (Proc.devRef .tc main_v76_2)) := by
  unfold_abbrev_sides
  after_results
  rfl

theorem line1_13 (X : Valuation τ sig (Elt F)) : StableHlo.after hostOps1 X (Proc.devRef .tc main_v134) = un13 (X (Proc.devRef .tc main_v76_2)) := by
  unfold_abbrev_sides
  after_results
  rfl

theorem line1_14 (X : Valuation τ sig (Elt F)) : StableHlo.after hostOps1 X (Proc.devRef .tc main_v136) = un14 (X (Proc.devRef .tc main_v76_2)) := by
  unfold_abbrev_sides
  after_results
  rfl

theorem line2_0 (X : Valuation τ sig (Elt F)) : StableHlo.after hostOps1 X (Proc.devRef .tc main_v138) = un0 (X (Proc.devRef .tc main_v76_3)) := by
  unfold_abbrev_sides
  after_results
  rfl

theorem line2_1 (X : Valuation τ sig (Elt F)) : StableHlo.after hostOps1 X (Proc.devRef .tc main_v140) = un1 (X (Proc.devRef .tc main_v76_3)) := by
  unfold_abbrev_sides
  after_results
  rfl

theorem line2_2 (X : Valuation τ sig (Elt F)) : StableHlo.after hostOps1 X (Proc.devRef .tc main_v142) = un2 (X (Proc.devRef .tc main_v76_3)) := by
  unfold_abbrev_sides
  after_results
  rfl

theorem line2_3 (X : Valuation τ sig (Elt F)) : StableHlo.after hostOps1 X (Proc.devRef .tc main_v144) = un3 (X (Proc.devRef .tc main_v76_3)) := by
  unfold_abbrev_sides
  after_results
  rfl

theorem line2_4 (X : Valuation τ sig (Elt F)) : StableHlo.after hostOps1 X (Proc.devRef .tc main_v146) = un4 (X (Proc.devRef .tc main_v76_3)) := by
  unfold_abbrev_sides
  after_results
  rfl

theorem line2_5 (X : Valuation τ sig (Elt F)) : StableHlo.after hostOps1 X (Proc.devRef .tc main_v148) = un5 (X (Proc.devRef .tc main_v76_3)) := by
  unfold_abbrev_sides
  after_results
  rfl

theorem line2_6 (X : Valuation τ sig (Elt F)) : StableHlo.after hostOps1 X (Proc.devRef .tc main_v150) = un6 (X (Proc.devRef .tc main_v76_3)) := by
  unfold_abbrev_sides
  after_results
  rfl

theorem line2_7 (X : Valuation τ sig (Elt F)) : StableHlo.after hostOps1 X (Proc.devRef .tc main_v152) = un7 (X (Proc.devRef .tc main_v76_3)) := by
  unfold_abbrev_sides
  after_results
  rfl

theorem line2_8 (X : Valuation τ sig (Elt F)) : StableHlo.after hostOps1 X (Proc.devRef .tc main_v154) = un8 (X (Proc.devRef .tc main_v76_3)) := by
  unfold_abbrev_sides
  after_results
  rfl

theorem line2_9 (X : Valuation τ sig (Elt F)) : StableHlo.after hostOps1 X (Proc.devRef .tc main_v156) = un9 (X (Proc.devRef .tc main_v76_3)) := by
  unfold_abbrev_sides
  after_results
  rfl

theorem line2_10 (X : Valuation τ sig (Elt F)) : StableHlo.after hostOps1 X (Proc.devRef .tc main_v158) = un10 (X (Proc.devRef .tc main_v76_3)) := by
  unfold_abbrev_sides
  after_results
  rfl

theorem line2_11 (X : Valuation τ sig (Elt F)) : StableHlo.after hostOps1 X (Proc.devRef .tc main_v160) = un11 (X (Proc.devRef .tc main_v76_3)) := by
  unfold_abbrev_sides
  after_results
  rfl

theorem line2_12 (X : Valuation τ sig (Elt F)) : StableHlo.after hostOps1 X (Proc.devRef .tc main_v162) = un12 (X (Proc.devRef .tc main_v76_3)) := by
  unfold_abbrev_sides
  after_results
  rfl

theorem line2_13 (X : Valuation τ sig (Elt F)) : StableHlo.after hostOps1 X (Proc.devRef .tc main_v164) = un13 (X (Proc.devRef .tc main_v76_3)) := by
  unfold_abbrev_sides
  after_results
  rfl

theorem line2_14 (X : Valuation τ sig (Elt F)) : StableHlo.after hostOps1 X (Proc.devRef .tc main_v166) = un14 (X (Proc.devRef .tc main_v76_3)) := by
  unfold_abbrev_sides
  after_results
  rfl

end

end Cert.Kernel7Ideal.Opt
-- ==== Proof.OSmall.lean ====
module

public import proofs.«01_k».proof.Proof.OHost

/-! # The optimiser's update of the small parameters

The launch has one point, which takes the whole packed arrays; every result is one parameter's update or new moment. -/

@[expose] public section

set_option maxRecDepth 16384

namespace Cert.Kernel7Ideal.Opt

open Cert.Kernel7Ideal Cert.Kernel7Ideal.Gen Idealize.ShloMosaic Idealize.ShloMosaic.TcCoe Idealize.SL.Sem

noncomputable section

variable {F : FTy → Type} [FloatOps F]

/-- An entry's new first moment. -/
def mom (g a : Elt F .f32) : Elt F .f32 := k0_pay2 (F := F) (fun _ => g) (fun _ => a) (ix2 (n0 := 2352) (n1 := 128) 0 0)
/-- An entry's new second moment. -/
def sqm (g b : Elt F .f32) : Elt F .f32 := k0_pay3 (F := F) (fun _ => g) (fun _ => b) (ix2 (n0 := 2352) (n1 := 128) 0 0)
/-- An entry's update. -/
def upd (g w a b : Elt F .f32) : Elt F .f32 :=
  k0_pay4 (F := F) (fun _ => g) (fun _ => a) (fun _ => b) (fun _ => w) (ix2 (n0 := 2352) (n1 := 128) 0 0)

variable (m : (ℓ : Loc nD τ sig) → Buf (Elt F) ℓ) (c : Dev nD)

theorem hz : (![0, 0] : Fin 2 → Nat) = fun _ => 0 := funext fun a => by fin_cases a <;> rfl

set_option maxHeartbeats 4000000 in
theorem cut5 (t : Fin cfg0.N) (G W A B : Rows F) :
    (cfg0.win 5).cut (grid0.coords t) (k0_pay4 (((cfg0.win 0).blk t).view.read (Elt F) G) (((cfg0.win 2).blk t).view.read (Elt F) A)
        (((cfg0.win 3).blk t).view.read (Elt F) B) (((cfg0.win 1).blk t).view.read (Elt F) W))
      = ((cfg0.win 5).blk t).view.read (Elt F) (fun i => upd (G i) (W i) (A i) (B i) : Rows F) := by
  unfold upd k0_pay4 k0_pay3 k0_pay2 k0_pay1
  simp only [shapeCast_self]
  rfl
theorem cut6 (t : Fin cfg0.N) (G A : Rows F) :
    (cfg0.win 6).cut (grid0.coords t) (k0_pay2 (((cfg0.win 0).blk t).view.read (Elt F) G) (((cfg0.win 2).blk t).view.read (Elt F) A))
      = ((cfg0.win 6).blk t).view.read (Elt F) (fun i => mom (G i) (A i) : Rows F) := by
  unfold mom k0_pay2 k0_pay1
  simp only [shapeCast_self]
  rfl
theorem cut7 (t : Fin cfg0.N) (G B : Rows F) :
    (cfg0.win 7).cut (grid0.coords t) (k0_pay3 (((cfg0.win 0).blk t).view.read (Elt F) G) (((cfg0.win 3).blk t).view.read (Elt F) B))
      = ((cfg0.win 7).blk t).view.read (Elt F) (fun i => sqm (G i) (B i) : Rows F) := by
  unfold sqm k0_pay3 k0_pay1
  simp only [shapeCast_self]
  rfl

theorem flushed5_eq (t : Fin cfg0.N) : (dats m 0 c).flushed 5 t = ((cfg0.win 5).blk t).view.read (Elt F)
    (fun i => upd (V m c main_v18 i) (V m c main_v37 i) (V m c main_v56 i) (V m c main_v75 i) : Rows F) := by
  show (cfg0.win 5).cut (grid0.coords t) ((dats m 0 c).after 5 t) = _
  rw [after0_5]
  unfold out0_5
  rw [View.canon_unit_zero hz]
  simp only [View.ld_unit_zero (S := S2352x128) hz]
  exact cut5 t (V m c main_v18) (V m c main_v37) (V m c main_v56) (V m c main_v75)
theorem flushed6_eq (t : Fin cfg0.N) : (dats m 0 c).flushed 6 t = ((cfg0.win 6).blk t).view.read (Elt F)
    (fun i => mom (V m c main_v18 i) (V m c main_v56 i) : Rows F) := by
  show (cfg0.win 6).cut (grid0.coords t) ((dats m 0 c).after 6 t) = _
  rw [after0_6]
  unfold out0_6
  rw [View.canon_unit_zero hz]
  simp only [View.ld_unit_zero (S := S2352x128) hz]
  exact cut6 t (V m c main_v18) (V m c main_v56)
theorem flushed7_eq (t : Fin cfg0.N) : (dats m 0 c).flushed 7 t = ((cfg0.win 7).blk t).view.read (Elt F)
    (fun i => sqm (V m c main_v18 i) (V m c main_v75 i) : Rows F) := by
  show (cfg0.win 7).cut (grid0.coords t) ((dats m 0 c).after 7 t) = _
  rw [after0_7]
  unfold out0_7
  rw [View.canon_unit_zero hz]
  simp only [View.ld_unit_zero (S := S2352x128) hz]
  exact cut7 t (V m c main_v18) (V m c main_v75)

theorem idx5 : ∀ t : Fin cfg0.N, win0_5.index t = ![0, 0] := (by decide +kernel : ∀ t : Fin grid0.N, _)

theorem mem_blk (t : Fin cfg0.N) (i : S2352x128.Idx) :
    i ∈ ((cfg0.win 5).blk t).view.set ↔ ∀ a : Fin 2, win0_5.index t a * S2352x128.size a ≤ (i a).val ∧ (i a).val < win0_5.index t a * S2352x128.size a + S2352x128.size a := by
  show i ∈ ((View.whole main_v76_1).slice (win0_5.rect t)).set ↔ _
  rw [View.set_slice_whole, Rect.mem_set_unit]
  exact Iff.rfl
/-- The one point's block is the whole array. -/
theorem covered (i : S2352x128.Idx) : ∃ t : Fin cfg0.N, (cfg0.win 5).flush t = true ∧ i ∈ ((cfg0.win 5).blk t).view.set := by
  have hN : 0 < cfg0.N := by decide
  refine ⟨⟨0, hN⟩, flush0_5 _, (mem_blk _ i).2 fun a => ?_⟩
  have h := (i a).isLt
  rw [idx5]
  match a with
  | ⟨0, _⟩ => exact ⟨Nat.zero_le _, by simpa using h⟩
  | ⟨1, _⟩ => exact ⟨Nat.zero_le _, by simpa using h⟩

theorem arr5 : (dats m 0 c).arrAt 5 cfg0.N = (fun i => upd (V m c main_v18 i) (V m c main_v37 i) (V m c main_v56 i) (V m c main_v75 i) : Rows F) :=
  (dats m 0 c).arrAt_eq_of_cover 5 _ (fun t _ => flushed5_eq m c t) covered
theorem arr6 : (dats m 0 c).arrAt 6 cfg0.N = (fun i => mom (V m c main_v18 i) (V m c main_v56 i) : Rows F) :=
  (dats m 0 c).arrAt_eq_of_cover 6 _ (fun t _ => flushed6_eq m c t) covered
theorem arr7 : (dats m 0 c).arrAt 7 cfg0.N = (fun i => sqm (V m c main_v18 i) (V m c main_v75 i) : Rows F) :=
  (dats m 0 c).arrAt_eq_of_cover 7 _ (fun t _ => flushed7_eq m c t) covered

theorem V18 : V m c main_v18 = pack (args0 fun b => m (c, b)) := by
  unfold V V0
  rw [List.flatten_singleton]
  exact before0 _
theorem V37 : V m c main_v37 = pack (args1 fun b => m (c, b)) := by
  unfold V V0
  rw [List.flatten_singleton]
  exact before1 _
theorem V56 : V m c main_v56 = pack (args2 fun b => m (c, b)) := by
  unfold V V0
  rw [List.flatten_singleton]
  exact before2 _
theorem V75 : V m c main_v75 = pack (args3 fun b => m (c, b)) := by
  unfold V V0
  rw [List.flatten_singleton]
  exact before3 _

theorem win_arr (w : Fin cfg0.W) : Pipeline.withArrays spec0 c (V0 m c) (fun w => (dats m 0 c).arrAt w cfg0.N) (Proc.devRef .tc (Pipeline.arrRef spec0 w))
    = (dats m 0 c).arrAt w cfg0.N :=
  Pipeline.withArrays_arr spec0 launch0.win.arr_inj c (V0 m c) (fun w => (dats m 0 c).arrAt w cfg0.N) w

/-- What the run leaves in a result. -/
def result (r : Ref sig .tc) : Buf (Elt F) ((c.tc : Thread nD τ).loc r) :=
  Pipeline.afterTail₀ cfgs (dats m) 0 (V0 m) [hostOps1] c r

theorem result0_0 : result m c main_v78 = fun i => upd (m ((c.tc : Thread nD τ).loc main_arg0) i) (m ((c.tc : Thread nD τ).loc main_arg15) i) (m ((c.tc : Thread nD τ).loc main_arg30) i) (m ((c.tc : Thread nD τ).loc main_arg45) i) := by
  unfold result Pipeline.afterTail₀
  rw [List.flatten_singleton, line0_0]
  refine (congrArg un0 ((win_arr m c 5).trans (arr5 m c))).trans ?_
  rw [V18, V37, V56, V75]
  show (fun i => upd (un0 (pack (args0 fun b => m (c, b))) i) (un0 (pack (args1 fun b => m (c, b))) i) (un0 (pack (args2 fun b => m (c, b))) i) (un0 (pack (args3 fun b => m (c, b))) i)) = _
  rw [un_pack0, un_pack0, un_pack0, un_pack0]
  rfl
theorem result0_1 : result m c main_v80 = fun i => upd (m ((c.tc : Thread nD τ).loc main_arg1) i) (m ((c.tc : Thread nD τ).loc main_arg16) i) (m ((c.tc : Thread nD τ).loc main_arg31) i) (m ((c.tc : Thread nD τ).loc main_arg46) i) := by
  unfold result Pipeline.afterTail₀
  rw [List.flatten_singleton, line0_1]
  refine (congrArg un1 ((win_arr m c 5).trans (arr5 m c))).trans ?_
  rw [V18, V37, V56, V75]
  show (fun i => upd (un1 (pack (args0 fun b => m (c, b))) i) (un1 (pack (args1 fun b => m (c, b))) i) (un1 (pack (args2 fun b => m (c, b))) i) (un1 (pack (args3 fun b => m (c, b))) i)) = _
  rw [un_pack1, un_pack1, un_pack1, un_pack1]
  rfl
theorem result0_2 : result m c main_v82 = fun i => upd (m ((c.tc : Thread nD τ).loc main_arg2) i) (m ((c.tc : Thread nD τ).loc main_arg17) i) (m ((c.tc : Thread nD τ).loc main_arg32) i) (m ((c.tc : Thread nD τ).loc main_arg47) i) := by
  unfold result Pipeline.afterTail₀
  rw [List.flatten_singleton, line0_2]
  refine (congrArg un2 ((win_arr m c 5).trans (arr5 m c))).trans ?_
  rw [V18, V37, V56, V75]
  show (fun i => upd (un2 (pack (args0 fun b => m (c, b))) i) (un2 (pack (args1 fun b => m (c, b))) i) (un2 (pack (args2 fun b => m (c, b))) i) (un2 (pack (args3 fun b => m (c, b))) i)) = _
  rw [un_pack2, un_pack2, un_pack2, un_pack2]
  rfl
theorem result0_3 : result m c main_v84 = fun i => upd (m ((c.tc : Thread nD τ).loc main_arg3) i) (m ((c.tc : Thread nD τ).loc main_arg18) i) (m ((c.tc : Thread nD τ).loc main_arg33) i) (m ((c.tc : Thread nD τ).loc main_arg48) i) := by
  unfold result Pipeline.afterTail₀
  rw [List.flatten_singleton, line0_3]
  refine (congrArg un3 ((win_arr m c 5).trans (arr5 m c))).trans ?_
  rw [V18, V37, V56, V75]
  show (fun i => upd (un3 (pack (args0 fun b => m (c, b))) i) (un3 (pack (args1 fun b => m (c, b))) i) (un3 (pack (args2 fun b => m (c, b))) i) (un3 (pack (args3 fun b => m (c, b))) i)) = _
  rw [un_pack3, un_pack3, un_pack3, un_pack3]
  rfl
theorem result0_4 : result m c main_v86 = fun i => upd (m ((c.tc : Thread nD τ).loc main_arg4) i) (m ((c.tc : Thread nD τ).loc main_arg19) i) (m ((c.tc : Thread nD τ).loc main_arg34) i) (m ((c.tc : Thread nD τ).loc main_arg49) i) := by
  unfold result Pipeline.afterTail₀
  rw [List.flatten_singleton, line0_4]
  refine (congrArg un4 ((win_arr m c 5).trans (arr5 m c))).trans ?_
  rw [V18, V37, V56, V75]
  show (fun i => upd (un4 (pack (args0 fun b => m (c, b))) i) (un4 (pack (args1 fun b => m (c, b))) i) (un4 (pack (args2 fun b => m (c, b))) i) (un4 (pack (args3 fun b => m (c, b))) i)) = _
  rw [un_pack4, un_pack4, un_pack4, un_pack4]
  rfl
theorem result0_5 : result m c main_v88 = fun i => upd (m ((c.tc : Thread nD τ).loc main_arg5) i) (m ((c.tc : Thread nD τ).loc main_arg20) i) (m ((c.tc : Thread nD τ).loc main_arg35) i) (m ((c.tc : Thread nD τ).loc main_arg50) i) := by
  unfold result Pipeline.afterTail₀
  rw [List.flatten_singleton, line0_5]
  refine (congrArg un5 ((win_arr m c 5).trans (arr5 m c))).trans ?_
  rw [V18, V37, V56, V75]
  show (fun i => upd (un5 (pack (args0 fun b => m (c, b))) i) (un5 (pack (args1 fun b => m (c, b))) i) (un5 (pack (args2 fun b => m (c, b))) i) (un5 (pack (args3 fun b => m (c, b))) i)) = _
  rw [un_pack5, un_pack5, un_pack5, un_pack5]
  rfl
theorem result0_6 : result m c main_v90 = fun i => upd (m ((c.tc : Thread nD τ).loc main_arg6) i) (m ((c.tc : Thread nD τ).loc main_arg21) i) (m ((c.tc : Thread nD τ).loc main_arg36) i) (m ((c.tc : Thread nD τ).loc main_arg51) i) := by
  unfold result Pipeline.afterTail₀
  rw [List.flatten_singleton, line0_6]
  refine (congrArg un6 ((win_arr m c 5).trans (arr5 m c))).trans ?_
  rw [V18, V37, V56, V75]
  show (fun i => upd (un6 (pack (args0 fun b => m (c, b))) i) (un6 (pack (args1 fun b => m (c, b))) i) (un6 (pack (args2 fun b => m (c, b))) i) (un6 (pack (args3 fun b => m (c, b))) i)) = _
  rw [un_pack6, un_pack6, un_pack6, un_pack6]
  rfl
theorem result0_7 : result m c main_v92 = fun i => upd (m ((c.tc : Thread nD τ).loc main_arg7) i) (m ((c.tc : Thread nD τ).loc main_arg22) i) (m ((c.tc : Thread nD τ).loc main_arg37) i) (m ((c.tc : Thread nD τ).loc main_arg52) i) := by
  unfold result Pipeline.afterTail₀
  rw [List.flatten_singleton, line0_7]
  refine (congrArg un7 ((win_arr m c 5).trans (arr5 m c))).trans ?_
  rw [V18, V37, V56, V75]
  show (fun i => upd (un7 (pack (args0 fun b => m (c, b))) i) (un7 (pack (args1 fun b => m (c, b))) i) (un7 (pack (args2 fun b => m (c, b))) i) (un7 (pack (args3 fun b => m (c, b))) i)) = _
  rw [un_pack7, un_pack7, un_pack7, un_pack7]
  rfl
theorem result0_8 : result m c main_v94 = fun i => upd (m ((c.tc : Thread nD τ).loc main_arg8) i) (m ((c.tc : Thread nD τ).loc main_arg23) i) (m ((c.tc : Thread nD τ).loc main_arg38) i) (m ((c.tc : Thread nD τ).loc main_arg53) i) := by
  unfold result Pipeline.afterTail₀
  rw [List.flatten_singleton, line0_8]
  refine (congrArg un8 ((win_arr m c 5).trans (arr5 m c))).trans ?_
  rw [V18, V37, V56, V75]
  show (fun i => upd (un8 (pack (args0 fun b => m (c, b))) i) (un8 (pack (args1 fun b => m (c, b))) i) (un8 (pack (args2 fun b => m (c, b))) i) (un8 (pack (args3 fun b => m (c, b))) i)) = _
  rw [un_pack8, un_pack8, un_pack8, un_pack8]
  rfl
theorem result0_9 : result m c main_v96 = fun i => upd (m ((c.tc : Thread nD τ).loc main_arg9) i) (m ((c.tc : Thread nD τ).loc main_arg24) i) (m ((c.tc : Thread nD τ).loc main_arg39) i) (m ((c.tc : Thread nD τ).loc main_arg54) i) := by
  unfold result Pipeline.afterTail₀
  rw [List.flatten_singleton, line0_9]
  refine (congrArg un9 ((win_arr m c 5).trans (arr5 m c))).trans ?_
  rw [V18, V37, V56, V75]
  show (fun i => upd (un9 (pack (args0 fun b => m (c, b))) i) (un9 (pack (args1 fun b => m (c, b))) i) (un9 (pack (args2 fun b => m (c, b))) i) (un9 (pack (args3 fun b => m (c, b))) i)) = _
  rw [un_pack9, un_pack9, un_pack9, un_pack9]
  rfl
theorem result0_10 : result m c main_v98 = fun i => upd (m ((c.tc : Thread nD τ).loc main_arg10) i) (m ((c.tc : Thread nD τ).loc main_arg25) i) (m ((c.tc : Thread nD τ).loc main_arg40) i) (m ((c.tc : Thread nD τ).loc main_arg55) i) := by
  unfold result Pipeline.afterTail₀
  rw [List.flatten_singleton, line0_10]
  refine (congrArg un10 ((win_arr m c 5).trans (arr5 m c))).trans ?_
  rw [V18, V37, V56, V75]
  show (fun i => upd (un10 (pack (args0 fun b => m (c, b))) i) (un10 (pack (args1 fun b => m (c, b))) i) (un10 (pack (args2 fun b => m (c, b))) i) (un10 (pack (args3 fun b => m (c, b))) i)) = _
  rw [un_pack10, un_pack10, un_pack10, un_pack10]
  rfl
theorem result0_11 : result m c main_v100 = fun i => upd (m ((c.tc : Thread nD τ).loc main_arg11) i) (m ((c.tc : Thread nD τ).loc main_arg26) i) (m ((c.tc : Thread nD τ).loc main_arg41) i) (m ((c.tc : Thread nD τ).loc main_arg56) i) := by
  unfold result Pipeline.afterTail₀
  rw [List.flatten_singleton, line0_11]
  refine (congrArg un11 ((win_arr m c 5).trans (arr5 m c))).trans ?_
  rw [V18, V37, V56, V75]
  show (fun i => upd (un11 (pack (args0 fun b => m (c, b))) i) (un11 (pack (args1 fun b => m (c, b))) i) (un11 (pack (args2 fun b => m (c, b))) i) (un11 (pack (args3 fun b => m (c, b))) i)) = _
  rw [un_pack11, un_pack11, un_pack11, un_pack11]
  rfl
theorem result0_12 : result m c main_v102 = fun i => upd (m ((c.tc : Thread nD τ).loc main_arg12) i) (m ((c.tc : Thread nD τ).loc main_arg27) i) (m ((c.tc : Thread nD τ).loc main_arg42) i) (m ((c.tc : Thread nD τ).loc main_arg57) i) := by
  unfold result Pipeline.afterTail₀
  rw [List.flatten_singleton, line0_12]
  refine (congrArg un12 ((win_arr m c 5).trans (arr5 m c))).trans ?_
  rw [V18, V37, V56, V75]
  show (fun i => upd (un12 (pack (args0 fun b => m (c, b))) i) (un12 (pack (args1 fun b => m (c, b))) i) (un12 (pack (args2 fun b => m (c, b))) i) (un12 (pack (args3 fun b => m (c, b))) i)) = _
  rw [un_pack12, un_pack12, un_pack12, un_pack12]
  rfl
theorem result0_13 : result m c main_v104 = fun i => upd (m ((c.tc : Thread nD τ).loc main_arg13) i) (m ((c.tc : Thread nD τ).loc main_arg28) i) (m ((c.tc : Thread nD τ).loc main_arg43) i) (m ((c.tc : Thread nD τ).loc main_arg58) i) := by
  unfold result Pipeline.afterTail₀
  rw [List.flatten_singleton, line0_13]
  refine (congrArg un13 ((win_arr m c 5).trans (arr5 m c))).trans ?_
  rw [V18, V37, V56, V75]
  show (fun i => upd (un13 (pack (args0 fun b => m (c, b))) i) (un13 (pack (args1 fun b => m (c, b))) i) (un13 (pack (args2 fun b => m (c, b))) i) (un13 (pack (args3 fun b => m (c, b))) i)) = _
  rw [un_pack13, un_pack13, un_pack13, un_pack13]
  rfl
theorem result0_14 : result m c main_v106 = fun i => upd (m ((c.tc : Thread nD τ).loc main_arg14) i) (m ((c.tc : Thread nD τ).loc main_arg29) i) (m ((c.tc : Thread nD τ).loc main_arg44) i) (m ((c.tc : Thread nD τ).loc main_arg59) i) := by
  unfold result Pipeline.afterTail₀
  rw [List.flatten_singleton, line0_14]
  refine (congrArg un14 ((win_arr m c 5).trans (arr5 m c))).trans ?_
  rw [V18, V37, V56, V75]
  show (fun i => upd (un14 (pack (args0 fun b => m (c, b))) i) (un14 (pack (args1 fun b => m (c, b))) i) (un14 (pack (args2 fun b => m (c, b))) i) (un14 (pack (args3 fun b => m (c, b))) i)) = _
  rw [un_pack14, un_pack14, un_pack14, un_pack14]
  rfl
theorem result1_0 : result m c main_v108 = fun i => mom (m ((c.tc : Thread nD τ).loc main_arg0) i) (m ((c.tc : Thread nD τ).loc main_arg30) i) := by
  unfold result Pipeline.afterTail₀
  rw [List.flatten_singleton, line1_0]
  refine (congrArg un0 ((win_arr m c 6).trans (arr6 m c))).trans ?_
  rw [V18, V56]
  show (fun i => mom (un0 (pack (args0 fun b => m (c, b))) i) (un0 (pack (args2 fun b => m (c, b))) i)) = _
  rw [un_pack0, un_pack0]
  rfl
theorem result1_1 : result m c main_v110 = fun i => mom (m ((c.tc : Thread nD τ).loc main_arg1) i) (m ((c.tc : Thread nD τ).loc main_arg31) i) := by
  unfold result Pipeline.afterTail₀
  rw [List.flatten_singleton, line1_1]
  refine (congrArg un1 ((win_arr m c 6).trans (arr6 m c))).trans ?_
  rw [V18, V56]
  show (fun i => mom (un1 (pack (args0 fun b => m (c, b))) i) (un1 (pack (args2 fun b => m (c, b))) i)) = _
  rw [un_pack1, un_pack1]
  rfl
theorem result1_2 : result m c main_v112 = fun i => mom (m ((c.tc : Thread nD τ).loc main_arg2) i) (m ((c.tc : Thread nD τ).loc main_arg32) i) := by
  unfold result Pipeline.afterTail₀
  rw [List.flatten_singleton, line1_2]
  refine (congrArg un2 ((win_arr m c 6).trans (arr6 m c))).trans ?_
  rw [V18, V56]
  show (fun i => mom (un2 (pack (args0 fun b => m (c, b))) i) (un2 (pack (args2 fun b => m (c, b))) i)) = _
  rw [un_pack2, un_pack2]
  rfl
theorem result1_3 : result m c main_v114 = fun i => mom (m ((c.tc : Thread nD τ).loc main_arg3) i) (m ((c.tc : Thread nD τ).loc main_arg33) i) := by
  unfold result Pipeline.afterTail₀
  rw [List.flatten_singleton, line1_3]
  refine (congrArg un3 ((win_arr m c 6).trans (arr6 m c))).trans ?_
  rw [V18, V56]
  show (fun i => mom (un3 (pack (args0 fun b => m (c, b))) i) (un3 (pack (args2 fun b => m (c, b))) i)) = _
  rw [un_pack3, un_pack3]
  rfl
theorem result1_4 : result m c main_v116 = fun i => mom (m ((c.tc : Thread nD τ).loc main_arg4) i) (m ((c.tc : Thread nD τ).loc main_arg34) i) := by
  unfold result Pipeline.afterTail₀
  rw [List.flatten_singleton, line1_4]
  refine (congrArg un4 ((win_arr m c 6).trans (arr6 m c))).trans ?_
  rw [V18, V56]
  show (fun i => mom (un4 (pack (args0 fun b => m (c, b))) i) (un4 (pack (args2 fun b => m (c, b))) i)) = _
  rw [un_pack4, un_pack4]
  rfl
theorem result1_5 : result m c main_v118 = fun i => mom (m ((c.tc : Thread nD τ).loc main_arg5) i) (m ((c.tc : Thread nD τ).loc main_arg35) i) := by
  unfold result Pipeline.afterTail₀
  rw [List.flatten_singleton, line1_5]
  refine (congrArg un5 ((win_arr m c 6).trans (arr6 m c))).trans ?_
  rw [V18, V56]
  show (fun i => mom (un5 (pack (args0 fun b => m (c, b))) i) (un5 (pack (args2 fun b => m (c, b))) i)) = _
  rw [un_pack5, un_pack5]
  rfl
theorem result1_6 : result m c main_v120 = fun i => mom (m ((c.tc : Thread nD τ).loc main_arg6) i) (m ((c.tc : Thread nD τ).loc main_arg36) i) := by
  unfold result Pipeline.afterTail₀
  rw [List.flatten_singleton, line1_6]
  refine (congrArg un6 ((win_arr m c 6).trans (arr6 m c))).trans ?_
  rw [V18, V56]
  show (fun i => mom (un6 (pack (args0 fun b => m (c, b))) i) (un6 (pack (args2 fun b => m (c, b))) i)) = _
  rw [un_pack6, un_pack6]
  rfl
theorem result1_7 : result m c main_v122 = fun i => mom (m ((c.tc : Thread nD τ).loc main_arg7) i) (m ((c.tc : Thread nD τ).loc main_arg37) i) := by
  unfold result Pipeline.afterTail₀
  rw [List.flatten_singleton, line1_7]
  refine (congrArg un7 ((win_arr m c 6).trans (arr6 m c))).trans ?_
  rw [V18, V56]
  show (fun i => mom (un7 (pack (args0 fun b => m (c, b))) i) (un7 (pack (args2 fun b => m (c, b))) i)) = _
  rw [un_pack7, un_pack7]
  rfl
theorem result1_8 : result m c main_v124 = fun i => mom (m ((c.tc : Thread nD τ).loc main_arg8) i) (m ((c.tc : Thread nD τ).loc main_arg38) i) := by
  unfold result Pipeline.afterTail₀
  rw [List.flatten_singleton, line1_8]
  refine (congrArg un8 ((win_arr m c 6).trans (arr6 m c))).trans ?_
  rw [V18, V56]
  show (fun i => mom (un8 (pack (args0 fun b => m (c, b))) i) (un8 (pack (args2 fun b => m (c, b))) i)) = _
  rw [un_pack8, un_pack8]
  rfl
theorem result1_9 : result m c main_v126 = fun i => mom (m ((c.tc : Thread nD τ).loc main_arg9) i) (m ((c.tc : Thread nD τ).loc main_arg39) i) := by
  unfold result Pipeline.afterTail₀
  rw [List.flatten_singleton, line1_9]
  refine (congrArg un9 ((win_arr m c 6).trans (arr6 m c))).trans ?_
  rw [V18, V56]
  show (fun i => mom (un9 (pack (args0 fun b => m (c, b))) i) (un9 (pack (args2 fun b => m (c, b))) i)) = _
  rw [un_pack9, un_pack9]
  rfl
theorem result1_10 : result m c main_v128 = fun i => mom (m ((c.tc : Thread nD τ).loc main_arg10) i) (m ((c.tc : Thread nD τ).loc main_arg40) i) := by
  unfold result Pipeline.afterTail₀
  rw [List.flatten_singleton, line1_10]
  refine (congrArg un10 ((win_arr m c 6).trans (arr6 m c))).trans ?_
  rw [V18, V56]
  show (fun i => mom (un10 (pack (args0 fun b => m (c, b))) i) (un10 (pack (args2 fun b => m (c, b))) i)) = _
  rw [un_pack10, un_pack10]
  rfl
theorem result1_11 : result m c main_v130 = fun i => mom (m ((c.tc : Thread nD τ).loc main_arg11) i) (m ((c.tc : Thread nD τ).loc main_arg41) i) := by
  unfold result Pipeline.afterTail₀
  rw [List.flatten_singleton, line1_11]
  refine (congrArg un11 ((win_arr m c 6).trans (arr6 m c))).trans ?_
  rw [V18, V56]
  show (fun i => mom (un11 (pack (args0 fun b => m (c, b))) i) (un11 (pack (args2 fun b => m (c, b))) i)) = _
  rw [un_pack11, un_pack11]
  rfl
theorem result1_12 : result m c main_v132 = fun i => mom (m ((c.tc : Thread nD τ).loc main_arg12) i) (m ((c.tc : Thread nD τ).loc main_arg42) i) := by
  unfold result Pipeline.afterTail₀
  rw [List.flatten_singleton, line1_12]
  refine (congrArg un12 ((win_arr m c 6).trans (arr6 m c))).trans ?_
  rw [V18, V56]
  show (fun i => mom (un12 (pack (args0 fun b => m (c, b))) i) (un12 (pack (args2 fun b => m (c, b))) i)) = _
  rw [un_pack12, un_pack12]
  rfl
theorem result1_13 : result m c main_v134 = fun i => mom (m ((c.tc : Thread nD τ).loc main_arg13) i) (m ((c.tc : Thread nD τ).loc main_arg43) i) := by
  unfold result Pipeline.afterTail₀
  rw [List.flatten_singleton, line1_13]
  refine (congrArg un13 ((win_arr m c 6).trans (arr6 m c))).trans ?_
  rw [V18, V56]
  show (fun i => mom (un13 (pack (args0 fun b => m (c, b))) i) (un13 (pack (args2 fun b => m (c, b))) i)) = _
  rw [un_pack13, un_pack13]
  rfl
theorem result1_14 : result m c main_v136 = fun i => mom (m ((c.tc : Thread nD τ).loc main_arg14) i) (m ((c.tc : Thread nD τ).loc main_arg44) i) := by
  unfold result Pipeline.afterTail₀
  rw [List.flatten_singleton, line1_14]
  refine (congrArg un14 ((win_arr m c 6).trans (arr6 m c))).trans ?_
  rw [V18, V56]
  show (fun i => mom (un14 (pack (args0 fun b => m (c, b))) i) (un14 (pack (args2 fun b => m (c, b))) i)) = _
  rw [un_pack14, un_pack14]
  rfl
theorem result2_0 : result m c main_v138 = fun i => sqm (m ((c.tc : Thread nD τ).loc main_arg0) i) (m ((c.tc : Thread nD τ).loc main_arg45) i) := by
  unfold result Pipeline.afterTail₀
  rw [List.flatten_singleton, line2_0]
  refine (congrArg un0 ((win_arr m c 7).trans (arr7 m c))).trans ?_
  rw [V18, V75]
  show (fun i => sqm (un0 (pack (args0 fun b => m (c, b))) i) (un0 (pack (args3 fun b => m (c, b))) i)) = _
  rw [un_pack0, un_pack0]
  rfl
theorem result2_1 : result m c main_v140 = fun i => sqm (m ((c.tc : Thread nD τ).loc main_arg1) i) (m ((c.tc : Thread nD τ).loc main_arg46) i) := by
  unfold result Pipeline.afterTail₀
  rw [List.flatten_singleton, line2_1]
  refine (congrArg un1 ((win_arr m c 7).trans (arr7 m c))).trans ?_
  rw [V18, V75]
  show (fun i => sqm (un1 (pack (args0 fun b => m (c, b))) i) (un1 (pack (args3 fun b => m (c, b))) i)) = _
  rw [un_pack1, un_pack1]
  rfl
theorem result2_2 : result m c main_v142 = fun i => sqm (m ((c.tc : Thread nD τ).loc main_arg2) i) (m ((c.tc : Thread nD τ).loc main_arg47) i) := by
  unfold result Pipeline.afterTail₀
  rw [List.flatten_singleton, line2_2]
  refine (congrArg un2 ((win_arr m c 7).trans (arr7 m c))).trans ?_
  rw [V18, V75]
  show (fun i => sqm (un2 (pack (args0 fun b => m (c, b))) i) (un2 (pack (args3 fun b => m (c, b))) i)) = _
  rw [un_pack2, un_pack2]
  rfl
theorem result2_3 : result m c main_v144 = fun i => sqm (m ((c.tc : Thread nD τ).loc main_arg3) i) (m ((c.tc : Thread nD τ).loc main_arg48) i) := by
  unfold result Pipeline.afterTail₀
  rw [List.flatten_singleton, line2_3]
  refine (congrArg un3 ((win_arr m c 7).trans (arr7 m c))).trans ?_
  rw [V18, V75]
  show (fun i => sqm (un3 (pack (args0 fun b => m (c, b))) i) (un3 (pack (args3 fun b => m (c, b))) i)) = _
  rw [un_pack3, un_pack3]
  rfl
theorem result2_4 : result m c main_v146 = fun i => sqm (m ((c.tc : Thread nD τ).loc main_arg4) i) (m ((c.tc : Thread nD τ).loc main_arg49) i) := by
  unfold result Pipeline.afterTail₀
  rw [List.flatten_singleton, line2_4]
  refine (congrArg un4 ((win_arr m c 7).trans (arr7 m c))).trans ?_
  rw [V18, V75]
  show (fun i => sqm (un4 (pack (args0 fun b => m (c, b))) i) (un4 (pack (args3 fun b => m (c, b))) i)) = _
  rw [un_pack4, un_pack4]
  rfl
theorem result2_5 : result m c main_v148 = fun i => sqm (m ((c.tc : Thread nD τ).loc main_arg5) i) (m ((c.tc : Thread nD τ).loc main_arg50) i) := by
  unfold result Pipeline.afterTail₀
  rw [List.flatten_singleton, line2_5]
  refine (congrArg un5 ((win_arr m c 7).trans (arr7 m c))).trans ?_
  rw [V18, V75]
  show (fun i => sqm (un5 (pack (args0 fun b => m (c, b))) i) (un5 (pack (args3 fun b => m (c, b))) i)) = _
  rw [un_pack5, un_pack5]
  rfl
theorem result2_6 : result m c main_v150 = fun i => sqm (m ((c.tc : Thread nD τ).loc main_arg6) i) (m ((c.tc : Thread nD τ).loc main_arg51) i) := by
  unfold result Pipeline.afterTail₀
  rw [List.flatten_singleton, line2_6]
  refine (congrArg un6 ((win_arr m c 7).trans (arr7 m c))).trans ?_
  rw [V18, V75]
  show (fun i => sqm (un6 (pack (args0 fun b => m (c, b))) i) (un6 (pack (args3 fun b => m (c, b))) i)) = _
  rw [un_pack6, un_pack6]
  rfl
theorem result2_7 : result m c main_v152 = fun i => sqm (m ((c.tc : Thread nD τ).loc main_arg7) i) (m ((c.tc : Thread nD τ).loc main_arg52) i) := by
  unfold result Pipeline.afterTail₀
  rw [List.flatten_singleton, line2_7]
  refine (congrArg un7 ((win_arr m c 7).trans (arr7 m c))).trans ?_
  rw [V18, V75]
  show (fun i => sqm (un7 (pack (args0 fun b => m (c, b))) i) (un7 (pack (args3 fun b => m (c, b))) i)) = _
  rw [un_pack7, un_pack7]
  rfl
theorem result2_8 : result m c main_v154 = fun i => sqm (m ((c.tc : Thread nD τ).loc main_arg8) i) (m ((c.tc : Thread nD τ).loc main_arg53) i) := by
  unfold result Pipeline.afterTail₀
  rw [List.flatten_singleton, line2_8]
  refine (congrArg un8 ((win_arr m c 7).trans (arr7 m c))).trans ?_
  rw [V18, V75]
  show (fun i => sqm (un8 (pack (args0 fun b => m (c, b))) i) (un8 (pack (args3 fun b => m (c, b))) i)) = _
  rw [un_pack8, un_pack8]
  rfl
theorem result2_9 : result m c main_v156 = fun i => sqm (m ((c.tc : Thread nD τ).loc main_arg9) i) (m ((c.tc : Thread nD τ).loc main_arg54) i) := by
  unfold result Pipeline.afterTail₀
  rw [List.flatten_singleton, line2_9]
  refine (congrArg un9 ((win_arr m c 7).trans (arr7 m c))).trans ?_
  rw [V18, V75]
  show (fun i => sqm (un9 (pack (args0 fun b => m (c, b))) i) (un9 (pack (args3 fun b => m (c, b))) i)) = _
  rw [un_pack9, un_pack9]
  rfl
theorem result2_10 : result m c main_v158 = fun i => sqm (m ((c.tc : Thread nD τ).loc main_arg10) i) (m ((c.tc : Thread nD τ).loc main_arg55) i) := by
  unfold result Pipeline.afterTail₀
  rw [List.flatten_singleton, line2_10]
  refine (congrArg un10 ((win_arr m c 7).trans (arr7 m c))).trans ?_
  rw [V18, V75]
  show (fun i => sqm (un10 (pack (args0 fun b => m (c, b))) i) (un10 (pack (args3 fun b => m (c, b))) i)) = _
  rw [un_pack10, un_pack10]
  rfl
theorem result2_11 : result m c main_v160 = fun i => sqm (m ((c.tc : Thread nD τ).loc main_arg11) i) (m ((c.tc : Thread nD τ).loc main_arg56) i) := by
  unfold result Pipeline.afterTail₀
  rw [List.flatten_singleton, line2_11]
  refine (congrArg un11 ((win_arr m c 7).trans (arr7 m c))).trans ?_
  rw [V18, V75]
  show (fun i => sqm (un11 (pack (args0 fun b => m (c, b))) i) (un11 (pack (args3 fun b => m (c, b))) i)) = _
  rw [un_pack11, un_pack11]
  rfl
theorem result2_12 : result m c main_v162 = fun i => sqm (m ((c.tc : Thread nD τ).loc main_arg12) i) (m ((c.tc : Thread nD τ).loc main_arg57) i) := by
  unfold result Pipeline.afterTail₀
  rw [List.flatten_singleton, line2_12]
  refine (congrArg un12 ((win_arr m c 7).trans (arr7 m c))).trans ?_
  rw [V18, V75]
  show (fun i => sqm (un12 (pack (args0 fun b => m (c, b))) i) (un12 (pack (args3 fun b => m (c, b))) i)) = _
  rw [un_pack12, un_pack12]
  rfl
theorem result2_13 : result m c main_v164 = fun i => sqm (m ((c.tc : Thread nD τ).loc main_arg13) i) (m ((c.tc : Thread nD τ).loc main_arg58) i) := by
  unfold result Pipeline.afterTail₀
  rw [List.flatten_singleton, line2_13]
  refine (congrArg un13 ((win_arr m c 7).trans (arr7 m c))).trans ?_
  rw [V18, V75]
  show (fun i => sqm (un13 (pack (args0 fun b => m (c, b))) i) (un13 (pack (args3 fun b => m (c, b))) i)) = _
  rw [un_pack13, un_pack13]
  rfl
theorem result2_14 : result m c main_v166 = fun i => sqm (m ((c.tc : Thread nD τ).loc main_arg14) i) (m ((c.tc : Thread nD τ).loc main_arg59) i) := by
  unfold result Pipeline.afterTail₀
  rw [List.flatten_singleton, line2_14]
  refine (congrArg un14 ((win_arr m c 7).trans (arr7 m c))).trans ?_
  rw [V18, V75]
  show (fun i => sqm (un14 (pack (args0 fun b => m (c, b))) i) (un14 (pack (args3 fun b => m (c, b))) i)) = _
  rw [un_pack14, un_pack14]
  rfl

set_option maxHeartbeats 4000000 in
/-- The run ends with every parameter's update and new moments, and the arguments as they were. -/
theorem run (ρ : Dev nD → PrngReg) : θ_run defs (onTc (τ := τ) (main (F := F))) ⟨m, fun _ => 0, ρ⟩ fun r => ∀ c : Dev nD,
      (r.2.mem ((c.tc : Thread nD τ).loc main_v78) = (fun i => upd (m ((c.tc : Thread nD τ).loc main_arg0) i) (m ((c.tc : Thread nD τ).loc main_arg15) i) (m ((c.tc : Thread nD τ).loc main_arg30) i) (m ((c.tc : Thread nD τ).loc main_arg45) i)))
      ∧ (r.2.mem ((c.tc : Thread nD τ).loc main_v80) = (fun i => upd (m ((c.tc : Thread nD τ).loc main_arg1) i) (m ((c.tc : Thread nD τ).loc main_arg16) i) (m ((c.tc : Thread nD τ).loc main_arg31) i) (m ((c.tc : Thread nD τ).loc main_arg46) i)))
      ∧ (r.2.mem ((c.tc : Thread nD τ).loc main_v82) = (fun i => upd (m ((c.tc : Thread nD τ).loc main_arg2) i) (m ((c.tc : Thread nD τ).loc main_arg17) i) (m ((c.tc : Thread nD τ).loc main_arg32) i) (m ((c.tc : Thread nD τ).loc main_arg47) i)))
      ∧ (r.2.mem ((c.tc : Thread nD τ).loc main_v84) = (fun i => upd (m ((c.tc : Thread nD τ).loc main_arg3) i) (m ((c.tc : Thread nD τ).loc main_arg18) i) (m ((c.tc : Thread nD τ).loc main_arg33) i) (m ((c.tc : Thread nD τ).loc main_arg48) i)))
      ∧ (r.2.mem ((c.tc : Thread nD τ).loc main_v86) = (fun i => upd (m ((c.tc : Thread nD τ).loc main_arg4) i) (m ((c.tc : Thread nD τ).loc main_arg19) i) (m ((c.tc : Thread nD τ).loc main_arg34) i) (m ((c.tc : Thread nD τ).loc main_arg49) i)))
      ∧ (r.2.mem ((c.tc : Thread nD τ).loc main_v88) = (fun i => upd (m ((c.tc : Thread nD τ).loc main_arg5) i) (m ((c.tc : Thread nD τ).loc main_arg20) i) (m ((c.tc : Thread nD τ).loc main_arg35) i) (m ((c.tc : Thread nD τ).loc main_arg50) i)))
      ∧ (r.2.mem ((c.tc : Thread nD τ).loc main_v90) = (fun i => upd (m ((c.tc : Thread nD τ).loc main_arg6) i) (m ((c.tc : Thread nD τ).loc main_arg21) i) (m ((c.tc : Thread nD τ).loc main_arg36) i) (m ((c.tc : Thread nD τ).loc main_arg51) i)))
      ∧ (r.2.mem ((c.tc : Thread nD τ).loc main_v92) = (fun i => upd (m ((c.tc : Thread nD τ).loc main_arg7) i) (m ((c.tc : Thread nD τ).loc main_arg22) i) (m ((c.tc : Thread nD τ).loc main_arg37) i) (m ((c.tc : Thread nD τ).loc main_arg52) i)))
      ∧ (r.2.mem ((c.tc : Thread nD τ).loc main_v94) = (fun i => upd (m ((c.tc : Thread nD τ).loc main_arg8) i) (m ((c.tc : Thread nD τ).loc main_arg23) i) (m ((c.tc : Thread nD τ).loc main_arg38) i) (m ((c.tc : Thread nD τ).loc main_arg53) i)))
      ∧ (r.2.mem ((c.tc : Thread nD τ).loc main_v96) = (fun i => upd (m ((c.tc : Thread nD τ).loc main_arg9) i) (m ((c.tc : Thread nD τ).loc main_arg24) i) (m ((c.tc : Thread nD τ).loc main_arg39) i) (m ((c.tc : Thread nD τ).loc main_arg54) i)))
      ∧ (r.2.mem ((c.tc : Thread nD τ).loc main_v98) = (fun i => upd (m ((c.tc : Thread nD τ).loc main_arg10) i) (m ((c.tc : Thread nD τ).loc main_arg25) i) (m ((c.tc : Thread nD τ).loc main_arg40) i) (m ((c.tc : Thread nD τ).loc main_arg55) i)))
      ∧ (r.2.mem ((c.tc : Thread nD τ).loc main_v100) = (fun i => upd (m ((c.tc : Thread nD τ).loc main_arg11) i) (m ((c.tc : Thread nD τ).loc main_arg26) i) (m ((c.tc : Thread nD τ).loc main_arg41) i) (m ((c.tc : Thread nD τ).loc main_arg56) i)))
      ∧ (r.2.mem ((c.tc : Thread nD τ).loc main_v102) = (fun i => upd (m ((c.tc : Thread nD τ).loc main_arg12) i) (m ((c.tc : Thread nD τ).loc main_arg27) i) (m ((c.tc : Thread nD τ).loc main_arg42) i) (m ((c.tc : Thread nD τ).loc main_arg57) i)))
      ∧ (r.2.mem ((c.tc : Thread nD τ).loc main_v104) = (fun i => upd (m ((c.tc : Thread nD τ).loc main_arg13) i) (m ((c.tc : Thread nD τ).loc main_arg28) i) (m ((c.tc : Thread nD τ).loc main_arg43) i) (m ((c.tc : Thread nD τ).loc main_arg58) i)))
      ∧ (r.2.mem ((c.tc : Thread nD τ).loc main_v106) = (fun i => upd (m ((c.tc : Thread nD τ).loc main_arg14) i) (m ((c.tc : Thread nD τ).loc main_arg29) i) (m ((c.tc : Thread nD τ).loc main_arg44) i) (m ((c.tc : Thread nD τ).loc main_arg59) i)))
      ∧ (r.2.mem ((c.tc : Thread nD τ).loc main_v108) = (fun i => mom (m ((c.tc : Thread nD τ).loc main_arg0) i) (m ((c.tc : Thread nD τ).loc main_arg30) i)))
      ∧ (r.2.mem ((c.tc : Thread nD τ).loc main_v110) = (fun i => mom (m ((c.tc : Thread nD τ).loc main_arg1) i) (m ((c.tc : Thread nD τ).loc main_arg31) i)))
      ∧ (r.2.mem ((c.tc : Thread nD τ).loc main_v112) = (fun i => mom (m ((c.tc : Thread nD τ).loc main_arg2) i) (m ((c.tc : Thread nD τ).loc main_arg32) i)))
      ∧ (r.2.mem ((c.tc : Thread nD τ).loc main_v114) = (fun i => mom (m ((c.tc : Thread nD τ).loc main_arg3) i) (m ((c.tc : Thread nD τ).loc main_arg33) i)))
      ∧ (r.2.mem ((c.tc : Thread nD τ).loc main_v116) = (fun i => mom (m ((c.tc : Thread nD τ).loc main_arg4) i) (m ((c.tc : Thread nD τ).loc main_arg34) i)))
      ∧ (r.2.mem ((c.tc : Thread nD τ).loc main_v118) = (fun i => mom (m ((c.tc : Thread nD τ).loc main_arg5) i) (m ((c.tc : Thread nD τ).loc main_arg35) i)))
      ∧ (r.2.mem ((c.tc : Thread nD τ).loc main_v120) = (fun i => mom (m ((c.tc : Thread nD τ).loc main_arg6) i) (m ((c.tc : Thread nD τ).loc main_arg36) i)))
      ∧ (r.2.mem ((c.tc : Thread nD τ).loc main_v122) = (fun i => mom (m ((c.tc : Thread nD τ).loc main_arg7) i) (m ((c.tc : Thread nD τ).loc main_arg37) i)))
      ∧ (r.2.mem ((c.tc : Thread nD τ).loc main_v124) = (fun i => mom (m ((c.tc : Thread nD τ).loc main_arg8) i) (m ((c.tc : Thread nD τ).loc main_arg38) i)))
      ∧ (r.2.mem ((c.tc : Thread nD τ).loc main_v126) = (fun i => mom (m ((c.tc : Thread nD τ).loc main_arg9) i) (m ((c.tc : Thread nD τ).loc main_arg39) i)))
      ∧ (r.2.mem ((c.tc : Thread nD τ).loc main_v128) = (fun i => mom (m ((c.tc : Thread nD τ).loc main_arg10) i) (m ((c.tc : Thread nD τ).loc main_arg40) i)))
      ∧ (r.2.mem ((c.tc : Thread nD τ).loc main_v130) = (fun i => mom (m ((c.tc : Thread nD τ).loc main_arg11) i) (m ((c.tc : Thread nD τ).loc main_arg41) i)))
      ∧ (r.2.mem ((c.tc : Thread nD τ).loc main_v132) = (fun i => mom (m ((c.tc : Thread nD τ).loc main_arg12) i) (m ((c.tc : Thread nD τ).loc main_arg42) i)))
      ∧ (r.2.mem ((c.tc : Thread nD τ).loc main_v134) = (fun i => mom (m ((c.tc : Thread nD τ).loc main_arg13) i) (m ((c.tc : Thread nD τ).loc main_arg43) i)))
      ∧ (r.2.mem ((c.tc : Thread nD τ).loc main_v136) = (fun i => mom (m ((c.tc : Thread nD τ).loc main_arg14) i) (m ((c.tc : Thread nD τ).loc main_arg44) i)))
      ∧ (r.2.mem ((c.tc : Thread nD τ).loc main_v138) = (fun i => sqm (m ((c.tc : Thread nD τ).loc main_arg0) i) (m ((c.tc : Thread nD τ).loc main_arg45) i)))
      ∧ (r.2.mem ((c.tc : Thread nD τ).loc main_v140) = (fun i => sqm (m ((c.tc : Thread nD τ).loc main_arg1) i) (m ((c.tc : Thread nD τ).loc main_arg46) i)))
      ∧ (r.2.mem ((c.tc : Thread nD τ).loc main_v142) = (fun i => sqm (m ((c.tc : Thread nD τ).loc main_arg2) i) (m ((c.tc : Thread nD τ).loc main_arg47) i)))
      ∧ (r.2.mem ((c.tc : Thread nD τ).loc main_v144) = (fun i => sqm (m ((c.tc : Thread nD τ).loc main_arg3) i) (m ((c.tc : Thread nD τ).loc main_arg48) i)))
      ∧ (r.2.mem ((c.tc : Thread nD τ).loc main_v146) = (fun i => sqm (m ((c.tc : Thread nD τ).loc main_arg4) i) (m ((c.tc : Thread nD τ).loc main_arg49) i)))
      ∧ (r.2.mem ((c.tc : Thread nD τ).loc main_v148) = (fun i => sqm (m ((c.tc : Thread nD τ).loc main_arg5) i) (m ((c.tc : Thread nD τ).loc main_arg50) i)))
      ∧ (r.2.mem ((c.tc : Thread nD τ).loc main_v150) = (fun i => sqm (m ((c.tc : Thread nD τ).loc main_arg6) i) (m ((c.tc : Thread nD τ).loc main_arg51) i)))
      ∧ (r.2.mem ((c.tc : Thread nD τ).loc main_v152) = (fun i => sqm (m ((c.tc : Thread nD τ).loc main_arg7) i) (m ((c.tc : Thread nD τ).loc main_arg52) i)))
      ∧ (r.2.mem ((c.tc : Thread nD τ).loc main_v154) = (fun i => sqm (m ((c.tc : Thread nD τ).loc main_arg8) i) (m ((c.tc : Thread nD τ).loc main_arg53) i)))
      ∧ (r.2.mem ((c.tc : Thread nD τ).loc main_v156) = (fun i => sqm (m ((c.tc : Thread nD τ).loc main_arg9) i) (m ((c.tc : Thread nD τ).loc main_arg54) i)))
      ∧ (r.2.mem ((c.tc : Thread nD τ).loc main_v158) = (fun i => sqm (m ((c.tc : Thread nD τ).loc main_arg10) i) (m ((c.tc : Thread nD τ).loc main_arg55) i)))
      ∧ (r.2.mem ((c.tc : Thread nD τ).loc main_v160) = (fun i => sqm (m ((c.tc : Thread nD τ).loc main_arg11) i) (m ((c.tc : Thread nD τ).loc main_arg56) i)))
      ∧ (r.2.mem ((c.tc : Thread nD τ).loc main_v162) = (fun i => sqm (m ((c.tc : Thread nD τ).loc main_arg12) i) (m ((c.tc : Thread nD τ).loc main_arg57) i)))
      ∧ (r.2.mem ((c.tc : Thread nD τ).loc main_v164) = (fun i => sqm (m ((c.tc : Thread nD τ).loc main_arg13) i) (m ((c.tc : Thread nD τ).loc main_arg58) i)))
      ∧ (r.2.mem ((c.tc : Thread nD τ).loc main_v166) = (fun i => sqm (m ((c.tc : Thread nD τ).loc main_arg14) i) (m ((c.tc : Thread nD τ).loc main_arg59) i)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)
      ∧ r.2.mem ((c.tc : Thread nD τ).loc main_arg56) = m ((c.tc : Thread nD τ).loc main_arg56)
      ∧ r.2.mem ((c.tc : Thread nD τ).loc main_arg57) = m ((c.tc : Thread nD τ).loc main_arg57)
      ∧ r.2.mem ((c.tc : Thread nD τ).loc main_arg58) = m ((c.tc : Thread nD τ).loc main_arg58)
      ∧ r.2.mem ((c.tc : Thread nD τ).loc main_arg59) = m ((c.tc : Thread nD τ).loc main_arg59) :=
  (θ_run defs _ _).mono (fun r h c => ⟨((h.1 c).2 main_v78 (by decide +kernel)).trans (result0_0 m c),
      ((h.1 c).2 main_v80 (by decide +kernel)).trans (result0_1 m c),
      ((h.1 c).2 main_v82 (by decide +kernel)).trans (result0_2 m c),
      ((h.1 c).2 main_v84 (by decide +kernel)).trans (result0_3 m c),
      ((h.1 c).2 main_v86 (by decide +kernel)).trans (result0_4 m c),
      ((h.1 c).2 main_v88 (by decide +kernel)).trans (result0_5 m c),
      ((h.1 c).2 main_v90 (by decide +kernel)).trans (result0_6 m c),
      ((h.1 c).2 main_v92 (by decide +kernel)).trans (result0_7 m c),
      ((h.1 c).2 main_v94 (by decide +kernel)).trans (result0_8 m c),
      ((h.1 c).2 main_v96 (by decide +kernel)).trans (result0_9 m c),
      ((h.1 c).2 main_v98 (by decide +kernel)).trans (result0_10 m c),
      ((h.1 c).2 main_v100 (by decide +kernel)).trans (result0_11 m c),
      ((h.1 c).2 main_v102 (by decide +kernel)).trans (result0_12 m c),
      ((h.1 c).2 main_v104 (by decide +kernel)).trans (result0_13 m c),
      ((h.1 c).2 main_v106 (by decide +kernel)).trans (result0_14 m c),
      ((h.1 c).2 main_v108 (by decide +kernel)).trans (result1_0 m c),
      ((h.1 c).2 main_v110 (by decide +kernel)).trans (result1_1 m c),
      ((h.1 c).2 main_v112 (by decide +kernel)).trans (result1_2 m c),
      ((h.1 c).2 main_v114 (by decide +kernel)).trans (result1_3 m c),
      ((h.1 c).2 main_v116 (by decide +kernel)).trans (result1_4 m c),
      ((h.1 c).2 main_v118 (by decide +kernel)).trans (result1_5 m c),
      ((h.1 c).2 main_v120 (by decide +kernel)).trans (result1_6 m c),
      ((h.1 c).2 main_v122 (by decide +kernel)).trans (result1_7 m c),
      ((h.1 c).2 main_v124 (by decide +kernel)).trans (result1_8 m c),
      ((h.1 c).2 main_v126 (by decide +kernel)).trans (result1_9 m c),
      ((h.1 c).2 main_v128 (by decide +kernel)).trans (result1_10 m c),
      ((h.1 c).2 main_v130 (by decide +kernel)).trans (result1_11 m c),
      ((h.1 c).2 main_v132 (by decide +kernel)).trans (result1_12 m c),
      ((h.1 c).2 main_v134 (by decide +kernel)).trans (result1_13 m c),
      ((h.1 c).2 main_v136 (by decide +kernel)).trans (result1_14 m c),
      ((h.1 c).2 main_v138 (by decide +kernel)).trans (result2_0 m c),
      ((h.1 c).2 main_v140 (by decide +kernel)).trans (result2_1 m c),
      ((h.1 c).2 main_v142 (by decide +kernel)).trans (result2_2 m c),
      ((h.1 c).2 main_v144 (by decide +kernel)).trans (result2_3 m c),
      ((h.1 c).2 main_v146 (by decide +kernel)).trans (result2_4 m c),
      ((h.1 c).2 main_v148 (by decide +kernel)).trans (result2_5 m c),
      ((h.1 c).2 main_v150 (by decide +kernel)).trans (result2_6 m c),
      ((h.1 c).2 main_v152 (by decide +kernel)).trans (result2_7 m c),
      ((h.1 c).2 main_v154 (by decide +kernel)).trans (result2_8 m c),
      ((h.1 c).2 main_v156 (by decide +kernel)).trans (result2_9 m c),
      ((h.1 c).2 main_v158 (by decide +kernel)).trans (result2_10 m c),
      ((h.1 c).2 main_v160 (by decide +kernel)).trans (result2_11 m c),
      ((h.1 c).2 main_v162 (by decide +kernel)).trans (result2_12 m c),
      ((h.1 c).2 main_v164 (by decide +kernel)).trans (result2_13 m c),
      ((h.1 c).2 main_v166 (by decide +kernel)).trans (result2_14 m c),
      h.2 c⟩) (θ_run_and (run_main m ρ) (unchanged m ρ))

end

end Cert.Kernel7Ideal.Opt
-- ==== Proof.OEq.lean ====
module

public import proofs.«01_k».proof.Defs
public import proofs.«01_k».proof.Proof.OSmall
public import proofs.«01_k».proof.Proof.Gen.Reference7Ideal.Run
public import Idealize.ShloMosaic.Lib.Claim

/-! # The small parameters: the two programs compared

Entry by entry the reference computes the same update and the same new moments. -/

@[expose] public section

set_option maxRecDepth 16384

namespace Cert.Kernel7Ideal.Opt

open Cert.Kernel7Ideal Cert.Kernel7Ideal.Gen Idealize.ShloMosaic Idealize.ShloMosaic.TcCoe Idealize.SL.Sem

set_option maxHeartbeats 8000000 in
/-- The reference ends with its arguments as they were; it has no semaphore. -/
theorem frame_ri : Cert.quiescent_Reference7Ideal := fun m ρ _ =>
  (θ_run Cert.Reference7Ideal.defs _ _).mono (fun r h => ⟨fun c => (h c).2.2.2.2.2.2.2.2.2.2.2.2.2.2.2.2.2.2.2.2.2.2.2.2.2.2.2.2.2.2.2.2.2.2.2.2.2.2.2.2.2.2.2.2.2,
      sem_eq_zero_of_no_sems (by decide) r.2⟩) (Cert.Reference7Ideal.Value.run (F := Ideal) m ρ)

set_option maxHeartbeats 40000000 in
/-- From the same arguments both programs end with the same updates and moments of the small parameters. -/
theorem equal : Cert.algebraic_Kernel7Ideal_Reference7Ideal := by
  intro m g m' g' _ hagree
  refine ⟨fun c i => upd (m ((c.tc : Thread nD τ).loc main_arg0) i) (m ((c.tc : Thread nD τ).loc main_arg15) i) (m ((c.tc : Thread nD τ).loc main_arg30) i) (m ((c.tc : Thread nD τ).loc main_arg45) i),
    fun c i => upd (m ((c.tc : Thread nD τ).loc main_arg1) i) (m ((c.tc : Thread nD τ).loc main_arg16) i) (m ((c.tc : Thread nD τ).loc main_arg31) i) (m ((c.tc : Thread nD τ).loc main_arg46) i),
    fun c i => upd (m ((c.tc : Thread nD τ).loc main_arg2) i) (m ((c.tc : Thread nD τ).loc main_arg17) i) (m ((c.tc : Thread nD τ).loc main_arg32) i) (m ((c.tc : Thread nD τ).loc main_arg47) i),
    fun c i => upd (m ((c.tc : Thread nD τ).loc main_arg3) i) (m ((c.tc : Thread nD τ).loc main_arg18) i) (m ((c.tc : Thread nD τ).loc main_arg33) i) (m ((c.tc : Thread nD τ).loc main_arg48) i),
    fun c i => upd (m ((c.tc : Thread nD τ).loc main_arg4) i) (m ((c.tc : Thread nD τ).loc main_arg19) i) (m ((c.tc : Thread nD τ).loc main_arg34) i) (m ((c.tc : Thread nD τ).loc main_arg49) i),
    fun c i => upd (m ((c.tc : Thread nD τ).loc main_arg5) i) (m ((c.tc : Thread nD τ).loc main_arg20) i) (m ((c.tc : Thread nD τ).loc main_arg35) i) (m ((c.tc : Thread nD τ).loc main_arg50) i),
    fun c i => upd (m ((c.tc : Thread nD τ).loc main_arg6) i) (m ((c.tc : Thread nD τ).loc main_arg21) i) (m ((c.tc : Thread nD τ).loc main_arg36) i) (m ((c.tc : Thread nD τ).loc main_arg51) i),
    fun c i => upd (m ((c.tc : Thread nD τ).loc main_arg7) i) (m ((c.tc : Thread nD τ).loc main_arg22) i) (m ((c.tc : Thread nD τ).loc main_arg37) i) (m ((c.tc : Thread nD τ).loc main_arg52) i),
    fun c i => upd (m ((c.tc : Thread nD τ).loc main_arg8) i) (m ((c.tc : Thread nD τ).loc main_arg23) i) (m ((c.tc : Thread nD τ).loc main_arg38) i) (m ((c.tc : Thread nD τ).loc main_arg53) i),
    fun c i => upd (m ((c.tc : Thread nD τ).loc main_arg9) i) (m ((c.tc : Thread nD τ).loc main_arg24) i) (m ((c.tc : Thread nD τ).loc main_arg39) i) (m ((c.tc : Thread nD τ).loc main_arg54) i),
    fun c i => upd (m ((c.tc : Thread nD τ).loc main_arg10) i) (m ((c.tc : Thread nD τ).loc main_arg25) i) (m ((c.tc : Thread nD τ).loc main_arg40) i) (m ((c.tc : Thread nD τ).loc main_arg55) i),
    fun c i => upd (m ((c.tc : Thread nD τ).loc main_arg11) i) (m ((c.tc : Thread nD τ).loc main_arg26) i) (m ((c.tc : Thread nD τ).loc main_arg41) i) (m ((c.tc : Thread nD τ).loc main_arg56) i),
    fun c i => upd (m ((c.tc : Thread nD τ).loc main_arg12) i) (m ((c.tc : Thread nD τ).loc main_arg27) i) (m ((c.tc : Thread nD τ).loc main_arg42) i) (m ((c.tc : Thread nD τ).loc main_arg57) i),
    fun c i => upd (m ((c.tc : Thread nD τ).loc main_arg13) i) (m ((c.tc : Thread nD τ).loc main_arg28) i) (m ((c.tc : Thread nD τ).loc main_arg43) i) (m ((c.tc : Thread nD τ).loc main_arg58) i),
    fun c i => upd (m ((c.tc : Thread nD τ).loc main_arg14) i) (m ((c.tc : Thread nD τ).loc main_arg29) i) (m ((c.tc : Thread nD τ).loc main_arg44) i) (m ((c.tc : Thread nD τ).loc main_arg59) i),
    fun c i => mom (m ((c.tc : Thread nD τ).loc main_arg0) i) (m ((c.tc : Thread nD τ).loc main_arg30) i),
    fun c i => mom (m ((c.tc : Thread nD τ).loc main_arg1) i) (m ((c.tc : Thread nD τ).loc main_arg31) i),
    fun c i => mom (m ((c.tc : Thread nD τ).loc main_arg2) i) (m ((c.tc : Thread nD τ).loc main_arg32) i),
    fun c i => mom (m ((c.tc : Thread nD τ).loc main_arg3) i) (m ((c.tc : Thread nD τ).loc main_arg33) i),
    fun c i => mom (m ((c.tc : Thread nD τ).loc main_arg4) i) (m ((c.tc : Thread nD τ).loc main_arg34) i),
    fun c i => mom (m ((c.tc : Thread nD τ).loc main_arg5) i) (m ((c.tc : Thread nD τ).loc main_arg35) i),
    fun c i => mom (m ((c.tc : Thread nD τ).loc main_arg6) i) (m ((c.tc : Thread nD τ).loc main_arg36) i),
    fun c i => mom (m ((c.tc : Thread nD τ).loc main_arg7) i) (m ((c.tc : Thread nD τ).loc main_arg37) i),
    fun c i => mom (m ((c.tc : Thread nD τ).loc main_arg8) i) (m ((c.tc : Thread nD τ).loc main_arg38) i),
    fun c i => mom (m ((c.tc : Thread nD τ).loc main_arg9) i) (m ((c.tc : Thread nD τ).loc main_arg39) i),
    fun c i => mom (m ((c.tc : Thread nD τ).loc main_arg10) i) (m ((c.tc : Thread nD τ).loc main_arg40) i),
    fun c i => mom (m ((c.tc : Thread nD τ).loc main_arg11) i) (m ((c.tc : Thread nD τ).loc main_arg41) i),
    fun c i => mom (m ((c.tc : Thread nD τ).loc main_arg12) i) (m ((c.tc : Thread nD τ).loc main_arg42) i),
    fun c i => mom (m ((c.tc : Thread nD τ).loc main_arg13) i) (m ((c.tc : Thread nD τ).loc main_arg43) i),
    fun c i => mom (m ((c.tc : Thread nD τ).loc main_arg14) i) (m ((c.tc : Thread nD τ).loc main_arg44) i),
    fun c i => sqm (m ((c.tc : Thread nD τ).loc main_arg0) i) (m ((c.tc : Thread nD τ).loc main_arg45) i),
    fun c i => sqm (m ((c.tc : Thread nD τ).loc main_arg1) i) (m ((c.tc : Thread nD τ).loc main_arg46) i),
    fun c i => sqm (m ((c.tc : Thread nD τ).loc main_arg2) i) (m ((c.tc : Thread nD τ).loc main_arg47) i),
    fun c i => sqm (m ((c.tc : Thread nD τ).loc main_arg3) i) (m ((c.tc : Thread nD τ).loc main_arg48) i),
    fun c i => sqm (m ((c.tc : Thread nD τ).loc main_arg4) i) (m ((c.tc : Thread nD τ).loc main_arg49) i),
    fun c i => sqm (m ((c.tc : Thread nD τ).loc main_arg5) i) (m ((c.tc : Thread nD τ).loc main_arg50) i),
    fun c i => sqm (m ((c.tc : Thread nD τ).loc main_arg6) i) (m ((c.tc : Thread nD τ).loc main_arg51) i),
    fun c i => sqm (m ((c.tc : Thread nD τ).loc main_arg7) i) (m ((c.tc : Thread nD τ).loc main_arg52) i),
    fun c i => sqm (m ((c.tc : Thread nD τ).loc main_arg8) i) (m ((c.tc : Thread nD τ).loc main_arg53) i),
    fun c i => sqm (m ((c.tc : Thread nD τ).loc main_arg9) i) (m ((c.tc : Thread nD τ).loc main_arg54) i),
    fun c i => sqm (m ((c.tc : Thread nD τ).loc main_arg10) i) (m ((c.tc : Thread nD τ).loc main_arg55) i),
    fun c i => sqm (m ((c.tc : Thread nD τ).loc main_arg11) i) (m ((c.tc : Thread nD τ).loc main_arg56) i),
    fun c i => sqm (m ((c.tc : Thread nD τ).loc main_arg12) i) (m ((c.tc : Thread nD τ).loc main_arg57) i),
    fun c i => sqm (m ((c.tc : Thread nD τ).loc main_arg13) i) (m ((c.tc : Thread nD τ).loc main_arg58) i),
    fun c i => sqm (m ((c.tc : Thread nD τ).loc main_arg14) i) (m ((c.tc : Thread nD τ).loc main_arg59) i),
    (θ_run defs _ _).mono (fun r h c => h c) (run (F := Ideal) m g),
    (θ_run Cert.Reference7Ideal.defs _ _).mono (fun r h c => ?_) (Cert.Reference7Ideal.Value.run (F := Ideal) m' g')⟩
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59⟩ := hagree c
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, ra⟩ := h c
  clear h hagree
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, r14.trans ?_, r15.trans ?_, r16.trans ?_, r17.trans ?_, r18.trans ?_, r19.trans ?_, r20.trans ?_, r21.trans ?_, r22.trans ?_, r23.trans ?_, r24.trans ?_, r25.trans ?_, r26.trans ?_, r27.trans ?_, r28.trans ?_, r29.trans ?_, r30.trans ?_, r31.trans ?_, r32.trans ?_, r33.trans ?_, r34.trans ?_, r35.trans ?_, r36.trans ?_, r37.trans ?_, r38.trans ?_, r39.trans ?_, r40.trans ?_, r41.trans ?_, r42.trans ?_, r43.trans ?_, r44.trans ?_, ra⟩
  · show _ = fun i => upd (m ((c.tc : Thread nD τ).loc main_arg0) i) (m ((c.tc : Thread nD τ).loc main_arg15) i) (m ((c.tc : Thread nD τ).loc main_arg30) i) (m ((c.tc : Thread nD τ).loc main_arg45) i)
    rw [← h0, ← h15, ← h30, ← h45]; rfl
  · show _ = fun i => upd (m ((c.tc : Thread nD τ).loc main_arg1) i) (m ((c.tc : Thread nD τ).loc main_arg16) i) (m ((c.tc : Thread nD τ).loc main_arg31) i) (m ((c.tc : Thread nD τ).loc main_arg46) i)
    rw [← h1, ← h16, ← h31, ← h46]; rfl
  · show _ = fun i => upd (m ((c.tc : Thread nD τ).loc main_arg2) i) (m ((c.tc : Thread nD τ).loc main_arg17) i) (m ((c.tc : Thread nD τ).loc main_arg32) i) (m ((c.tc : Thread nD τ).loc main_arg47) i)
    rw [← h2, ← h17, ← h32, ← h47]; rfl
  · show _ = fun i => upd (m ((c.tc : Thread nD τ).loc main_arg3) i) (m ((c.tc : Thread nD τ).loc main_arg18) i) (m ((c.tc : Thread nD τ).loc main_arg33) i) (m ((c.tc : Thread nD τ).loc main_arg48) i)
    rw [← h3, ← h18, ← h33, ← h48]; rfl
  · show _ = fun i => upd (m ((c.tc : Thread nD τ).loc main_arg4) i) (m ((c.tc : Thread nD τ).loc main_arg19) i) (m ((c.tc : Thread nD τ).loc main_arg34) i) (m ((c.tc : Thread nD τ).loc main_arg49) i)
    rw [← h4, ← h19, ← h34, ← h49]; rfl
  · show _ = fun i => upd (m ((c.tc : Thread nD τ).loc main_arg5) i) (m ((c.tc : Thread nD τ).loc main_arg20) i) (m ((c.tc : Thread nD τ).loc main_arg35) i) (m ((c.tc : Thread nD τ).loc main_arg50) i)
    rw [← h5, ← h20, ← h35, ← h50]; rfl
  · show _ = fun i => upd (m ((c.tc : Thread nD τ).loc main_arg6) i) (m ((c.tc : Thread nD τ).loc main_arg21) i) (m ((c.tc : Thread nD τ).loc main_arg36) i) (m ((c.tc : Thread nD τ).loc main_arg51) i)
    rw [← h6, ← h21, ← h36, ← h51]; rfl
  · show _ = fun i => upd (m ((c.tc : Thread nD τ).loc main_arg7) i) (m ((c.tc : Thread nD τ).loc main_arg22) i) (m ((c.tc : Thread nD τ).loc main_arg37) i) (m ((c.tc : Thread nD τ).loc main_arg52) i)
    rw [← h7, ← h22, ← h37, ← h52]; rfl
  · show _ = fun i => upd (m ((c.tc : Thread nD τ).loc main_arg8) i) (m ((c.tc : Thread nD τ).loc main_arg23) i) (m ((c.tc : Thread nD τ).loc main_arg38) i) (m ((c.tc : Thread nD τ).loc main_arg53) i)
    rw [← h8, ← h23, ← h38, ← h53]; rfl
  · show _ = fun i => upd (m ((c.tc : Thread nD τ).loc main_arg9) i) (m ((c.tc : Thread nD τ).loc main_arg24) i) (m ((c.tc : Thread nD τ).loc main_arg39) i) (m ((c.tc : Thread nD τ).loc main_arg54) i)
    rw [← h9, ← h24, ← h39, ← h54]; rfl
  · show _ = fun i => upd (m ((c.tc : Thread nD τ).loc main_arg10) i) (m ((c.tc : Thread nD τ).loc main_arg25) i) (m ((c.tc : Thread nD τ).loc main_arg40) i) (m ((c.tc : Thread nD τ).loc main_arg55) i)
    rw [← h10, ← h25, ← h40, ← h55]; rfl
  · show _ = fun i => upd (m ((c.tc : Thread nD τ).loc main_arg11) i) (m ((c.tc : Thread nD τ).loc main_arg26) i) (m ((c.tc : Thread nD τ).loc main_arg41) i) (m ((c.tc : Thread nD τ).loc main_arg56) i)
    rw [← h11, ← h26, ← h41, ← h56]; rfl
  · show _ = fun i => upd (m ((c.tc : Thread nD τ).loc main_arg12) i) (m ((c.tc : Thread nD τ).loc main_arg27) i) (m ((c.tc : Thread nD τ).loc main_arg42) i) (m ((c.tc : Thread nD τ).loc main_arg57) i)
    rw [← h12, ← h27, ← h42, ← h57]; rfl
  · show _ = fun i => upd (m ((c.tc : Thread nD τ).loc main_arg13) i) (m ((c.tc : Thread nD τ).loc main_arg28) i) (m ((c.tc : Thread nD τ).loc main_arg43) i) (m ((c.tc : Thread nD τ).loc main_arg58) i)
    rw [← h13, ← h28, ← h43, ← h58]; rfl
  · show _ = fun i => upd (m ((c.tc : Thread nD τ).loc main_arg14) i) (m ((c.tc : Thread nD τ).loc main_arg29) i) (m ((c.tc : Thread nD τ).loc main_arg44) i) (m ((c.tc : Thread nD τ).loc main_arg59) i)
    rw [← h14, ← h29, ← h44, ← h59]; rfl
  · show _ = fun i => mom (m ((c.tc : Thread nD τ).loc main_arg0) i) (m ((c.tc : Thread nD τ).loc main_arg30) i)
    rw [← h0, ← h30]; rfl
  · show _ = fun i => mom (m ((c.tc : Thread nD τ).loc main_arg1) i) (m ((c.tc : Thread nD τ).loc main_arg31) i)
    rw [← h1, ← h31]; rfl
  · show _ = fun i => mom (m ((c.tc : Thread nD τ).loc main_arg2) i) (m ((c.tc : Thread nD τ).loc main_arg32) i)
    rw [← h2, ← h32]; rfl
  · show _ = fun i => mom (m ((c.tc : Thread nD τ).loc main_arg3) i) (m ((c.tc : Thread nD τ).loc main_arg33) i)
    rw [← h3, ← h33]; rfl
  · show _ = fun i => mom (m ((c.tc : Thread nD τ).loc main_arg4) i) (m ((c.tc : Thread nD τ).loc main_arg34) i)
    rw [← h4, ← h34]; rfl
  · show _ = fun i => mom (m ((c.tc : Thread nD τ).loc main_arg5) i) (m ((c.tc : Thread nD τ).loc main_arg35) i)
    rw [← h5, ← h35]; rfl
  · show _ = fun i => mom (m ((c.tc : Thread nD τ).loc main_arg6) i) (m ((c.tc : Thread nD τ).loc main_arg36) i)
    rw [← h6, ← h36]; rfl
  · show _ = fun i => mom (m ((c.tc : Thread nD τ).loc main_arg7) i) (m ((c.tc : Thread nD τ).loc main_arg37) i)
    rw [← h7, ← h37]; rfl
  · show _ = fun i => mom (m ((c.tc : Thread nD τ).loc main_arg8) i) (m ((c.tc : Thread nD τ).loc main_arg38) i)
    rw [← h8, ← h38]; rfl
  · show _ = fun i => mom (m ((c.tc : Thread nD τ).loc main_arg9) i) (m ((c.tc : Thread nD τ).loc main_arg39) i)
    rw [← h9, ← h39]; rfl
  · show _ = fun i => mom (m ((c.tc : Thread nD τ).loc main_arg10) i) (m ((c.tc : Thread nD τ).loc main_arg40) i)
    rw [← h10, ← h40]; rfl
  · show _ = fun i => mom (m ((c.tc : Thread nD τ).loc main_arg11) i) (m ((c.tc : Thread nD τ).loc main_arg41) i)
    rw [← h11, ← h41]; rfl
  · show _ = fun i => mom (m ((c.tc : Thread nD τ).loc main_arg12) i) (m ((c.tc : Thread nD τ).loc main_arg42) i)
    rw [← h12, ← h42]; rfl
  · show _ = fun i => mom (m ((c.tc : Thread nD τ).loc main_arg13) i) (m ((c.tc : Thread nD τ).loc main_arg43) i)
    rw [← h13, ← h43]; rfl
  · show _ = fun i => mom (m ((c.tc : Thread nD τ).loc main_arg14) i) (m ((c.tc : Thread nD τ).loc main_arg44) i)
    rw [← h14, ← h44]; rfl
  · show _ = fun i => sqm (m ((c.tc : Thread nD τ).loc main_arg0) i) (m ((c.tc : Thread nD τ).loc main_arg45) i)
    rw [← h0, ← h45]; rfl
  · show _ = fun i => sqm (m ((c.tc : Thread nD τ).loc main_arg1) i) (m ((c.tc : Thread nD τ).loc main_arg46) i)
    rw [← h1, ← h46]; rfl
  · show _ = fun i => sqm (m ((c.tc : Thread nD τ).loc main_arg2) i) (m ((c.tc : Thread nD τ).loc main_arg47) i)
    rw [← h2, ← h47]; rfl
  · show _ = fun i => sqm (m ((c.tc : Thread nD τ).loc main_arg3) i) (m ((c.tc : Thread nD τ).loc main_arg48) i)
    rw [← h3, ← h48]; rfl
  · show _ = fun i => sqm (m ((c.tc : Thread nD τ).loc main_arg4) i) (m ((c.tc : Thread nD τ).loc main_arg49) i)
    rw [← h4, ← h49]; rfl
  · show _ = fun i => sqm (m ((c.tc : Thread nD τ).loc main_arg5) i) (m ((c.tc : Thread nD τ).loc main_arg50) i)
    rw [← h5, ← h50]; rfl
  · show _ = fun i => sqm (m ((c.tc : Thread nD τ).loc main_arg6) i) (m ((c.tc : Thread nD τ).loc main_arg51) i)
    rw [← h6, ← h51]; rfl
  · show _ = fun i => sqm (m ((c.tc : Thread nD τ).loc main_arg7) i) (m ((c.tc : Thread nD τ).loc main_arg52) i)
    rw [← h7, ← h52]; rfl
  · show _ = fun i => sqm (m ((c.tc : Thread nD τ).loc main_arg8) i) (m ((c.tc : Thread nD τ).loc main_arg53) i)
    rw [← h8, ← h53]; rfl
  · show _ = fun i => sqm (m ((c.tc : Thread nD τ).loc main_arg9) i) (m ((c.tc : Thread nD τ).loc main_arg54) i)
    rw [← h9, ← h54]; rfl
  · show _ = fun i => sqm (m ((c.tc : Thread nD τ).loc main_arg10) i) (m ((c.tc : Thread nD τ).loc main_arg55) i)
    rw [← h10, ← h55]; rfl
  · show _ = fun i => sqm (m ((c.tc : Thread nD τ).loc main_arg11) i) (m ((c.tc : Thread nD τ).loc main_arg56) i)
    rw [← h11, ← h56]; rfl
  · show _ = fun i => sqm (m ((c.tc : Thread nD τ).loc main_arg12) i) (m ((c.tc : Thread nD τ).loc main_arg57) i)
    rw [← h12, ← h57]; rfl
  · show _ = fun i => sqm (m ((c.tc : Thread nD τ).loc main_arg13) i) (m ((c.tc : Thread nD τ).loc main_arg58) i)
    rw [← h13, ← h58]; rfl
  · show _ = fun i => sqm (m ((c.tc : Thread nD τ).loc main_arg14) i) (m ((c.tc : Thread nD τ).loc main_arg59) i)
    rw [← h14, ← h59]; rfl

end Cert.Kernel7Ideal.Opt
-- ==== Proof.lean ====
module

public import proofs.«01_k».proof.Defs
public import proofs.«01_k».proof.Proof.Gen.ReferenceIdeal.Run
public import proofs.«01_k».proof.Proof.Gen.Kernel.Frame
public import proofs.«01_k».proof.Proof.Gen.KernelIdeal.Frame
public import proofs.«01_k».proof.Proof.Fin
public import proofs.«01_k».proof.Proof.HD
public import proofs.«01_k».proof.Proof.KRun
public import proofs.«01_k».proof.Proof.RefC
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.AArr
public import proofs.«01_k».proof.Proof.ARef
public import proofs.«01_k».proof.Proof.AFin
public import proofs.«01_k».proof.Proof.FArr
public import proofs.«01_k».proof.Proof.FRef
public import proofs.«01_k».proof.Proof.Gen.Kernel4.Frame
public import proofs.«01_k».proof.Proof.Gen.Kernel5.Frame
public import proofs.«01_k».proof.Proof.Gen.Kernel6.Frame
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.OMod
public import proofs.«01_k».proof.Proof.Gen.Kernel7.Frame
public import proofs.«01_k».proof.Proof.OEq
public import proofs.«01_k».proof.Proof.Gen.Reference6Ideal.Run
public import Idealize.ShloMosaic.Lib.Claim

/-! # The claim -/

@[expose] public section

set_option maxRecDepth 16384

namespace Cert.Proof

open Idealize.ShloMosaic Idealize.SL.Sem

/-- The reference ends with its arguments as they were; it has no semaphore. -/
theorem frame_ri : Cert.quiescent_ReferenceIdeal := fun m ρ _ =>
  (θ_run Cert.ReferenceIdeal.defs _ _).mono (fun r h => ⟨fun c => (h c).2.2.2.2.2.2.2.2.2,
      sem_eq_zero_of_no_sems (by decide) r.2⟩) (Cert.ReferenceIdeal.Value.run (F := Ideal) m ρ)

/-- Where the precondition holds, the arguments hold reals. -/
theorem args_real [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : ∃ I : Cert.InProj.Inp, Cert.InProj.KArgs m c I := by
  obtain ⟨h0, h1, h2, h3, h4, h5, h6, h7, h8, h9, h10, h11, h12, h13, h14⟩ := Cert.InProj.finite_real _ _ _ _ _ _ _ _ _ _ _ _ _ _ _ (h c)
  exact ⟨Cert.InProj.inpOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), {
    a0 := fun t d => (h0 _).symm
    a1 := fun d => (h1 _).symm
    a2 := fun d => (h2 _).symm
    a3 := fun d => (h3 _).symm
    a4 := fun d => (h4 _).symm
    a5 := fun d => (h5 _).symm
    a6 := fun t d => (h6 _).symm
    a7 := fun d => (h7 _).symm
    a8 := fun d => (h8 _).symm
    a9 := fun t d => (h9 _).symm
    a10 := fun t d => (h10 _).symm
    a11 := fun t d => (h11 _).symm
    a12 := fun t d => (h12 _).symm
    a13 := fun t d => (h13 _).symm
    a14 := fun t d => (h14 _).symm }⟩

/-- From the same finite arguments both programs end with the same results. -/
theorem equal [Cert.Pre_finite.Facts] : Cert.algebraic_KernelIdeal_ReferenceIdeal_pre_finite := by
  intro m g m' g' hm E
  choose I K using args_real m hm
  have A : ∀ c, Cert.InProj.Ref.Args (I c) (Idealize.ShloMosaic.StableHlo.launchContents m' c) := fun c => {
    a0 := fun t d => (congrFun (E c).1 _).trans ((K c).a0 t d)
    a1 := fun d => (congrFun (E c).2.1 _).trans ((K c).a1 d)
    a2 := fun d => (congrFun (E c).2.2.1 _).trans ((K c).a2 d)
    a3 := fun d => (congrFun (E c).2.2.2.1 _).trans ((K c).a3 d)
    a4 := fun d => (congrFun (E c).2.2.2.2.1 _).trans ((K c).a4 d)
    a5 := fun d => (congrFun (E c).2.2.2.2.2.1 _).trans ((K c).a5 d)
    a6 := fun t d => (congrFun (E c).2.2.2.2.2.2.1 _).trans ((K c).a6 t d)
    a7 := fun d => (congrFun (E c).2.2.2.2.2.2.2.1 _).trans ((K c).a7 d)
    a8 := fun d => (congrFun (E c).2.2.2.2.2.2.2.2.1 _).trans ((K c).a8 d)
    a9 := fun t d => (congrFun (E c).2.2.2.2.2.2.2.2.2.1 _).trans ((K c).a9 t d)
    a10 := fun t d => (congrFun (E c).2.2.2.2.2.2.2.2.2.2.1 _).trans ((K c).a10 t d)
    a11 := fun t d => (congrFun (E c).2.2.2.2.2.2.2.2.2.2.2.1 _).trans ((K c).a11 t d)
    a12 := fun t d => (congrFun (E c).2.2.2.2.2.2.2.2.2.2.2.2.1 _).trans ((K c).a12 t d)
    a13 := fun t d => (congrFun (E c).2.2.2.2.2.2.2.2.2.2.2.2.2.1 _).trans ((K c).a13 t d)
    a14 := fun t d => (congrFun (E c).2.2.2.2.2.2.2.2.2.2.2.2.2.2 _).trans ((K c).a14 t d) }
  refine ⟨fun c => Cert.KernelIdeal.Gen.W10 m g c (Proc.devRef .tc Cert.KernelIdeal.main_v108_0), fun c => Cert.KernelIdeal.Gen.W10 m g c (Proc.devRef .tc Cert.KernelIdeal.main_v118), fun c => Cert.KernelIdeal.Gen.W10 m g c (Proc.devRef .tc Cert.KernelIdeal.main_v120), fun c => Cert.KernelIdeal.Gen.W10 m g c (Proc.devRef .tc Cert.KernelIdeal.main_v122), fun c => Cert.KernelIdeal.Gen.W10 m g c (Proc.devRef .tc Cert.KernelIdeal.main_v124), fun c => Cert.KernelIdeal.Gen.W10 m g c (Proc.devRef .tc Cert.KernelIdeal.main_v126), fun c => Cert.KernelIdeal.Gen.W10 m g c (Proc.devRef .tc Cert.KernelIdeal.main_v116), fun c => Cert.KernelIdeal.Gen.W10 m g c (Proc.devRef .tc Cert.KernelIdeal.main_v131), fun c => Cert.KernelIdeal.Gen.W10 m g c (Proc.devRef .tc Cert.KernelIdeal.main_v136), Cert.InProj.run_values m g |> (θ_run Cert.KernelIdeal.defs _ _).mono (fun r h => h.1), ?_⟩
  refine (θ_run Cert.ReferenceIdeal.defs _ _).mono (fun r h c => ?_) (Cert.ReferenceIdeal.Value.run (F := Ideal) m' g')
  obtain ⟨h0, h1, h2, h3, h4, h5, h6, h7, h8, hargs⟩ := h c
  exact ⟨h0.trans (funext fun i => by rw [eq_ix2 i]; exact (Cert.InProj.Ref.gX_at (A c) _ _).trans (Cert.InProj.out_dx g (K c) _ _).symm),
        h1.trans (funext fun i => by rw [eq_ix1 i]; exact (Cert.InProj.Ref.gShc_at (A c) _).trans (Cert.InProj.out_shc g (K c) _).symm),
        h2.trans (funext fun i => by rw [eq_ix1 i]; exact (Cert.InProj.Ref.gScc_at (A c) _).trans (Cert.InProj.out_scc g (K c) _).symm),
        h3.trans (funext fun i => by rw [eq_ix1 i]; exact (Cert.InProj.Ref.gSh_at (A c) _).trans (Cert.InProj.out_sh g (K c) _).symm),
        h4.trans (funext fun i => by rw [eq_ix1 i]; exact (Cert.InProj.Ref.gSc_at (A c) _).trans (Cert.InProj.out_sc g (K c) _).symm),
        h5.trans (funext fun i => by rw [eq_ix1 i]; exact (Cert.InProj.Ref.gG_at (A c) _).trans (Cert.InProj.out_g g (K c) _).symm),
        h6.trans (funext fun i => by rw [eq_ix2 i]; exact (Cert.InProj.Ref.gW_at (A c) _ _).trans (Cert.InProj.out_w g (K c) _ _).symm),
        h7.trans (funext fun i => by rw [eq_ix1 i]; exact (Cert.InProj.Ref.gQ_at (A c) _).trans (Cert.InProj.out_q g (K c) _).symm),
        h8.trans (funext fun i => by rw [eq_ix1 i]; exact (Cert.InProj.Ref.gK_at (A c) _).trans (Cert.InProj.out_k g (K c) _).symm),
        hargs⟩

/-- The attention's reference ends with its arguments as they were; it has no semaphore. -/
theorem frame_ri2 : Cert.quiescent_Reference2Ideal := fun m ρ _ =>
  (θ_run Cert.Reference2Ideal.defs _ _).mono (fun r h => ⟨fun c => (h c).2,
      sem_eq_zero_of_no_sems (by decide) r.2⟩) (Cert.Reference2Ideal.Value.run (F := Ideal) m ρ)

/-- Where the precondition holds, the attention's arguments hold reals. -/
theorem args_real2 [Cert.Pre_finite2.Facts] (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : ∃ I : Cert.Attn.Inp, Cert.Attn.KArgs m c I := by
  obtain ⟨h0, h1, h2⟩ := Cert.Attn.finite_real _ _ _ (h c)
  exact ⟨Cert.Attn.inpOf (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)), {
    q := fun t j => (h0 _).symm
    k := fun t j => (h1 _).symm
    v := fun t j => (h2 _).symm }⟩

/-- From the same finite queries, keys and values both programs end with the same attention. -/
theorem equal2 [Cert.Pre_finite2.Facts] : Cert.algebraic_Kernel2Ideal_Reference2Ideal_pre_finite2 := by
  intro m g m' g' hm E
  choose I K using args_real2 m hm
  have A : ∀ c, Cert.Attn.Ref.Args (I c) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) := fun c => {
    q := fun t j => (congrFun (E c).1 _).trans ((K c).q t j)
    k := fun t j => (congrFun (E c).2.1 _).trans ((K c).k t j)
    v := fun t j => (congrFun (E c).2.2 _).trans ((K c).v t j) }
  refine ⟨fun c => Cert.Attn.result m c, Cert.Attn.run_values m g, ?_⟩
  refine (θ_run Cert.Reference2Ideal.defs _ _).mono (fun r h c => ?_) (Cert.Reference2Ideal.Value.run (F := Ideal) m' g')
  obtain ⟨h0, hargs⟩ := h c
  refine ⟨h0.trans ((Cert.Attn.Ref.res_eq m' c).trans (funext fun i => ?_)), hargs⟩
  rw [eq_ix2 i]
  refine (Cert.Attn.Ref.res_at (A c) _ _).trans (Eq.trans ?_ (Cert.Attn.result_at (K c) _ _).symm)
  exact congrArg (fun h => ((I c).out _ h _ : EReal)) (Fin.ext (Cert.Attn.Ref.head_val _))

/-- The forward reference ends with its arguments as they were; it has no semaphore. -/
theorem frame_ri3 : Cert.quiescent_Reference3Ideal := fun m ρ _ =>
  (θ_run Cert.Reference3Ideal.defs _ _).mono (fun r h => ⟨fun c => (h c).2.2.2.2.2,
      sem_eq_zero_of_no_sems (by decide) r.2⟩) (Cert.Reference3Ideal.Value.run (F := Ideal) m ρ)

/-- From the same arguments both forward programs end with the same results. -/
theorem equal3 : Cert.algebraic_Kernel3Ideal_Reference3Ideal := by
  intro m g m' g' _ E
  have A : ∀ c, Cert.Fwd.Ref.inp (Idealize.ShloMosaic.StableHlo.launchContents m' c) = Cert.Fwd.inp m c := fun c => by
    obtain ⟨h0, h1, h2, h3, h4, h5, h6, h7, h8⟩ := E c
    unfold Cert.Fwd.Ref.inp Cert.Fwd.inp
    congr 1
    · exact funext fun t => funext fun d => congrFun h0 _
    · exact funext fun d => congrFun h1 _
    · exact funext fun d => congrFun h2 _
    · exact funext fun d => congrFun h3 _
    · exact funext fun d => congrFun h4 _
    · exact funext fun d => congrFun h5 _
    · exact funext fun d => funext fun j => congrFun h6 _
    · exact funext fun e => congrFun h7 _
    · exact funext fun e => congrFun h8 _
  refine ⟨fun c => Cert.Fwd.result m c Cert.Kernel3Ideal.main_v91, fun c => Cert.Fwd.result m c Cert.Kernel3Ideal.main_v95,
    fun c => Cert.Fwd.result m c Cert.Kernel3Ideal.main_v99, fun c => Cert.Fwd.result m c Cert.Kernel3Ideal.main_v103,
    fun c => Cert.Fwd.result m c Cert.Kernel3Ideal.main_v104, Cert.Fwd.run_values m g, ?_⟩
  refine (θ_run Cert.Reference3Ideal.defs _ _).mono (fun r h c => ?_) (Cert.Reference3Ideal.Value.run (F := Ideal) m' g')
  obtain ⟨h0, h1, h2, h3, h4, hargs⟩ := h c
  refine ⟨h0.trans (funext fun i => ?_), h1.trans (funext fun i => ?_), h2.trans (funext fun i => ?_), h3.trans (funext fun i => ?_),
    h4.trans (funext fun i => ?_), hargs⟩
  · rw [eq_ix2 i]
    exact (Cert.Fwd.Ref.res_parts_at _ _ _).trans ((congrArg (fun I : Cert.Fwd.Inp => I.P _ _) (A c)).trans (Cert.Fwd.result_parts m c _ _).symm)
  · rw [eq_ix2 i]
    exact (Cert.Fwd.Ref.res_q_at _ _ _).trans ((congrArg (fun I : Cert.Fwd.Inp => I.q _ _ _) (A c)).trans (Cert.Fwd.result_q m c _ _).symm)
  · rw [eq_ix2 i]
    exact (Cert.Fwd.Ref.res_k_at _ _ _).trans ((congrArg (fun I : Cert.Fwd.Inp => I.k _ _ _) (A c)).trans (Cert.Fwd.result_k m c _ _).symm)
  · rw [eq_ix2 i]
    exact (Cert.Fwd.Ref.res_v_at _ _ _).trans ((congrArg (fun I : Cert.Fwd.Inp => I.v _ _ _) (A c)).trans (Cert.Fwd.result_v m c _ _).symm)
  · rw [eq_ix2 i]
    exact (Cert.Fwd.Ref.res_gate_at _ _ _).trans ((congrArg (fun I : Cert.Fwd.Inp => I.P _ _) (A c)).trans (Cert.Fwd.result_gate m c _ _).symm)

/-- The update of the input projection's weights: the reference ends with its arguments as they were; it has no semaphore. -/
theorem frame_ri4 : Cert.quiescent_Reference4Ideal := fun m ρ _ =>
  (θ_run Cert.Reference4Ideal.defs _ _).mono (fun r h => ⟨fun c => (h c).2.2.2.2,
      sem_eq_zero_of_no_sems (by decide) r.2⟩) (Cert.Reference4Ideal.Value.run (F := Ideal) m ρ)

/-- From the same arguments both programs end with the same gradient, update and moments of the input projection's weights. -/
theorem equal4 : Cert.algebraic_Kernel4Ideal_Reference4Ideal := by
  pair_intro
  · run_from (Cert.Kernel4Ideal.Value.run (F := Ideal) m g)
  · hlo_run
    all_goals rfl

/-- The update of the output projection's weights: the reference ends with its arguments as they were; it has no semaphore. -/
theorem frame_ri5 : Cert.quiescent_Reference5Ideal := fun m ρ _ =>
  (θ_run Cert.Reference5Ideal.defs _ _).mono (fun r h => ⟨fun c => (h c).2.2.2.2,
      sem_eq_zero_of_no_sems (by decide) r.2⟩) (Cert.Reference5Ideal.Value.run (F := Ideal) m ρ)

/-- From the same arguments both programs end with the same gradient, update and moments of the output projection's weights. -/
theorem equal5 : Cert.algebraic_Kernel5Ideal_Reference5Ideal := by
  pair_intro
  · run_from (Cert.Kernel5Ideal.Value.run (F := Ideal) m g)
  · hlo_run
    all_goals rfl

/-- The update of the modulation's weights: the reference ends with its arguments as they were; it has no semaphore. -/
theorem frame_ri6 : Cert.quiescent_Reference6Ideal := fun m ρ _ =>
  (θ_run Cert.Reference6Ideal.defs _ _).mono (fun r h => ⟨fun c => (h c).2.2.2.2,
      sem_eq_zero_of_no_sems (by decide) r.2⟩) (Cert.Reference6Ideal.Value.run (F := Ideal) m ρ)

/-- From the same arguments both programs end with the same gradient, update and moments of the modulation's weights. -/
theorem equal6 : Cert.algebraic_Kernel6Ideal_Reference6Ideal := by
  pair_intro
  · run_from (Cert.Kernel6Ideal.Opt.run (F := Ideal) m g)
  · hlo_run
    all_goals rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.InProj.finFacts, Cert.Attn.finFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, fun m ρ _ => Cert.Kernel2Ideal.Gen.frame m ρ,
  frame_ri2, fun m ρ _ => frame_ri2 m ρ trivial,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  fun m ρ _ => Cert.Kernel7.Gen.frame m ρ, fun m ρ _ => Cert.Kernel7Ideal.Gen.frame m ρ, Cert.Kernel7Ideal.Opt.frame_ri,
  trivial, @equal Cert.InProj.finFacts, trivial, @equal2 Cert.Attn.finFacts, trivial, equal3,
  trivial, equal4, trivial, equal5, trivial, equal6,
  trivial, Cert.Kernel7Ideal.Opt.equal⟩

end Cert.Proof
